-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite [hPre_finite : Cert.Pre_finite.Facts] (m : (ℓ : Loc Cert.ConvIdeal.nD Cert.ConvIdeal.τ Cert.ConvIdeal.sig) → Buf (Elt Ideal) ℓ) : Prop :=
  ∀ c : Dev Cert.ConvIdeal.nD,
    (Cert.Pre_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite [hPre_finite : Cert.Pre_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_stick_finite [hPre_stick_finite : Cert.Pre_stick_finite.Facts] (m : (ℓ : Loc Cert.StickIdeal.nD Cert.StickIdeal.τ Cert.StickIdeal.sig) → Buf (Elt Ideal) ℓ) : Prop :=
  ∀ c : Dev Cert.StickIdeal.nD,
    (Cert.Pre_stick_finite.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_stick_finite [hPre_stick_finite : Cert.Pre_stick_finite.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_stick_finite.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1)) (m ((c.tc : Thread Cert.StickRefIdeal.nD Cert.StickRefIdeal.τ).loc Cert.StickRefIdeal.main_arg2)) (m ((c.tc : Thread Cert.StickRefIdeal.nD Cert.StickRefIdeal.τ).loc Cert.StickRefIdeal.main_arg3))) = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_BigIn (m : (ℓ : Loc Cert.BigIn.nD Cert.BigIn.τ Cert.BigIn.sig) → Buf (Elt Bits) ℓ) : Prop :=
  True

def Pre_BigInIdeal (m : (ℓ : Loc Cert.BigInIdeal.nD Cert.BigInIdeal.τ Cert.BigInIdeal.sig) → Buf (Elt Ideal) ℓ) : Prop :=
  True

def Pre_BigInRefIdeal (m : (ℓ : Loc Cert.BigInRefIdeal.nD Cert.BigInRefIdeal.τ Cert.BigInRefIdeal.sig) → Buf (Elt Ideal) ℓ) : Prop :=
  True

def Pre_BigOut (m : (ℓ : Loc Cert.BigOut.nD Cert.BigOut.τ Cert.BigOut.sig) → Buf (Elt Bits) ℓ) : Prop :=
  True

def Pre_BigOutIdeal (m : (ℓ : Loc Cert.BigOutIdeal.nD Cert.BigOutIdeal.τ Cert.BigOutIdeal.sig) → Buf (Elt Ideal) ℓ) : Prop :=
  True

def Pre_BigOutRefIdeal (m : (ℓ : Loc Cert.BigOutRefIdeal.nD Cert.BigOutRefIdeal.τ Cert.BigOutRefIdeal.sig) → Buf (Elt Ideal) ℓ) : Prop :=
  True

def Pre_BigUp (m : (ℓ : Loc Cert.BigUp.nD Cert.BigUp.τ Cert.BigUp.sig) → Buf (Elt Bits) ℓ) : Prop :=
  True

def Pre_BigUpIdeal (m : (ℓ : Loc Cert.BigUpIdeal.nD Cert.BigUpIdeal.τ Cert.BigUpIdeal.sig) → Buf (Elt Ideal) ℓ) : Prop :=
  True

def Pre_BigUpRefIdeal (m : (ℓ : Loc Cert.BigUpRefIdeal.nD Cert.BigUpRefIdeal.τ Cert.BigUpRefIdeal.sig) → Buf (Elt Ideal) ℓ) : Prop :=
  True

def Pre_BigDown (m : (ℓ : Loc Cert.BigDown.nD Cert.BigDown.τ Cert.BigDown.sig) → Buf (Elt Bits) ℓ) : Prop :=
  True

def Pre_BigDownIdeal (m : (ℓ : Loc Cert.BigDownIdeal.nD Cert.BigDownIdeal.τ Cert.BigDownIdeal.sig) → Buf (Elt Ideal) ℓ) : Prop :=
  True

def Pre_BigDownRefIdeal (m : (ℓ : Loc Cert.BigDownRefIdeal.nD Cert.BigDownRefIdeal.τ Cert.BigDownRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_Total (m : (ℓ : Loc Cert.Total.nD Cert.Total.τ Cert.Total.sig) → Buf (Elt Bits) ℓ) : Prop :=
  True

def Pre_TotalIdeal (m : (ℓ : Loc Cert.TotalIdeal.nD Cert.TotalIdeal.τ Cert.TotalIdeal.sig) → Buf (Elt Ideal) ℓ) : Prop :=
  True

def Pre_TotalRefIdeal (m : (ℓ : Loc Cert.TotalRefIdeal.nD Cert.TotalRefIdeal.τ Cert.TotalRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_finite [hConvIdeal : Cert.ConvIdeal.Facts] [hPre_finite : Cert.Pre_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_finite [hConvRefIdeal : Cert.ConvRefIdeal.Facts] [hPre_finite : Cert.Pre_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2)
      ∧ r.2.mem ((c.tc : Thread Cert.Stick.nD Cert.Stick.τ).loc Cert.Stick.main_arg3) = m ((c.tc : Thread Cert.Stick.nD Cert.Stick.τ).loc Cert.Stick.main_arg3))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ r.2.sem = fun _ => 0)

def quiescent_StickIdeal_pre_stick_finite [hStickIdeal : Cert.StickIdeal.Facts] [hPre_stick_finite : Cert.Pre_stick_finite.Facts] : Prop :=
  ∀ (m : (ℓ : Loc Cert.StickIdeal.nD Cert.StickIdeal.τ Cert.StickIdeal.sig) → Buf (Elt Ideal) ℓ) (g : Dev Cert.StickIdeal.nD → PrngReg), Pre_StickIdeal_stick_finite m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2)
      ∧ r.2.mem ((c.tc : Thread Cert.StickRefIdeal.nD Cert.StickRefIdeal.τ).loc Cert.StickRefIdeal.main_arg3) = m ((c.tc : Thread Cert.StickRefIdeal.nD Cert.StickRefIdeal.τ).loc Cert.StickRefIdeal.main_arg3))
      ∧ r.2.sem = fun _ => 0)

def quiescent_StickRefIdeal_pre_stick_finite [hStickRefIdeal : Cert.StickRefIdeal.Facts] [hPre_stick_finite : Cert.Pre_stick_finite.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_stick_finite m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2)
      ∧ r.2.mem ((c.tc : Thread Cert.StickRefIdeal.nD Cert.StickRefIdeal.τ).loc Cert.StickRefIdeal.main_arg3) = m ((c.tc : Thread Cert.StickRefIdeal.nD Cert.StickRefIdeal.τ).loc Cert.StickRefIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_BigIn [hBigIn : Cert.BigIn.Facts] : Prop :=
  ∀ (m : (ℓ : Loc Cert.BigIn.nD Cert.BigIn.τ Cert.BigIn.sig) → Buf (Elt Bits) ℓ) (g : Dev Cert.BigIn.nD → PrngReg), Pre_BigIn m →
    θ_run (Cert.BigIn.defs (F := Bits)) (onTc (τ := Cert.BigIn.τ) (Cert.BigIn.main (F := Bits))) ⟨m, fun _ => 0, g⟩ (fun r => (∀ c : Dev Cert.BigIn.nD,
      r.2.mem ((c.tc : Thread Cert.BigIn.nD Cert.BigIn.τ).loc Cert.BigIn.main_arg0) = m ((c.tc : Thread Cert.BigIn.nD Cert.BigIn.τ).loc Cert.BigIn.main_arg0)
      ∧ r.2.mem ((c.tc : Thread Cert.BigIn.nD Cert.BigIn.τ).loc Cert.BigIn.main_arg1) = m ((c.tc : Thread Cert.BigIn.nD Cert.BigIn.τ).loc Cert.BigIn.main_arg1)
      ∧ r.2.mem ((c.tc : Thread Cert.BigIn.nD Cert.BigIn.τ).loc Cert.BigIn.main_arg2) = m ((c.tc : Thread Cert.BigIn.nD Cert.BigIn.τ).loc Cert.BigIn.main_arg2)
      ∧ r.2.mem ((c.tc : Thread Cert.BigIn.nD Cert.BigIn.τ).loc Cert.BigIn.main_arg3) = m ((c.tc : Thread Cert.BigIn.nD Cert.BigIn.τ).loc Cert.BigIn.main_arg3)
      ∧ r.2.mem ((c.tc : Thread Cert.BigIn.nD Cert.BigIn.τ).loc Cert.BigIn.main_arg4) = m ((c.tc : Thread Cert.BigIn.nD Cert.BigIn.τ).loc Cert.BigIn.main_arg4)
      ∧ r.2.mem ((c.tc : Thread Cert.BigIn.nD Cert.BigIn.τ).loc Cert.BigIn.main_arg5) = m ((c.tc : Thread Cert.BigIn.nD Cert.BigIn.τ).loc Cert.BigIn.main_arg5)
      ∧ r.2.mem ((c.tc : Thread Cert.BigIn.nD Cert.BigIn.τ).loc Cert.BigIn.main_arg6) = m ((c.tc : Thread Cert.BigIn.nD Cert.BigIn.τ).loc Cert.BigIn.main_arg6)
      ∧ r.2.mem ((c.tc : Thread Cert.BigIn.nD Cert.BigIn.τ).loc Cert.BigIn.main_arg7) = m ((c.tc : Thread Cert.BigIn.nD Cert.BigIn.τ).loc Cert.BigIn.main_arg7))
      ∧ r.2.sem = fun _ => 0)

def quiescent_BigInIdeal [hBigInIdeal : Cert.BigInIdeal.Facts] : Prop :=
  ∀ (m : (ℓ : Loc Cert.BigInIdeal.nD Cert.BigInIdeal.τ Cert.BigInIdeal.sig) → Buf (Elt Ideal) ℓ) (g : Dev Cert.BigInIdeal.nD → PrngReg), Pre_BigInIdeal m →
    θ_run (Cert.BigInIdeal.defs (F := Ideal)) (onTc (τ := Cert.BigInIdeal.τ) (Cert.BigInIdeal.main (F := Ideal))) ⟨m, fun _ => 0, g⟩ (fun r => (∀ c : Dev Cert.BigInIdeal.nD,
      r.2.mem ((c.tc : Thread Cert.BigInIdeal.nD Cert.BigInIdeal.τ).loc Cert.BigInIdeal.main_arg0) = m ((c.tc : Thread Cert.BigInIdeal.nD Cert.BigInIdeal.τ).loc Cert.BigInIdeal.main_arg0)
      ∧ r.2.mem ((c.tc : Thread Cert.BigInIdeal.nD Cert.BigInIdeal.τ).loc Cert.BigInIdeal.main_arg1) = m ((c.tc : Thread Cert.BigInIdeal.nD Cert.BigInIdeal.τ).loc Cert.BigInIdeal.main_arg1)
      ∧ r.2.mem ((c.tc : Thread Cert.BigInIdeal.nD Cert.BigInIdeal.τ).loc Cert.BigInIdeal.main_arg2) = m ((c.tc : Thread Cert.BigInIdeal.nD Cert.BigInIdeal.τ).loc Cert.BigInIdeal.main_arg2)
      ∧ r.2.mem ((c.tc : Thread Cert.BigInIdeal.nD Cert.BigInIdeal.τ).loc Cert.BigInIdeal.main_arg3) = m ((c.tc : Thread Cert.BigInIdeal.nD Cert.BigInIdeal.τ).loc Cert.BigInIdeal.main_arg3)
      ∧ r.2.mem ((c.tc : Thread Cert.BigInIdeal.nD Cert.BigInIdeal.τ).loc Cert.BigInIdeal.main_arg4) = m ((c.tc : Thread Cert.BigInIdeal.nD Cert.BigInIdeal.τ).loc Cert.BigInIdeal.main_arg4)
      ∧ r.2.mem ((c.tc : Thread Cert.BigInIdeal.nD Cert.BigInIdeal.τ).loc Cert.BigInIdeal.main_arg5) = m ((c.tc : Thread Cert.BigInIdeal.nD Cert.BigInIdeal.τ).loc Cert.BigInIdeal.main_arg5)
      ∧ r.2.mem ((c.tc : Thread Cert.BigInIdeal.nD Cert.BigInIdeal.τ).loc Cert.BigInIdeal.main_arg6) = m ((c.tc : Thread Cert.BigInIdeal.nD Cert.BigInIdeal.τ).loc Cert.BigInIdeal.main_arg6)
      ∧ r.2.mem ((c.tc : Thread Cert.BigInIdeal.nD Cert.BigInIdeal.τ).loc Cert.BigInIdeal.main_arg7) = m ((c.tc : Thread Cert.BigInIdeal.nD Cert.BigInIdeal.τ).loc Cert.BigInIdeal.main_arg7))
      ∧ r.2.sem = fun _ => 0)

def quiescent_BigInRefIdeal [hBigInRefIdeal : Cert.BigInRefIdeal.Facts] : Prop :=
  ∀ (m : (ℓ : Loc Cert.BigInRefIdeal.nD Cert.BigInRefIdeal.τ Cert.BigInRefIdeal.sig) → Buf (Elt Ideal) ℓ) (g : Dev Cert.BigInRefIdeal.nD → PrngReg), Pre_BigInRefIdeal m →
    θ_run (Cert.BigInRefIdeal.defs (F := Ideal)) (onTc (τ := Cert.BigInRefIdeal.τ) (Cert.BigInRefIdeal.main (F := Ideal))) ⟨m, fun _ => 0, g⟩ (fun r => (∀ c : Dev Cert.BigInRefIdeal.nD,
      r.2.mem ((c.tc : Thread Cert.BigInRefIdeal.nD Cert.BigInRefIdeal.τ).loc Cert.BigInRefIdeal.main_arg0) = m ((c.tc : Thread Cert.BigInRefIdeal.nD Cert.BigInRefIdeal.τ).loc Cert.BigInRefIdeal.main_arg0)
      ∧ r.2.mem ((c.tc : Thread Cert.BigInRefIdeal.nD Cert.BigInRefIdeal.τ).loc Cert.BigInRefIdeal.main_arg1) = m ((c.tc : Thread Cert.BigInRefIdeal.nD Cert.BigInRefIdeal.τ).loc Cert.BigInRefIdeal.main_arg1)
      ∧ r.2.mem ((c.tc : Thread Cert.BigInRefIdeal.nD Cert.BigInRefIdeal.τ).loc Cert.BigInRefIdeal.main_arg2) = m ((c.tc : Thread Cert.BigInRefIdeal.nD Cert.BigInRefIdeal.τ).loc Cert.BigInRefIdeal.main_arg2)
      ∧ r.2.mem ((c.tc : Thread Cert.BigInRefIdeal.nD Cert.BigInRefIdeal.τ).loc Cert.BigInRefIdeal.main_arg3) = m ((c.tc : Thread Cert.BigInRefIdeal.nD Cert.BigInRefIdeal.τ).loc Cert.BigInRefIdeal.main_arg3)
      ∧ r.2.mem ((c.tc : Thread Cert.BigInRefIdeal.nD Cert.BigInRefIdeal.τ).loc Cert.BigInRefIdeal.main_arg4) = m ((c.tc : Thread Cert.BigInRefIdeal.nD Cert.BigInRefIdeal.τ).loc Cert.BigInRefIdeal.main_arg4)
      ∧ r.2.mem ((c.tc : Thread Cert.BigInRefIdeal.nD Cert.BigInRefIdeal.τ).loc Cert.BigInRefIdeal.main_arg5) = m ((c.tc : Thread Cert.BigInRefIdeal.nD Cert.BigInRefIdeal.τ).loc Cert.BigInRefIdeal.main_arg5)
      ∧ r.2.mem ((c.tc : Thread Cert.BigInRefIdeal.nD Cert.BigInRefIdeal.τ).loc Cert.BigInRefIdeal.main_arg6) = m ((c.tc : Thread Cert.BigInRefIdeal.nD Cert.BigInRefIdeal.τ).loc Cert.BigInRefIdeal.main_arg6)
      ∧ r.2.mem ((c.tc : Thread Cert.BigInRefIdeal.nD Cert.BigInRefIdeal.τ).loc Cert.BigInRefIdeal.main_arg7) = m ((c.tc : Thread Cert.BigInRefIdeal.nD Cert.BigInRefIdeal.τ).loc Cert.BigInRefIdeal.main_arg7))
      ∧ r.2.sem = fun _ => 0)

def quiescent_BigOut [hBigOut : Cert.BigOut.Facts] : Prop :=
  ∀ (m : (ℓ : Loc Cert.BigOut.nD Cert.BigOut.τ Cert.BigOut.sig) → Buf (Elt Bits) ℓ) (g : Dev Cert.BigOut.nD → PrngReg), Pre_BigOut m →
    θ_run (Cert.BigOut.defs (F := Bits)) (onTc (τ := Cert.BigOut.τ) (Cert.BigOut.main (F := Bits))) ⟨m, fun _ => 0, g⟩ (fun r => (∀ c : Dev Cert.BigOut.nD,
      r.2.mem ((c.tc : Thread Cert.BigOut.nD Cert.BigOut.τ).loc Cert.BigOut.main_arg0) = m ((c.tc : Thread Cert.BigOut.nD Cert.BigOut.τ).loc Cert.BigOut.main_arg0)
      ∧ r.2.mem ((c.tc : Thread Cert.BigOut.nD Cert.BigOut.τ).loc Cert.BigOut.main_arg1) = m ((c.tc : Thread Cert.BigOut.nD Cert.BigOut.τ).loc Cert.BigOut.main_arg1)
      ∧ r.2.mem ((c.tc : Thread Cert.BigOut.nD Cert.BigOut.τ).loc Cert.BigOut.main_arg2) = m ((c.tc : Thread Cert.BigOut.nD Cert.BigOut.τ).loc Cert.BigOut.main_arg2)
      ∧ r.2.mem ((c.tc : Thread Cert.BigOut.nD Cert.BigOut.τ).loc Cert.BigOut.main_arg3) = m ((c.tc : Thread Cert.BigOut.nD Cert.BigOut.τ).loc Cert.BigOut.main_arg3)
      ∧ r.2.mem ((c.tc : Thread Cert.BigOut.nD Cert.BigOut.τ).loc Cert.BigOut.main_arg4) = m ((c.tc : Thread Cert.BigOut.nD Cert.BigOut.τ).loc Cert.BigOut.main_arg4)
      ∧ r.2.mem ((c.tc : Thread Cert.BigOut.nD Cert.BigOut.τ).loc Cert.BigOut.main_arg5) = m ((c.tc : Thread Cert.BigOut.nD Cert.BigOut.τ).loc Cert.BigOut.main_arg5)
      ∧ r.2.mem ((c.tc : Thread Cert.BigOut.nD Cert.BigOut.τ).loc Cert.BigOut.main_arg6) = m ((c.tc : Thread Cert.BigOut.nD Cert.BigOut.τ).loc Cert.BigOut.main_arg6)
      ∧ r.2.mem ((c.tc : Thread Cert.BigOut.nD Cert.BigOut.τ).loc Cert.BigOut.main_arg7) = m ((c.tc : Thread Cert.BigOut.nD Cert.BigOut.τ).loc Cert.BigOut.main_arg7))
      ∧ r.2.sem = fun _ => 0)

def quiescent_BigOutIdeal [hBigOutIdeal : Cert.BigOutIdeal.Facts] : Prop :=
  ∀ (m : (ℓ : Loc Cert.BigOutIdeal.nD Cert.BigOutIdeal.τ Cert.BigOutIdeal.sig) → Buf (Elt Ideal) ℓ) (g : Dev Cert.BigOutIdeal.nD → PrngReg), Pre_BigOutIdeal m →
    θ_run (Cert.BigOutIdeal.defs (F := Ideal)) (onTc (τ := Cert.BigOutIdeal.τ) (Cert.BigOutIdeal.main (F := Ideal))) ⟨m, fun _ => 0, g⟩ (fun r => (∀ c : Dev Cert.BigOutIdeal.nD,
      r.2.mem ((c.tc : Thread Cert.BigOutIdeal.nD Cert.BigOutIdeal.τ).loc Cert.BigOutIdeal.main_arg0) = m ((c.tc : Thread Cert.BigOutIdeal.nD Cert.BigOutIdeal.τ).loc Cert.BigOutIdeal.main_arg0)
      ∧ r.2.mem ((c.tc : Thread Cert.BigOutIdeal.nD Cert.BigOutIdeal.τ).loc Cert.BigOutIdeal.main_arg1) = m ((c.tc : Thread Cert.BigOutIdeal.nD Cert.BigOutIdeal.τ).loc Cert.BigOutIdeal.main_arg1)
      ∧ r.2.mem ((c.tc : Thread Cert.BigOutIdeal.nD Cert.BigOutIdeal.τ).loc Cert.BigOutIdeal.main_arg2) = m ((c.tc : Thread Cert.BigOutIdeal.nD Cert.BigOutIdeal.τ).loc Cert.BigOutIdeal.main_arg2)
      ∧ r.2.mem ((c.tc : Thread Cert.BigOutIdeal.nD Cert.BigOutIdeal.τ).loc Cert.BigOutIdeal.main_arg3) = m ((c.tc : Thread Cert.BigOutIdeal.nD Cert.BigOutIdeal.τ).loc Cert.BigOutIdeal.main_arg3)
      ∧ r.2.mem ((c.tc : Thread Cert.BigOutIdeal.nD Cert.BigOutIdeal.τ).loc Cert.BigOutIdeal.main_arg4) = m ((c.tc : Thread Cert.BigOutIdeal.nD Cert.BigOutIdeal.τ).loc Cert.BigOutIdeal.main_arg4)
      ∧ r.2.mem ((c.tc : Thread Cert.BigOutIdeal.nD Cert.BigOutIdeal.τ).loc Cert.BigOutIdeal.main_arg5) = m ((c.tc : Thread Cert.BigOutIdeal.nD Cert.BigOutIdeal.τ).loc Cert.BigOutIdeal.main_arg5)
      ∧ r.2.mem ((c.tc : Thread Cert.BigOutIdeal.nD Cert.BigOutIdeal.τ).loc Cert.BigOutIdeal.main_arg6) = m ((c.tc : Thread Cert.BigOutIdeal.nD Cert.BigOutIdeal.τ).loc Cert.BigOutIdeal.main_arg6)
      ∧ r.2.mem ((c.tc : Thread Cert.BigOutIdeal.nD Cert.BigOutIdeal.τ).loc Cert.BigOutIdeal.main_arg7) = m ((c.tc : Thread Cert.BigOutIdeal.nD Cert.BigOutIdeal.τ).loc Cert.BigOutIdeal.main_arg7))
      ∧ r.2.sem = fun _ => 0)

def quiescent_BigOutRefIdeal [hBigOutRefIdeal : Cert.BigOutRefIdeal.Facts] : Prop :=
  ∀ (m : (ℓ : Loc Cert.BigOutRefIdeal.nD Cert.BigOutRefIdeal.τ Cert.BigOutRefIdeal.sig) → Buf (Elt Ideal) ℓ) (g : Dev Cert.BigOutRefIdeal.nD → PrngReg), Pre_BigOutRefIdeal m →
    θ_run (Cert.BigOutRefIdeal.defs (F := Ideal)) (onTc (τ := Cert.BigOutRefIdeal.τ) (Cert.BigOutRefIdeal.main (F := Ideal))) ⟨m, fun _ => 0, g⟩ (fun r => (∀ c : Dev Cert.BigOutRefIdeal.nD,
      r.2.mem ((c.tc : Thread Cert.BigOutRefIdeal.nD Cert.BigOutRefIdeal.τ).loc Cert.BigOutRefIdeal.main_arg0) = m ((c.tc : Thread Cert.BigOutRefIdeal.nD Cert.BigOutRefIdeal.τ).loc Cert.BigOutRefIdeal.main_arg0)
      ∧ r.2.mem ((c.tc : Thread Cert.BigOutRefIdeal.nD Cert.BigOutRefIdeal.τ).loc Cert.BigOutRefIdeal.main_arg1) = m ((c.tc : Thread Cert.BigOutRefIdeal.nD Cert.BigOutRefIdeal.τ).loc Cert.BigOutRefIdeal.main_arg1)
      ∧ r.2.mem ((c.tc : Thread Cert.BigOutRefIdeal.nD Cert.BigOutRefIdeal.τ).loc Cert.BigOutRefIdeal.main_arg2) = m ((c.tc : Thread Cert.BigOutRefIdeal.nD Cert.BigOutRefIdeal.τ).loc Cert.BigOutRefIdeal.main_arg2)
      ∧ r.2.mem ((c.tc : Thread Cert.BigOutRefIdeal.nD Cert.BigOutRefIdeal.τ).loc Cert.BigOutRefIdeal.main_arg3) = m ((c.tc : Thread Cert.BigOutRefIdeal.nD Cert.BigOutRefIdeal.τ).loc Cert.BigOutRefIdeal.main_arg3)
      ∧ r.2.mem ((c.tc : Thread Cert.BigOutRefIdeal.nD Cert.BigOutRefIdeal.τ).loc Cert.BigOutRefIdeal.main_arg4) = m ((c.tc : Thread Cert.BigOutRefIdeal.nD Cert.BigOutRefIdeal.τ).loc Cert.BigOutRefIdeal.main_arg4)
      ∧ r.2.mem ((c.tc : Thread Cert.BigOutRefIdeal.nD Cert.BigOutRefIdeal.τ).loc Cert.BigOutRefIdeal.main_arg5) = m ((c.tc : Thread Cert.BigOutRefIdeal.nD Cert.BigOutRefIdeal.τ).loc Cert.BigOutRefIdeal.main_arg5)
      ∧ r.2.mem ((c.tc : Thread Cert.BigOutRefIdeal.nD Cert.BigOutRefIdeal.τ).loc Cert.BigOutRefIdeal.main_arg6) = m ((c.tc : Thread Cert.BigOutRefIdeal.nD Cert.BigOutRefIdeal.τ).loc Cert.BigOutRefIdeal.main_arg6)
      ∧ r.2.mem ((c.tc : Thread Cert.BigOutRefIdeal.nD Cert.BigOutRefIdeal.τ).loc Cert.BigOutRefIdeal.main_arg7) = m ((c.tc : Thread Cert.BigOutRefIdeal.nD Cert.BigOutRefIdeal.τ).loc Cert.BigOutRefIdeal.main_arg7))
      ∧ r.2.sem = fun _ => 0)

def quiescent_BigUp [hBigUp : Cert.BigUp.Facts] : Prop :=
  ∀ (m : (ℓ : Loc Cert.BigUp.nD Cert.BigUp.τ Cert.BigUp.sig) → Buf (Elt Bits) ℓ) (g : Dev Cert.BigUp.nD → PrngReg), Pre_BigUp m →
    θ_run (Cert.BigUp.defs (F := Bits)) (onTc (τ := Cert.BigUp.τ) (Cert.BigUp.main (F := Bits))) ⟨m, fun _ => 0, g⟩ (fun r => (∀ c : Dev Cert.BigUp.nD,
      r.2.mem ((c.tc : Thread Cert.BigUp.nD Cert.BigUp.τ).loc Cert.BigUp.main_arg0) = m ((c.tc : Thread Cert.BigUp.nD Cert.BigUp.τ).loc Cert.BigUp.main_arg0)
      ∧ r.2.mem ((c.tc : Thread Cert.BigUp.nD Cert.BigUp.τ).loc Cert.BigUp.main_arg1) = m ((c.tc : Thread Cert.BigUp.nD Cert.BigUp.τ).loc Cert.BigUp.main_arg1)
      ∧ r.2.mem ((c.tc : Thread Cert.BigUp.nD Cert.BigUp.τ).loc Cert.BigUp.main_arg2) = m ((c.tc : Thread Cert.BigUp.nD Cert.BigUp.τ).loc Cert.BigUp.main_arg2)
      ∧ r.2.mem ((c.tc : Thread Cert.BigUp.nD Cert.BigUp.τ).loc Cert.BigUp.main_arg3) = m ((c.tc : Thread Cert.BigUp.nD Cert.BigUp.τ).loc Cert.BigUp.main_arg3)
      ∧ r.2.mem ((c.tc : Thread Cert.BigUp.nD Cert.BigUp.τ).loc Cert.BigUp.main_arg4) = m ((c.tc : Thread Cert.BigUp.nD Cert.BigUp.τ).loc Cert.BigUp.main_arg4)
      ∧ r.2.mem ((c.tc : Thread Cert.BigUp.nD Cert.BigUp.τ).loc Cert.BigUp.main_arg5) = m ((c.tc : Thread Cert.BigUp.nD Cert.BigUp.τ).loc Cert.BigUp.main_arg5)
      ∧ r.2.mem ((c.tc : Thread Cert.BigUp.nD Cert.BigUp.τ).loc Cert.BigUp.main_arg6) = m ((c.tc : Thread Cert.BigUp.nD Cert.BigUp.τ).loc Cert.BigUp.main_arg6)
      ∧ r.2.mem ((c.tc : Thread Cert.BigUp.nD Cert.BigUp.τ).loc Cert.BigUp.main_arg7) = m ((c.tc : Thread Cert.BigUp.nD Cert.BigUp.τ).loc Cert.BigUp.main_arg7))
      ∧ r.2.sem = fun _ => 0)

def quiescent_BigUpIdeal [hBigUpIdeal : Cert.BigUpIdeal.Facts] : Prop :=
  ∀ (m : (ℓ : Loc Cert.BigUpIdeal.nD Cert.BigUpIdeal.τ Cert.BigUpIdeal.sig) → Buf (Elt Ideal) ℓ) (g : Dev Cert.BigUpIdeal.nD → PrngReg), Pre_BigUpIdeal m →
    θ_run (Cert.BigUpIdeal.defs (F := Ideal)) (onTc (τ := Cert.BigUpIdeal.τ) (Cert.BigUpIdeal.main (F := Ideal))) ⟨m, fun _ => 0, g⟩ (fun r => (∀ c : Dev Cert.BigUpIdeal.nD,
      r.2.mem ((c.tc : Thread Cert.BigUpIdeal.nD Cert.BigUpIdeal.τ).loc Cert.BigUpIdeal.main_arg0) = m ((c.tc : Thread Cert.BigUpIdeal.nD Cert.BigUpIdeal.τ).loc Cert.BigUpIdeal.main_arg0)
      ∧ r.2.mem ((c.tc : Thread Cert.BigUpIdeal.nD Cert.BigUpIdeal.τ).loc Cert.BigUpIdeal.main_arg1) = m ((c.tc : Thread Cert.BigUpIdeal.nD Cert.BigUpIdeal.τ).loc Cert.BigUpIdeal.main_arg1)
      ∧ r.2.mem ((c.tc : Thread Cert.BigUpIdeal.nD Cert.BigUpIdeal.τ).loc Cert.BigUpIdeal.main_arg2) = m ((c.tc : Thread Cert.BigUpIdeal.nD Cert.BigUpIdeal.τ).loc Cert.BigUpIdeal.main_arg2)
      ∧ r.2.mem ((c.tc : Thread Cert.BigUpIdeal.nD Cert.BigUpIdeal.τ).loc Cert.BigUpIdeal.main_arg3) = m ((c.tc : Thread Cert.BigUpIdeal.nD Cert.BigUpIdeal.τ).loc Cert.BigUpIdeal.main_arg3)
      ∧ r.2.mem ((c.tc : Thread Cert.BigUpIdeal.nD Cert.BigUpIdeal.τ).loc Cert.BigUpIdeal.main_arg4) = m ((c.tc : Thread Cert.BigUpIdeal.nD Cert.BigUpIdeal.τ).loc Cert.BigUpIdeal.main_arg4)
      ∧ r.2.mem ((c.tc : Thread Cert.BigUpIdeal.nD Cert.BigUpIdeal.τ).loc Cert.BigUpIdeal.main_arg5) = m ((c.tc : Thread Cert.BigUpIdeal.nD Cert.BigUpIdeal.τ).loc Cert.BigUpIdeal.main_arg5)
      ∧ r.2.mem ((c.tc : Thread Cert.BigUpIdeal.nD Cert.BigUpIdeal.τ).loc Cert.BigUpIdeal.main_arg6) = m ((c.tc : Thread Cert.BigUpIdeal.nD Cert.BigUpIdeal.τ).loc Cert.BigUpIdeal.main_arg6)
      ∧ r.2.mem ((c.tc : Thread Cert.BigUpIdeal.nD Cert.BigUpIdeal.τ).loc Cert.BigUpIdeal.main_arg7) = m ((c.tc : Thread Cert.BigUpIdeal.nD Cert.BigUpIdeal.τ).loc Cert.BigUpIdeal.main_arg7))
      ∧ r.2.sem = fun _ => 0)

def quiescent_BigUpRefIdeal [hBigUpRefIdeal : Cert.BigUpRefIdeal.Facts] : Prop :=
  ∀ (m : (ℓ : Loc Cert.BigUpRefIdeal.nD Cert.BigUpRefIdeal.τ Cert.BigUpRefIdeal.sig) → Buf (Elt Ideal) ℓ) (g : Dev Cert.BigUpRefIdeal.nD → PrngReg), Pre_BigUpRefIdeal m →
    θ_run (Cert.BigUpRefIdeal.defs (F := Ideal)) (onTc (τ := Cert.BigUpRefIdeal.τ) (Cert.BigUpRefIdeal.main (F := Ideal))) ⟨m, fun _ => 0, g⟩ (fun r => (∀ c : Dev Cert.BigUpRefIdeal.nD,
      r.2.mem ((c.tc : Thread Cert.BigUpRefIdeal.nD Cert.BigUpRefIdeal.τ).loc Cert.BigUpRefIdeal.main_arg0) = m ((c.tc : Thread Cert.BigUpRefIdeal.nD Cert.BigUpRefIdeal.τ).loc Cert.BigUpRefIdeal.main_arg0)
      ∧ r.2.mem ((c.tc : Thread Cert.BigUpRefIdeal.nD Cert.BigUpRefIdeal.τ).loc Cert.BigUpRefIdeal.main_arg1) = m ((c.tc : Thread Cert.BigUpRefIdeal.nD Cert.BigUpRefIdeal.τ).loc Cert.BigUpRefIdeal.main_arg1)
      ∧ r.2.mem ((c.tc : Thread Cert.BigUpRefIdeal.nD Cert.BigUpRefIdeal.τ).loc Cert.BigUpRefIdeal.main_arg2) = m ((c.tc : Thread Cert.BigUpRefIdeal.nD Cert.BigUpRefIdeal.τ).loc Cert.BigUpRefIdeal.main_arg2)
      ∧ r.2.mem ((c.tc : Thread Cert.BigUpRefIdeal.nD Cert.BigUpRefIdeal.τ).loc Cert.BigUpRefIdeal.main_arg3) = m ((c.tc : Thread Cert.BigUpRefIdeal.nD Cert.BigUpRefIdeal.τ).loc Cert.BigUpRefIdeal.main_arg3)
      ∧ r.2.mem ((c.tc : Thread Cert.BigUpRefIdeal.nD Cert.BigUpRefIdeal.τ).loc Cert.BigUpRefIdeal.main_arg4) = m ((c.tc : Thread Cert.BigUpRefIdeal.nD Cert.BigUpRefIdeal.τ).loc Cert.BigUpRefIdeal.main_arg4)
      ∧ r.2.mem ((c.tc : Thread Cert.BigUpRefIdeal.nD Cert.BigUpRefIdeal.τ).loc Cert.BigUpRefIdeal.main_arg5) = m ((c.tc : Thread Cert.BigUpRefIdeal.nD Cert.BigUpRefIdeal.τ).loc Cert.BigUpRefIdeal.main_arg5)
      ∧ r.2.mem ((c.tc : Thread Cert.BigUpRefIdeal.nD Cert.BigUpRefIdeal.τ).loc Cert.BigUpRefIdeal.main_arg6) = m ((c.tc : Thread Cert.BigUpRefIdeal.nD Cert.BigUpRefIdeal.τ).loc Cert.BigUpRefIdeal.main_arg6)
      ∧ r.2.mem ((c.tc : Thread Cert.BigUpRefIdeal.nD Cert.BigUpRefIdeal.τ).loc Cert.BigUpRefIdeal.main_arg7) = m ((c.tc : Thread Cert.BigUpRefIdeal.nD Cert.BigUpRefIdeal.τ).loc Cert.BigUpRefIdeal.main_arg7))
      ∧ r.2.sem = fun _ => 0)

def quiescent_BigDown [hBigDown : Cert.BigDown.Facts] : Prop :=
  ∀ (m : (ℓ : Loc Cert.BigDown.nD Cert.BigDown.τ Cert.BigDown.sig) → Buf (Elt Bits) ℓ) (g : Dev Cert.BigDown.nD → PrngReg), Pre_BigDown m →
    θ_run (Cert.BigDown.defs (F := Bits)) (onTc (τ := Cert.BigDown.τ) (Cert.BigDown.main (F := Bits))) ⟨m, fun _ => 0, g⟩ (fun r => (∀ c : Dev Cert.BigDown.nD,
      r.2.mem ((c.tc : Thread Cert.BigDown.nD Cert.BigDown.τ).loc Cert.BigDown.main_arg0) = m ((c.tc : Thread Cert.BigDown.nD Cert.BigDown.τ).loc Cert.BigDown.main_arg0)
      ∧ r.2.mem ((c.tc : Thread Cert.BigDown.nD Cert.BigDown.τ).loc Cert.BigDown.main_arg1) = m ((c.tc : Thread Cert.BigDown.nD Cert.BigDown.τ).loc Cert.BigDown.main_arg1)
      ∧ r.2.mem ((c.tc : Thread Cert.BigDown.nD Cert.BigDown.τ).loc Cert.BigDown.main_arg2) = m ((c.tc : Thread Cert.BigDown.nD Cert.BigDown.τ).loc Cert.BigDown.main_arg2)
      ∧ r.2.mem ((c.tc : Thread Cert.BigDown.nD Cert.BigDown.τ).loc Cert.BigDown.main_arg3) = m ((c.tc : Thread Cert.BigDown.nD Cert.BigDown.τ).loc Cert.BigDown.main_arg3)
      ∧ r.2.mem ((c.tc : Thread Cert.BigDown.nD Cert.BigDown.τ).loc Cert.BigDown.main_arg4) = m ((c.tc : Thread Cert.BigDown.nD Cert.BigDown.τ).loc Cert.BigDown.main_arg4)
      ∧ r.2.mem ((c.tc : Thread Cert.BigDown.nD Cert.BigDown.τ).loc Cert.BigDown.main_arg5) = m ((c.tc : Thread Cert.BigDown.nD Cert.BigDown.τ).loc Cert.BigDown.main_arg5)
      ∧ r.2.mem ((c.tc : Thread Cert.BigDown.nD Cert.BigDown.τ).loc Cert.BigDown.main_arg6) = m ((c.tc : Thread Cert.BigDown.nD Cert.BigDown.τ).loc Cert.BigDown.main_arg6)
      ∧ r.2.mem ((c.tc : Thread Cert.BigDown.nD Cert.BigDown.τ).loc Cert.BigDown.main_arg7) = m ((c.tc : Thread Cert.BigDown.nD Cert.BigDown.τ).loc Cert.BigDown.main_arg7))
      ∧ r.2.sem = fun _ => 0)

def quiescent_BigDownIdeal [hBigDownIdeal : Cert.BigDownIdeal.Facts] : Prop :=
  ∀ (m : (ℓ : Loc Cert.BigDownIdeal.nD Cert.BigDownIdeal.τ Cert.BigDownIdeal.sig) → Buf (Elt Ideal) ℓ) (g : Dev Cert.BigDownIdeal.nD → PrngReg), Pre_BigDownIdeal m →
    θ_run (Cert.BigDownIdeal.defs (F := Ideal)) (onTc (τ := Cert.BigDownIdeal.τ) (Cert.BigDownIdeal.main (F := Ideal))) ⟨m, fun _ => 0, g⟩ (fun r => (∀ c : Dev Cert.BigDownIdeal.nD,
      r.2.mem ((c.tc : Thread Cert.BigDownIdeal.nD Cert.BigDownIdeal.τ).loc Cert.BigDownIdeal.main_arg0) = m ((c.tc : Thread Cert.BigDownIdeal.nD Cert.BigDownIdeal.τ).loc Cert.BigDownIdeal.main_arg0)
      ∧ r.2.mem ((c.tc : Thread Cert.BigDownIdeal.nD Cert.BigDownIdeal.τ).loc Cert.BigDownIdeal.main_arg1) = m ((c.tc : Thread Cert.BigDownIdeal.nD Cert.BigDownIdeal.τ).loc Cert.BigDownIdeal.main_arg1)
      ∧ r.2.mem ((c.tc : Thread Cert.BigDownIdeal.nD Cert.BigDownIdeal.τ).loc Cert.BigDownIdeal.main_arg2) = m ((c.tc : Thread Cert.BigDownIdeal.nD Cert.BigDownIdeal.τ).loc Cert.BigDownIdeal.main_arg2)
      ∧ r.2.mem ((c.tc : Thread Cert.BigDownIdeal.nD Cert.BigDownIdeal.τ).loc Cert.BigDownIdeal.main_arg3) = m ((c.tc : Thread Cert.BigDownIdeal.nD Cert.BigDownIdeal.τ).loc Cert.BigDownIdeal.main_arg3)
      ∧ r.2.mem ((c.tc : Thread Cert.BigDownIdeal.nD Cert.BigDownIdeal.τ).loc Cert.BigDownIdeal.main_arg4) = m ((c.tc : Thread Cert.BigDownIdeal.nD Cert.BigDownIdeal.τ).loc Cert.BigDownIdeal.main_arg4)
      ∧ r.2.mem ((c.tc : Thread Cert.BigDownIdeal.nD Cert.BigDownIdeal.τ).loc Cert.BigDownIdeal.main_arg5) = m ((c.tc : Thread Cert.BigDownIdeal.nD Cert.BigDownIdeal.τ).loc Cert.BigDownIdeal.main_arg5)
      ∧ r.2.mem ((c.tc : Thread Cert.BigDownIdeal.nD Cert.BigDownIdeal.τ).loc Cert.BigDownIdeal.main_arg6) = m ((c.tc : Thread Cert.BigDownIdeal.nD Cert.BigDownIdeal.τ).loc Cert.BigDownIdeal.main_arg6)
      ∧ r.2.mem ((c.tc : Thread Cert.BigDownIdeal.nD Cert.BigDownIdeal.τ).loc Cert.BigDownIdeal.main_arg7) = m ((c.tc : Thread Cert.BigDownIdeal.nD Cert.BigDownIdeal.τ).loc Cert.BigDownIdeal.main_arg7))
      ∧ r.2.sem = fun _ => 0)

def quiescent_BigDownRefIdeal [hBigDownRefIdeal : Cert.BigDownRefIdeal.Facts] : Prop :=
  ∀ (m : (ℓ : Loc Cert.BigDownRefIdeal.nD Cert.BigDownRefIdeal.τ Cert.BigDownRefIdeal.sig) → Buf (Elt Ideal) ℓ) (g : Dev Cert.BigDownRefIdeal.nD → PrngReg), Pre_BigDownRefIdeal m →
    θ_run (Cert.BigDownRefIdeal.defs (F := Ideal)) (onTc (τ := Cert.BigDownRefIdeal.τ) (Cert.BigDownRefIdeal.main (F := Ideal))) ⟨m, fun _ => 0, g⟩ (fun r => (∀ c : Dev Cert.BigDownRefIdeal.nD,
      r.2.mem ((c.tc : Thread Cert.BigDownRefIdeal.nD Cert.BigDownRefIdeal.τ).loc Cert.BigDownRefIdeal.main_arg0) = m ((c.tc : Thread Cert.BigDownRefIdeal.nD Cert.BigDownRefIdeal.τ).loc Cert.BigDownRefIdeal.main_arg0)
      ∧ r.2.mem ((c.tc : Thread Cert.BigDownRefIdeal.nD Cert.BigDownRefIdeal.τ).loc Cert.BigDownRefIdeal.main_arg1) = m ((c.tc : Thread Cert.BigDownRefIdeal.nD Cert.BigDownRefIdeal.τ).loc Cert.BigDownRefIdeal.main_arg1)
      ∧ r.2.mem ((c.tc : Thread Cert.BigDownRefIdeal.nD Cert.BigDownRefIdeal.τ).loc Cert.BigDownRefIdeal.main_arg2) = m ((c.tc : Thread Cert.BigDownRefIdeal.nD Cert.BigDownRefIdeal.τ).loc Cert.BigDownRefIdeal.main_arg2)
      ∧ r.2.mem ((c.tc : Thread Cert.BigDownRefIdeal.nD Cert.BigDownRefIdeal.τ).loc Cert.BigDownRefIdeal.main_arg3) = m ((c.tc : Thread Cert.BigDownRefIdeal.nD Cert.BigDownRefIdeal.τ).loc Cert.BigDownRefIdeal.main_arg3)
      ∧ r.2.mem ((c.tc : Thread Cert.BigDownRefIdeal.nD Cert.BigDownRefIdeal.τ).loc Cert.BigDownRefIdeal.main_arg4) = m ((c.tc : Thread Cert.BigDownRefIdeal.nD Cert.BigDownRefIdeal.τ).loc Cert.BigDownRefIdeal.main_arg4)
      ∧ r.2.mem ((c.tc : Thread Cert.BigDownRefIdeal.nD Cert.BigDownRefIdeal.τ).loc Cert.BigDownRefIdeal.main_arg5) = m ((c.tc : Thread Cert.BigDownRefIdeal.nD Cert.BigDownRefIdeal.τ).loc Cert.BigDownRefIdeal.main_arg5)
      ∧ r.2.mem ((c.tc : Thread Cert.BigDownRefIdeal.nD Cert.BigDownRefIdeal.τ).loc Cert.BigDownRefIdeal.main_arg6) = m ((c.tc : Thread Cert.BigDownRefIdeal.nD Cert.BigDownRefIdeal.τ).loc Cert.BigDownRefIdeal.main_arg6)
      ∧ r.2.mem ((c.tc : Thread Cert.BigDownRefIdeal.nD Cert.BigDownRefIdeal.τ).loc Cert.BigDownRefIdeal.main_arg7) = m ((c.tc : Thread Cert.BigDownRefIdeal.nD Cert.BigDownRefIdeal.τ).loc Cert.BigDownRefIdeal.main_arg7))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_Total [hTotal : Cert.Total.Facts] : Prop :=
  ∀ (m : (ℓ : Loc Cert.Total.nD Cert.Total.τ Cert.Total.sig) → Buf (Elt Bits) ℓ) (g : Dev Cert.Total.nD → PrngReg), Pre_Total m →
    θ_run (Cert.Total.defs (F := Bits)) (onTc (τ := Cert.Total.τ) (Cert.Total.main (F := Bits))) ⟨m, fun _ => 0, g⟩ (fun r => (∀ c : Dev Cert.Total.nD,
      r.2.mem ((c.tc : Thread Cert.Total.nD Cert.Total.τ).loc Cert.Total.main_arg0) = m ((c.tc : Thread Cert.Total.nD Cert.Total.τ).loc Cert.Total.main_arg0)
      ∧ r.2.mem ((c.tc : Thread Cert.Total.nD Cert.Total.τ).loc Cert.Total.main_arg1) = m ((c.tc : Thread Cert.Total.nD Cert.Total.τ).loc Cert.Total.main_arg1))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
      ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1))
      ∧ r.2.sem = fun _ => 0)

def quiescent_TotalRefIdeal [hTotalRefIdeal : Cert.TotalRefIdeal.Facts] : Prop :=
  ∀ (m : (ℓ : Loc Cert.TotalRefIdeal.nD Cert.TotalRefIdeal.τ Cert.TotalRefIdeal.sig) → Buf (Elt Ideal) ℓ) (g : Dev Cert.TotalRefIdeal.nD → PrngReg), Pre_TotalRefIdeal m →
    θ_run (Cert.TotalRefIdeal.defs (F := Ideal)) (onTc (τ := Cert.TotalRefIdeal.τ) (Cert.TotalRefIdeal.main (F := Ideal))) ⟨m, fun _ => 0, g⟩ (fun r => (∀ c : Dev Cert.TotalRefIdeal.nD,
      r.2.mem ((c.tc : Thread Cert.TotalRefIdeal.nD Cert.TotalRefIdeal.τ).loc Cert.TotalRefIdeal.main_arg0) = m ((c.tc : Thread Cert.TotalRefIdeal.nD Cert.TotalRefIdeal.τ).loc Cert.TotalRefIdeal.main_arg0)
      ∧ r.2.mem ((c.tc : Thread Cert.TotalRefIdeal.nD Cert.TotalRefIdeal.τ).loc Cert.TotalRefIdeal.main_arg1) = m ((c.tc : Thread Cert.TotalRefIdeal.nD Cert.TotalRefIdeal.τ).loc Cert.TotalRefIdeal.main_arg1))
      ∧ r.2.sem = fun _ => 0)

def preserves_Conv_ConvIdeal : Prop :=
  True

def algebraic_ConvIdeal_ConvRefIdeal_pre_finite [hConvIdeal : Cert.ConvIdeal.Facts] [hConvRefIdeal : Cert.ConvRefIdeal.Facts] [hPre_finite : Cert.Pre_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)) (v4 : (c : Dev Cert.ConvIdeal.nD) → Buf (Elt Ideal) ((c.tc : Thread Cert.ConvIdeal.nD Cert.ConvIdeal.τ).loc Cert.ConvIdeal.main_v0_4)) (v5 : (c : Dev Cert.ConvIdeal.nD) → Buf (Elt Ideal) ((c.tc : Thread Cert.ConvIdeal.nD Cert.ConvIdeal.τ).loc Cert.ConvIdeal.main_v0_5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_v0_4) = v4 c
          ∧ r.2.mem ((c.tc : Thread Cert.ConvIdeal.nD Cert.ConvIdeal.τ).loc Cert.ConvIdeal.main_v0_5) = v5 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v74) = v0 c
          ∧ r.2.mem ((c.tc : Thread Cert.ConvRefIdeal.nD Cert.ConvRefIdeal.τ).loc Cert.ConvRefIdeal.main_v75) = v1 c
          ∧ r.2.mem ((c.tc : Thread Cert.ConvRefIdeal.nD Cert.ConvRefIdeal.τ).loc Cert.ConvRefIdeal.main_v70) = v2 c
          ∧ r.2.mem ((c.tc : Thread Cert.ConvRefIdeal.nD Cert.ConvRefIdeal.τ).loc Cert.ConvRefIdeal.main_v71) = v3 c
          ∧ r.2.mem ((c.tc : Thread Cert.ConvRefIdeal.nD Cert.ConvRefIdeal.τ).loc Cert.ConvRefIdeal.main_v72) = v4 c
          ∧ r.2.mem ((c.tc : Thread Cert.ConvRefIdeal.nD Cert.ConvRefIdeal.τ).loc Cert.ConvRefIdeal.main_v73) = v5 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Stick_StickIdeal : Prop :=
  True

def algebraic_StickIdeal_StickRefIdeal_pre_stick_finite [hStickIdeal : Cert.StickIdeal.Facts] [hStickRefIdeal : Cert.StickRefIdeal.Facts] [hPre_stick_finite : Cert.Pre_stick_finite.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_stick_finite m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)
      ∧ m' ((c.tc : Thread Cert.StickRefIdeal.nD Cert.StickRefIdeal.τ).loc Cert.StickRefIdeal.main_arg2) = m ((c.tc : Thread Cert.StickIdeal.nD Cert.StickIdeal.τ).loc Cert.StickIdeal.main_arg2)
      ∧ m' ((c.tc : Thread Cert.StickRefIdeal.nD Cert.StickRefIdeal.τ).loc Cert.StickRefIdeal.main_arg3) = m ((c.tc : Thread Cert.StickIdeal.nD Cert.StickIdeal.τ).loc Cert.StickIdeal.main_arg3)) →
    ∃ (v0 : (c : Dev Cert.StickIdeal.nD) → Buf (Elt Ideal) ((c.tc : Thread Cert.StickIdeal.nD Cert.StickIdeal.τ).loc Cert.StickIdeal.main_v32_0)) (v1 : (c : Dev Cert.StickIdeal.nD) → Buf (Elt Ideal) ((c.tc : Thread Cert.StickIdeal.nD Cert.StickIdeal.τ).loc Cert.StickIdeal.main_v34)) (v2 : (c : Dev Cert.StickIdeal.nD) → Buf (Elt Ideal) ((c.tc : Thread Cert.StickIdeal.nD Cert.StickIdeal.τ).loc Cert.StickIdeal.main_v36)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v32_0) = v0 c
          ∧ r.2.mem ((c.tc : Thread Cert.StickIdeal.nD Cert.StickIdeal.τ).loc Cert.StickIdeal.main_v34) = v1 c
          ∧ r.2.mem ((c.tc : Thread Cert.StickIdeal.nD Cert.StickIdeal.τ).loc Cert.StickIdeal.main_v36) = v2 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
          ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v48) = v0 c
          ∧ r.2.mem ((c.tc : Thread Cert.StickRefIdeal.nD Cert.StickRefIdeal.τ).loc Cert.StickRefIdeal.main_v46) = v1 c
          ∧ r.2.mem ((c.tc : Thread Cert.StickRefIdeal.nD Cert.StickRefIdeal.τ).loc Cert.StickRefIdeal.main_v45) = v2 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1)
          ∧ r.2.mem ((c.tc : Thread Cert.StickRefIdeal.nD Cert.StickRefIdeal.τ).loc Cert.StickRefIdeal.main_arg2) = m' ((c.tc : Thread Cert.StickRefIdeal.nD Cert.StickRefIdeal.τ).loc Cert.StickRefIdeal.main_arg2)
          ∧ r.2.mem ((c.tc : Thread Cert.StickRefIdeal.nD Cert.StickRefIdeal.τ).loc Cert.StickRefIdeal.main_arg3) = m' ((c.tc : Thread Cert.StickRefIdeal.nD Cert.StickRefIdeal.τ).loc Cert.StickRefIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v3) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v3) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v3) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v34) = v0 c
          ∧ r.2.mem ((c.tc : Thread Cert.NormRefIdeal.nD Cert.NormRefIdeal.τ).loc Cert.NormRefIdeal.main_v35) = v1 c
          ∧ r.2.mem ((c.tc : Thread Cert.NormRefIdeal.nD Cert.NormRefIdeal.τ).loc Cert.NormRefIdeal.main_v17) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_v16) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v23) = v0 c
          ∧ r.2.mem ((c.tc : Thread Cert.SmallRefIdeal.nD Cert.SmallRefIdeal.τ).loc Cert.SmallRefIdeal.main_v4) = v1 c
          ∧ r.2.mem ((c.tc : Thread Cert.SmallRefIdeal.nD Cert.SmallRefIdeal.τ).loc Cert.SmallRefIdeal.main_v10) = v2 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_BigIn_BigInIdeal : Prop :=
  True

def algebraic_BigInIdeal_BigInRefIdeal [hBigInIdeal : Cert.BigInIdeal.Facts] [hBigInRefIdeal : Cert.BigInRefIdeal.Facts] : Prop :=
  ∀ (m : (ℓ : Loc Cert.BigInIdeal.nD Cert.BigInIdeal.τ Cert.BigInIdeal.sig) → Buf (Elt Ideal) ℓ) (g : Dev Cert.BigInIdeal.nD → PrngReg)
    (m' : (ℓ : Loc Cert.BigInRefIdeal.nD Cert.BigInRefIdeal.τ Cert.BigInRefIdeal.sig) → Buf (Elt Ideal) ℓ) (g' : Dev Cert.BigInRefIdeal.nD → PrngReg), Pre_BigInIdeal m →
    (∀ c : Dev Cert.BigInIdeal.nD,
      m' ((c.tc : Thread Cert.BigInRefIdeal.nD Cert.BigInRefIdeal.τ).loc Cert.BigInRefIdeal.main_arg0) = m ((c.tc : Thread Cert.BigInIdeal.nD Cert.BigInIdeal.τ).loc Cert.BigInIdeal.main_arg0)
      ∧ m' ((c.tc : Thread Cert.BigInRefIdeal.nD Cert.BigInRefIdeal.τ).loc Cert.BigInRefIdeal.main_arg1) = m ((c.tc : Thread Cert.BigInIdeal.nD Cert.BigInIdeal.τ).loc Cert.BigInIdeal.main_arg1)
      ∧ m' ((c.tc : Thread Cert.BigInRefIdeal.nD Cert.BigInRefIdeal.τ).loc Cert.BigInRefIdeal.main_arg2) = m ((c.tc : Thread Cert.BigInIdeal.nD Cert.BigInIdeal.τ).loc Cert.BigInIdeal.main_arg2)
      ∧ m' ((c.tc : Thread Cert.BigInRefIdeal.nD Cert.BigInRefIdeal.τ).loc Cert.BigInRefIdeal.main_arg3) = m ((c.tc : Thread Cert.BigInIdeal.nD Cert.BigInIdeal.τ).loc Cert.BigInIdeal.main_arg3)
      ∧ m' ((c.tc : Thread Cert.BigInRefIdeal.nD Cert.BigInRefIdeal.τ).loc Cert.BigInRefIdeal.main_arg4) = m ((c.tc : Thread Cert.BigInIdeal.nD Cert.BigInIdeal.τ).loc Cert.BigInIdeal.main_arg4)
      ∧ m' ((c.tc : Thread Cert.BigInRefIdeal.nD Cert.BigInRefIdeal.τ).loc Cert.BigInRefIdeal.main_arg5) = m ((c.tc : Thread Cert.BigInIdeal.nD Cert.BigInIdeal.τ).loc Cert.BigInIdeal.main_arg5)
      ∧ m' ((c.tc : Thread Cert.BigInRefIdeal.nD Cert.BigInRefIdeal.τ).loc Cert.BigInRefIdeal.main_arg6) = m ((c.tc : Thread Cert.BigInIdeal.nD Cert.BigInIdeal.τ).loc Cert.BigInIdeal.main_arg6)
      ∧ m' ((c.tc : Thread Cert.BigInRefIdeal.nD Cert.BigInRefIdeal.τ).loc Cert.BigInRefIdeal.main_arg7) = m ((c.tc : Thread Cert.BigInIdeal.nD Cert.BigInIdeal.τ).loc Cert.BigInIdeal.main_arg7)) →
    ∃ (v0 : (c : Dev Cert.BigInIdeal.nD) → Buf (Elt Ideal) ((c.tc : Thread Cert.BigInIdeal.nD Cert.BigInIdeal.τ).loc Cert.BigInIdeal.main_v1_0)) (v1 : (c : Dev Cert.BigInIdeal.nD) → Buf (Elt Ideal) ((c.tc : Thread Cert.BigInIdeal.nD Cert.BigInIdeal.τ).loc Cert.BigInIdeal.main_v1_1)) (v2 : (c : Dev Cert.BigInIdeal.nD) → Buf (Elt Ideal) ((c.tc : Thread Cert.BigInIdeal.nD Cert.BigInIdeal.τ).loc Cert.BigInIdeal.main_v1_2)) (v3 : (c : Dev Cert.BigInIdeal.nD) → Buf (Elt Ideal) ((c.tc : Thread Cert.BigInIdeal.nD Cert.BigInIdeal.τ).loc Cert.BigInIdeal.main_v1_3)),
      θ_run (Cert.BigInIdeal.defs (F := Ideal)) (onTc (τ := Cert.BigInIdeal.τ) (Cert.BigInIdeal.main (F := Ideal))) ⟨m, fun _ => 0, g⟩ (fun r => ∀ c : Dev Cert.BigInIdeal.nD,
          r.2.mem ((c.tc : Thread Cert.BigInIdeal.nD Cert.BigInIdeal.τ).loc Cert.BigInIdeal.main_v1_0) = v0 c
          ∧ r.2.mem ((c.tc : Thread Cert.BigInIdeal.nD Cert.BigInIdeal.τ).loc Cert.BigInIdeal.main_v1_1) = v1 c
          ∧ r.2.mem ((c.tc : Thread Cert.BigInIdeal.nD Cert.BigInIdeal.τ).loc Cert.BigInIdeal.main_v1_2) = v2 c
          ∧ r.2.mem ((c.tc : Thread Cert.BigInIdeal.nD Cert.BigInIdeal.τ).loc Cert.BigInIdeal.main_v1_3) = v3 c
          ∧ r.2.mem ((c.tc : Thread Cert.BigInIdeal.nD Cert.BigInIdeal.τ).loc Cert.BigInIdeal.main_arg0) = m ((c.tc : Thread Cert.BigInIdeal.nD Cert.BigInIdeal.τ).loc Cert.BigInIdeal.main_arg0)
          ∧ r.2.mem ((c.tc : Thread Cert.BigInIdeal.nD Cert.BigInIdeal.τ).loc Cert.BigInIdeal.main_arg1) = m ((c.tc : Thread Cert.BigInIdeal.nD Cert.BigInIdeal.τ).loc Cert.BigInIdeal.main_arg1)
          ∧ r.2.mem ((c.tc : Thread Cert.BigInIdeal.nD Cert.BigInIdeal.τ).loc Cert.BigInIdeal.main_arg2) = m ((c.tc : Thread Cert.BigInIdeal.nD Cert.BigInIdeal.τ).loc Cert.BigInIdeal.main_arg2)
          ∧ r.2.mem ((c.tc : Thread Cert.BigInIdeal.nD Cert.BigInIdeal.τ).loc Cert.BigInIdeal.main_arg3) = m ((c.tc : Thread Cert.BigInIdeal.nD Cert.BigInIdeal.τ).loc Cert.BigInIdeal.main_arg3)
          ∧ r.2.mem ((c.tc : Thread Cert.BigInIdeal.nD Cert.BigInIdeal.τ).loc Cert.BigInIdeal.main_arg4) = m ((c.tc : Thread Cert.BigInIdeal.nD Cert.BigInIdeal.τ).loc Cert.BigInIdeal.main_arg4)
          ∧ r.2.mem ((c.tc : Thread Cert.BigInIdeal.nD Cert.BigInIdeal.τ).loc Cert.BigInIdeal.main_arg5) = m ((c.tc : Thread Cert.BigInIdeal.nD Cert.BigInIdeal.τ).loc Cert.BigInIdeal.main_arg5)
          ∧ r.2.mem ((c.tc : Thread Cert.BigInIdeal.nD Cert.BigInIdeal.τ).loc Cert.BigInIdeal.main_arg6) = m ((c.tc : Thread Cert.BigInIdeal.nD Cert.BigInIdeal.τ).loc Cert.BigInIdeal.main_arg6)
          ∧ r.2.mem ((c.tc : Thread Cert.BigInIdeal.nD Cert.BigInIdeal.τ).loc Cert.BigInIdeal.main_arg7) = m ((c.tc : Thread Cert.BigInIdeal.nD Cert.BigInIdeal.τ).loc Cert.BigInIdeal.main_arg7))
      ∧ θ_run (Cert.BigInRefIdeal.defs (F := Ideal)) (onTc (τ := Cert.BigInRefIdeal.τ) (Cert.BigInRefIdeal.main (F := Ideal))) ⟨m', fun _ => 0, g'⟩ (fun r => ∀ c : Dev Cert.BigInRefIdeal.nD,
          r.2.mem ((c.tc : Thread Cert.BigInRefIdeal.nD Cert.BigInRefIdeal.τ).loc Cert.BigInRefIdeal.main_v33) = v0 c
          ∧ r.2.mem ((c.tc : Thread Cert.BigInRefIdeal.nD Cert.BigInRefIdeal.τ).loc Cert.BigInRefIdeal.main_v36) = v1 c
          ∧ r.2.mem ((c.tc : Thread Cert.BigInRefIdeal.nD Cert.BigInRefIdeal.τ).loc Cert.BigInRefIdeal.main_v39) = v2 c
          ∧ r.2.mem ((c.tc : Thread Cert.BigInRefIdeal.nD Cert.BigInRefIdeal.τ).loc Cert.BigInRefIdeal.main_v42) = v3 c
          ∧ r.2.mem ((c.tc : Thread Cert.BigInRefIdeal.nD Cert.BigInRefIdeal.τ).loc Cert.BigInRefIdeal.main_arg0) = m' ((c.tc : Thread Cert.BigInRefIdeal.nD Cert.BigInRefIdeal.τ).loc Cert.BigInRefIdeal.main_arg0)
          ∧ r.2.mem ((c.tc : Thread Cert.BigInRefIdeal.nD Cert.BigInRefIdeal.τ).loc Cert.BigInRefIdeal.main_arg1) = m' ((c.tc : Thread Cert.BigInRefIdeal.nD Cert.BigInRefIdeal.τ).loc Cert.BigInRefIdeal.main_arg1)
          ∧ r.2.mem ((c.tc : Thread Cert.BigInRefIdeal.nD Cert.BigInRefIdeal.τ).loc Cert.BigInRefIdeal.main_arg2) = m' ((c.tc : Thread Cert.BigInRefIdeal.nD Cert.BigInRefIdeal.τ).loc Cert.BigInRefIdeal.main_arg2)
          ∧ r.2.mem ((c.tc : Thread Cert.BigInRefIdeal.nD Cert.BigInRefIdeal.τ).loc Cert.BigInRefIdeal.main_arg3) = m' ((c.tc : Thread Cert.BigInRefIdeal.nD Cert.BigInRefIdeal.τ).loc Cert.BigInRefIdeal.main_arg3)
          ∧ r.2.mem ((c.tc : Thread Cert.BigInRefIdeal.nD Cert.BigInRefIdeal.τ).loc Cert.BigInRefIdeal.main_arg4) = m' ((c.tc : Thread Cert.BigInRefIdeal.nD Cert.BigInRefIdeal.τ).loc Cert.BigInRefIdeal.main_arg4)
          ∧ r.2.mem ((c.tc : Thread Cert.BigInRefIdeal.nD Cert.BigInRefIdeal.τ).loc Cert.BigInRefIdeal.main_arg5) = m' ((c.tc : Thread Cert.BigInRefIdeal.nD Cert.BigInRefIdeal.τ).loc Cert.BigInRefIdeal.main_arg5)
          ∧ r.2.mem ((c.tc : Thread Cert.BigInRefIdeal.nD Cert.BigInRefIdeal.τ).loc Cert.BigInRefIdeal.main_arg6) = m' ((c.tc : Thread Cert.BigInRefIdeal.nD Cert.BigInRefIdeal.τ).loc Cert.BigInRefIdeal.main_arg6)
          ∧ r.2.mem ((c.tc : Thread Cert.BigInRefIdeal.nD Cert.BigInRefIdeal.τ).loc Cert.BigInRefIdeal.main_arg7) = m' ((c.tc : Thread Cert.BigInRefIdeal.nD Cert.BigInRefIdeal.τ).loc Cert.BigInRefIdeal.main_arg7))

def preserves_BigOut_BigOutIdeal : Prop :=
  True

def algebraic_BigOutIdeal_BigOutRefIdeal [hBigOutIdeal : Cert.BigOutIdeal.Facts] [hBigOutRefIdeal : Cert.BigOutRefIdeal.Facts] : Prop :=
  ∀ (m : (ℓ : Loc Cert.BigOutIdeal.nD Cert.BigOutIdeal.τ Cert.BigOutIdeal.sig) → Buf (Elt Ideal) ℓ) (g : Dev Cert.BigOutIdeal.nD → PrngReg)
    (m' : (ℓ : Loc Cert.BigOutRefIdeal.nD Cert.BigOutRefIdeal.τ Cert.BigOutRefIdeal.sig) → Buf (Elt Ideal) ℓ) (g' : Dev Cert.BigOutRefIdeal.nD → PrngReg), Pre_BigOutIdeal m →
    (∀ c : Dev Cert.BigOutIdeal.nD,
      m' ((c.tc : Thread Cert.BigOutRefIdeal.nD Cert.BigOutRefIdeal.τ).loc Cert.BigOutRefIdeal.main_arg0) = m ((c.tc : Thread Cert.BigOutIdeal.nD Cert.BigOutIdeal.τ).loc Cert.BigOutIdeal.main_arg0)
      ∧ m' ((c.tc : Thread Cert.BigOutRefIdeal.nD Cert.BigOutRefIdeal.τ).loc Cert.BigOutRefIdeal.main_arg1) = m ((c.tc : Thread Cert.BigOutIdeal.nD Cert.BigOutIdeal.τ).loc Cert.BigOutIdeal.main_arg1)
      ∧ m' ((c.tc : Thread Cert.BigOutRefIdeal.nD Cert.BigOutRefIdeal.τ).loc Cert.BigOutRefIdeal.main_arg2) = m ((c.tc : Thread Cert.BigOutIdeal.nD Cert.BigOutIdeal.τ).loc Cert.BigOutIdeal.main_arg2)
      ∧ m' ((c.tc : Thread Cert.BigOutRefIdeal.nD Cert.BigOutRefIdeal.τ).loc Cert.BigOutRefIdeal.main_arg3) = m ((c.tc : Thread Cert.BigOutIdeal.nD Cert.BigOutIdeal.τ).loc Cert.BigOutIdeal.main_arg3)
      ∧ m' ((c.tc : Thread Cert.BigOutRefIdeal.nD Cert.BigOutRefIdeal.τ).loc Cert.BigOutRefIdeal.main_arg4) = m ((c.tc : Thread Cert.BigOutIdeal.nD Cert.BigOutIdeal.τ).loc Cert.BigOutIdeal.main_arg4)
      ∧ m' ((c.tc : Thread Cert.BigOutRefIdeal.nD Cert.BigOutRefIdeal.τ).loc Cert.BigOutRefIdeal.main_arg5) = m ((c.tc : Thread Cert.BigOutIdeal.nD Cert.BigOutIdeal.τ).loc Cert.BigOutIdeal.main_arg5)
      ∧ m' ((c.tc : Thread Cert.BigOutRefIdeal.nD Cert.BigOutRefIdeal.τ).loc Cert.BigOutRefIdeal.main_arg6) = m ((c.tc : Thread Cert.BigOutIdeal.nD Cert.BigOutIdeal.τ).loc Cert.BigOutIdeal.main_arg6)
      ∧ m' ((c.tc : Thread Cert.BigOutRefIdeal.nD Cert.BigOutRefIdeal.τ).loc Cert.BigOutRefIdeal.main_arg7) = m ((c.tc : Thread Cert.BigOutIdeal.nD Cert.BigOutIdeal.τ).loc Cert.BigOutIdeal.main_arg7)) →
    ∃ (v0 : (c : Dev Cert.BigOutIdeal.nD) → Buf (Elt Ideal) ((c.tc : Thread Cert.BigOutIdeal.nD Cert.BigOutIdeal.τ).loc Cert.BigOutIdeal.main_v0_0)) (v1 : (c : Dev Cert.BigOutIdeal.nD) → Buf (Elt Ideal) ((c.tc : Thread Cert.BigOutIdeal.nD Cert.BigOutIdeal.τ).loc Cert.BigOutIdeal.main_v0_1)) (v2 : (c : Dev Cert.BigOutIdeal.nD) → Buf (Elt Ideal) ((c.tc : Thread Cert.BigOutIdeal.nD Cert.BigOutIdeal.τ).loc Cert.BigOutIdeal.main_v0_2)) (v3 : (c : Dev Cert.BigOutIdeal.nD) → Buf (Elt Ideal) ((c.tc : Thread Cert.BigOutIdeal.nD Cert.BigOutIdeal.τ).loc Cert.BigOutIdeal.main_v0_3)),
      θ_run (Cert.BigOutIdeal.defs (F := Ideal)) (onTc (τ := Cert.BigOutIdeal.τ) (Cert.BigOutIdeal.main (F := Ideal))) ⟨m, fun _ => 0, g⟩ (fun r => ∀ c : Dev Cert.BigOutIdeal.nD,
          r.2.mem ((c.tc : Thread Cert.BigOutIdeal.nD Cert.BigOutIdeal.τ).loc Cert.BigOutIdeal.main_v0_0) = v0 c
          ∧ r.2.mem ((c.tc : Thread Cert.BigOutIdeal.nD Cert.BigOutIdeal.τ).loc Cert.BigOutIdeal.main_v0_1) = v1 c
          ∧ r.2.mem ((c.tc : Thread Cert.BigOutIdeal.nD Cert.BigOutIdeal.τ).loc Cert.BigOutIdeal.main_v0_2) = v2 c
          ∧ r.2.mem ((c.tc : Thread Cert.BigOutIdeal.nD Cert.BigOutIdeal.τ).loc Cert.BigOutIdeal.main_v0_3) = v3 c
          ∧ r.2.mem ((c.tc : Thread Cert.BigOutIdeal.nD Cert.BigOutIdeal.τ).loc Cert.BigOutIdeal.main_arg0) = m ((c.tc : Thread Cert.BigOutIdeal.nD Cert.BigOutIdeal.τ).loc Cert.BigOutIdeal.main_arg0)
          ∧ r.2.mem ((c.tc : Thread Cert.BigOutIdeal.nD Cert.BigOutIdeal.τ).loc Cert.BigOutIdeal.main_arg1) = m ((c.tc : Thread Cert.BigOutIdeal.nD Cert.BigOutIdeal.τ).loc Cert.BigOutIdeal.main_arg1)
          ∧ r.2.mem ((c.tc : Thread Cert.BigOutIdeal.nD Cert.BigOutIdeal.τ).loc Cert.BigOutIdeal.main_arg2) = m ((c.tc : Thread Cert.BigOutIdeal.nD Cert.BigOutIdeal.τ).loc Cert.BigOutIdeal.main_arg2)
          ∧ r.2.mem ((c.tc : Thread Cert.BigOutIdeal.nD Cert.BigOutIdeal.τ).loc Cert.BigOutIdeal.main_arg3) = m ((c.tc : Thread Cert.BigOutIdeal.nD Cert.BigOutIdeal.τ).loc Cert.BigOutIdeal.main_arg3)
          ∧ r.2.mem ((c.tc : Thread Cert.BigOutIdeal.nD Cert.BigOutIdeal.τ).loc Cert.BigOutIdeal.main_arg4) = m ((c.tc : Thread Cert.BigOutIdeal.nD Cert.BigOutIdeal.τ).loc Cert.BigOutIdeal.main_arg4)
          ∧ r.2.mem ((c.tc : Thread Cert.BigOutIdeal.nD Cert.BigOutIdeal.τ).loc Cert.BigOutIdeal.main_arg5) = m ((c.tc : Thread Cert.BigOutIdeal.nD Cert.BigOutIdeal.τ).loc Cert.BigOutIdeal.main_arg5)
          ∧ r.2.mem ((c.tc : Thread Cert.BigOutIdeal.nD Cert.BigOutIdeal.τ).loc Cert.BigOutIdeal.main_arg6) = m ((c.tc : Thread Cert.BigOutIdeal.nD Cert.BigOutIdeal.τ).loc Cert.BigOutIdeal.main_arg6)
          ∧ r.2.mem ((c.tc : Thread Cert.BigOutIdeal.nD Cert.BigOutIdeal.τ).loc Cert.BigOutIdeal.main_arg7) = m ((c.tc : Thread Cert.BigOutIdeal.nD Cert.BigOutIdeal.τ).loc Cert.BigOutIdeal.main_arg7))
      ∧ θ_run (Cert.BigOutRefIdeal.defs (F := Ideal)) (onTc (τ := Cert.BigOutRefIdeal.τ) (Cert.BigOutRefIdeal.main (F := Ideal))) ⟨m', fun _ => 0, g'⟩ (fun r => ∀ c : Dev Cert.BigOutRefIdeal.nD,
          r.2.mem ((c.tc : Thread Cert.BigOutRefIdeal.nD Cert.BigOutRefIdeal.τ).loc Cert.BigOutRefIdeal.main_v32) = v0 c
          ∧ r.2.mem ((c.tc : Thread Cert.BigOutRefIdeal.nD Cert.BigOutRefIdeal.τ).loc Cert.BigOutRefIdeal.main_v35) = v1 c
          ∧ r.2.mem ((c.tc : Thread Cert.BigOutRefIdeal.nD Cert.BigOutRefIdeal.τ).loc Cert.BigOutRefIdeal.main_v38) = v2 c
          ∧ r.2.mem ((c.tc : Thread Cert.BigOutRefIdeal.nD Cert.BigOutRefIdeal.τ).loc Cert.BigOutRefIdeal.main_v41) = v3 c
          ∧ r.2.mem ((c.tc : Thread Cert.BigOutRefIdeal.nD Cert.BigOutRefIdeal.τ).loc Cert.BigOutRefIdeal.main_arg0) = m' ((c.tc : Thread Cert.BigOutRefIdeal.nD Cert.BigOutRefIdeal.τ).loc Cert.BigOutRefIdeal.main_arg0)
          ∧ r.2.mem ((c.tc : Thread Cert.BigOutRefIdeal.nD Cert.BigOutRefIdeal.τ).loc Cert.BigOutRefIdeal.main_arg1) = m' ((c.tc : Thread Cert.BigOutRefIdeal.nD Cert.BigOutRefIdeal.τ).loc Cert.BigOutRefIdeal.main_arg1)
          ∧ r.2.mem ((c.tc : Thread Cert.BigOutRefIdeal.nD Cert.BigOutRefIdeal.τ).loc Cert.BigOutRefIdeal.main_arg2) = m' ((c.tc : Thread Cert.BigOutRefIdeal.nD Cert.BigOutRefIdeal.τ).loc Cert.BigOutRefIdeal.main_arg2)
          ∧ r.2.mem ((c.tc : Thread Cert.BigOutRefIdeal.nD Cert.BigOutRefIdeal.τ).loc Cert.BigOutRefIdeal.main_arg3) = m' ((c.tc : Thread Cert.BigOutRefIdeal.nD Cert.BigOutRefIdeal.τ).loc Cert.BigOutRefIdeal.main_arg3)
          ∧ r.2.mem ((c.tc : Thread Cert.BigOutRefIdeal.nD Cert.BigOutRefIdeal.τ).loc Cert.BigOutRefIdeal.main_arg4) = m' ((c.tc : Thread Cert.BigOutRefIdeal.nD Cert.BigOutRefIdeal.τ).loc Cert.BigOutRefIdeal.main_arg4)
          ∧ r.2.mem ((c.tc : Thread Cert.BigOutRefIdeal.nD Cert.BigOutRefIdeal.τ).loc Cert.BigOutRefIdeal.main_arg5) = m' ((c.tc : Thread Cert.BigOutRefIdeal.nD Cert.BigOutRefIdeal.τ).loc Cert.BigOutRefIdeal.main_arg5)
          ∧ r.2.mem ((c.tc : Thread Cert.BigOutRefIdeal.nD Cert.BigOutRefIdeal.τ).loc Cert.BigOutRefIdeal.main_arg6) = m' ((c.tc : Thread Cert.BigOutRefIdeal.nD Cert.BigOutRefIdeal.τ).loc Cert.BigOutRefIdeal.main_arg6)
          ∧ r.2.mem ((c.tc : Thread Cert.BigOutRefIdeal.nD Cert.BigOutRefIdeal.τ).loc Cert.BigOutRefIdeal.main_arg7) = m' ((c.tc : Thread Cert.BigOutRefIdeal.nD Cert.BigOutRefIdeal.τ).loc Cert.BigOutRefIdeal.main_arg7))

def preserves_BigUp_BigUpIdeal : Prop :=
  True

def algebraic_BigUpIdeal_BigUpRefIdeal [hBigUpIdeal : Cert.BigUpIdeal.Facts] [hBigUpRefIdeal : Cert.BigUpRefIdeal.Facts] : Prop :=
  ∀ (m : (ℓ : Loc Cert.BigUpIdeal.nD Cert.BigUpIdeal.τ Cert.BigUpIdeal.sig) → Buf (Elt Ideal) ℓ) (g : Dev Cert.BigUpIdeal.nD → PrngReg)
    (m' : (ℓ : Loc Cert.BigUpRefIdeal.nD Cert.BigUpRefIdeal.τ Cert.BigUpRefIdeal.sig) → Buf (Elt Ideal) ℓ) (g' : Dev Cert.BigUpRefIdeal.nD → PrngReg), Pre_BigUpIdeal m →
    (∀ c : Dev Cert.BigUpIdeal.nD,
      m' ((c.tc : Thread Cert.BigUpRefIdeal.nD Cert.BigUpRefIdeal.τ).loc Cert.BigUpRefIdeal.main_arg0) = m ((c.tc : Thread Cert.BigUpIdeal.nD Cert.BigUpIdeal.τ).loc Cert.BigUpIdeal.main_arg0)
      ∧ m' ((c.tc : Thread Cert.BigUpRefIdeal.nD Cert.BigUpRefIdeal.τ).loc Cert.BigUpRefIdeal.main_arg1) = m ((c.tc : Thread Cert.BigUpIdeal.nD Cert.BigUpIdeal.τ).loc Cert.BigUpIdeal.main_arg1)
      ∧ m' ((c.tc : Thread Cert.BigUpRefIdeal.nD Cert.BigUpRefIdeal.τ).loc Cert.BigUpRefIdeal.main_arg2) = m ((c.tc : Thread Cert.BigUpIdeal.nD Cert.BigUpIdeal.τ).loc Cert.BigUpIdeal.main_arg2)
      ∧ m' ((c.tc : Thread Cert.BigUpRefIdeal.nD Cert.BigUpRefIdeal.τ).loc Cert.BigUpRefIdeal.main_arg3) = m ((c.tc : Thread Cert.BigUpIdeal.nD Cert.BigUpIdeal.τ).loc Cert.BigUpIdeal.main_arg3)
      ∧ m' ((c.tc : Thread Cert.BigUpRefIdeal.nD Cert.BigUpRefIdeal.τ).loc Cert.BigUpRefIdeal.main_arg4) = m ((c.tc : Thread Cert.BigUpIdeal.nD Cert.BigUpIdeal.τ).loc Cert.BigUpIdeal.main_arg4)
      ∧ m' ((c.tc : Thread Cert.BigUpRefIdeal.nD Cert.BigUpRefIdeal.τ).loc Cert.BigUpRefIdeal.main_arg5) = m ((c.tc : Thread Cert.BigUpIdeal.nD Cert.BigUpIdeal.τ).loc Cert.BigUpIdeal.main_arg5)
      ∧ m' ((c.tc : Thread Cert.BigUpRefIdeal.nD Cert.BigUpRefIdeal.τ).loc Cert.BigUpRefIdeal.main_arg6) = m ((c.tc : Thread Cert.BigUpIdeal.nD Cert.BigUpIdeal.τ).loc Cert.BigUpIdeal.main_arg6)
      ∧ m' ((c.tc : Thread Cert.BigUpRefIdeal.nD Cert.BigUpRefIdeal.τ).loc Cert.BigUpRefIdeal.main_arg7) = m ((c.tc : Thread Cert.BigUpIdeal.nD Cert.BigUpIdeal.τ).loc Cert.BigUpIdeal.main_arg7)) →
    ∃ (v0 : (c : Dev Cert.BigUpIdeal.nD) → Buf (Elt Ideal) ((c.tc : Thread Cert.BigUpIdeal.nD Cert.BigUpIdeal.τ).loc Cert.BigUpIdeal.main_v1_0)) (v1 : (c : Dev Cert.BigUpIdeal.nD) → Buf (Elt Ideal) ((c.tc : Thread Cert.BigUpIdeal.nD Cert.BigUpIdeal.τ).loc Cert.BigUpIdeal.main_v1_1)) (v2 : (c : Dev Cert.BigUpIdeal.nD) → Buf (Elt Ideal) ((c.tc : Thread Cert.BigUpIdeal.nD Cert.BigUpIdeal.τ).loc Cert.BigUpIdeal.main_v1_2)) (v3 : (c : Dev Cert.BigUpIdeal.nD) → Buf (Elt Ideal) ((c.tc : Thread Cert.BigUpIdeal.nD Cert.BigUpIdeal.τ).loc Cert.BigUpIdeal.main_v1_3)),
      θ_run (Cert.BigUpIdeal.defs (F := Ideal)) (onTc (τ := Cert.BigUpIdeal.τ) (Cert.BigUpIdeal.main (F := Ideal))) ⟨m, fun _ => 0, g⟩ (fun r => ∀ c : Dev Cert.BigUpIdeal.nD,
          r.2.mem ((c.tc : Thread Cert.BigUpIdeal.nD Cert.BigUpIdeal.τ).loc Cert.BigUpIdeal.main_v1_0) = v0 c
          ∧ r.2.mem ((c.tc : Thread Cert.BigUpIdeal.nD Cert.BigUpIdeal.τ).loc Cert.BigUpIdeal.main_v1_1) = v1 c
          ∧ r.2.mem ((c.tc : Thread Cert.BigUpIdeal.nD Cert.BigUpIdeal.τ).loc Cert.BigUpIdeal.main_v1_2) = v2 c
          ∧ r.2.mem ((c.tc : Thread Cert.BigUpIdeal.nD Cert.BigUpIdeal.τ).loc Cert.BigUpIdeal.main_v1_3) = v3 c
          ∧ r.2.mem ((c.tc : Thread Cert.BigUpIdeal.nD Cert.BigUpIdeal.τ).loc Cert.BigUpIdeal.main_arg0) = m ((c.tc : Thread Cert.BigUpIdeal.nD Cert.BigUpIdeal.τ).loc Cert.BigUpIdeal.main_arg0)
          ∧ r.2.mem ((c.tc : Thread Cert.BigUpIdeal.nD Cert.BigUpIdeal.τ).loc Cert.BigUpIdeal.main_arg1) = m ((c.tc : Thread Cert.BigUpIdeal.nD Cert.BigUpIdeal.τ).loc Cert.BigUpIdeal.main_arg1)
          ∧ r.2.mem ((c.tc : Thread Cert.BigUpIdeal.nD Cert.BigUpIdeal.τ).loc Cert.BigUpIdeal.main_arg2) = m ((c.tc : Thread Cert.BigUpIdeal.nD Cert.BigUpIdeal.τ).loc Cert.BigUpIdeal.main_arg2)
          ∧ r.2.mem ((c.tc : Thread Cert.BigUpIdeal.nD Cert.BigUpIdeal.τ).loc Cert.BigUpIdeal.main_arg3) = m ((c.tc : Thread Cert.BigUpIdeal.nD Cert.BigUpIdeal.τ).loc Cert.BigUpIdeal.main_arg3)
          ∧ r.2.mem ((c.tc : Thread Cert.BigUpIdeal.nD Cert.BigUpIdeal.τ).loc Cert.BigUpIdeal.main_arg4) = m ((c.tc : Thread Cert.BigUpIdeal.nD Cert.BigUpIdeal.τ).loc Cert.BigUpIdeal.main_arg4)
          ∧ r.2.mem ((c.tc : Thread Cert.BigUpIdeal.nD Cert.BigUpIdeal.τ).loc Cert.BigUpIdeal.main_arg5) = m ((c.tc : Thread Cert.BigUpIdeal.nD Cert.BigUpIdeal.τ).loc Cert.BigUpIdeal.main_arg5)
          ∧ r.2.mem ((c.tc : Thread Cert.BigUpIdeal.nD Cert.BigUpIdeal.τ).loc Cert.BigUpIdeal.main_arg6) = m ((c.tc : Thread Cert.BigUpIdeal.nD Cert.BigUpIdeal.τ).loc Cert.BigUpIdeal.main_arg6)
          ∧ r.2.mem ((c.tc : Thread Cert.BigUpIdeal.nD Cert.BigUpIdeal.τ).loc Cert.BigUpIdeal.main_arg7) = m ((c.tc : Thread Cert.BigUpIdeal.nD Cert.BigUpIdeal.τ).loc Cert.BigUpIdeal.main_arg7))
      ∧ θ_run (Cert.BigUpRefIdeal.defs (F := Ideal)) (onTc (τ := Cert.BigUpRefIdeal.τ) (Cert.BigUpRefIdeal.main (F := Ideal))) ⟨m', fun _ => 0, g'⟩ (fun r => ∀ c : Dev Cert.BigUpRefIdeal.nD,
          r.2.mem ((c.tc : Thread Cert.BigUpRefIdeal.nD Cert.BigUpRefIdeal.τ).loc Cert.BigUpRefIdeal.main_v33) = v0 c
          ∧ r.2.mem ((c.tc : Thread Cert.BigUpRefIdeal.nD Cert.BigUpRefIdeal.τ).loc Cert.BigUpRefIdeal.main_v36) = v1 c
          ∧ r.2.mem ((c.tc : Thread Cert.BigUpRefIdeal.nD Cert.BigUpRefIdeal.τ).loc Cert.BigUpRefIdeal.main_v39) = v2 c
          ∧ r.2.mem ((c.tc : Thread Cert.BigUpRefIdeal.nD Cert.BigUpRefIdeal.τ).loc Cert.BigUpRefIdeal.main_v42) = v3 c
          ∧ r.2.mem ((c.tc : Thread Cert.BigUpRefIdeal.nD Cert.BigUpRefIdeal.τ).loc Cert.BigUpRefIdeal.main_arg0) = m' ((c.tc : Thread Cert.BigUpRefIdeal.nD Cert.BigUpRefIdeal.τ).loc Cert.BigUpRefIdeal.main_arg0)
          ∧ r.2.mem ((c.tc : Thread Cert.BigUpRefIdeal.nD Cert.BigUpRefIdeal.τ).loc Cert.BigUpRefIdeal.main_arg1) = m' ((c.tc : Thread Cert.BigUpRefIdeal.nD Cert.BigUpRefIdeal.τ).loc Cert.BigUpRefIdeal.main_arg1)
          ∧ r.2.mem ((c.tc : Thread Cert.BigUpRefIdeal.nD Cert.BigUpRefIdeal.τ).loc Cert.BigUpRefIdeal.main_arg2) = m' ((c.tc : Thread Cert.BigUpRefIdeal.nD Cert.BigUpRefIdeal.τ).loc Cert.BigUpRefIdeal.main_arg2)
          ∧ r.2.mem ((c.tc : Thread Cert.BigUpRefIdeal.nD Cert.BigUpRefIdeal.τ).loc Cert.BigUpRefIdeal.main_arg3) = m' ((c.tc : Thread Cert.BigUpRefIdeal.nD Cert.BigUpRefIdeal.τ).loc Cert.BigUpRefIdeal.main_arg3)
          ∧ r.2.mem ((c.tc : Thread Cert.BigUpRefIdeal.nD Cert.BigUpRefIdeal.τ).loc Cert.BigUpRefIdeal.main_arg4) = m' ((c.tc : Thread Cert.BigUpRefIdeal.nD Cert.BigUpRefIdeal.τ).loc Cert.BigUpRefIdeal.main_arg4)
          ∧ r.2.mem ((c.tc : Thread Cert.BigUpRefIdeal.nD Cert.BigUpRefIdeal.τ).loc Cert.BigUpRefIdeal.main_arg5) = m' ((c.tc : Thread Cert.BigUpRefIdeal.nD Cert.BigUpRefIdeal.τ).loc Cert.BigUpRefIdeal.main_arg5)
          ∧ r.2.mem ((c.tc : Thread Cert.BigUpRefIdeal.nD Cert.BigUpRefIdeal.τ).loc Cert.BigUpRefIdeal.main_arg6) = m' ((c.tc : Thread Cert.BigUpRefIdeal.nD Cert.BigUpRefIdeal.τ).loc Cert.BigUpRefIdeal.main_arg6)
          ∧ r.2.mem ((c.tc : Thread Cert.BigUpRefIdeal.nD Cert.BigUpRefIdeal.τ).loc Cert.BigUpRefIdeal.main_arg7) = m' ((c.tc : Thread Cert.BigUpRefIdeal.nD Cert.BigUpRefIdeal.τ).loc Cert.BigUpRefIdeal.main_arg7))

def preserves_BigDown_BigDownIdeal : Prop :=
  True

def algebraic_BigDownIdeal_BigDownRefIdeal [hBigDownIdeal : Cert.BigDownIdeal.Facts] [hBigDownRefIdeal : Cert.BigDownRefIdeal.Facts] : Prop :=
  ∀ (m : (ℓ : Loc Cert.BigDownIdeal.nD Cert.BigDownIdeal.τ Cert.BigDownIdeal.sig) → Buf (Elt Ideal) ℓ) (g : Dev Cert.BigDownIdeal.nD → PrngReg)
    (m' : (ℓ : Loc Cert.BigDownRefIdeal.nD Cert.BigDownRefIdeal.τ Cert.BigDownRefIdeal.sig) → Buf (Elt Ideal) ℓ) (g' : Dev Cert.BigDownRefIdeal.nD → PrngReg), Pre_BigDownIdeal m →
    (∀ c : Dev Cert.BigDownIdeal.nD,
      m' ((c.tc : Thread Cert.BigDownRefIdeal.nD Cert.BigDownRefIdeal.τ).loc Cert.BigDownRefIdeal.main_arg0) = m ((c.tc : Thread Cert.BigDownIdeal.nD Cert.BigDownIdeal.τ).loc Cert.BigDownIdeal.main_arg0)
      ∧ m' ((c.tc : Thread Cert.BigDownRefIdeal.nD Cert.BigDownRefIdeal.τ).loc Cert.BigDownRefIdeal.main_arg1) = m ((c.tc : Thread Cert.BigDownIdeal.nD Cert.BigDownIdeal.τ).loc Cert.BigDownIdeal.main_arg1)
      ∧ m' ((c.tc : Thread Cert.BigDownRefIdeal.nD Cert.BigDownRefIdeal.τ).loc Cert.BigDownRefIdeal.main_arg2) = m ((c.tc : Thread Cert.BigDownIdeal.nD Cert.BigDownIdeal.τ).loc Cert.BigDownIdeal.main_arg2)
      ∧ m' ((c.tc : Thread Cert.BigDownRefIdeal.nD Cert.BigDownRefIdeal.τ).loc Cert.BigDownRefIdeal.main_arg3) = m ((c.tc : Thread Cert.BigDownIdeal.nD Cert.BigDownIdeal.τ).loc Cert.BigDownIdeal.main_arg3)
      ∧ m' ((c.tc : Thread Cert.BigDownRefIdeal.nD Cert.BigDownRefIdeal.τ).loc Cert.BigDownRefIdeal.main_arg4) = m ((c.tc : Thread Cert.BigDownIdeal.nD Cert.BigDownIdeal.τ).loc Cert.BigDownIdeal.main_arg4)
      ∧ m' ((c.tc : Thread Cert.BigDownRefIdeal.nD Cert.BigDownRefIdeal.τ).loc Cert.BigDownRefIdeal.main_arg5) = m ((c.tc : Thread Cert.BigDownIdeal.nD Cert.BigDownIdeal.τ).loc Cert.BigDownIdeal.main_arg5)
      ∧ m' ((c.tc : Thread Cert.BigDownRefIdeal.nD Cert.BigDownRefIdeal.τ).loc Cert.BigDownRefIdeal.main_arg6) = m ((c.tc : Thread Cert.BigDownIdeal.nD Cert.BigDownIdeal.τ).loc Cert.BigDownIdeal.main_arg6)
      ∧ m' ((c.tc : Thread Cert.BigDownRefIdeal.nD Cert.BigDownRefIdeal.τ).loc Cert.BigDownRefIdeal.main_arg7) = m ((c.tc : Thread Cert.BigDownIdeal.nD Cert.BigDownIdeal.τ).loc Cert.BigDownIdeal.main_arg7)) →
    ∃ (v0 : (c : Dev Cert.BigDownIdeal.nD) → Buf (Elt Ideal) ((c.tc : Thread Cert.BigDownIdeal.nD Cert.BigDownIdeal.τ).loc Cert.BigDownIdeal.main_v0_0)) (v1 : (c : Dev Cert.BigDownIdeal.nD) → Buf (Elt Ideal) ((c.tc : Thread Cert.BigDownIdeal.nD Cert.BigDownIdeal.τ).loc Cert.BigDownIdeal.main_v0_1)) (v2 : (c : Dev Cert.BigDownIdeal.nD) → Buf (Elt Ideal) ((c.tc : Thread Cert.BigDownIdeal.nD Cert.BigDownIdeal.τ).loc Cert.BigDownIdeal.main_v0_2)) (v3 : (c : Dev Cert.BigDownIdeal.nD) → Buf (Elt Ideal) ((c.tc : Thread Cert.BigDownIdeal.nD Cert.BigDownIdeal.τ).loc Cert.BigDownIdeal.main_v0_3)),
      θ_run (Cert.BigDownIdeal.defs (F := Ideal)) (onTc (τ := Cert.BigDownIdeal.τ) (Cert.BigDownIdeal.main (F := Ideal))) ⟨m, fun _ => 0, g⟩ (fun r => ∀ c : Dev Cert.BigDownIdeal.nD,
          r.2.mem ((c.tc : Thread Cert.BigDownIdeal.nD Cert.BigDownIdeal.τ).loc Cert.BigDownIdeal.main_v0_0) = v0 c
          ∧ r.2.mem ((c.tc : Thread Cert.BigDownIdeal.nD Cert.BigDownIdeal.τ).loc Cert.BigDownIdeal.main_v0_1) = v1 c
          ∧ r.2.mem ((c.tc : Thread Cert.BigDownIdeal.nD Cert.BigDownIdeal.τ).loc Cert.BigDownIdeal.main_v0_2) = v2 c
          ∧ r.2.mem ((c.tc : Thread Cert.BigDownIdeal.nD Cert.BigDownIdeal.τ).loc Cert.BigDownIdeal.main_v0_3) = v3 c
          ∧ r.2.mem ((c.tc : Thread Cert.BigDownIdeal.nD Cert.BigDownIdeal.τ).loc Cert.BigDownIdeal.main_arg0) = m ((c.tc : Thread Cert.BigDownIdeal.nD Cert.BigDownIdeal.τ).loc Cert.BigDownIdeal.main_arg0)
          ∧ r.2.mem ((c.tc : Thread Cert.BigDownIdeal.nD Cert.BigDownIdeal.τ).loc Cert.BigDownIdeal.main_arg1) = m ((c.tc : Thread Cert.BigDownIdeal.nD Cert.BigDownIdeal.τ).loc Cert.BigDownIdeal.main_arg1)
          ∧ r.2.mem ((c.tc : Thread Cert.BigDownIdeal.nD Cert.BigDownIdeal.τ).loc Cert.BigDownIdeal.main_arg2) = m ((c.tc : Thread Cert.BigDownIdeal.nD Cert.BigDownIdeal.τ).loc Cert.BigDownIdeal.main_arg2)
          ∧ r.2.mem ((c.tc : Thread Cert.BigDownIdeal.nD Cert.BigDownIdeal.τ).loc Cert.BigDownIdeal.main_arg3) = m ((c.tc : Thread Cert.BigDownIdeal.nD Cert.BigDownIdeal.τ).loc Cert.BigDownIdeal.main_arg3)
          ∧ r.2.mem ((c.tc : Thread Cert.BigDownIdeal.nD Cert.BigDownIdeal.τ).loc Cert.BigDownIdeal.main_arg4) = m ((c.tc : Thread Cert.BigDownIdeal.nD Cert.BigDownIdeal.τ).loc Cert.BigDownIdeal.main_arg4)
          ∧ r.2.mem ((c.tc : Thread Cert.BigDownIdeal.nD Cert.BigDownIdeal.τ).loc Cert.BigDownIdeal.main_arg5) = m ((c.tc : Thread Cert.BigDownIdeal.nD Cert.BigDownIdeal.τ).loc Cert.BigDownIdeal.main_arg5)
          ∧ r.2.mem ((c.tc : Thread Cert.BigDownIdeal.nD Cert.BigDownIdeal.τ).loc Cert.BigDownIdeal.main_arg6) = m ((c.tc : Thread Cert.BigDownIdeal.nD Cert.BigDownIdeal.τ).loc Cert.BigDownIdeal.main_arg6)
          ∧ r.2.mem ((c.tc : Thread Cert.BigDownIdeal.nD Cert.BigDownIdeal.τ).loc Cert.BigDownIdeal.main_arg7) = m ((c.tc : Thread Cert.BigDownIdeal.nD Cert.BigDownIdeal.τ).loc Cert.BigDownIdeal.main_arg7))
      ∧ θ_run (Cert.BigDownRefIdeal.defs (F := Ideal)) (onTc (τ := Cert.BigDownRefIdeal.τ) (Cert.BigDownRefIdeal.main (F := Ideal))) ⟨m', fun _ => 0, g'⟩ (fun r => ∀ c : Dev Cert.BigDownRefIdeal.nD,
          r.2.mem ((c.tc : Thread Cert.BigDownRefIdeal.nD Cert.BigDownRefIdeal.τ).loc Cert.BigDownRefIdeal.main_v32) = v0 c
          ∧ r.2.mem ((c.tc : Thread Cert.BigDownRefIdeal.nD Cert.BigDownRefIdeal.τ).loc Cert.BigDownRefIdeal.main_v35) = v1 c
          ∧ r.2.mem ((c.tc : Thread Cert.BigDownRefIdeal.nD Cert.BigDownRefIdeal.τ).loc Cert.BigDownRefIdeal.main_v38) = v2 c
          ∧ r.2.mem ((c.tc : Thread Cert.BigDownRefIdeal.nD Cert.BigDownRefIdeal.τ).loc Cert.BigDownRefIdeal.main_v41) = v3 c
          ∧ r.2.mem ((c.tc : Thread Cert.BigDownRefIdeal.nD Cert.BigDownRefIdeal.τ).loc Cert.BigDownRefIdeal.main_arg0) = m' ((c.tc : Thread Cert.BigDownRefIdeal.nD Cert.BigDownRefIdeal.τ).loc Cert.BigDownRefIdeal.main_arg0)
          ∧ r.2.mem ((c.tc : Thread Cert.BigDownRefIdeal.nD Cert.BigDownRefIdeal.τ).loc Cert.BigDownRefIdeal.main_arg1) = m' ((c.tc : Thread Cert.BigDownRefIdeal.nD Cert.BigDownRefIdeal.τ).loc Cert.BigDownRefIdeal.main_arg1)
          ∧ r.2.mem ((c.tc : Thread Cert.BigDownRefIdeal.nD Cert.BigDownRefIdeal.τ).loc Cert.BigDownRefIdeal.main_arg2) = m' ((c.tc : Thread Cert.BigDownRefIdeal.nD Cert.BigDownRefIdeal.τ).loc Cert.BigDownRefIdeal.main_arg2)
          ∧ r.2.mem ((c.tc : Thread Cert.BigDownRefIdeal.nD Cert.BigDownRefIdeal.τ).loc Cert.BigDownRefIdeal.main_arg3) = m' ((c.tc : Thread Cert.BigDownRefIdeal.nD Cert.BigDownRefIdeal.τ).loc Cert.BigDownRefIdeal.main_arg3)
          ∧ r.2.mem ((c.tc : Thread Cert.BigDownRefIdeal.nD Cert.BigDownRefIdeal.τ).loc Cert.BigDownRefIdeal.main_arg4) = m' ((c.tc : Thread Cert.BigDownRefIdeal.nD Cert.BigDownRefIdeal.τ).loc Cert.BigDownRefIdeal.main_arg4)
          ∧ r.2.mem ((c.tc : Thread Cert.BigDownRefIdeal.nD Cert.BigDownRefIdeal.τ).loc Cert.BigDownRefIdeal.main_arg5) = m' ((c.tc : Thread Cert.BigDownRefIdeal.nD Cert.BigDownRefIdeal.τ).loc Cert.BigDownRefIdeal.main_arg5)
          ∧ r.2.mem ((c.tc : Thread Cert.BigDownRefIdeal.nD Cert.BigDownRefIdeal.τ).loc Cert.BigDownRefIdeal.main_arg6) = m' ((c.tc : Thread Cert.BigDownRefIdeal.nD Cert.BigDownRefIdeal.τ).loc Cert.BigDownRefIdeal.main_arg6)
          ∧ r.2.mem ((c.tc : Thread Cert.BigDownRefIdeal.nD Cert.BigDownRefIdeal.τ).loc Cert.BigDownRefIdeal.main_arg7) = m' ((c.tc : Thread Cert.BigDownRefIdeal.nD Cert.BigDownRefIdeal.τ).loc Cert.BigDownRefIdeal.main_arg7))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v1) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v1) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_Total_TotalIdeal : Prop :=
  True

def algebraic_TotalIdeal_TotalRefIdeal [hTotalIdeal : Cert.TotalIdeal.Facts] [hTotalRefIdeal : Cert.TotalRefIdeal.Facts] : Prop :=
  ∀ (m : (ℓ : Loc Cert.TotalIdeal.nD Cert.TotalIdeal.τ Cert.TotalIdeal.sig) → Buf (Elt Ideal) ℓ) (g : Dev Cert.TotalIdeal.nD → PrngReg)
    (m' : (ℓ : Loc Cert.TotalRefIdeal.nD Cert.TotalRefIdeal.τ Cert.TotalRefIdeal.sig) → Buf (Elt Ideal) ℓ) (g' : Dev Cert.TotalRefIdeal.nD → PrngReg), Pre_TotalIdeal m →
    (∀ c : Dev Cert.TotalIdeal.nD,
      m' ((c.tc : Thread Cert.TotalRefIdeal.nD Cert.TotalRefIdeal.τ).loc Cert.TotalRefIdeal.main_arg0) = m ((c.tc : Thread Cert.TotalIdeal.nD Cert.TotalIdeal.τ).loc Cert.TotalIdeal.main_arg0)
      ∧ m' ((c.tc : Thread Cert.TotalRefIdeal.nD Cert.TotalRefIdeal.τ).loc Cert.TotalRefIdeal.main_arg1) = m ((c.tc : Thread Cert.TotalIdeal.nD Cert.TotalIdeal.τ).loc Cert.TotalIdeal.main_arg1)) →
    ∃ (v0 : (c : Dev Cert.TotalIdeal.nD) → Buf (Elt Ideal) ((c.tc : Thread Cert.TotalIdeal.nD Cert.TotalIdeal.τ).loc Cert.TotalIdeal.main_v6)),
      θ_run (Cert.TotalIdeal.defs (F := Ideal)) (onTc (τ := Cert.TotalIdeal.τ) (Cert.TotalIdeal.main (F := Ideal))) ⟨m, fun _ => 0, g⟩ (fun r => ∀ c : Dev Cert.TotalIdeal.nD,
          r.2.mem ((c.tc : Thread Cert.TotalIdeal.nD Cert.TotalIdeal.τ).loc Cert.TotalIdeal.main_v6) = v0 c
          ∧ r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
          ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1))
      ∧ θ_run (Cert.TotalRefIdeal.defs (F := Ideal)) (onTc (τ := Cert.TotalRefIdeal.τ) (Cert.TotalRefIdeal.main (F := Ideal))) ⟨m', fun _ => 0, g'⟩ (fun r => ∀ c : Dev Cert.TotalRefIdeal.nD,
          r.2.mem ((c.tc : Thread Cert.TotalRefIdeal.nD Cert.TotalRefIdeal.τ).loc Cert.TotalRefIdeal.main_v9) = v0 c
          ∧ r.2.mem ((c.tc : Thread Cert.TotalRefIdeal.nD Cert.TotalRefIdeal.τ).loc Cert.TotalRefIdeal.main_arg0) = m' ((c.tc : Thread Cert.TotalRefIdeal.nD Cert.TotalRefIdeal.τ).loc Cert.TotalRefIdeal.main_arg0)
          ∧ r.2.mem ((c.tc : Thread Cert.TotalRefIdeal.nD Cert.TotalRefIdeal.τ).loc Cert.TotalRefIdeal.main_arg1) = m' ((c.tc : Thread Cert.TotalRefIdeal.nD Cert.TotalRefIdeal.τ).loc Cert.TotalRefIdeal.main_arg1))

def Claim : Prop :=
  ∃ (hConv : Cert.Conv.Facts) (hConvIdeal : Cert.ConvIdeal.Facts) (hConvRefIdeal : Cert.ConvRefIdeal.Facts) (hStick : Cert.Stick.Facts) (hStickIdeal : Cert.StickIdeal.Facts) (hStickRefIdeal : Cert.StickRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hSmall : Cert.Small.Facts) (hSmallIdeal : Cert.SmallIdeal.Facts) (hSmallRefIdeal : Cert.SmallRefIdeal.Facts) (hBigIn : Cert.BigIn.Facts) (hBigInIdeal : Cert.BigInIdeal.Facts) (hBigInRefIdeal : Cert.BigInRefIdeal.Facts) (hBigOut : Cert.BigOut.Facts) (hBigOutIdeal : Cert.BigOutIdeal.Facts) (hBigOutRefIdeal : Cert.BigOutRefIdeal.Facts) (hBigUp : Cert.BigUp.Facts) (hBigUpIdeal : Cert.BigUpIdeal.Facts) (hBigUpRefIdeal : Cert.BigUpRefIdeal.Facts) (hBigDown : Cert.BigDown.Facts) (hBigDownIdeal : Cert.BigDownIdeal.Facts) (hBigDownRefIdeal : Cert.BigDownRefIdeal.Facts) (hSumSmall : Cert.SumSmall.Facts) (hSumSmallIdeal : Cert.SumSmallIdeal.Facts) (hSumSmallRefIdeal : Cert.SumSmallRefIdeal.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hNormFwd : Cert.NormFwd.Facts) (hNormFwdIdeal : Cert.NormFwdIdeal.Facts) (hNormFwdRefIdeal : Cert.NormFwdRefIdeal.Facts) (hTotal : Cert.Total.Facts) (hTotalIdeal : Cert.TotalIdeal.Facts) (hTotalRefIdeal : Cert.TotalRefIdeal.Facts) (hPre_finite : Cert.Pre_finite.Facts) (hPre_stick_finite : Cert.Pre_stick_finite.Facts),
    quiescent_Conv (hConv := hConv)
    ∧ quiescent_ConvIdeal (hConvIdeal := hConvIdeal)
    ∧ quiescent_ConvIdeal_pre_finite (hConvIdeal := hConvIdeal) (hPre_finite := hPre_finite)
    ∧ quiescent_ConvRefIdeal (hConvRefIdeal := hConvRefIdeal)
    ∧ quiescent_ConvRefIdeal_pre_finite (hConvRefIdeal := hConvRefIdeal) (hPre_finite := hPre_finite)
    ∧ quiescent_Stick (hStick := hStick)
    ∧ quiescent_StickIdeal (hStickIdeal := hStickIdeal)
    ∧ quiescent_StickIdeal_pre_stick_finite (hStickIdeal := hStickIdeal) (hPre_stick_finite := hPre_stick_finite)
    ∧ quiescent_StickRefIdeal (hStickRefIdeal := hStickRefIdeal)
    ∧ quiescent_StickRefIdeal_pre_stick_finite (hStickRefIdeal := hStickRefIdeal) (hPre_stick_finite := hPre_stick_finite)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_Norm (hNorm := hNorm)
    ∧ quiescent_NormIdeal (hNormIdeal := hNormIdeal)
    ∧ quiescent_NormRefIdeal (hNormRefIdeal := hNormRefIdeal)
    ∧ quiescent_Loss (hLoss := hLoss)
    ∧ quiescent_LossIdeal (hLossIdeal := hLossIdeal)
    ∧ quiescent_LossRefIdeal (hLossRefIdeal := hLossRefIdeal)
    ∧ quiescent_Small (hSmall := hSmall)
    ∧ quiescent_SmallIdeal (hSmallIdeal := hSmallIdeal)
    ∧ quiescent_SmallRefIdeal (hSmallRefIdeal := hSmallRefIdeal)
    ∧ quiescent_BigIn (hBigIn := hBigIn)
    ∧ quiescent_BigInIdeal (hBigInIdeal := hBigInIdeal)
    ∧ quiescent_BigInRefIdeal (hBigInRefIdeal := hBigInRefIdeal)
    ∧ quiescent_BigOut (hBigOut := hBigOut)
    ∧ quiescent_BigOutIdeal (hBigOutIdeal := hBigOutIdeal)
    ∧ quiescent_BigOutRefIdeal (hBigOutRefIdeal := hBigOutRefIdeal)
    ∧ quiescent_BigUp (hBigUp := hBigUp)
    ∧ quiescent_BigUpIdeal (hBigUpIdeal := hBigUpIdeal)
    ∧ quiescent_BigUpRefIdeal (hBigUpRefIdeal := hBigUpRefIdeal)
    ∧ quiescent_BigDown (hBigDown := hBigDown)
    ∧ quiescent_BigDownIdeal (hBigDownIdeal := hBigDownIdeal)
    ∧ quiescent_BigDownRefIdeal (hBigDownRefIdeal := hBigDownRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_Total (hTotal := hTotal)
    ∧ quiescent_TotalIdeal (hTotalIdeal := hTotalIdeal)
    ∧ quiescent_TotalRefIdeal (hTotalRefIdeal := hTotalRefIdeal)
    ∧ preserves_Conv_ConvIdeal
    ∧ algebraic_ConvIdeal_ConvRefIdeal_pre_finite (hConvIdeal := hConvIdeal) (hConvRefIdeal := hConvRefIdeal) (hPre_finite := hPre_finite)
    ∧ preserves_Stick_StickIdeal
    ∧ algebraic_StickIdeal_StickRefIdeal_pre_stick_finite (hStickIdeal := hStickIdeal) (hStickRefIdeal := hStickRefIdeal) (hPre_stick_finite := hPre_stick_finite)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_Norm_NormIdeal
    ∧ algebraic_NormIdeal_NormRefIdeal (hNormIdeal := hNormIdeal) (hNormRefIdeal := hNormRefIdeal)
    ∧ preserves_Loss_LossIdeal
    ∧ algebraic_LossIdeal_LossRefIdeal (hLossIdeal := hLossIdeal) (hLossRefIdeal := hLossRefIdeal)
    ∧ preserves_Small_SmallIdeal
    ∧ algebraic_SmallIdeal_SmallRefIdeal (hSmallIdeal := hSmallIdeal) (hSmallRefIdeal := hSmallRefIdeal)
    ∧ preserves_BigIn_BigInIdeal
    ∧ algebraic_BigInIdeal_BigInRefIdeal (hBigInIdeal := hBigInIdeal) (hBigInRefIdeal := hBigInRefIdeal)
    ∧ preserves_BigOut_BigOutIdeal
    ∧ algebraic_BigOutIdeal_BigOutRefIdeal (hBigOutIdeal := hBigOutIdeal) (hBigOutRefIdeal := hBigOutRefIdeal)
    ∧ preserves_BigUp_BigUpIdeal
    ∧ algebraic_BigUpIdeal_BigUpRefIdeal (hBigUpIdeal := hBigUpIdeal) (hBigUpRefIdeal := hBigUpRefIdeal)
    ∧ preserves_BigDown_BigDownIdeal
    ∧ algebraic_BigDownIdeal_BigDownRefIdeal (hBigDownIdeal := hBigDownIdeal) (hBigDownRefIdeal := hBigDownRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumUp_SumUpIdeal
    ∧ algebraic_SumUpIdeal_SumUpRefIdeal (hSumUpIdeal := hSumUpIdeal) (hSumUpRefIdeal := hSumUpRefIdeal)
    ∧ preserves_SumDown_SumDownIdeal
    ∧ algebraic_SumDownIdeal_SumDownRefIdeal (hSumDownIdeal := hSumDownIdeal) (hSumDownRefIdeal := hSumDownRefIdeal)
    ∧ preserves_NormFwd_NormFwdIdeal
    ∧ algebraic_NormFwdIdeal_NormFwdRefIdeal (hNormFwdIdeal := hNormFwdIdeal) (hNormFwdRefIdeal := hNormFwdRefIdeal)
    ∧ preserves_Total_TotalIdeal
    ∧ algebraic_TotalIdeal_TotalRefIdeal (hTotalIdeal := hTotalIdeal) (hTotalRefIdeal := hTotalRefIdeal)
-- ==== Pre_finite.lean ====
abbrev S4096x11264 : Shape := ⟨2, ![4096, 11264]⟩
abbrev S4096x5632 : Shape := ⟨2, ![4096, 5632]⟩
abbrev S3x11264 : Shape := ⟨2, ![3, 11264]⟩
abbrev S1x11264 : Shape := ⟨2, ![1, 11264]⟩
abbrev S_ : Shape := ⟨0, ![]⟩

class Facts : Prop where
  bcast_S_S4096x11264 : S_.BroadcastsInDim S4096x11264 (![] : Fin 0 → Fin S4096x11264.rank)
  reducesTo_S4096x11264_S_d0_1 : S4096x11264.ReducesTo [0, 1] S_
  h_S_ : 0 < S_.numel
  bcast_S_S4096x5632 : S_.BroadcastsInDim S4096x5632 (![] : Fin 0 → Fin S4096x5632.rank)
  reducesTo_S4096x5632_S_d0_1 : S4096x5632.ReducesTo [0, 1] S_
  bcast_S_S3x11264 : S_.BroadcastsInDim S3x11264 (![] : Fin 0 → Fin S3x11264.rank)
  reducesTo_S3x11264_S_d0_1 : S3x11264.ReducesTo [0, 1] S_
  bcast_S_S1x11264 : S_.BroadcastsInDim S1x11264 (![] : Fin 0 → Fin S1x11264.rank)
  reducesTo_S1x11264_S_d0_1 : S1x11264.ReducesTo [0, 1] S_

variable [Facts]

def fn_part1 {F : FTy → Type} [FloatOps F] (main_v13 : IVec S_ 1) (main_v16 : IVec S1x11264 1) : IVec S_ 1 :=
  let main_c_5 : IVec S_ 1 := constantI S_ 1 1#1
  let main_v17 : IVec S_ 1 := (fun x v => Host.reduce IntOp.andi x v reducesTo_S1x11264_S_d0_1 h_S_) main_v16 main_c_5
  let main_v18 : IVec S_ 1 := andi main_v13 main_v17
  main_v18

def fn {F : FTy → Type} [FloatOps F] (main_arg0 : FVec F S4096x11264 .f32) (main_arg1 : FVec F S4096x5632 .f32) (main_arg2 : FVec F S3x11264 .f32) (main_arg3 : FVec F S1x11264 .f32) : IVec S_ 1 :=
  let main_v0 : FVec F S4096x11264 .f32 := Host.absf main_arg0
  let main_cst : FVec F S_ .f32 := constant S_ .f32 0x7F800000#32
  let main_v1 : FVec F S4096x11264 .f32 := broadcastInDim S4096x11264 ![] bcast_S_S4096x11264 main_cst
  let main_v2 : IVec S4096x11264 1 := cmpf .olt main_v0 main_v1
  let main_c : IVec S_ 1 := constantI S_ 1 1#1
  let main_v3 : IVec S_ 1 := (fun x v => Host.reduce IntOp.andi x v reducesTo_S4096x11264_S_d0_1 h_S_) main_v2 main_c
  let main_v4 : FVec F S4096x5632 .f32 := Host.absf main_arg1
  let main_cst_0 : FVec F S_ .f32 := constant S_ .f32 0x7F800000#32
  let main_v5 : FVec F S4096x5632 .f32 := broadcastInDim S4096x5632 ![] bcast_S_S4096x5632 main_cst_0
  let main_v6 : IVec S4096x5632 1 := cmpf .olt main_v4 main_v5
  let main_c_1 : IVec S_ 1 := constantI S_ 1 1#1
  let main_v7 : IVec S_ 1 := (fun x v => Host.reduce IntOp.andi x v reducesTo_S4096x5632_S_d0_1 h_S_) main_v6 main_c_1
  let main_v8 : IVec S_ 1 := andi main_v3 main_v7
  let main_v9 : FVec F S3x11264 .f32 := Host.absf main_arg2
  let main_cst_2 : FVec F S_ .f32 := constant S_ .f32 0x7F800000#32
  let main_v10 : FVec F S3x11264 .f32 := broadcastInDim S3x11264 ![] bcast_S_S3x11264 main_cst_2
  let main_v11 : IVec S3x11264 1 := cmpf .olt main_v9 main_v10
  let main_c_3 : IVec S_ 1 := constantI S_ 1 1#1
  let main_v12 : IVec S_ 1 := (fun x v => Host.reduce IntOp.andi x v reducesTo_S3x11264_S_d0_1 h_S_) main_v11 main_c_3
  let main_v13 : IVec S_ 1 := andi main_v8 main_v12
  let main_v14 : FVec F S1x11264 .f32 := Host.absf main_arg3
  let main_cst_4 : FVec F S_ .f32 := constant S_ .f32 0x7F800000#32
  let main_v15 : FVec F S1x11264 .f32 := broadcastInDim S1x11264 ![] bcast_S_S1x11264 main_cst_4
  let main_v16 : IVec S1x11264 1 := cmpf .olt main_v14 main_v15
  fn_part1 (F := F) main_v13 main_v16
-- ==== Pre_stick_finite.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x512 .f32) (main_arg1 : FVec F S4096x512 .f32) (main_arg2 : FVec F S4096x512 .f32) (main_arg3 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Conv.lean ====
abbrev S4096x11264 : Shape := ⟨2, ![4096, 11264]⟩
abbrev S4096x5632 : Shape := ⟨2, ![4096, 5632]⟩
abbrev S3x11264 : Shape := ⟨2, ![3, 11264]⟩
abbrev S1x11264 : Shape := ⟨2, ![1, 11264]⟩
abbrev S3x5632 : Shape := ⟨2, ![3, 5632]⟩
abbrev S1x5632 : Shape := ⟨2, ![1, 5632]⟩
abbrev S4096x128 : Shape := ⟨2, ![4096, 128]⟩
abbrev S3x128 : Shape := ⟨2, ![3, 128]⟩
abbrev S1x128 : Shape := ⟨2, ![1, 128]⟩
abbrev S8x128 : Shape := ⟨2, ![8, 128]⟩
abbrev S4088x128 : Shape := ⟨2, ![4088, 128]⟩
abbrev S128 : Shape := ⟨1, ![128]⟩

abbrev nBuf : Space → Nat
  | .hbm => 10
  | .vmem => 26
  | .smem => 0
  | _ => 0

abbrev bufTy : (tb : Table) → Fin (tcTables nBuf tb) → BufTy
  | .hbm, ⟨0, _⟩ => ⟨S4096x11264, .f32⟩
  | .hbm, ⟨1, _⟩ => ⟨S4096x5632, .f32⟩
  | .hbm, ⟨2, _⟩ => ⟨S3x11264, .f32⟩
  | .hbm, ⟨3, _⟩ => ⟨S1x11264, .f32⟩
  | .hbm, ⟨4, _⟩ => ⟨S4096x5632, .bf16⟩
  | .hbm, ⟨5, _⟩ => ⟨S4096x5632, .bf16⟩
  | .hbm, ⟨6, _⟩ => ⟨S3x5632, .f32⟩
  | .hbm, ⟨7, _⟩ => ⟨S3x5632, .f32⟩
  | .hbm, ⟨8, _⟩ => ⟨S1x5632, .f32⟩
  | .hbm, ⟨9, _⟩ => ⟨S1x5632, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S3x128, .f32⟩
  | .local _ .vmem, ⟨19, _⟩ => ⟨S3x128, .f32⟩
  | .local _ .vmem, ⟨20, _⟩ => ⟨S3x128, .f32⟩
  | .local _ .vmem, ⟨21, _⟩ => ⟨S3x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ConvRefIdeal.lean ====
abbrev S4096x11264 : Shape := ⟨2, ![4096, 11264]⟩
abbrev S4096x5632 : Shape := ⟨2, ![4096, 5632]⟩
abbrev S3x11264 : Shape := ⟨2, ![3, 11264]⟩
abbrev S1x11264 : Shape := ⟨2, ![1, 11264]⟩
abbrev S_ : Shape := ⟨0, ![]⟩
abbrev S2x11264 : Shape := ⟨2, ![2, 11264]⟩
abbrev S4098x11264 : Shape := ⟨2, ![4098, 11264]⟩
abbrev S11264 : Shape := ⟨1, ![11264]⟩
abbrev S3x5632 : Shape := ⟨2, ![3, 5632]⟩
abbrev S1x5632 : Shape := ⟨2, ![1, 5632]⟩

abbrev nBuf : Space → Nat
  | .hbm => 110
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S4096x5632, .f32⟩
  | .hbm, ⟨2, _⟩ => ⟨S3x11264, .f32⟩
  | .hbm, ⟨3, _⟩ => ⟨S1x11264, .f32⟩
  | .hbm, ⟨4, _⟩ => ⟨S_, .f32⟩
  | .hbm, ⟨5, _⟩ => ⟨S2x11264, .f32⟩
  | .hbm, ⟨6, _⟩ => ⟨S4098x11264, .f32⟩
  | .hbm, ⟨7, _⟩ => ⟨S_, .f32⟩
  | .hbm, ⟨8, _⟩ => ⟨S2x11264, .f32⟩
  | .hbm, ⟨9, _⟩ => ⟨S1x11264, .f32⟩
  | .hbm, ⟨10, _⟩ => ⟨S11264, .f32⟩
  | .hbm, ⟨11, _⟩ => ⟨S4096x11264, .f32⟩
  | .hbm, ⟨12, _⟩ => ⟨S1x11264, .f32⟩
  | .hbm, ⟨13, _⟩ => ⟨S4096x11264, .f32⟩
  | .hbm, ⟨14, _⟩ => ⟨S4096x11264, .f32⟩
  | .hbm, ⟨15, _⟩ => ⟨S4096x11264, .f32⟩
  | .hbm, ⟨16, _⟩ => ⟨S4096x11264, .f32⟩
  | .hbm, ⟨17, _⟩ => ⟨S1x11264, .f32⟩
  | .hbm, ⟨18, _⟩ => ⟨S11264, .f32⟩
  | .hbm, ⟨19, _⟩ => ⟨S4096x11264, .f32⟩
  | .hbm, ⟨20, _⟩ => ⟨S1x11264, .f32⟩
  | .hbm, ⟨21, _⟩ => ⟨S4096x11264, .f32⟩
  | .hbm, ⟨22, _⟩ => ⟨S4096x11264, .f32⟩
  | .hbm, ⟨23, _⟩ => ⟨S4096x11264, .f32⟩
  | .hbm, ⟨24, _⟩ => ⟨S1x11264, .f32⟩
  | .hbm, ⟨25, _⟩ => ⟨S11264, .f32⟩
  | .hbm, ⟨26, _⟩ => ⟨S4096x11264, .f32⟩
  | .hbm, ⟨27, _⟩ => ⟨S1x11264, .f32⟩
  | .hbm, ⟨28, _⟩ => ⟨S4096x11264, .f32⟩
  | .hbm, ⟨29, _⟩ => ⟨S4096x11264, .f32⟩
  | .hbm, ⟨30, _⟩ => ⟨S4096x11264, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S_, .f32⟩
  | .hbm, ⟨36, _⟩ => ⟨S4096x5632, .f32⟩
  | .hbm, ⟨37, _⟩ => ⟨S4096x5632, .f32⟩
  | .hbm, ⟨38, _⟩ => ⟨S_, .f32⟩
  | .hbm, ⟨39, _⟩ => ⟨S4096x5632, .f32⟩
  | .hbm, ⟨40, _⟩ => ⟨S4096x5632, .f32⟩
  | .hbm, ⟨41, _⟩ => ⟨S_, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x11264, .f32⟩
  | .hbm, ⟨54, _⟩ => ⟨S4096x11264, .f32⟩
  | .hbm, ⟨55, _⟩ => ⟨S4096x11264, .f32⟩
  | .hbm, ⟨56, _⟩ => ⟨S4096x11264, .f32⟩
  | .hbm, ⟨57, _⟩ => ⟨S_, .f32⟩
  | .hbm, ⟨58, _⟩ => ⟨S11264, .f32⟩
  | .hbm, ⟨59, _⟩ => ⟨S1x11264, .f32⟩
  | .hbm, ⟨60, _⟩ => ⟨S_, .f32⟩
  | .hbm, ⟨61, _⟩ => ⟨S11264, .f32⟩
  | .hbm, ⟨62, _⟩ => ⟨S_, .f32⟩
  | .hbm, ⟨63, _⟩ => ⟨S4098x11264, .f32⟩
  | .hbm, ⟨64, _⟩ => ⟨S1x11264, .f32⟩
  | .hbm, ⟨65, _⟩ => ⟨S_, .f32⟩
  | .hbm, ⟨66, _⟩ => ⟨S3x11264, .f32⟩
  | .hbm, ⟨67, _⟩ => ⟨S4096x11264, .f32⟩
  | .hbm, ⟨68, _⟩ => ⟨S4096x11264, .f32⟩
  | .hbm, ⟨69, _⟩ => ⟨S4096x11264, .f32⟩
  | .hbm, ⟨70, _⟩ => ⟨S_, .f32⟩
  | .hbm, ⟨71, _⟩ => ⟨S11264, .f32⟩
  | .hbm, ⟨72, _⟩ => ⟨S1x11264, .f32⟩
  | .hbm, ⟨73, _⟩ => ⟨S_, .f32⟩
  | .hbm, ⟨74, _⟩ => ⟨S11264, .f32⟩
  | .hbm, ⟨75, _⟩ => ⟨S_, .f32⟩
  | .hbm, ⟨76, _⟩ => ⟨S4098x11264, .f32⟩
  | .hbm, ⟨77, _⟩ => ⟨S4098x11264, .f32⟩
  | .hbm, ⟨78, _⟩ => ⟨S1x11264, .f32⟩
  | .hbm, ⟨79, _⟩ => ⟨S_, .f32⟩
  | .hbm, ⟨80, _⟩ => ⟨S3x11264, .f32⟩
  | .hbm, ⟨81, _⟩ => ⟨S3x11264, .f32⟩
  | .hbm, ⟨82, _⟩ => ⟨S_, .f32⟩
  | .hbm, ⟨83, _⟩ => ⟨S11264, .f32⟩
  | .hbm, ⟨84, _⟩ => ⟨S1x11264, .f32⟩
  | .hbm, ⟨85, _⟩ => ⟨S4096x11264, .f32⟩
  | .hbm, ⟨86, _⟩ => ⟨S4096x11264, .f32⟩
  | .hbm, ⟨87, _⟩ => ⟨S4096x11264, .f32⟩
  | .hbm, ⟨88, _⟩ => ⟨S_, .f32⟩
  | .hbm, ⟨89, _⟩ => ⟨S11264, .f32⟩
  | .hbm, ⟨90, _⟩ => ⟨S1x11264, .f32⟩
  | .hbm, ⟨91, _⟩ => ⟨S_, .f32⟩
  | .hbm, ⟨92, _⟩ => ⟨S11264, .f32⟩
  | .hbm, ⟨93, _⟩ => ⟨S_, .f32⟩
  | .hbm, ⟨94, _⟩ => ⟨S4098x11264, .f32⟩
  | .hbm, ⟨95, _⟩ => ⟨S4098x11264, .f32⟩
  | .hbm, ⟨96, _⟩ => ⟨S1x11264, .f32⟩
  | .hbm, ⟨97, _⟩ => ⟨S_, .f32⟩
  | .hbm, ⟨98, _⟩ => ⟨S3x11264, .f32⟩
  | .hbm, ⟨99, _⟩ => ⟨S3x11264, .f32⟩
  | .hbm, ⟨100, _⟩ => ⟨S2x11264, .f32⟩
  | .hbm, ⟨101, _⟩ => ⟨S4096x11264, .f32⟩
  | .hbm, ⟨102, _⟩ => ⟨S4096x5632, .f32⟩
  | .hbm, ⟨103, _⟩ => ⟨S4096x5632, .f32⟩
  | .hbm, ⟨104, _⟩ => ⟨S3x5632, .f32⟩
  | .hbm, ⟨105, _⟩ => ⟨S3x5632, .f32⟩
  | .hbm, ⟨106, _⟩ => ⟨S1x5632, .f32⟩
  | .hbm, ⟨107, _⟩ => ⟨S1x5632, .f32⟩
  | .hbm, ⟨108, _⟩ => ⟨S4096x5632, .bf16⟩
  | .hbm, ⟨109, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩

abbrev nD : Nat := 1
abbrev τ : Topo := Topo.v7x

variable {F : FTy → Type} [FloatOps F]
-- ==== Stick.lean ====
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S4096x8 : Shape := ⟨2, ![4096, 8]⟩
abbrev S16x256x512 : Shape := ⟨3, ![16, 256, 512]⟩
abbrev S16x512x256 : Shape := ⟨3, ![16, 512, 256]⟩
abbrev S256x128 : Shape := ⟨2, ![256, 128]⟩
abbrev S1x128x256 : Shape := ⟨3, ![1, 128, 256]⟩
abbrev S4096x128 : Shape := ⟨2, ![4096, 128]⟩
abbrev S16x128x256 : Shape := ⟨3, ![16, 128, 256]⟩
abbrev S256x256 : Shape := ⟨2, ![256, 256]⟩
abbrev S256x64 : Shape := ⟨2, ![256, 64]⟩
abbrev S1x64x256 : Shape := ⟨3, ![1, 64, 256]⟩
abbrev S64x256 : Shape := ⟨2, ![64, 256]⟩
abbrev S256x1 : Shape := ⟨2, ![256, 1]⟩
abbrev S256 : Shape := ⟨1, ![256]⟩
abbrev S256x512 : Shape := ⟨2, ![256, 512]⟩
abbrev S512x64 : Shape := ⟨2, ![512, 64]⟩

abbrev nBuf : Space → Nat
  | .hbm => 65
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x8x64, .f32⟩
  | .hbm, ⟨5, _⟩ => ⟨S4096x8x64, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S_, .f32⟩
  | .hbm, ⟨35, _⟩ => ⟨S8x4096x4096, .i1⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S4096x8, .f32⟩
  | .hbm, ⟨41, _⟩ => ⟨S4096x8x64, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S4096x512, .bf16⟩
  | .hbm, ⟨47, _⟩ => ⟨S4096x512, .bf16⟩
  | .hbm, ⟨48, _⟩ => ⟨S4096x512, .bf16⟩
  | .hbm, ⟨49, _⟩ => ⟨S16x256x512, .bf16⟩
  | .hbm, ⟨50, _⟩ => ⟨S16x512x256, .bf16⟩
  | .hbm, ⟨51, _⟩ => ⟨S4096x512, .bf16⟩
  | .hbm, ⟨52, _⟩ => ⟨S16x256x512, .bf16⟩
  | .hbm, ⟨53, _⟩ => ⟨S16x512x256, .bf16⟩
  | .hbm, ⟨54, _⟩ => ⟨S16x256x512, .bf16⟩
  | .hbm, ⟨55, _⟩ => ⟨S16x512x256, .bf16⟩
  | .hbm, ⟨56, _⟩ => ⟨S16x256x512, .bf16⟩
  | .hbm, ⟨57, _⟩ => ⟨S16x512x256, .bf16⟩
  | .hbm, ⟨58, _⟩ => ⟨S4096x512, .bf16⟩
  | .hbm, ⟨59, _⟩ => ⟨S16x512x256, .f32⟩
  | .hbm, ⟨60, _⟩ => ⟨S16x512x256, .f32⟩
  | .hbm, ⟨61, _⟩ => ⟨S16x256x512, .f32⟩
  | .hbm, ⟨62, _⟩ => ⟨S4096x512, .f32⟩
  | .hbm, ⟨63, _⟩ => ⟨S16x256x512, .f32⟩
  | .hbm, ⟨64, _⟩ => ⟨S4096x512, .f32⟩
  | .local _ .vmem, ⟨0, _⟩ => ⟨S256x128, .bf16⟩
  | .local _ .vmem, ⟨1, _⟩ => ⟨S256x128, .bf16⟩
  | .local _ .vmem, ⟨2, _⟩ => ⟨S1x128x256, .bf16⟩
  | .local _ .vmem, ⟨3, _⟩ => ⟨S1x128x256, .bf16⟩
  | .local _ .vmem, ⟨4, _⟩ => ⟨S4096x128, .bf16⟩
  | .local _ .vmem, ⟨5, _⟩ => ⟨S4096x128, .bf16⟩
  | .local _ .vmem, ⟨6, _⟩ => ⟨S16x128x256, .bf16⟩
  | .local _ .vmem, ⟨7, _⟩ => ⟨S16x128x256, .bf16⟩
  | .local _ .vmem, ⟨8, _⟩ => ⟨S16x128x256, .bf16⟩
  | .local _ .vmem, ⟨9, _⟩ => ⟨S16x128x256, .bf16⟩
  | .local _ .vmem, ⟨10, _⟩ => ⟨S256x128, .f32⟩
  | .local _ .vmem, ⟨11, _⟩ => ⟨S256x128, .f32⟩
  | .local _ .vmem, ⟨12, _⟩ => ⟨S256x128, .bf16⟩
  | .local _ .vmem, ⟨13, _⟩ => ⟨S256x128, .bf16⟩
  | .local _ .vmem, ⟨14, _⟩ => ⟨S1x128x256, .bf16⟩
  | .local _ .vmem, ⟨15, _⟩ => ⟨S1x128x256, .bf16⟩
  | .local _ .vmem, ⟨16, _⟩ => ⟨S256x128, .bf16⟩
  | .local _ .vmem, ⟨17, _⟩ => ⟨S256x128, .bf16⟩
  | .local _ .vmem, ⟨18, _⟩ => ⟨S16x128x256, .f32⟩
  | .local _ .vmem, ⟨19, _⟩ => ⟨S16x128x256, .f32⟩
  | .local _ .vmem, ⟨20, _⟩ => ⟨S16x128x256, .f32⟩
  | .local _ .vmem, ⟨21, _⟩ => ⟨S16x128x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32_0 : Ref sig .tc := ⟨.hbm, 58, rfl⟩
abbrev main_v32_1 : Ref sig .tc := ⟨.hbm, 59, rfl⟩
abbrev main_v32_2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_32 : BitVec 32 := 0#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_31 : BitVec 32 := 1#32
  let v57 : BitVec 32 := Scalar.subi v56 c1_i32_31
  let v58 : BitVec 32 := Scalar.subi v57 c0_i32_32
  let c1_i32_33 : BitVec 32 := 1#32
  let v60 : BitVec 32 := Scalar.divsi v58 c1_i32_33
  let v61 : BitVec 32 := Scalar.muli v60 c1_i32_33
  let v62 : BitVec 32 := Scalar.addi c0_i32_32 v61
  let c1_i32_34 : BitVec 32 := 1#32
  ⟨c0_i32_32, v62, c1_i32_34⟩
def k0_off1 (i : grid0.Coords) (k0_t1 : Fin (k0_t1_loop i).trips) : Fin 3 → Nat :=
  let c2_i32_167 : BitVec 32 := 2#32
  let c0_i32_32 : BitVec 32 := 0#32
  let c1_i32_34 : BitVec 32 := 1#32
  let arg13 : BitVec 32 := Scf.iv c0_i32_32 c1_i32_34 k0_t1
  let v413 : BitVec 32 := Scalar.muli c2_i32_167 arg13
  let v416 : Index := Scalar.indexCast v413
  let c0_170 : Index := 0#32
  let c0_171 : Index := 0#32
  ![v416.toNat, 0, 0]
def k0_off2 (i : grid0.Coords) (k0_t1 : Fin (k0_t1_loop i).trips) : Fin 3 → Nat :=
  let c2_i32_168 : BitVec 32 := 2#32
  let c0_i32_32 : BitVec 32 := 0#32
  let c1_i32_34 : BitVec 32 := 1#32
  let arg13 : BitVec 32 := Scf.iv c0_i32_32 c1_i32_34 k0_t1
  let v414 : BitVec 32 := Scalar.muli c2_i32_168 arg13
  let c1_i32_169 : BitVec 32 := 1#32
  let v415 : BitVec 32 := Scalar.addi v414 c1_i32_169
  let v420 : Index := Scalar.indexCast v415
  let c0_173 : Index := 0#32
  let c0_174 : Index := 0#32
  ![v420.toNat, 0, 0]
def k0_mult1 (i : grid0.Coords) (k0_t1 : Fin (k0_t1_loop i).trips) : BitVec 32 :=
  let c2_i32_167 : BitVec 32 := 2#32
  let c0_i32_32 : BitVec 32 := 0#32
  let c1_i32_34 : BitVec 32 := 1#32
  let arg13 : BitVec 32 := Scf.iv c0_i32_32 c1_i32_34 k0_t1
  let v413 : BitVec 32 := Scalar.muli c2_i32_167 arg13
  let c256_i32_222 : BitVec 32 := 256#32
  let v561 : BitVec 32 := Scalar.muli v413 c256_i32_222
  v561
def k0_off3 (i : grid0.Coords) (k0_t1 : Fin (k0_t1_loop i).trips) : Fin 2 → Nat :=
  let c2_i32_167 : BitVec 32 := 2#32
  let c0_i32_32 : BitVec 32 := 0#32
  let c1_i32_34 : BitVec 32 := 1#32
  let arg13 : BitVec 32 := Scf.iv c0_i32_32 c1_i32_34 k0_t1
  let v413 : BitVec 32 := Scalar.muli c2_i32_167 arg13
  let c256_i32_222 : BitVec 32 := 256#32
  let v561 : BitVec 32 := Scalar.muli v413 c256_i32_222
  let v562 : BitVec 32 := v561
  let v563 : Index := Scalar.indexCast v562
  let c0_223 : Index := 0#32
  ![v563.toNat, 0]
def k0_off4 (i : grid0.Coords) (k0_t1 : Fin (k0_t1_loop i).trips) : Fin 3 → Nat :=
  let c2_i32_167 : BitVec 32 := 2#32
  let c0_i32_32 : BitVec 32 := 0#32
  let c1_i32_34 : BitVec 32 := 1#32
  let arg13 : BitVec 32 := Scf.iv c0_i32_32 c1_i32_34 k0_t1
  let v413 : BitVec 32 := Scalar.muli c2_i32_167 arg13
  let v572 : Index := Scalar.indexCast v413
  let c64_225 : Index := 64#32
  let c0_226 : Index := 0#32
  ![v572.toNat, 64, 0]
def k0_off5 (i : grid0.Coords) (k0_t1 : Fin (k0_t1_loop i).trips) : Fin 3 → Nat :=
  let c2_i32_168 : BitVec 32 := 2#32
  let c0_i32_32 : BitVec 32 := 0#32
  let c1_i32_34 : BitVec 32 := 1#32
  let arg13 : BitVec 32 := Scf.iv c0_i32_32 c1_i32_34 k0_t1
  let v414 : BitVec 32 := Scalar.muli c2_i32_168 arg13
  let c1_i32_169 : BitVec 32 := 1#32
  let v415 : BitVec 32 := Scalar.addi v414 c1_i32_169
  let v576 : Index := Scalar.indexCast v415
  let c64_228 : Index := 64#32
  let c0_229 : Index := 0#32
  ![v576.toNat, 64, 0]
def k0_mult2 (i : grid0.Coords) (k0_t1 : Fin (k0_t1_loop i).trips) : BitVec 32 :=
  let c2_i32_167 : BitVec 32 := 2#32
  let c0_i32_32 : BitVec 32 := 0#32
  let c1_i32_34 : BitVec 32 := 1#32
  let arg13 : BitVec 32 := Scf.iv c0_i32_32 c1_i32_34 k0_t1
  let v413 : BitVec 32 := Scalar.muli c2_i32_167 arg13
  let c256_i32_277 : BitVec 32 := 256#32
  let v717 : BitVec 32 := Scalar.muli v413 c256_i32_277
  v717
def k0_off6 (i : grid0.Coords) (k0_t1 : Fin (k0_t1_loop i).trips) : Fin 2 → Nat :=
  let c2_i32_167 : BitVec 32 := 2#32
  let c0_i32_32 : BitVec 32 := 0#32
  let c1_i32_34 : BitVec 32 := 1#32
  let arg13 : BitVec 32 := Scf.iv c0_i32_32 c1_i32_34 k0_t1
  let v413 : BitVec 32 := Scalar.muli c2_i32_167 arg13
  let c256_i32_277 : BitVec 32 := 256#32
  let v717 : BitVec 32 := Scalar.muli v413 c256_i32_277
  let v718 : BitVec 32 := v717
  let v719 : Index := Scalar.indexCast v718
  let c64_278 : Index := 64#32
  ![v719.toNat, 64]
@[reducible] def k0_t2_loop (i : grid0.Coords) : Scf.Loop 32 :=
  let c0_i32_32 : BitVec 32 := 0#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_31 : BitVec 32 := 1#32
  let v57 : BitVec 32 := Scalar.subi v56 c1_i32_31
  let v58 : BitVec 32 := Scalar.subi v57 c0_i32_32
  let c1_i32_33 : BitVec 32 := 1#32
  let v60 : BitVec 32 := Scalar.divsi v58 c1_i32_33
  let v61 : BitVec 32 := Scalar.muli v60 c1_i32_33
  let v62 : BitVec 32 := Scalar.addi c0_i32_32 v61
  let v59 : BitVec 32 := Scalar.addi c0_i32_32 v58
  let c1_i32_35 : BitVec 32 := 1#32
  ⟨v62, v59, c1_i32_35⟩
def k0_off7 (i : grid0.Coords) (k0_t2 : Fin (k0_t2_loop i).trips) : Fin 3 → Nat :=
  let c2_i32_167 : BitVec 32 := 2#32
  let c0_i32_32 : BitVec 32 := 0#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_31 : BitVec 32 := 1#32
  let v57 : BitVec 32 := Scalar.subi v56 c1_i32_31
  let v58 : BitVec 32 := Scalar.subi v57 c0_i32_32
  let c1_i32_33 : BitVec 32 := 1#32
  let v60 : BitVec 32 := Scalar.divsi v58 c1_i32_33
  let v61 : BitVec 32 := Scalar.muli v60 c1_i32_33
  let v62 : BitVec 32 := Scalar.addi c0_i32_32 v61
  let c1_i32_35 : BitVec 32 := 1#32
  let arg13 : BitVec 32 := Scf.iv v62 c1_i32_35 k0_t2
  let v413 : BitVec 32 := Scalar.muli c2_i32_167 arg13
  let v416 : Index := Scalar.indexCast v413
  let c0_170 : Index := 0#32
  let c0_171 : Index := 0#32
  ![v416.toNat, 0, 0]
def k0_off8 (i : grid0.Coords) (k0_t2 : Fin (k0_t2_loop i).trips) : Fin 3 → Nat :=
  let c2_i32_168 : BitVec 32 := 2#32
  let c0_i32_32 : BitVec 32 := 0#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_31 : BitVec 32 := 1#32
  let v57 : BitVec 32 := Scalar.subi v56 c1_i32_31
  let v58 : BitVec 32 := Scalar.subi v57 c0_i32_32
  let c1_i32_33 : BitVec 32 := 1#32
  let v60 : BitVec 32 := Scalar.divsi v58 c1_i32_33
  let v61 : BitVec 32 := Scalar.muli v60 c1_i32_33
  let v62 : BitVec 32 := Scalar.addi c0_i32_32 v61
  let c1_i32_35 : BitVec 32 := 1#32
  let arg13 : BitVec 32 := Scf.iv v62 c1_i32_35 k0_t2
  let v414 : BitVec 32 := Scalar.muli c2_i32_168 arg13
  let c1_i32_169 : BitVec 32 := 1#32
  let v415 : BitVec 32 := Scalar.addi v414 c1_i32_169
  let v420 : Index := Scalar.indexCast v415
  let c0_173 : Index := 0#32
  let c0_174 : Index := 0#32
  ![v420.toNat, 0, 0]
def k0_mult3 (i : grid0.Coords) (k0_t2 : Fin (k0_t2_loop i).trips) : BitVec 32 :=
  let c2_i32_167 : BitVec 32 := 2#32
  let c0_i32_32 : BitVec 32 := 0#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_31 : BitVec 32 := 1#32
  let v57 : BitVec 32 := Scalar.subi v56 c1_i32_31
  let v58 : BitVec 32 := Scalar.subi v57 c0_i32_32
  let c1_i32_33 : BitVec 32 := 1#32
  let v60 : BitVec 32 := Scalar.divsi v58 c1_i32_33
  let v61 : BitVec 32 := Scalar.muli v60 c1_i32_33
  let v62 : BitVec 32 := Scalar.addi c0_i32_32 v61
  let c1_i32_35 : BitVec 32 := 1#32
  let arg13 : BitVec 32 := Scf.iv v62 c1_i32_35 k0_t2
  let v413 : BitVec 32 := Scalar.muli c2_i32_167 arg13
  let c256_i32_222 : BitVec 32 := 256#32
  let v561 : BitVec 32 := Scalar.muli v413 c256_i32_222
  v561
def k0_off9 (i : grid0.Coords) (k0_t2 : Fin (k0_t2_loop i).trips) : Fin 2 → Nat :=
  let c2_i32_167 : BitVec 32 := 2#32
  let c0_i32_32 : BitVec 32 := 0#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_31 : BitVec 32 := 1#32
  let v57 : BitVec 32 := Scalar.subi v56 c1_i32_31
  let v58 : BitVec 32 := Scalar.subi v57 c0_i32_32
  let c1_i32_33 : BitVec 32 := 1#32
  let v60 : BitVec 32 := Scalar.divsi v58 c1_i32_33
  let v61 : BitVec 32 := Scalar.muli v60 c1_i32_33
  let v62 : BitVec 32 := Scalar.addi c0_i32_32 v61
  let c1_i32_35 : BitVec 32 := 1#32
  let arg13 : BitVec 32 := Scf.iv v62 c1_i32_35 k0_t2
  let v413 : BitVec 32 := Scalar.muli c2_i32_167 arg13
  let c256_i32_222 : BitVec 32 := 256#32
  let v561 : BitVec 32 := Scalar.muli v413 c256_i32_222
  let v562 : BitVec 32 := v561
  let v563 : Index := Scalar.indexCast v562
  let c0_223 : Index := 0#32
  ![v563.toNat, 0]
def k0_off10 (i : grid0.Coords) (k0_t2 : Fin (k0_t2_loop i).trips) : Fin 3 → Nat :=
  let c2_i32_167 : BitVec 32 := 2#32
  let c0_i32_32 : BitVec 32 := 0#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_31 : BitVec 32 := 1#32
  let v57 : BitVec 32 := Scalar.subi v56 c1_i32_31
  let v58 : BitVec 32 := Scalar.subi v57 c0_i32_32
  let c1_i32_33 : BitVec 32 := 1#32
  let v60 : BitVec 32 := Scalar.divsi v58 c1_i32_33
  let v61 : BitVec 32 := Scalar.muli v60 c1_i32_33
  let v62 : BitVec 32 := Scalar.addi c0_i32_32 v61
  let c1_i32_35 : BitVec 32 := 1#32
  let arg13 : BitVec 32 := Scf.iv v62 c1_i32_35 k0_t2
  let v413 : BitVec 32 := Scalar.muli c2_i32_167 arg13
  let v572 : Index := Scalar.indexCast v413
  let c64_225 : Index := 64#32
  let c0_226 : Index := 0#32
  ![v572.toNat, 64, 0]
def k0_off11 (i : grid0.Coords) (k0_t2 : Fin (k0_t2_loop i).trips) : Fin 3 → Nat :=
  let c2_i32_168 : BitVec 32 := 2#32
  let c0_i32_32 : BitVec 32 := 0#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_31 : BitVec 32 := 1#32
  let v57 : BitVec 32 := Scalar.subi v56 c1_i32_31
  let v58 : BitVec 32 := Scalar.subi v57 c0_i32_32
  let c1_i32_33 : BitVec 32 := 1#32
  let v60 : BitVec 32 := Scalar.divsi v58 c1_i32_33
  let v61 : BitVec 32 := Scalar.muli v60 c1_i32_33
  let v62 : BitVec 32 := Scalar.addi c0_i32_32 v61
  let c1_i32_35 : BitVec 32 := 1#32
  let arg13 : BitVec 32 := Scf.iv v62 c1_i32_35 k0_t2
  let v414 : BitVec 32 := Scalar.muli c2_i32_168 arg13
  let c1_i32_169 : BitVec 32 := 1#32
  let v415 : BitVec 32 := Scalar.addi v414 c1_i32_169
  let v576 : Index := Scalar.indexCast v415
  let c64_228 : Index := 64#32
  let c0_229 : Index := 0#32
  ![v576.toNat, 64, 0]
def k0_mult4 (i : grid0.Coords) (k0_t2 : Fin (k0_t2_loop i).trips) : BitVec 32 :=
  let c2_i32_167 : BitVec 32 := 2#32
  let c0_i32_32 : BitVec 32 := 0#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_31 : BitVec 32 := 1#32
  let v57 : BitVec 32 := Scalar.subi v56 c1_i32_31
  let v58 : BitVec 32 := Scalar.subi v57 c0_i32_32
  let c1_i32_33 : BitVec 32 := 1#32
  let v60 : BitVec 32 := Scalar.divsi v58 c1_i32_33
  let v61 : BitVec 32 := Scalar.muli v60 c1_i32_33
  let v62 : BitVec 32 := Scalar.addi c0_i32_32 v61
  let c1_i32_35 : BitVec 32 := 1#32
  let arg13 : BitVec 32 := Scf.iv v62 c1_i32_35 k0_t2
  let v413 : BitVec 32 := Scalar.muli c2_i32_167 arg13
  let c256_i32_277 : BitVec 32 := 256#32
  let v717 : BitVec 32 := Scalar.muli v413 c256_i32_277
  v717
def k0_off12 (i : grid0.Coords) (k0_t2 : Fin (k0_t2_loop i).trips) : Fin 2 → Nat :=
  let c2_i32_167 : BitVec 32 := 2#32
  let c0_i32_32 : BitVec 32 := 0#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_31 : BitVec 32 := 1#32
  let v57 : BitVec 32 := Scalar.subi v56 c1_i32_31
  let v58 : BitVec 32 := Scalar.subi v57 c0_i32_32
  let c1_i32_33 : BitVec 32 := 1#32
  let v60 : BitVec 32 := Scalar.divsi v58 c1_i32_33
  let v61 : BitVec 32 := Scalar.muli v60 c1_i32_33
  let v62 : BitVec 32 := Scalar.addi c0_i32_32 v61
  let c1_i32_35 : BitVec 32 := 1#32
  let arg13 : BitVec 32 := Scf.iv v62 c1_i32_35 k0_t2
  let v413 : BitVec 32 := Scalar.muli c2_i32_167 arg13
  let c256_i32_277 : BitVec 32 := 256#32
  let v717 : BitVec 32 := Scalar.muli v413 c256_i32_277
  let v718 : BitVec 32 := v717
  let v719 : Index := Scalar.indexCast v718
  let c64_278 : Index := 64#32
  ![v719.toNat, 64]
def k0_off13 (i : grid0.Coords) : Fin 3 → Nat :=
  let c2_i32 : BitVec 32 := 2#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_36 : BitVec 32 := 1#32
  let v65 : BitVec 32 := Scalar.subi v56 c1_i32_36
  let v66 : BitVec 32 := Scalar.muli c2_i32 v65
  let v85 : Index := Scalar.indexCast v66
  let c0_43 : Index := 0#32
  let c0_44 : Index := 0#32
  ![v85.toNat, 0, 0]
def k0_off14 (i : grid0.Coords) : Fin 3 → Nat :=
  let c2_i32_37 : BitVec 32 := 2#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_36 : BitVec 32 := 1#32
  let v65 : BitVec 32 := Scalar.subi v56 c1_i32_36
  let v67 : BitVec 32 := Scalar.muli c2_i32_37 v65
  let c1_i32_38 : BitVec 32 := 1#32
  let v68 : BitVec 32 := Scalar.addi v67 c1_i32_38
  let v89 : Index := Scalar.indexCast v68
  let c0_46 : Index := 0#32
  let c0_47 : Index := 0#32
  ![v89.toNat, 0, 0]
def k0_mult5 (i : grid0.Coords) : BitVec 32 :=
  let c2_i32 : BitVec 32 := 2#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_36 : BitVec 32 := 1#32
  let v65 : BitVec 32 := Scalar.subi v56 c1_i32_36
  let v66 : BitVec 32 := Scalar.muli c2_i32 v65
  let c256_i32_99 : BitVec 32 := 256#32
  let v238 : BitVec 32 := Scalar.muli v66 c256_i32_99
  v238
def k0_off15 (i : grid0.Coords) : Fin 2 → Nat :=
  let c2_i32 : BitVec 32 := 2#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_36 : BitVec 32 := 1#32
  let v65 : BitVec 32 := Scalar.subi v56 c1_i32_36
  let v66 : BitVec 32 := Scalar.muli c2_i32 v65
  let c256_i32_99 : BitVec 32 := 256#32
  let v238 : BitVec 32 := Scalar.muli v66 c256_i32_99
  let v239 : BitVec 32 := v238
  let v240 : Index := Scalar.indexCast v239
  let c0_100 : Index := 0#32
  ![v240.toNat, 0]
def k0_off16 (i : grid0.Coords) : Fin 3 → Nat :=
  let c2_i32 : BitVec 32 := 2#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_36 : BitVec 32 := 1#32
  let v65 : BitVec 32 := Scalar.subi v56 c1_i32_36
  let v66 : BitVec 32 := Scalar.muli c2_i32 v65
  let v245 : Index := Scalar.indexCast v66
  let c64_102 : Index := 64#32
  let c0_103 : Index := 0#32
  ![v245.toNat, 64, 0]
def k0_off17 (i : grid0.Coords) : Fin 3 → Nat :=
  let c2_i32_37 : BitVec 32 := 2#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_36 : BitVec 32 := 1#32
  let v65 : BitVec 32 := Scalar.subi v56 c1_i32_36
  let v67 : BitVec 32 := Scalar.muli c2_i32_37 v65
  let c1_i32_38 : BitVec 32 := 1#32
  let v68 : BitVec 32 := Scalar.addi v67 c1_i32_38
  let v249 : Index := Scalar.indexCast v68
  let c64_105 : Index := 64#32
  let c0_106 : Index := 0#32
  ![v249.toNat, 64, 0]
def k0_mult6 (i : grid0.Coords) : BitVec 32 :=
  let c2_i32 : BitVec 32 := 2#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_36 : BitVec 32 := 1#32
  let v65 : BitVec 32 := Scalar.subi v56 c1_i32_36
  let v66 : BitVec 32 := Scalar.muli c2_i32 v65
  let c256_i32_158 : BitVec 32 := 256#32
  let v398 : BitVec 32 := Scalar.muli v66 c256_i32_158
  v398
def k0_off18 (i : grid0.Coords) : Fin 2 → Nat :=
  let c2_i32 : BitVec 32 := 2#32
  let arg1 : BitVec 32 := BitVec.ofNat 32 (i 1).val
  let c256_i32 : BitVec 32 := 256#32
  let v38 : BitVec 32 := Scalar.muli arg1 c256_i32
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c512_i32 : BitVec 32 := 512#32
  let c0_i32_27 : BitVec 32 := 0#32
  let v45 : BitVec 1 := Scalar.cmpi .sgt c512_i32 c0_i32_27
  let v46 : BitVec 32 := Scalar.extui v45
  let c0_i32_28 : BitVec 32 := 0#32
  let v47 : BitVec 1 := Scalar.cmpi .slt c512_i32 c0_i32_28
  let v48 : BitVec 32 := Scalar.extui v47
  let v49 : BitVec 32 := Scalar.subi v46 v48
  let v50 : BitVec 1 := Scalar.cmpi .ne v44 v49
  let v51 : BitVec 32 := Scalar.remsi v38 c512_i32
  let c0_i32_29 : BitVec 32 := 0#32
  let v52 : BitVec 1 := Scalar.cmpi .ne v51 c0_i32_29
  let v53 : BitVec 1 := Scalar.andi v50 v52
  let v39 : BitVec 32 := Scalar.divsi v38 c512_i32
  let c1_i32 : BitVec 32 := 1#32
  let v54 : BitVec 32 := Scalar.subi v39 c1_i32
  let v55 : BitVec 32 := Scalar.select v53 v54 v39
  let c1_i32_30 : BitVec 32 := 1#32
  let v56 : BitVec 32 := Scalar.addi v55 c1_i32_30
  let c1_i32_36 : BitVec 32 := 1#32
  let v65 : BitVec 32 := Scalar.subi v56 c1_i32_36
  let v66 : BitVec 32 := Scalar.muli c2_i32 v65
  let c256_i32_158 : BitVec 32 := 256#32
  let v398 : BitVec 32 := Scalar.muli v66 c256_i32_158
  let v399 : BitVec 32 := v398
  let v400 : Index := Scalar.indexCast v399
  let c64_159 : Index := 64#32
  ![v400.toNat, 64]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== StickRefIdeal.lean ====
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩

abbrev nBuf : Space → Nat
  | .hbm => 173
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x8x64, .f32⟩
  | 5 => ⟨S4096x8x64, .f32⟩
  | 6 => ⟨S4096x8x64, .f32⟩
  | 7 => ⟨S8x4096x4096, .f32⟩
  | 8 => ⟨S_, .f32⟩
  | 9 => ⟨S8x4096x4096, .f32⟩
  | 10 => ⟨S8x4096x4096, .f32⟩
  | 11 => ⟨S4096, .i32⟩
  | 12 => ⟨S1x4096, .i32⟩
  | 13 => ⟨S4096x1, .i32⟩
  | 14 => ⟨S4096x4096, .i32⟩
  | 15 => ⟨S4096x4096, .i32⟩
  | 16 => ⟨S4096x4096, .i1⟩
  | 17 => ⟨S8x4096x4096, .f32⟩
  | 18 => ⟨S8x4096x4096, .f32⟩
  | 19 => ⟨S_, .f32⟩
  | 20 => ⟨S8x4096x4096, .f32⟩
  | 21 => ⟨S8x4096x4096, .f32⟩
  | 22 => ⟨S8x4096x4096, .f32⟩
  | 23 => ⟨S8x4096x4096, .f32⟩
  | 24 => ⟨S8x4096x4096, .i1⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S_, .f32⟩
  | 34 => ⟨S8x4096x4096, .f32⟩
  | 35 => ⟨S8x4096x4096, .i1⟩
  | 36 => ⟨S_, .f32⟩
  | 37 => ⟨S8x4096x4096, .f32⟩
  | 38 => ⟨S8x4096x4096, .f32⟩
  | 39 => ⟨S_, .f32⟩
  | 40 => ⟨S8x4096x4096, .f32⟩
  | 41 => ⟨S8x4096x4096, .i1⟩
  | 42 => ⟨S_, .f32⟩
  | 43 => ⟨S8x4096x4096, .f32⟩
  | 44 => ⟨S8x4096x4096, .f32⟩
  | 45 => ⟨S8x4096x4096, .f32⟩
  | 46 => ⟨S8x4096x4096, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8x4096x4096, .f32⟩
  | 55 => ⟨S8x4096x4096, .i1⟩
  | 56 => ⟨S_, .f32⟩
  | 57 => ⟨S8x4096x4096, .f32⟩
  | 58 => ⟨S8x4096x4096, .f32⟩
  | 59 => ⟨S8x4096x4096, .f32⟩
  | 60 => ⟨S8x4096x4096, .f32⟩
  | 61 => ⟨S8x4096x4096, .f32⟩
  | 62 => ⟨S_, .f32⟩
  | 63 => ⟨S8x4096x4096, .f32⟩
  | 64 => ⟨S8x4096x4096, .f32⟩
  | 65 => ⟨S8x4096x4096, .f32⟩
  | 66 => ⟨S_, .f32⟩
  | 67 => ⟨S_, .f32⟩
  | 68 => ⟨S8x4096x4096, .i1⟩
  | 69 => ⟨S8x4096x4096, .f32⟩
  | 70 => ⟨S8x4096x4096, .f32⟩
  | 71 => ⟨S_, .f32⟩
  | 72 => ⟨S8x4096x4096, .f32⟩
  | 73 => ⟨S_, .f32⟩
  | 74 => ⟨S_, .f32⟩
  | 75 => ⟨S8x4096x4096, .f32⟩
  | 76 => ⟨S8x4096x4096, .f32⟩
  | 77 => ⟨S8x4096x4096, .f32⟩
  | 78 => ⟨S_, .f32⟩
  | 79 => ⟨S8x4096x4096, .f32⟩
  | 80 => ⟨S8x4096x4096, .f32⟩
  | 81 => ⟨S8x4096x4096, .f32⟩
  | 82 => ⟨S8x4096x4096, .f32⟩
  | 83 => ⟨S8x4096x4096, .i1⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .f32⟩
  | 91 => ⟨S8x4096x4096, .f32⟩
  | 92 => ⟨S_, .f32⟩
  | 93 => ⟨S8x4096x4096, .f32⟩
  | 94 => ⟨S8x4096x4096, .i1⟩
  | 95 => ⟨S_, .f32⟩
  | 96 => ⟨S8x4096x4096, .f32⟩
  | 97 => ⟨S8x4096x4096, .f32⟩
  | 98 => ⟨S_, .f32⟩
  | 99 => ⟨S8x4096x4096, .f32⟩
  | 100 => ⟨S8x4096x4096, .i1⟩
  | 101 => ⟨S_, .f32⟩
  | 102 => ⟨S8x4096x4096, .f32⟩
  | 103 => ⟨S8x4096x4096, .f32⟩
  | 104 => ⟨S8x4096x4096, .f32⟩
  | 105 => ⟨S8x4096x4096, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S8x4096x4096, .f32⟩
  | 114 => ⟨S8x4096x4096, .i1⟩
  | 115 => ⟨S_, .f32⟩
  | 116 => ⟨S8x4096x4096, .f32⟩
  | 117 => ⟨S8x4096x4096, .f32⟩
  | 118 => ⟨S8x4096x4096, .f32⟩
  | 119 => ⟨S8x4096x4096, .f32⟩
  | 120 => ⟨S8x4096x4096, .f32⟩
  | 121 => ⟨S_, .f32⟩
  | 122 => ⟨S8x4096x4096, .f32⟩
  | 123 => ⟨S8x4096x4096, .f32⟩
  | 124 => ⟨S8x4096x4096, .f32⟩
  | 125 => ⟨S8x4096x4096, .f32⟩
  | 126 => ⟨S8x4096x4096, .f32⟩
  | 127 => ⟨S_, .f32⟩
  | _ => ⟨S4096x512, .f32⟩

abbrev hbmTy0_1 (i : Nat) : BufTy := match i % 128 with
  | 0 => ⟨S_, .f32⟩
  | 1 => ⟨S8x4096x4096, .i1⟩
  | 2 => ⟨S8x4096x4096, .f32⟩
  | 3 => ⟨S8x4096x4096, .f32⟩
  | 4 => ⟨S_, .f32⟩
  | 5 => ⟨S8x4096x4096, .f32⟩
  | 6 => ⟨S8x64x4096, .f32⟩
  | 7 => ⟨S4096x8x64, .f32⟩
  | 8 => ⟨S4096x512, .f32⟩
  | 9 => ⟨S4096x8x64, .f32⟩
  | 10 => ⟨S8x64x4096, .f32⟩
  | 11 => ⟨S8x4096x4096, .f32⟩
  | 12 => ⟨S8x64x4096, .f32⟩
  | 13 => ⟨S4096x8x64, .f32⟩
  | 14 => ⟨S_, .f32⟩
  | 15 => ⟨S8x4096x4096, .f32⟩
  | 16 => ⟨S8x4096x4096, .f32⟩
  | 17 => ⟨S8x4096x4096, .f32⟩
  | 18 => ⟨S8x4096x4096, .f32⟩
  | 19 => ⟨S8x4096x4096, .f32⟩
  | 20 => ⟨S8x4096x4096, .f32⟩
  | 21 => ⟨S8x4096x4096, .f32⟩
  | 22 => ⟨S_, .f32⟩
  | 23 => ⟨S_, .f32⟩
  | 24 => ⟨S8x4096x4096, .f32⟩
  | 25 => ⟨S8x4096x4096, .f32⟩
  | 26 => ⟨S_, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S_, .f32⟩
  | 35 => ⟨S8x4096x4096, .f32⟩
  | 36 => ⟨S8x4096x4096, .f32⟩
  | 37 => ⟨S8x4096x64, .f32⟩
  | 38 => ⟨S4096x8x64, .f32⟩
  | 39 => ⟨S8x4096x64, .f32⟩
  | 40 => ⟨S4096x8x64, .f32⟩
  | 41 => ⟨S4096x512, .f32⟩
  | 42 => ⟨S4096x512, .f32⟩
  | 43 => ⟨S4096x512, .f32⟩
  | 44 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v13_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v13_2 : Ref sig .tc := ⟨.hbm, 64, rfl⟩
abbrev main_v13_0 : Ref sig .tc := ⟨.hbm, 65, rfl⟩
abbrev main_cst_0 : Ref sig .tc := ⟨.hbm, 66, rfl⟩
abbrev main_call1_v0 : Ref sig .tc := ⟨.hbm, 67, rfl⟩
abbrev main_v14_1 : Ref sig .tc := ⟨.hbm, 68, rfl⟩
abbrev main_call1_v2 : Ref sig .tc := ⟨.hbm, 69, rfl⟩
abbrev main_v14_0 : Ref sig .tc := ⟨.hbm, 70, rfl⟩
abbrev main_call1_cst : Ref sig .tc := ⟨.hbm, 71, rfl⟩
abbrev main_v14_2 : Ref sig .tc := ⟨.hbm, 72, rfl⟩
abbrev main_call2_cst : Ref sig .tc := ⟨.hbm, 73, rfl⟩
abbrev main_call2_v0 : Ref sig .tc := ⟨.hbm, 74, rfl⟩
abbrev main_v15 : Ref sig .tc := ⟨.hbm, 75, rfl⟩
abbrev main_v16 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1_0 : Ref sig .tc := ⟨.hbm, 91, rfl⟩
abbrev main_call3_call0_cst_0 : Ref sig .tc := ⟨.hbm, 92, rfl⟩
abbrev main_call3_call0_v13 : Ref sig .tc := ⟨.hbm, 93, rfl⟩
abbrev main_call3_call0_v14 : Ref sig .tc := ⟨.hbm, 94, rfl⟩
abbrev main_call3_call0_cst_1 : Ref sig .tc := ⟨.hbm, 95, rfl⟩
abbrev main_call3_call0_v15 : Ref sig .tc := ⟨.hbm, 96, rfl⟩
abbrev main_call3_call0_v16 : Ref sig .tc := ⟨.hbm, 97, rfl⟩
abbrev main_call3_call0_cst_2 : Ref sig .tc := ⟨.hbm, 98, rfl⟩
abbrev main_call3_call0_v17 : Ref sig .tc := ⟨.hbm, 99, rfl⟩
abbrev main_call3_call0_v18 : Ref sig .tc := ⟨.hbm, 100, rfl⟩
abbrev main_call3_call0_cst_3 : Ref sig .tc := ⟨.hbm, 101, rfl⟩
abbrev main_call3_call0_v19 : Ref sig .tc := ⟨.hbm, 102, rfl⟩
abbrev main_call3_call0_v20 : Ref sig .tc := ⟨.hbm, 103, rfl⟩
abbrev main_call3_call0_v21 : Ref sig .tc := ⟨.hbm, 104, rfl⟩
abbrev main_v17_1 : Ref sig .tc := ⟨.hbm, 105, rfl⟩
abbrev main_call3_call0_cst_4 : Ref sig .tc := ⟨.hbm, 106, rfl⟩
abbrev main_call3_call0_cst_5 : Ref sig .tc := ⟨.hbm, 107, rfl⟩
abbrev main_call3_call0_v23 : Ref sig .tc := ⟨.hbm, 108, rfl⟩
abbrev main_call3_call0_cst_6 : Ref sig .tc := ⟨.hbm, 109, rfl⟩
abbrev main_call3_call0_cst_7 : Ref sig .tc := ⟨.hbm, 110, rfl⟩
abbrev main_call3_call0_v24 : Ref sig .tc := ⟨.hbm, 111, rfl⟩
abbrev main_call3_call0_cst_8 : Ref sig .tc := ⟨.hbm, 112, rfl⟩
abbrev main_call3_call0_v25 : Ref sig .tc := ⟨.hbm, 113, rfl⟩
abbrev main_call3_call0_v26 : Ref sig .tc := ⟨.hbm, 114, rfl⟩
abbrev main_call3_call0_cst_9 : Ref sig .tc := ⟨.hbm, 115, rfl⟩
abbrev main_call3_call0_v27 : Ref sig .tc := ⟨.hbm, 116, rfl⟩
abbrev main_call3_call0_v28 : Ref sig .tc := ⟨.hbm, 117, rfl⟩
abbrev main_call3_call0_v29 : Ref sig .tc := ⟨.hbm, 118, rfl⟩
abbrev main_call3_call0_v30 : Ref sig .tc := ⟨.hbm, 119, rfl⟩
abbrev main_call3_call0_v31 : Ref sig .tc := ⟨.hbm, 120, rfl⟩
abbrev main_call3_call0_cst_10 : Ref sig .tc := ⟨.hbm, 121, rfl⟩
abbrev main_call3_call0_v32 : Ref sig .tc := ⟨.hbm, 122, rfl⟩
abbrev main_v17_2 : Ref sig .tc := ⟨.hbm, 123, rfl⟩
abbrev main_v17_0 : Ref sig .tc := ⟨.hbm, 124, rfl⟩
abbrev main_v18 : Ref sig .tc := ⟨.hbm, 125, rfl⟩
abbrev main_v19 : Ref sig .tc := ⟨.hbm, 126, rfl⟩
abbrev main_cst_1 : Ref sig .tc := ⟨.hbm, 127, rfl⟩
abbrev main_call4_v0 : Ref sig .tc := ⟨.hbm, 128, rfl⟩
abbrev main_v20_1 : Ref sig .tc := ⟨.hbm, 129, rfl⟩
abbrev main_call4_v2 : Ref sig .tc := ⟨.hbm, 130, rfl⟩
abbrev main_v20_0 : Ref sig .tc := ⟨.hbm, 131, rfl⟩
abbrev main_call4_cst : Ref sig .tc := ⟨.hbm, 132, rfl⟩
abbrev main_v20_2 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_call5_cst : Ref sig .tc := ⟨.hbm, 142, rfl⟩
abbrev main_call5_v0 : Ref sig .tc := ⟨.hbm, 143, rfl⟩
abbrev main_v29 : Ref sig .tc := ⟨.hbm, 144, rfl⟩
abbrev main_v30 : Ref sig .tc := ⟨.hbm, 145, rfl⟩
abbrev main_call6_v0 : Ref sig .tc := ⟨.hbm, 146, rfl⟩
abbrev main_call6_v1 : Ref sig .tc := ⟨.hbm, 147, rfl⟩
abbrev main_v31 : Ref sig .tc := ⟨.hbm, 148, rfl⟩
abbrev main_v32 : Ref sig .tc := ⟨.hbm, 149, rfl⟩
abbrev main_call7_cst : Ref sig .tc := ⟨.hbm, 150, rfl⟩
abbrev main_call7_v0 : Ref sig .tc := ⟨.hbm, 151, rfl⟩
abbrev main_v33 : Ref sig .tc := ⟨.hbm, 152, rfl⟩
abbrev main_v34 : Ref sig .tc := ⟨.hbm, 153, rfl⟩
abbrev main_call8_cst : Ref sig .tc := ⟨.hbm, 154, rfl⟩
abbrev main_call8_v0 : Ref sig .tc := ⟨.hbm, 155, rfl⟩
abbrev main_v35 : Ref sig .tc := ⟨.hbm, 156, rfl⟩
abbrev main_call9_v0 : Ref sig .tc := ⟨.hbm, 157, rfl⟩
abbrev main_call9_v1 : Ref sig .tc := ⟨.hbm, 158, rfl⟩
abbrev main_v36 : Ref sig .tc := ⟨.hbm, 159, rfl⟩
abbrev main_v37 : Ref sig .tc := ⟨.hbm, 160, rfl⟩
abbrev main_v38 : Ref sig .tc := ⟨.hbm, 161, rfl⟩
abbrev main_cst_2 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .f32⟩
  | .hbm, ⟨3, _⟩ => ⟨S4096x2048, .f32⟩
  | .hbm, ⟨4, _⟩ => ⟨S_, .f32⟩
  | .hbm, ⟨5, _⟩ => ⟨S4096x5632, .f32⟩
  | .hbm, ⟨6, _⟩ => ⟨S4096x2048, .f32⟩
  | .hbm, ⟨7, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S4096x11264 : Shape := ⟨2, ![4096, 11264]⟩
abbrev S4096x2048 : Shape := ⟨2, ![4096, 2048]⟩
abbrev S11264x2048 : Shape := ⟨2, ![11264, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S4096x2048, .bf16⟩
  | .hbm, ⟨2, _⟩ => ⟨S11264x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x11264 : Shape := ⟨2, ![4096, 11264]⟩
abbrev S4096x2048 : Shape := ⟨2, ![4096, 2048]⟩
abbrev S_ : Shape := ⟨0, ![]⟩
abbrev S2048x11264 : Shape := ⟨2, ![2048, 11264]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x2048, .bf16⟩
  | .hbm, ⟨2, _⟩ => ⟨S4096x2048, .f32⟩
  | .hbm, ⟨3, _⟩ => ⟨S4096x11264, .f32⟩
  | .hbm, ⟨4, _⟩ => ⟨S_, .f32⟩
  | .hbm, ⟨5, _⟩ => ⟨S2048x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S11264x2048, .f32⟩
  | .hbm, ⟨10, _⟩ => ⟨S11264x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDx.lean ====
abbrev S4096x11264 : Shape := ⟨2, ![4096, 11264]⟩
abbrev S11264x2048 : Shape := ⟨2, ![11264, 2048]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S11264x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x11264 : Shape := ⟨2, ![4096, 11264]⟩
abbrev S11264x2048 : Shape := ⟨2, ![11264, 2048]⟩
abbrev S2048x11264 : Shape := ⟨2, ![2048, 11264]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S11264x2048, .bf16⟩
  | .hbm, ⟨2, _⟩ => ⟨S2048x11264, .bf16⟩
  | .hbm, ⟨3, _⟩ => ⟨S2048x11264, .f32⟩
  | .hbm, ⟨4, _⟩ => ⟨S4096x11264, .f32⟩
  | .hbm, ⟨5, _⟩ => ⟨S_, .f32⟩
  | .hbm, ⟨6, _⟩ => ⟨S4096x2048, .f32⟩
  | .hbm, ⟨7, _⟩ => ⟨S4096x11264, .f32⟩
  | .hbm, ⟨8, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S4096x5376 : Shape := ⟨2, ![4096, 5376]⟩
abbrev S4096x2048 : Shape := ⟨2, ![4096, 2048]⟩
abbrev S5376x2048 : Shape := ⟨2, ![5376, 2048]⟩
abbrev S1024x768 : Shape := ⟨2, ![1024, 768]⟩
abbrev S1024x2048 : Shape := ⟨2, ![1024, 2048]⟩
abbrev S768x2048 : Shape := ⟨2, ![768, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5376, .bf16⟩
  | .hbm, ⟨1, _⟩ => ⟨S4096x2048, .bf16⟩
  | .hbm, ⟨2, _⟩ => ⟨S5376x2048, .bf16⟩
  | .local _ .vmem, ⟨0, _⟩ => ⟨S1024x768, .bf16⟩
  | .local _ .vmem, ⟨1, _⟩ => ⟨S1024x768, .bf16⟩
  | .local _ .vmem, ⟨2, _⟩ => ⟨S1024x2048, .bf16⟩
  | .local _ .vmem, ⟨3, _⟩ => ⟨S1024x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x5376 : Shape := ⟨2, ![4096, 5376]⟩
abbrev S4096x2048 : Shape := ⟨2, ![4096, 2048]⟩
abbrev S_ : Shape := ⟨0, ![]⟩
abbrev S2048x5376 : Shape := ⟨2, ![2048, 5376]⟩
abbrev S5376x2048 : Shape := ⟨2, ![5376, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S4096x2048, .bf16⟩
  | .hbm, ⟨2, _⟩ => ⟨S4096x2048, .f32⟩
  | .hbm, ⟨3, _⟩ => ⟨S4096x5376, .f32⟩
  | .hbm, ⟨4, _⟩ => ⟨S_, .f32⟩
  | .hbm, ⟨5, _⟩ => ⟨S2048x5376, .f32⟩
  | .hbm, ⟨6, _⟩ => ⟨S4096x5376, .f32⟩
  | .hbm, ⟨7, _⟩ => ⟨S5376x2048, .f32⟩
  | .hbm, ⟨8, _⟩ => ⟨S2048x5376, .f32⟩
  | .hbm, ⟨9, _⟩ => ⟨S5376x2048, .f32⟩
  | .hbm, ⟨10, _⟩ => ⟨S5376x2048, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InDx.lean ====
abbrev S4096x5376 : Shape := ⟨2, ![4096, 5376]⟩
abbrev S5376x2048 : Shape := ⟨2, ![5376, 2048]⟩
abbrev S4096x2048 : Shape := ⟨2, ![4096, 2048]⟩
abbrev S1024x768 : Shape := ⟨2, ![1024, 768]⟩
abbrev S768x2048 : Shape := ⟨2, ![768, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5376, .bf16⟩
  | .hbm, ⟨1, _⟩ => ⟨S5376x2048, .bf16⟩
  | .hbm, ⟨2, _⟩ => ⟨S4096x2048, .f32⟩
  | .local _ .vmem, ⟨0, _⟩ => ⟨S1024x768, .bf16⟩
  | .local _ .vmem, ⟨1, _⟩ => ⟨S1024x768, .bf16⟩
  | .local _ .vmem, ⟨2, _⟩ => ⟨S768x2048, .bf16⟩
  | .local _ .vmem, ⟨3, _⟩ => ⟨S768x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x5376 : Shape := ⟨2, ![4096, 5376]⟩
abbrev S5376x2048 : Shape := ⟨2, ![5376, 2048]⟩
abbrev S2048x5376 : Shape := ⟨2, ![2048, 5376]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S5376x2048, .bf16⟩
  | .hbm, ⟨2, _⟩ => ⟨S2048x5376, .bf16⟩
  | .hbm, ⟨3, _⟩ => ⟨S2048x5376, .f32⟩
  | .hbm, ⟨4, _⟩ => ⟨S4096x5376, .f32⟩
  | .hbm, ⟨5, _⟩ => ⟨S_, .f32⟩
  | .hbm, ⟨6, _⟩ => ⟨S4096x2048, .f32⟩
  | .hbm, ⟨7, _⟩ => ⟨S4096x5376, .f32⟩
  | .hbm, ⟨8, _⟩ => ⟨S4096x2048, .f32⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InFwd.lean ====
abbrev S4096x2048 : Shape := ⟨2, ![4096, 2048]⟩
abbrev S5376x2048 : Shape := ⟨2, ![5376, 2048]⟩
abbrev S4096x5376 : Shape := ⟨2, ![4096, 5376]⟩
abbrev S1024x2048 : Shape := ⟨2, ![1024, 2048]⟩
abbrev S896x2048 : Shape := ⟨2, ![896, 2048]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5376x2048, .bf16⟩
  | .hbm, ⟨2, _⟩ => ⟨S4096x5376, .f32⟩
  | .local _ .vmem, ⟨0, _⟩ => ⟨S1024x2048, .bf16⟩
  | .local _ .vmem, ⟨1, _⟩ => ⟨S1024x2048, .bf16⟩
  | .local _ .vmem, ⟨2, _⟩ => ⟨S896x2048, .bf16⟩
  | .local _ .vmem, ⟨3, _⟩ => ⟨S896x2048, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4096x2048 : Shape := ⟨2, ![4096, 2048]⟩
abbrev S5376x2048 : Shape := ⟨2, ![5376, 2048]⟩
abbrev S2048x5376 : Shape := ⟨2, ![2048, 5376]⟩
abbrev S4096x5376 : Shape := ⟨2, ![4096, 5376]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5376x2048, .bf16⟩
  | .hbm, ⟨2, _⟩ => ⟨S4096x2048, .f32⟩
  | .hbm, ⟨3, _⟩ => ⟨S2048x5376, .bf16⟩
  | .hbm, ⟨4, _⟩ => ⟨S2048x5376, .f32⟩
  | .hbm, ⟨5, _⟩ => ⟨S4096x5376, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutFwd.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpFwd.lean ====
abbrev S4096x2048 : Shape := ⟨2, ![4096, 2048]⟩
abbrev S11264x2048 : Shape := ⟨2, ![11264, 2048]⟩
abbrev S4096x11264 : Shape := ⟨2, ![4096, 11264]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S11264x2048, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S4096x2048 : Shape := ⟨2, ![4096, 2048]⟩
abbrev S11264x2048 : Shape := ⟨2, ![11264, 2048]⟩
abbrev S2048x11264 : Shape := ⟨2, ![2048, 11264]⟩
abbrev S4096x11264 : Shape := ⟨2, ![4096, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S11264x2048, .bf16⟩
  | .hbm, ⟨2, _⟩ => ⟨S4096x2048, .f32⟩
  | .hbm, ⟨3, _⟩ => ⟨S2048x11264, .bf16⟩
  | .hbm, ⟨4, _⟩ => ⟨S2048x11264, .f32⟩
  | .hbm, ⟨5, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownFwd.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Loss.lean ====
abbrev S4096x2048 : Shape := ⟨2, ![4096, 2048]⟩
abbrev S8x128 : Shape := ⟨2, ![8, 128]⟩
abbrev S256x2048 : Shape := ⟨2, ![256, 2048]⟩
abbrev S2048 : Shape := ⟨1, ![2048]⟩
abbrev S1x2048 : Shape := ⟨2, ![1, 2048]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | .hbm, ⟨26, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Small.lean ====
abbrev S824x128 : Shape := ⟨2, ![824, 128]⟩

abbrev nBuf : Space → Nat
  | .hbm => 7
  | .vmem => 7
  | .smem => 0
  | _ => 0

abbrev bufTy : (tb : Table) → Fin (tcTables nBuf tb) → BufTy
  | .hbm, ⟨0, _⟩ => ⟨S824x128, .f32⟩
  | .hbm, ⟨1, _⟩ => ⟨S824x128, .f32⟩
  | .hbm, ⟨2, _⟩ => ⟨S824x128, .f32⟩
  | .hbm, ⟨3, _⟩ => ⟨S824x128, .f32⟩
  | .hbm, ⟨4, _⟩ => ⟨S824x128, .f32⟩
  | .hbm, ⟨5, _⟩ => ⟨S824x128, .f32⟩
  | .hbm, ⟨6, _⟩ => ⟨S824x128, .f32⟩
  | .local _ .vmem, ⟨0, _⟩ => ⟨S824x128, .f32⟩
  | .local _ .vmem, ⟨1, _⟩ => ⟨S824x128, .f32⟩
  | .local _ .vmem, ⟨2, _⟩ => ⟨S824x128, .f32⟩
  | .local _ .vmem, ⟨3, _⟩ => ⟨S824x128, .f32⟩
  | .local _ .vmem, ⟨4, _⟩ => ⟨S824x128, .f32⟩
  | .local _ .vmem, ⟨5, _⟩ => ⟨S824x128, .f32⟩
  | .local _ .vmem, ⟨6, _⟩ => ⟨S824x128, .f32⟩
  | _, _ => ⟨S824x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S824x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S824x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S824x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S824x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S824x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S824x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S824x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== SmallRefIdeal.lean ====
abbrev S824x128 : Shape := ⟨2, ![824, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S824x128, .f32⟩
  | .hbm, ⟨1, _⟩ => ⟨S824x128, .f32⟩
  | .hbm, ⟨2, _⟩ => ⟨S824x128, .f32⟩
  | .hbm, ⟨3, _⟩ => ⟨S824x128, .f32⟩
  | .hbm, ⟨4, _⟩ => ⟨S_, .f32⟩
  | .hbm, ⟨5, _⟩ => ⟨S824x128, .f32⟩
  | .hbm, ⟨6, _⟩ => ⟨S824x128, .f32⟩
  | .hbm, ⟨7, _⟩ => ⟨S_, .f32⟩
  | .hbm, ⟨8, _⟩ => ⟨S824x128, .f32⟩
  | .hbm, ⟨9, _⟩ => ⟨S824x128, .f32⟩
  | .hbm, ⟨10, _⟩ => ⟨S824x128, .f32⟩
  | .hbm, ⟨11, _⟩ => ⟨S_, .f32⟩
  | .hbm, ⟨12, _⟩ => ⟨S824x128, .f32⟩
  | .hbm, ⟨13, _⟩ => ⟨S824x128, .f32⟩
  | .hbm, ⟨14, _⟩ => ⟨S824x128, .f32⟩
  | .hbm, ⟨15, _⟩ => ⟨S_, .f32⟩
  | .hbm, ⟨16, _⟩ => ⟨S824x128, .f32⟩
  | .hbm, ⟨17, _⟩ => ⟨S824x128, .f32⟩
  | .hbm, ⟨18, _⟩ => ⟨S824x128, .f32⟩
  | .hbm, ⟨19, _⟩ => ⟨S_, .f32⟩
  | .hbm, ⟨20, _⟩ => ⟨S824x128, .f32⟩
  | .hbm, ⟨21, _⟩ => ⟨S824x128, .f32⟩
  | .hbm, ⟨22, _⟩ => ⟨S_, .f32⟩
  | .hbm, ⟨23, _⟩ => ⟨S824x128, .f32⟩
  | .hbm, ⟨24, _⟩ => ⟨S824x128, .f32⟩
  | .hbm, ⟨25, _⟩ => ⟨S824x128, .f32⟩
  | .hbm, ⟨26, _⟩ => ⟨S_, .f32⟩
  | .hbm, ⟨27, _⟩ => ⟨S824x128, .f32⟩
  | .hbm, ⟨28, _⟩ => ⟨S824x128, .f32⟩
  | .hbm, ⟨29, _⟩ => ⟨S824x128, .f32⟩
  | .hbm, ⟨30, _⟩ => ⟨S_, .f32⟩
  | .hbm, ⟨31, _⟩ => ⟨S824x128, .f32⟩
  | .hbm, ⟨32, _⟩ => ⟨S824x128, .f32⟩
  | .hbm, ⟨33, _⟩ => ⟨S824x128, .f32⟩
  | .hbm, ⟨34, _⟩ => ⟨S_, .f32⟩
  | .hbm, ⟨35, _⟩ => ⟨S824x128, .f32⟩
  | .hbm, ⟨36, _⟩ => ⟨S824x128, .f32⟩
  | _, _ => ⟨S824x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== BigIn.lean ====
abbrev S4x2048x1344 : Shape := ⟨3, ![4, 2048, 1344]⟩
abbrev S1344x2048 : Shape := ⟨2, ![1344, 2048]⟩
abbrev S2048x1344 : Shape := ⟨2, ![2048, 1344]⟩
abbrev S1x256x1344 : Shape := ⟨3, ![1, 256, 1344]⟩
abbrev S256x1344 : Shape := ⟨2, ![256, 1344]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x1344, .f32⟩
  | .hbm, ⟨1, _⟩ => ⟨S1344x2048, .f32⟩
  | .hbm, ⟨2, _⟩ => ⟨S4x2048x1344, .f32⟩
  | .hbm, ⟨3, _⟩ => ⟨S4x2048x1344, .f32⟩
  | .hbm, ⟨4, _⟩ => ⟨S4x2048x1344, .f32⟩
  | .hbm, ⟨5, _⟩ => ⟨S4x2048x1344, .f32⟩
  | .hbm, ⟨6, _⟩ => ⟨S4x2048x1344, .f32⟩
  | .hbm, ⟨7, _⟩ => ⟨S4x2048x1344, .f32⟩
  | .hbm, ⟨8, _⟩ => ⟨S2048x1344, .f32⟩
  | .hbm, ⟨9, _⟩ => ⟨S4x2048x1344, .f32⟩
  | .hbm, ⟨10, _⟩ => ⟨S4x2048x1344, .f32⟩
  | .hbm, ⟨11, _⟩ => ⟨S4x2048x1344, .f32⟩
  | .hbm, ⟨12, _⟩ => ⟨S4x2048x1344, .f32⟩
  | .local _ .vmem, ⟨0, _⟩ => ⟨S1x256x1344, .f32⟩
  | .local _ .vmem, ⟨1, _⟩ => ⟨S1x256x1344, .f32⟩
  | .local _ .vmem, ⟨2, _⟩ => ⟨S256x1344, .f32⟩
  | .local _ .vmem, ⟨3, _⟩ => ⟨S256x1344, .f32⟩
  | .local _ .vmem, ⟨4, _⟩ => ⟨S1x256x1344, .f32⟩
  | .local _ .vmem, ⟨5, _⟩ => ⟨S1x256x1344, .f32⟩
  | .local _ .vmem, ⟨6, _⟩ => ⟨S1x256x1344, .f32⟩
  | .local _ .vmem, ⟨7, _⟩ => ⟨S1x256x1344, .f32⟩
  | .local _ .vmem, ⟨8, _⟩ => ⟨S1x256x1344, .f32⟩
  | .local _ .vmem, ⟨9, _⟩ => ⟨S1x256x1344, .f32⟩
  | .local _ .vmem, ⟨10, _⟩ => ⟨S1x256x1344, .f32⟩
  | .local _ .vmem, ⟨11, _⟩ => ⟨S1x256x1344, .f32⟩
  | .local _ .vmem, ⟨12, _⟩ => ⟨S1x256x1344, .f32⟩
  | .local _ .vmem, ⟨13, _⟩ => ⟨S1x256x1344, .f32⟩
  | .local _ .vmem, ⟨14, _⟩ => ⟨S1x256x1344, .f32⟩
  | .local _ .vmem, ⟨15, _⟩ => ⟨S1x256x1344, .f32⟩
  | _, _ => ⟨S4x2048x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1344 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1344 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1344 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1344 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BigInRefIdeal.lean ====
abbrev S4x2048x1344 : Shape := ⟨3, ![4, 2048, 1344]⟩
abbrev S1344x2048 : Shape := ⟨2, ![1344, 2048]⟩
abbrev S2048x1344 : Shape := ⟨2, ![2048, 1344]⟩
abbrev S1x2048x1344 : Shape := ⟨3, ![1, 2048, 1344]⟩
abbrev S_ : Shape := ⟨0, ![]⟩
abbrev S3x2048x1344 : Shape := ⟨3, ![3, 2048, 1344]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x1344, .f32⟩
  | .hbm, ⟨1, _⟩ => ⟨S1344x2048, .f32⟩
  | .hbm, ⟨2, _⟩ => ⟨S4x2048x1344, .f32⟩
  | .hbm, ⟨3, _⟩ => ⟨S4x2048x1344, .f32⟩
  | .hbm, ⟨4, _⟩ => ⟨S4x2048x1344, .f32⟩
  | .hbm, ⟨5, _⟩ => ⟨S4x2048x1344, .f32⟩
  | .hbm, ⟨6, _⟩ => ⟨S4x2048x1344, .f32⟩
  | .hbm, ⟨7, _⟩ => ⟨S4x2048x1344, .f32⟩
  | .hbm, ⟨8, _⟩ => ⟨S2048x1344, .f32⟩
  | .hbm, ⟨9, _⟩ => ⟨S1x2048x1344, .f32⟩
  | .hbm, ⟨10, _⟩ => ⟨S2048x1344, .f32⟩
  | .hbm, ⟨11, _⟩ => ⟨S1x2048x1344, .f32⟩
  | .hbm, ⟨12, _⟩ => ⟨S2048x1344, .f32⟩
  | .hbm, ⟨13, _⟩ => ⟨S1x2048x1344, .f32⟩
  | .hbm, ⟨14, _⟩ => ⟨S2048x1344, .f32⟩
  | .hbm, ⟨15, _⟩ => ⟨S_, .f32⟩
  | .hbm, ⟨16, _⟩ => ⟨S2048x1344, .f32⟩
  | .hbm, ⟨17, _⟩ => ⟨S2048x1344, .f32⟩
  | .hbm, ⟨18, _⟩ => ⟨S_, .f32⟩
  | .hbm, ⟨19, _⟩ => ⟨S2048x1344, .f32⟩
  | .hbm, ⟨20, _⟩ => ⟨S2048x1344, .f32⟩
  | .hbm, ⟨21, _⟩ => ⟨S2048x1344, .f32⟩
  | .hbm, ⟨22, _⟩ => ⟨S_, .f32⟩
  | .hbm, ⟨23, _⟩ => ⟨S2048x1344, .f32⟩
  | .hbm, ⟨24, _⟩ => ⟨S2048x1344, .f32⟩
  | .hbm, ⟨25, _⟩ => ⟨S2048x1344, .f32⟩
  | .hbm, ⟨26, _⟩ => ⟨S_, .f32⟩
  | .hbm, ⟨27, _⟩ => ⟨S2048x1344, .f32⟩
  | .hbm, ⟨28, _⟩ => ⟨S2048x1344, .f32⟩
  | .hbm, ⟨29, _⟩ => ⟨S2048x1344, .f32⟩
  | .hbm, ⟨30, _⟩ => ⟨S_, .f32⟩
  | .hbm, ⟨31, _⟩ => ⟨S2048x1344, .f32⟩
  | .hbm, ⟨32, _⟩ => ⟨S2048x1344, .f32⟩
  | .hbm, ⟨33, _⟩ => ⟨S_, .f32⟩
  | .hbm, ⟨34, _⟩ => ⟨S2048x1344, .f32⟩
  | .hbm, ⟨35, _⟩ => ⟨S2048x1344, .f32⟩
  | .hbm, ⟨36, _⟩ => ⟨S2048x1344, .f32⟩
  | .hbm, ⟨37, _⟩ => ⟨S_, .f32⟩
  | .hbm, ⟨38, _⟩ => ⟨S2048x1344, .f32⟩
  | .hbm, ⟨39, _⟩ => ⟨S2048x1344, .f32⟩
  | .hbm, ⟨40, _⟩ => ⟨S2048x1344, .f32⟩
  | .hbm, ⟨41, _⟩ => ⟨S_, .f32⟩
  | .hbm, ⟨42, _⟩ => ⟨S2048x1344, .f32⟩
  | .hbm, ⟨43, _⟩ => ⟨S2048x1344, .f32⟩
  | .hbm, ⟨44, _⟩ => ⟨S2048x1344, .f32⟩
  | .hbm, ⟨45, _⟩ => ⟨S_, .f32⟩
  | .hbm, ⟨46, _⟩ => ⟨S2048x1344, .f32⟩
  | .hbm, ⟨47, _⟩ => ⟨S2048x1344, .f32⟩
  | .hbm, ⟨48, _⟩ => ⟨S1x2048x1344, .f32⟩
  | .hbm, ⟨49, _⟩ => ⟨S3x2048x1344, .f32⟩
  | .hbm, ⟨50, _⟩ => ⟨S4x2048x1344, .f32⟩
  | .hbm, ⟨51, _⟩ => ⟨S1x2048x1344, .f32⟩
  | .hbm, ⟨52, _⟩ => ⟨S3x2048x1344, .f32⟩
  | .hbm, ⟨53, _⟩ => ⟨S4x2048x1344, .f32⟩
  | .hbm, ⟨54, _⟩ => ⟨S1x2048x1344, .f32⟩
  | .hbm, ⟨55, _⟩ => ⟨S3x2048x1344, .f32⟩
  | .hbm, ⟨56, _⟩ => ⟨S4x2048x1344, .f32⟩
  | .hbm, ⟨57, _⟩ => ⟨S1x2048x1344, .f32⟩
  | .hbm, ⟨58, _⟩ => ⟨S3x2048x1344, .f32⟩
  | .hbm, ⟨59, _⟩ => ⟨S4x2048x1344, .f32⟩
  | _, _ => ⟨S4x2048x1344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== BigOut.lean ====
abbrev S4x512x2048 : Shape := ⟨3, ![4, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x512x2048, .f32⟩
  | .hbm, ⟨1, _⟩ => ⟨S512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S4x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BigOutRefIdeal.lean ====
abbrev S4x512x2048 : Shape := ⟨3, ![4, 512, 2048]⟩
abbrev S512x2048 : Shape := ⟨2, ![512, 2048]⟩
abbrev S1x512x2048 : Shape := ⟨3, ![1, 512, 2048]⟩
abbrev S_ : Shape := ⟨0, ![]⟩
abbrev S3x512x2048 : Shape := ⟨3, ![3, 512, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S1x512x2048, .f32⟩
  | .hbm, ⟨9, _⟩ => ⟨S512x2048, .f32⟩
  | .hbm, ⟨10, _⟩ => ⟨S1x512x2048, .f32⟩
  | .hbm, ⟨11, _⟩ => ⟨S512x2048, .f32⟩
  | .hbm, ⟨12, _⟩ => ⟨S1x512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S_, .f32⟩
  | .hbm, ⟨41, _⟩ => ⟨S512x2048, .f32⟩
  | .hbm, ⟨42, _⟩ => ⟨S512x2048, .f32⟩
  | .hbm, ⟨43, _⟩ => ⟨S512x2048, .f32⟩
  | .hbm, ⟨44, _⟩ => ⟨S_, .f32⟩
  | .hbm, ⟨45, _⟩ => ⟨S512x2048, .f32⟩
  | .hbm, ⟨46, _⟩ => ⟨S512x2048, .f32⟩
  | .hbm, ⟨47, _⟩ => ⟨S1x512x2048, .f32⟩
  | .hbm, ⟨48, _⟩ => ⟨S3x512x2048, .f32⟩
  | .hbm, ⟨49, _⟩ => ⟨S4x512x2048, .f32⟩
  | .hbm, ⟨50, _⟩ => ⟨S1x512x2048, .f32⟩
  | .hbm, ⟨51, _⟩ => ⟨S3x512x2048, .f32⟩
  | .hbm, ⟨52, _⟩ => ⟨S4x512x2048, .f32⟩
  | .hbm, ⟨53, _⟩ => ⟨S1x512x2048, .f32⟩
  | .hbm, ⟨54, _⟩ => ⟨S3x512x2048, .f32⟩
  | .hbm, ⟨55, _⟩ => ⟨S4x512x2048, .f32⟩
  | .hbm, ⟨56, _⟩ => ⟨S1x512x2048, .f32⟩
  | .hbm, ⟨57, _⟩ => ⟨S3x512x2048, .f32⟩
  | .hbm, ⟨58, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== BigUp.lean ====
abbrev S4x2048x2816 : Shape := ⟨3, ![4, 2048, 2816]⟩
abbrev S2816x2048 : Shape := ⟨2, ![2816, 2048]⟩
abbrev S2048x2816 : Shape := ⟨2, ![2048, 2816]⟩
abbrev S1x128x2816 : Shape := ⟨3, ![1, 128, 2816]⟩
abbrev S128x2816 : Shape := ⟨2, ![128, 2816]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x2816, .f32⟩
  | .hbm, ⟨1, _⟩ => ⟨S2816x2048, .f32⟩
  | .hbm, ⟨2, _⟩ => ⟨S4x2048x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .hbm, ⟨8, _⟩ => ⟨S2048x2816, .f32⟩
  | .hbm, ⟨9, _⟩ => ⟨S4x2048x2816, .f32⟩
  | .hbm, ⟨10, _⟩ => ⟨S4x2048x2816, .f32⟩
  | .hbm, ⟨11, _⟩ => ⟨S4x2048x2816, .f32⟩
  | .hbm, ⟨12, _⟩ => ⟨S4x2048x2816, .f32⟩
  | .local _ .vmem, ⟨0, _⟩ => ⟨S1x128x2816, .f32⟩
  | .local _ .vmem, ⟨1, _⟩ => ⟨S1x128x2816, .f32⟩
  | .local _ .vmem, ⟨2, _⟩ => ⟨S128x2816, .f32⟩
  | .local _ .vmem, ⟨3, _⟩ => ⟨S128x2816, .f32⟩
  | .local _ .vmem, ⟨4, _⟩ => ⟨S1x128x2816, .f32⟩
  | .local _ .vmem, ⟨5, _⟩ => ⟨S1x128x2816, .f32⟩
  | .local _ .vmem, ⟨6, _⟩ => ⟨S1x128x2816, .f32⟩
  | .local _ .vmem, ⟨7, _⟩ => ⟨S1x128x2816, .f32⟩
  | .local _ .vmem, ⟨8, _⟩ => ⟨S1x128x2816, .f32⟩
  | .local _ .vmem, ⟨9, _⟩ => ⟨S1x128x2816, .f32⟩
  | .local _ .vmem, ⟨10, _⟩ => ⟨S1x128x2816, .f32⟩
  | .local _ .vmem, ⟨11, _⟩ => ⟨S1x128x2816, .f32⟩
  | .local _ .vmem, ⟨12, _⟩ => ⟨S1x128x2816, .f32⟩
  | .local _ .vmem, ⟨13, _⟩ => ⟨S1x128x2816, .f32⟩
  | .local _ .vmem, ⟨14, _⟩ => ⟨S1x128x2816, .f32⟩
  | .local _ .vmem, ⟨15, _⟩ => ⟨S1x128x2816, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BigUpRefIdeal.lean ====
abbrev S4x2048x2816 : Shape := ⟨3, ![4, 2048, 2816]⟩
abbrev S2816x2048 : Shape := ⟨2, ![2816, 2048]⟩
abbrev S2048x2816 : Shape := ⟨2, ![2048, 2816]⟩
abbrev S1x2048x2816 : Shape := ⟨3, ![1, 2048, 2816]⟩
abbrev S_ : Shape := ⟨0, ![]⟩
abbrev S3x2048x2816 : Shape := ⟨3, ![3, 2048, 2816]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S2816x2048, .f32⟩
  | .hbm, ⟨2, _⟩ => ⟨S4x2048x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .hbm, ⟨8, _⟩ => ⟨S2048x2816, .f32⟩
  | .hbm, ⟨9, _⟩ => ⟨S1x2048x2816, .f32⟩
  | .hbm, ⟨10, _⟩ => ⟨S2048x2816, .f32⟩
  | .hbm, ⟨11, _⟩ => ⟨S1x2048x2816, .f32⟩
  | .hbm, ⟨12, _⟩ => ⟨S2048x2816, .f32⟩
  | .hbm, ⟨13, _⟩ => ⟨S1x2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S_, .f32⟩
  | .hbm, ⟨46, _⟩ => ⟨S2048x2816, .f32⟩
  | .hbm, ⟨47, _⟩ => ⟨S2048x2816, .f32⟩
  | .hbm, ⟨48, _⟩ => ⟨S1x2048x2816, .f32⟩
  | .hbm, ⟨49, _⟩ => ⟨S3x2048x2816, .f32⟩
  | .hbm, ⟨50, _⟩ => ⟨S4x2048x2816, .f32⟩
  | .hbm, ⟨51, _⟩ => ⟨S1x2048x2816, .f32⟩
  | .hbm, ⟨52, _⟩ => ⟨S3x2048x2816, .f32⟩
  | .hbm, ⟨53, _⟩ => ⟨S4x2048x2816, .f32⟩
  | .hbm, ⟨54, _⟩ => ⟨S1x2048x2816, .f32⟩
  | .hbm, ⟨55, _⟩ => ⟨S3x2048x2816, .f32⟩
  | .hbm, ⟨56, _⟩ => ⟨S4x2048x2816, .f32⟩
  | .hbm, ⟨57, _⟩ => ⟨S1x2048x2816, .f32⟩
  | .hbm, ⟨58, _⟩ => ⟨S3x2048x2816, .f32⟩
  | .hbm, ⟨59, _⟩ => ⟨S4x2048x2816, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== BigDown.lean ====
abbrev S4x1408x2048 : Shape := ⟨3, ![4, 1408, 2048]⟩
abbrev S1408x2048 : Shape := ⟨2, ![1408, 2048]⟩
abbrev S1x176x2048 : Shape := ⟨3, ![1, 176, 2048]⟩
abbrev S176x2048 : Shape := ⟨2, ![176, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x1408x2048, .f32⟩
  | .hbm, ⟨1, _⟩ => ⟨S1408x2048, .f32⟩
  | .hbm, ⟨2, _⟩ => ⟨S4x1408x2048, .f32⟩
  | .hbm, ⟨3, _⟩ => ⟨S4x1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S4x1408x2048, .f32⟩
  | .local _ .vmem, ⟨0, _⟩ => ⟨S1x176x2048, .f32⟩
  | .local _ .vmem, ⟨1, _⟩ => ⟨S1x176x2048, .f32⟩
  | .local _ .vmem, ⟨2, _⟩ => ⟨S176x2048, .f32⟩
  | .local _ .vmem, ⟨3, _⟩ => ⟨S176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BigDownRefIdeal.lean ====
abbrev S4x1408x2048 : Shape := ⟨3, ![4, 1408, 2048]⟩
abbrev S1408x2048 : Shape := ⟨2, ![1408, 2048]⟩
abbrev S1x1408x2048 : Shape := ⟨3, ![1, 1408, 2048]⟩
abbrev S_ : Shape := ⟨0, ![]⟩
abbrev S3x1408x2048 : Shape := ⟨3, ![3, 1408, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S1408x2048, .f32⟩
  | .hbm, ⟨2, _⟩ => ⟨S4x1408x2048, .f32⟩
  | .hbm, ⟨3, _⟩ => ⟨S4x1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .hbm, ⟨8, _⟩ => ⟨S1x1408x2048, .f32⟩
  | .hbm, ⟨9, _⟩ => ⟨S1408x2048, .f32⟩
  | .hbm, ⟨10, _⟩ => ⟨S1x1408x2048, .f32⟩
  | .hbm, ⟨11, _⟩ => ⟨S1408x2048, .f32⟩
  | .hbm, ⟨12, _⟩ => ⟨S1x1408x2048, .f32⟩
  | .hbm, ⟨13, _⟩ => ⟨S1408x2048, .f32⟩
  | .hbm, ⟨14, _⟩ => ⟨S_, .f32⟩
  | .hbm, ⟨15, _⟩ => ⟨S1408x2048, .f32⟩
  | .hbm, ⟨16, _⟩ => ⟨S1408x2048, .f32⟩
  | .hbm, ⟨17, _⟩ => ⟨S_, .f32⟩
  | .hbm, ⟨18, _⟩ => ⟨S1408x2048, .f32⟩
  | .hbm, ⟨19, _⟩ => ⟨S1408x2048, .f32⟩
  | .hbm, ⟨20, _⟩ => ⟨S1408x2048, .f32⟩
  | .hbm, ⟨21, _⟩ => ⟨S_, .f32⟩
  | .hbm, ⟨22, _⟩ => ⟨S1408x2048, .f32⟩
  | .hbm, ⟨23, _⟩ => ⟨S1408x2048, .f32⟩
  | .hbm, ⟨24, _⟩ => ⟨S1408x2048, .f32⟩
  | .hbm, ⟨25, _⟩ => ⟨S_, .f32⟩
  | .hbm, ⟨26, _⟩ => ⟨S1408x2048, .f32⟩
  | .hbm, ⟨27, _⟩ => ⟨S1408x2048, .f32⟩
  | .hbm, ⟨28, _⟩ => ⟨S1408x2048, .f32⟩
  | .hbm, ⟨29, _⟩ => ⟨S_, .f32⟩
  | .hbm, ⟨30, _⟩ => ⟨S1408x2048, .f32⟩
  | .hbm, ⟨31, _⟩ => ⟨S1408x2048, .f32⟩
  | .hbm, ⟨32, _⟩ => ⟨S_, .f32⟩
  | .hbm, ⟨33, _⟩ => ⟨S1408x2048, .f32⟩
  | .hbm, ⟨34, _⟩ => ⟨S1408x2048, .f32⟩
  | .hbm, ⟨35, _⟩ => ⟨S1408x2048, .f32⟩
  | .hbm, ⟨36, _⟩ => ⟨S_, .f32⟩
  | .hbm, ⟨37, _⟩ => ⟨S1408x2048, .f32⟩
  | .hbm, ⟨38, _⟩ => ⟨S1408x2048, .f32⟩
  | .hbm, ⟨39, _⟩ => ⟨S1408x2048, .f32⟩
  | .hbm, ⟨40, _⟩ => ⟨S_, .f32⟩
  | .hbm, ⟨41, _⟩ => ⟨S1408x2048, .f32⟩
  | .hbm, ⟨42, _⟩ => ⟨S1408x2048, .f32⟩
  | .hbm, ⟨43, _⟩ => ⟨S1408x2048, .f32⟩
  | .hbm, ⟨44, _⟩ => ⟨S_, .f32⟩
  | .hbm, ⟨45, _⟩ => ⟨S1408x2048, .f32⟩
  | .hbm, ⟨46, _⟩ => ⟨S1408x2048, .f32⟩
  | .hbm, ⟨47, _⟩ => ⟨S1x1408x2048, .f32⟩
  | .hbm, ⟨48, _⟩ => ⟨S3x1408x2048, .f32⟩
  | .hbm, ⟨49, _⟩ => ⟨S4x1408x2048, .f32⟩
  | .hbm, ⟨50, _⟩ => ⟨S1x1408x2048, .f32⟩
  | .hbm, ⟨51, _⟩ => ⟨S3x1408x2048, .f32⟩
  | .hbm, ⟨52, _⟩ => ⟨S4x1408x2048, .f32⟩
  | .hbm, ⟨53, _⟩ => ⟨S1x1408x2048, .f32⟩
  | .hbm, ⟨54, _⟩ => ⟨S3x1408x2048, .f32⟩
  | .hbm, ⟨55, _⟩ => ⟨S4x1408x2048, .f32⟩
  | .hbm, ⟨56, _⟩ => ⟨S1x1408x2048, .f32⟩
  | .hbm, ⟨57, _⟩ => ⟨S3x1408x2048, .f32⟩
  | .hbm, ⟨58, _⟩ => ⟨S4x1408x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== SumSmall.lean ====
abbrev S8x1616x128 : Shape := ⟨3, ![8, 1616, 128]⟩
abbrev S1616x128 : Shape := ⟨2, ![1616, 128]⟩
abbrev S1x1616x128 : Shape := ⟨3, ![1, 1616, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1616x128, .f32⟩
  | .hbm, ⟨1, _⟩ => ⟨S1616x128, .f32⟩
  | .local _ .vmem, ⟨0, _⟩ => ⟨S8x1616x128, .f32⟩
  | .local _ .vmem, ⟨1, _⟩ => ⟨S1616x128, .f32⟩
  | _, _ => ⟨S8x1616x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1616x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1616x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x1616x128 : Shape := ⟨3, ![8, 1616, 128]⟩
abbrev S_ : Shape := ⟨0, ![]⟩
abbrev S1616x128 : Shape := ⟨2, ![1616, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1616x128, .f32⟩
  | .hbm, ⟨1, _⟩ => ⟨S_, .f32⟩
  | .hbm, ⟨2, _⟩ => ⟨S1616x128, .f32⟩
  | _, _ => ⟨S8x1616x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumIn.lean ====
abbrev S8x672x2048 : Shape := ⟨3, ![8, 672, 2048]⟩
abbrev S672x2048 : Shape := ⟨2, ![672, 2048]⟩
abbrev S8x224x2048 : Shape := ⟨3, ![8, 224, 2048]⟩
abbrev S224x2048 : Shape := ⟨2, ![224, 2048]⟩
abbrev S1x224x2048 : Shape := ⟨3, ![1, 224, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x672x2048, .bf16⟩
  | .hbm, ⟨1, _⟩ => ⟨S672x2048, .f32⟩
  | .local _ .vmem, ⟨0, _⟩ => ⟨S8x224x2048, .bf16⟩
  | .local _ .vmem, ⟨1, _⟩ => ⟨S8x224x2048, .bf16⟩
  | .local _ .vmem, ⟨2, _⟩ => ⟨S224x2048, .f32⟩
  | .local _ .vmem, ⟨3, _⟩ => ⟨S224x2048, .f32⟩
  | _, _ => ⟨S8x672x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x224x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S224x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S8x672x2048 : Shape := ⟨3, ![8, 672, 2048]⟩
abbrev S_ : Shape := ⟨0, ![]⟩
abbrev S672x2048 : Shape := ⟨2, ![672, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x672x2048, .bf16⟩
  | .hbm, ⟨1, _⟩ => ⟨S8x672x2048, .f32⟩
  | .hbm, ⟨2, _⟩ => ⟨S_, .f32⟩
  | .hbm, ⟨3, _⟩ => ⟨S672x2048, .f32⟩
  | _, _ => ⟨S8x672x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOut.lean ====
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .local _ .vmem, ⟨0, _⟩ => ⟨S8x256x2048, .bf16⟩
  | .local _ .vmem, ⟨1, _⟩ => ⟨S256x2048, .f32⟩
  | _, _ => ⟨S8x256x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutRefIdeal.lean ====
abbrev S8x256x2048 : Shape := ⟨3, ![8, 256, 2048]⟩
abbrev S_ : Shape := ⟨0, ![]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .f32⟩
  | .hbm, ⟨2, _⟩ => ⟨S_, .f32⟩
  | .hbm, ⟨3, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUp.lean ====
abbrev S8x1408x2048 : Shape := ⟨3, ![8, 1408, 2048]⟩
abbrev S1408x2048 : Shape := ⟨2, ![1408, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x1408x2048, .bf16⟩
  | .hbm, ⟨1, _⟩ => ⟨S1408x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | _, _ => ⟨S8x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S8x1408x2048 : Shape := ⟨3, ![8, 1408, 2048]⟩
abbrev S_ : Shape := ⟨0, ![]⟩
abbrev S1408x2048 : Shape := ⟨2, ![1408, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x1408x2048, .bf16⟩
  | .hbm, ⟨1, _⟩ => ⟨S8x1408x2048, .f32⟩
  | .hbm, ⟨2, _⟩ => ⟨S_, .f32⟩
  | .hbm, ⟨3, _⟩ => ⟨S1408x2048, .f32⟩
  | _, _ => ⟨S8x1408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumDown.lean ====
abbrev S8x704x2048 : Shape := ⟨3, ![8, 704, 2048]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownRefIdeal.lean ====
abbrev S8x704x2048 : Shape := ⟨3, ![8, 704, 2048]⟩
abbrev S_ : Shape := ⟨0, ![]⟩
abbrev S704x2048 : Shape := ⟨2, ![704, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .f32⟩
  | .hbm, ⟨2, _⟩ => ⟨S_, .f32⟩
  | .hbm, ⟨3, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NormFwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Total.lean ====
abbrev S1x4096x2048 : Shape := ⟨3, ![1, 4096, 2048]⟩
abbrev S4096x2048 : Shape := ⟨2, ![4096, 2048]⟩
abbrev S8x128 : Shape := ⟨2, ![8, 128]⟩
abbrev S256x2048 : Shape := ⟨2, ![256, 2048]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S_ : Shape := ⟨0, ![]⟩

abbrev nBuf : Space → Nat
  | .hbm => 18
  | .vmem => 9
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S8x128, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S8x128, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | _ => false

abbrev sig : RefSig :=
  ofTc nBuf bufTy 1 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v3_2 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v6_s0 : Ref sig .tc := ⟨.hbm, 10, rfl⟩
abbrev main_v6_s1 : Ref sig .tc := ⟨.hbm, 11, rfl⟩
abbrev main_v6_s2 : Ref sig .tc := ⟨.hbm, 12, rfl⟩
abbrev main_v6_s3 : Ref sig .tc := ⟨.hbm, 13, rfl⟩
abbrev main_v6_s4 : Ref sig .tc := ⟨.hbm, 14, rfl⟩
abbrev main_v6_s5 : Ref sig .tc := ⟨.hbm, 15, rfl⟩
abbrev main_v6_s6 : Ref sig .tc := ⟨.hbm, 16, rfl⟩
abbrev main_v6_s7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev ar0_recv : DmaSem sig := 9
abbrev ar0_send : DmaSem sig := 10
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v6_s0 | 1 => main_v6_s1 | 2 => main_v6_s2 | 3 => main_v6_s3 | 4 => main_v6_s4 | 5 => main_v6_s5 | 6 => main_v6_s6 | 7 => main_v6_s7 | ⟨_ + 8, h⟩ => absurd h (Nat.not_lt.2 (Nat.le_add_left _ _))

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== TotalRefIdeal.lean ====
abbrev S1x4096x2048 : Shape := ⟨3, ![1, 4096, 2048]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x4096x2048, .f32⟩
  | .hbm, ⟨3, _⟩ => ⟨S1x4096x2048, .f32⟩
  | .hbm, ⟨4, _⟩ => ⟨S_, .f32⟩
  | .hbm, ⟨5, _⟩ => ⟨S1x4096, .f32⟩
  | .hbm, ⟨6, _⟩ => ⟨S_, .f32⟩
  | .hbm, ⟨7, _⟩ => ⟨S1x4096, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S1x4096x2048, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v9_s0 : Ref sig .tc := ⟨.hbm, 15, rfl⟩
abbrev main_v9_s1 : Ref sig .tc := ⟨.hbm, 16, rfl⟩
abbrev main_v9_s2 : Ref sig .tc := ⟨.hbm, 17, rfl⟩
abbrev main_v9_s3 : Ref sig .tc := ⟨.hbm, 18, rfl⟩
abbrev main_v9_s4 : Ref sig .tc := ⟨.hbm, 19, rfl⟩
abbrev main_v9_s5 : Ref sig .tc := ⟨.hbm, 20, rfl⟩
abbrev main_v9_s6 : Ref sig .tc := ⟨.hbm, 21, rfl⟩
abbrev main_v9_s7 : Ref sig .tc := ⟨.hbm, 22, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v9_s0 | 1 => main_v9_s1 | 2 => main_v9_s2 | 3 => main_v9_s3 | 4 => main_v9_s4 | 5 => main_v9_s5 | 6 => main_v9_s6 | 7 => main_v9_s7 | ⟨_ + 8, h⟩ => absurd h (Nat.not_lt.2 (Nat.le_add_left _ _))
-- ==== Proof.ConvSpec.lean ====
/-
  The convolution's and the gate's gradient, column by column, on the extended reals: the functions both sides are read as.
  A column is a function of the 4096 rows; `down n` and `up n` move it by `n` rows and fill with zeros.
-/
module

public import Idealize.ShloMosaic.Lib.Pointwise

@[expose] public section

set_option maxRecDepth 16384

noncomputable section

open Idealize.ShloMosaic

namespace Cert.ConvSpec

/-- A column: one number per row. -/
abbrev Col : Type := Fin 4096 → EReal

/-- The column moved down by `n` rows, zeros entering at the top. -/
def down (n : Nat) (x : Col) : Col := fun s => if h : n ≤ (s : Nat) then x ⟨s - n, by omega⟩ else 0

/-- The column moved up by `n` rows, zeros entering at the bottom. -/
def up (n : Nat) (x : Col) : Col := fun s => if h : (s : Nat) + n < 4096 then x ⟨s + n, h⟩ else 0

/-- The causal convolution of width three. -/
def conv (w0 w1 w2 b : EReal) (x : Col) : Col := fun s => b + w0 * down 2 x s + w1 * down 1 x s + w2 * x s

/-- The gradient with respect to the gate as the kernel computes it, of the upstream gradient `d`, the gate `g`, the other half `v`. -/
def dgate (d g v : EReal) : EReal := d * v * (Ideal.logistic g * (1 + g * (1 - Ideal.logistic g)))

/-- The gradient with respect to the other half. -/
def dup (d g : EReal) : EReal := d * (g * Ideal.logistic g)

/-- The convolution's transpose, applied to the column `d`. -/
def back (w0 w1 w2 : EReal) (d : Col) : Col := fun s => w2 * d s + w1 * up 1 d s + w0 * up 2 d s

/-- The gradient of the convolution's `i`-th weight. -/
def dw (i : Fin 3) (x d : Col) : EReal := ∑ s : Fin 4096, d s * down (2 - i) x s

/-- Column `l` of an array. -/
abbrev colOf {n m : Nat} (x : (⟨2, ![n, m]⟩ : Shape).Idx → EReal) (l : Fin m) : Fin n → EReal := fun s => x (ix2 s l)

/-- A column of the gate's half. -/
def lo (n : Fin 5632) : Fin 11264 := ⟨n, by omega⟩
/-- The same column of the other half. -/
def hi (n : Fin 5632) : Fin 11264 := ⟨n + 5632, by omega⟩

section Arrays

variable (U : (⟨2, ![4096, 11264]⟩ : Shape).Idx → EReal) (A : (⟨2, ![4096, 5632]⟩ : Shape).Idx → EReal)
variable (W : (⟨2, ![3, 11264]⟩ : Shape).Idx → EReal) (B : (⟨2, ![1, 11264]⟩ : Shape).Idx → EReal)

/-- Column `k` of the convolution. -/
def cv (k : Fin 11264) : Col := conv (W (ix2 0 k)) (W (ix2 1 k)) (W (ix2 2 k)) (B (ix2 0 k)) (colOf U k)

/-- Column `n` of the gradient with respect to the gate. -/
def dG (n : Fin 5632) : Col := fun s => dgate (A (ix2 s n)) (cv U W B (lo n) s) (cv U W B (hi n) s)

/-- Column `n` of the gradient with respect to the other half. -/
def dU (n : Fin 5632) : Col := fun s => dup (A (ix2 s n)) (cv U W B (lo n) s)

/-- The six results. -/
def rG (i : (⟨2, ![4096, 5632]⟩ : Shape).Idx) : EReal :=
  back (W (ix2 0 (lo (i 1)))) (W (ix2 1 (lo (i 1)))) (W (ix2 2 (lo (i 1)))) (dG U A W B (i 1)) (i 0)
def rU (i : (⟨2, ![4096, 5632]⟩ : Shape).Idx) : EReal :=
  back (W (ix2 0 (hi (i 1)))) (W (ix2 1 (hi (i 1)))) (W (ix2 2 (hi (i 1)))) (dU U A W B (i 1)) (i 0)
def rWG (i : (⟨2, ![3, 5632]⟩ : Shape).Idx) : EReal := dw (i 0) (colOf U (lo (i 1))) (dG U A W B (i 1))
def rWU (i : (⟨2, ![3, 5632]⟩ : Shape).Idx) : EReal := dw (i 0) (colOf U (hi (i 1))) (dU U A W B (i 1))
def rBG (i : (⟨2, ![1, 5632]⟩ : Shape).Idx) : EReal := ∑ s : Fin 4096, dG U A W B (i 1) s
def rBU (i : (⟨2, ![1, 5632]⟩ : Shape).Idx) : EReal := ∑ s : Fin 4096, dU U A W B (i 1) s

end Arrays

end Cert.ConvSpec
-- ==== Proof.ConvPay.lean ====
/-
  The kernel body's vectors read at an index.
-/
module

public import proofs.«01_k».proof.Proof.ConvSpec
public import proofs.«01_k».proof.Proof.Gen.ConvIdeal.Frame
public import Idealize.ShloMosaic.Lib.KernelVsHost
public import Idealize.ShloMosaic.Lib.Pipeline.Value

@[expose] public section

set_option maxRecDepth 16384

noncomputable section

open Idealize.ShloMosaic
open Cert.ConvIdeal Cert.ConvIdeal.Gen
open Cert.ConvSpec

namespace Cert.ConvPay

/-- The row numbers the body makes. -/
def rowsI : IVec S4096x128 32 := iota .tc S4096x128 32 [0] iota_S4096x128_d0_w32

theorem rowsI_apply (s : Fin 4096) (l : Fin 128) : rowsI (ix2 s l) = BitVec.ofNat 32 (s : Nat) := by
  pointwise [rowsI]

/-- The kernel's move down, as printed: a rotation, its first eight rows masked. -/
def shDown (n : BitVec 32) (x : FVec Ideal S4096x128 .f32) : FVec Ideal S4096x128 .f32 :=
  concatenate S4096x128 0 [⟨S8x128, select (cmpi .sge (extractStridedSlice S8x128 ![0, 0] rowsI slices_S4096x128_o0_0_S8x128) (broadcast S8x128 n))
      (extractStridedSlice (s := S4096x128) S8x128 ![0, 0] (dynamicRotate 0 n none x rotates_S4096x128_d0) slices_S4096x128_o0_0_S8x128)
      (broadcast S8x128 (Scalar.ofBits (F := Ideal) .f32 0x00000000#32))⟩,
    ⟨S4088x128, extractStridedSlice S4088x128 ![8, 0] (dynamicRotate 0 n none x rotates_S4096x128_d0) slices_S4096x128_o8_0_S4088x128⟩]
    concatenates_S8x128_S4088x128_S4096x128_d0

/-- The kernel's move up, as printed: a rotation, its last eight rows masked. -/
def shUp (n : BitVec 32) (x : FVec Ideal S4096x128 .f32) : FVec Ideal S4096x128 .f32 :=
  concatenate S4096x128 0 [⟨S4088x128, extractStridedSlice S4088x128 ![0, 0] (dynamicRotate 0 n none x rotates_S4096x128_d0) slices_S4096x128_o0_0_S4088x128⟩,
    ⟨S8x128, select (cmpi .slt (extractStridedSlice S8x128 ![4088, 0] rowsI slices_S4096x128_o4088_0_S8x128) (broadcast S8x128 n))
      (extractStridedSlice (s := S4096x128) S8x128 ![4088, 0] (dynamicRotate 0 n none x rotates_S4096x128_d0) slices_S4096x128_o4088_0_S8x128)
      (broadcast S8x128 (Scalar.ofBits (F := Ideal) .f32 0x00000000#32))⟩]
    concatenates_S4088x128_S8x128_S4096x128_d0

theorem rot_apply (n : BitVec 32) (x : FVec Ideal S4096x128 .f32) (s r : Fin 4096) (l : Fin 128)
    (hr : (r : Nat) = ((s : Nat) + 4096 - n.toNat % 4096) % 4096) :
    dynamicRotate 0 n none x rotates_S4096x128_d0 (ix2 s l) = x (ix2 r l) := by
  refine dynamicRotate_apply 0 n x _ (ix2 s l) (ix2 r l) fun b => ?_
  match b with
  | ⟨0, _⟩ => exact hr
  | ⟨1, _⟩ => rfl

theorem shUp_apply (k : Nat) (hk : 0 < k ∧ k < 8) (x : FVec Ideal S4096x128 .f32) (s : Fin 4096) (l : Fin 128) :
    shUp (BitVec.ofNat 32 (4096 - k)) x (ix2 s l) = up k (colOf x l) s := by
  have hs := s.isLt
  have hn : (BitVec.ofNat 32 (4096 - k)).toNat = 4096 - k := by
    rw [BitVec.toNat_ofNat]; exact Nat.mod_eq_of_lt (by omega)
  have hrow : rowsI (ix2 s l) = BitVec.ofNat 32 (s : Nat) := rowsI_apply s l
  unfold shUp up colOf
  by_cases h : (s : Nat) < 4088
  · rw [dif_pos (by omega),
      concatenate_pair_apply_left (t := S4096x128) (s₁ := S4088x128) (s₂ := S8x128) 0 _ _ _ (ix2 s l) rfl (ix2 (⟨s, h⟩ : Fin 4088) l)
        (fun b => match b with | ⟨0, _⟩ => rfl | ⟨1, _⟩ => rfl),
      extractStridedSlice_apply _ _ _ _ (ix2 s l) (fun b => match b with | ⟨0, _⟩ => (Nat.zero_add _).symm | ⟨1, _⟩ => (Nat.zero_add _).symm)]
    exact rot_apply _ x s ⟨s + k, by omega⟩ l (by rw [hn]; simp only; omega)
  · rw [concatenate_pair_apply_right (t := S4096x128) (s₁ := S4088x128) (s₂ := S8x128) 0 _ _ _ (ix2 s l) rfl rfl (ix2 (⟨s - 4088, by omega⟩ : Fin 8) l)
        (fun b => match b with | ⟨0, _⟩ => fun hb => absurd rfl hb | ⟨1, _⟩ => fun _ => rfl)
        (show (s : Nat) - 4088 + 4088 = s by omega)]
    show Scalar.select (IntOp.cmpi .slt (extractStridedSlice S8x128 ![4088, 0] rowsI _ _) _) (extractStridedSlice (s := S4096x128) S8x128 ![4088, 0] (dynamicRotate _ _ _ _ _) _ _)
      (Ideal.ofBits .f32 0x00000000#32) = _
    have e : ∀ b : Fin 2, ((ix2 s l : S4096x128.Idx) b).val = (![4088, 0] : Fin 2 → Nat) b + ((ix2 (⟨s - 4088, by omega⟩ : Fin 8) l : S8x128.Idx) b).val :=
      fun b => match b with | ⟨0, _⟩ => (show (s : Nat) = 4088 + (s - 4088) by omega) | ⟨1, _⟩ => (Nat.zero_add _).symm
    rw [extractStridedSlice_apply _ _ _ _ (ix2 s l) e, extractStridedSlice_apply _ _ _ _ (ix2 s l) e, hrow, Ideal.ofBits_zero_f32]
    change Scalar.select (IntOp.cmpi .slt (BitVec.ofNat 32 (s : Nat)) (BitVec.ofNat 32 (4096 - k))) _ _ = _
    rw [WordCmp.cmpi_slt_ofNat (by omega) (by omega)]
    by_cases h2 : (s : Nat) + k < 4096
    · rw [dif_pos h2, decide_eq_true (by omega)]
      exact rot_apply _ x s ⟨s + k, h2⟩ l (by rw [hn]; simp only; omega)
    · rw [dif_neg h2, decide_eq_false (by omega)]; rfl

/-- The kernel's move down: a rotation whose first eight rows are masked. -/
theorem down_read {m : Nat} (n : Nat) (hn : 0 < n ∧ n < 8) (x : (⟨2, ![4096, m]⟩ : Shape).Idx → EReal) (s : Fin 4096) (l : Fin m)
    (p q) :
    (if h : (s : Nat) < 8 then Scalar.select (IntOp.cmpi CmpIPredicate.sge (BitVec.ofNat 32 s) (BitVec.ofNat 32 n))
        (x (ix2 ⟨((s : Nat) + 4096 - n) % 4096, p⟩ l)) 0
      else x (ix2 ⟨(8 + ((s : Nat) - 8) + 4096 - n) % 4096, q⟩ l)) = down n (colOf x l) s := by
  have hs := s.isLt
  unfold down colOf
  by_cases h : (s : Nat) < 8
  · rw [dif_pos h, WordCmp.cmpi_sge_ofNat (by omega) (by omega)]
    by_cases h2 : n ≤ (s : Nat)
    · rw [dif_pos h2, decide_eq_true h2]
      exact congrArg (fun r => x (ix2 r l)) (Fin.ext (by simp only; omega))
    · rw [dif_neg h2, decide_eq_false h2]; rfl
  · rw [dif_neg h, dif_pos (by omega)]
    exact congrArg (fun r => x (ix2 r l)) (Fin.ext (by simp only; omega))

theorem shDown_apply (n : Nat) (hn : 0 < n ∧ n < 8) (x : FVec Ideal S4096x128 .f32) (s : Fin 4096) (l : Fin 128) :
    shDown (BitVec.ofNat 32 n) x (ix2 s l) = down n (colOf x l) s := by
  rw [← down_read n hn x s l (Nat.mod_lt _ (by decide)) (Nat.mod_lt _ (by decide))]
  have hnn : (BitVec.ofNat 32 n).toNat = n := by
    rw [BitVec.toNat_ofNat]; exact Nat.mod_eq_of_lt (by omega)
  have hs := s.isLt
  unfold shDown
  by_cases h : (s : Nat) < 8
  · rw [dif_pos h, concatenate_pair_apply_left (t := S4096x128) (s₁ := S8x128) (s₂ := S4088x128) 0 _ _ _ (ix2 s l) rfl (ix2 (⟨s, h⟩ : Fin 8) l)
        (fun b => match b with | ⟨0, _⟩ => rfl | ⟨1, _⟩ => rfl)]
    show Scalar.select (IntOp.cmpi .sge (extractStridedSlice S8x128 ![0, 0] rowsI _ _) _) (extractStridedSlice (s := S4096x128) S8x128 ![0, 0] (dynamicRotate _ _ _ _ _) _ _)
      (Ideal.ofBits .f32 0x00000000#32) = _
    have e : ∀ b : Fin 2, ((ix2 s l : S4096x128.Idx) b).val = (![0, 0] : Fin 2 → Nat) b + ((ix2 (⟨s, h⟩ : Fin 8) l : S8x128.Idx) b).val :=
      fun b => match b with | ⟨0, _⟩ => (Nat.zero_add _).symm | ⟨1, _⟩ => (Nat.zero_add _).symm
    rw [extractStridedSlice_apply _ _ _ _ (ix2 s l) e, extractStridedSlice_apply _ _ _ _ (ix2 s l) e, Ideal.ofBits_zero_f32, rowsI_apply,
      rot_apply _ x s ⟨((s : Nat) + 4096 - n) % 4096, Nat.mod_lt _ (by decide)⟩ l (by rw [hnn]; simp only; omega)]
    rfl
  · rw [dif_neg h, concatenate_pair_apply_right (t := S4096x128) (s₁ := S8x128) (s₂ := S4088x128) 0 _ _ _ (ix2 s l) rfl rfl (ix2 (⟨s - 8, by omega⟩ : Fin 4088) l)
        (fun b => match b with | ⟨0, _⟩ => fun hb => absurd rfl hb | ⟨1, _⟩ => fun _ => rfl)
        (show (s : Nat) - 8 + 8 = s by omega)]
    have e : ∀ b : Fin 2, ((ix2 s l : S4096x128.Idx) b).val = (![8, 0] : Fin 2 → Nat) b + ((ix2 (⟨s - 8, by omega⟩ : Fin 4088) l : S4088x128.Idx) b).val :=
      fun b => match b with | ⟨0, _⟩ => (show (s : Nat) = 8 + (s - 8) by omega) | ⟨1, _⟩ => (Nat.zero_add _).symm
    rw [extractStridedSlice_apply _ _ _ _ (ix2 s l) e]
    exact rot_apply _ x s _ l (by rw [hnn]; simp only; omega)

theorem shUp1 (x : FVec Ideal S4096x128 .f32) (s : Fin 4096) (l : Fin 128) : shUp 4095#32 x (ix2 s l) = up 1 (colOf x l) s :=
  shUp_apply 1 (by decide) x s l
theorem shUp2 (x : FVec Ideal S4096x128 .f32) (s : Fin 4096) (l : Fin 128) : shUp 4094#32 x (ix2 s l) = up 2 (colOf x l) s :=
  shUp_apply 2 (by decide) x s l
theorem shDown1 (x : FVec Ideal S4096x128 .f32) (s : Fin 4096) (l : Fin 128) : shDown 1#32 x (ix2 s l) = down 1 (colOf x l) s :=
  shDown_apply 1 (by decide) x s l
theorem shDown2 (x : FVec Ideal S4096x128 .f32) (s : Fin 4096) (l : Fin 128) : shDown 2#32 x (ix2 s l) = down 2 (colOf x l) s :=
  shDown_apply 2 (by decide) x s l

/-- A row of one block of the weights, spread over the rows. -/
theorem row_apply (w : FVec Ideal S1x128 .f32) (s : Fin 4096) (l : Fin 128) :
    broadcastTo S4096x128 w broadcasts_S1x128_S4096x128 (ix2 s l) = w (ix2 0 l) := by
  pointwise

theorem conv_apply (x : FVec Ideal S4096x128 .f32) (b w0 w1 w2 : FVec Ideal S1x128 .f32) (s : Fin 4096) (l : Fin 128) :
    k0_pay3 (F := Ideal) x b w0 w1 w2 (ix2 s l)
      = conv (w0 (ix2 0 l)) (w1 (ix2 0 l)) (w2 (ix2 0 l)) (b (ix2 0 l)) (colOf x l) s := by
  show (_ + _ * shDown 2#32 x (ix2 s l)) + _ * shDown 1#32 x (ix2 s l) + _ * x (ix2 s l) = _
  rw [shDown2, shDown1, row_apply, row_apply, row_apply, row_apply]
  rfl

theorem dgate_apply (xu G da : FVec Ideal S4096x128 .f32) (bu u0 u1 u2 : FVec Ideal S1x128 .f32) (s : Fin 4096) (l : Fin 128) :
    k0_pay5 (F := Ideal) rowsI xu G bu u0 u1 u2 da (ix2 s l)
      = dgate (da (ix2 s l)) (G (ix2 s l)) (conv (u0 (ix2 0 l)) (u1 (ix2 0 l)) (u2 (ix2 0 l)) (bu (ix2 0 l)) (colOf xu l) s) := by
  show (da (ix2 s l) * ((_ + _ * shDown 2#32 xu (ix2 s l)) + _ * shDown 1#32 xu (ix2 s l) + _ * xu (ix2 s l)))
    * (Ideal.logistic (G (ix2 s l)) * (Ideal.ofBits .f32 0x3F800000#32 + G (ix2 s l) * (Ideal.ofBits .f32 0x3F800000#32 - Ideal.logistic (G (ix2 s l))))) = _
  rw [shDown2, shDown1, row_apply, row_apply, row_apply, row_apply, Ideal.ofBits_one_f32]
  rfl

theorem dup_apply (G da : FVec Ideal S4096x128 .f32) (s : Fin 4096) (l : Fin 128) :
    k0_pay6 (F := Ideal) G da (ix2 s l) = dup (da (ix2 s l)) (G (ix2 s l)) := rfl

theorem backg_apply (D : FVec Ideal S4096x128 .f32) (w0 w1 w2 : FVec Ideal S1x128 .f32) (s : Fin 4096) (l : Fin 128) :
    k0_pay8 (F := Ideal) rowsI D (k0_pay7 w2) w1 w0 (ix2 s l)
      = back (w0 (ix2 0 l)) (w1 (ix2 0 l)) (w2 (ix2 0 l)) (colOf D l) s := by
  show (_ * D (ix2 s l) + _ * shUp 4095#32 D (ix2 s l)) + _ * shUp 4094#32 D (ix2 s l) = _
  unfold k0_pay7
  rw [shUp1, shUp2, row_apply, row_apply, row_apply]
  rfl

theorem backu_apply (D : FVec Ideal S4096x128 .f32) (w0 w1 w2 : FVec Ideal S1x128 .f32) (s : Fin 4096) (l : Fin 128) :
    k0_pay14 (F := Ideal) rowsI D (k0_pay13 rowsI D w2 w1) w0 (ix2 s l)
      = back (w0 (ix2 0 l)) (w1 (ix2 0 l)) (w2 (ix2 0 l)) (colOf D l) s := by
  show (_ * D (ix2 s l) + _ * shUp 4095#32 D (ix2 s l)) + _ * shUp 4094#32 D (ix2 s l) = _
  rw [shUp1, shUp2, row_apply, row_apply, row_apply]
  rfl

/-- The sum over the rows of a block, kept as a row. -/
theorem sum_apply (X : FVec Ideal S4096x128 .f32) (l : Fin 128) :
    k0_pay12 (F := Ideal) X (ix2 0 l) = ∑ s : Fin 4096, X (ix2 s l) := by
  pointwise [k0_pay12]

theorem dw_eq (X D : FVec Ideal S4096x128 .f32) (l : Fin 128) (c : Col) (h : ∀ s, X (ix2 s l) = c s) :
    k0_pay12 (F := Ideal) (mulf D X) (ix2 0 l) = ∑ s : Fin 4096, colOf D l s * c s := by
  rw [sum_apply]
  exact Finset.sum_congr rfl fun s _ => by rw [← h s]; rfl

theorem dwg0_apply (x D : FVec Ideal S4096x128 .f32) (l : Fin 128) :
    k0_pay9 (F := Ideal) rowsI x D (ix2 0 l) = dw 0 (colOf x l) (colOf D l) :=
  dw_eq (shDown 2#32 x) D l _ fun s => shDown2 x s l
theorem dwg1_apply (x D : FVec Ideal S4096x128 .f32) (l : Fin 128) :
    k0_pay10 (F := Ideal) rowsI x D (ix2 0 l) = dw 1 (colOf x l) (colOf D l) :=
  dw_eq (shDown 1#32 x) D l _ fun s => shDown1 x s l
theorem dwg2_apply (x D : FVec Ideal S4096x128 .f32) (l : Fin 128) :
    k0_pay11 (F := Ideal) x D (ix2 0 l) = dw 2 (colOf x l) (colOf D l) :=
  dw_eq x D l _ fun s => (by show _ = down 0 (colOf x l) s; unfold down; rw [dif_pos (Nat.zero_le _)]; rfl)
theorem dwu0_apply (x D : FVec Ideal S4096x128 .f32) (l : Fin 128) :
    k0_pay15 (F := Ideal) rowsI x D (ix2 0 l) = dw 0 (colOf x l) (colOf D l) := dwg0_apply x D l
theorem dwu1_apply (x D : FVec Ideal S4096x128 .f32) (l : Fin 128) :
    k0_pay16 (F := Ideal) rowsI x D (ix2 0 l) = dw 1 (colOf x l) (colOf D l) := dwg1_apply x D l
theorem dwu2_apply (x D : FVec Ideal S4096x128 .f32) (l : Fin 128) :
    k0_pay1 (F := Ideal) x D (ix2 0 l) = dw 2 (colOf x l) (colOf D l) := dwg2_apply x D l
theorem sumu_apply (X : FVec Ideal S4096x128 .f32) (l : Fin 128) :
    k0_pay2 (F := Ideal) X (ix2 0 l) = ∑ s : Fin 4096, X (ix2 s l) := sum_apply X l

end Cert.ConvPay
-- ==== Proof.ConvValue.lean ====
/-
  The kernel's six result arrays after the run, on the extended reals.
-/
module

public import proofs.«01_k».proof.Proof.ConvPay
public import proofs.«01_k».proof.Proof.Gen.ConvIdeal.Value
public import Idealize.ShloMosaic.Lib.Pipeline.ValueKit

@[expose] public section

set_option maxRecDepth 16384

noncomputable section

open Idealize.ShloMosaic Idealize.ShloMosaic.TcCoe Idealize.SL.Sem
open Cert.ConvIdeal Cert.ConvIdeal.Gen
open Cert.ConvSpec Cert.ConvPay

namespace Cert.ConvValue

variable (m : (ℓ : Loc nD τ sig) → Buf (Elt Ideal) ℓ) (c : Dev nD)

abbrev aU := m ((c : Thread nD τ).loc main_arg0)
abbrev aA := m ((c : Thread nD τ).loc main_arg1)
abbrev aW := m ((c : Thread nD τ).loc main_arg2)
abbrev aB := m ((c : Thread nD τ).loc main_arg3)

theorem idx : ∀ t : Fin grid0.N, win0_0.index t = ![0, t.val] ∧ win0_1.index t = ![0, t.val + 44] ∧ win0_2.index t = ![0, t.val]
    ∧ win0_3.index t = ![0, t.val] ∧ win0_4.index t = ![0, t.val + 44] ∧ win0_5.index t = ![0, t.val] ∧ win0_6.index t = ![0, t.val + 44]
    ∧ win0_7.index t = ![0, t.val] ∧ win0_8.index t = ![0, t.val] ∧ win0_9.index t = ![0, t.val] ∧ win0_10.index t = ![0, t.val]
    ∧ win0_11.index t = ![0, t.val] ∧ win0_12.index t = ![0, t.val] := by decide +kernel

/-- The array column that lane `l` of block `t` is. -/
def col (t : Fin cfg0.N) (l : Fin 128) : Fin 5632 := ⟨t.val * 128 + l.val, by have := t.isLt; have h : cfg0.N = 44 := N_0; omega⟩

theorem b0 (t : Fin cfg0.N) (s : Fin 4096) (l : Fin 128) : iblk m c 0 t (ix2 s l) = aU m c (ix2 s (lo (col t l))) := by
  blk_ext [iblk, V, idx t, lo, col]
theorem b1 (t : Fin cfg0.N) (s : Fin 4096) (l : Fin 128) : iblk m c 1 t (ix2 s l) = aU m c (ix2 s (hi (col t l))) := by
  blk_ext [iblk, V, idx t, hi, col]
theorem b2 (t : Fin cfg0.N) (s : Fin 4096) (l : Fin 128) : iblk m c 2 t (ix2 s l) = aA m c (ix2 s (col t l)) := by
  blk_ext [iblk, V, idx t, col]
theorem b3 (t : Fin cfg0.N) (s : Fin 3) (l : Fin 128) : iblk m c 3 t (ix2 s l) = aW m c (ix2 s (lo (col t l))) := by
  blk_ext [iblk, V, idx t, lo, col]
theorem b4 (t : Fin cfg0.N) (s : Fin 3) (l : Fin 128) : iblk m c 4 t (ix2 s l) = aW m c (ix2 s (hi (col t l))) := by
  blk_ext [iblk, V, idx t, hi, col]
theorem b5 (t : Fin cfg0.N) (l : Fin 128) : iblk m c 5 t (ix2 0 l) = aB m c (ix2 0 (lo (col t l))) := by
  blk_ext [iblk, V, idx t, lo, col]
theorem b6 (t : Fin cfg0.N) (l : Fin 128) : iblk m c 6 t (ix2 0 l) = aB m c (ix2 0 (hi (col t l))) := by
  blk_ext [iblk, V, idx t, hi, col]

/-- The loads of the weights' rows and of whole blocks. -/
theorem ldW0 (x : Vec Ideal S3x128 .f32) (l : Fin 128) : View.ld x r0_2 (ix2 0 l) = x (ix2 0 l) := by pointwise [r0_2]
theorem ldW1 (x : Vec Ideal S3x128 .f32) (l : Fin 128) : View.ld x r0_3 (ix2 0 l) = x (ix2 1 l) := by pointwise [r0_3]
theorem ldW2 (x : Vec Ideal S3x128 .f32) (l : Fin 128) : View.ld x r0_4 (ix2 0 l) = x (ix2 2 l) := by pointwise [r0_4]
theorem ldB (x : Vec Ideal S1x128 .f32) (l : Fin 128) : View.ld x r0_1 (ix2 0 l) = x (ix2 0 l) := by pointwise [r0_1]
theorem ldX (x : Vec Ideal S4096x128 .f32) : View.ld x r0_0 = x :=
  View.ld_unit_zero (funext fun a => by fin_cases a <;> rfl) _ _

/-- The gate of block `t`. -/
def G (t : Fin cfg0.N) := k0_pay18 (iblk m c 0 t) (iblk m c 1 t) (iblk m c 2 t) (iblk m c 3 t) (iblk m c 4 t) (iblk m c 5 t) (iblk m c 6 t)
/-- Its gradient. -/
def DG (t : Fin cfg0.N) := k0_pay19 (iblk m c 0 t) (iblk m c 1 t) (iblk m c 2 t) (iblk m c 3 t) (iblk m c 4 t) (iblk m c 5 t) (iblk m c 6 t)
/-- The other half's gradient. -/
def DU (t : Fin cfg0.N) := k0_pay20 (iblk m c 0 t) (iblk m c 1 t) (iblk m c 2 t) (iblk m c 3 t) (iblk m c 4 t) (iblk m c 5 t) (iblk m c 6 t)

theorem colU0 (t : Fin cfg0.N) (l : Fin 128) : colOf (iblk m c 0 t : Vec Ideal S4096x128 .f32) l = colOf (aU m c) (lo (col t l)) :=
  funext fun s => b0 m c t s l
theorem colU1 (t : Fin cfg0.N) (l : Fin 128) : colOf (iblk m c 1 t : Vec Ideal S4096x128 .f32) l = colOf (aU m c) (hi (col t l)) :=
  funext fun s => b1 m c t s l

theorem G_apply (t : Fin cfg0.N) (s : Fin 4096) (l : Fin 128) :
    G m c t (ix2 s l) = cv (aU m c) (aW m c) (aB m c) (lo (col t l)) s := by
  unfold G k0_pay18
  rw [conv_apply, ldX, ldB, ldW0, ldW1, ldW2, b3, b3, b3, b5, colU0]
  rfl

theorem DG_apply (t : Fin cfg0.N) (s : Fin 4096) (l : Fin 128) :
    DG m c t (ix2 s l) = dG (aU m c) (aA m c) (aW m c) (aB m c) (col t l) s := by
  unfold DG k0_pay19
  have h := dgate_apply (iblk m c 1 t) (G m c t) (iblk m c 2 t) (View.ld (iblk m c 6 t) r0_1) (View.ld (iblk m c 4 t) r0_2)
    (View.ld (iblk m c 4 t) r0_3) (View.ld (iblk m c 4 t) r0_4) s l
  rw [G_apply, ldB, ldW0, ldW1, ldW2, b4, b4, b4, b6, b2, colU1] at h
  rw [ldX, ldX]
  exact h

theorem DU_apply (t : Fin cfg0.N) (s : Fin 4096) (l : Fin 128) :
    DU m c t (ix2 s l) = dU (aU m c) (aA m c) (aW m c) (aB m c) (col t l) s := by
  unfold DU k0_pay20
  rw [ldX, dup_apply, b2]
  show dup _ (G m c t (ix2 s l)) = _
  rw [G_apply]
  rfl

theorem colDG (t : Fin cfg0.N) (l : Fin 128) : colOf (DG m c t) l = dG (aU m c) (aA m c) (aW m c) (aB m c) (col t l) :=
  funext fun s => DG_apply m c t s l
theorem colDU (t : Fin cfg0.N) (l : Fin 128) : colOf (DU m c t) l = dU (aU m c) (aA m c) (aW m c) (aB m c) (col t l) :=
  funext fun s => DU_apply m c t s l
theorem arr7 : (dats m 0 c).arrAt 7 cfg0.N = rG (aU m c) (aA m c) (aW m c) (aB m c) := by
  refine (dats m 0 c).arrAt_eq_of_covers 7 _ (by decide +kernel) fun t hf y => ?_
  blk_simp
  rw [after0_7]
  frame_out
  idx_vars y
  refine (backg_apply (DG m c t) _ _ _ y0 y1).trans ?_
  rw [ldW0, ldW1, ldW2, b3, b3, b3, colDG]
  show rG (aU m c) (aA m c) (aW m c) (aB m c) (ix2 y0 (col t y1)) = _
  refine congrArg (rG (aU m c) (aA m c) (aW m c) (aB m c)) ?_
  blk_ext [idx t, col]

theorem arr8 : (dats m 0 c).arrAt 8 cfg0.N = rU (aU m c) (aA m c) (aW m c) (aB m c) := by
  refine (dats m 0 c).arrAt_eq_of_covers 8 _ (by decide +kernel) fun t hf y => ?_
  blk_simp
  rw [after0_8]
  frame_out
  idx_vars y
  refine (backu_apply (DU m c t) _ _ _ y0 y1).trans ?_
  rw [ldW0, ldW1, ldW2, b4, b4, b4, colDU]
  show rU (aU m c) (aA m c) (aW m c) (aB m c) (ix2 y0 (col t y1)) = _
  refine congrArg (rU (aU m c) (aA m c) (aW m c) (aB m c)) ?_
  blk_ext [idx t, col]

theorem arr11 : (dats m 0 c).arrAt 11 cfg0.N = rBG (aU m c) (aA m c) (aW m c) (aB m c) := by
  refine (dats m 0 c).arrAt_eq_of_covers 11 _ (by decide +kernel) fun t hf y => ?_
  blk_simp
  rw [after0_11]
  frame_out
  idx_vars y
  obtain rfl : y0 = 0 := Subsingleton.elim _ _
  refine (sum_apply (DG m c t) y1).trans ?_
  rw [Finset.sum_congr rfl fun s _ => DG_apply m c t s y1]
  show rBG (aU m c) (aA m c) (aW m c) (aB m c) (ix2 0 (col t y1)) = _
  refine congrArg (rBG (aU m c) (aA m c) (aW m c) (aB m c)) ?_
  blk_ext [idx t, col]

theorem arr12 : (dats m 0 c).arrAt 12 cfg0.N = rBU (aU m c) (aA m c) (aW m c) (aB m c) := by
  refine (dats m 0 c).arrAt_eq_of_covers 12 _ (by decide +kernel) fun t hf y => ?_
  blk_simp
  rw [after0_12]
  frame_out
  idx_vars y
  obtain rfl : y0 = 0 := Subsingleton.elim _ _
  refine (sumu_apply (DU m c t) y1).trans ?_
  rw [Finset.sum_congr rfl fun s _ => DU_apply m c t s y1]
  show rBU (aU m c) (aA m c) (aW m c) (aB m c) (ix2 0 (col t y1)) = _
  refine congrArg (rBU (aU m c) (aA m c) (aW m c) (aB m c)) ?_
  blk_ext [idx t, col]

theorem arr9 : (dats m 0 c).arrAt 9 cfg0.N = rWG (aU m c) (aA m c) (aW m c) (aB m c) := by
  refine (dats m 0 c).arrAt_eq_of_covers 9 _ (by decide +kernel) fun t hf y => ?_
  blk_simp
  rw [after0_9]
  frame_out
  idx_vars y
  have e : rWG (aU m c) (aA m c) (aW m c) (aB m c) (((View.whole main_v0_2).slice (win0_9.rect t)).emb (ix2 y0 y1))
      = dw y0 (colOf (aU m c) (lo (col t y1))) (dG (aU m c) (aA m c) (aW m c) (aB m c) (col t y1)) := by
    show _ = rWG (aU m c) (aA m c) (aW m c) (aB m c) (ix2 y0 (col t y1))
    refine congrArg (rWG (aU m c) (aA m c) (aW m c) (aB m c)) ?_
    blk_ext [idx t, col]
  rw [e, ← colDG, ← colU0]
  clear e
  canon_tiles x h
  all_goals
    idx_vars x
    obtain rfl : x0 = 0 := Subsingleton.elim _ _
    obtain rfl : y1 = x1 := Fin.ext h1
  · obtain rfl : y0 = 2 := Fin.ext h0
    exact dwg2_apply (iblk m c 0 t) (DG m c t) y1
  · obtain rfl : y0 = 1 := Fin.ext h0
    exact dwg1_apply (iblk m c 0 t) (DG m c t) y1
  · obtain rfl : y0 = 0 := Fin.ext h0
    exact dwg0_apply (iblk m c 0 t) (DG m c t) y1

theorem arr10 : (dats m 0 c).arrAt 10 cfg0.N = rWU (aU m c) (aA m c) (aW m c) (aB m c) := by
  refine (dats m 0 c).arrAt_eq_of_covers 10 _ (by decide +kernel) fun t hf y => ?_
  blk_simp
  rw [after0_10]
  frame_out
  idx_vars y
  have e : rWU (aU m c) (aA m c) (aW m c) (aB m c) (((View.whole main_v0_3).slice (win0_10.rect t)).emb (ix2 y0 y1))
      = dw y0 (colOf (aU m c) (hi (col t y1))) (dU (aU m c) (aA m c) (aW m c) (aB m c) (col t y1)) := by
    show _ = rWU (aU m c) (aA m c) (aW m c) (aB m c) (ix2 y0 (col t y1))
    refine congrArg (rWU (aU m c) (aA m c) (aW m c) (aB m c)) ?_
    blk_ext [idx t, col]
  rw [e, ← colDU, ← colU1]
  clear e
  canon_tiles x h
  all_goals
    idx_vars x
    obtain rfl : x0 = 0 := Subsingleton.elim _ _
    obtain rfl : y1 = x1 := Fin.ext h1
  · obtain rfl : y0 = 2 := Fin.ext h0
    exact dwu2_apply (iblk m c 1 t) (DU m c t) y1
  · obtain rfl : y0 = 1 := Fin.ext h0
    exact dwu1_apply (iblk m c 1 t) (DU m c t) y1
  · obtain rfl : y0 = 0 := Fin.ext h0
    exact dwu0_apply (iblk m c 1 t) (DU m c t) y1

variable (ρ : Dev nD → PrngReg)

/-- The run, its six result arrays named. -/
theorem run : θ_run defs (onTc (τ := τ) (main (F := Ideal))) ⟨m, fun _ => 0, ρ⟩ fun r => ∀ c : Dev nD,
      r.2.mem ((c : Thread nD τ).loc main_v0_0) = rG (aU m c) (aA m c) (aW m c) (aB m c)
      ∧ r.2.mem ((c : Thread nD τ).loc main_v0_1) = rU (aU m c) (aA m c) (aW m c) (aB m c)
      ∧ r.2.mem ((c : Thread nD τ).loc main_v0_2) = rWG (aU m c) (aA m c) (aW m c) (aB m c)
      ∧ r.2.mem ((c : Thread nD τ).loc main_v0_3) = rWU (aU m c) (aA m c) (aW m c) (aB m c)
      ∧ r.2.mem ((c : Thread nD τ).loc main_v0_4) = rBG (aU m c) (aA m c) (aW m c) (aB m c)
      ∧ r.2.mem ((c : Thread nD τ).loc main_v0_5) = rBU (aU m c) (aA m c) (aW m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    have hc := h c
    rw [arr7, arr8, arr9, arr10, arr11, arr12] at hc
    exact hc) (Value.run_blocks m ρ)

end Cert.ConvValue
-- ==== Proof.ConvRefValue.lean ====
/-
  The reference's results read at an index, on the extended reals.
-/
module

public import proofs.«01_k».proof.Proof.ConvSpec
public import proofs.«01_k».proof.Proof.Gen.ConvRefIdeal.Read

@[expose] public section

set_option maxRecDepth 16384

noncomputable section

open Idealize.ShloMosaic
open Cert.ConvRefIdeal Cert.ConvRefIdeal.Gen Cert.ConvRefIdeal.Read
open Cert.ConvSpec

namespace Cert.ConvRefValue

variable (x0 : FVec Ideal S4096x11264 .f32) (x1 : FVec Ideal S4096x5632 .f32) (x2 : FVec Ideal S3x11264 .f32) (x3 : FVec Ideal S1x11264 .f32)

theorem r5 (s : Fin 4096) (k : Fin 11264) : val_main_v5 (F := Ideal) x0 (ix2 s k) = down 2 (colOf x0 k) s := by
  have hs := s.isLt
  have e : val_main_v5 (F := Ideal) x0 (ix2 s k) = if h : (s : Nat) < 2 then 0 else x0 (ix2 ⟨(s : Nat) - 2, by omega⟩ k) := by
    pointwise [val_main_v5, val_main_v1, val_main_v0, val_main_cst]
  rw [e]
  unfold down colOf
  by_cases h : (s : Nat) < 2
  · rw [dif_pos h, dif_neg (by omega)]
  · rw [dif_neg h, dif_pos (by omega)]
theorem r13 (s : Fin 4096) (k : Fin 11264) : val_main_v13 (F := Ideal) x0 (ix2 s k) = down 1 (colOf x0 k) s := by
  have hs := s.isLt
  have e : val_main_v13 (F := Ideal) x0 (ix2 s k) = if h : 1 + (s : Nat) < 2 then 0 else x0 (ix2 ⟨1 + (s : Nat) - 2, by omega⟩ k) := by
    pointwise [val_main_v13, val_main_v1, val_main_v0, val_main_cst]
  rw [e]
  unfold down colOf
  by_cases h : 1 + (s : Nat) < 2
  · rw [dif_pos h, dif_neg (by omega)]
  · rw [dif_neg h, dif_pos (by omega)]
    exact congrArg (fun r => x0 (ix2 r k)) (Fin.ext (by simp only; omega))
theorem r20 (s : Fin 4096) (k : Fin 11264) : val_main_v20 (F := Ideal) x0 (ix2 s k) = x0 (ix2 s k) := by
  pointwise [val_main_v20, val_main_v1, val_main_v0, val_main_cst]
theorem r24 (s : Fin 4096) (k : Fin 11264) : val_main_v24 (F := Ideal) x0 x2 x3 (ix2 s k) = cv x0 x2 x3 k s := by
  pointwise [val_main_v24, val_main_v23, val_main_v22, val_main_v21, val_main_v19, val_main_v18, val_main_v17, val_main_v16, val_main_v15,
    val_main_v14, val_main_v12, val_main_v11, val_main_v10, val_main_v9, val_main_v8, val_main_v7, val_main_v6, val_main_v4, val_main_v3]
  rw [r5, r13, r20]
  rfl

theorem r25 (s : Fin 4096) (n : Fin 5632) : val_main_v25 (F := Ideal) x0 x2 x3 (ix2 s n) = cv x0 x2 x3 (lo n) s := by
  rw [← r24]
  pointwise [val_main_v25]
  rfl
theorem r26 (s : Fin 4096) (n : Fin 5632) : val_main_v26 (F := Ideal) x0 x2 x3 (ix2 s n) = cv x0 x2 x3 (hi n) s := by
  rw [← r24]
  pointwise [val_main_v26]
  exact congrArg (fun r => val_main_v24 (F := Ideal) x0 x2 x3 (ix2 s r)) (Fin.ext (Nat.add_comm _ _))
theorem r27 (s : Fin 4096) (n : Fin 5632) : val_main_v27_2 (F := Ideal) x0 x2 x3 (ix2 s n) = Ideal.logistic (cv x0 x2 x3 (lo n) s) := by
  rw [← r25]
  pointwise [val_main_v27_2, val_main_call0_v0, val_main_call0_v1, val_main_call0_v2, val_main_call0_v3, val_main_call0_v4, val_main_call0_cst, val_main_call0_cst_0]
  rfl
/-- The reference's gradient with respect to the gate. -/
def rdgate (d g v : EReal) : EReal := d * v * Ideal.logistic g + g * (d * v) * (Ideal.logistic g * (1 - Ideal.logistic g))

theorem r31 (s : Fin 4096) (n : Fin 5632) : val_main_v31 (F := Ideal) x0 x1 x2 x3 (ix2 s n)
    = rdgate (x1 (ix2 s n)) (cv x0 x2 x3 (lo n) s) (cv x0 x2 x3 (hi n) s) := by
  pointwise [val_main_v31, val_main_call1_v2, val_main_call1_v1, val_main_call1_v0, val_main_v30, val_main_v27_1, val_main_call0_v7, val_main_call0_v6, val_main_call0_cst_1]
  rw [r25, r26, r27]
  rfl
theorem r29 (s : Fin 4096) (n : Fin 5632) : val_main_v29 (F := Ideal) x0 x1 x2 x3 (ix2 s n)
    = dU x0 x1 x2 x3 n s := by
  pointwise [val_main_v29, val_main_v27_0]
  rw [r25, r27]
  exact mul_comm _ _
theorem r32 (s : Fin 4096) (k : Fin 11264) : val_main_v32 (F := Ideal) x0 x1 x2 x3 (ix2 s k)
    = if h : (k : Nat) < 5632 then val_main_v31 (F := Ideal) x0 x1 x2 x3 (ix2 s ⟨k, h⟩)
      else val_main_v29 (F := Ideal) x0 x1 x2 x3 (ix2 s ⟨(k : Nat) - 5632, by omega⟩) := by
  pointwise [val_main_v32]
theorem r32lo (s : Fin 4096) (n : Fin 5632) : val_main_v32 (F := Ideal) x0 x1 x2 x3 (ix2 s (lo n)) = val_main_v31 (F := Ideal) x0 x1 x2 x3 (ix2 s n) :=
  (r32 x0 x1 x2 x3 s (lo n)).trans (dif_pos n.isLt)
theorem r32hi (s : Fin 4096) (n : Fin 5632) : val_main_v32 (F := Ideal) x0 x1 x2 x3 (ix2 s (hi n)) = val_main_v29 (F := Ideal) x0 x1 x2 x3 (ix2 s n) := by
  rw [r32, dif_neg (by show ¬ n.val + 5632 < 5632; omega)]
  exact congrArg (fun r => val_main_v29 (F := Ideal) x0 x1 x2 x3 (ix2 s r)) (Fin.ext (Nat.add_sub_cancel _ _))

theorem r34 (s : Fin 4096) (k : Fin 11264) : val_main_v34 (F := Ideal) x0 x1 x2 x3 (ix2 s k)
    = x2 (ix2 2 k) * val_main_v32 (F := Ideal) x0 x1 x2 x3 (ix2 s k) := by
  pointwise [val_main_v34, val_main_v33, val_main_v21, val_main_v19, val_main_v18]
theorem r43 (s : Fin 4096) (k : Fin 11264) : val_main_v43 (F := Ideal) x0 x1 x2 x3 (ix2 s k)
    = x2 (ix2 1 k) * val_main_v32 (F := Ideal) x0 x1 x2 x3 (ix2 s k) := by
  pointwise [val_main_v43, val_main_v42, val_main_v14, val_main_v12, val_main_v11]
theorem r56 (s : Fin 4096) (k : Fin 11264) : val_main_v56 (F := Ideal) x0 x1 x2 x3 (ix2 s k)
    = x2 (ix2 0 k) * val_main_v32 (F := Ideal) x0 x1 x2 x3 (ix2 s k) := by
  pointwise [val_main_v56, val_main_v55, val_main_v6, val_main_v4, val_main_v3]

theorem r67 (s : Fin 4096) (k : Fin 11264) : val_main_v67 (F := Ideal) x0 x1 x2 x3 (ix2 s k)
    = back (x2 (ix2 0 k)) (x2 (ix2 1 k)) (x2 (ix2 2 k)) (colOf (val_main_v32 (F := Ideal) x0 x1 x2 x3) k) s := by
  have hs := s.isLt
  have e : val_main_v67 (F := Ideal) x0 x1 x2 x3 (ix2 s k)
      = (val_main_v34 (F := Ideal) x0 x1 x2 x3 (ix2 s k)
          + if h : 1 ≤ 2 + (s : Nat) ∧ 2 + (s : Nat) - 1 < 4096 then val_main_v43 (F := Ideal) x0 x1 x2 x3 (ix2 ⟨2 + (s : Nat) - 1, h.2⟩ k) else 0)
        + if h : 2 + (s : Nat) < 4096 then val_main_v56 (F := Ideal) x0 x1 x2 x3 (ix2 ⟨2 + (s : Nat), h⟩ k) else 0 := by
    pointwise [val_main_v67, val_main_v62, val_main_v61, val_main_v49, val_main_v48, val_main_v39, val_main_cst_7, val_main_cst_12]
  rw [e]
  unfold back
  congr 1
  · congr 1
    · exact r34 x0 x1 x2 x3 s k
    · unfold up
      by_cases h : (s : Nat) + 1 < 4096
      · rw [dif_pos h, dif_pos (by omega), r43]
        exact congrArg (fun r => x2 (ix2 1 k) * val_main_v32 (F := Ideal) x0 x1 x2 x3 (ix2 r k)) (Fin.ext (by simp only; omega))
      · rw [dif_neg h, dif_neg (by omega), mul_zero]
  · unfold up
    by_cases h : (s : Nat) + 2 < 4096
    · rw [dif_pos h, dif_pos (by omega), r56]
      exact congrArg (fun r => x2 (ix2 0 k) * val_main_v32 (F := Ideal) x0 x1 x2 x3 (ix2 r k)) (Fin.ext (by simp only; omega))
    · rw [dif_neg h, dif_neg (by omega), mul_zero]
theorem r54 (k : Fin 11264) : val_main_v54 (F := Ideal) x0 x1 x2 x3 (ix2 0 k)
    = ∑ s : Fin 4096, val_main_v32 (F := Ideal) x0 x1 x2 x3 (ix2 s k) := by
  pointwise [val_main_v54, val_main_v53, val_main_cst_9]
theorem r38 (k : Fin 11264) : val_main_v38 (F := Ideal) x0 x1 x2 x3 (ix1 k)
    = ∑ s : Fin 4096, val_main_v32 (F := Ideal) x0 x1 x2 x3 (ix2 s k) * val_main_v20 (F := Ideal) x0 (ix2 s k) := by
  have e : val_main_v38 (F := Ideal) x0 x1 x2 x3 (ix1 k) = ∑ _ : Fin 1, val_main_v36 (F := Ideal) x0 x1 x2 x3 (ix1 k) := by
    pointwise [val_main_v38, val_main_v37, val_main_cst_2]
  rw [e, Fin.sum_univ_one]
  pointwise [val_main_v36, val_main_v35, val_main_cst_1]
theorem r47 (k : Fin 11264) : val_main_v47 (F := Ideal) x0 x1 x2 x3 (ix1 k)
    = ∑ s : Fin 4096, val_main_v32 (F := Ideal) x0 x1 x2 x3 (ix2 s k) * val_main_v13 (F := Ideal) x0 (ix2 s k) := by
  have e : val_main_v47 (F := Ideal) x0 x1 x2 x3 (ix1 k) = ∑ _ : Fin 1, val_main_v45 (F := Ideal) x0 x1 x2 x3 (ix1 k) := by
    pointwise [val_main_v47, val_main_v46, val_main_cst_6]
  rw [e, Fin.sum_univ_one]
  pointwise [val_main_v45, val_main_v44, val_main_cst_5]
theorem r60 (k : Fin 11264) : val_main_v60 (F := Ideal) x0 x1 x2 x3 (ix1 k)
    = ∑ s : Fin 4096, val_main_v32 (F := Ideal) x0 x1 x2 x3 (ix2 s k) * val_main_v5 (F := Ideal) x0 (ix2 s k) := by
  have e : val_main_v60 (F := Ideal) x0 x1 x2 x3 (ix1 k) = ∑ _ : Fin 1, val_main_v58 (F := Ideal) x0 x1 x2 x3 (ix1 k) := by
    pointwise [val_main_v60, val_main_v59, val_main_cst_11]
  rw [e, Fin.sum_univ_one]
  pointwise [val_main_v58, val_main_v57, val_main_cst_10]

theorem r65 (i : Fin 3) (k : Fin 11264) : val_main_v65 (F := Ideal) x0 x1 x2 x3 (ix2 i k)
    = dw i (colOf x0 k) (colOf (val_main_v32 (F := Ideal) x0 x1 x2 x3) k) := by
  have e : val_main_v65 (F := Ideal) x0 x1 x2 x3 (ix2 i k)
      = ((if 2 ≤ (i : Nat) ∧ (i : Nat) - 2 < 1 then val_main_v38 (F := Ideal) x0 x1 x2 x3 (ix1 k) else 0)
          + if 1 ≤ (i : Nat) ∧ (i : Nat) - 1 < 1 then val_main_v47 (F := Ideal) x0 x1 x2 x3 (ix1 k) else 0)
        + if (i : Nat) < 1 then val_main_v60 (F := Ideal) x0 x1 x2 x3 (ix1 k) else 0 := by
    pointwise [val_main_v65, val_main_v64, val_main_v52, val_main_v51, val_main_v41, val_main_v40, val_main_v50, val_main_v63,
      val_main_cst_4, val_main_cst_8, val_main_cst_13]
    rfl
  rw [e]
  unfold dw
  rcases i with ⟨i, hi⟩; interval_cases i
  · rw [if_neg (by simp only; omega), if_neg (by simp only; omega), if_pos (by simp only; omega), zero_add, zero_add, r60]
    exact Finset.sum_congr rfl fun s _ => by rw [r5]; rfl
  · rw [if_neg (by simp only; omega), if_pos (by simp only; omega), if_neg (by simp only; omega), zero_add, add_zero, r47]
    exact Finset.sum_congr rfl fun s _ => by rw [r13]; rfl
  · rw [if_pos (by simp only; omega), if_neg (by simp only; omega), if_neg (by simp only; omega), add_zero, add_zero, r38]
    refine Finset.sum_congr rfl fun s _ => ?_
    rw [r20]
    show _ = _ * down 0 (colOf x0 k) s
    unfold down
    rw [dif_pos (Nat.zero_le _)]
    rfl

end Cert.ConvRefValue
-- ==== Proof.ConvMath.lean ====
/-
  Real numbers among the extended reals: what the precondition says of the arguments, that the convolution of real columns is
  real, and that the two spellings of the gate's gradient agree on real numbers.
-/
module

public import proofs.«01_k».proof.Proof.ConvRefValue
public import proofs.«01_k».proof.Proof.Gen.Pre_finite
public import Idealize.ShloMosaic.Lib.ReduceAll
public import Idealize.ShloMosaic.Lib.IdealHost

@[expose] public section

set_option maxRecDepth 16384

noncomputable section

open Idealize.ShloMosaic Cert.ConvSpec

namespace Cert.ConvMath

/-- The extended real is a real number. -/
def IsReal (x : EReal) : Prop := ∃ r : ℝ, x = (r : EReal)

theorem IsReal.zero : IsReal 0 := ⟨0, rfl⟩
theorem IsReal.one : IsReal 1 := ⟨1, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.neg {x : EReal} : IsReal x → IsReal (-x) := by
  rintro ⟨a, rfl⟩; exact ⟨-a, (EReal.coe_neg a).symm⟩
theorem IsReal.sub {x y : EReal} : IsReal x → IsReal y → IsReal (x - y) := by
  rintro ⟨a, rfl⟩ ⟨b, rfl⟩; exact ⟨a - b, (EReal.coe_sub a b).symm⟩

theorem inf_f32 : Ideal.ofBits .f32 0x7F800000#32 = ⊤ := by
  simp [Ideal.ofBits, Ideal.ieee]

/-- An extended real whose absolute value is below infinity is a real number. -/
theorem IsReal.of_abs {x : EReal} (h : max x (-x) < ⊤) : IsReal x := by
  induction x using EReal.rec with
  | bot => simp at h
  | coe r => exact ⟨r, rfl⟩
  | top => simp at h

/-- One element of the precondition's comparison. -/
theorem IsReal.of_cmp {s : Shape} (x : FVec Ideal s .f32)
    (b : (⟨0, ![]⟩ : Shape).BroadcastsInDim s (![] : Fin 0 → Fin s.rank))
    (i : s.Idx) (h : cmpf .olt (Host.absf x) (broadcastInDim s ![] b (constant ⟨0, ![]⟩ .f32 0x7F800000#32)) i = 1#1) : IsReal (x i) := by
  refine IsReal.of_abs ?_
  have h' : BitVec.ofBool (decide (max (x i) (-(x i)) < Ideal.ofBits .f32 0x7F800000#32)) = 1#1 := h
  rw [inf_f32] at h'
  by_contra hn
  rw [decide_eq_false hn] at h'
  exact absurd h' (by decide)

theorem down_real {n : Nat} {x : Col} (h : ∀ s, IsReal (x s)) (s) : IsReal (down n x s) := by
  unfold down; split
  · exact h _
  · exact .zero

theorem conv_real {w0 w1 w2 b : EReal} {x : Col} (h0 : IsReal w0) (h1 : IsReal w1) (h2 : IsReal w2) (hb : IsReal b) (h : ∀ s, IsReal (x s)) (s) :
    IsReal (conv w0 w1 w2 b x s) :=
  ((hb.add (h0.mul (down_real h s))).add (h1.mul (down_real h s))).add (h2.mul (h s))

/-- The two spellings of the gate's gradient agree on real numbers. -/
theorem dgate_eq {d g v : EReal} (hd : IsReal d) (hg : IsReal g) (hv : IsReal v) : Cert.ConvRefValue.rdgate d g v = dgate d g v := by
  obtain ⟨d, rfl⟩ := hd; obtain ⟨g, rfl⟩ := hg; obtain ⟨v, rfl⟩ := hv
  unfold Cert.ConvRefValue.rdgate dgate
  rw [Ideal.logistic_coe, ← EReal.coe_one]
  simp only [← EReal.coe_add, ← EReal.coe_mul, ← EReal.coe_sub]
  congr 1
  ring

section Pre

variable (x0 : (⟨2, ![4096, 11264]⟩ : Shape).Idx → EReal) (x1 : (⟨2, ![4096, 5632]⟩ : Shape).Idx → EReal)
variable (x2 : (⟨2, ![3, 11264]⟩ : Shape).Idx → EReal) (x3 : (⟨2, ![1, 11264]⟩ : Shape).Idx → EReal)

theorem and_one {a b : BitVec 1} (h : a &&& b = 1#1) : a = 1#1 ∧ b = 1#1 := by
  revert h; revert a b; decide

/-- Every element of every argument is a real number when the precondition holds. -/
theorem finite (h : Cert.Pre_finite.fn (F := Ideal) x0 x1 x2 x3 = fun _ => 1#1) :
    (∀ i, IsReal (x0 i)) ∧ (∀ i, IsReal (x1 i)) ∧ (∀ i, IsReal (x2 i)) ∧ (∀ i, IsReal (x3 i)) := by
  have e := congrFun h (fun k => nomatch k)
  dsimp only [Cert.Pre_finite.fn, Cert.Pre_finite.fn_part1] at e
  obtain ⟨e, e3⟩ := and_one e
  obtain ⟨e, e2⟩ := and_one e
  obtain ⟨e0, e1⟩ := and_one e
  haveI : Subsingleton (Cert.Pre_finite.S_).Idx := ⟨fun a b => funext fun k => nomatch k⟩
  exact ⟨fun i => .of_cmp x0 _ i (Host.reduce_andi_all _ _ _ _ _ e0 i), fun i => .of_cmp x1 _ i (Host.reduce_andi_all _ _ _ _ _ e1 i),
    fun i => .of_cmp x2 _ i (Host.reduce_andi_all _ _ _ _ _ e2 i), fun i => .of_cmp x3 _ i (Host.reduce_andi_all _ _ _ _ _ e3 i)⟩

end Pre

end Cert.ConvMath
-- ==== Proof.ConvRefResult.lean ====
/-
  The reference's six results are the specification's, when every argument is a real number.
-/
module

public import proofs.«01_k».proof.Proof.ConvMath

@[expose] public section

set_option maxRecDepth 16384

noncomputable section

open Idealize.ShloMosaic Cert.ConvSpec Cert.ConvMath Cert.ConvRefIdeal Cert.ConvRefIdeal.Read Cert.ConvRefValue

namespace Cert.ConvRefResult

variable (x0 : (⟨2, ![4096, 11264]⟩ : Shape).Idx → EReal) (x1 : (⟨2, ![4096, 5632]⟩ : Shape).Idx → EReal)
variable (x2 : (⟨2, ![3, 11264]⟩ : Shape).Idx → EReal) (x3 : (⟨2, ![1, 11264]⟩ : Shape).Idx → EReal)

/-- The gradient's gate half, column by column. -/
theorem lo_col (h : Cert.Pre_finite.fn (F := Ideal) x0 x1 x2 x3 = fun _ => 1#1) (n : Fin 5632) :
    colOf (val_main_v32 (F := Ideal) x0 x1 x2 x3) (lo n) = dG x0 x1 x2 x3 n := by
  obtain ⟨h0, h1, h2, h3⟩ := finite x0 x1 x2 x3 h
  funext s
  refine (r32lo x0 x1 x2 x3 s n).trans ((r31 x0 x1 x2 x3 s n).trans ?_)
  exact dgate_eq (h1 _) (conv_real (h2 _) (h2 _) (h2 _) (h3 _) (fun _ => h0 _) s) (conv_real (h2 _) (h2 _) (h2 _) (h3 _) (fun _ => h0 _) s)

/-- The gradient's other half. -/
theorem hi_col (n : Fin 5632) : colOf (val_main_v32 (F := Ideal) x0 x1 x2 x3) (hi n) = dU x0 x1 x2 x3 n :=
  funext fun s => (r32hi x0 x1 x2 x3 s n).trans (r29 x0 x1 x2 x3 s n)

theorem v74 (h : Cert.Pre_finite.fn (F := Ideal) x0 x1 x2 x3 = fun _ => 1#1) : val_main_v74 (F := Ideal) x0 x1 x2 x3 = rG x0 x1 x2 x3 := by
  funext i; idx_vars i
  have e : val_main_v74 (F := Ideal) x0 x1 x2 x3 (ix2 i0 i1) = val_main_v67 (F := Ideal) x0 x1 x2 x3 (ix2 i0 (lo i1)) := by
    pointwise [val_main_v74, val_main_v68]; rfl
  rw [e, r67, lo_col x0 x1 x2 x3 h]; rfl
theorem v75 : val_main_v75 (F := Ideal) x0 x1 x2 x3 = rU x0 x1 x2 x3 := by
  funext i; idx_vars i
  have e : val_main_v75 (F := Ideal) x0 x1 x2 x3 (ix2 i0 i1) = val_main_v67 (F := Ideal) x0 x1 x2 x3 (ix2 i0 (hi i1)) := by
    pointwise [val_main_v75, val_main_v69]; exact congrArg (fun r => val_main_v67 (F := Ideal) x0 x1 x2 x3 (ix2 i0 r)) (Fin.ext (Nat.add_comm _ _))
  rw [e, r67, hi_col x0 x1 x2 x3]; rfl
theorem v70 (h : Cert.Pre_finite.fn (F := Ideal) x0 x1 x2 x3 = fun _ => 1#1) : val_main_v70 (F := Ideal) x0 x1 x2 x3 = rWG x0 x1 x2 x3 := by
  funext i; idx_vars i
  have e : val_main_v70 (F := Ideal) x0 x1 x2 x3 (ix2 i0 i1) = val_main_v65 (F := Ideal) x0 x1 x2 x3 (ix2 i0 (lo i1)) := by
    pointwise [val_main_v70]; rfl
  rw [e, r65, lo_col x0 x1 x2 x3 h]; rfl
theorem v71 : val_main_v71 (F := Ideal) x0 x1 x2 x3 = rWU x0 x1 x2 x3 := by
  funext i; idx_vars i
  have e : val_main_v71 (F := Ideal) x0 x1 x2 x3 (ix2 i0 i1) = val_main_v65 (F := Ideal) x0 x1 x2 x3 (ix2 i0 (hi i1)) := by
    pointwise [val_main_v71]; exact congrArg (fun r => val_main_v65 (F := Ideal) x0 x1 x2 x3 (ix2 i0 r)) (Fin.ext (Nat.add_comm _ _))
  rw [e, r65, hi_col x0 x1 x2 x3]; rfl
theorem v72 (h : Cert.Pre_finite.fn (F := Ideal) x0 x1 x2 x3 = fun _ => 1#1) : val_main_v72 (F := Ideal) x0 x1 x2 x3 = rBG x0 x1 x2 x3 := by
  funext i; idx_vars i
  obtain rfl : i0 = 0 := Subsingleton.elim _ _
  have e : val_main_v72 (F := Ideal) x0 x1 x2 x3 (ix2 0 i1) = val_main_v54 (F := Ideal) x0 x1 x2 x3 (ix2 0 (lo i1)) := by
    pointwise [val_main_v72]; rfl
  rw [e, r54]
  exact Finset.sum_congr rfl fun s _ => congrFun (lo_col x0 x1 x2 x3 h i1) s
theorem v73 : val_main_v73 (F := Ideal) x0 x1 x2 x3 = rBU x0 x1 x2 x3 := by
  funext i; idx_vars i
  obtain rfl : i0 = 0 := Subsingleton.elim _ _
  have e : val_main_v73 (F := Ideal) x0 x1 x2 x3 (ix2 0 i1) = val_main_v54 (F := Ideal) x0 x1 x2 x3 (ix2 0 (hi i1)) := by
    pointwise [val_main_v73]; exact congrArg (fun r => val_main_v54 (F := Ideal) x0 x1 x2 x3 (ix2 0 r)) (Fin.ext (Nat.add_comm _ _))
  rw [e, r54]
  exact Finset.sum_congr rfl fun s _ => congrFun (hi_col x0 x1 x2 x3 i1) s

end Cert.ConvRefResult
-- ==== Proof.ConvClaims.lean ====
/-
  The claims about the convolution's and the gate's gradient: the frames of the three programs and the value claim.
-/
module

public import proofs.«01_k».proof.Defs
public import proofs.«01_k».proof.Proof.Gen.Conv.Frame
public import proofs.«01_k».proof.Proof.ConvValue
public import proofs.«01_k».proof.Proof.ConvRefResult
public import proofs.«01_k».proof.Proof.Gen.ConvRefIdeal.Run
public import Idealize.ShloMosaic.Lib.Quiescent

@[expose] public section

set_option maxRecDepth 16384

noncomputable section

open Idealize.ShloMosaic Idealize.SL.Sem

namespace Cert.ConvClaims

theorem frame_p : Cert.quiescent_Conv := fun m ρ _ => Cert.Conv.Gen.frame m ρ
theorem frame_i : Cert.quiescent_ConvIdeal := fun m ρ _ => Cert.ConvIdeal.Gen.frame m ρ
theorem frame_i_pre : Cert.quiescent_ConvIdeal_pre_finite := fun m ρ _ => Cert.ConvIdeal.Gen.frame m ρ
theorem frame_r : Cert.quiescent_ConvRefIdeal := fun m ρ _ =>
  (θ_run Cert.ConvRefIdeal.defs _ _).mono (fun r h => ⟨fun c => (h c).2.2.2.2.2.2,
      Idealize.ShloMosaic.sem_eq_zero_of_no_sems (by decide) r.2⟩) (Cert.ConvRefIdeal.Value.run m ρ)
theorem frame_r_pre : Cert.quiescent_ConvRefIdeal_pre_finite := fun m ρ _ => frame_r m ρ trivial
theorem preserves : Cert.preserves_Conv_ConvIdeal := trivial

/-- Both programs end with the specification's six arrays. -/
theorem value : Cert.algebraic_ConvIdeal_ConvRefIdeal_pre_finite := by
  intro m g m' g' hp ha
  refine ⟨_, _, _, _, _, _, Cert.ConvValue.run m g, (θ_run Cert.ConvRefIdeal.defs _ _).mono (fun r h c => ?_) (Cert.ConvRefIdeal.Value.run m' g')⟩
  obtain ⟨a0, a1, a2, a3⟩ := ha c
  have h' := h c
  have hf := hp c
  rw [Cert.ConvRefIdeal.Read.val_main_v74_eq, Cert.ConvRefIdeal.Read.val_main_v75_eq, Cert.ConvRefIdeal.Read.val_main_v70_eq,
    Cert.ConvRefIdeal.Read.val_main_v71_eq, Cert.ConvRefIdeal.Read.val_main_v72_eq, Cert.ConvRefIdeal.Read.val_main_v73_eq] at h'
  rw [a0, a1, a2, a3] at h' ⊢
  rw [Cert.ConvRefResult.v74 _ _ _ _ hf, Cert.ConvRefResult.v75, Cert.ConvRefResult.v70 _ _ _ _ hf, Cert.ConvRefResult.v71,
    Cert.ConvRefResult.v72 _ _ _ _ hf, Cert.ConvRefResult.v73] at h'
  exact h'

end Cert.ConvClaims
-- ==== Proof.StickStep.lean ====
/-
  One kernel body of the stick-breaking backward pass, step by step: what a pair of key chunks adds to the carried
  sums of a block of query rows and to the key and value gradients, and the loop over the pairs strictly before the
  block.
-/
module

public import proofs.«01_k».proof.Proof.Gen.StickIdeal.Frame
public import proofs.«01_k».proof.Proof.Gen.StickIdeal.Skeleton
public import Idealize.ShloMosaic.Lib.LoopRemainder

@[expose] public section

set_option maxRecDepth 16384

noncomputable section

namespace Cert.StickRun

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The offsets in closed form -/

/-- The number of pairs of chunks strictly before row block `i`. -/
theorem trips_eq : ∀ i : grid0.Coords, (k0_t1_loop i).trips = (i 1).val / 2 := by decide +kernel

theorem off1_eq : ∀ (i : grid0.Coords) (t : Fin (k0_t1_loop i).trips), k0_off1 i t = ![2 * t.val, 0, 0] := by decide +kernel
instance (i : grid0.Coords) (t : Fin (k0_t1_loop i).trips) : ClosedOff (k0_off1 i t) := ⟨_, off1_eq i t⟩
theorem off2_eq : ∀ (i : grid0.Coords) (t : Fin (k0_t1_loop i).trips), k0_off2 i t = ![2 * t.val + 1, 0, 0] := by decide +kernel
instance (i : grid0.Coords) (t : Fin (k0_t1_loop i).trips) : ClosedOff (k0_off2 i t) := ⟨_, off2_eq i t⟩
theorem off3_eq : ∀ (i : grid0.Coords) (t : Fin (k0_t1_loop i).trips), k0_off3 i t = ![512 * t.val, 0] := by decide +kernel
instance (i : grid0.Coords) (t : Fin (k0_t1_loop i).trips) : ClosedOff (k0_off3 i t) := ⟨_, off3_eq i t⟩
theorem off4_eq : ∀ (i : grid0.Coords) (t : Fin (k0_t1_loop i).trips), k0_off4 i t = ![2 * t.val, 64, 0] := by decide +kernel
instance (i : grid0.Coords) (t : Fin (k0_t1_loop i).trips) : ClosedOff (k0_off4 i t) := ⟨_, off4_eq i t⟩
theorem off5_eq : ∀ (i : grid0.Coords) (t : Fin (k0_t1_loop i).trips), k0_off5 i t = ![2 * t.val + 1, 64, 0] := by decide +kernel
instance (i : grid0.Coords) (t : Fin (k0_t1_loop i).trips) : ClosedOff (k0_off5 i t) := ⟨_, off5_eq i t⟩
theorem off6_eq : ∀ (i : grid0.Coords) (t : Fin (k0_t1_loop i).trips), k0_off6 i t = ![512 * t.val, 64] := by decide +kernel
instance (i : grid0.Coords) (t : Fin (k0_t1_loop i).trips) : ClosedOff (k0_off6 i t) := ⟨_, off6_eq i t⟩
theorem off13_eq : ∀ i : grid0.Coords, k0_off13 i = ![2 * ((i 1).val / 2), 0, 0] := by decide +kernel
instance (i : grid0.Coords) : ClosedOff (k0_off13 i) := ⟨_, off13_eq i⟩
theorem off14_eq : ∀ i : grid0.Coords, k0_off14 i = ![2 * ((i 1).val / 2) + 1, 0, 0] := by decide +kernel
instance (i : grid0.Coords) : ClosedOff (k0_off14 i) := ⟨_, off14_eq i⟩
theorem off15_eq : ∀ i : grid0.Coords, k0_off15 i = ![512 * ((i 1).val / 2), 0] := by decide +kernel
instance (i : grid0.Coords) : ClosedOff (k0_off15 i) := ⟨_, off15_eq i⟩
theorem off16_eq : ∀ i : grid0.Coords, k0_off16 i = ![2 * ((i 1).val / 2), 64, 0] := by decide +kernel
instance (i : grid0.Coords) : ClosedOff (k0_off16 i) := ⟨_, off16_eq i⟩
theorem off17_eq : ∀ i : grid0.Coords, k0_off17 i = ![2 * ((i 1).val / 2) + 1, 64, 0] := by decide +kernel
instance (i : grid0.Coords) : ClosedOff (k0_off17 i) := ⟨_, off17_eq i⟩
theorem off18_eq : ∀ i : grid0.Coords, k0_off18 i = ![512 * ((i 1).val / 2), 64] := by decide +kernel
instance (i : grid0.Coords) : ClosedOff (k0_off18 i) := ⟨_, off18_eq i⟩

/-! ## One chunk of keys against one block of query rows -/

/-- The scores of the rows `q` against a chunk of keys on lanes. -/
def cz (q : FVec F S256x64 .bf16) (kt : Vec F S1x64x256 .bf16) : FVec F S256x256 .f32 :=
  matmul dot_S256x64_S64x256_S256x256_1_0_0_1_n_n none q (shapeCast S64x256 kt shapeCasts_S1x64x256_S64x256) (constant S256x256 .f32 0x00000000#32)

/-- The logarithm of what a score leaves of the stick. -/
def clr (z : FVec F S256x256 .f32) : FVec F S256x256 .f32 :=
  subf (broadcast S256x256 (Scalar.ofBits .f32 0x00000000#32))
    (addf (maximumf z (broadcast S256x256 (Scalar.ofBits .f32 0x00000000#32)))
      (log (addf (broadcast S256x256 (Scalar.ofBits .f32 0x3F800000#32))
        (exp (subf (broadcast S256x256 (Scalar.ofBits .f32 0x00000000#32)) (absf z))))))

/-- Each row's sum. -/
def csum (x : FVec F S256x256 .f32) : FVec F S256x1 .f32 :=
  shapeCast S256x1 (multiReduction .add [1] S256 x 0x00000000#32 reduces_S256x256_S256 (.inl rfl) rfl) shapeCasts_S256_S256x1

/-- `x` times a 0/1 matrix, `x` in its leading and trailing parts. -/
def csplit (x : FVec F S256x256 .f32) (tri : FVec F S256x256 .bf16) : FVec F S256x256 .f32 :=
  addf (matmul dot_S256x256_S256x256_S256x256_1_0_0_1_n_n none (truncf .bf16 x bitsLt_bf16_f32) tri (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) tri (constant S256x256 .f32 0x00000000#32))

/-- The share of the stick each key takes. -/
def ca (tot plr : FVec F S256x1 .f32) (z lr : FVec F S256x256 .f32) : FVec F S256x256 .f32 :=
  exp (addf z (subf (broadcastTo S256x256 tot broadcasts_S256x1_S256x256)
    (addf (broadcastTo S256x256 plr broadcasts_S256x1_S256x256) (csplit lr k0_pay99))))

/-- The gradient of the logarithm of a share. -/
def cg (d : FVec F S256x64 .bf16) (vt : Vec F S1x64x256 .bf16) (a : FVec F S256x256 .f32) : FVec F S256x256 .f32 :=
  mulf (matmul dot_S256x64_S64x256_S256x256_1_0_0_1_n_n none d (shapeCast S64x256 vt shapeCasts_S1x64x256_S64x256) (constant S256x256 .f32 0x00000000#32)) a

/-- The gradient of a score. -/
def cdz (pg : FVec F S256x1 .f32) (z lr g : FVec F S256x256 .f32) : FVec F S256x256 .f32 :=
  subf g (mulf (exp (addf z lr)) (addf (broadcastTo S256x256 pg broadcasts_S256x1_S256x256) (csplit g k0_pay100)))

/-- What a chunk's key (or value) gradient becomes. -/
def cupd (qt : FVec F S64x256 .bf16) (x : FVec F S256x256 .bf16) (old : Vec F S1x64x256 .f32) : FVec F S1x64x256 .f32 :=
  shapeCast S1x64x256 (addf (shapeCast S64x256 old shapeCasts_S1x64x256_S64x256)
    (matmul dot_S64x256_S256x256_S64x256_1_0_0_1_n_n none qt x (constant S64x256 .f32 0x00000000#32))) shapeCasts_S64x256_S1x64x256

/-- What two chunks add to the query gradient. -/
def cdq (acc : FVec F S256x64 .f32) (x y : FVec F S256x256 .bf16) (kr : Vec F S512x64 .bf16) : FVec F S256x64 .f32 :=
  addf acc (matmul dot_S256x512_S512x64_S256x64_1_0_0_1_n_n none
    (concatenate S256x512 1 [⟨S256x256, x⟩, ⟨S256x256, y⟩] concatenates_S256x256_S256x256_S256x512_d1)
    (shapeCast S512x64 kr shapeCasts_S512x64_S512x64) (constant S256x64 .f32 0x00000000#32))

/-- A chunk's mask, as it acts on a matrix of rows by keys. -/
abbrev Msk (F : FTy → Type) := FVec F S256x256 .f32 → FVec F S256x256 .f32

def hlr (mk : Msk F) (q : FVec F S256x64 .bf16) (kt : Vec F S1x64x256 .bf16) : FVec F S256x256 .f32 := mk (clr (cz q kt))
def ha (mk : Msk F) (q : FVec F S256x64 .bf16) (tot plr : FVec F S256x1 .f32) (kt : Vec F S1x64x256 .bf16) : FVec F S256x256 .f32 :=
  mk (ca tot plr (cz q kt) (hlr mk q kt))
def hg (mk : Msk F) (q d : FVec F S256x64 .bf16) (tot plr : FVec F S256x1 .f32) (kt vt : Vec F S1x64x256 .bf16) : FVec F S256x256 .f32 :=
  cg d vt (ha mk q tot plr kt)
def hdz (mk : Msk F) (q d : FVec F S256x64 .bf16) (tot plr pg : FVec F S256x1 .f32) (kt vt : Vec F S1x64x256 .bf16) : FVec F S256x256 .bf16 :=
  truncf .bf16 (mk (cdz pg (cz q kt) (hlr mk q kt) (hg mk q d tot plr kt vt))) bitsLt_bf16_f32
/-- The sums carried past one chunk. -/
def nlr (mk : Msk F) (q : FVec F S256x64 .bf16) (plr : FVec F S256x1 .f32) (kt : Vec F S1x64x256 .bf16) : FVec F S256x1 .f32 :=
  addf plr (csum (hlr mk q kt))
def ng (mk : Msk F) (q d : FVec F S256x64 .bf16) (tot plr pg : FVec F S256x1 .f32) (kt vt : Vec F S1x64x256 .bf16) : FVec F S256x1 .f32 :=
  addf pg (csum (hg mk q d tot plr kt vt))

/-! ## A pair of chunks -/

/-- What a block of rows holds of one head: queries and output gradients, both ways round, and the rows' totals. -/
structure Rows (F : FTy → Type) where
  q : FVec F S256x64 .bf16
  qt : FVec F S64x256 .bf16
  d : FVec F S256x64 .bf16
  dt : FVec F S64x256 .bf16
  tot : FVec F S256x1 .f32

/-- What is carried of one head from pair to pair: the query gradient and the two running sums. -/
structure Sums (F : FTy → Type) where
  acc : FVec F S256x64 .f32
  plr : FVec F S256x1 .f32
  pg : FVec F S256x1 .f32

/-- What a pair of chunks holds of one head. -/
structure Pair (F : FTy → Type) where
  kt1 : Vec F S1x64x256 .bf16
  kt2 : Vec F S1x64x256 .bf16
  vt1 : Vec F S1x64x256 .bf16
  vt2 : Vec F S1x64x256 .bf16
  kr : Vec F S512x64 .bf16

variable (m1 m2 : Msk F) (R : Rows F) (S : Sums F) (P : Pair F)

def a1 : FVec F S256x256 .f32 := ha m1 R.q R.tot S.plr P.kt1
def a2 : FVec F S256x256 .f32 := ha m2 R.q R.tot (nlr m1 R.q S.plr P.kt1) P.kt2
def dz1 : FVec F S256x256 .bf16 := hdz m1 R.q R.d R.tot S.plr S.pg P.kt1 P.vt1
def dz2 : FVec F S256x256 .bf16 :=
  hdz m2 R.q R.d R.tot (nlr m1 R.q S.plr P.kt1) (ng m1 R.q R.d R.tot S.plr S.pg P.kt1 P.vt1) P.kt2 P.vt2
/-- The carried sums after the pair. -/
def next : Sums F where
  acc := cdq S.acc (dz1 m1 R S P) (dz2 m1 m2 R S P) P.kr
  plr := nlr m2 R.q (nlr m1 R.q S.plr P.kt1) P.kt2
  pg := ng m2 R.q R.d R.tot (nlr m1 R.q S.plr P.kt1) (ng m1 R.q R.d R.tot S.plr S.pg P.kt1 P.vt1) P.kt2 P.vt2

/-- The chunks' key gradients after the pair, -/
def dk1 (old : Vec F S1x64x256 .f32) : FVec F S1x64x256 .f32 := cupd R.qt (dz1 m1 R S P) old
def dk2 (old : Vec F S1x64x256 .f32) : FVec F S1x64x256 .f32 := cupd R.qt (dz2 m1 m2 R S P) old
/-- and their value gradients. -/
def dv1 (old : Vec F S1x64x256 .f32) : FVec F S1x64x256 .f32 := cupd R.dt (truncf .bf16 (a1 m1 R S P) bitsLt_bf16_f32) old
def dv2 (old : Vec F S1x64x256 .f32) : FVec F S1x64x256 .f32 := cupd R.dt (truncf .bf16 (a2 m1 m2 R S P) bitsLt_bf16_f32) old

/-- No mask. -/
abbrev mid : Msk F := fun x => x

/-! ## The loop over the pairs strictly before the block -/

/-- What the loop carries. -/
abbrev Carry (F : FTy → Type) := FVec F S256x64 .f32 × FVec F S256x1 .f32 × FVec F S256x1 .f32 × FVec F S256x64 .f32 × FVec F S256x1 .f32 × FVec F S256x1 .f32
/-- The two heads' sums as the loop carries them. -/
def carry (A B : Sums F) : Carry F := (A.acc, A.plr, A.pg, B.acc, B.plr, B.pg)

/-- A pair of chunks in the key and value buffers, head by head. -/
def pairA (x4 : Vec F S4096x128 .bf16) (x5 x6 : Vec F S16x128x256 .bf16) (i : grid0.Coords) (t : Fin (k0_t1_loop i).trips) : Pair F where
  kt1 := View.ld x5 (Rect.unit (s := S16x128x256) (k0_off1 i t) S1x64x256.size (k0_off1_inb i t))
  kt2 := View.ld x5 (Rect.unit (s := S16x128x256) (k0_off2 i t) S1x64x256.size (k0_off2_inb i t))
  vt1 := View.ld x6 (Rect.unit (s := S16x128x256) (k0_off1 i t) S1x64x256.size (k0_off1_inb i t))
  vt2 := View.ld x6 (Rect.unit (s := S16x128x256) (k0_off2 i t) S1x64x256.size (k0_off2_inb i t))
  kr := View.ld x4 (Rect.unit (s := S4096x128) (k0_off3 i t) S512x64.size (k0_off3_inb i t))
def pairB (x4 : Vec F S4096x128 .bf16) (x5 x6 : Vec F S16x128x256 .bf16) (i : grid0.Coords) (t : Fin (k0_t1_loop i).trips) : Pair F where
  kt1 := View.ld x5 (Rect.unit (s := S16x128x256) (k0_off4 i t) S1x64x256.size (k0_off4_inb i t))
  kt2 := View.ld x5 (Rect.unit (s := S16x128x256) (k0_off5 i t) S1x64x256.size (k0_off5_inb i t))
  vt1 := View.ld x6 (Rect.unit (s := S16x128x256) (k0_off4 i t) S1x64x256.size (k0_off4_inb i t))
  vt2 := View.ld x6 (Rect.unit (s := S16x128x256) (k0_off5 i t) S1x64x256.size (k0_off5_inb i t))
  kr := View.ld x4 (Rect.unit (s := S4096x128) (k0_off6 i t) S512x64.size (k0_off6_inb i t))

/-- The contents a list of stores leaves, over what was there. -/
def put (D : Vec F S16x128x256 .f32) : List (View.Piece (Elt F) S16x128x256 .f32) → Vec F S16x128x256 .f32
  | [] => D
  | p :: L => p.1.overlay (put D L) p.2

/-- What a buffer reads after the stores. -/
theorem read_writes_put {κ : Kind} {sp : Space} (v : View sig κ sp S16x128x256 .f32) (f : v.ty.Contents (Elt F)) :
    ∀ L : List (View.Piece (Elt F) S16x128x256 .f32), v.read (Elt F) (v.writes (Elt F) f L) = put (v.read (Elt F) f) L
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb]
      exact (r.overlay_emb _ _ x).symm
    · have hy' : y ∉ Finset.univ.map p.1.emb := by rwa [Rect.map_emb_univ]
      rw [View.writes_cons, View.read_slice_write_of_not_mem p.1 _ _ _ hy', read_writes_put v f L]
      exact (p.1.overlay_of_not_mem _ _ hy).symm

/-- The stores one trip makes to the key gradients, over their contents `D`, and to the value gradients. -/
def dkPieces (RA RB : Rows F) (A B : Sums F) (PA PB : Pair F) (i : grid0.Coords) (t : Fin (k0_t1_loop i).trips) (D : Vec F S16x128x256 .f32) :
    List (View.Piece (Elt F) S16x128x256 .f32) :=
  [⟨Rect.unit (s := S16x128x256) (k0_off5 i t) S1x64x256.size (k0_off5_inb i t), dk2 mid mid RB B PB (View.ld D (Rect.unit (s := S16x128x256) (k0_off5 i t) S1x64x256.size (k0_off5_inb i t)))⟩,
   ⟨Rect.unit (s := S16x128x256) (k0_off4 i t) S1x64x256.size (k0_off4_inb i t), dk1 mid RB B PB (View.ld D (Rect.unit (s := S16x128x256) (k0_off4 i t) S1x64x256.size (k0_off4_inb i t)))⟩,
   ⟨Rect.unit (s := S16x128x256) (k0_off2 i t) S1x64x256.size (k0_off2_inb i t), dk2 mid mid RA A PA (View.ld D (Rect.unit (s := S16x128x256) (k0_off2 i t) S1x64x256.size (k0_off2_inb i t)))⟩,
   ⟨Rect.unit (s := S16x128x256) (k0_off1 i t) S1x64x256.size (k0_off1_inb i t), dk1 mid RA A PA (View.ld D (Rect.unit (s := S16x128x256) (k0_off1 i t) S1x64x256.size (k0_off1_inb i t)))⟩]
def dvPieces (RA RB : Rows F) (A B : Sums F) (PA PB : Pair F) (i : grid0.Coords) (t : Fin (k0_t1_loop i).trips) (D : Vec F S16x128x256 .f32) :
    List (View.Piece (Elt F) S16x128x256 .f32) :=
  [⟨Rect.unit (s := S16x128x256) (k0_off5 i t) S1x64x256.size (k0_off5_inb i t), dv2 mid mid RB B PB (View.ld D (Rect.unit (s := S16x128x256) (k0_off5 i t) S1x64x256.size (k0_off5_inb i t)))⟩,
   ⟨Rect.unit (s := S16x128x256) (k0_off4 i t) S1x64x256.size (k0_off4_inb i t), dv1 mid RB B PB (View.ld D (Rect.unit (s := S16x128x256) (k0_off4 i t) S1x64x256.size (k0_off4_inb i t)))⟩,
   ⟨Rect.unit (s := S16x128x256) (k0_off2 i t) S1x64x256.size (k0_off2_inb i t), dv2 mid mid RA A PA (View.ld D (Rect.unit (s := S16x128x256) (k0_off2 i t) S1x64x256.size (k0_off2_inb i t)))⟩,
   ⟨Rect.unit (s := S16x128x256) (k0_off1 i t) S1x64x256.size (k0_off1_inb i t), dv1 mid RA A PA (View.ld D (Rect.unit (s := S16x128x256) (k0_off1 i t) S1x64x256.size (k0_off1_inb i t)))⟩]

/-- The state of the loop: both heads' sums and the two gradients. -/
structure St (F : FTy → Type) where
  A : Sums F
  B : Sums F
  K : Vec F S16x128x256 .f32
  V : Vec F S16x128x256 .f32

variable (RA RB : Rows F) (x4 : Vec F S4096x128 .bf16) (x5 x6 : Vec F S16x128x256 .bf16) (i : grid0.Coords)

/-- One trip's effect on the state, -/
def St.step (s : St F) (t : Fin (k0_t1_loop i).trips) : St F where
  A := next mid mid RA s.A (pairA x4 x5 x6 i t)
  B := next mid mid RB s.B (pairB x4 x5 x6 i t)
  K := put s.K (dkPieces RA RB s.A s.B (pairA x4 x5 x6 i t) (pairB x4 x5 x6 i t) i t s.K)
  V := put s.V (dvPieces RA RB s.A s.B (pairA x4 x5 x6 i t) (pairB x4 x5 x6 i t) i t s.V)

/-- and the state before trip `n`. -/
def St.at (s : St F) : ℕ → St F
  | 0 => s
  | n + 1 => if h : n < (k0_t1_loop i).trips then (St.at s n).step RA RB x4 x5 x6 i ⟨n, h⟩ else St.at s n

theorem St.at_succ (s : St F) (t : Fin (k0_t1_loop i).trips) :
    St.at RA RB x4 x5 x6 i s (t.val + 1) = (St.at RA RB x4 x5 x6 i s t.val).step RA RB x4 x5 x6 i t := by
  rw [St.at, dif_pos t.isLt]

/-! ## The pair the block itself lies in -/

/-- The pairs the block's last key reaches, as the kernel counts them. -/
def w56 (i : grid0.Coords) : BitVec 32 :=
  let arg1 : BitVec 32 := BitVec.ofNat 32 (i 1).val
  let v38 : BitVec 32 := Scalar.muli arg1 256#32
  let v39 : BitVec 32 := Scalar.divsi v38 512#32
  let v40 : BitVec 1 := Scalar.cmpi .sgt v38 0#32
  let v41 : BitVec 32 := Scalar.extui v40
  let v42 : BitVec 1 := Scalar.cmpi .slt v38 0#32
  let v43 : BitVec 32 := Scalar.extui v42
  let v44 : BitVec 32 := Scalar.subi v41 v43
  let v45 : BitVec 1 := Scalar.cmpi .sgt 512#32 0#32
  let v46 : BitVec 32 := Scalar.extui v45
  let v47 : BitVec 1 := Scalar.cmpi .slt 512#32 0#32
  let v48 : BitVec 32 := Scalar.extui v47
  let v49 : BitVec 32 := Scalar.subi v46 v48
  let v50 : BitVec 1 := Scalar.cmpi .ne v44 v49
  let v51 : BitVec 32 := Scalar.remsi v38 512#32
  let v52 : BitVec 1 := Scalar.cmpi .ne v51 0#32
  let v53 : BitVec 1 := Scalar.andi v50 v52
  let v54 : BitVec 32 := Scalar.subi v39 1#32
  let v55 : BitVec 32 := Scalar.select v53 v54 v39
  Scalar.addi v55 1#32
def w66 (i : grid0.Coords) : BitVec 32 := Scalar.muli 2#32 (Scalar.subi (w56 i) 1#32)
def w68 (i : grid0.Coords) : BitVec 32 := Scalar.addi (Scalar.muli 2#32 (Scalar.subi (w56 i) 1#32)) 1#32

/-- The two chunks' causal masks. -/
def mk1 (i : grid0.Coords) : Msk F := fun x =>
  select (k0_pay122 (BitVec.ofNat 32 (i 1).val) (w66 i) (iota .tc S256x256 32 [0] iota_S256x256_d0_w32)) x (broadcast S256x256 (Scalar.ofBits .f32 0x00000000#32))
def mk2 (i : grid0.Coords) : Msk F := fun x =>
  select (k0_pay123 (BitVec.ofNat 32 (i 1).val) (w68 i)) x (broadcast S256x256 (Scalar.ofBits .f32 0x00000000#32))

/-- The pair of chunks the block lies in, head by head. -/
def lastA (x4 : Vec F S4096x128 .bf16) (x5 x6 : Vec F S16x128x256 .bf16) (i : grid0.Coords) : Pair F where
  kt1 := View.ld x5 (Rect.unit (s := S16x128x256) (k0_off13 i) S1x64x256.size (k0_off13_inb i))
  kt2 := View.ld x5 (Rect.unit (s := S16x128x256) (k0_off14 i) S1x64x256.size (k0_off14_inb i))
  vt1 := View.ld x6 (Rect.unit (s := S16x128x256) (k0_off13 i) S1x64x256.size (k0_off13_inb i))
  vt2 := View.ld x6 (Rect.unit (s := S16x128x256) (k0_off14 i) S1x64x256.size (k0_off14_inb i))
  kr := View.ld x4 (Rect.unit (s := S4096x128) (k0_off15 i) S512x64.size (k0_off15_inb i))
def lastB (x4 : Vec F S4096x128 .bf16) (x5 x6 : Vec F S16x128x256 .bf16) (i : grid0.Coords) : Pair F where
  kt1 := View.ld x5 (Rect.unit (s := S16x128x256) (k0_off16 i) S1x64x256.size (k0_off16_inb i))
  kt2 := View.ld x5 (Rect.unit (s := S16x128x256) (k0_off17 i) S1x64x256.size (k0_off17_inb i))
  vt1 := View.ld x6 (Rect.unit (s := S16x128x256) (k0_off16 i) S1x64x256.size (k0_off16_inb i))
  vt2 := View.ld x6 (Rect.unit (s := S16x128x256) (k0_off17 i) S1x64x256.size (k0_off17_inb i))
  kr := View.ld x4 (Rect.unit (s := S4096x128) (k0_off18 i) S512x64.size (k0_off18_inb i))

/-- The stores that pair makes to the key gradients, over their contents `D`, and to the value gradients. -/
def dkLast (RA RB : Rows F) (A B : Sums F) (PA PB : Pair F) (i : grid0.Coords) (D : Vec F S16x128x256 .f32) :
    List (View.Piece (Elt F) S16x128x256 .f32) :=
  [⟨Rect.unit (s := S16x128x256) (k0_off17 i) S1x64x256.size (k0_off17_inb i), dk2 (mk1 i) (mk2 i) RB B PB (View.ld D (Rect.unit (s := S16x128x256) (k0_off17 i) S1x64x256.size (k0_off17_inb i)))⟩,
   ⟨Rect.unit (s := S16x128x256) (k0_off16 i) S1x64x256.size (k0_off16_inb i), dk1 (mk1 i) RB B PB (View.ld D (Rect.unit (s := S16x128x256) (k0_off16 i) S1x64x256.size (k0_off16_inb i)))⟩,
   ⟨Rect.unit (s := S16x128x256) (k0_off14 i) S1x64x256.size (k0_off14_inb i), dk2 (mk1 i) (mk2 i) RA A PA (View.ld D (Rect.unit (s := S16x128x256) (k0_off14 i) S1x64x256.size (k0_off14_inb i)))⟩,
   ⟨Rect.unit (s := S16x128x256) (k0_off13 i) S1x64x256.size (k0_off13_inb i), dk1 (mk1 i) RA A PA (View.ld D (Rect.unit (s := S16x128x256) (k0_off13 i) S1x64x256.size (k0_off13_inb i)))⟩]
def dvLast (RA RB : Rows F) (A B : Sums F) (PA PB : Pair F) (i : grid0.Coords) (D : Vec F S16x128x256 .f32) :
    List (View.Piece (Elt F) S16x128x256 .f32) :=
  [⟨Rect.unit (s := S16x128x256) (k0_off17 i) S1x64x256.size (k0_off17_inb i), dv2 (mk1 i) (mk2 i) RB B PB (View.ld D (Rect.unit (s := S16x128x256) (k0_off17 i) S1x64x256.size (k0_off17_inb i)))⟩,
   ⟨Rect.unit (s := S16x128x256) (k0_off16 i) S1x64x256.size (k0_off16_inb i), dv1 (mk1 i) RB B PB (View.ld D (Rect.unit (s := S16x128x256) (k0_off16 i) S1x64x256.size (k0_off16_inb i)))⟩,
   ⟨Rect.unit (s := S16x128x256) (k0_off14 i) S1x64x256.size (k0_off14_inb i), dv2 (mk1 i) (mk2 i) RA A PA (View.ld D (Rect.unit (s := S16x128x256) (k0_off14 i) S1x64x256.size (k0_off14_inb i)))⟩,
   ⟨Rect.unit (s := S16x128x256) (k0_off13 i) S1x64x256.size (k0_off13_inb i), dv1 (mk1 i) RA A PA (View.ld D (Rect.unit (s := S16x128x256) (k0_off13 i) S1x64x256.size (k0_off13_inb i)))⟩]

variable (RA RB : Rows F) (x4 : Vec F S4096x128 .bf16) (x5 x6 : Vec F S16x128x256 .bf16) (i : grid0.Coords)

/-- The effect of that pair on the state. -/
def St.last (s : St F) : St F where
  A := next (mk1 i) (mk2 i) RA s.A (lastA x4 x5 x6 i)
  B := next (mk1 i) (mk2 i) RB s.B (lastB x4 x5 x6 i)
  K := put s.K (dkLast RA RB s.A s.B (lastA x4 x5 x6 i) (lastB x4 x5 x6 i) i s.K)
  V := put s.V (dvLast RA RB s.A s.B (lastA x4 x5 x6 i) (lastB x4 x5 x6 i) i s.V)

/-! ## The block -/

/-- What the block holds of each head. -/
def rowsA (x2 : Vec F S256x128 .bf16) (x3 : Vec F S1x128x256 .bf16) (x7 : Vec F S256x128 .f32) (x8 : Vec F S256x128 .bf16) (x9 : Vec F S1x128x256 .bf16) : Rows F where
  q := k0_pay101 (View.ld x2 (Rect.unit (s := S256x128) ![0, 0] S256x64.size inb_S256x128_S256x64_0_0))
  qt := k0_pay103 (View.ld x3 (Rect.unit (s := S1x128x256) ![0, 0, 0] S1x64x256.size inb_S1x128x256_S1x64x256_0_0_0))
  d := k0_pay105 (View.ld x8 (Rect.unit (s := S256x128) ![0, 0] S256x64.size inb_S256x128_S256x64_0_0))
  dt := k0_pay107 (View.ld x9 (Rect.unit (s := S1x128x256) ![0, 0, 0] S1x64x256.size inb_S1x128x256_S1x64x256_0_0_0))
  tot := k0_pay109 (View.ld x7 (Rect.unit (s := S256x128) ![0, 0] S256x1.size inb_S256x128_S256x1_0_0))
def rowsB (x2 : Vec F S256x128 .bf16) (x3 : Vec F S1x128x256 .bf16) (x7 : Vec F S256x128 .f32) (x8 : Vec F S256x128 .bf16) (x9 : Vec F S1x128x256 .bf16) : Rows F where
  q := k0_pay102 (View.ld x2 (Rect.unit (s := S256x128) ![0, 64] S256x64.size inb_S256x128_S256x64_0_64))
  qt := k0_pay104 (View.ld x3 (Rect.unit (s := S1x128x256) ![0, 64, 0] S1x64x256.size inb_S1x128x256_S1x64x256_0_64_0))
  d := k0_pay106 (View.ld x8 (Rect.unit (s := S256x128) ![0, 64] S256x64.size inb_S256x128_S256x64_0_64))
  dt := k0_pay108 (View.ld x9 (Rect.unit (s := S1x128x256) ![0, 64, 0] S1x64x256.size inb_S1x128x256_S1x64x256_0_64_0))
  tot := k0_pay110 (View.ld x7 (Rect.unit (s := S256x128) ![0, 64] S256x1.size inb_S256x128_S256x1_0_64))

/-- The sums at the start. -/
def zero : Sums F := ⟨k0_pay112, k0_pay111, k0_pay111⟩

/-- The state the block leaves, over the gradients `K` and `V` it finds. -/
def fin (x2 : Vec F S256x128 .bf16) (x3 : Vec F S1x128x256 .bf16) (x7 : Vec F S256x128 .f32) (x8 : Vec F S256x128 .bf16) (x9 : Vec F S1x128x256 .bf16)
    (K V : Vec F S16x128x256 .f32) : St F :=
  (St.at (rowsA x2 x3 x7 x8 x9) (rowsB x2 x3 x7 x8 x9) x4 x5 x6 i ⟨zero, zero, K, V⟩ (k0_t1_loop i).trips).last
    (rowsA x2 x3 x7 x8 x9) (rowsB x2 x3 x7 x8 x9) x4 x5 x6 i

/-- The query gradient the block stores. -/
def dqPieces (s : St F) : List (View.Piece (Elt F) S256x128 .bf16) :=
  [⟨Rect.unit (s := S256x128) ![0, 64] S256x64.size inb_S256x128_S256x64_0_64, k0_pay165 s.B.acc⟩,
   ⟨Rect.unit (s := S256x128) ![0, 0] S256x64.size inb_S256x128_S256x64_0_0, k0_pay165 s.A.acc⟩]

end Cert.StickRun

end
-- ==== Proof.StickTrip.lean ====
/-
  One trip of the loop over the pairs of key chunks keeps the loop's state.
-/
module

public import proofs.«01_k».proof.Proof.StickStep
public import Idealize.ShloMosaic.Lib.LoopRemainder

@[expose] public section

set_option maxRecDepth 16384

noncomputable section

namespace Cert.StickRun

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (RA RB : Rows F) (x4 : Vec F S4096x128 .bf16) (x5 x6 : Vec F S16x128x256 .bf16) (i : grid0.Coords)

section Loop

variable (c : Dev nD) (arg2 : Memref sig .tc .vmem S256x128 .bf16) (harg2 : arg2.IsWhole) (arg3 : Memref sig .tc .vmem S1x128x256 .bf16) (harg3 : arg3.IsWhole) (arg4 : Memref sig .tc .vmem S4096x128 .bf16) (harg4 : arg4.IsWhole) (arg5 : Memref sig .tc .vmem S16x128x256 .bf16) (harg5 : arg5.IsWhole) (arg6 : Memref sig .tc .vmem S16x128x256 .bf16) (harg6 : arg6.IsWhole) (arg7 : Memref sig .tc .vmem S256x128 .f32) (harg7 : arg7.IsWhole) (arg8 : Memref sig .tc .vmem S256x128 .bf16) (harg8 : arg8.IsWhole) (arg9 : Memref sig .tc .vmem S1x128x256 .bf16) (harg9 : arg9.IsWhole) (arg10 : Memref sig .tc .vmem S256x128 .bf16) (harg10 : arg10.IsWhole) (arg11 : Memref sig .tc .vmem S16x128x256 .f32) (harg11 : arg11.IsWhole) (arg12 : Memref sig .tc .vmem S16x128x256 .f32) (harg12 : arg12.IsWhole)

/-- The four buffers the loop touches, at the state `s`, over the inputs' contents. -/
def LInv (g4 : Buf (Elt F) (arg4.view.loc (c : Thread nD τ))) (g5 : Buf (Elt F) (arg5.view.loc (c : Thread nD τ))) (g6 : Buf (Elt F) (arg6.view.loc (c : Thread nD τ))) (s : St F) (n : ℕ) (acc : Carry F) : sProp 𝕄 :=
  iprop((arg4.view.loc (c : Thread nD τ) ↦[arg4.view.set]{fullShare} g4) ∗ (arg5.view.loc (c : Thread nD τ) ↦[arg5.view.set]{fullShare} g5)
    ∗ (arg6.view.loc (c : Thread nD τ) ↦[arg6.view.set]{fullShare} g6)
    ∗ (∃ f, (arg11.view.loc (c : Thread nD τ) ↦[arg11.view.set]{fullShare} f)
        ∗ ⌜arg11.view.read (Elt F) f = (St.at RA RB (arg4.view.read (Elt F) g4) (arg5.view.read (Elt F) g5) (arg6.view.read (Elt F) g6) i s n).K⌝)
    ∗ (∃ f, (arg12.view.loc (c : Thread nD τ) ↦[arg12.view.set]{fullShare} f)
        ∗ ⌜arg12.view.read (Elt F) f = (St.at RA RB (arg4.view.read (Elt F) g4) (arg5.view.read (Elt F) g5) (arg6.view.read (Elt F) g6) i s n).V⌝)
    ∗ ⌜acc = carry (St.at RA RB (arg4.view.read (Elt F) g4) (arg5.view.read (Elt F) g5) (arg6.view.read (Elt F) g6) i s n).A
        (St.at RA RB (arg4.view.read (Elt F) g4) (arg5.view.read (Elt F) g5) (arg6.view.read (Elt F) g6) i s n).B⌝)

set_option maxHeartbeats 4000000 in
/-- One trip keeps it. -/
theorem lstep (g4 : Buf (Elt F) (arg4.view.loc (c : Thread nD τ))) (g5 : Buf (Elt F) (arg5.view.loc (c : Thread nD τ))) (g6 : Buf (Elt F) (arg6.view.loc (c : Thread nD τ))) (s : St F) (w1 : BitVec 32) (v33 : Vec F S256x1 .f32) (hB : RB.tot = k0_pay110 v33)
    (k : Fin (k0_t1_loop i).trips) (acc : Carry F) :
    LInv RA RB i c arg4 arg5 arg6 arg11 arg12 g4 g5 g6 s k acc
      ⊢ wp frame (wpE (defs₀ (F := F)) Variants.none (c : Thread nD τ) none) Set.univ
        (k0_t1_body i arg2 harg2 arg3 harg3 arg4 harg4 arg5 harg5 arg6 harg6 arg7 harg7 arg8 harg8 arg9 harg9 arg10 harg10 arg11 harg11 arg12 harg12 w1 k0_pay99 k0_pay100 RA.q RB.q RA.qt RB.qt RA.d RB.d RA.dt RB.dt RA.tot v33 k acc)
        (LInv RA RB i c arg4 arg5 arg6 arg11 arg12 g4 g5 g6 s (k.val + 1)) := by
  unfold LInv
  iintro ⟨H4, H5, H6, ⟨%f11, H11, %h11⟩, ⟨%f12, H12, %h12⟩, %hacc⟩
  subst hacc
  obtain ⟨Bq, Bqt, Bd, Bdt, Btot⟩ := RB
  dsimp only at hB
  subst hB
  rw [St.at_succ]
  generalize St.at RA ⟨Bq, Bqt, Bd, Bdt, k0_pay110 v33⟩ (arg4.view.read (Elt F) g4) (arg5.view.read (Elt F) g5) (arg6.view.read (Elt F) g6) i s k.val = u at *
  obtain ⟨A, B, K, V⟩ := u
  dsimp only at h11 h12
  subst h11 h12
  unfold k0_t1_body carry
  dsimp only
  sl_exec
  sl_step
  isplitl [H4]; · iexact H4
  isplitl [H5]; · iexact H5
  isplitl [H6]; · iexact H6
  isplitl [H11]
  · iexists _; isplitl [H11]; · iexact H11
    ipureintro
    rw [read_writes_put]
    rfl
  isplitl [H12]
  · iexists _; isplitl [H12]; · iexact H12
    ipureintro
    rw [read_writes_put]
    rfl
  ipureintro
  rfl

end Loop

end Cert.StickRun

end
-- ==== Proof.StickKer.lean ====
/-
  The kernel body run once, whatever it finds in its buffers.
-/
module

public import proofs.«01_k».proof.Proof.StickTrip
public import Idealize.ShloMosaic.Lib.LoopRemainder

@[expose] public section

set_option maxRecDepth 16384

noncomputable section

namespace Cert.StickRun

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (arg2 : Memref sig .tc .vmem S256x128 .bf16) (harg2 : arg2.IsWhole) (arg3 : Memref sig .tc .vmem S1x128x256 .bf16) (harg3 : arg3.IsWhole) (arg4 : Memref sig .tc .vmem S4096x128 .bf16) (harg4 : arg4.IsWhole) (arg5 : Memref sig .tc .vmem S16x128x256 .bf16) (harg5 : arg5.IsWhole) (arg6 : Memref sig .tc .vmem S16x128x256 .bf16) (harg6 : arg6.IsWhole) (arg7 : Memref sig .tc .vmem S256x128 .f32) (harg7 : arg7.IsWhole) (arg8 : Memref sig .tc .vmem S256x128 .bf16) (harg8 : arg8.IsWhole) (arg9 : Memref sig .tc .vmem S1x128x256 .bf16) (harg9 : arg9.IsWhole) (arg10 : Memref sig .tc .vmem S256x128 .bf16) (harg10 : arg10.IsWhole) (arg11 : Memref sig .tc .vmem S16x128x256 .f32) (harg11 : arg11.IsWhole) (arg12 : Memref sig .tc .vmem S16x128x256 .f32) (harg12 : arg12.IsWhole)

/-- The point starts a head pair: the condition as the kernel computes it. -/
abbrev first (i : grid0.Coords) : Prop := (Scalar.cmpi .ne (Scalar.extui (Scalar.cmpi .eq (BitVec.ofNat 32 (i 1).val) 0#32)) 0#32 : BitVec 1) = 1#1

/-- What the body leaves. -/
def Post (i : grid0.Coords) (g2 : Buf (Elt F) (arg2.view.loc (c : Thread nD τ))) ( g3 : Buf (Elt F) (arg3.view.loc (c : Thread nD τ))) ( g4 : Buf (Elt F) (arg4.view.loc (c : Thread nD τ))) ( g5 : Buf (Elt F) (arg5.view.loc (c : Thread nD τ))) ( g6 : Buf (Elt F) (arg6.view.loc (c : Thread nD τ))) ( g7 : Buf (Elt F) (arg7.view.loc (c : Thread nD τ))) ( g8 : Buf (Elt F) (arg8.view.loc (c : Thread nD τ))) ( g9 : Buf (Elt F) (arg9.view.loc (c : Thread nD τ))) (s : St F) : sProp 𝕄 :=
  iprop((arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (∃ f, (arg10.view.loc (c : Thread nD τ) ↦[arg10.view.set]{fullShare} f) ∗ ⌜∃ f0, f = arg10.view.writes (Elt F) f0 (dqPieces s)⌝)
    ∗ (∃ f, (arg11.view.loc (c : Thread nD τ) ↦[arg11.view.set]{fullShare} f) ∗ ⌜arg11.view.read (Elt F) f = s.K⌝)
    ∗ (∃ f, (arg12.view.loc (c : Thread nD τ) ↦[arg12.view.set]{fullShare} f) ∗ ⌜arg12.view.read (Elt F) f = s.V⌝))

section
variable (RA RB : Rows F) (i : grid0.Coords)
set_option warn.classDefReducibility false in
/-- The loop's invariant. -/
def LI (g4 : Buf (Elt F) (arg4.view.loc (c : Thread nD τ))) (g5 : Buf (Elt F) (arg5.view.loc (c : Thread nD τ))) (g6 : Buf (Elt F) (arg6.view.loc (c : Thread nD τ))) (s : St F) (w1 : BitVec 32) (v33 : Vec F S256x1 .f32) (hB : RB.tot = k0_pay110 v33) :
    LoopInv (M := 𝕄) frame (wpE (defs₀ (F := F)) Variants.none (c : Thread nD τ) none) Set.univ (k0_t1_loop i).lb (k0_t1_loop i).ub (k0_t1_loop i).st (k0_t1_ok i)
      (carry (F := F) zero zero) (k0_t1_body i arg2 harg2 arg3 harg3 arg4 harg4 arg5 harg5 arg6 harg6 arg7 harg7 arg8 harg8 arg9 harg9 arg10 harg10 arg11 harg11 arg12 harg12 w1 k0_pay99 k0_pay100 RA.q RB.q RA.qt RB.qt RA.d RB.d RA.dt RB.dt RA.tot v33) where
  inv := LInv RA RB i c arg4 arg5 arg6 arg11 arg12 g4 g5 g6 s
  step := lstep RA RB i c arg2 harg2 arg3 harg3 arg4 harg4 arg5 harg5 arg6 harg6 arg7 harg7 arg8 harg8 arg9 harg9 arg10 harg10 arg11 harg11 arg12 harg12 g4 g5 g6 s w1 v33 hB

end

end Cert.StickRun

end
-- ==== Proof.StickNext.lean ====
/-
  The kernel body run at a later block of a head pair, which adds to the key and value gradients.
-/
module

public import proofs.«01_k».proof.Proof.StickKer
public import Idealize.ShloMosaic.Lib.LoopRemainder

@[expose] public section

set_option maxRecDepth 16384

noncomputable section

namespace Cert.StickRun

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (arg2 : Memref sig .tc .vmem S256x128 .bf16) (harg2 : arg2.IsWhole) (arg3 : Memref sig .tc .vmem S1x128x256 .bf16) (harg3 : arg3.IsWhole) (arg4 : Memref sig .tc .vmem S4096x128 .bf16) (harg4 : arg4.IsWhole) (arg5 : Memref sig .tc .vmem S16x128x256 .bf16) (harg5 : arg5.IsWhole) (arg6 : Memref sig .tc .vmem S16x128x256 .bf16) (harg6 : arg6.IsWhole) (arg7 : Memref sig .tc .vmem S256x128 .f32) (harg7 : arg7.IsWhole) (arg8 : Memref sig .tc .vmem S256x128 .bf16) (harg8 : arg8.IsWhole) (arg9 : Memref sig .tc .vmem S1x128x256 .bf16) (harg9 : arg9.IsWhole) (arg10 : Memref sig .tc .vmem S256x128 .bf16) (harg10 : arg10.IsWhole) (arg11 : Memref sig .tc .vmem S16x128x256 .f32) (harg11 : arg11.IsWhole) (arg12 : Memref sig .tc .vmem S16x128x256 .f32) (harg12 : arg12.IsWhole)

set_option maxHeartbeats 8000000 in
theorem run_neg (i : grid0.Coords) (hc : ¬ first i) (g2 : Buf (Elt F) (arg2.view.loc (c : Thread nD τ))) ( g3 : Buf (Elt F) (arg3.view.loc (c : Thread nD τ))) ( g4 : Buf (Elt F) (arg4.view.loc (c : Thread nD τ))) ( g5 : Buf (Elt F) (arg5.view.loc (c : Thread nD τ))) ( g6 : Buf (Elt F) (arg6.view.loc (c : Thread nD τ))) ( g7 : Buf (Elt F) (arg7.view.loc (c : Thread nD τ))) ( g8 : Buf (Elt F) (arg8.view.loc (c : Thread nD τ))) ( g9 : Buf (Elt F) (arg9.view.loc (c : Thread nD τ)))
    (f10 : Buf (Elt F) (arg10.view.loc (c : Thread nD τ))) (f11 : Buf (Elt F) (arg11.view.loc (c : Thread nD τ))) (f12 : Buf (Elt F) (arg12.view.loc (c : Thread nD τ))) :
    iprop((arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := F)) Variants.none (c : Thread nD τ) none) Set.univ (cc0_stickbreak_bwd i arg2 harg2 arg3 harg3 arg4 harg4 arg5 harg5 arg6 harg6 arg7 harg7 arg8 harg8 arg9 harg9 arg10 harg10 arg11 harg11 arg12 harg12)
        (fun _ => Post c arg2 arg3 arg4 arg5 arg6 arg7 arg8 arg9 arg10 arg11 arg12 i g2 g3 g4 g5 g6 g7 g8 g9 (fin (arg4.view.read (Elt F) g4) (arg5.view.read (Elt F) g5) (arg6.view.read (Elt F) g6) i (arg2.view.read (Elt F) g2) (arg3.view.read (Elt F) g3) (arg7.view.read (Elt F) g7) (arg8.view.read (Elt F) g8) (arg9.view.read (Elt F) g9) (arg11.view.read (Elt F) (f11)) (arg12.view.read (Elt F) (f12)))) := by
  simp only [cc0_stickbreak_bwd_eq_skeleton]
  unfold cc0_stickbreak_bwd_skel
  iintro ⟨H2, H3, H4, H5, H6, H7, H8, H9, H10, H11, H12⟩
  sl_exec
  iapply (exec_loop frame (wpE (defs₀ (F := F)) Variants.none (c : Thread nD τ) none) Set.univ (k0_t1_loop i).lb (k0_t1_loop i).ub (k0_t1_loop i).st (k0_t1_ok i) _ _
    (LI c arg2 harg2 arg3 harg3 arg4 harg4 arg5 harg5 arg6 harg6 arg7 harg7 arg8 harg8 arg9 harg9 arg10 harg10 arg11 harg11 arg12 harg12 (rowsA (arg2.view.read (Elt F) g2) (arg3.view.read (Elt F) g3) (arg7.view.read (Elt F) g7) (arg8.view.read (Elt F) g8) (arg9.view.read (Elt F) g9)) (rowsB (arg2.view.read (Elt F) g2) (arg3.view.read (Elt F) g3) (arg7.view.read (Elt F) g7) (arg8.view.read (Elt F) g8) (arg9.view.read (Elt F) g9)) i g4 g5 g6 ⟨zero, zero, (arg11.view.read (Elt F) (f11)), (arg12.view.read (Elt F) (f12))⟩ _ _ rfl)) $$ [H4 H5 H6 H11 H12]
  · unfold LI LInv
    dsimp only
    isplitl [H4]; · iexact H4
    isplitl [H5]; · iexact H5
    isplitl [H6]; · iexact H6
    isplitl [H11]
    · iexists _; isplitl [H11]; · iexact H11
      ipureintro; rfl
    isplitl [H12]
    · iexists _; isplitl [H12]; · iexact H12
      ipureintro; rfl
    ipureintro; rfl
  unfold LI LInv
  dsimp only
  iintro %acc ⟨H4, H5, H6, ⟨%e11, H11, %h11⟩, ⟨%e12, H12, %h12⟩, %hacc⟩
  subst hacc
  unfold fin
  rw [show Scf.trips (k0_t1_loop i).lb (k0_t1_loop i).ub (k0_t1_loop i).st = (k0_t1_loop i).trips from rfl] at *
  generalize St.at (rowsA (arg2.view.read (Elt F) g2) (arg3.view.read (Elt F) g3) (arg7.view.read (Elt F) g7) (arg8.view.read (Elt F) g8) (arg9.view.read (Elt F) g9)) (rowsB (arg2.view.read (Elt F) g2) (arg3.view.read (Elt F) g3) (arg7.view.read (Elt F) g7) (arg8.view.read (Elt F) g8) (arg9.view.read (Elt F) g9)) (arg4.view.read (Elt F) g4) (arg5.view.read (Elt F) g5) (arg6.view.read (Elt F) g6) i ⟨zero, zero, (arg11.view.read (Elt F) (f11)), (arg12.view.read (Elt F) (f12))⟩ (k0_t1_loop i).trips = u at *
  obtain ⟨A, B, K, V⟩ := u
  dsimp only at h11 h12
  subst h11 h12
  unfold carry
  dsimp only
  sl_exec
  sl_step
  unfold Post
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitl [H10]; · iexact H10
    ipureintro
    exact ⟨f10, rfl⟩
  isplitl [H11]
  · iexists _; isplitl [H11]; · iexact H11
    ipureintro
    rw [read_writes_put]
    rfl
  iexists _; isplitl [H12]; · iexact H12
  ipureintro
  rw [read_writes_put]
  rfl

end Cert.StickRun

end
-- ==== Proof.StickFirst.lean ====
/-
  The kernel body run at the first block of a head pair, which clears the key and value gradients.
-/
module

public import proofs.«01_k».proof.Proof.StickKer
public import Idealize.ShloMosaic.Lib.VecWindow
public import Idealize.ShloMosaic.Lib.LoopRemainder

@[expose] public section

set_option maxRecDepth 16384

noncomputable section

namespace Cert.StickRun

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (arg2 : Memref sig .tc .vmem S256x128 .bf16) (harg2 : arg2.IsWhole) (arg3 : Memref sig .tc .vmem S1x128x256 .bf16) (harg3 : arg3.IsWhole) (arg4 : Memref sig .tc .vmem S4096x128 .bf16) (harg4 : arg4.IsWhole) (arg5 : Memref sig .tc .vmem S16x128x256 .bf16) (harg5 : arg5.IsWhole) (arg6 : Memref sig .tc .vmem S16x128x256 .bf16) (harg6 : arg6.IsWhole) (arg7 : Memref sig .tc .vmem S256x128 .f32) (harg7 : arg7.IsWhole) (arg8 : Memref sig .tc .vmem S256x128 .bf16) (harg8 : arg8.IsWhole) (arg9 : Memref sig .tc .vmem S1x128x256 .bf16) (harg9 : arg9.IsWhole) (arg10 : Memref sig .tc .vmem S256x128 .bf16) (harg10 : arg10.IsWhole) (arg11 : Memref sig .tc .vmem S16x128x256 .f32) (harg11 : arg11.IsWhole) (arg12 : Memref sig .tc .vmem S16x128x256 .f32) (harg12 : arg12.IsWhole)

set_option maxHeartbeats 8000000 in
theorem run_pos (i : grid0.Coords) (hc : first i) (g2 : Buf (Elt F) (arg2.view.loc (c : Thread nD τ))) ( g3 : Buf (Elt F) (arg3.view.loc (c : Thread nD τ))) ( g4 : Buf (Elt F) (arg4.view.loc (c : Thread nD τ))) ( g5 : Buf (Elt F) (arg5.view.loc (c : Thread nD τ))) ( g6 : Buf (Elt F) (arg6.view.loc (c : Thread nD τ))) ( g7 : Buf (Elt F) (arg7.view.loc (c : Thread nD τ))) ( g8 : Buf (Elt F) (arg8.view.loc (c : Thread nD τ))) ( g9 : Buf (Elt F) (arg9.view.loc (c : Thread nD τ)))
    (f10 : Buf (Elt F) (arg10.view.loc (c : Thread nD τ))) (f11 : Buf (Elt F) (arg11.view.loc (c : Thread nD τ))) (f12 : Buf (Elt F) (arg12.view.loc (c : Thread nD τ))) :
    iprop((arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := F)) Variants.none (c : Thread nD τ) none) Set.univ (cc0_stickbreak_bwd i arg2 harg2 arg3 harg3 arg4 harg4 arg5 harg5 arg6 harg6 arg7 harg7 arg8 harg8 arg9 harg9 arg10 harg10 arg11 harg11 arg12 harg12)
        (fun _ => Post c arg2 arg3 arg4 arg5 arg6 arg7 arg8 arg9 arg10 arg11 arg12 i g2 g3 g4 g5 g6 g7 g8 g9 (fin (arg4.view.read (Elt F) g4) (arg5.view.read (Elt F) g5) (arg6.view.read (Elt F) g6) i (arg2.view.read (Elt F) g2) (arg3.view.read (Elt F) g3) (arg7.view.read (Elt F) g7) (arg8.view.read (Elt F) g8) (arg9.view.read (Elt F) g9) k0_pay97 k0_pay98)) := by
  simp only [cc0_stickbreak_bwd_eq_skeleton]
  unfold cc0_stickbreak_bwd_skel
  iintro ⟨H2, H3, H4, H5, H6, H7, H8, H9, H10, H11, H12⟩
  sl_exec
  iapply (exec_loop frame (wpE (defs₀ (F := F)) Variants.none (c : Thread nD τ) none) Set.univ (k0_t1_loop i).lb (k0_t1_loop i).ub (k0_t1_loop i).st (k0_t1_ok i) _ _
    (LI c arg2 harg2 arg3 harg3 arg4 harg4 arg5 harg5 arg6 harg6 arg7 harg7 arg8 harg8 arg9 harg9 arg10 harg10 arg11 harg11 arg12 harg12 (rowsA (arg2.view.read (Elt F) g2) (arg3.view.read (Elt F) g3) (arg7.view.read (Elt F) g7) (arg8.view.read (Elt F) g8) (arg9.view.read (Elt F) g9)) (rowsB (arg2.view.read (Elt F) g2) (arg3.view.read (Elt F) g3) (arg7.view.read (Elt F) g7) (arg8.view.read (Elt F) g8) (arg9.view.read (Elt F) g9)) i g4 g5 g6 ⟨zero, zero, k0_pay97, k0_pay98⟩ _ _ rfl)) $$ [H4 H5 H6 H11 H12]
  · unfold LI LInv
    dsimp only
    isplitl [H4]; · iexact H4
    isplitl [H5]; · iexact H5
    isplitl [H6]; · iexact H6
    isplitl [H11]
    · iexists _; isplitl [H11]; · iexact H11
      ipureintro; first | exact View.read_writes_full (Val := Elt F) arg11.view _ inb_S16x128x256_S16x128x256_0_0_0 (k0_pay97 (F := F)) _ | exact View.read_writes_full (Val := Elt F) _ _ _ _ _
    isplitl [H12]
    · iexists _; isplitl [H12]; · iexact H12
      ipureintro; first | exact View.read_writes_full (Val := Elt F) arg12.view _ inb_S16x128x256_S16x128x256_0_0_0 (k0_pay98 (F := F)) _ | exact View.read_writes_full (Val := Elt F) _ _ _ _ _
    ipureintro; rfl
  unfold LI LInv
  dsimp only
  iintro %acc ⟨H4, H5, H6, ⟨%e11, H11, %h11⟩, ⟨%e12, H12, %h12⟩, %hacc⟩
  subst hacc
  unfold fin
  rw [show Scf.trips (k0_t1_loop i).lb (k0_t1_loop i).ub (k0_t1_loop i).st = (k0_t1_loop i).trips from rfl] at *
  generalize St.at (rowsA (arg2.view.read (Elt F) g2) (arg3.view.read (Elt F) g3) (arg7.view.read (Elt F) g7) (arg8.view.read (Elt F) g8) (arg9.view.read (Elt F) g9)) (rowsB (arg2.view.read (Elt F) g2) (arg3.view.read (Elt F) g3) (arg7.view.read (Elt F) g7) (arg8.view.read (Elt F) g8) (arg9.view.read (Elt F) g9)) (arg4.view.read (Elt F) g4) (arg5.view.read (Elt F) g5) (arg6.view.read (Elt F) g6) i ⟨zero, zero, k0_pay97, k0_pay98⟩ (k0_t1_loop i).trips = u at *
  obtain ⟨A, B, K, V⟩ := u
  dsimp only at h11 h12
  subst h11 h12
  unfold carry
  dsimp only
  sl_exec
  sl_step
  unfold Post
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitl [H10]; · iexact H10
    ipureintro
    exact ⟨f10, rfl⟩
  isplitl [H11]
  · iexists _; isplitl [H11]; · iexact H11
    ipureintro
    rw [read_writes_put]
    rfl
  iexists _; isplitl [H12]; · iexact H12
  ipureintro
  rw [read_writes_put]
  rfl

end Cert.StickRun

end
-- ==== Proof.StickRun.lean ====
/-
  The whole run: every point's body against the blocks the pipeline hands it, and the launch.
-/
module

public import proofs.«01_k».proof.Proof.StickNext
public import proofs.«01_k».proof.Proof.StickFirst
public import Idealize.ShloMosaic.Lib.Pipeline.ValueKit
public import Idealize.ShloMosaic.Lib.VecWindow

@[expose] public section

set_option maxRecDepth 16384

noncomputable section

namespace Cert.StickRun

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (arg2 : Memref sig .tc .vmem S256x128 .bf16) (harg2 : arg2.IsWhole) (arg3 : Memref sig .tc .vmem S1x128x256 .bf16) (harg3 : arg3.IsWhole) (arg4 : Memref sig .tc .vmem S4096x128 .bf16) (harg4 : arg4.IsWhole) (arg5 : Memref sig .tc .vmem S16x128x256 .bf16) (harg5 : arg5.IsWhole) (arg6 : Memref sig .tc .vmem S16x128x256 .bf16) (harg6 : arg6.IsWhole) (arg7 : Memref sig .tc .vmem S256x128 .f32) (harg7 : arg7.IsWhole) (arg8 : Memref sig .tc .vmem S256x128 .bf16) (harg8 : arg8.IsWhole) (arg9 : Memref sig .tc .vmem S1x128x256 .bf16) (harg9 : arg9.IsWhole) (arg10 : Memref sig .tc .vmem S256x128 .bf16) (harg10 : arg10.IsWhole) (arg11 : Memref sig .tc .vmem S16x128x256 .f32) (harg11 : arg11.IsWhole) (arg12 : Memref sig .tc .vmem S16x128x256 .f32) (harg12 : arg12.IsWhole)

/-- The two stores of a query-gradient block cover it. -/
theorem dq_cover (s : St F) (y : S256x128.Idx) : ∃ p ∈ dqPieces s, y ∈ p.1.set := by
  have h1 : (y 1).val < 128 := (y 1).isLt
  have h0 : (y 0).val < 256 := (y 0).isLt
  by_cases h : (y 1).val < 64
  · refine ⟨⟨Rect.unit (s := S256x128) ![0, 0] S256x64.size inb_S256x128_S256x64_0_0, k0_pay165 s.A.acc⟩, List.mem_cons_of_mem _ (List.mem_cons_self ..), ?_⟩
    refine (Rect.mem_set_unit (inb := inb_S256x128_S256x64_0_0)).2 fun a => ?_
    fin_cases a
    · exact ⟨Nat.zero_le _, by show (y 0).val < 0 + 256; omega⟩
    · exact ⟨Nat.zero_le _, by show (y 1).val < 0 + 64; omega⟩
  · refine ⟨⟨Rect.unit (s := S256x128) ![0, 64] S256x64.size inb_S256x128_S256x64_0_64, k0_pay165 s.B.acc⟩, List.mem_cons_self .., ?_⟩
    refine (Rect.mem_set_unit (inb := inb_S256x128_S256x64_0_64)).2 fun a => ?_
    fin_cases a
    · exact ⟨Nat.zero_le _, by show (y 0).val < 0 + 256; omega⟩
    · exact ⟨by show 64 ≤ (y 1).val; omega, by show (y 1).val < 64 + 64; omega⟩

theorem sound_first (i : grid0.Coords) (hc : first i) (x2 : Vec F S256x128 .bf16) (x3 : Vec F S1x128x256 .bf16) (x4 : Vec F S4096x128 .bf16) (x5 : Vec F S16x128x256 .bf16) (x6 : Vec F S16x128x256 .bf16) (x7 : Vec F S256x128 .f32) (x8 : Vec F S256x128 .bf16) (x9 : Vec F S1x128x256 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (View.canon (dqPieces (fin x4 x5 x6 i x2 x3 x7 x8 x9 k0_pay97 k0_pay98))) ∗ owns (c : Thread nD τ) arg11 fullShare (fin x4 x5 x6 i x2 x3 x7 x8 x9 k0_pay97 k0_pay98).K ∗ owns (c : Thread nD τ) arg12 fullShare (fin x4 x5 x6 i x2 x3 x7 x8 x9 k0_pay97 k0_pay98).V) -∗ K ⟨⟩))
      ⊢ wp frame (wpE (defs₀ (F := F)) Variants.none (c : Thread nD τ) none) Set.univ (cc0_stickbreak_bwd i arg2 harg2 arg3 harg3 arg4 harg4 arg5 harg5 arg6 harg6 arg7 harg7 arg8 harg8 arg9 harg9 arg10 harg10 arg11 harg11 arg12 harg12) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf2 hf3 hf4 hf5 hf6 hf7 hf8 hf9
  iapply (wp_wand frame (wpE (defs₀ (F := F)) Variants.none (c : Thread nD τ) none)) $$ [H2 H3 H4 H5 H6 H7 H8 H9 H10 H11 H12]
  · iapply (run_pos c arg2 harg2 arg3 harg3 arg4 harg4 arg5 harg5 arg6 harg6 arg7 harg7 arg8 harg8 arg9 harg9 arg10 harg10 arg11 harg11 arg12 harg12 i hc f2 f3 f4 f5 f6 f7 f8 f9 f10 f11 f12)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  unfold Post
  iintro %_ ⟨H2, H3, H4, H5, H6, H7, H8, H9, ⟨%e10, H10, %h10⟩, ⟨%e11, H11, %h11⟩, ⟨%e12, H12, %h12⟩⟩
  obtain ⟨g10, h10⟩ := h10
  iapply Hk
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists e10; isplitr
    · ipureintro
      rw [h10]
      exact View.read_writes_eq_canon _ _ _ (dq_cover _)
    iexact H10
  isplitl [H11]
  · iexists e11; isplitr
    · ipureintro; exact h11
    iexact H11
  iexists e12; isplitr
  · ipureintro; exact h12
  iexact H12

theorem sound_next (i : grid0.Coords) (hc : ¬ first i) (x2 : Vec F S256x128 .bf16) (x3 : Vec F S1x128x256 .bf16) (x4 : Vec F S4096x128 .bf16) (x5 : Vec F S16x128x256 .bf16) (x6 : Vec F S16x128x256 .bf16) (x7 : Vec F S256x128 .f32) (x8 : Vec F S256x128 .bf16) (x9 : Vec F S1x128x256 .bf16) (x11 x12 : Vec F S16x128x256 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (View.canon (dqPieces (fin x4 x5 x6 i x2 x3 x7 x8 x9 x11 x12))) ∗ owns (c : Thread nD τ) arg11 fullShare (fin x4 x5 x6 i x2 x3 x7 x8 x9 x11 x12).K ∗ owns (c : Thread nD τ) arg12 fullShare (fin x4 x5 x6 i x2 x3 x7 x8 x9 x11 x12).V) -∗ K ⟨⟩))
      ⊢ wp frame (wpE (defs₀ (F := F)) Variants.none (c : Thread nD τ) none) Set.univ (cc0_stickbreak_bwd i arg2 harg2 arg3 harg3 arg4 harg4 arg5 harg5 arg6 harg6 arg7 harg7 arg8 harg8 arg9 harg9 arg10 harg10 arg11 harg11 arg12 harg12) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  subst hf2 hf3 hf4 hf5 hf6 hf7 hf8 hf9 hf11 hf12
  iapply (wp_wand frame (wpE (defs₀ (F := F)) Variants.none (c : Thread nD τ) none)) $$ [H2 H3 H4 H5 H6 H7 H8 H9 H10 H11 H12]
  · iapply (run_neg c arg2 harg2 arg3 harg3 arg4 harg4 arg5 harg5 arg6 harg6 arg7 harg7 arg8 harg8 arg9 harg9 arg10 harg10 arg11 harg11 arg12 harg12 i hc f2 f3 f4 f5 f6 f7 f8 f9 f10 f11 f12)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  unfold Post
  iintro %_ ⟨H2, H3, H4, H5, H6, H7, H8, H9, ⟨%e10, H10, %h10⟩, ⟨%e11, H11, %h11⟩, ⟨%e12, H12, %h12⟩⟩
  obtain ⟨g10, h10⟩ := h10
  iapply Hk
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists e10; isplitr
    · ipureintro
      rw [h10]
      exact View.read_writes_eq_canon _ _ _ (dq_cover _)
    iexact H10
  isplitl [H11]
  · iexists e11; isplitr
    · ipureintro; exact h11
    iexact H11
  iexists e12; isplitr
  · ipureintro; exact h12
  iexact H12

end

variable (m : (ℓ : Loc nD τ sig) → Buf (Elt F) ℓ) (ρ : Dev nD → PrngReg)

/-- The state a point leaves over the gradients it finds. -/
def ptFin (c : Dev nD) (t : Fin cfg0.N) (K V : Vec F S16x128x256 .f32) : St F :=
  fin (iblk m c 2 t) (iblk m c 3 t) (iblk m c 4 t) (grid0.coords t) (iblk m c 0 t) (iblk m c 1 t) (iblk m c 5 t) (iblk m c 6 t) (iblk m c 7 t) K V

/-- The state each point leaves: a head pair's first point starts from cleared gradients, a later one from the previous
    point's. -/
def acc (c : Dev nD) : (n : ℕ) → n < cfg0.N → St F
  | 0, h => ptFin m c ⟨0, h⟩ k0_pay97 k0_pay98
  | n + 1, h => if (n + 1) % 16 = 0 then ptFin m c ⟨n + 1, h⟩ k0_pay97 k0_pay98
      else ptFin m c ⟨n + 1, h⟩ (acc c n (Nat.lt_of_succ_lt h)).K (acc c n (Nat.lt_of_succ_lt h)).V

theorem acc_first (c : Dev nD) (t : Fin cfg0.N) (h : t.val % 16 = 0) : acc m c t.val t.isLt = ptFin m c t k0_pay97 k0_pay98 := by
  obtain ⟨n, hn⟩ := t
  cases n with
  | zero => rfl
  | succ n => exact if_pos h

theorem acc_next (c : Dev nD) (t : Fin cfg0.N) (h : ¬ t.val % 16 = 0) (hp : t.val - 1 < cfg0.N) :
    acc m c t.val t.isLt = ptFin m c t (acc m c (t.val - 1) hp).K (acc m c (t.val - 1) hp).V := by
  obtain ⟨n, hn⟩ := t
  cases n with
  | zero => exact absurd rfl h
  | succ n => exact if_neg h

theorem first_iff : ∀ t : Fin cfg0.N, first (grid0.coords t) ↔ t.val % 16 = 0 :=
  (by decide +kernel : ∀ t : Fin grid0.N, first (grid0.coords t) ↔ t.val % 16 = 0)

/-- What the pipeline is told of each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => View.canon (dqPieces (acc m c t.val t.isLt))
    | ⟨9, _⟩ => (acc m c t.val t.isLt).K
    | ⟨10, _⟩ => (acc m c t.val t.isLt).V
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = View.canon (dqPieces (acc m c t.val t.isLt)) := by dsimp only [dats]
theorem after0_9 (c : Dev nD) (t : Fin cfg0.N) : (dats m 0 c).after 9 t = (acc m c t.val t.isLt).K := by dsimp only [dats]
theorem after0_10 (c : Dev nD) (t : Fin cfg0.N) : (dats m 0 c).after 10 t = (acc m c t.val t.isLt).V := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_9 (c : Dev nD) (t : Fin cfg0.N) (h : ¬ t.val % 16 = 0) (hp : t.val - 1 < cfg0.N) (d) :
    (dats m 0 c).before 9 t d = (acc m c (t.val - 1) hp).K := by
  have hN : t.val < 64 := t.isLt
  have ht : t.val ≠ 0 := fun h0 => h (by rw [h0])
  refine ((dats m 0 c).before_out_kept 9 rfl t ht ?_ (fun _ => rfl) (fun _ _ => rfl) d).trans (after0_9 m c ⟨t.val - 1, hp⟩)
  rw [← Bool.not_eq_true, flush0_9 ⟨t.val - 1, hp⟩]
  show ¬ (t.val - 1) % 16 = 15
  omega
theorem before0_10 (c : Dev nD) (t : Fin cfg0.N) (h : ¬ t.val % 16 = 0) (hp : t.val - 1 < cfg0.N) (d) :
    (dats m 0 c).before 10 t d = (acc m c (t.val - 1) hp).V := by
  have hN : t.val < 64 := t.isLt
  have ht : t.val ≠ 0 := fun h0 => h (by rw [h0])
  refine ((dats m 0 c).before_out_kept 10 rfl t ht ?_ (fun _ => rfl) (fun _ _ => rfl) d).trans (after0_10 m c ⟨t.val - 1, hp⟩)
  rw [← Bool.not_eq_true, flush0_10 ⟨t.val - 1, hp⟩]
  show ¬ (t.val - 1) % 16 = 15
  omega

/-- What the body starts from, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))
/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t))

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 64 := t.isLt
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h : t.val % 16 = 0
  · rw [acc_first m c t h]
    iapply (sound_first c _ _ _ _ _ _ _ _ _ _ _ _ _ _ _ _ _ _ _ _ _ _ (grid0.coords t) ((first_iff t).2 h) (iblk m c 0 t) (iblk m c 1 t) (iblk m c 2 t) (iblk m c 3 t) (iblk m c 4 t) (iblk m c 5 t) (iblk m c 6 t) (iblk m c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hp : t.val - 1 < cfg0.N := by show t.val - 1 < 64; omega
    rw [acc_next m c t h hp, before0_9 m c t h hp, before0_10 m c t h hp]
    iapply (sound_next c _ _ _ _ _ _ _ _ _ _ _ _ _ _ _ _ _ _ _ _ _ _ (grid0.coords t) (fun hf => h ((first_iff t).1 hf)) (iblk m c 0 t) (iblk m c 1 t) (iblk m c 2 t) (iblk m c 3 t) (iblk m c 4 t) (iblk m c 5 t) (iblk m c 6 t) (iblk m c 7 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body's row of the table is the body. -/
theorem row_body (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row_body]
  exact triple_restated (sound_body m c t) rfl .rfl fun _ => .rfl

/-! ## The run -/

set_option backward.isDefEq.respectTransparency.types false in
/-- The run, every semaphore counter ending at zero. -/
theorem run_quiet : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The arguments end unchanged, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.StickRun

end
-- ==== Proof.StickPay.lean ====
/-
  The vector operations of the stick-breaking gradient's body, read at an index of the extended reals.
-/
module

public import proofs.«01_k».proof.Proof.StickStep
public import Idealize.ShloMosaic.Lib.Pointwise
public import Idealize.ShloMosaic.Lib.WordCmp
public import Idealize.ShloMosaic.Lib.KernelVsHost
public import Idealize.ShloMosaic.Lib.Pipeline.Value

@[expose] public section

set_option maxRecDepth 16384

noncomputable section

open Idealize.ShloMosaic
open Cert.StickIdeal Cert.StickIdeal.Gen
open Cert.StickRun

namespace Cert.StickPay

theorem cz_apply (q : FVec Ideal S256x64 .bf16) (kt : Vec Ideal S1x64x256 .bf16) (r l : Fin 256) :
    cz q kt (ix2 r l) = ∑ d : Fin 64, q (ix2 r d) * kt (ix3 (0 : Fin 1) d l) := by
  pointwise [cz]

theorem clr_apply (z : FVec Ideal S256x256 .f32) (r l : Fin 256) :
    clr z (ix2 r l) = 0 - (max (z (ix2 r l)) 0 + Ideal.log (1 + Ideal.exp (0 - max (z (ix2 r l)) (-(z (ix2 r l)))))) := by
  pointwise [clr]
  rfl

theorem csum_apply (x : FVec Ideal S256x256 .f32) (r : Fin 256) :
    csum x (ix2 r (0 : Fin 1)) = ∑ l : Fin 256, x (ix2 r l) := by
  pointwise [csum]

theorem csplit_apply (x : FVec Ideal S256x256 .f32) (tri : FVec Ideal S256x256 .bf16) (r l : Fin 256) :
    csplit x tri (ix2 r l) = (∑ j : Fin 256, x (ix2 r j) * tri (ix2 j l)) + ∑ j : Fin 256, (x (ix2 r j) - x (ix2 r j)) * tri (ix2 j l) := by
  pointwise [csplit]

theorem ca_apply (tot plr : FVec Ideal S256x1 .f32) (z lr : FVec Ideal S256x256 .f32) (r l : Fin 256) :
    ca tot plr z lr (ix2 r l) = Ideal.exp (z (ix2 r l) + (tot (ix2 r (0 : Fin 1)) - (plr (ix2 r (0 : Fin 1)) + csplit lr k0_pay99 (ix2 r l)))) := by
  pointwise [ca]

theorem cg_apply (d : FVec Ideal S256x64 .bf16) (vt : Vec Ideal S1x64x256 .bf16) (a : FVec Ideal S256x256 .f32) (r l : Fin 256) :
    cg d vt a (ix2 r l) = (∑ e : Fin 64, d (ix2 r e) * vt (ix3 (0 : Fin 1) e l)) * a (ix2 r l) := by
  pointwise [cg]

theorem cdz_apply (pg : FVec Ideal S256x1 .f32) (z lr g : FVec Ideal S256x256 .f32) (r l : Fin 256) :
    cdz pg z lr g (ix2 r l) = g (ix2 r l) - Ideal.exp (z (ix2 r l) + lr (ix2 r l)) * (pg (ix2 r (0 : Fin 1)) + csplit g k0_pay100 (ix2 r l)) := by
  pointwise [cdz]

theorem cupd_apply (qt : FVec Ideal S64x256 .bf16) (x : FVec Ideal S256x256 .bf16) (old : Vec Ideal S1x64x256 .f32) (d : Fin 64) (l : Fin 256) :
    cupd qt x old (ix3 (0 : Fin 1) d l) = old (ix3 (0 : Fin 1) d l) + ∑ r : Fin 256, qt (ix2 d r) * x (ix2 r l) := by
  pointwise [cupd]

theorem pay99_apply (j l : Fin 256) : (k0_pay99 : FVec Ideal S256x256 .bf16) (ix2 j l) = if j.val < l.val then 1 else 0 := by
  have hj : j.val < 2 ^ (32 - 1) := j.isLt.trans (by norm_num)
  have hl : l.val < 2 ^ (32 - 1) := l.isLt.trans (by norm_num)
  have e : (k0_pay99 : FVec Ideal S256x256 .bf16) (ix2 j l) = FloatOps.sitofp (F := Ideal) .f32
      (BitVec.setWidth 32 (IntOp.cmpi .slt (BitVec.ofNat 32 j.val) (BitVec.ofNat 32 l.val))) := by pointwise [k0_pay99]
  rw [e, WordCmp.cmpi_slt_ofNat hj hl]
  by_cases h : j.val < l.val
  · rw [if_pos h, decide_eq_true h]
    exact (congrArg (fun x : ℝ => (x : EReal)) (by rw [show (BitVec.setWidth 32 (BitVec.ofBool true)).toInt = 1 by decide]; norm_num : (((BitVec.setWidth 32 (BitVec.ofBool true)).toInt : ℤ) : ℝ) = 1)).trans EReal.coe_one
  · rw [if_neg h, decide_eq_false h]
    exact (congrArg (fun x : ℝ => (x : EReal)) (by rw [show (BitVec.setWidth 32 (BitVec.ofBool false)).toInt = 0 by decide]; norm_num : (((BitVec.setWidth 32 (BitVec.ofBool false)).toInt : ℤ) : ℝ) = 0)).trans EReal.coe_zero

theorem pay100_apply (j l : Fin 256) : (k0_pay100 : FVec Ideal S256x256 .bf16) (ix2 j l) = if j.val ≤ l.val then 1 else 0 := by
  have hj : j.val < 2 ^ (32 - 1) := j.isLt.trans (by norm_num)
  have hl : l.val < 2 ^ (32 - 1) := l.isLt.trans (by norm_num)
  have e : (k0_pay100 : FVec Ideal S256x256 .bf16) (ix2 j l) = FloatOps.sitofp (F := Ideal) .f32
      (BitVec.setWidth 32 (IntOp.cmpi .sle (BitVec.ofNat 32 j.val) (BitVec.ofNat 32 l.val))) := by pointwise [k0_pay100]
  rw [e, WordCmp.cmpi_sle_ofNat hj hl]
  by_cases h : j.val ≤ l.val
  · rw [if_pos h, decide_eq_true h]
    exact (congrArg (fun x : ℝ => (x : EReal)) (by rw [show (BitVec.setWidth 32 (BitVec.ofBool true)).toInt = 1 by decide]; norm_num : (((BitVec.setWidth 32 (BitVec.ofBool true)).toInt : ℤ) : ℝ) = 1)).trans EReal.coe_one
  · rw [if_neg h, decide_eq_false h]
    exact (congrArg (fun x : ℝ => (x : EReal)) (by rw [show (BitVec.setWidth 32 (BitVec.ofBool false)).toInt = 0 by decide]; norm_num : (((BitVec.setWidth 32 (BitVec.ofBool false)).toInt : ℤ) : ℝ) = 0)).trans EReal.coe_zero

theorem w66_eq : ∀ i : grid0.Coords, (Scalar.subi (Scalar.muli (BitVec.ofNat 32 (i 1).val) 256#32) (Scalar.muli (w66 i) 256#32)).toInt
    = 256 * ((i 1).val : ℤ) - 256 * (2 * ((i 1).val / 2 : ℕ)) := by decide +kernel
theorem w68_eq : ∀ i : grid0.Coords, (Scalar.subi (Scalar.muli (BitVec.ofNat 32 (i 1).val) 256#32) (Scalar.muli (w68 i) 256#32)).toInt
    = 256 * ((i 1).val : ℤ) - 256 * (2 * ((i 1).val / 2 : ℕ) + 1) := by decide +kernel

/-- A column below a row moved by a word. -/
theorem slt_add (l r : Fin 256) (D : BitVec 32) (hD : -4096 ≤ D.toInt ∧ D.toInt ≤ 4096) :
    IntOp.cmpi .slt (BitVec.ofNat 32 l.val) (IntOp.addi (BitVec.ofNat 32 r.val) D) = BitVec.ofBool (decide ((l.val : ℤ) < r.val + D.toInt)) := by
  rw [WordCmp.cmpi_slt_eq]
  have hl : (BitVec.ofNat 32 l.val).toInt = l.val := by
    have h : (BitVec.ofNat 32 l.val).toNat = l.val := by rw [BitVec.toNat_ofNat]; exact Nat.mod_eq_of_lt (l.isLt.trans (by norm_num))
    rw [WordCmp.toInt_eq_toNat_of_lt_half (by rw [h]; exact l.isLt.trans (by norm_num)), h]
  have hr : (BitVec.ofNat 32 r.val).toInt = r.val := by
    have h : (BitVec.ofNat 32 r.val).toNat = r.val := by rw [BitVec.toNat_ofNat]; exact Nat.mod_eq_of_lt (r.isLt.trans (by norm_num))
    rw [WordCmp.toInt_eq_toNat_of_lt_half (by rw [h]; exact r.isLt.trans (by norm_num)), h]
  have hs : (IntOp.addi (BitVec.ofNat 32 r.val) D).toInt = r.val + D.toInt := by
    show (BitVec.ofNat 32 r.val + D).toInt = _
    rw [BitVec.toInt_add, hr]
    exact Int.bmod_eq_of_le (by have := r.isLt; omega) (by have := r.isLt; omega)
  rw [hl, hs]

theorem mk1_apply (i : grid0.Coords) (x : FVec Ideal S256x256 .f32) (r l : Fin 256) :
    mk1 i x (ix2 r l) = if 256 * (2 * ((i 1).val / 2)) + l.val < 256 * (i 1).val + r.val then x (ix2 r l) else 0 := by
  have e : mk1 i x (ix2 r l) = Scalar.select (IntOp.cmpi .slt (BitVec.ofNat 32 l.val) (IntOp.addi (BitVec.ofNat 32 r.val)
      (Scalar.subi (Scalar.muli (BitVec.ofNat 32 (i 1).val) 256#32) (Scalar.muli (w66 i) 256#32)))) (x (ix2 r l)) 0 := by
    pointwise [mk1, k0_pay122]
  have hi : (i 1).val < 16 := (i 1).isLt
  rw [e, slt_add l r _ (by rw [w66_eq]; omega), w66_eq]
  by_cases h : 256 * (2 * ((i 1).val / 2)) + l.val < 256 * (i 1).val + r.val
  · rw [if_pos h, decide_eq_true (by push_cast; omega)]; rfl
  · rw [if_neg h, decide_eq_false (by push_cast; omega)]; rfl

theorem mk2_apply (i : grid0.Coords) (x : FVec Ideal S256x256 .f32) (r l : Fin 256) :
    mk2 i x (ix2 r l) = if 256 * (2 * ((i 1).val / 2) + 1) + l.val < 256 * (i 1).val + r.val then x (ix2 r l) else 0 := by
  have e : mk2 i x (ix2 r l) = Scalar.select (IntOp.cmpi .slt (BitVec.ofNat 32 l.val) (IntOp.addi (BitVec.ofNat 32 r.val)
      (Scalar.subi (Scalar.muli (BitVec.ofNat 32 (i 1).val) 256#32) (Scalar.muli (w68 i) 256#32)))) (x (ix2 r l)) 0 := by
    pointwise [mk2, k0_pay123]
  have hi : (i 1).val < 16 := (i 1).isLt
  rw [e, slt_add l r _ (by rw [w68_eq]; omega), w68_eq]
  by_cases h : 256 * (2 * ((i 1).val / 2) + 1) + l.val < 256 * (i 1).val + r.val
  · rw [if_pos h, decide_eq_true (by push_cast; omega)]; rfl
  · rw [if_neg h, decide_eq_false (by push_cast; omega)]; rfl

theorem pay101_apply (x : Vec Ideal S256x64 .bf16) (r : Fin 256) (d : Fin 64) : k0_pay101 x (ix2 r d) = x (ix2 r d) := by pointwise [k0_pay101]
theorem pay102_apply (x : Vec Ideal S256x64 .bf16) (r : Fin 256) (d : Fin 64) : k0_pay102 x (ix2 r d) = x (ix2 r d) := by pointwise [k0_pay102]
theorem pay105_apply (x : Vec Ideal S256x64 .bf16) (r : Fin 256) (d : Fin 64) : k0_pay105 x (ix2 r d) = x (ix2 r d) := by pointwise [k0_pay105]
theorem pay106_apply (x : Vec Ideal S256x64 .bf16) (r : Fin 256) (d : Fin 64) : k0_pay106 x (ix2 r d) = x (ix2 r d) := by pointwise [k0_pay106]
theorem pay103_apply (x : Vec Ideal S1x64x256 .bf16) (d : Fin 64) (r : Fin 256) : k0_pay103 x (ix2 d r) = x (ix3 (0 : Fin 1) d r) := by pointwise [k0_pay103]
theorem pay104_apply (x : Vec Ideal S1x64x256 .bf16) (d : Fin 64) (r : Fin 256) : k0_pay104 x (ix2 d r) = x (ix3 (0 : Fin 1) d r) := by pointwise [k0_pay104]
theorem pay107_apply (x : Vec Ideal S1x64x256 .bf16) (d : Fin 64) (r : Fin 256) : k0_pay107 x (ix2 d r) = x (ix3 (0 : Fin 1) d r) := by pointwise [k0_pay107]
theorem pay108_apply (x : Vec Ideal S1x64x256 .bf16) (d : Fin 64) (r : Fin 256) : k0_pay108 x (ix2 d r) = x (ix3 (0 : Fin 1) d r) := by pointwise [k0_pay108]
theorem pay109_apply (x : Vec Ideal S256x1 .f32) (r : Fin 256) : k0_pay109 x (ix2 r (0 : Fin 1)) = x (ix2 r (0 : Fin 1)) := by pointwise [k0_pay109]
theorem pay110_apply (x : Vec Ideal S256x1 .f32) (r : Fin 256) : k0_pay110 x (ix2 r (0 : Fin 1)) = x (ix2 r (0 : Fin 1)) := by pointwise [k0_pay110]
theorem pay111_apply (r : Fin 256) : (k0_pay111 : FVec Ideal S256x1 .f32) (ix2 r (0 : Fin 1)) = 0 := by pointwise [k0_pay111]
theorem pay112_apply (r : Fin 256) (d : Fin 64) : (k0_pay112 : FVec Ideal S256x64 .f32) (ix2 r d) = 0 := by pointwise [k0_pay112]
theorem pay97_apply (y : S16x128x256.Idx) : (k0_pay97 : FVec Ideal S16x128x256 .f32) y = 0 := by pointwise [k0_pay97]
theorem pay98_apply (y : S16x128x256.Idx) : (k0_pay98 : FVec Ideal S16x128x256 .f32) y = 0 := by pointwise [k0_pay98]
theorem pay165_apply (x : FVec Ideal S256x64 .f32) (r : Fin 256) (d : Fin 64) : k0_pay165 x (ix2 r d) = x (ix2 r d) * Ideal.ofBits .f32 0x3E000000#32 := by
  pointwise [k0_pay165]

theorem cdq_apply (acc : FVec Ideal S256x64 .f32) (x y : FVec Ideal S256x256 .bf16) (kr : Vec Ideal S512x64 .bf16) (r : Fin 256) (d : Fin 64) :
    cdq acc x y kr (ix2 r d) = acc (ix2 r d) + ∑ l : Fin 512, (if h : l.val < 256 then x (ix2 r ⟨l, h⟩) else y (ix2 r ⟨l - 256, by omega⟩)) * kr (ix2 l d) := by
  pointwise [cdq]

end Cert.StickPay
-- ==== Proof.StickMath.lean ====
/-
  The stick-breaking attention's gradient over the real numbers: the specification, and the operations of a chunk of keys on real
  numbers among the extended reals.

  `t` is a query's token, `s` a key's, `h` a head, `c` a column of the width, `64 * h + d` the head's column `d`.
-/
module

public import proofs.«01_k».proof.Proof.StickPay

@[expose] public section

set_option maxRecDepth 16384

noncomputable section

open Idealize.ShloMosaic
open Cert.StickIdeal Cert.StickIdeal.Gen
open Cert.StickRun
open Finset (range)

namespace Cert.StickMath

/-! ## The specification -/

section Spec

variable (q k v o : ℕ → ℕ → ℝ)

/-- The score of a query against a key. -/
def z (h t s : ℕ) : ℝ := ∑ d ∈ range 64, q t (64 * h + d) * 0.125 * k s (64 * h + d)
/-- The logarithm of what a key leaves of the stick. -/
def lr (h t s : ℕ) : ℝ := if s < t then -Real.log (1 + Real.exp (z q k h t s)) else 0
/-- The logarithm of what all keys leave. -/
def tot (h t : ℕ) : ℝ := ∑ s ∈ range 4096, lr q k h t s
/-- The share of the stick a key takes. -/
def a (h t s : ℕ) : ℝ := if s < t then Real.exp (z q k h t s + (tot q k h t - ∑ j ∈ range s, lr q k h t j)) else 0
/-- The gradient of a share's logarithm. -/
def g (h t s : ℕ) : ℝ := (∑ d ∈ range 64, o t (64 * h + d) * v s (64 * h + d)) * a q k h t s
/-- The gradient of a score. -/
def dz (h t s : ℕ) : ℝ :=
  if s < t then g q k v o h t s - Real.exp (z q k h t s + lr q k h t s) * ∑ j ∈ range (s + 1), g q k v o h t j else 0
/-- The queries', the keys' and the values' gradients. -/
def dq (t c : ℕ) : ℝ := (∑ s ∈ range 4096, dz q k v o (c / 64) t s * k s c) * 0.125
def dk (s c : ℕ) : ℝ := ∑ t ∈ range 4096, q t c * 0.125 * dz q k v o (c / 64) t s
def dv (s c : ℕ) : ℝ := ∑ t ∈ range 4096, o t c * a q k (c / 64) t s

end Spec

/-! ## Sums -/

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem fin_sum (n : ℕ) (f : ℕ → ℝ) (x : Fin n → EReal) (hx : ∀ i, x i = (f i.val : EReal)) :
    ∑ i : Fin n, x i = ((∑ i ∈ range n, f i : ℝ) : EReal) := by
  rw [Finset.sum_range, coe_sum]
  exact Finset.sum_congr rfl fun i _ => hx i

theorem sum_block (m n : ℕ) (f : ℕ → ℝ) : ∑ s ∈ range (m + n), f s = (∑ s ∈ range m, f s) + ∑ l ∈ range n, f (m + l) :=
  Finset.sum_range_add f m n

theorem sum_blocks (n : ℕ) (f : ℕ → ℝ) : ∑ i ∈ range n, ∑ r ∈ range 256, f (256 * i + r) = ∑ t ∈ range (256 * n), f t := by
  induction n with
  | zero => simp
  | succ n ih => rw [Finset.sum_range_succ, ih, Nat.mul_succ, sum_block]

theorem sum_below (l : Fin 256) (f : ℕ → ℝ) (n : ℕ) (hn : n ≤ 256) :
    ∑ j ∈ range 256, (if j < n then f j else 0) = ∑ j ∈ range n, f j := by
  rw [← Finset.sum_filter]
  congr 1
  ext j
  simp only [Finset.mem_filter, Finset.mem_range]
  omega

/-! ## The operations on real numbers -/

theorem lr_real (z : ℝ) : (0 : EReal) - (max (z : EReal) 0 + Ideal.log (1 + Ideal.exp (0 - max (z : EReal) (-(z : EReal)))))
    = ((-Real.log (1 + Real.exp z) : ℝ) : EReal) := by
  have e1 : (0 : EReal) - max (z : EReal) (-(z : EReal)) = ((-|z| : ℝ) : EReal) := by
    rw [← EReal.coe_neg, zero_sub, abs_eq_max_neg]
    rcases le_total z (-z) with h | h
    · rw [max_eq_right h, max_eq_right (EReal.coe_le_coe_iff.2 h), ← EReal.coe_neg]
    · rw [max_eq_left h, max_eq_left (EReal.coe_le_coe_iff.2 h), ← EReal.coe_neg]
  have e2 : max (z : EReal) 0 = ((max z 0 : ℝ) : EReal) := by
    rcases le_total z 0 with h | h
    · rw [max_eq_right h, max_eq_right (by exact_mod_cast h), EReal.coe_zero]
    · rw [max_eq_left h, max_eq_left (by exact_mod_cast h)]
  have hp : 0 < 1 + Real.exp (-|z|) := by positivity
  rw [e1, e2, Ideal.exp_coe, ← EReal.coe_one, ← EReal.coe_add, Ideal.log_coe, if_neg (not_le.2 hp), ← EReal.coe_add, zero_sub, ← EReal.coe_neg]
  congr 2
  rcases le_total z 0 with h | h
  · rw [max_eq_right h, abs_of_nonpos h, neg_neg, zero_add]
  · rw [max_eq_left h, abs_of_nonneg h]
    have : 1 + Real.exp z = Real.exp z * (1 + Real.exp (-z)) := by
      rw [mul_add, ← Real.exp_add, add_neg_cancel, Real.exp_zero, mul_one, add_comm]
    rw [this, Real.log_mul (Real.exp_pos z).ne' (by positivity), Real.log_exp]

/-- A row times the 0/1 matrix of the columns before, and up to, a column. -/
theorem csplit_lt (x : FVec Ideal S256x256 .f32) (r l : Fin 256) (f : ℕ → ℝ) (hx : ∀ j : Fin 256, x (ix2 r j) = (f j.val : EReal)) :
    csplit x k0_pay99 (ix2 r l) = ((∑ j ∈ range l.val, f j : ℝ) : EReal) := by
  rw [StickPay.csplit_apply, fin_sum 256 (fun j => if j < l.val then f j else 0) _ (fun j => by
      rw [hx, StickPay.pay99_apply]; split_ifs <;> simp),
    fin_sum 256 (fun _ => 0) _ (fun j => by rw [hx, ← EReal.coe_sub, sub_self, EReal.coe_zero, zero_mul]),
    sum_below l f l.val l.isLt.le, Finset.sum_const_zero, ← EReal.coe_add, add_zero]
theorem csplit_le (x : FVec Ideal S256x256 .f32) (r l : Fin 256) (f : ℕ → ℝ) (hx : ∀ j : Fin 256, x (ix2 r j) = (f j.val : EReal)) :
    csplit x k0_pay100 (ix2 r l) = ((∑ j ∈ range (l.val + 1), f j : ℝ) : EReal) := by
  rw [StickPay.csplit_apply, fin_sum 256 (fun j => if j < l.val + 1 then f j else 0) _ (fun j => by
      rw [hx, StickPay.pay100_apply]; simp only [Nat.lt_succ_iff]; split_ifs <;> simp),
    fin_sum 256 (fun _ => 0) _ (fun j => by rw [hx, ← EReal.coe_sub, sub_self, EReal.coe_zero, zero_mul]),
    sum_below l f (l.val + 1) l.isLt, Finset.sum_const_zero, ← EReal.coe_add, add_zero]

/-! ## A chunk of keys against a block of query rows -/

section Chunk

variable (q k v o : ℕ → ℕ → ℝ) (h i j : ℕ)

/-- What a block of rows holds of one head, in real numbers. -/
structure RowsOk (R : Rows Ideal) : Prop where
  hq : ∀ (r : Fin 256) (d : Fin 64), R.q (ix2 r d) = ((q (256 * i + r.val) (64 * h + d.val) * 0.125 : ℝ) : EReal)
  hqt : ∀ (d : Fin 64) (r : Fin 256), R.qt (ix2 d r) = ((q (256 * i + r.val) (64 * h + d.val) * 0.125 : ℝ) : EReal)
  hd : ∀ (r : Fin 256) (d : Fin 64), R.d (ix2 r d) = (o (256 * i + r.val) (64 * h + d.val) : EReal)
  hdt : ∀ (d : Fin 64) (r : Fin 256), R.dt (ix2 d r) = (o (256 * i + r.val) (64 * h + d.val) : EReal)
  htot : ∀ r : Fin 256, R.tot (ix2 r (0 : Fin 1)) = (tot q k h (256 * i + r.val) : EReal)

/-- A chunk of keys, or of values, on lanes. -/
def KeysOk (x : Vec Ideal S1x64x256 .bf16) : Prop :=
  ∀ (d : Fin 64) (l : Fin 256), x (ix3 (0 : Fin 1) d l) = (k (256 * j + l.val) (64 * h + d.val) : EReal)

/-- A mask that keeps the keys before the row. -/
def MaskOk (mk : Msk Ideal) : Prop := ∀ (x : FVec Ideal S256x256 .f32) (r l : Fin 256),
  mk x (ix2 r l) = if 256 * j + l.val < 256 * i + r.val then x (ix2 r l) else 0

/-- A column that holds each row's sum before a key. -/
def SumOk (f : ℕ → ℕ → ℕ → ℝ) (n : ℕ) (x : FVec Ideal S256x1 .f32) : Prop :=
  ∀ r : Fin 256, x (ix2 r (0 : Fin 1)) = ((∑ s ∈ range n, f h (256 * i + r.val) s : ℝ) : EReal)

variable {q k v o h i j}
variable {R : Rows Ideal} {mk : Msk Ideal} {kt vt : Vec Ideal S1x64x256 .bf16} {plr pg : FVec Ideal S256x1 .f32}

theorem cz_real (hR : RowsOk q k o h i R) (hk : KeysOk k h j kt) (r l : Fin 256) :
    cz R.q kt (ix2 r l) = (z q k h (256 * i + r.val) (256 * j + l.val) : EReal) := by
  rw [StickPay.cz_apply, z]
  exact fin_sum 64 _ _ fun d => by rw [hR.hq, hk, ← EReal.coe_mul]

theorem hlr_real (hR : RowsOk q k o h i R) (hk : KeysOk k h j kt) (hm : MaskOk i j mk) (r l : Fin 256) :
    hlr mk R.q kt (ix2 r l) = (lr q k h (256 * i + r.val) (256 * j + l.val) : EReal) := by
  rw [hlr, hm, StickPay.clr_apply, cz_real hR hk, lr_real, lr]
  split_ifs <;> simp

theorem ha_real (hR : RowsOk q k o h i R) (hk : KeysOk k h j kt) (hm : MaskOk i j mk) (hp : SumOk h i (lr q k) (256 * j) plr) (r l : Fin 256) :
    ha mk R.q R.tot plr kt (ix2 r l) = (a q k h (256 * i + r.val) (256 * j + l.val) : EReal) := by
  rw [ha, hm, StickPay.ca_apply, cz_real hR hk, hR.htot, hp,
    csplit_lt _ r l (fun s => lr q k h (256 * i + r.val) (256 * j + s)) (fun s => hlr_real hR hk hm r s),
    ← EReal.coe_add, ← sum_block, ← EReal.coe_sub, ← EReal.coe_add, Ideal.exp_coe, a]
  split_ifs <;> simp

theorem hg_real (hR : RowsOk q k o h i R) (hk : KeysOk k h j kt) (hv : KeysOk v h j vt) (hm : MaskOk i j mk)
    (hp : SumOk h i (lr q k) (256 * j) plr) (r l : Fin 256) :
    hg mk R.q R.d R.tot plr kt vt (ix2 r l) = (g q k v o h (256 * i + r.val) (256 * j + l.val) : EReal) := by
  rw [hg, StickPay.cg_apply, ha_real hR hk hm hp, g, EReal.coe_mul]
  congr 1
  exact fin_sum 64 _ _ fun d => by rw [hR.hd, hv, ← EReal.coe_mul]

theorem hdz_real (hR : RowsOk q k o h i R) (hk : KeysOk k h j kt) (hv : KeysOk v h j vt) (hm : MaskOk i j mk)
    (hp : SumOk h i (lr q k) (256 * j) plr) (hg' : SumOk h i (g q k v o) (256 * j) pg) (r l : Fin 256) :
    hdz mk R.q R.d R.tot plr pg kt vt (ix2 r l) = (dz q k v o h (256 * i + r.val) (256 * j + l.val) : EReal) := by
  show mk (cdz pg (cz R.q kt) (hlr mk R.q kt) (hg mk R.q R.d R.tot plr kt vt)) (ix2 r l) = _
  rw [hm, StickPay.cdz_apply, cz_real hR hk, hlr_real hR hk hm, hg_real hR hk hv hm hp, hg',
    csplit_le _ r l (fun s => g q k v o h (256 * i + r.val) (256 * j + s)) (fun s => hg_real hR hk hv hm hp r s),
    ← EReal.coe_add, ← EReal.coe_add, ← sum_block, Ideal.exp_coe, ← EReal.coe_mul, ← EReal.coe_sub, dz]
  rw [← add_assoc]
  split_ifs <;> simp

theorem nlr_real (hR : RowsOk q k o h i R) (hk : KeysOk k h j kt) (hm : MaskOk i j mk) (hp : SumOk h i (lr q k) (256 * j) plr) :
    SumOk h i (lr q k) (256 * (j + 1)) (nlr mk R.q plr kt) := fun r => by
  show plr (ix2 r (0 : Fin 1)) + csum (hlr mk R.q kt) (ix2 r (0 : Fin 1)) = _
  rw [hp, StickPay.csum_apply, fin_sum 256 (fun l => lr q k h (256 * i + r.val) (256 * j + l)) _ (fun l => hlr_real hR hk hm r l),
    ← EReal.coe_add, ← sum_block, Nat.mul_succ]

theorem ng_real (hR : RowsOk q k o h i R) (hk : KeysOk k h j kt) (hv : KeysOk v h j vt) (hm : MaskOk i j mk)
    (hp : SumOk h i (lr q k) (256 * j) plr) (hg' : SumOk h i (g q k v o) (256 * j) pg) :
    SumOk h i (g q k v o) (256 * (j + 1)) (ng mk R.q R.d R.tot plr pg kt vt) := fun r => by
  show pg (ix2 r (0 : Fin 1)) + csum (hg mk R.q R.d R.tot plr kt vt) (ix2 r (0 : Fin 1)) = _
  rw [hg', StickPay.csum_apply, fin_sum 256 (fun l => g q k v o h (256 * i + r.val) (256 * j + l)) _ (fun l => hg_real hR hk hv hm hp r l),
    ← EReal.coe_add, ← sum_block, Nat.mul_succ]

end Chunk

end Cert.StickMath
-- ==== Proof.StickState.lean ====
/-
  What one block of query rows leaves, in real numbers: the query gradient, and what it adds to the key and value gradients.
-/
module

public import proofs.«01_k».proof.Proof.StickMath

@[expose] public section

set_option maxRecDepth 16384

noncomputable section

open Idealize.ShloMosaic
open Cert.StickIdeal Cert.StickIdeal.Gen
open Cert.StickRun Cert.StickMath
open Finset (range)

namespace Cert.StickState

/-! ## Reading and overwriting a rectangle -/

theorem ld_q (x : Vec Ideal S256x128 .bf16) (b : ℕ) (off : Fin 2 → ℕ) (inb) (ho : off = ![0, b]) (hb : b + 64 ≤ 128) (r : Fin 256) (d : Fin 64) :
    View.ld x (Rect.unit (s := S256x128) off S256x64.size inb) (ix2 r d) = x (ix2 r (⟨b + d.val, by omega⟩ : Fin 128)) := by
  subst ho
  refine congrArg x (funext fun a => Fin.ext ?_)
  match a with
  | ⟨0, _⟩ => exact (show 0 + 1 * r.val = r.val by omega)
  | ⟨1, _⟩ => exact (show b + 1 * d.val = b + d.val by omega)

theorem ld_t (x : Vec Ideal S256x128 .f32) (b : ℕ) (off : Fin 2 → ℕ) (inb) (ho : off = ![0, b]) (hb : b + 64 ≤ 128) (r : Fin 256) :
    View.ld x (Rect.unit (s := S256x128) off S256x1.size inb) (ix2 r (0 : Fin 1)) = x (ix2 r (⟨b, by omega⟩ : Fin 128)) := by
  subst ho
  refine congrArg x (funext fun a => Fin.ext ?_)
  match a with
  | ⟨0, _⟩ => exact (show 0 + 1 * r.val = r.val by omega)
  | ⟨1, _⟩ => exact (show b + 1 * 0 = b by omega)

theorem ld_k (x : Vec Ideal S4096x128 .bf16) (n b : ℕ) (off : Fin 2 → ℕ) (inb) (ho : off = ![512 * n, b]) (hn : n < 8) (hb : b + 64 ≤ 128) (r : Fin 512) (d : Fin 64) :
    View.ld x (Rect.unit (s := S4096x128) off S512x64.size inb) (ix2 r d) = x (ix2 (⟨512 * n + r.val, by omega⟩ : Fin 4096) (⟨b + d.val, by omega⟩ : Fin 128)) := by
  subst ho
  refine congrArg x (funext fun a => Fin.ext ?_)
  match a with
  | ⟨0, _⟩ => exact (show 512 * n + 1 * r.val = 512 * n + r.val by omega)
  | ⟨1, _⟩ => exact (show b + 1 * d.val = b + d.val by omega)

theorem ld_1 (x : Vec Ideal S1x128x256 .bf16) (b : ℕ) (off : Fin 3 → ℕ) (inb) (ho : off = ![0, b, 0]) (hb : b + 64 ≤ 128) (d : Fin 64) (l : Fin 256) :
    View.ld x (Rect.unit (s := S1x128x256) off S1x64x256.size inb) (ix3 (0 : Fin 1) d l) = x (ix3 (0 : Fin 1) (⟨b + d.val, by omega⟩ : Fin 128) l) := by
  subst ho
  refine congrArg x (funext fun a => Fin.ext ?_)
  match a with
  | ⟨0, _⟩ => exact (show 0 + 1 * 0 = 0 by omega)
  | ⟨1, _⟩ => exact (show b + 1 * d.val = b + d.val by omega)
  | ⟨2, _⟩ => exact (show 0 + 1 * l.val = l.val by omega)

theorem ld_16 {e : EltTy} (x : Vec Ideal S16x128x256 e) (n b : ℕ) (off : Fin 3 → ℕ) (inb) (ho : off = ![n, b, 0]) (hn : n < 16) (hb : b + 64 ≤ 128) (d : Fin 64) (l : Fin 256) :
    View.ld x (Rect.unit (s := S16x128x256) off S1x64x256.size inb) (ix3 (0 : Fin 1) d l) = x (ix3 (⟨n, hn⟩ : Fin 16) (⟨b + d.val, by omega⟩ : Fin 128) l) := by
  subst ho
  refine congrArg x (funext fun a => Fin.ext ?_)
  match a with
  | ⟨0, _⟩ => exact (show n + 1 * 0 = n by omega)
  | ⟨1, _⟩ => exact (show b + 1 * d.val = b + d.val by omega)
  | ⟨2, _⟩ => exact (show 0 + 1 * l.val = l.val by omega)

/-- A rectangle of one chunk's head overwritten by its contents plus `e`. -/
theorem overlay_add (D D' : Vec Ideal S16x128x256 .f32) (n b : ℕ) (off : Fin 3 → ℕ) (inb) (ho : off = ![n, b, 0]) (hn : n < 16) (hb : b + 64 ≤ 128)
    (w : Vec Ideal S1x64x256 .f32) (e : ℕ → ℕ → ℕ → EReal)
    (hw : ∀ (d : Fin 64) (l : Fin 256), w (ix3 (0 : Fin 1) d l)
      = View.ld D (Rect.unit (s := S16x128x256) off S1x64x256.size inb) (ix3 (0 : Fin 1) d l) + e n (b + d.val) l.val)
    (u : Fin 16) (c : Fin 128) (l : Fin 256) :
    (Rect.unit (s := S16x128x256) off S1x64x256.size inb).overlay D' w (ix3 u c l)
      = if u.val = n ∧ b ≤ c.val ∧ c.val < b + 64 then D (ix3 u c l) + e u.val c.val l.val else D' (ix3 u c l) := by
  by_cases h : u.val = n ∧ b ≤ c.val ∧ c.val < b + 64
  · obtain ⟨h0, h1, h2⟩ := h
    have hd : c.val - b < 64 := by omega
    have e1 : (ix3 u c l : S16x128x256.Idx) = (Rect.unit (s := S16x128x256) off S1x64x256.size inb).emb (ix3 (0 : Fin 1) (⟨c.val - b, hd⟩ : Fin 64) l) := by
      subst ho
      refine funext fun a => Fin.ext ?_
      match a with
      | ⟨0, _⟩ => exact (show u.val = n + 1 * 0 by omega)
      | ⟨1, _⟩ => exact (show c.val = b + 1 * (c.val - b) by omega)
      | ⟨2, _⟩ => exact (show l.val = 0 + 1 * l.val by omega)
    rw [if_pos ⟨h0, h1, h2⟩]
    conv_lhs => rw [e1]
    rw [Rect.overlay_emb, hw, ld_16 D n b off inb ho hn hb]
    have e2 : (⟨n, hn⟩ : Fin 16) = u := Fin.ext h0.symm
    have e3 : (⟨b + (c.val - b), by omega⟩ : Fin 128) = c := Fin.ext (by show b + (c.val - b) = c.val; omega)
    have e4 : b + (c.val - b) = c.val := by omega
    simp only [e2, e3, e4, h0]
  · rw [if_neg h]
    refine Rect.overlay_of_not_mem _ _ _ fun hm => h ?_
    rw [Rect.mem_set_unit] at hm
    subst ho
    have m0 := hm ⟨0, by decide⟩
    have m1 := hm ⟨1, by decide⟩
    have m0' : n ≤ u.val ∧ u.val < n + 1 := m0
    have m1' : b ≤ c.val ∧ c.val < b + 64 := m1
    exact ⟨by omega, m1'.1, m1'.2⟩

/-- The four rectangles of a pair of chunks. -/
theorem put_add (D : Vec Ideal S16x128x256 .f32) (n : ℕ) (hn : n < 8) (o1 o2 o4 o5 : Fin 3 → ℕ) (b1 b2 b4 b5)
    (h1 : o1 = ![2 * n, 0, 0]) (h2 : o2 = ![2 * n + 1, 0, 0]) (h4 : o4 = ![2 * n, 64, 0]) (h5 : o5 = ![2 * n + 1, 64, 0])
    (w1 w2 w4 w5 : Vec Ideal S1x64x256 .f32) (e : ℕ → ℕ → ℕ → EReal)
    (e1 : ∀ (d : Fin 64) (l : Fin 256), w1 (ix3 (0 : Fin 1) d l)
      = View.ld D (Rect.unit (s := S16x128x256) o1 S1x64x256.size b1) (ix3 (0 : Fin 1) d l) + e (2 * n) (0 + d.val) l.val)
    (e2 : ∀ (d : Fin 64) (l : Fin 256), w2 (ix3 (0 : Fin 1) d l)
      = View.ld D (Rect.unit (s := S16x128x256) o2 S1x64x256.size b2) (ix3 (0 : Fin 1) d l) + e (2 * n + 1) (0 + d.val) l.val)
    (e4 : ∀ (d : Fin 64) (l : Fin 256), w4 (ix3 (0 : Fin 1) d l)
      = View.ld D (Rect.unit (s := S16x128x256) o4 S1x64x256.size b4) (ix3 (0 : Fin 1) d l) + e (2 * n) (64 + d.val) l.val)
    (e5 : ∀ (d : Fin 64) (l : Fin 256), w5 (ix3 (0 : Fin 1) d l)
      = View.ld D (Rect.unit (s := S16x128x256) o5 S1x64x256.size b5) (ix3 (0 : Fin 1) d l) + e (2 * n + 1) (64 + d.val) l.val)
    (u : Fin 16) (c : Fin 128) (l : Fin 256) :
    put D [⟨Rect.unit (s := S16x128x256) o5 S1x64x256.size b5, w5⟩, ⟨Rect.unit (s := S16x128x256) o4 S1x64x256.size b4, w4⟩,
        ⟨Rect.unit (s := S16x128x256) o2 S1x64x256.size b2, w2⟩, ⟨Rect.unit (s := S16x128x256) o1 S1x64x256.size b1, w1⟩] (ix3 u c l)
      = D (ix3 u c l) + if u.val = 2 * n ∨ u.val = 2 * n + 1 then e u.val c.val l.val else 0 := by
  have hc := c.isLt
  simp only [put]
  rw [overlay_add D _ (2 * n + 1) 64 o5 b5 h5 (by omega) (by omega) w5 e e5, overlay_add D _ (2 * n) 64 o4 b4 h4 (by omega) (by omega) w4 e e4,
    overlay_add D _ (2 * n + 1) 0 o2 b2 h2 (by omega) (by omega) w2 e e2, overlay_add D _ (2 * n) 0 o1 b1 h1 (by omega) (by omega) w1 e e1]
  by_cases hu : u.val = 2 * n ∨ u.val = 2 * n + 1
  · rw [if_pos hu]
    split_ifs with g1 g2 g3 g4 <;> first | rfl | (exfalso; omega)
  · rw [if_neg hu, add_zero]
    split_ifs with g1 g2 g3 g4 <;> first | rfl | (exfalso; omega)

/-! ## A pair of chunks -/

section

variable (q k v o : ℕ → ℕ → ℝ)

/-- What a block of rows adds to a key's gradient, and to a value's. -/
def kc (h i s c : ℕ) : ℝ := ∑ r ∈ range 256, q (256 * i + r) c * 0.125 * dz q k v o h (256 * i + r) s
def vc (h i s c : ℕ) : ℝ := ∑ r ∈ range 256, o (256 * i + r) c * a q k h (256 * i + r) s

structure PairOk (h n : ℕ) (P : Pair Ideal) : Prop where
  kt1 : KeysOk k h (2 * n) P.kt1
  kt2 : KeysOk k h (2 * n + 1) P.kt2
  vt1 : KeysOk v h (2 * n) P.vt1
  vt2 : KeysOk v h (2 * n + 1) P.vt2
  kr : ∀ (x : Fin 512) (d : Fin 64), P.kr (ix2 x d) = (k (512 * n + x.val) (64 * h + d.val) : EReal)

structure SumsOk (h i n : ℕ) (S : Sums Ideal) : Prop where
  plr : SumOk h i (lr q k) (256 * (2 * n)) S.plr
  pg : SumOk h i (g q k v o) (256 * (2 * n)) S.pg
  acc : ∀ (r : Fin 256) (d : Fin 64), S.acc (ix2 r d)
    = ((∑ s ∈ range (512 * n), dz q k v o h (256 * i + r.val) s * k s (64 * h + d.val) : ℝ) : EReal)

variable {q k v o} {h i n : ℕ} {R : Rows Ideal} {S : Sums Ideal} {P : Pair Ideal} {m1 m2 : Msk Ideal}
variable (hR : RowsOk q k o h i R) (hS : SumsOk q k v o h i n S) (hP : PairOk k v h n P) (h1 : MaskOk i (2 * n) m1) (h2 : MaskOk i (2 * n + 1) m2)
include hR hS hP h1 h2

theorem dz1_ok (r l : Fin 256) : dz1 m1 R S P (ix2 r l) = (dz q k v o h (256 * i + r.val) (256 * (2 * n) + l.val) : EReal) :=
  hdz_real hR hP.kt1 hP.vt1 h1 hS.plr hS.pg r l
theorem dz2_ok (r l : Fin 256) : dz2 m1 m2 R S P (ix2 r l) = (dz q k v o h (256 * i + r.val) (256 * (2 * n + 1) + l.val) : EReal) :=
  hdz_real hR hP.kt2 hP.vt2 h2 (nlr_real hR hP.kt1 h1 hS.plr) (ng_real hR hP.kt1 hP.vt1 h1 hS.plr hS.pg) r l
theorem a1_ok (r l : Fin 256) : a1 m1 R S P (ix2 r l) = (a q k h (256 * i + r.val) (256 * (2 * n) + l.val) : EReal) :=
  ha_real hR hP.kt1 h1 hS.plr r l
theorem a2_ok (r l : Fin 256) : a2 m1 m2 R S P (ix2 r l) = (a q k h (256 * i + r.val) (256 * (2 * n + 1) + l.val) : EReal) :=
  ha_real hR hP.kt2 h2 (nlr_real hR hP.kt1 h1 hS.plr) r l

theorem next_ok : SumsOk q k v o h i (n + 1) (next m1 m2 R S P) where
  plr := nlr_real hR hP.kt2 h2 (nlr_real hR hP.kt1 h1 hS.plr)
  pg := ng_real hR hP.kt2 hP.vt2 h2 (nlr_real hR hP.kt1 h1 hS.plr) (ng_real hR hP.kt1 hP.vt1 h1 hS.plr hS.pg)
  acc := fun r d => by
    show cdq S.acc (dz1 m1 R S P) (dz2 m1 m2 R S P) P.kr (ix2 r d) = _
    rw [StickPay.cdq_apply, hS.acc, fin_sum 512 (fun l => dz q k v o h (256 * i + r.val) (512 * n + l) * k (512 * n + l) (64 * h + d.val)) _ (fun l => by
        rw [hP.kr, EReal.coe_mul]
        congr 1
        split_ifs with hl
        · rw [dz1_ok hR hS hP h1 h2]
          exact congrArg (fun x => ((dz q k v o h (256 * i + r.val) x : ℝ) : EReal)) (show 256 * (2 * n) + l.val = 512 * n + l.val by omega)
        · rw [dz2_ok hR hS hP h1 h2]
          exact congrArg (fun x => ((dz q k v o h (256 * i + r.val) x : ℝ) : EReal)) (show 256 * (2 * n + 1) + (l.val - 256) = 512 * n + l.val by omega)),
      ← EReal.coe_add, ← sum_block (512 * n) 512 (fun s => dz q k v o h (256 * i + r.val) s * k s (64 * h + d.val)), Nat.mul_succ]

theorem dk1_ok (old : Vec Ideal S1x64x256 .f32) (d : Fin 64) (l : Fin 256) :
    dk1 m1 R S P old (ix3 (0 : Fin 1) d l) = old (ix3 (0 : Fin 1) d l) + (kc q k v o h i (256 * (2 * n) + l.val) (64 * h + d.val) : EReal) := by
  rw [dk1, StickPay.cupd_apply, kc]
  exact congrArg _ (fin_sum 256 _ _ fun r => by rw [hR.hqt, dz1_ok hR hS hP h1 h2, ← EReal.coe_mul])
theorem dk2_ok (old : Vec Ideal S1x64x256 .f32) (d : Fin 64) (l : Fin 256) :
    dk2 m1 m2 R S P old (ix3 (0 : Fin 1) d l) = old (ix3 (0 : Fin 1) d l) + (kc q k v o h i (256 * (2 * n + 1) + l.val) (64 * h + d.val) : EReal) := by
  rw [dk2, StickPay.cupd_apply, kc]
  exact congrArg _ (fin_sum 256 _ _ fun r => by rw [hR.hqt, dz2_ok hR hS hP h1 h2, ← EReal.coe_mul])
theorem dv1_ok (old : Vec Ideal S1x64x256 .f32) (d : Fin 64) (l : Fin 256) :
    dv1 m1 R S P old (ix3 (0 : Fin 1) d l) = old (ix3 (0 : Fin 1) d l) + (vc q k o h i (256 * (2 * n) + l.val) (64 * h + d.val) : EReal) := by
  rw [dv1, StickPay.cupd_apply, vc]
  refine congrArg _ (fin_sum 256 _ _ fun r => ?_)
  show _ * a1 m1 R S P (ix2 r l) = _
  rw [hR.hdt, a1_ok hR hS hP h1 h2, ← EReal.coe_mul]
theorem dv2_ok (old : Vec Ideal S1x64x256 .f32) (d : Fin 64) (l : Fin 256) :
    dv2 m1 m2 R S P old (ix3 (0 : Fin 1) d l) = old (ix3 (0 : Fin 1) d l) + (vc q k o h i (256 * (2 * n + 1) + l.val) (64 * h + d.val) : EReal) := by
  rw [dv2, StickPay.cupd_apply, vc]
  refine congrArg _ (fin_sum 256 _ _ fun r => ?_)
  show _ * a2 m1 m2 R S P (ix2 r l) = _
  rw [hR.hdt, a2_ok hR hS hP h1 h2, ← EReal.coe_mul]

end

/-! ## The whole block -/

section

variable (q k v o : ℕ → ℕ → ℝ)

/-- The blocks of the eight inputs a point reads: head pair `p`, row block `i`. -/
structure BlockOk (p i : ℕ) (x2 : Vec Ideal S256x128 .bf16) (x3 : Vec Ideal S1x128x256 .bf16) (x4 : Vec Ideal S4096x128 .bf16)
    (x5 x6 : Vec Ideal S16x128x256 .bf16) (x7 : Vec Ideal S256x128 .f32) (x8 : Vec Ideal S256x128 .bf16) (x9 : Vec Ideal S1x128x256 .bf16) : Prop where
  h2 : ∀ (r : Fin 256) (c : Fin 128), x2 (ix2 r c) = ((q (256 * i + r.val) (128 * p + c.val) * 0.125 : ℝ) : EReal)
  h3 : ∀ (c : Fin 128) (r : Fin 256), x3 (ix3 (0 : Fin 1) c r) = ((q (256 * i + r.val) (128 * p + c.val) * 0.125 : ℝ) : EReal)
  h4 : ∀ (s : Fin 4096) (c : Fin 128), x4 (ix2 s c) = (k s.val (128 * p + c.val) : EReal)
  h5 : ∀ (u : Fin 16) (c : Fin 128) (l : Fin 256), x5 (ix3 u c l) = (k (256 * u.val + l.val) (128 * p + c.val) : EReal)
  h6 : ∀ (u : Fin 16) (c : Fin 128) (l : Fin 256), x6 (ix3 u c l) = (v (256 * u.val + l.val) (128 * p + c.val) : EReal)
  h7 : ∀ (r : Fin 256) (c : Fin 128), x7 (ix2 r c) = (tot q k ((128 * p + c.val) / 64) (256 * i + r.val) : EReal)
  h8 : ∀ (r : Fin 256) (c : Fin 128), x8 (ix2 r c) = (o (256 * i + r.val) (128 * p + c.val) : EReal)
  h9 : ∀ (c : Fin 128) (r : Fin 256), x9 (ix3 (0 : Fin 1) c r) = (o (256 * i + r.val) (128 * p + c.val) : EReal)

/-- What a block adds to the key and value gradients of a head pair, chunk by chunk. -/
def eK (p i u c l : ℕ) : EReal := (kc q k v o (2 * p + c / 64) i (256 * u + l) (128 * p + c) : EReal)
def eV (p i u c l : ℕ) : EReal := (vc q k o (2 * p + c / 64) i (256 * u + l) (128 * p + c) : EReal)

/-- The state before pair `n`, over the gradients `K0` and `V0` found. -/
structure StOk (p i n : ℕ) (K0 V0 : Vec Ideal S16x128x256 .f32) (s : St Ideal) : Prop where
  A : SumsOk q k v o (2 * p) i n s.A
  B : SumsOk q k v o (2 * p + 1) i n s.B
  K : ∀ (u : Fin 16) (c : Fin 128) (l : Fin 256), s.K (ix3 u c l) = K0 (ix3 u c l) + if u.val < 2 * n then eK q k v o p i u.val c.val l.val else 0
  V : ∀ (u : Fin 16) (c : Fin 128) (l : Fin 256), s.V (ix3 u c l) = V0 (ix3 u c l) + if u.val < 2 * n then eV q k o p i u.val c.val l.val else 0

variable {q k v o} {p : ℕ} {i : grid0.Coords}
variable {x2 : Vec Ideal S256x128 .bf16} {x3 : Vec Ideal S1x128x256 .bf16} {x4 : Vec Ideal S4096x128 .bf16}
    {x5 x6 : Vec Ideal S16x128x256 .bf16} {x7 : Vec Ideal S256x128 .f32} {x8 : Vec Ideal S256x128 .bf16} {x9 : Vec Ideal S1x128x256 .bf16}

theorem rowsA_ok (hb : BlockOk q k v o p (i 1).val x2 x3 x4 x5 x6 x7 x8 x9) : RowsOk q k o (2 * p) (i 1).val (rowsA x2 x3 x7 x8 x9) := by
  have e : ∀ d : ℕ, 128 * p + (0 + d) = 64 * (2 * p) + d := fun d => by omega
  refine ⟨fun r d => ?_, fun d r => ?_, fun r d => ?_, fun d r => ?_, fun r => ?_⟩
  · exact (StickPay.pay101_apply _ r d).trans ((ld_q x2 0 _ _ rfl (by omega) r d).trans (by rw [hb.h2, e]))
  · exact (StickPay.pay103_apply _ d r).trans ((ld_1 x3 0 _ _ rfl (by omega) d r).trans (by rw [hb.h3, e]))
  · exact (StickPay.pay105_apply _ r d).trans ((ld_q x8 0 _ _ rfl (by omega) r d).trans (by rw [hb.h8, e]))
  · exact (StickPay.pay107_apply _ d r).trans ((ld_1 x9 0 _ _ rfl (by omega) d r).trans (by rw [hb.h9, e]))
  · exact (StickPay.pay109_apply _ r).trans ((ld_t x7 0 _ _ rfl (by omega) r).trans (by rw [hb.h7, show (128 * p + 0) / 64 = 2 * p by omega]))

theorem rowsB_ok (hb : BlockOk q k v o p (i 1).val x2 x3 x4 x5 x6 x7 x8 x9) : RowsOk q k o (2 * p + 1) (i 1).val (rowsB x2 x3 x7 x8 x9) := by
  have e : ∀ d : ℕ, 128 * p + (64 + d) = 64 * (2 * p + 1) + d := fun d => by omega
  refine ⟨fun r d => ?_, fun d r => ?_, fun r d => ?_, fun d r => ?_, fun r => ?_⟩
  · exact (StickPay.pay102_apply _ r d).trans ((ld_q x2 64 _ _ rfl (by omega) r d).trans (by rw [hb.h2, e]))
  · exact (StickPay.pay104_apply _ d r).trans ((ld_1 x3 64 _ _ rfl (by omega) d r).trans (by rw [hb.h3, e]))
  · exact (StickPay.pay106_apply _ r d).trans ((ld_q x8 64 _ _ rfl (by omega) r d).trans (by rw [hb.h8, e]))
  · exact (StickPay.pay108_apply _ d r).trans ((ld_1 x9 64 _ _ rfl (by omega) d r).trans (by rw [hb.h9, e]))
  · exact (StickPay.pay110_apply _ r).trans ((ld_t x7 64 _ _ rfl (by omega) r).trans (by rw [hb.h7, show (128 * p + 64) / 64 = 2 * p + 1 by omega]))

/-- A pair of chunks read from the key and value buffers at a head. -/
theorem pair_ok (hb : BlockOk q k v o p (i 1).val x2 x3 x4 x5 x6 x7 x8 x9) (n b h : ℕ) (hn : n < 8) (hbb : b + 64 ≤ 128) (hh : 128 * p + b = 64 * h)
    (o1 o2 : Fin 3 → ℕ) (o3 : Fin 2 → ℕ) (b1 b2 b3) (h1 : o1 = ![2 * n, b, 0]) (h2 : o2 = ![2 * n + 1, b, 0]) (h3 : o3 = ![512 * n, b]) :
    PairOk k v h n ⟨View.ld x5 (Rect.unit (s := S16x128x256) o1 S1x64x256.size b1), View.ld x5 (Rect.unit (s := S16x128x256) o2 S1x64x256.size b2),
      View.ld x6 (Rect.unit (s := S16x128x256) o1 S1x64x256.size b1), View.ld x6 (Rect.unit (s := S16x128x256) o2 S1x64x256.size b2),
      View.ld x4 (Rect.unit (s := S4096x128) o3 S512x64.size b3)⟩ := by
  have e : ∀ d : ℕ, 128 * p + (b + d) = 64 * h + d := fun d => by omega
  refine ⟨fun d l => ?_, fun d l => ?_, fun d l => ?_, fun d l => ?_, fun x d => ?_⟩
  · exact (ld_16 x5 _ b o1 b1 h1 (by omega) hbb d l).trans (by rw [hb.h5, e])
  · exact (ld_16 x5 _ b o2 b2 h2 (by omega) hbb d l).trans (by rw [hb.h5, e])
  · exact (ld_16 x6 _ b o1 b1 h1 (by omega) hbb d l).trans (by rw [hb.h6, e])
  · exact (ld_16 x6 _ b o2 b2 h2 (by omega) hbb d l).trans (by rw [hb.h6, e])
  · exact (ld_k x4 n b o3 b3 h3 hn hbb x d).trans (by rw [hb.h4, e])

theorem eKA (p i u d l : ℕ) (hd : d < 64) : eK q k v o p i u (0 + d) l = (kc q k v o (2 * p) i (256 * u + l) (64 * (2 * p) + d) : EReal) := by
  rw [eK, show 2 * p + (0 + d) / 64 = 2 * p by omega, show 128 * p + (0 + d) = 64 * (2 * p) + d by omega]
theorem eKB (p i u d l : ℕ) (hd : d < 64) : eK q k v o p i u (64 + d) l = (kc q k v o (2 * p + 1) i (256 * u + l) (64 * (2 * p + 1) + d) : EReal) := by
  rw [eK, show 2 * p + (64 + d) / 64 = 2 * p + 1 by omega, show 128 * p + (64 + d) = 64 * (2 * p + 1) + d by omega]
theorem eVA (p i u d l : ℕ) (hd : d < 64) : eV q k o p i u (0 + d) l = (vc q k o (2 * p) i (256 * u + l) (64 * (2 * p) + d) : EReal) := by
  rw [eV, show 2 * p + (0 + d) / 64 = 2 * p by omega, show 128 * p + (0 + d) = 64 * (2 * p) + d by omega]
theorem eVB (p i u d l : ℕ) (hd : d < 64) : eV q k o p i u (64 + d) l = (vc q k o (2 * p + 1) i (256 * u + l) (64 * (2 * p + 1) + d) : EReal) := by
  rw [eV, show 2 * p + (64 + d) / 64 = 2 * p + 1 by omega, show 128 * p + (64 + d) = 64 * (2 * p + 1) + d by omega]

/-- Two more chunks of a sum by chunks. -/
theorem ite_more (n u : ℕ) (D e : EReal) : (D + if u < 2 * n then e else 0) + (if u = 2 * n ∨ u = 2 * n + 1 then e else 0)
    = D + if u < 2 * (n + 1) then e else 0 := by
  by_cases h : u < 2 * n
  · rw [if_pos h, if_neg (by omega), if_pos (by omega), add_zero]
  · by_cases h' : u = 2 * n ∨ u = 2 * n + 1
    · rw [if_neg h, if_pos h', if_pos (by omega), add_zero]
    · rw [if_neg h, if_neg h', if_neg (by omega), add_zero, add_zero]

variable {K0 V0 : Vec Ideal S16x128x256 .f32}

/-- Before the block's own pair no mask is needed. -/
theorem mid_ok {i j : ℕ} (h : j < i) : MaskOk i j (mid : Msk Ideal) := fun x r l => by
  rw [if_pos (by have := l.isLt; omega)]

theorem step_K (RA RB : Rows Ideal) (t : Fin (k0_t1_loop i).trips) (s : St Ideal) :
    (s.step RA RB x4 x5 x6 i t).K = put s.K (dkPieces RA RB s.A s.B (pairA x4 x5 x6 i t) (pairB x4 x5 x6 i t) i t s.K) := by simp only [St.step]
theorem step_V (RA RB : Rows Ideal) (t : Fin (k0_t1_loop i).trips) (s : St Ideal) :
    (s.step RA RB x4 x5 x6 i t).V = put s.V (dvPieces RA RB s.A s.B (pairA x4 x5 x6 i t) (pairB x4 x5 x6 i t) i t s.V) := by simp only [St.step]
theorem last_K (RA RB : Rows Ideal) (s : St Ideal) :
    (s.last RA RB x4 x5 x6 i).K = put s.K (dkLast RA RB s.A s.B (lastA x4 x5 x6 i) (lastB x4 x5 x6 i) i s.K) := by simp only [St.last]
theorem last_V (RA RB : Rows Ideal) (s : St Ideal) :
    (s.last RA RB x4 x5 x6 i).V = put s.V (dvLast RA RB s.A s.B (lastA x4 x5 x6 i) (lastB x4 x5 x6 i) i s.V) := by simp only [St.last]

theorem step_ok (hb : BlockOk q k v o p (i 1).val x2 x3 x4 x5 x6 x7 x8 x9) (t : Fin (k0_t1_loop i).trips) (s : St Ideal)
    (hs : StOk q k v o p (i 1).val t.val K0 V0 s) :
    StOk q k v o p (i 1).val (t.val + 1) K0 V0 (s.step (rowsA x2 x3 x7 x8 x9) (rowsB x2 x3 x7 x8 x9) x4 x5 x6 i t) := by
  have hi : (i 1).val < 16 := (i 1).isLt
  have ht : t.val < (i 1).val / 2 := trips_eq i ▸ t.isLt
  have hA := rowsA_ok hb
  have hB := rowsB_ok hb
  have PA : PairOk k v (2 * p) t.val (pairA x4 x5 x6 i t) :=
    pair_ok hb t.val 0 (2 * p) (by omega) (by omega) (by omega) _ _ _ _ _ _ (off1_eq i t) (off2_eq i t) (off3_eq i t)
  have PB : PairOk k v (2 * p + 1) t.val (pairB x4 x5 x6 i t) :=
    pair_ok hb t.val 64 (2 * p + 1) (by omega) (by omega) (by omega) _ _ _ _ _ _ (off4_eq i t) (off5_eq i t) (off6_eq i t)
  have m1 : MaskOk (i 1).val (2 * t.val) (mid : Msk Ideal) := mid_ok (by omega)
  have m2 : MaskOk (i 1).val (2 * t.val + 1) (mid : Msk Ideal) := mid_ok (by omega)
  refine ⟨next_ok hA hs.A PA m1 m2, next_ok hB hs.B PB m1 m2, fun u c l => ?_, fun u c l => ?_⟩
  · rw [step_K, dkPieces, put_add s.K t.val (by omega) _ _ _ _ _ _ _ _ (off1_eq i t) (off2_eq i t) (off4_eq i t) (off5_eq i t) _ _ _ _ (eK q k v o p (i 1).val) ?_ ?_ ?_ ?_ u c l, hs.K, ite_more]
    · intro d l; rw [dk1_ok hA hs.A PA m1 m2, eKA _ _ _ _ _ d.isLt]
    · intro d l; rw [dk2_ok hA hs.A PA m1 m2, eKA _ _ _ _ _ d.isLt]
    · intro d l; rw [dk1_ok hB hs.B PB m1 m2, eKB _ _ _ _ _ d.isLt]
    · intro d l; rw [dk2_ok hB hs.B PB m1 m2, eKB _ _ _ _ _ d.isLt]
  · rw [step_V, dvPieces, put_add s.V t.val (by omega) _ _ _ _ _ _ _ _ (off1_eq i t) (off2_eq i t) (off4_eq i t) (off5_eq i t) _ _ _ _ (eV q k o p (i 1).val) ?_ ?_ ?_ ?_ u c l, hs.V, ite_more]
    · intro d l; rw [dv1_ok hA hs.A PA m1 m2, eVA _ _ _ _ _ d.isLt]
    · intro d l; rw [dv2_ok hA hs.A PA m1 m2, eVA _ _ _ _ _ d.isLt]
    · intro d l; rw [dv1_ok hB hs.B PB m1 m2, eVB _ _ _ _ _ d.isLt]
    · intro d l; rw [dv2_ok hB hs.B PB m1 m2, eVB _ _ _ _ _ d.isLt]

theorem last_ok (hb : BlockOk q k v o p (i 1).val x2 x3 x4 x5 x6 x7 x8 x9) (s : St Ideal)
    (hs : StOk q k v o p (i 1).val ((i 1).val / 2) K0 V0 s) :
    StOk q k v o p (i 1).val ((i 1).val / 2 + 1) K0 V0 (s.last (rowsA x2 x3 x7 x8 x9) (rowsB x2 x3 x7 x8 x9) x4 x5 x6 i) := by
  have hi : (i 1).val < 16 := (i 1).isLt
  have hA := rowsA_ok hb
  have hB := rowsB_ok hb
  have PA : PairOk k v (2 * p) ((i 1).val / 2) (lastA x4 x5 x6 i) :=
    pair_ok hb ((i 1).val / 2) 0 (2 * p) (by omega) (by omega) (by omega) _ _ _ _ _ _ (off13_eq i) (off14_eq i) (off15_eq i)
  have PB : PairOk k v (2 * p + 1) ((i 1).val / 2) (lastB x4 x5 x6 i) :=
    pair_ok hb ((i 1).val / 2) 64 (2 * p + 1) (by omega) (by omega) (by omega) _ _ _ _ _ _ (off16_eq i) (off17_eq i) (off18_eq i)
  have m1 : MaskOk (i 1).val (2 * ((i 1).val / 2)) (mk1 (F := Ideal) i) := StickPay.mk1_apply i
  have m2 : MaskOk (i 1).val (2 * ((i 1).val / 2) + 1) (mk2 (F := Ideal) i) := StickPay.mk2_apply i
  refine ⟨next_ok hA hs.A PA m1 m2, next_ok hB hs.B PB m1 m2, fun u c l => ?_, fun u c l => ?_⟩
  · rw [last_K, dkLast, put_add s.K ((i 1).val / 2) (by omega) _ _ _ _ _ _ _ _ (off13_eq i) (off14_eq i) (off16_eq i) (off17_eq i) _ _ _ _ (eK q k v o p (i 1).val) ?_ ?_ ?_ ?_ u c l, hs.K, ite_more]
    · intro d l; rw [dk1_ok hA hs.A PA m1 m2, eKA _ _ _ _ _ d.isLt]
    · intro d l; rw [dk2_ok hA hs.A PA m1 m2, eKA _ _ _ _ _ d.isLt]
    · intro d l; rw [dk1_ok hB hs.B PB m1 m2, eKB _ _ _ _ _ d.isLt]
    · intro d l; rw [dk2_ok hB hs.B PB m1 m2, eKB _ _ _ _ _ d.isLt]
  · rw [last_V, dvLast, put_add s.V ((i 1).val / 2) (by omega) _ _ _ _ _ _ _ _ (off13_eq i) (off14_eq i) (off16_eq i) (off17_eq i) _ _ _ _ (eV q k o p (i 1).val) ?_ ?_ ?_ ?_ u c l, hs.V, ite_more]
    · intro d l; rw [dv1_ok hA hs.A PA m1 m2, eVA _ _ _ _ _ d.isLt]
    · intro d l; rw [dv2_ok hA hs.A PA m1 m2, eVA _ _ _ _ _ d.isLt]
    · intro d l; rw [dv1_ok hB hs.B PB m1 m2, eVB _ _ _ _ _ d.isLt]
    · intro d l; rw [dv2_ok hB hs.B PB m1 m2, eVB _ _ _ _ _ d.isLt]

theorem at_ok (hb : BlockOk q k v o p (i 1).val x2 x3 x4 x5 x6 x7 x8 x9) (s : St Ideal) (hs : StOk q k v o p (i 1).val 0 K0 V0 s) :
    ∀ n, n ≤ (k0_t1_loop i).trips → StOk q k v o p (i 1).val n K0 V0 (St.at (rowsA x2 x3 x7 x8 x9) (rowsB x2 x3 x7 x8 x9) x4 x5 x6 i s n)
  | 0, _ => hs
  | n + 1, h => by
    rw [St.at_succ _ _ _ _ _ _ _ ⟨n, h⟩]
    exact step_ok hb ⟨n, h⟩ _ (at_ok hb s hs n (Nat.le_of_succ_le h))

theorem zero_ok (h i : ℕ) : SumsOk q k v o h i 0 zero where
  plr := fun r => (StickPay.pay111_apply r).trans (by simp)
  pg := fun r => (StickPay.pay111_apply r).trans (by simp)
  acc := fun r d => (StickPay.pay112_apply r d).trans (by simp)

theorem fin_ok (hb : BlockOk q k v o p (i 1).val x2 x3 x4 x5 x6 x7 x8 x9) :
    StOk q k v o p (i 1).val ((i 1).val / 2 + 1) K0 V0 (fin x4 x5 x6 i x2 x3 x7 x8 x9 K0 V0) := by
  refine last_ok hb _ ?_
  rw [← trips_eq i]
  exact at_ok hb _ ⟨zero_ok _ _, zero_ok _ _, fun u c l => by rw [if_neg (by omega), add_zero], fun u c l => by rw [if_neg (by omega), add_zero]⟩ _ le_rfl

/-- Keys from the row on have no part. -/
theorem dz_zero {h t s : ℕ} (hs : ¬ s < t) : dz q k v o h t s = 0 := if_neg hs
theorem a_zero {h t s : ℕ} (hs : ¬ s < t) : a q k h t s = 0 := if_neg hs

theorem fin_K (hb : BlockOk q k v o p (i 1).val x2 x3 x4 x5 x6 x7 x8 x9) (u : Fin 16) (c : Fin 128) (l : Fin 256) :
    (fin x4 x5 x6 i x2 x3 x7 x8 x9 K0 V0).K (ix3 u c l) = K0 (ix3 u c l) + eK q k v o p (i 1).val u.val c.val l.val := by
  rw [(fin_ok hb).K]
  split_ifs with h
  · rfl
  · rw [eK, kc, Finset.sum_eq_zero, EReal.coe_zero]
    intro r hr
    have := Finset.mem_range.1 hr
    rw [dz_zero (by omega), mul_zero]
theorem fin_V (hb : BlockOk q k v o p (i 1).val x2 x3 x4 x5 x6 x7 x8 x9) (u : Fin 16) (c : Fin 128) (l : Fin 256) :
    (fin x4 x5 x6 i x2 x3 x7 x8 x9 K0 V0).V (ix3 u c l) = V0 (ix3 u c l) + eV q k o p (i 1).val u.val c.val l.val := by
  rw [(fin_ok hb).V]
  split_ifs with h
  · rfl
  · rw [eV, vc, Finset.sum_eq_zero, EReal.coe_zero]
    intro r hr
    have := Finset.mem_range.1 hr
    rw [a_zero (by omega), mul_zero]

theorem sum_all {h t c n : ℕ} (hn : t ≤ n) (hn' : n ≤ 4096) :
    ∑ s ∈ range n, dz q k v o h t s * k s c = ∑ s ∈ range 4096, dz q k v o h t s * k s c := by
  refine Finset.sum_subset (Finset.range_subset_range.2 hn') fun s _ hs => ?_
  rw [dz_zero (by rw [Finset.mem_range] at hs; omega), zero_mul]

theorem eighth : Ideal.ofBits .f32 0x3E000000#32 = ((0.125 : ℝ) : EReal) := by
  simp [Ideal.ofBits, Ideal.ieee]
  rw [← EReal.coe_mul]
  norm_num

/-- The query gradient of a block. -/
theorem fin_A (hb : BlockOk q k v o p (i 1).val x2 x3 x4 x5 x6 x7 x8 x9) (r : Fin 256) (d : Fin 64) :
    k0_pay165 (fin x4 x5 x6 i x2 x3 x7 x8 x9 K0 V0).A.acc (ix2 r d) = (dq q k v o (256 * (i 1).val + r.val) (128 * p + d.val) : EReal) := by
  have hi : (i 1).val < 16 := (i 1).isLt
  rw [StickPay.pay165_apply, (fin_ok hb).A.acc, sum_all (by omega) (by omega), eighth, ← EReal.coe_mul, dq, show (128 * p + d.val) / 64 = 2 * p by omega,
    show 64 * (2 * p) + d.val = 128 * p + d.val by omega]
theorem fin_B (hb : BlockOk q k v o p (i 1).val x2 x3 x4 x5 x6 x7 x8 x9) (r : Fin 256) (d : Fin 64) :
    k0_pay165 (fin x4 x5 x6 i x2 x3 x7 x8 x9 K0 V0).B.acc (ix2 r d) = (dq q k v o (256 * (i 1).val + r.val) (128 * p + (64 + d.val)) : EReal) := by
  have hi : (i 1).val < 16 := (i 1).isLt
  rw [StickPay.pay165_apply, (fin_ok hb).B.acc, sum_all (by omega) (by omega), eighth, ← EReal.coe_mul, dq, show (128 * p + (64 + d.val)) / 64 = 2 * p + 1 by omega,
    show 64 * (2 * p + 1) + d.val = 128 * p + (64 + d.val) by omega]

end

end Cert.StickState
-- ==== Proof.StickHost.lean ====
/-
  The blocks the kernel of the stick-breaking backward pass reads, as the host prepares them from the four arguments.
-/
module

public import proofs.«01_k».proof.Proof.StickState
public import Idealize.ShloMosaic.Lib.Pipeline.ValueKit
public import Idealize.ShloMosaic.Lib.StableHlo.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.StickIdeal Cert.StickIdeal.Gen
open Cert.StickRun Cert.StickMath Cert.StickState
open Finset (range)

namespace Cert.StickHost

variable (m : (ℓ : Loc nD τ sig) → Buf (Elt Ideal) ℓ) (c : Dev nD)

abbrev aQ := m ((c : Thread nD τ).loc main_arg0)
abbrev aK := m ((c : Thread nD τ).loc main_arg1)
abbrev aV := m ((c : Thread nD τ).loc main_arg2)
abbrev aO := m ((c : Thread nD τ).loc main_arg3)

/-! ## The prepared arrays -/

/-- The scaled queries. -/
def hQ (x : Vec Ideal S4096x512 .f32) : Vec Ideal S4096x512 .bf16 :=
  truncf .bf16 (mulf x (broadcastInDim S4096x512 ![] bcast_S_S4096x512 (constant (F := Ideal) S_ .f32 0x3E000000#32))) bitsLt_bf16_f32
/-- A chunk of rows on lanes. -/
def hT (x : Vec Ideal S4096x512 .bf16) : Vec Ideal S16x512x256 .bf16 :=
  transpose S16x512x256 [0, 2, 1] (shapeCast S16x256x512 x shapeCasts_S4096x512_S16x256x512) transposes_S16x256x512_S16x512x256_0_2_1

/-- The scaled scores. -/
def hZ (x y : Vec Ideal S4096x512 .f32) : Vec Ideal S8x4096x4096 .f32 :=
  mulf (Host.dotGeneral (φ₁ := .f32) (φ₂ := .f32) dot_S4096x8x64_S4096x8x64_S8x4096x4096_2_2_0_0_1_1 none
      (shapeCast S4096x8x64 x shapeCasts_S4096x512_S4096x8x64) (shapeCast S4096x8x64 y shapeCasts_S4096x512_S4096x8x64))
    (broadcastInDim S8x4096x4096 ![] bcast_S_S8x4096x4096 (constant (F := Ideal) S_ .f32 0x3E000000#32))
/-- The scores' softplus. -/
def hS (x : Vec Ideal S8x4096x4096 .f32) : Vec Ideal S8x4096x4096 .f32 :=
  select (cmpf .une
        (subf x (broadcastInDim S8x4096x4096 ![] bcast_S_S8x4096x4096 (constant (F := Ideal) S_ .f32 0x00000000#32)))
        (subf x (broadcastInDim S8x4096x4096 ![] bcast_S_S8x4096x4096 (constant (F := Ideal) S_ .f32 0x00000000#32))))
    (addf x (broadcastInDim S8x4096x4096 ![] bcast_S_S8x4096x4096 (constant (F := Ideal) S_ .f32 0x00000000#32)))
    (addf (maximumf x (broadcastInDim S8x4096x4096 ![] bcast_S_S8x4096x4096 (constant (F := Ideal) S_ .f32 0x00000000#32)))
      (Host.log1p (Host.exp (Host.negf (Host.absf (subf x (broadcastInDim S8x4096x4096 ![] bcast_S_S8x4096x4096 (constant (F := Ideal) S_ .f32 0x00000000#32))))))))
/-- Whether a key comes before a query. -/
def hM : Vec Ideal S4096x4096 .i1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))
/-- What each key leaves of the stick. -/
def hL (x : Vec Ideal S8x4096x4096 .f32) : Vec Ideal S8x4096x4096 .f32 :=
  select (broadcastInDim S8x4096x4096 ![1, 2] bcast_S4096x4096_S8x4096x4096_1_2 hM) (Host.negf (F := Ideal) (φ := .f32) (hS (Host.negf (F := Ideal) (φ := .f32) (Host.negf (F := Ideal) (φ := .f32) x))))
    (broadcastInDim S8x4096x4096 ![] bcast_S_S8x4096x4096 (constant (F := Ideal) S_ .f32 0x00000000#32))
/-- The rows' totals, each over its head's columns. -/
def hTot (x : Vec Ideal S8x4096x4096 .f32) : Vec Ideal S4096x512 .f32 :=
  shapeCast S4096x512 (broadcastInDim S4096x8x64 ![0, 1] bcast_S4096x8_S4096x8x64_0_1
    (transpose S4096x8 [1, 0] (Host.reduceAdd x (constant (F := Ideal) S_ .f32 0x00000000#32) reducesTo_S8x4096x4096_S8x4096_d2 h_S_)
      transposes_S8x4096_S4096x8_1_0)) shapeCasts_S4096x8x64_S4096x512

theorem V_q : V m c main_v20 = hQ (aQ m c) := by
  show StableHlo.after (List.flatten [hostOps0, hostOps0_1, hostOps0_2, hostOps0_3, hostOps0_4]) _ (Proc.devRef .tc main_v20) = _
  simp only [hostOps0, hostOps0_1, hostOps0_2, hostOps0_3, hostOps0_4, List.flatten_cons, List.flatten_nil, List.append_nil, List.cons_append, List.nil_append]
  after_results_simp
  rfl
theorem V_qt : V m c main_v27 = hT (hQ (aQ m c)) := by
  show StableHlo.after (List.flatten [hostOps0, hostOps0_1, hostOps0_2, hostOps0_3, hostOps0_4]) _ (Proc.devRef .tc main_v27) = _
  simp only [hostOps0, hostOps0_1, hostOps0_2, hostOps0_3, hostOps0_4, List.flatten_cons, List.flatten_nil, List.append_nil, List.cons_append, List.nil_append]
  after_results_simp
  rfl
theorem V_k : V m c main_v21 = (truncf (F := Ideal) .bf16 (aK m c : Vec Ideal S4096x512 .f32) bitsLt_bf16_f32) := by
  show StableHlo.after (List.flatten [hostOps0, hostOps0_1, hostOps0_2, hostOps0_3, hostOps0_4]) _ (Proc.devRef .tc main_v21) = _
  simp only [hostOps0, hostOps0_1, hostOps0_2, hostOps0_3, hostOps0_4, List.flatten_cons, List.flatten_nil, List.append_nil, List.cons_append, List.nil_append]
  after_results_simp
theorem V_kt : V m c main_v24 = hT (truncf (F := Ideal) .bf16 (aK m c : Vec Ideal S4096x512 .f32) bitsLt_bf16_f32) := by
  show StableHlo.after (List.flatten [hostOps0, hostOps0_1, hostOps0_2, hostOps0_3, hostOps0_4]) _ (Proc.devRef .tc main_v24) = _
  simp only [hostOps0, hostOps0_1, hostOps0_2, hostOps0_3, hostOps0_4, List.flatten_cons, List.flatten_nil, List.append_nil, List.cons_append, List.nil_append]
  after_results_simp
  rfl
theorem V_vt : V m c main_v29 = hT (truncf (F := Ideal) .bf16 (aV m c : Vec Ideal S4096x512 .f32) bitsLt_bf16_f32) := by
  show StableHlo.after (List.flatten [hostOps0, hostOps0_1, hostOps0_2, hostOps0_3, hostOps0_4]) _ (Proc.devRef .tc main_v29) = _
  simp only [hostOps0, hostOps0_1, hostOps0_2, hostOps0_3, hostOps0_4, List.flatten_cons, List.flatten_nil, List.append_nil, List.cons_append, List.nil_append]
  after_results_simp
  rfl
theorem V_o : V m c main_v25 = (truncf (F := Ideal) .bf16 (aO m c : Vec Ideal S4096x512 .f32) bitsLt_bf16_f32) := by
  show StableHlo.after (List.flatten [hostOps0, hostOps0_1, hostOps0_2, hostOps0_3, hostOps0_4]) _ (Proc.devRef .tc main_v25) = _
  simp only [hostOps0, hostOps0_1, hostOps0_2, hostOps0_3, hostOps0_4, List.flatten_cons, List.flatten_nil, List.append_nil, List.cons_append, List.nil_append]
  after_results_simp
theorem V_ot : V m c main_v31 = hT (truncf (F := Ideal) .bf16 (aO m c : Vec Ideal S4096x512 .f32) bitsLt_bf16_f32) := by
  show StableHlo.after (List.flatten [hostOps0, hostOps0_1, hostOps0_2, hostOps0_3, hostOps0_4]) _ (Proc.devRef .tc main_v31) = _
  simp only [hostOps0, hostOps0_1, hostOps0_2, hostOps0_3, hostOps0_4, List.flatten_cons, List.flatten_nil, List.append_nil, List.cons_append, List.nil_append]
  after_results_simp
  rfl
theorem V_tot : V m c main_v17 = hTot (hL (hZ (aQ m c) (aK m c))) := by
  show StableHlo.after (List.flatten [hostOps0, hostOps0_1, hostOps0_2, hostOps0_3, hostOps0_4]) _ (Proc.devRef .tc main_v17) = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

/-! ## Their elements -/

theorem hQ_apply (x : Vec Ideal S4096x512 .f32) (r : Fin 4096) (j : Fin 512) : hQ x (ix2 r j) = x (ix2 r j) * Ideal.ofBits .f32 0x3E000000#32 := by
  pointwise [hQ]
theorem hT_apply (x : Vec Ideal S4096x512 .bf16) (u : Fin 16) (j : Fin 512) (l : Fin 256) :
    hT x (ix3 u j l) = x (ix2 (⟨256 * u.val + l.val, by omega⟩ : Fin 4096) j) := by
  have e : hT x (ix3 u j l) = x (ix2 (⟨u.val * 256 + l.val, by omega⟩ : Fin 4096) j) := by pointwise [hT]
  rw [e]
  exact congrArg (fun i => x (ix2 i j)) (Fin.ext (show u.val * 256 + l.val = 256 * u.val + l.val by omega))
theorem hZ_apply (x y : Vec Ideal S4096x512 .f32) (h : Fin 8) (r s : Fin 4096) :
    hZ x y (ix3 h r s) = (∑ d : Fin 64, x (ix2 r (⟨64 * h.val + d.val, by omega⟩ : Fin 512)) * y (ix2 s (⟨64 * h.val + d.val, by omega⟩ : Fin 512)))
      * Ideal.ofBits .f32 0x3E000000#32 := by
  have e : hZ x y (ix3 h r s) = (∑ d : Fin 64, x (ix2 r (⟨h.val * 64 + d.val, by omega⟩ : Fin 512)) * y (ix2 s (⟨h.val * 64 + d.val, by omega⟩ : Fin 512)))
      * Ideal.ofBits .f32 0x3E000000#32 := by pointwise [hZ]
  simp only [Nat.mul_comm 64]
  exact e
theorem hTot_apply (x : Vec Ideal S8x4096x4096 .f32) (r : Fin 4096) (j : Fin 512) :
    hTot x (ix2 r j) = ∑ s : Fin 4096, x (ix3 (⟨j.val / 64, by omega⟩ : Fin 8) r s) := by
  pointwise [hTot]
theorem hM_apply (r s : Fin 4096) : hM (ix2 r s) = if s.val < r.val then 1#1 else 0#1 := by
  have e : hM (ix2 r s) = IntOp.cmpi .slt (BitVec.ofNat 32 s.val) (BitVec.ofNat 32 r.val) := by pointwise [hM]
  rw [e, WordCmp.cmpi_slt_ofNat (s.isLt.trans (by norm_num)) (r.isLt.trans (by norm_num))]
  by_cases h : s.val < r.val
  · rw [if_pos h, decide_eq_true h]; rfl
  · rw [if_neg h, decide_eq_false h]; rfl
theorem hS_apply (x : Vec Ideal S8x4096x4096 .f32) (y : S8x4096x4096.Idx) :
    hS x y = max (x y) 0 + Ideal.log (1 + Ideal.exp (-(max (x y) (-x y)))) := by
  have e : hS x y = if x y ≠ x y then x y else max (x y) 0 + Ideal.log1p (Ideal.exp (-(FloatOps.absf (F := Ideal) (φ := .f32) (x y) : EReal))) := by pointwise [hS]
  rw [e, if_neg (fun h => h rfl)]
  rfl
theorem hL_apply (x : Vec Ideal S8x4096x4096 .f32) (h : Fin 8) (r s : Fin 4096) :
    hL x (ix3 h r s) = if s.val < r.val then -(max (x (ix3 h r s)) 0 + Ideal.log (1 + Ideal.exp (-(max (x (ix3 h r s)) (-x (ix3 h r s)))))) else 0 := by
  have e : hL x (ix3 h r s) = Scalar.select (hM (ix2 r s)) (-(hS (Host.negf (F := Ideal) (φ := .f32) (Host.negf (F := Ideal) (φ := .f32) x)) (ix3 h r s) : EReal)) 0 := by
    pointwise [hL]
  have e2 : Host.negf (F := Ideal) (φ := .f32) (Host.negf (F := Ideal) (φ := .f32) x) = x := funext fun y => neg_neg (x y : EReal)
  rw [e, e2, hM_apply, hS_apply]
  by_cases h' : s.val < r.val
  · rw [if_pos h', if_pos h']; rfl
  · rw [if_neg h', if_neg h']; rfl

/-! ## The blocks -/

theorem idx : ∀ t : Fin grid0.N, win0_0.index t = ![t.val % 16, t.val / 16] ∧ win0_1.index t = ![t.val % 16, t.val / 16, 0]
    ∧ win0_2.index t = ![0, t.val / 16] ∧ win0_3.index t = ![0, t.val / 16, 0] ∧ win0_4.index t = ![0, t.val / 16, 0]
    ∧ win0_5.index t = ![t.val % 16, t.val / 16] ∧ win0_6.index t = ![t.val % 16, t.val / 16] ∧ win0_7.index t = ![t.val % 16, t.val / 16, 0]
    ∧ win0_8.index t = ![t.val % 16, t.val / 16] ∧ win0_9.index t = ![0, t.val / 16, 0] ∧ win0_10.index t = ![0, t.val / 16, 0]
    ∧ (grid0.coords t 1).val = t.val % 16 := by decide +kernel

theorem row_lt (t : Fin cfg0.N) (r : Fin 256) : 256 * (t.val % 16) + r.val < 4096 := by omega
theorem col_lt (t : Fin cfg0.N) (j : Fin 128) : 128 * (t.val / 16) + j.val < 512 := by
  have h : t.val < 64 := t.isLt
  omega

theorem b0 (t : Fin cfg0.N) (r : Fin 256) (j : Fin 128) : iblk m c 0 t (ix2 r j) = hQ (aQ m c) (ix2 ⟨_, row_lt t r⟩ ⟨_, col_lt t j⟩) := by
  rw [← V_q]
  blk_ext [iblk, idx t]
theorem b1 (t : Fin cfg0.N) (r : Fin 256) (j : Fin 128) : iblk m c 1 t (ix3 0 j r) = hQ (aQ m c) (ix2 ⟨_, row_lt t r⟩ ⟨_, col_lt t j⟩) := by
  refine Eq.trans ?_ (hT_apply (hQ (aQ m c)) ⟨t.val % 16, by omega⟩ ⟨_, col_lt t j⟩ r)
  rw [← V_qt]
  blk_ext [iblk, idx t]
theorem b2 (t : Fin cfg0.N) (r : Fin 4096) (j : Fin 128) : iblk m c 2 t (ix2 r j) = aK m c (ix2 r ⟨_, col_lt t j⟩) := by
  show _ = (truncf (F := Ideal) .bf16 (aK m c : Vec Ideal S4096x512 .f32) bitsLt_bf16_f32) (ix2 r ⟨_, col_lt t j⟩)
  rw [← V_k]
  blk_ext [iblk, idx t]
theorem b3 (t : Fin cfg0.N) (u : Fin 16) (j : Fin 128) (l : Fin 256) : iblk m c 3 t (ix3 u j l) = aK m c (ix2 (⟨256 * u.val + l.val, by omega⟩ : Fin 4096) ⟨_, col_lt t j⟩) := by
  refine Eq.trans ?_ (hT_apply (truncf (F := Ideal) .bf16 (aK m c : Vec Ideal S4096x512 .f32) bitsLt_bf16_f32) u ⟨_, col_lt t j⟩ l)
  rw [← V_kt]
  blk_ext [iblk, idx t]
theorem b4 (t : Fin cfg0.N) (u : Fin 16) (j : Fin 128) (l : Fin 256) : iblk m c 4 t (ix3 u j l) = aV m c (ix2 (⟨256 * u.val + l.val, by omega⟩ : Fin 4096) ⟨_, col_lt t j⟩) := by
  refine Eq.trans ?_ (hT_apply (truncf (F := Ideal) .bf16 (aV m c : Vec Ideal S4096x512 .f32) bitsLt_bf16_f32) u ⟨_, col_lt t j⟩ l)
  rw [← V_vt]
  blk_ext [iblk, idx t]
theorem b5 (t : Fin cfg0.N) (r : Fin 256) (j : Fin 128) : iblk m c 5 t (ix2 r j) = hTot (hL (hZ (aQ m c) (aK m c))) (ix2 ⟨_, row_lt t r⟩ ⟨_, col_lt t j⟩) := by
  rw [← V_tot]
  blk_ext [iblk, idx t]
theorem b6 (t : Fin cfg0.N) (r : Fin 256) (j : Fin 128) : iblk m c 6 t (ix2 r j) = aO m c (ix2 ⟨_, row_lt t r⟩ ⟨_, col_lt t j⟩) := by
  show _ = (truncf (F := Ideal) .bf16 (aO m c : Vec Ideal S4096x512 .f32) bitsLt_bf16_f32) (ix2 ⟨_, row_lt t r⟩ ⟨_, col_lt t j⟩)
  rw [← V_o]
  blk_ext [iblk, idx t]
theorem b7 (t : Fin cfg0.N) (r : Fin 256) (j : Fin 128) : iblk m c 7 t (ix3 0 j r) = aO m c (ix2 ⟨_, row_lt t r⟩ ⟨_, col_lt t j⟩) := by
  refine Eq.trans ?_ (hT_apply (truncf (F := Ideal) .bf16 (aO m c : Vec Ideal S4096x512 .f32) bitsLt_bf16_f32) ⟨t.val % 16, by omega⟩ ⟨_, col_lt t j⟩ r)
  rw [← V_ot]
  blk_ext [iblk, idx t]

/-! ## On real numbers -/

/-- An array of the real numbers `x`. -/
def Of (A : Vec Ideal S4096x512 .f32) (x : ℕ → ℕ → ℝ) : Prop := ∀ (r : Fin 4096) (j : Fin 512), A (ix2 r j) = (x r.val j.val : EReal)

variable {m c} {q k v o : ℕ → ℕ → ℝ}

theorem z_real {A B : Vec Ideal S4096x512 .f32} (hA : Of A q) (hB : Of B k) (h : Fin 8) (r s : Fin 4096) :
    hZ A B (ix3 h r s) = (z q k h.val r.val s.val : EReal) := by
  rw [hZ_apply, eighth, z, fin_sum 64 (fun d => q r.val (64 * h.val + d) * k s.val (64 * h.val + d)) _ (fun d => by rw [hA, hB, ← EReal.coe_mul]),
    ← EReal.coe_mul, Finset.sum_mul]
  exact congrArg (fun x : ℝ => (x : EReal)) (Finset.sum_congr rfl fun d _ => by ring)

theorem lr_of {A B : Vec Ideal S4096x512 .f32} (hA : Of A q) (hB : Of B k) (h : Fin 8) (r s : Fin 4096) :
    hL (hZ A B) (ix3 h r s) = (lr q k h.val r.val s.val : EReal) := by
  rw [hL_apply, z_real hA hB, lr]
  split_ifs
  · rw [← lr_real]
    simp only [zero_sub]
  · exact EReal.coe_zero.symm

theorem tot_of {A B : Vec Ideal S4096x512 .f32} (hA : Of A q) (hB : Of B k) (r : Fin 4096) (j : Fin 512) :
    hTot (hL (hZ A B)) (ix2 r j) = (tot q k (j.val / 64) r.val : EReal) := by
  rw [hTot_apply, tot]
  exact fin_sum 4096 _ _ fun s => lr_of hA hB _ r s

theorem block_ok (hq : Of (aQ m c) q) (hk : Of (aK m c) k) (hv : Of (aV m c) v) (ho : Of (aO m c) o) (t : Fin cfg0.N) :
    BlockOk q k v o (t.val / 16) (grid0.coords t 1).val (iblk m c 0 t) (iblk m c 1 t) (iblk m c 2 t) (iblk m c 3 t) (iblk m c 4 t)
      (iblk m c 5 t) (iblk m c 6 t) (iblk m c 7 t) := by
  rw [(idx t).2.2.2.2.2.2.2.2.2.2.2]
  refine ⟨fun r j => ?_, fun j r => ?_, fun s j => ?_, fun u j l => ?_, fun u j l => ?_, fun r j => ?_, fun r j => ?_, fun j r => ?_⟩
  · rw [b0, hQ_apply, hq, eighth, ← EReal.coe_mul]
  · rw [b1, hQ_apply, hq, eighth, ← EReal.coe_mul]
  · rw [b2, hk]
  · rw [b3, hk]
  · rw [b4, hv]
  · rw [b5, tot_of hq hk]
  · rw [b6, ho]
  · rw [b7, ho]

end Cert.StickHost
-- ==== Proof.StickValue.lean ====
/-
  The three results of the kernel of the stick-breaking backward pass, on real numbers.
-/
module

public import proofs.«01_k».proof.Proof.StickRun
public import proofs.«01_k».proof.Proof.StickHost

@[expose] public section

set_option maxRecDepth 16384

noncomputable section

open Idealize.ShloMosaic Idealize.ShloMosaic.TcCoe Idealize.SL.Sem
open Cert.StickIdeal Cert.StickIdeal.Gen
open Cert.StickRun Cert.StickMath Cert.StickState Cert.StickHost
open Finset (range)

namespace Cert.StickValue

variable {m : (ℓ : Loc nD τ sig) → Buf (Elt Ideal) ℓ} {c : Dev nD} {q k v o : ℕ → ℕ → ℝ}
variable (hq : Of (aQ m c) q) (hk : Of (aK m c) k) (hv : Of (aV m c) v) (ho : Of (aO m c) o)
include hq hk hv ho

/-! ## The sums over a head pair's row blocks -/

theorem acc_K : ∀ (n : ℕ) (h : n < cfg0.N) (u : Fin 16) (j : Fin 128) (l : Fin 256), (acc m c n h).K (ix3 u j l)
    = ((∑ i ∈ range (n % 16 + 1), kc q k v o (2 * (n / 16) + j.val / 64) i (256 * u.val + l.val) (128 * (n / 16) + j.val) : ℝ) : EReal)
  | n, h, u, j, l => by
    have hb := block_ok hq hk hv ho ⟨n, h⟩
    have hi : (grid0.coords (⟨n, h⟩ : Fin cfg0.N) 1).val = n % 16 := (idx ⟨n, h⟩).2.2.2.2.2.2.2.2.2.2.2
    by_cases h0 : n % 16 = 0
    · rw [acc_first m c ⟨n, h⟩ h0, ptFin, fin_K hb, StickPay.pay97_apply, zero_add, hi, eK, h0, zero_add, Finset.sum_range_one]
    · have hp : n - 1 < cfg0.N := by omega
      rw [acc_next m c ⟨n, h⟩ h0 hp, ptFin, fin_K hb, acc_K (n - 1) hp, hi, eK, ← EReal.coe_add]
      rw [show (n - 1) / 16 = n / 16 by omega, show (n - 1) % 16 + 1 = n % 16 by omega, Finset.sum_range_succ _ (n % 16)]
  termination_by n => n
  decreasing_by omega

theorem acc_V : ∀ (n : ℕ) (h : n < cfg0.N) (u : Fin 16) (j : Fin 128) (l : Fin 256), (acc m c n h).V (ix3 u j l)
    = ((∑ i ∈ range (n % 16 + 1), vc q k o (2 * (n / 16) + j.val / 64) i (256 * u.val + l.val) (128 * (n / 16) + j.val) : ℝ) : EReal)
  | n, h, u, j, l => by
    have hb := block_ok hq hk hv ho ⟨n, h⟩
    have hi : (grid0.coords (⟨n, h⟩ : Fin cfg0.N) 1).val = n % 16 := (idx ⟨n, h⟩).2.2.2.2.2.2.2.2.2.2.2
    by_cases h0 : n % 16 = 0
    · rw [acc_first m c ⟨n, h⟩ h0, ptFin, fin_V hb, StickPay.pay98_apply, zero_add, hi, eV, h0, zero_add, Finset.sum_range_one]
    · have hp : n - 1 < cfg0.N := by omega
      rw [acc_next m c ⟨n, h⟩ h0 hp, ptFin, fin_V hb, acc_V (n - 1) hp, hi, eV, ← EReal.coe_add]
      rw [show (n - 1) / 16 = n / 16 by omega, show (n - 1) % 16 + 1 = n % 16 by omega, Finset.sum_range_succ _ (n % 16)]
  termination_by n => n
  decreasing_by omega

theorem acc_A (t : Fin cfg0.N) (r : Fin 256) (d : Fin 64) : k0_pay165 (acc m c t.val t.isLt).A.acc (ix2 r d)
    = (dq q k v o (256 * (t.val % 16) + r.val) (128 * (t.val / 16) + d.val) : EReal) := by
  have hb := block_ok hq hk hv ho t
  have hi : (grid0.coords t 1).val = t.val % 16 := (idx t).2.2.2.2.2.2.2.2.2.2.2
  by_cases h0 : t.val % 16 = 0
  · rw [acc_first m c t h0, ptFin, fin_A hb, hi]
  · have hp : t.val - 1 < cfg0.N := by omega
    rw [acc_next m c t h0 hp, ptFin, fin_A hb, hi]

theorem acc_B (t : Fin cfg0.N) (r : Fin 256) (d : Fin 64) : k0_pay165 (acc m c t.val t.isLt).B.acc (ix2 r d)
    = (dq q k v o (256 * (t.val % 16) + r.val) (128 * (t.val / 16) + (64 + d.val)) : EReal) := by
  have hb := block_ok hq hk hv ho t
  have hi : (grid0.coords t 1).val = t.val % 16 := (idx t).2.2.2.2.2.2.2.2.2.2.2
  by_cases h0 : t.val % 16 = 0
  · rw [acc_first m c t h0, ptFin, fin_B hb, hi]
  · have hp : t.val - 1 < cfg0.N := by omega
    rw [acc_next m c t h0 hp, ptFin, fin_B hb, hi]

omit hq hk hv ho in
theorem dk_sum (p j s : ℕ) : ∑ i ∈ range 16, kc q k v o (2 * p + j / 64) i s (128 * p + j) = dk q k v o s (128 * p + j) := by
  rw [dk, show (128 * p + j) / 64 = 2 * p + j / 64 by omega]
  exact sum_blocks 16 fun t => q t (128 * p + j) * 0.125 * dz q k v o (2 * p + j / 64) t s

omit hq hk hv ho in
theorem dv_sum (p j s : ℕ) : ∑ i ∈ range 16, vc q k o (2 * p + j / 64) i s (128 * p + j) = dv q k o s (128 * p + j) := by
  rw [dv, show (128 * p + j) / 64 = 2 * p + j / 64 by omega]
  exact sum_blocks 16 fun t => o t (128 * p + j) * a q k (2 * p + j / 64) t s

/-! ## The arrays the region leaves -/

omit hq hk hv ho in
/-- The three results as whole arrays. -/
def rQ (q k v o : ℕ → ℕ → ℝ) : Vec Ideal S4096x512 .bf16 := fun y => (dq q k v o (y 0).val (y 1).val : EReal)
def rK (q k v o : ℕ → ℕ → ℝ) : Vec Ideal S4096x512 .f32 := fun y => (dk q k v o (y 0).val (y 1).val : EReal)
def rV (q k o : ℕ → ℕ → ℝ) : Vec Ideal S4096x512 .f32 := fun y => (dv q k o (y 0).val (y 1).val : EReal)
/-- Chunks of rows on lanes. -/
def rKt (q k v o : ℕ → ℕ → ℝ) : Vec Ideal S16x512x256 .f32 := fun y => (dk q k v o (256 * (y 0).val + (y 2).val) (y 1).val : EReal)
def rVt (q k o : ℕ → ℕ → ℝ) : Vec Ideal S16x512x256 .f32 := fun y => (dv q k o (256 * (y 0).val + (y 2).val) (y 1).val : EReal)

theorem arr8 : (dats m 0 c).arrAt 8 cfg0.N = rQ q k v o := by
  refine (dats m 0 c).arrAt_eq_of_covers 8 _ (by decide +kernel) fun t hf y => ?_
  blk_simp
  rw [after0_8]
  idx_vars y
  have e : rQ q k v o (((View.whole main_v32_0).slice (win0_8.rect t)).emb (ix2 y0 y1))
      = (dq q k v o (256 * (t.val % 16) + y0.val) (128 * (t.val / 16) + y1.val) : EReal) := by
    show _ = rQ q k v o (ix2 ⟨_, row_lt t y0⟩ ⟨_, col_lt t y1⟩)
    refine congrArg (rQ q k v o) ?_
    blk_ext [idx t]
  rw [e]
  clear e
  unfold dqPieces
  canon_tiles x h
  all_goals idx_vars x
  · obtain rfl : y0 = x0 := Fin.ext h0
    refine (acc_B hq hk hv ho t _ x1).trans ?_
    rw [h1]
  · obtain rfl : y0 = x0 := Fin.ext h0
    refine (acc_A hq hk hv ho t _ x1).trans ?_
    rw [h1]

theorem arr9 : (dats m 0 c).arrAt 9 cfg0.N = rKt q k v o := by
  refine (dats m 0 c).arrAt_eq_of_covers 9 _ (by decide +kernel) fun t hf y => ?_
  blk_simp
  rw [after0_9]
  have h15 : t.val % 16 = 15 := (flush0_9 t).mp hf
  idx_vars y
  have e : rKt q k v o (((View.whole main_v32_1).slice (win0_9.rect t)).emb (ix3 y0 y1 y2))
      = (dk q k v o (256 * y0.val + y2.val) (128 * (t.val / 16) + y1.val) : EReal) := by
    show _ = rKt q k v o (ix3 y0 ⟨_, col_lt t y1⟩ y2)
    refine congrArg (rKt q k v o) ?_
    blk_ext [idx t]
  rw [e, acc_K hq hk hv ho, h15]
  exact congrArg _ (dk_sum (t.val / 16) y1.val (256 * y0.val + y2.val))

theorem arr10 : (dats m 0 c).arrAt 10 cfg0.N = rVt q k o := by
  refine (dats m 0 c).arrAt_eq_of_covers 10 _ (by decide +kernel) fun t hf y => ?_
  blk_simp
  rw [after0_10]
  have h15 : t.val % 16 = 15 := (flush0_10 t).mp hf
  idx_vars y
  have e : rVt q k o (((View.whole main_v32_2).slice (win0_10.rect t)).emb (ix3 y0 y1 y2))
      = (dv q k o (256 * y0.val + y2.val) (128 * (t.val / 16) + y1.val) : EReal) := by
    show _ = rVt q k o (ix3 y0 ⟨_, col_lt t y1⟩ y2)
    refine congrArg (rVt q k o) ?_
    blk_ext [idx t]
  rw [e, acc_V hq hk hv ho, h15]
  exact congrArg _ (dv_sum (t.val / 16) y1.val (256 * y0.val + y2.val))

/-! ## The results -/

omit hq hk hv ho in
/-- Rows first again. -/
theorem back (x : Vec Ideal S16x512x256 .f32) (r : Fin 4096) (j : Fin 512) :
    shapeCast S4096x512 (transpose S16x256x512 [0, 2, 1] x transposes_S16x512x256_S16x256x512_0_2_1) shapeCasts_S16x256x512_S4096x512 (ix2 r j)
      = x (ix3 (⟨r.val / 256, by omega⟩ : Fin 16) j (⟨r.val % 256, by omega⟩ : Fin 256)) := by
  pointwise

theorem res_K : Pipeline.afterTail₀ cfgs (dats m) 0 (V0 m) [hostOps1] c main_v34 = rK q k v o := by
  have e : Pipeline.afterTail₀ cfgs (dats m) 0 (V0 m) [hostOps1] c main_v34
      = shapeCast S4096x512 (transpose S16x256x512 [0, 2, 1] ((dats m 0 c).arrAt 9 cfg0.N : Vec Ideal S16x512x256 .f32) transposes_S16x512x256_S16x256x512_0_2_1) shapeCasts_S16x256x512_S4096x512 := by
    rw [← Pipeline.withArrays_arr cfg0.spec (by decide) c (V0 m c) (fun w => (dats m 0 c).arrAt w cfg0.N) 9]
    unfold Pipeline.afterTail₀
    simp only [hostOps1, List.flatten_cons, List.flatten_nil, List.append_nil]
    after_results_simp
    try rfl
  rw [e, arr9 hq hk hv ho]
  funext y
  idx_vars y
  refine (back _ y0 y1).trans ?_
  show (dk q k v o (256 * (y0.val / 256) + y0.val % 256) y1.val : EReal) = dk q k v o y0.val y1.val
  rw [Nat.div_add_mod]

theorem res_V : Pipeline.afterTail₀ cfgs (dats m) 0 (V0 m) [hostOps1] c main_v36 = rV q k o := by
  have e : Pipeline.afterTail₀ cfgs (dats m) 0 (V0 m) [hostOps1] c main_v36
      = shapeCast S4096x512 (transpose S16x256x512 [0, 2, 1] ((dats m 0 c).arrAt 10 cfg0.N : Vec Ideal S16x512x256 .f32) transposes_S16x512x256_S16x256x512_0_2_1) shapeCasts_S16x256x512_S4096x512 := by
    rw [← Pipeline.withArrays_arr cfg0.spec (by decide) c (V0 m c) (fun w => (dats m 0 c).arrAt w cfg0.N) 10]
    unfold Pipeline.afterTail₀
    simp only [hostOps1, List.flatten_cons, List.flatten_nil, List.append_nil]
    after_results_simp
    try rfl
  rw [e, arr10 hq hk hv ho]
  funext y
  idx_vars y
  refine (back _ y0 y1).trans ?_
  show (dv q k o (256 * (y0.val / 256) + y0.val % 256) y1.val : EReal) = dv q k o y0.val y1.val
  rw [Nat.div_add_mod]

end Cert.StickValue
-- ==== Proof.StickWindow.lean ====
/-
  A running sum along an array's last axis, read at an index.
-/
module

public import Idealize.ShloMosaic.PureOps.Ideal
public import Idealize.ShloMosaic.Lib.Pointwise

@[expose] public section

set_option maxRecDepth 16384

noncomputable section

open Idealize.ShloMosaic
open Finset (range)

namespace Cert.StickWindow

theorem foldl_add {ι : Type} (g : ι → EReal) : ∀ (l : List ι) (v : EReal), l.foldl (fun r n => r + g n) v = v + (l.map g).sum
  | [], v => by simp
  | n :: l, v => by rw [List.foldl_cons, foldl_add g l, List.map_cons, List.sum_cons, add_assoc]

theorem pos (N : ℕ) (n : Fin (⟨3, ![1, 1, N]⟩ : Shape).numel) :
    ((⟨3, ![1, 1, N]⟩ : Shape).rowMajor.symm n 0).val = 0 ∧ ((⟨3, ![1, 1, N]⟩ : Shape).rowMajor.symm n 1).val = 0
      ∧ ((⟨3, ![1, 1, N]⟩ : Shape).rowMajor.symm n 2).val = n.val := by
  have e := Shape.rowMajor_val_three ((⟨3, ![1, 1, N]⟩ : Shape).rowMajor.symm n)
  rw [Equiv.apply_symm_apply] at e
  have h0 : ((⟨3, ![1, 1, N]⟩ : Shape).rowMajor.symm n 0).val < 1 := ((⟨3, ![1, 1, N]⟩ : Shape).rowMajor.symm n 0).isLt
  have h1 : ((⟨3, ![1, 1, N]⟩ : Shape).rowMajor.symm n 1).val < 1 := ((⟨3, ![1, 1, N]⟩ : Shape).rowMajor.symm n 1).isLt
  have z0 := Nat.lt_one_iff.1 h0
  have z1 := Nat.lt_one_iff.1 h1
  refine ⟨z0, z1, ?_⟩
  rw [e, z0, z1]
  simp

theorem numel (N : ℕ) : (⟨3, ![1, 1, N]⟩ : Shape).numel = N := by
  simp [Shape.numel, Fin.prod_univ_succ]

variable {A B N : ℕ}

/-- A window as long as the axis: the sum over the positions it meets. -/
theorem window (lo hi : ℕ) (x : (⟨3, ![A, B, N]⟩ : Shape).Idx → EReal) (init : (⟨0, ![]⟩ : Shape).Idx → EReal)
    (h : (⟨3, ![A, B, N]⟩ : Shape).ReduceWindows (![1, 1, N] : Fin 3 → ℕ) ![1, 1, 1] ![0, 0, lo] ![0, 0, hi] (⟨3, ![A, B, N]⟩ : Shape))
    (hu : 0 < (⟨0, ![]⟩ : Shape).numel) (hz : init (Shape.Idx.first hu) = 0) (F : ℕ → EReal) (a : Fin A) (b : Fin B) (s : Fin N)
    (hx : ∀ j : Fin N, x (ix3 a b j) = F j.val) :
    Host.reduceWindow (· + ·) ![1, 1, N] ![1, 1, 1] ![0, 0, lo] ![0, 0, hi] x init h hu (ix3 a b s)
      = ∑ n ∈ range N, if lo ≤ s.val + n ∧ s.val + n - lo < N then F (s.val + n - lo) else 0 := by
  unfold Host.reduceWindow
  refine (foldl_add _ _ _).trans ?_
  rw [hz, zero_add, ← Fin.sum_univ_def]
  refine Eq.trans (Finset.sum_congr rfl fun n _ => ?_) ((Fin.sum_univ_eq_sum_range
    (fun n => if lo ≤ s.val + n ∧ s.val + n - lo < N then F (s.val + n - lo) else 0) _).trans (by rw [show (Shape.numel ⟨3, ![1, 1, N]⟩) = N from numel N]))
  obtain ⟨p0, p1, p2⟩ := pos N n
  have ha := a.isLt
  have hb := b.isLt
  by_cases hc : lo ≤ s.val + n.val ∧ s.val + n.val - lo < N
  · rw [if_pos hc, ← hx ⟨s.val + n.val - lo, hc.2⟩]
    refine (dif_pos fun k => ?_).trans (congrArg x (funext fun k => Fin.ext ?_))
    · match k with
      | ⟨0, _⟩ =>
        show 0 ≤ a.val * 1 + ((⟨3, ![1, 1, N]⟩ : Shape).rowMajor.symm n 0).val ∧ a.val * 1 + ((⟨3, ![1, 1, N]⟩ : Shape).rowMajor.symm n 0).val - 0 < A
        rw [p0]; omega
      | ⟨1, _⟩ =>
        show 0 ≤ b.val * 1 + ((⟨3, ![1, 1, N]⟩ : Shape).rowMajor.symm n 1).val ∧ b.val * 1 + ((⟨3, ![1, 1, N]⟩ : Shape).rowMajor.symm n 1).val - 0 < B
        rw [p1]; omega
      | ⟨2, _⟩ =>
        show lo ≤ s.val * 1 + ((⟨3, ![1, 1, N]⟩ : Shape).rowMajor.symm n 2).val ∧ s.val * 1 + ((⟨3, ![1, 1, N]⟩ : Shape).rowMajor.symm n 2).val - lo < N
        rw [p2]; omega
    · match k with
      | ⟨0, _⟩ =>
        show a.val * 1 + ((⟨3, ![1, 1, N]⟩ : Shape).rowMajor.symm n 0).val - 0 = a.val
        rw [p0]; omega
      | ⟨1, _⟩ =>
        show b.val * 1 + ((⟨3, ![1, 1, N]⟩ : Shape).rowMajor.symm n 1).val - 0 = b.val
        rw [p1]; omega
      | ⟨2, _⟩ =>
        show s.val * 1 + ((⟨3, ![1, 1, N]⟩ : Shape).rowMajor.symm n 2).val - lo = s.val + n.val - lo
        rw [p2, Nat.mul_one]
  · rw [if_neg hc]
    refine dif_neg fun hin => hc ?_
    have h2 := hin 2
    change lo ≤ s.val * 1 + ((⟨3, ![1, 1, N]⟩ : Shape).rowMajor.symm n 2).val
      ∧ s.val * 1 + ((⟨3, ![1, 1, N]⟩ : Shape).rowMajor.symm n 2).val - lo < N at h2
    rw [p2, Nat.mul_one] at h2
    exact h2

theorem windowAdd (lo hi : ℕ) (x : FVec Ideal (⟨3, ![A, B, N]⟩ : Shape) .f32) (init : FVec Ideal (⟨0, ![]⟩ : Shape) .f32)
    (h : (⟨3, ![A, B, N]⟩ : Shape).ReduceWindows (![1, 1, N] : Fin 3 → ℕ) ![1, 1, 1] ![0, 0, lo] ![0, 0, hi] (⟨3, ![A, B, N]⟩ : Shape))
    (hu : 0 < (⟨0, ![]⟩ : Shape).numel) (hz : init (Shape.Idx.first hu) = (0 : EReal)) (F : ℕ → EReal) (a : Fin A) (b : Fin B) (s : Fin N)
    (hx : ∀ j : Fin N, x (ix3 a b j) = F j.val) :
    Host.reduceWindowAdd (F := Ideal) (φ := .f32) ![1, 1, N] ![1, 1, 1] ![0, 0, lo] ![0, 0, hi] x init h hu (ix3 a b s)
      = ∑ n ∈ range N, if lo ≤ s.val + n ∧ s.val + n - lo < N then F (s.val + n - lo) else 0 :=
  window lo hi x (fun _ => init (Shape.Idx.first hu)) h (by decide) hz F a b s hx

theorem sum_upto (F : ℕ → EReal) (s M : ℕ) (hs : s < M + 1) :
    (∑ n ∈ range (M + 1), if M ≤ s + n ∧ s + n - M < M + 1 then F (s + n - M) else 0) = ∑ j ∈ range (s + 1), F j := by
  rw [← Finset.sum_filter]
  refine Finset.sum_nbij' (fun n => s + n - M) (fun j => j + M - s) ?_ ?_ ?_ ?_ (fun _ _ => rfl)
  all_goals
    intro n hn
    simp only [Finset.mem_filter, Finset.mem_range] at hn ⊢
    omega

theorem sum_from (F : ℕ → EReal) (s M : ℕ) :
    (∑ n ∈ range M, if 0 ≤ s + n ∧ s + n - 0 < M then F (s + n - 0) else 0) = ∑ l ∈ range (M - s), F (s + l) := by
  rw [← Finset.sum_filter]
  refine Finset.sum_congr (Finset.ext fun n => ?_) (fun _ _ => rfl)
  simp only [Finset.mem_filter, Finset.mem_range]
  omega

end Cert.StickWindow

end
-- ==== Proof.StickRef.lean ====
/-
  The three results of the reference of the stick-breaking backward pass, on real numbers.
-/
module

public import proofs.«01_k».proof.Proof.StickState
public import proofs.«01_k».proof.Proof.StickWindow
public import proofs.«01_k».proof.Proof.ConvMath
public import proofs.«01_k».proof.Proof.Gen.StickRefIdeal.Read
public import Idealize.ShloMosaic.Lib.Pointwise
public import Idealize.ShloMosaic.Lib.WordCmp

@[expose] public section

set_option maxRecDepth 16384

noncomputable section

open Idealize.ShloMosaic
open Cert.StickRefIdeal Cert.StickRefIdeal.Gen Cert.StickRefIdeal.Read
open Cert.StickMath
open Finset (range)

namespace Cert.StickRef

/-! ## Real numbers -/

/-- The logarithm of one plus the exponential. -/
def sp (x : ℝ) : ℝ := Real.log (1 + Real.exp x)

theorem sp_real (x : ℝ) : max (x : EReal) 0 + Ideal.log (1 + Ideal.exp (-max (x : EReal) (-(x : EReal)))) = (sp x : EReal) := by
  have e := lr_real x
  rw [zero_sub, zero_sub, EReal.coe_neg, neg_inj] at e
  exact e

theorem sp_neg (x : ℝ) : sp (-x) = sp x - x := by
  unfold sp
  have : 1 + Real.exp x = Real.exp x * (1 + Real.exp (-x)) := by
    rw [mul_add, ← Real.exp_add, add_neg_cancel, Real.exp_zero, mul_one, add_comm]
  rw [this, Real.log_mul (Real.exp_pos x).ne' (by positivity), Real.log_exp]
  ring

theorem halves (x : ℝ) : Real.exp (-x - sp (-x)) + Real.exp (x - sp x) = 1 := by
  have hp : 0 < 1 + Real.exp x := by positivity
  have e : Real.exp (sp x) = 1 + Real.exp x := Real.exp_log hp
  rw [sp_neg, show -x - (sp x - x) = -sp x by ring, Real.exp_sub, Real.exp_neg, e]
  field_simp

theorem neg_coe (x : ℝ) : -(x : EReal) = ((-x : ℝ) : EReal) := (EReal.coe_neg x).symm

/-! ## The scores -/

section Softplus

variable (A B : Vec Ideal S4096x512 .f32)

theorem z_apply (h : Fin 8) (t s : Fin 4096) :
    val_main_v5 (F := Ideal) A B (ix3 h t s) = (∑ d : Fin 64, A (ix2 t (⟨64 * h.val + d.val, by omega⟩ : Fin 512)) * B (ix2 s (⟨64 * h.val + d.val, by omega⟩ : Fin 512)))
      * Ideal.ofBits .f32 0x3E000000#32 := by
  have e : val_main_v5 (F := Ideal) A B (ix3 h t s) = (∑ d : Fin 64, A (ix2 t (⟨h.val * 64 + d.val, by omega⟩ : Fin 512)) * B (ix2 s (⟨h.val * 64 + d.val, by omega⟩ : Fin 512)))
      * Ideal.ofBits .f32 0x3E000000#32 := by pointwise [val_main_v5, val_main_v4, val_main_v3, val_main_v1, val_main_v0, val_main_cst]
  simp only [Nat.mul_comm 64]
  exact e

theorem mask_apply (t s : Fin 4096) : val_main_v11 (F := Ideal) (ix2 t s) = if s.val < t.val then 1#1 else 0#1 := by
  have e : val_main_v11 (F := Ideal) (ix2 t s) = IntOp.cmpi .slt (BitVec.ofNat 32 s.val) (BitVec.ofNat 32 t.val) := by
    pointwise [val_main_v11, val_main_v10, val_main_v9, val_main_v8, val_main_v7, val_main_v6]
  rw [e, WordCmp.cmpi_slt_ofNat (s.isLt.trans (by norm_num)) (t.isLt.trans (by norm_num))]
  by_cases h : s.val < t.val
  · rw [if_pos h, decide_eq_true h]; rfl
  · rw [if_neg h, decide_eq_false h]; rfl

/-- Whether an extended real is infinity, on a real number. -/
theorem not_inf (x : ℝ) : ¬ ((x : EReal) = Ideal.ofBits .f32 0x7F800000#32) := by
  rw [Cert.ConvMath.inf_f32]
  exact EReal.coe_ne_top x

theorem sp0 (y : S8x4096x4096.Idx) (x : ℝ) (hx : val_main_call0_v0 (F := Ideal) A B y = (x : EReal)) :
    val_main_call0_v1_0 (F := Ideal) A B y = (sp x : EReal) := by
  have e : val_main_call0_v1_0 (F := Ideal) A B y = if val_main_call0_v0 (F := Ideal) A B y ≠ val_main_call0_v0 (F := Ideal) A B y then val_main_call0_v0 (F := Ideal) A B y
      else max (val_main_call0_v0 (F := Ideal) A B y) 0 + Ideal.log1p (Ideal.exp (-(FloatOps.absf (F := Ideal) (φ := .f32) (val_main_call0_v0 (F := Ideal) A B y) : EReal))) := by
    pointwise [val_main_call0_v1_0, val_main_call0_call0_v11, val_main_call0_call0_v10, val_main_call0_call0_v9, val_main_call0_call0_v8, val_main_call0_call0_v7,
      val_main_call0_call0_v6, val_main_call0_call0_v5, val_main_call0_call0_v4, val_main_call0_call0_v3, val_main_call0_call0_v2, val_main_call0_call0_v1,
      val_main_call0_call0_v0, val_main_call0_call0_cst]
  rw [e, if_neg (fun h => h rfl), hx, ← sp_real]
  rfl
theorem sp3 (y : S8x4096x4096.Idx) (x : ℝ) (hx : val_main_call3_v0 (F := Ideal) A B y = (x : EReal)) :
    val_main_call3_v1_0 (F := Ideal) A B y = (sp x : EReal) := by
  have e : val_main_call3_v1_0 (F := Ideal) A B y = if val_main_call3_v0 (F := Ideal) A B y ≠ val_main_call3_v0 (F := Ideal) A B y then val_main_call3_v0 (F := Ideal) A B y
      else max (val_main_call3_v0 (F := Ideal) A B y) 0 + Ideal.log1p (Ideal.exp (-(FloatOps.absf (F := Ideal) (φ := .f32) (val_main_call3_v0 (F := Ideal) A B y) : EReal))) := by
    pointwise [val_main_call3_v1_0, val_main_call3_call0_v11, val_main_call3_call0_v10, val_main_call3_call0_v9, val_main_call3_call0_v8, val_main_call3_call0_v7,
      val_main_call3_call0_v6, val_main_call3_call0_v5, val_main_call3_call0_v4, val_main_call3_call0_v3, val_main_call3_call0_v2, val_main_call3_call0_v1,
      val_main_call3_call0_v0, val_main_call3_call0_cst]
  rw [e, if_neg (fun h => h rfl), hx, ← sp_real]
  rfl

theorem sg0 (y : S8x4096x4096.Idx) (x : ℝ) (hx : val_main_call0_v0 (F := Ideal) A B y = (x : EReal)) :
    val_main_v13_1 (F := Ideal) A B y = (Real.exp (x - sp x) : EReal) := by
  have e : val_main_v13_1 (F := Ideal) A B y
      = Ideal.exp ((if val_main_call0_v0 (F := Ideal) A B y = Ideal.ofBits .f32 0x7F800000#32 then 0 else val_main_call0_v0 (F := Ideal) A B y)
        - (if val_main_call0_v1_0 (F := Ideal) A B y = Ideal.ofBits .f32 0x7F800000#32 then 0 else val_main_call0_v1_0 (F := Ideal) A B y)) := by
    pointwise [val_main_v13_1, val_main_call0_call0_v21, val_main_call0_call0_v20, val_main_call0_call0_v19, val_main_call0_call0_v18, val_main_call0_call0_v17,
      val_main_call0_call0_v16, val_main_call0_call0_v15, val_main_call0_call0_v14, val_main_call0_call0_v13, val_main_call0_call0_cst_0, val_main_call0_call0_cst_1,
      val_main_call0_call0_cst_2, val_main_call0_call0_cst_3]
  rw [e, sp0 A B y x hx, hx, if_neg (not_inf x), if_neg (not_inf _), ← EReal.coe_sub, Ideal.exp_coe]
theorem sg3 (y : S8x4096x4096.Idx) (x : ℝ) (hx : val_main_call3_v0 (F := Ideal) A B y = (x : EReal)) :
    val_main_v17_1 (F := Ideal) A B y = (Real.exp (x - sp x) : EReal) := by
  have e : val_main_v17_1 (F := Ideal) A B y
      = Ideal.exp ((if val_main_call3_v0 (F := Ideal) A B y = Ideal.ofBits .f32 0x7F800000#32 then 0 else val_main_call3_v0 (F := Ideal) A B y)
        - (if val_main_call3_v1_0 (F := Ideal) A B y = Ideal.ofBits .f32 0x7F800000#32 then 0 else val_main_call3_v1_0 (F := Ideal) A B y)) := by
    pointwise [val_main_v17_1, val_main_call3_call0_v21, val_main_call3_call0_v20, val_main_call3_call0_v19, val_main_call3_call0_v18, val_main_call3_call0_v17,
      val_main_call3_call0_v16, val_main_call3_call0_v15, val_main_call3_call0_v14, val_main_call3_call0_v13, val_main_call3_call0_cst_0, val_main_call3_call0_cst_1,
      val_main_call3_call0_cst_2, val_main_call3_call0_cst_3]
  rw [e, sp3 A B y x hx, hx, if_neg (not_inf x), if_neg (not_inf _), ← EReal.coe_sub, Ideal.exp_coe]

/-- A mask over the scores: the key before the query, or zero. -/
theorem keep0 (h : Fin 8) (t s : Fin 4096) : val_main_v14_0 (F := Ideal) A B (ix3 h t s)
    = if s.val < t.val then (-(val_main_call0_v1_0 (F := Ideal) A B (ix3 h t s) : EReal)) else 0 := by
  have e : val_main_v14_0 (F := Ideal) A B (ix3 h t s) = Scalar.select (val_main_v11 (F := Ideal) (ix2 t s)) (-(val_main_call0_v1_0 (F := Ideal) A B (ix3 h t s) : EReal)) 0 := by
    pointwise [val_main_v14_0, val_main_v13_0, val_main_v14_1, val_main_call1_v2, val_main_call1_v0, val_main_cst_0, id]
  rw [e, mask_apply]
  split_ifs <;> rfl
theorem keep4 (h : Fin 8) (t s : Fin 4096) : val_main_v20_0 (F := Ideal) A B (ix3 h t s)
    = if s.val < t.val then val_main_v19 (F := Ideal) A B (ix3 h t s) else (0 : EReal) := by
  have e : val_main_v20_0 (F := Ideal) A B (ix3 h t s) = Scalar.select (val_main_v11 (F := Ideal) (ix2 t s)) (val_main_v19 (F := Ideal) A B (ix3 h t s) : EReal) 0 := by
    pointwise [val_main_v20_0, val_main_v20_1, val_main_call4_v2, val_main_call4_v0, val_main_cst_1, id]
  rw [e, mask_apply]
  split_ifs <;> rfl

theorem win0 (h : Fin 8) (t s : Fin 4096) (f : ℕ → ℝ) (hf : ∀ j : Fin 4096, val_main_v14_0 (F := Ideal) A B (ix3 h t j) = (f j.val : EReal)) :
    val_main_v15 (F := Ideal) A B (ix3 h t s) = ((∑ l ∈ range (4096 - s.val), f (s.val + l) : ℝ) : EReal) := by
  have hz : val_main_call2_v0 (F := Ideal) (Shape.Idx.first h_S_) = (0 : EReal) := by pointwise [val_main_call2_v0, val_main_call2_cst]
  rw [coe_sum]
  unfold val_main_v15
  exact (Cert.StickWindow.windowAdd 0 4095 _ _ _ _ hz (fun n => (f n : EReal)) h t s hf).trans (Cert.StickWindow.sum_from (fun n => (f n : EReal)) s.val 4096)

theorem rest (f : ℕ → ℝ) (s : ℕ) (hs : s < 4096) : ∑ l ∈ range (4096 - s), f (s + l) = (∑ j ∈ range 4096, f j) - ∑ j ∈ range s, f j := by
  have e := sum_block s (4096 - s) f
  rw [show s + (4096 - s) = 4096 by omega] at e
  rw [e]
  ring

end Softplus

/-! ## The shares and the gradients -/

section Grad

variable {A B C D : Vec Ideal S4096x512 .f32} {q k v o : ℕ → ℕ → ℝ}
variable (hA : ∀ (r : Fin 4096) (j : Fin 512), A (ix2 r j) = (q r.val j.val : EReal)) (hB : ∀ (r : Fin 4096) (j : Fin 512), B (ix2 r j) = (k r.val j.val : EReal))
variable (hC : ∀ (r : Fin 4096) (j : Fin 512), C (ix2 r j) = (v r.val j.val : EReal)) (hD : ∀ (r : Fin 4096) (j : Fin 512), D (ix2 r j) = (o r.val j.val : EReal))
variable (h : Fin 8) (t s : Fin 4096)
include hA hB

theorem z_ok : val_main_v5 (F := Ideal) A B (ix3 h t s) = (z q k h.val t.val s.val : EReal) := by
  rw [z_apply, Cert.StickState.eighth, z, fin_sum 64 (fun d => q t.val (64 * h.val + d) * k s.val (64 * h.val + d)) _ (fun d => by rw [hA, hB, ← EReal.coe_mul]),
    ← EReal.coe_mul, Finset.sum_mul]
  exact congrArg (fun x : ℝ => (x : EReal)) (Finset.sum_congr rfl fun d _ => by ring)
theorem z0 : val_main_call0_v0 (F := Ideal) A B (ix3 h t s) = (z q k h.val t.val s.val : EReal) := by
  have e : val_main_call0_v0 (F := Ideal) A B (ix3 h t s) = -(-(val_main_v5 (F := Ideal) A B (ix3 h t s) : EReal)) := by
    pointwise [val_main_call0_v0, val_main_v12]
  rw [e, neg_neg, z_ok hA hB]
theorem z3 : val_main_call3_v0 (F := Ideal) A B (ix3 h t s) = ((-z q k h.val t.val s.val : ℝ) : EReal) := by
  have e : val_main_call3_v0 (F := Ideal) A B (ix3 h t s) = -(val_main_v5 (F := Ideal) A B (ix3 h t s) : EReal) := by
    pointwise [val_main_call3_v0]
  rw [e, z_ok hA hB, neg_coe]

theorem lr_ok : val_main_v14_0 (F := Ideal) A B (ix3 h t s) = (lr q k h.val t.val s.val : EReal) := by
  rw [keep0, sp0 A B _ _ (z0 hA hB h t s), lr]
  split_ifs
  · rw [neg_coe]; rfl
  · exact EReal.coe_zero.symm

/-- A share's logarithm, before the mask. -/
def w (q k : ℕ → ℕ → ℝ) (h t s : ℕ) : ℝ :=
  -sp (-z q k h t s) + (((∑ j ∈ range 4096, lr q k h t j) - ∑ j ∈ range s, lr q k h t j) - lr q k h t s)

theorem w_ok : val_main_v19 (F := Ideal) A B (ix3 h t s) = (Real.exp (w q k h.val t.val s.val) : EReal) := by
  have e : val_main_v19 (F := Ideal) A B (ix3 h t s) = Ideal.exp (-(val_main_call3_v1_0 (F := Ideal) A B (ix3 h t s) : EReal)
      + (val_main_v15 (F := Ideal) A B (ix3 h t s) - val_main_v14_0 (F := Ideal) A B (ix3 h t s))) := by
    pointwise [val_main_v19, val_main_v18, val_main_v17_0, val_main_v16]
  rw [e, sp3 A B _ _ (z3 hA hB h t s), lr_ok hA hB, win0 A B h t s (fun j => lr q k h.val t.val j) (fun j => lr_ok hA hB h t j), rest _ _ s.isLt,
    ← EReal.coe_sub, neg_coe, ← EReal.coe_add, Ideal.exp_coe]
  rfl

omit hA hB in
theorem w_below (h t s : ℕ) (hs : s < t) : w q k h t s = z q k h t s + (tot q k h t - ∑ j ∈ range s, lr q k h t j) := by
  have e : lr q k h t s = -sp (z q k h t s) := by rw [lr, if_pos hs]; rfl
  rw [w, tot, e, sp_neg]
  ring

theorem a_ok : val_main_v20_0 (F := Ideal) A B (ix3 h t s) = (a q k h.val t.val s.val : EReal) := by
  rw [keep4, w_ok hA hB, a]
  by_cases hs : s.val < t.val
  · rw [if_pos hs, if_pos hs, w_below _ _ _ hs]
  · rw [if_neg hs, if_neg hs, EReal.coe_zero]

include hC hD

theorem g_ok : val_main_v30 (F := Ideal) A B C D (ix3 h t s) = (g q k v o h.val t.val s.val : EReal) := by
  have e : val_main_v30 (F := Ideal) A B C D (ix3 h t s)
      = Scalar.select (val_main_v11 (F := Ideal) (ix2 t s)) (∑ d : Fin 64, D (ix2 t (⟨h.val * 64 + d.val, by omega⟩ : Fin 512)) * C (ix2 s (⟨h.val * 64 + d.val, by omega⟩ : Fin 512)) : EReal) 0
        * val_main_v19 (F := Ideal) A B (ix3 h t s) := by
    pointwise [val_main_v30, val_main_v29, val_main_v26, val_main_v25, val_main_v24, val_main_v2, val_main_v20_1, val_main_call5_v0, val_main_call5_cst]
  rw [e, mask_apply, w_ok hA hB, g, a, fin_sum 64 (fun d => o t.val (64 * h.val + d) * v s.val (64 * h.val + d)) _ (fun d => by
    rw [hC, hD, ← EReal.coe_mul]; simp only [Nat.mul_comm 64])]
  by_cases hs : s.val < t.val
  · rw [if_pos hs, if_pos hs, w_below _ _ _ hs]
    exact (EReal.coe_mul _ _).symm
  · rw [if_neg hs, if_neg hs, mul_zero, EReal.coe_zero]
    exact zero_mul _

theorem win7 : val_main_v33 (F := Ideal) A B C D (ix3 h t s) = ((∑ j ∈ range (s.val + 1), g q k v o h.val t.val j : ℝ) : EReal) := by
  have hz : val_main_call7_v0 (F := Ideal) (Shape.Idx.first h_S_) = (0 : EReal) := by pointwise [val_main_call7_v0, val_main_call7_cst]
  rw [coe_sum]
  unfold val_main_v33
  exact (Cert.StickWindow.windowAdd 4095 0 _ _ _ _ hz (fun n => (g q k v o h.val t.val n : EReal)) h t s (fun j => g_ok hA hB hC hD h t j)).trans
    (Cert.StickWindow.sum_upto (fun n => (g q k v o h.val t.val n : EReal)) s.val 4095 s.isLt)

theorem dz_ok : val_main_v40 (F := Ideal) A B C D (ix3 h t s) = ((dz q k v o h.val t.val s.val * 0.125 : ℝ) : EReal) := by
  have e : val_main_v40 (F := Ideal) A B C D (ix3 h t s)
      = (-((-(val_main_v30 (F := Ideal) A B C D (ix3 h t s) : EReal)) * val_main_v17_1 (F := Ideal) A B (ix3 h t s))
          + -(-((-(Scalar.select (val_main_v11 (F := Ideal) (ix2 t s)) (-(val_main_v30 (F := Ideal) A B C D (ix3 h t s) : EReal) + val_main_v33 (F := Ideal) A B C D (ix3 h t s)) 0 : EReal))
              * val_main_v13_1 (F := Ideal) A B (ix3 h t s)))) * Ideal.ofBits .f32 0x3E000000#32 := by
    pointwise [val_main_v40, val_main_v39, val_main_cst_2, val_main_v38, val_main_v37, val_main_v36, val_main_call9_v1, val_main_call9_v0, val_main_v35, val_main_v34,
      val_main_v32, val_main_v31, val_main_call6_v1, val_main_call6_v0, val_main_call8_v0, val_main_call8_cst, val_main_v14_1]
  rw [e, mask_apply, g_ok hA hB hC hD, win7 hA hB hC hD, sg3 A B _ _ (z3 hA hB h t s), sg0 A B _ _ (z0 hA hB h t s), Cert.StickState.eighth, dz]
  have hh := halves (z q k h.val t.val s.val)
  by_cases hs : s.val < t.val
  · have el : lr q k h.val t.val s.val = -sp (z q k h.val t.val s.val) := by rw [lr, if_pos hs]; rfl
    rw [if_pos hs, if_pos hs, el]
    show (-((-(g q k v o h.val t.val s.val : EReal)) * _) + -(-((-(-(g q k v o h.val t.val s.val : EReal) + _)) * _))) * _ = _
    simp only [neg_coe, ← EReal.coe_add, ← EReal.coe_mul]
    refine congrArg (fun x : ℝ => (x : EReal)) ?_
    rw [eq_sub_iff_add_eq.2 hh, ← sub_eq_add_neg (z q k h.val t.val s.val)]
    ring
  · have eg : g q k v o h.val t.val s.val = 0 := by rw [g, a, if_neg hs, mul_zero]
    rw [if_neg hs, if_neg hs, eg]
    show (-((-((0 : ℝ) : EReal)) * _) + -(-((-(0 : EReal)) * _))) * _ = _
    simp

/-! ## The three results -/

theorem dq_ok (t : Fin 4096) (c : Fin 512) : val_main_v48 (F := Ideal) A B C D (ix2 t c) = (dq q k v o t.val c.val : EReal) := by
  have e : val_main_v48 (F := Ideal) A B C D (ix2 t c)
      = ∑ s : Fin 4096, val_main_v40 (F := Ideal) A B C D (ix3 (⟨c.val / 64, by omega⟩ : Fin 8) t s) * B (ix2 s c) := by
    pointwise [val_main_v48, val_main_v47, val_main_v44, val_main_v43, val_main_v1]
  rw [e, dq, fin_sum 4096 (fun s => dz q k v o (c.val / 64) t.val s * 0.125 * k s c.val) _ (fun s => by rw [dz_ok hA hB hC hD, hB, ← EReal.coe_mul]), Finset.sum_mul]
  exact congrArg (fun x : ℝ => (x : EReal)) (Finset.sum_congr rfl fun d _ => by ring)
theorem dk_ok (s : Fin 4096) (c : Fin 512) : val_main_v46 (F := Ideal) A B C D (ix2 s c) = (dk q k v o s.val c.val : EReal) := by
  have e : val_main_v46 (F := Ideal) A B C D (ix2 s c)
      = ∑ t : Fin 4096, val_main_v40 (F := Ideal) A B C D (ix3 (⟨c.val / 64, by omega⟩ : Fin 8) t s) * A (ix2 t c) := by
    pointwise [val_main_v46, val_main_v42, val_main_v41, val_main_v0]
  rw [e, dk, fin_sum 4096 (fun t => dz q k v o (c.val / 64) t s.val * 0.125 * q t c.val) _ (fun t => by rw [dz_ok hA hB hC hD, hA, ← EReal.coe_mul])]
  exact congrArg (fun x : ℝ => (x : EReal)) (Finset.sum_congr rfl fun d _ => by ring)
omit hC in
theorem dv_ok (s : Fin 4096) (c : Fin 512) : val_main_v45 (F := Ideal) A B D (ix2 s c) = (dv q k o s.val c.val : EReal) := by
  have e : val_main_v45 (F := Ideal) A B D (ix2 s c)
      = ∑ t : Fin 4096, D (ix2 t c) * val_main_v20_0 (F := Ideal) A B (ix3 (⟨c.val / 64, by omega⟩ : Fin 8) t s) := by
    pointwise [val_main_v45, val_main_v28, val_main_v27, val_main_v25, val_main_v24]
  rw [e, dv, fin_sum 4096 (fun t => o t c.val * a q k (c.val / 64) t s.val) _ (fun t => by rw [a_ok hA hB, hD, ← EReal.coe_mul])]

end Grad

end Cert.StickRef

end
-- ==== Proof.StickClaims.lean ====
/-
  The claims about the stick-breaking attention's gradient: the frames of the three programs and the value claim.
-/
module

public import proofs.«01_k».proof.Defs
public import proofs.«01_k».proof.Proof.Gen.Stick
public import proofs.«01_k».proof.Proof.Gen.Pre_stick_finite
public import proofs.«01_k».proof.Proof.StickRun
public import proofs.«01_k».proof.Proof.StickValue
public import proofs.«01_k».proof.Proof.StickRef
public import proofs.«01_k».proof.Proof.Gen.StickRefIdeal.Run
public import proofs.«01_k».proof.Proof.Gen.StickRefIdeal.Read
public import Idealize.ShloMosaic.Lib.Quiescent

@[expose] public section

set_option maxRecDepth 16384

noncomputable section

open Idealize.ShloMosaic Idealize.SL.Sem

namespace Cert.StickClaims

/-- The frame of the idealized program's text, read on machine words. -/
def Words : Prop :=
  ∀ (m : (ℓ : Loc Cert.StickIdeal.nD Cert.StickIdeal.τ Cert.StickIdeal.sig) → Buf (Elt Bits) ℓ) (g : Dev Cert.StickIdeal.nD → PrngReg), True →
    θ_run (Cert.StickIdeal.defs (F := Bits)) (onTc (τ := Cert.StickIdeal.τ) (Cert.StickIdeal.main (F := Bits))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ r.2.sem = fun _ => 0)

theorem words : Words := fun m ρ _ => Cert.StickRun.frame_all (F := Bits) m ρ
/-- The two printed texts are one program on machine words. -/
theorem same : Words = Cert.quiescent_Stick := by sl_kernel_rfl
theorem frame_p : Cert.quiescent_Stick := same ▸ words
theorem frame_i : Cert.quiescent_StickIdeal := fun m ρ _ => Cert.StickRun.frame_all (F := Ideal) m ρ
theorem frame_r : Cert.quiescent_StickRefIdeal := fun m ρ _ =>
  (θ_run Cert.StickRefIdeal.defs _ _).mono (fun r h => ⟨fun c => (h c).2.2.2,
      Idealize.ShloMosaic.sem_eq_zero_of_no_sems (by decide) r.2⟩) (Cert.StickRefIdeal.Value.run m ρ)
theorem preserves : Cert.preserves_Stick_StickIdeal := trivial
theorem frame_i_pre : Cert.quiescent_StickIdeal_pre_stick_finite := fun m ρ _ => Cert.StickRun.frame_all (F := Ideal) m ρ
theorem frame_r_pre : Cert.quiescent_StickRefIdeal_pre_stick_finite := fun m ρ _ => frame_r m ρ trivial

/-! ## The value -/

/-- The real numbers of an array, by row and column. -/
def reals (A : Vec Ideal (⟨2, ![4096, 512]⟩ : Shape) .f32) (r j : ℕ) : ℝ :=
  if h : r < 4096 ∧ j < 512 then EReal.toReal (A (ix2 (⟨r, h.1⟩ : Fin 4096) (⟨j, h.2⟩ : Fin 512)) : EReal) else 0

theorem reals_of (A : Vec Ideal (⟨2, ![4096, 512]⟩ : Shape) .f32) (hA : ∀ i, Cert.ConvMath.IsReal (A i)) (r : Fin 4096) (j : Fin 512) :
    A (ix2 r j) = (reals A r.val j.val : EReal) := by
  obtain ⟨x, hx⟩ := hA (ix2 r j)
  rw [reals, dif_pos ⟨r.isLt, j.isLt⟩]
  show A (ix2 r j) = (EReal.toReal (A (ix2 r j) : EReal) : EReal)
  rw [hx, EReal.toReal_coe]

/-- Every element of every argument is a real number when the precondition holds. -/
theorem finite (x0 x1 x2 x3 : (⟨2, ![4096, 512]⟩ : Shape).Idx → EReal) (h : Cert.Pre_stick_finite.fn (F := Ideal) x0 x1 x2 x3 = fun _ => 1#1) :
    (∀ i, Cert.ConvMath.IsReal (x0 i)) ∧ (∀ i, Cert.ConvMath.IsReal (x1 i)) ∧ (∀ i, Cert.ConvMath.IsReal (x2 i)) ∧ (∀ i, Cert.ConvMath.IsReal (x3 i)) := by
  have e := congrFun h (fun k => nomatch k)
  dsimp only [Cert.Pre_stick_finite.fn, Cert.Pre_stick_finite.fn_part1] at e
  obtain ⟨e, e3⟩ := Cert.ConvMath.and_one e
  obtain ⟨e, e2⟩ := Cert.ConvMath.and_one e
  obtain ⟨e0, e1⟩ := Cert.ConvMath.and_one e
  haveI : Subsingleton (Cert.Pre_stick_finite.S_).Idx := ⟨fun a b => funext fun k => nomatch k⟩
  exact ⟨fun i => .of_cmp x0 _ i (Host.reduce_andi_all _ _ _ _ _ e0 i), fun i => .of_cmp x1 _ i (Host.reduce_andi_all _ _ _ _ _ e1 i),
    fun i => .of_cmp x2 _ i (Host.reduce_andi_all _ _ _ _ _ e2 i), fun i => .of_cmp x3 _ i (Host.reduce_andi_all _ _ _ _ _ e3 i)⟩

section Value

open Cert.StickIdeal Cert.StickIdeal.Gen Cert.StickHost Cert.StickRun Idealize.ShloMosaic.TcCoe

variable (m : (ℓ : Loc nD τ sig) → Buf (Elt Ideal) ℓ) (g : Dev nD → PrngReg)
variable (q k v o : Dev nD → ℕ → ℕ → ℝ)
variable (hq : ∀ c, Of (aQ m c) (q c)) (hk : ∀ c, Of (aK m c) (k c)) (hv : ∀ c, Of (aV m c) (v c)) (ho : ∀ c, Of (aO m c) (o c))
include hq hk hv ho

/-- The kernel's run, its three result arrays named. -/
theorem run : θ_run defs (onTc (τ := τ) (main (F := Ideal))) ⟨m, fun _ => 0, g⟩ fun r => ∀ c : Dev nD,
      r.2.mem ((c.tc : Thread nD τ).loc main_v32_0) = Cert.StickValue.rQ (q c) (k c) (v c) (o c)
      ∧ r.2.mem ((c.tc : Thread nD τ).loc main_v34) = Cert.StickValue.rK (q c) (k c) (v c) (o c)
      ∧ r.2.mem ((c.tc : Thread nD τ).loc main_v36) = Cert.StickValue.rV (q c) (k c) (o c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 8).trans (Cert.StickValue.arr8 (hq c) (hk c) (hv c) (ho c)),
      ((h c).2 main_v34 (Pipeline.mem_restRefs_of main_v34 (by decide) (by decide))).trans (Cert.StickValue.res_K (hq c) (hk c) (hv c) (ho c)),
      ((h c).2 main_v36 (Pipeline.mem_restRefs_of main_v36 (by decide) (by decide))).trans (Cert.StickValue.res_V (hq c) (hk c) (hv c) (ho c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m g)

end Value

section Reference

variable (A B C D : Vec Ideal (⟨2, ![4096, 512]⟩ : Shape) .f32) {q k v o : ℕ → ℕ → ℝ}
variable (hA : ∀ (r : Fin 4096) (j : Fin 512), A (ix2 r j) = (q r.val j.val : EReal)) (hB : ∀ (r : Fin 4096) (j : Fin 512), B (ix2 r j) = (k r.val j.val : EReal))
variable (hC : ∀ (r : Fin 4096) (j : Fin 512), C (ix2 r j) = (v r.val j.val : EReal)) (hD : ∀ (r : Fin 4096) (j : Fin 512), D (ix2 r j) = (o r.val j.val : EReal))
include hA hB hC hD

theorem ref_q : Cert.StickRefIdeal.Read.val_main_v48 (F := Ideal) A B C D = Cert.StickValue.rQ q k v o := by
  funext y
  idx_vars y
  exact Cert.StickRef.dq_ok hA hB hC hD y0 y1
theorem ref_k : Cert.StickRefIdeal.Read.val_main_v46 (F := Ideal) A B C D = Cert.StickValue.rK q k v o := by
  funext y
  idx_vars y
  exact Cert.StickRef.dk_ok hA hB hC hD y0 y1
omit hC in
theorem ref_v : Cert.StickRefIdeal.Read.val_main_v45 (F := Ideal) A B D = Cert.StickValue.rV q k o := by
  funext y
  idx_vars y
  exact Cert.StickRef.dv_ok hA hB hD y0 y1

end Reference

/-- Both programs end with the specification's three arrays. -/
theorem value : Cert.algebraic_StickIdeal_StickRefIdeal_pre_stick_finite := by
  intro m g m' g' hp ha
  have hr := fun c => finite _ _ _ _ (hp c)
  have hq := fun c => reals_of _ (hr c).1
  have hk := fun c => reals_of _ (hr c).2.1
  have hv := fun c => reals_of _ (hr c).2.2.1
  have ho := fun c => reals_of _ (hr c).2.2.2
  refine ⟨_, _, _, run m g _ _ _ _ hq hk hv ho, (θ_run Cert.StickRefIdeal.defs _ _).mono (fun r h c => ?_) (Cert.StickRefIdeal.Value.run m' g')⟩
  obtain ⟨a0, a1, a2, a3⟩ := ha c
  have h' := h c
  rw [Cert.StickRefIdeal.Read.val_main_v48_eq, Cert.StickRefIdeal.Read.val_main_v46_eq, Cert.StickRefIdeal.Read.val_main_v45_eq] at h'
  rw [a0, a1, a2, a3] at h' ⊢
  rw [ref_q _ _ _ _ (hq c) (hk c) (hv c) (ho c), ref_k _ _ _ _ (hq c) (hk c) (hv c) (ho c), ref_v _ _ _ (hq c) (hk c) (ho c)] at h'
  exact h'

end Cert.StickClaims
-- ==== Proof.DownDwClaims.lean ====
/-
  The claims about the gradient of the down projection to its weight: the frames of the three programs and the value claim.
-/
module

public import proofs.«01_k».proof.Defs
public import proofs.«01_k».proof.Proof.Gen.DownDw
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.DownDwClaims

theorem frame_p : Cert.quiescent_DownDw := fun m ρ _ => Cert.DownDw.Gen.frame m ρ
theorem frame_i : Cert.quiescent_DownDwIdeal := fun m ρ _ => Cert.DownDwIdeal.Gen.frame m ρ
theorem frame_r : Cert.quiescent_DownDwRefIdeal := fun m ρ _ =>
  (θ_run Cert.DownDwRefIdeal.defs _ _).mono (fun r h => ⟨fun c => (h c).2,
      Idealize.ShloMosaic.sem_eq_zero_of_no_sems (by decide) r.2⟩) (Cert.DownDwRefIdeal.Value.run m ρ)
theorem preserves : Cert.preserves_DownDw_DownDwIdeal := trivial

section
open Cert.DownDwRefIdeal Cert.DownDwRefIdeal.Read

/-- The gradient: the sum over the tokens. -/
def G (A : (⟨S4096x5632, .bf16⟩ : BufTy).Contents (Elt Ideal)) (B : (⟨S4096x2048, .bf16⟩ : BufTy).Contents (Elt Ideal)) :
    (⟨S5632x2048, .bf16⟩ : BufTy).Contents (Elt Ideal) :=
  fun y => ((∑ s : Fin 4096, A (ix2 s (y 0)) * B (ix2 s (y 1)) : EReal) : EReal)

theorem reference (A : (⟨S4096x5632, .bf16⟩ : BufTy).Contents (Elt Ideal)) (B : (⟨S4096x2048, .bf16⟩ : BufTy).Contents (Elt Ideal)) :
    val_main_v6 (F := Ideal) A B = G A B := by
  funext y
  idx_vars y
  have e : val_main_v6 (F := Ideal) A B (ix2 y0 y1) = ∑ s : Fin 4096, B (ix2 s y1) * A (ix2 s y0) := by
    pointwise [val_main_v6, val_main_v5, val_main_v4, val_main_v3, val_main_v2, val_main_cst, val_main_v1, val_main_v0]
  refine e.trans ?_
  exact Finset.sum_congr rfl fun s _ => mul_comm _ _

end

section
open Cert.DownDwIdeal Cert.DownDwIdeal.Gen

variable (m : (ℓ : Loc nD τ sig) → Buf (Elt Ideal) ℓ) (c : Dev nD)

abbrev aA := m ((c : Thread nD τ).loc main_arg0)
abbrev aB := m ((c : Thread nD τ).loc main_arg1)

theorem zero_apply (j : S1408x2048.Idx) : k0_pay1 (F := Ideal) j = 0 := by pointwise [k0_pay1]
theorem step_apply (x : Vec Ideal S1408x2048 .f32) (u : Vec Ideal S1024x1408 .bf16) (v : Vec Ideal S1024x2048 .bf16) (j : S1408x2048.Idx) :
    k0_pay2 x u v j = x j + ∑ k : Fin 1024, u (ix2 k (j 0)) * v (ix2 k (j 1)) := by
  idx_vars j
  pointwise [k0_pay2]
theorem last_apply (x : Vec Ideal S1408x2048 .f32) (j : S1408x2048.Idx) : k0_pay3 (F := Ideal) x j = x j := by
  pointwise [k0_pay3]

theorem idx : ∀ t : Fin cfg0.N, win0_0.index t = ![t.val % 4, t.val / 4] ∧ win0_1.index t = ![t.val % 4, 0]
    ∧ win0_2.index t = ![t.val / 4, 0] := (by decide +kernel : ∀ t : Fin grid0.N, _)

theorem row_lt (t : Fin cfg0.N) (r : Fin 1408) : t.val / 4 * 1408 + r.val < 5632 := by
  have := t.isLt; have h : cfg0.N = 16 := N_0; omega
theorem col_lt (t : Fin cfg0.N) (r : Fin 2048) : 0 * 2048 + r.val < 2048 := by
  have := t.isLt; have h : cfg0.N = 16 := N_0; omega

theorem final : (dats m 0 c).arrAt 2 cfg0.N = G (aA m c) (aB m c) := by
  refine (dats m 0 c).arrAt_eq_of_covers 2 _ (by decide +kernel) fun t hf y => ?_
  blk_simp
  idx_vars y
  have e : G (aA m c) (aB m c) (((View.whole main_v0).slice (win0_2.rect t)).emb (ix2 y0 y1))
      = G (aA m c) (aB m c) (ix2 ⟨t.val / 4 * 1408 + y0.val, row_lt t y0⟩ ⟨0 * 2048 + y1.val, col_lt t y1⟩) := by
    refine congrArg (G (aA m c) (aB m c)) ?_
    blk_ext [idx t]
  rw [e]
  clear e
  rw [after0_2]
  have h1 : t.val % 4 = 3 := (flush0_2 t).mp hf
  have h0 : ¬ t.val % 4 = 0 := by omega
  have e : (outsAt0 m c t.val t.isLt).1 (ix2 y0 y1) = (outsAt0 m c t.val t.isLt).2 (ix2 y0 y1) := by
    rw [outsAt0_C m c t h0 h1]
    dsimp only
    frame_out
    rw [last_apply]
  refine e.trans ?_
  rw [Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h' : t.val % 4 = 3
      · rw [outsAt0_C m c t h h']; frame_out; rw [step_apply]; exact congrArg (fun x : EReal => x + _) (congrFun (Memref.IsWhole.read_unread _ _) j)
      · rw [outsAt0_B m c t h h']; frame_out; rw [step_apply]; exact congrArg (fun x : EReal => x + _) (congrFun (Memref.IsWhole.read_unread _ _) j))
    t h1 _, zero_add]
  unfold G
  refine Fin.sum_mul_add_congr fun s k hl => ?_
  have ht := t.isLt
  have hN : cfg0.N = 16 := N_0
  have e0 : iblk m c 0 ⟨4 * (t.val / 4) + s.val, Pipeline.run_point_lt_of_flush t h1 s⟩ (ix2 k y0)
      = aA m c (ix2 ⟨s.val * 1024 + k.val, hl⟩ ⟨t.val / 4 * 1408 + y0.val, row_lt t y0⟩) := by
    blk_ext [iblk, V, idx t, idx ⟨_, Pipeline.run_point_lt_of_flush t h1 s⟩]
  have e1 : iblk m c 1 ⟨4 * (t.val / 4) + s.val, Pipeline.run_point_lt_of_flush t h1 s⟩ (ix2 k y1)
      = aB m c (ix2 ⟨s.val * 1024 + k.val, hl⟩ ⟨0 * 2048 + y1.val, col_lt t y1⟩) := by
    blk_ext [iblk, V, idx t, idx ⟨_, Pipeline.run_point_lt_of_flush t h1 s⟩]
  exact congrArg₂ (fun x y : EReal => x * y) e0 e1

end

/-- Both programs end with the gradient. -/
theorem value : Cert.algebraic_DownDwIdeal_DownDwRefIdeal := by
  intro m g m' g' _ ha
  refine ⟨fun c => G (aA m c) (aB m c), (θ_run Cert.DownDwIdeal.defs _ _).mono (fun r h c => ?_) (Cert.DownDwIdeal.Value.run m g),
    (θ_run Cert.DownDwRefIdeal.defs _ _).mono (fun r h c => ?_) (Cert.DownDwRefIdeal.Value.run m' g')⟩
  · exact ⟨(h c).1.trans ((Cert.DownDwIdeal.Value.final2 m c).symm.trans (final m c)), (h c).2⟩
  · obtain ⟨a0, a1⟩ := ha c
    have h' := h c
    rw [Cert.DownDwRefIdeal.Read.val_main_v6_eq, a0, a1] at h'
    rw [a0, a1]
    exact ⟨h'.1.trans (reference _ _), h'.2⟩

end Cert.DownDwClaims
-- ==== Proof.DownDxClaims.lean ====
/-
  The claims about the gradient of the down projection to its input: the frames of the three programs and the value claim.
-/
module

public import proofs.«01_k».proof.Defs
public import proofs.«01_k».proof.Proof.Gen.DownDx
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.DownDxRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.DownDxClaims

theorem frame_p : Cert.quiescent_DownDx := fun m ρ _ => Cert.DownDx.Gen.frame m ρ
theorem frame_i : Cert.quiescent_DownDxIdeal := fun m ρ _ => Cert.DownDxIdeal.Gen.frame m ρ
theorem frame_r : Cert.quiescent_DownDxRefIdeal := fun m ρ _ =>
  (θ_run Cert.DownDxRefIdeal.defs _ _).mono (fun r h => ⟨fun c => (h c).2,
      Idealize.ShloMosaic.sem_eq_zero_of_no_sems (by decide) r.2⟩) (Cert.DownDxRefIdeal.Value.run m ρ)
theorem preserves : Cert.preserves_DownDx_DownDxIdeal := trivial

section
open Cert.DownDxRefIdeal Cert.DownDxRefIdeal.Read

/-- The gradient: the sum over the features. -/
def G (A : (⟨S4096x2048, .bf16⟩ : BufTy).Contents (Elt Ideal)) (B : (⟨S5632x2048, .bf16⟩ : BufTy).Contents (Elt Ideal)) :
    (⟨S4096x5632, .f32⟩ : BufTy).Contents (Elt Ideal) :=
  fun y => ((∑ s : Fin 2048, A (ix2 (y 0) s) * B (ix2 (y 1) s) : EReal) : EReal)

theorem reference (A : (⟨S4096x2048, .bf16⟩ : BufTy).Contents (Elt Ideal)) (B : (⟨S5632x2048, .bf16⟩ : BufTy).Contents (Elt Ideal)) :
    val_main_v4 (F := Ideal) A B = G A B := by
  funext y
  idx_vars y
  have e : val_main_v4 (F := Ideal) A B (ix2 y0 y1) = ∑ s : Fin 2048, A (ix2 y0 s) * B (ix2 y1 s) := by
    pointwise [val_main_v4, val_main_v3, val_main_v2, val_main_cst, val_main_v1, val_main_v0]
  refine e.trans ?_
  rfl

end

section
open Cert.DownDxIdeal Cert.DownDxIdeal.Gen

variable (m : (ℓ : Loc nD τ sig) → Buf (Elt Ideal) ℓ) (c : Dev nD)

abbrev aA := m ((c : Thread nD τ).loc main_arg0)
abbrev aB := m ((c : Thread nD τ).loc main_arg1)

theorem zero_apply (j : S1024x1408.Idx) : k0_pay1 (F := Ideal) j = 0 := by pointwise [k0_pay1]
theorem step_apply (x : Vec Ideal S1024x1408 .f32) (u : Vec Ideal S1024x2048 .bf16) (v : Vec Ideal S1408x2048 .bf16) (j : S1024x1408.Idx) :
    k0_pay2 x u v j = x j + ∑ k : Fin 2048, u (ix2 (j 0) k) * v (ix2 (j 1) k) := by
  idx_vars j
  pointwise [k0_pay2]

theorem idx : ∀ t : Fin cfg0.N, win0_0.index t = ![t.val / 4, 0] ∧ win0_1.index t = ![t.val % 4, 0]
    ∧ win0_2.index t = ![t.val / 4, t.val % 4] := (by decide +kernel : ∀ t : Fin grid0.N, _)

theorem row_lt (t : Fin cfg0.N) (r : Fin 1024) : t.val / 4 * 1024 + r.val < 4096 := by
  have := t.isLt; have h : cfg0.N = 16 := N_0; omega
theorem col_lt (t : Fin cfg0.N) (r : Fin 1408) : t.val % 4 * 1408 + r.val < 5632 := by
  have := t.isLt; have h : cfg0.N = 16 := N_0; omega

theorem final : (dats m 0 c).arrAt 2 cfg0.N = G (aA m c) (aB m c) := by
  refine (dats m 0 c).arrAt_eq_of_covers 2 _ (by decide +kernel) fun t hf y => ?_
  blk_simp
  idx_vars y
  have e : G (aA m c) (aB m c) (((View.whole main_v0).slice (win0_2.rect t)).emb (ix2 y0 y1))
      = G (aA m c) (aB m c) (ix2 ⟨t.val / 4 * 1024 + y0.val, row_lt t y0⟩ ⟨t.val % 4 * 1408 + y1.val, col_lt t y1⟩) := by
    refine congrArg (G (aA m c) (aB m c)) ?_
    blk_ext [idx t]
  rw [e]
  clear e
  rw [after0_2]
  unfold Gen.outsAt0
  frame_out
  rw [step_apply, zero_apply, zero_add]
  unfold G
  refine Fin.sum_fin_congr fun s => ?_
  have e0 : iblk m c 0 t (ix2 y0 s) = aA m c (ix2 ⟨t.val / 4 * 1024 + y0.val, row_lt t y0⟩ s) := by
    blk_ext [iblk, V, idx t]
  have e1 : iblk m c 1 t (ix2 y1 s) = aB m c (ix2 ⟨t.val % 4 * 1408 + y1.val, col_lt t y1⟩ s) := by
    blk_ext [iblk, V, idx t]
  exact congrArg₂ (fun x y : EReal => x * y) e0 e1

end

/-- Both programs end with the gradient. -/
theorem value : Cert.algebraic_DownDxIdeal_DownDxRefIdeal := by
  intro m g m' g' _ ha
  refine ⟨fun c => G (aA m c) (aB m c), (θ_run Cert.DownDxIdeal.defs _ _).mono (fun r h c => ?_) (Cert.DownDxIdeal.Value.run_blocks m g),
    (θ_run Cert.DownDxRefIdeal.defs _ _).mono (fun r h c => ?_) (Cert.DownDxRefIdeal.Value.run m' g')⟩
  · exact ⟨(h c).1.trans (final m c), (h c).2⟩
  · obtain ⟨a0, a1⟩ := ha c
    have h' := h c
    rw [Cert.DownDxRefIdeal.Read.val_main_v4_eq, a0, a1] at h'
    rw [a0, a1]
    exact ⟨h'.1.trans (reference _ _), h'.2⟩

end Cert.DownDxClaims
-- ==== Proof.UpDwClaims.lean ====
/-
  The claims about the gradient of the up projection to its weight: the frames of the three programs and the value claim.
-/
module

public import proofs.«01_k».proof.Defs
public import proofs.«01_k».proof.Proof.Gen.UpDw
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.UpDwClaims

theorem frame_p : Cert.quiescent_UpDw := fun m ρ _ => Cert.UpDw.Gen.frame m ρ
theorem frame_i : Cert.quiescent_UpDwIdeal := fun m ρ _ => Cert.UpDwIdeal.Gen.frame m ρ
theorem frame_r : Cert.quiescent_UpDwRefIdeal := fun m ρ _ =>
  (θ_run Cert.UpDwRefIdeal.defs _ _).mono (fun r h => ⟨fun c => (h c).2,
      Idealize.ShloMosaic.sem_eq_zero_of_no_sems (by decide) r.2⟩) (Cert.UpDwRefIdeal.Value.run m ρ)
theorem preserves : Cert.preserves_UpDw_UpDwIdeal := trivial

section
open Cert.UpDwRefIdeal Cert.UpDwRefIdeal.Read

/-- The gradient: the sum over the tokens. -/
def G (A : (⟨S4096x11264, .bf16⟩ : BufTy).Contents (Elt Ideal)) (B : (⟨S4096x2048, .bf16⟩ : BufTy).Contents (Elt Ideal)) :
    (⟨S11264x2048, .bf16⟩ : BufTy).Contents (Elt Ideal) :=
  fun y => ((∑ s : Fin 4096, A (ix2 s (y 0)) * B (ix2 s (y 1)) : EReal) : EReal)

theorem reference (A : (⟨S4096x11264, .bf16⟩ : BufTy).Contents (Elt Ideal)) (B : (⟨S4096x2048, .bf16⟩ : BufTy).Contents (Elt Ideal)) :
    val_main_v7 (F := Ideal) A B = G A B := by
  funext y
  idx_vars y
  have e : val_main_v7 (F := Ideal) A B (ix2 y0 y1) = ∑ s : Fin 4096, A (ix2 s y0) * B (ix2 s y1) := by
    pointwise [val_main_v7, val_main_v6, val_main_v5, val_main_v4, val_main_v3, val_main_v2, val_main_cst, val_main_v1, val_main_v0]
  refine e.trans ?_
  rfl

end

section
open Cert.UpDwIdeal Cert.UpDwIdeal.Gen

variable (m : (ℓ : Loc nD τ sig) → Buf (Elt Ideal) ℓ) (c : Dev nD)

abbrev aA := m ((c : Thread nD τ).loc main_arg0)
abbrev aB := m ((c : Thread nD τ).loc main_arg1)

theorem zero_apply (j : S1408x2048.Idx) : k0_pay1 (F := Ideal) j = 0 := by pointwise [k0_pay1]
theorem step_apply (x : Vec Ideal S1408x2048 .f32) (u : Vec Ideal S1024x1408 .bf16) (v : Vec Ideal S1024x2048 .bf16) (j : S1408x2048.Idx) :
    k0_pay2 x u v j = x j + ∑ k : Fin 1024, u (ix2 k (j 0)) * v (ix2 k (j 1)) := by
  idx_vars j
  pointwise [k0_pay2]
theorem last_apply (x : Vec Ideal S1408x2048 .f32) (j : S1408x2048.Idx) : k0_pay3 (F := Ideal) x j = x j := by
  pointwise [k0_pay3]

theorem idx : ∀ t : Fin cfg0.N, win0_0.index t = ![t.val % 4, t.val / 4] ∧ win0_1.index t = ![t.val % 4, 0]
    ∧ win0_2.index t = ![t.val / 4, 0] := (by decide +kernel : ∀ t : Fin grid0.N, _)

theorem row_lt (t : Fin cfg0.N) (r : Fin 1408) : t.val / 4 * 1408 + r.val < 11264 := by
  have := t.isLt; have h : cfg0.N = 32 := N_0; omega
theorem col_lt (t : Fin cfg0.N) (r : Fin 2048) : 0 * 2048 + r.val < 2048 := by
  have := t.isLt; have h : cfg0.N = 32 := N_0; omega

theorem final : (dats m 0 c).arrAt 2 cfg0.N = G (aA m c) (aB m c) := by
  refine (dats m 0 c).arrAt_eq_of_covers 2 _ (by decide +kernel) fun t hf y => ?_
  blk_simp
  idx_vars y
  have e : G (aA m c) (aB m c) (((View.whole main_v0).slice (win0_2.rect t)).emb (ix2 y0 y1))
      = G (aA m c) (aB m c) (ix2 ⟨t.val / 4 * 1408 + y0.val, row_lt t y0⟩ ⟨0 * 2048 + y1.val, col_lt t y1⟩) := by
    refine congrArg (G (aA m c) (aB m c)) ?_
    blk_ext [idx t]
  rw [e]
  clear e
  rw [after0_2]
  have h1 : t.val % 4 = 3 := (flush0_2 t).mp hf
  have h0 : ¬ t.val % 4 = 0 := by omega
  have e : (outsAt0 m c t.val t.isLt).1 (ix2 y0 y1) = (outsAt0 m c t.val t.isLt).2 (ix2 y0 y1) := by
    rw [outsAt0_C m c t h0 h1]
    dsimp only
    frame_out
    rw [last_apply]
  refine e.trans ?_
  rw [Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h' : t.val % 4 = 3
      · rw [outsAt0_C m c t h h']; frame_out; rw [step_apply]; exact congrArg (fun x : EReal => x + _) (congrFun (Memref.IsWhole.read_unread _ _) j)
      · rw [outsAt0_B m c t h h']; frame_out; rw [step_apply]; exact congrArg (fun x : EReal => x + _) (congrFun (Memref.IsWhole.read_unread _ _) j))
    t h1 _, zero_add]
  unfold G
  refine Fin.sum_mul_add_congr fun s k hl => ?_
  have ht := t.isLt
  have hN : cfg0.N = 32 := N_0
  have e0 : iblk m c 0 ⟨4 * (t.val / 4) + s.val, Pipeline.run_point_lt_of_flush t h1 s⟩ (ix2 k y0)
      = aA m c (ix2 ⟨s.val * 1024 + k.val, hl⟩ ⟨t.val / 4 * 1408 + y0.val, row_lt t y0⟩) := by
    blk_ext [iblk, V, idx t, idx ⟨_, Pipeline.run_point_lt_of_flush t h1 s⟩]
  have e1 : iblk m c 1 ⟨4 * (t.val / 4) + s.val, Pipeline.run_point_lt_of_flush t h1 s⟩ (ix2 k y1)
      = aB m c (ix2 ⟨s.val * 1024 + k.val, hl⟩ ⟨0 * 2048 + y1.val, col_lt t y1⟩) := by
    blk_ext [iblk, V, idx t, idx ⟨_, Pipeline.run_point_lt_of_flush t h1 s⟩]
  exact congrArg₂ (fun x y : EReal => x * y) e0 e1

end

/-- Both programs end with the gradient. -/
theorem value : Cert.algebraic_UpDwIdeal_UpDwRefIdeal := by
  intro m g m' g' _ ha
  refine ⟨fun c => G (aA m c) (aB m c), (θ_run Cert.UpDwIdeal.defs _ _).mono (fun r h c => ?_) (Cert.UpDwIdeal.Value.run m g),
    (θ_run Cert.UpDwRefIdeal.defs _ _).mono (fun r h c => ?_) (Cert.UpDwRefIdeal.Value.run m' g')⟩
  · exact ⟨(h c).1.trans ((Cert.UpDwIdeal.Value.final2 m c).symm.trans (final m c)), (h c).2⟩
  · obtain ⟨a0, a1⟩ := ha c
    have h' := h c
    rw [Cert.UpDwRefIdeal.Read.val_main_v7_eq, a0, a1] at h'
    rw [a0, a1]
    exact ⟨h'.1.trans (reference _ _), h'.2⟩

end Cert.UpDwClaims
-- ==== Proof.UpDxClaims.lean ====
/-
  The claims about the gradient of the up projection to its input: the frames of the three programs and the value claim.
-/
module

public import proofs.«01_k».proof.Defs
public import proofs.«01_k».proof.Proof.Gen.UpDx
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.UpDxClaims

theorem frame_p : Cert.quiescent_UpDx := fun m ρ _ => Cert.UpDx.Gen.frame m ρ
theorem frame_i : Cert.quiescent_UpDxIdeal := fun m ρ _ => Cert.UpDxIdeal.Gen.frame m ρ
theorem frame_r : Cert.quiescent_UpDxRefIdeal := fun m ρ _ =>
  (θ_run Cert.UpDxRefIdeal.defs _ _).mono (fun r h => ⟨fun c => (h c).2,
      Idealize.ShloMosaic.sem_eq_zero_of_no_sems (by decide) r.2⟩) (Cert.UpDxRefIdeal.Value.run m ρ)
theorem preserves : Cert.preserves_UpDx_UpDxIdeal := trivial

section
open Cert.UpDxRefIdeal Cert.UpDxRefIdeal.Read

/-- The gradient: the sum over the features. -/
def G (A : (⟨S4096x11264, .bf16⟩ : BufTy).Contents (Elt Ideal)) (B : (⟨S11264x2048, .bf16⟩ : BufTy).Contents (Elt Ideal)) :
    (⟨S4096x2048, .f32⟩ : BufTy).Contents (Elt Ideal) :=
  fun y => ((∑ s : Fin 11264, A (ix2 (y 0) s) * B (ix2 s (y 1)) : EReal) : EReal)

theorem reference (A : (⟨S4096x11264, .bf16⟩ : BufTy).Contents (Elt Ideal)) (B : (⟨S11264x2048, .bf16⟩ : BufTy).Contents (Elt Ideal)) :
    val_main_v5 (F := Ideal) A B = G A B := by
  funext y
  idx_vars y
  have e : val_main_v5 (F := Ideal) A B (ix2 y0 y1) = ∑ s : Fin 11264, A (ix2 y0 s) * B (ix2 s y1) := by
    pointwise [val_main_v5, val_main_v4, val_main_v3, val_main_cst, val_main_v2, val_main_v1, val_main_v0]
  refine e.trans ?_
  rfl

end

section
open Cert.UpDxIdeal Cert.UpDxIdeal.Gen

variable (m : (ℓ : Loc nD τ sig) → Buf (Elt Ideal) ℓ) (c : Dev nD)

abbrev aA := m ((c : Thread nD τ).loc main_arg0)
abbrev aB := m ((c : Thread nD τ).loc main_arg1)

theorem zero_apply (j : S1024x2048.Idx) : k0_pay1 (F := Ideal) j = 0 := by pointwise [k0_pay1]
theorem step_apply (x : Vec Ideal S1024x2048 .f32) (u : Vec Ideal S1024x1024 .bf16) (v : Vec Ideal S1024x2048 .bf16) (j : S1024x2048.Idx) :
    k0_pay2 x u v j = x j + ∑ k : Fin 1024, u (ix2 (j 0) k) * v (ix2 k (j 1)) := by
  idx_vars j
  pointwise [k0_pay2]

theorem idx : ∀ t : Fin cfg0.N, win0_0.index t = ![t.val / 11, t.val % 11] ∧ win0_1.index t = ![t.val % 11, 0]
    ∧ win0_2.index t = ![t.val / 11, 0] := (by decide +kernel : ∀ t : Fin grid0.N, _)

theorem row_lt (t : Fin cfg0.N) (r : Fin 1024) : t.val / 11 * 1024 + r.val < 4096 := by
  have := t.isLt; have h : cfg0.N = 44 := N_0; omega
theorem col_lt (t : Fin cfg0.N) (r : Fin 2048) : 0 * 2048 + r.val < 2048 := by
  have := t.isLt; have h : cfg0.N = 44 := N_0; omega

theorem final : (dats m 0 c).arrAt 2 cfg0.N = G (aA m c) (aB m c) := by
  refine (dats m 0 c).arrAt_eq_of_covers 2 _ (by decide +kernel) fun t hf y => ?_
  blk_simp
  idx_vars y
  have e : G (aA m c) (aB m c) (((View.whole main_v0).slice (win0_2.rect t)).emb (ix2 y0 y1))
      = G (aA m c) (aB m c) (ix2 ⟨t.val / 11 * 1024 + y0.val, row_lt t y0⟩ ⟨0 * 2048 + y1.val, col_lt t y1⟩) := by
    refine congrArg (G (aA m c) (aB m c)) ?_
    blk_ext [idx t]
  rw [e]
  clear e
  rw [after0_2]
  have h1 : t.val % 11 = 10 := (flush0_2 t).mp hf
  have h0 : ¬ t.val % 11 = 0 := by omega
  have e : (outsAt0 m c t.val t.isLt).1 (ix2 y0 y1) = (outsAt0 m c t.val t.isLt).2 (ix2 y0 y1) := by
    rw [outsAt0_C m c t h0 h1]
    dsimp only
    frame_out

  refine e.trans ?_
  rw [Pipeline.eq_sum_fin_of_reset_step_apply_of_flush (fun n h => (outsAt0 m c n h).2) 11 (fun _ => 0) _
    (fun t h j => by rw [outsAt0_A m c t h (by omega)]; frame_out; rw [step_apply, zero_apply])
    (fun t h j => by
      by_cases h' : t.val % 11 = 10
      · rw [outsAt0_C m c t h h']; frame_out; rw [step_apply]; exact congrArg (fun x : EReal => x + _) (congrFun (Memref.IsWhole.read_unread _ _) j)
      · rw [outsAt0_B m c t h h']; frame_out; rw [step_apply]; exact congrArg (fun x : EReal => x + _) (congrFun (Memref.IsWhole.read_unread _ _) j))
    t h1 _, zero_add]
  unfold G
  refine Fin.sum_mul_add_congr fun s k hl => ?_
  have ht := t.isLt
  have hN : cfg0.N = 44 := N_0
  have e0 : iblk m c 0 ⟨11 * (t.val / 11) + s.val, Pipeline.run_point_lt_of_flush t h1 s⟩ (ix2 y0 k)
      = aA m c (ix2 ⟨t.val / 11 * 1024 + y0.val, row_lt t y0⟩ ⟨s.val * 1024 + k.val, hl⟩) := by
    blk_ext [iblk, V, idx t, idx ⟨_, Pipeline.run_point_lt_of_flush t h1 s⟩]
  have e1 : iblk m c 1 ⟨11 * (t.val / 11) + s.val, Pipeline.run_point_lt_of_flush t h1 s⟩ (ix2 k y1)
      = aB m c (ix2 ⟨s.val * 1024 + k.val, hl⟩ ⟨0 * 2048 + y1.val, col_lt t y1⟩) := by
    blk_ext [iblk, V, idx t, idx ⟨_, Pipeline.run_point_lt_of_flush t h1 s⟩]
  exact congrArg₂ (fun x y : EReal => x * y) e0 e1

end

/-- Both programs end with the gradient. -/
theorem value : Cert.algebraic_UpDxIdeal_UpDxRefIdeal := by
  intro m g m' g' _ ha
  refine ⟨fun c => G (aA m c) (aB m c), (θ_run Cert.UpDxIdeal.defs _ _).mono (fun r h c => ?_) (Cert.UpDxIdeal.Value.run m g),
    (θ_run Cert.UpDxRefIdeal.defs _ _).mono (fun r h c => ?_) (Cert.UpDxRefIdeal.Value.run m' g')⟩
  · exact ⟨(h c).1.trans ((Cert.UpDxIdeal.Value.final2 m c).symm.trans (final m c)), (h c).2⟩
  · obtain ⟨a0, a1⟩ := ha c
    have h' := h c
    rw [Cert.UpDxRefIdeal.Read.val_main_v5_eq, a0, a1] at h'
    rw [a0, a1]
    exact ⟨h'.1.trans (reference _ _), h'.2⟩

end Cert.UpDxClaims
-- ==== Proof.OutDwClaims.lean ====
/-
  The claims about the gradient of the output projection to its weight: the frames of the three programs and the value claim.
-/
module

public import proofs.«01_k».proof.Defs
public import proofs.«01_k».proof.Proof.Gen.OutDw
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.OutDwClaims

theorem frame_p : Cert.quiescent_OutDw := fun m ρ _ => Cert.OutDw.Gen.frame m ρ
theorem frame_i : Cert.quiescent_OutDwIdeal := fun m ρ _ => Cert.OutDwIdeal.Gen.frame m ρ
theorem frame_r : Cert.quiescent_OutDwRefIdeal := fun m ρ _ =>
  (θ_run Cert.OutDwRefIdeal.defs _ _).mono (fun r h => ⟨fun c => (h c).2,
      Idealize.ShloMosaic.sem_eq_zero_of_no_sems (by decide) r.2⟩) (Cert.OutDwRefIdeal.Value.run m ρ)
theorem preserves : Cert.preserves_OutDw_OutDwIdeal := trivial

section
open Cert.OutDwRefIdeal Cert.OutDwRefIdeal.Read

/-- The gradient: the sum over the tokens. -/
def G (A : (⟨S4096x2048, .bf16⟩ : BufTy).Contents (Elt Ideal)) (B : (⟨S4096x2048, .bf16⟩ : BufTy).Contents (Elt Ideal)) :
    (⟨S2048x2048, .bf16⟩ : BufTy).Contents (Elt Ideal) :=
  fun y => ((∑ s : Fin 4096, A (ix2 s (y 0)) * B (ix2 s (y 1)) : EReal) : EReal)

theorem reference (A : (⟨S4096x2048, .bf16⟩ : BufTy).Contents (Elt Ideal)) (B : (⟨S4096x2048, .bf16⟩ : BufTy).Contents (Elt Ideal)) :
    val_main_v6 (F := Ideal) A B = G A B := by
  funext y
  idx_vars y
  have e : val_main_v6 (F := Ideal) A B (ix2 y0 y1) = ∑ s : Fin 4096, B (ix2 s y1) * A (ix2 s y0) := by
    pointwise [val_main_v6, val_main_v5, val_main_v4, val_main_v3, val_main_v2, val_main_cst, val_main_v1, val_main_v0]
  refine e.trans ?_
  exact Finset.sum_congr rfl fun s _ => mul_comm _ _

end

section
open Cert.OutDwIdeal Cert.OutDwIdeal.Gen

variable (m : (ℓ : Loc nD τ sig) → Buf (Elt Ideal) ℓ) (c : Dev nD)

abbrev aA := m ((c : Thread nD τ).loc main_arg0)
abbrev aB := m ((c : Thread nD τ).loc main_arg1)

theorem zero_apply (j : S1024x2048.Idx) : k0_pay1 (F := Ideal) j = 0 := by pointwise [k0_pay1]
theorem step_apply (x : Vec Ideal S1024x2048 .f32) (u : Vec Ideal S1024x1024 .bf16) (v : Vec Ideal S1024x2048 .bf16) (j : S1024x2048.Idx) :
    k0_pay2 x u v j = x j + ∑ k : Fin 1024, u (ix2 k (j 0)) * v (ix2 k (j 1)) := by
  idx_vars j
  pointwise [k0_pay2]
theorem last_apply (x : Vec Ideal S1024x2048 .f32) (j : S1024x2048.Idx) : k0_pay3 (F := Ideal) x j = x j := by
  pointwise [k0_pay3]

theorem idx : ∀ t : Fin cfg0.N, win0_0.index t = ![t.val % 4, t.val / 4] ∧ win0_1.index t = ![t.val % 4, 0]
    ∧ win0_2.index t = ![t.val / 4, 0] := (by decide +kernel : ∀ t : Fin grid0.N, _)

theorem row_lt (t : Fin cfg0.N) (r : Fin 1024) : t.val / 4 * 1024 + r.val < 2048 := by
  have := t.isLt; have h : cfg0.N = 8 := N_0; omega
theorem col_lt (t : Fin cfg0.N) (r : Fin 2048) : 0 * 2048 + r.val < 2048 := by
  have := t.isLt; have h : cfg0.N = 8 := N_0; omega

theorem final : (dats m 0 c).arrAt 2 cfg0.N = G (aA m c) (aB m c) := by
  refine (dats m 0 c).arrAt_eq_of_covers 2 _ (by decide +kernel) fun t hf y => ?_
  blk_simp
  idx_vars y
  have e : G (aA m c) (aB m c) (((View.whole main_v0).slice (win0_2.rect t)).emb (ix2 y0 y1))
      = G (aA m c) (aB m c) (ix2 ⟨t.val / 4 * 1024 + y0.val, row_lt t y0⟩ ⟨0 * 2048 + y1.val, col_lt t y1⟩) := by
    refine congrArg (G (aA m c) (aB m c)) ?_
    blk_ext [idx t]
  rw [e]
  clear e
  rw [after0_2]
  have h1 : t.val % 4 = 3 := (flush0_2 t).mp hf
  have h0 : ¬ t.val % 4 = 0 := by omega
  have e : (outsAt0 m c t.val t.isLt).1 (ix2 y0 y1) = (outsAt0 m c t.val t.isLt).2 (ix2 y0 y1) := by
    rw [outsAt0_C m c t h0 h1]
    dsimp only
    frame_out
    rw [last_apply]
  refine e.trans ?_
  rw [Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h' : t.val % 4 = 3
      · rw [outsAt0_C m c t h h']; frame_out; rw [step_apply]; exact congrArg (fun x : EReal => x + _) (congrFun (Memref.IsWhole.read_unread _ _) j)
      · rw [outsAt0_B m c t h h']; frame_out; rw [step_apply]; exact congrArg (fun x : EReal => x + _) (congrFun (Memref.IsWhole.read_unread _ _) j))
    t h1 _, zero_add]
  unfold G
  refine Fin.sum_mul_add_congr fun s k hl => ?_
  have ht := t.isLt
  have hN : cfg0.N = 8 := N_0
  have e0 : iblk m c 0 ⟨4 * (t.val / 4) + s.val, Pipeline.run_point_lt_of_flush t h1 s⟩ (ix2 k y0)
      = aA m c (ix2 ⟨s.val * 1024 + k.val, hl⟩ ⟨t.val / 4 * 1024 + y0.val, row_lt t y0⟩) := by
    blk_ext [iblk, V, idx t, idx ⟨_, Pipeline.run_point_lt_of_flush t h1 s⟩]
  have e1 : iblk m c 1 ⟨4 * (t.val / 4) + s.val, Pipeline.run_point_lt_of_flush t h1 s⟩ (ix2 k y1)
      = aB m c (ix2 ⟨s.val * 1024 + k.val, hl⟩ ⟨0 * 2048 + y1.val, col_lt t y1⟩) := by
    blk_ext [iblk, V, idx t, idx ⟨_, Pipeline.run_point_lt_of_flush t h1 s⟩]
  exact congrArg₂ (fun x y : EReal => x * y) e0 e1

end

/-- Both programs end with the gradient. -/
theorem value : Cert.algebraic_OutDwIdeal_OutDwRefIdeal := by
  intro m g m' g' _ ha
  refine ⟨fun c => G (aA m c) (aB m c), (θ_run Cert.OutDwIdeal.defs _ _).mono (fun r h c => ?_) (Cert.OutDwIdeal.Value.run_blocks m g),
    (θ_run Cert.OutDwRefIdeal.defs _ _).mono (fun r h c => ?_) (Cert.OutDwRefIdeal.Value.run m' g')⟩
  · exact ⟨(h c).1.trans (final m c), (h c).2⟩
  · obtain ⟨a0, a1⟩ := ha c
    have h' := h c
    rw [Cert.OutDwRefIdeal.Read.val_main_v6_eq, a0, a1] at h'
    rw [a0, a1]
    exact ⟨h'.1.trans (reference _ _), h'.2⟩

end Cert.OutDwClaims
-- ==== Proof.OutDxClaims.lean ====
/-
  The claims about the gradient of the output projection to its input: the frames of the three programs and the value claim.
-/
module

public import proofs.«01_k».proof.Defs
public import proofs.«01_k».proof.Proof.Gen.OutDx
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Gen.OutDxRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.OutDxClaims

theorem frame_p : Cert.quiescent_OutDx := fun m ρ _ => Cert.OutDx.Gen.frame m ρ
theorem frame_i : Cert.quiescent_OutDxIdeal := fun m ρ _ => Cert.OutDxIdeal.Gen.frame m ρ
theorem frame_r : Cert.quiescent_OutDxRefIdeal := fun m ρ _ =>
  (θ_run Cert.OutDxRefIdeal.defs _ _).mono (fun r h => ⟨fun c => (h c).2,
      Idealize.ShloMosaic.sem_eq_zero_of_no_sems (by decide) r.2⟩) (Cert.OutDxRefIdeal.Value.run m ρ)
theorem preserves : Cert.preserves_OutDx_OutDxIdeal := trivial

section
open Cert.OutDxRefIdeal Cert.OutDxRefIdeal.Read

/-- The gradient: the sum over the features. -/
def G (A : (⟨S4096x2048, .bf16⟩ : BufTy).Contents (Elt Ideal)) (B : (⟨S2048x2048, .bf16⟩ : BufTy).Contents (Elt Ideal)) :
    (⟨S4096x2048, .f32⟩ : BufTy).Contents (Elt Ideal) :=
  fun y => ((∑ s : Fin 2048, A (ix2 (y 0) s) * B (ix2 (y 1) s) : EReal) : EReal)

theorem reference (A : (⟨S4096x2048, .bf16⟩ : BufTy).Contents (Elt Ideal)) (B : (⟨S2048x2048, .bf16⟩ : BufTy).Contents (Elt Ideal)) :
    val_main_v4 (F := Ideal) A B = G A B := by
  funext y
  idx_vars y
  have e : val_main_v4 (F := Ideal) A B (ix2 y0 y1) = ∑ s : Fin 2048, A (ix2 y0 s) * B (ix2 y1 s) := by
    pointwise [val_main_v4, val_main_v3, val_main_v2, val_main_cst, val_main_v1, val_main_v0]
  refine e.trans ?_
  rfl

end

section
open Cert.OutDxIdeal Cert.OutDxIdeal.Gen

variable (m : (ℓ : Loc nD τ sig) → Buf (Elt Ideal) ℓ) (c : Dev nD)

abbrev aA := m ((c : Thread nD τ).loc main_arg0)
abbrev aB := m ((c : Thread nD τ).loc main_arg1)

theorem zero_apply (j : S1024x1024.Idx) : k0_pay1 (F := Ideal) j = 0 := by pointwise [k0_pay1]
theorem step_apply (x : Vec Ideal S1024x1024 .f32) (u : Vec Ideal S1024x2048 .bf16) (v : Vec Ideal S1024x2048 .bf16) (j : S1024x1024.Idx) :
    k0_pay2 x u v j = x j + ∑ k : Fin 2048, u (ix2 (j 0) k) * v (ix2 (j 1) k) := by
  idx_vars j
  pointwise [k0_pay2]

theorem idx : ∀ t : Fin cfg0.N, win0_0.index t = ![t.val / 2, 0] ∧ win0_1.index t = ![t.val % 2, 0]
    ∧ win0_2.index t = ![t.val / 2, t.val % 2] := (by decide +kernel : ∀ t : Fin grid0.N, _)

theorem row_lt (t : Fin cfg0.N) (r : Fin 1024) : t.val / 2 * 1024 + r.val < 4096 := by
  have := t.isLt; have h : cfg0.N = 8 := N_0; omega
theorem col_lt (t : Fin cfg0.N) (r : Fin 1024) : t.val % 2 * 1024 + r.val < 2048 := by
  have := t.isLt; have h : cfg0.N = 8 := N_0; omega

theorem final : (dats m 0 c).arrAt 2 cfg0.N = G (aA m c) (aB m c) := by
  refine (dats m 0 c).arrAt_eq_of_covers 2 _ (by decide +kernel) fun t hf y => ?_
  blk_simp
  idx_vars y
  have e : G (aA m c) (aB m c) (((View.whole main_v0).slice (win0_2.rect t)).emb (ix2 y0 y1))
      = G (aA m c) (aB m c) (ix2 ⟨t.val / 2 * 1024 + y0.val, row_lt t y0⟩ ⟨t.val % 2 * 1024 + y1.val, col_lt t y1⟩) := by
    refine congrArg (G (aA m c) (aB m c)) ?_
    blk_ext [idx t]
  rw [e]
  clear e
  rw [after0_2]
  unfold Gen.outsAt0
  frame_out
  rw [step_apply, zero_apply, zero_add]
  unfold G
  refine Fin.sum_fin_congr fun s => ?_
  have e0 : iblk m c 0 t (ix2 y0 s) = aA m c (ix2 ⟨t.val / 2 * 1024 + y0.val, row_lt t y0⟩ s) := by
    blk_ext [iblk, V, idx t]
  have e1 : iblk m c 1 t (ix2 y1 s) = aB m c (ix2 ⟨t.val % 2 * 1024 + y1.val, col_lt t y1⟩ s) := by
    blk_ext [iblk, V, idx t]
  exact congrArg₂ (fun x y : EReal => x * y) e0 e1

end

/-- Both programs end with the gradient. -/
theorem value : Cert.algebraic_OutDxIdeal_OutDxRefIdeal := by
  intro m g m' g' _ ha
  refine ⟨fun c => G (aA m c) (aB m c), (θ_run Cert.OutDxIdeal.defs _ _).mono (fun r h c => ?_) (Cert.OutDxIdeal.Value.run_blocks m g),
    (θ_run Cert.OutDxRefIdeal.defs _ _).mono (fun r h c => ?_) (Cert.OutDxRefIdeal.Value.run m' g')⟩
  · exact ⟨(h c).1.trans (final m c), (h c).2⟩
  · obtain ⟨a0, a1⟩ := ha c
    have h' := h c
    rw [Cert.OutDxRefIdeal.Read.val_main_v4_eq, a0, a1] at h'
    rw [a0, a1]
    exact ⟨h'.1.trans (reference _ _), h'.2⟩

end Cert.OutDxClaims
-- ==== Proof.InDwClaims.lean ====
/-
  The claims about the gradient of the input projection to its weight: the frames of the three programs and the value claim.
-/
module

public import proofs.«01_k».proof.Defs
public import proofs.«01_k».proof.Proof.Gen.InDw
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDwRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.InDwClaims

theorem frame_p : Cert.quiescent_InDw := fun m ρ _ => Cert.InDw.Gen.frame m ρ
theorem frame_i : Cert.quiescent_InDwIdeal := fun m ρ _ => Cert.InDwIdeal.Gen.frame m ρ
theorem frame_r : Cert.quiescent_InDwRefIdeal := fun m ρ _ =>
  (θ_run Cert.InDwRefIdeal.defs _ _).mono (fun r h => ⟨fun c => (h c).2,
      Idealize.ShloMosaic.sem_eq_zero_of_no_sems (by decide) r.2⟩) (Cert.InDwRefIdeal.Value.run m ρ)
theorem preserves : Cert.preserves_InDw_InDwIdeal := trivial

section
open Cert.InDwRefIdeal Cert.InDwRefIdeal.Read

/-- The gradient: the sum over the tokens. -/
def G (A : (⟨S4096x5376, .bf16⟩ : BufTy).Contents (Elt Ideal)) (B : (⟨S4096x2048, .bf16⟩ : BufTy).Contents (Elt Ideal)) :
    (⟨S5376x2048, .bf16⟩ : BufTy).Contents (Elt Ideal) :=
  fun y => ((∑ s : Fin 4096, A (ix2 s (y 0)) * B (ix2 s (y 1)) : EReal) : EReal)

theorem reference (A : (⟨S4096x5376, .bf16⟩ : BufTy).Contents (Elt Ideal)) (B : (⟨S4096x2048, .bf16⟩ : BufTy).Contents (Elt Ideal)) :
    val_main_v7 (F := Ideal) A B = G A B := by
  funext y
  idx_vars y
  have e : val_main_v7 (F := Ideal) A B (ix2 y0 y1) = ∑ s : Fin 4096, A (ix2 s y0) * B (ix2 s y1) := by
    pointwise [val_main_v7, val_main_v6, val_main_v5, val_main_v4, val_main_v3, val_main_v2, val_main_cst, val_main_v1, val_main_v0]
  refine e.trans ?_
  rfl

end

section
open Cert.InDwIdeal Cert.InDwIdeal.Gen

variable (m : (ℓ : Loc nD τ sig) → Buf (Elt Ideal) ℓ) (c : Dev nD)

abbrev aA := m ((c : Thread nD τ).loc main_arg0)
abbrev aB := m ((c : Thread nD τ).loc main_arg1)

theorem zero_apply (j : S768x2048.Idx) : k0_pay1 (F := Ideal) j = 0 := by pointwise [k0_pay1]
theorem step_apply (x : Vec Ideal S768x2048 .f32) (u : Vec Ideal S1024x768 .bf16) (v : Vec Ideal S1024x2048 .bf16) (j : S768x2048.Idx) :
    k0_pay2 x u v j = x j + ∑ k : Fin 1024, u (ix2 k (j 0)) * v (ix2 k (j 1)) := by
  idx_vars j
  pointwise [k0_pay2]
theorem last_apply (x : Vec Ideal S768x2048 .f32) (j : S768x2048.Idx) : k0_pay3 (F := Ideal) x j = x j := by
  pointwise [k0_pay3]

theorem idx : ∀ t : Fin cfg0.N, win0_0.index t = ![t.val % 4, t.val / 4] ∧ win0_1.index t = ![t.val % 4, 0]
    ∧ win0_2.index t = ![t.val / 4, 0] := (by decide +kernel : ∀ t : Fin grid0.N, _)

theorem row_lt (t : Fin cfg0.N) (r : Fin 768) : t.val / 4 * 768 + r.val < 5376 := by
  have := t.isLt; have h : cfg0.N = 28 := N_0; omega
theorem col_lt (t : Fin cfg0.N) (r : Fin 2048) : 0 * 2048 + r.val < 2048 := by
  have := t.isLt; have h : cfg0.N = 28 := N_0; omega

theorem final : (dats m 0 c).arrAt 2 cfg0.N = G (aA m c) (aB m c) := by
  refine (dats m 0 c).arrAt_eq_of_covers 2 _ (by decide +kernel) fun t hf y => ?_
  blk_simp
  idx_vars y
  have e : G (aA m c) (aB m c) (((View.whole main_v0).slice (win0_2.rect t)).emb (ix2 y0 y1))
      = G (aA m c) (aB m c) (ix2 ⟨t.val / 4 * 768 + y0.val, row_lt t y0⟩ ⟨0 * 2048 + y1.val, col_lt t y1⟩) := by
    refine congrArg (G (aA m c) (aB m c)) ?_
    blk_ext [idx t]
  rw [e]
  clear e
  rw [after0_2]
  have h1 : t.val % 4 = 3 := (flush0_2 t).mp hf
  have h0 : ¬ t.val % 4 = 0 := by omega
  have e : (outsAt0 m c t.val t.isLt).1 (ix2 y0 y1) = (outsAt0 m c t.val t.isLt).2 (ix2 y0 y1) := by
    rw [outsAt0_C m c t h0 h1]
    dsimp only
    frame_out
    rw [last_apply]
  refine e.trans ?_
  rw [Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h' : t.val % 4 = 3
      · rw [outsAt0_C m c t h h']; frame_out; rw [step_apply]; exact congrArg (fun x : EReal => x + _) (congrFun (Memref.IsWhole.read_unread _ _) j)
      · rw [outsAt0_B m c t h h']; frame_out; rw [step_apply]; exact congrArg (fun x : EReal => x + _) (congrFun (Memref.IsWhole.read_unread _ _) j))
    t h1 _, zero_add]
  unfold G
  refine Fin.sum_mul_add_congr fun s k hl => ?_
  have ht := t.isLt
  have hN : cfg0.N = 28 := N_0
  have e0 : iblk m c 0 ⟨4 * (t.val / 4) + s.val, Pipeline.run_point_lt_of_flush t h1 s⟩ (ix2 k y0)
      = aA m c (ix2 ⟨s.val * 1024 + k.val, hl⟩ ⟨t.val / 4 * 768 + y0.val, row_lt t y0⟩) := by
    blk_ext [iblk, V, idx t, idx ⟨_, Pipeline.run_point_lt_of_flush t h1 s⟩]
  have e1 : iblk m c 1 ⟨4 * (t.val / 4) + s.val, Pipeline.run_point_lt_of_flush t h1 s⟩ (ix2 k y1)
      = aB m c (ix2 ⟨s.val * 1024 + k.val, hl⟩ ⟨0 * 2048 + y1.val, col_lt t y1⟩) := by
    blk_ext [iblk, V, idx t, idx ⟨_, Pipeline.run_point_lt_of_flush t h1 s⟩]
  exact congrArg₂ (fun x y : EReal => x * y) e0 e1

end

/-- Both programs end with the gradient. -/
theorem value : Cert.algebraic_InDwIdeal_InDwRefIdeal := by
  intro m g m' g' _ ha
  refine ⟨fun c => G (aA m c) (aB m c), (θ_run Cert.InDwIdeal.defs _ _).mono (fun r h c => ?_) (Cert.InDwIdeal.Value.run_blocks m g),
    (θ_run Cert.InDwRefIdeal.defs _ _).mono (fun r h c => ?_) (Cert.InDwRefIdeal.Value.run m' g')⟩
  · exact ⟨(h c).1.trans (final m c), (h c).2⟩
  · obtain ⟨a0, a1⟩ := ha c
    have h' := h c
    rw [Cert.InDwRefIdeal.Read.val_main_v7_eq, a0, a1] at h'
    rw [a0, a1]
    exact ⟨h'.1.trans (reference _ _), h'.2⟩

end Cert.InDwClaims
-- ==== Proof.InDxClaims.lean ====
/-
  The claims about the gradient of the input projection to its input: the frames of the three programs and the value claim.
-/
module

public import proofs.«01_k».proof.Defs
public import proofs.«01_k».proof.Proof.Gen.InDx
public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal.Run
public import proofs.«01_k».proof.Proof.Gen.InDxRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.InDxClaims

theorem frame_p : Cert.quiescent_InDx := fun m ρ _ => Cert.InDx.Gen.frame m ρ
theorem frame_i : Cert.quiescent_InDxIdeal := fun m ρ _ => Cert.InDxIdeal.Gen.frame m ρ
theorem frame_r : Cert.quiescent_InDxRefIdeal := fun m ρ _ =>
  (θ_run Cert.InDxRefIdeal.defs _ _).mono (fun r h => ⟨fun c => (h c).2,
      Idealize.ShloMosaic.sem_eq_zero_of_no_sems (by decide) r.2⟩) (Cert.InDxRefIdeal.Value.run m ρ)
theorem preserves : Cert.preserves_InDx_InDxIdeal := trivial

section
open Cert.InDxRefIdeal Cert.InDxRefIdeal.Read

/-- The gradient: the sum over the features. -/
def G (A : (⟨S4096x5376, .bf16⟩ : BufTy).Contents (Elt Ideal)) (B : (⟨S5376x2048, .bf16⟩ : BufTy).Contents (Elt Ideal)) :
    (⟨S4096x2048, .f32⟩ : BufTy).Contents (Elt Ideal) :=
  fun y => ((∑ s : Fin 5376, A (ix2 (y 0) s) * B (ix2 s (y 1)) : EReal) : EReal)

theorem reference (A : (⟨S4096x5376, .bf16⟩ : BufTy).Contents (Elt Ideal)) (B : (⟨S5376x2048, .bf16⟩ : BufTy).Contents (Elt Ideal)) :
    val_main_v5 (F := Ideal) A B = G A B := by
  funext y
  idx_vars y
  have e : val_main_v5 (F := Ideal) A B (ix2 y0 y1) = ∑ s : Fin 5376, A (ix2 y0 s) * B (ix2 s y1) := by
    pointwise [val_main_v5, val_main_v4, val_main_v3, val_main_cst, val_main_v2, val_main_v1, val_main_v0]
  refine e.trans ?_
  rfl

end

section
open Cert.InDxIdeal Cert.InDxIdeal.Gen

variable (m : (ℓ : Loc nD τ sig) → Buf (Elt Ideal) ℓ) (c : Dev nD)

abbrev aA := m ((c : Thread nD τ).loc main_arg0)
abbrev aB := m ((c : Thread nD τ).loc main_arg1)

theorem zero_apply (j : S1024x2048.Idx) : k0_pay1 (F := Ideal) j = 0 := by pointwise [k0_pay1]
theorem step_apply (x : Vec Ideal S1024x2048 .f32) (u : Vec Ideal S1024x768 .bf16) (v : Vec Ideal S768x2048 .bf16) (j : S1024x2048.Idx) :
    k0_pay2 x u v j = x j + ∑ k : Fin 768, u (ix2 (j 0) k) * v (ix2 k (j 1)) := by
  idx_vars j
  pointwise [k0_pay2]

theorem idx : ∀ t : Fin cfg0.N, win0_0.index t = ![t.val / 7, t.val % 7] ∧ win0_1.index t = ![t.val % 7, 0]
    ∧ win0_2.index t = ![t.val / 7, 0] := (by decide +kernel : ∀ t : Fin grid0.N, _)

theorem row_lt (t : Fin cfg0.N) (r : Fin 1024) : t.val / 7 * 1024 + r.val < 4096 := by
  have := t.isLt; have h : cfg0.N = 28 := N_0; omega
theorem col_lt (t : Fin cfg0.N) (r : Fin 2048) : 0 * 2048 + r.val < 2048 := by
  have := t.isLt; have h : cfg0.N = 28 := N_0; omega

theorem final : (dats m 0 c).arrAt 2 cfg0.N = G (aA m c) (aB m c) := by
  refine (dats m 0 c).arrAt_eq_of_covers 2 _ (by decide +kernel) fun t hf y => ?_
  blk_simp
  idx_vars y
  have e : G (aA m c) (aB m c) (((View.whole main_v0).slice (win0_2.rect t)).emb (ix2 y0 y1))
      = G (aA m c) (aB m c) (ix2 ⟨t.val / 7 * 1024 + y0.val, row_lt t y0⟩ ⟨0 * 2048 + y1.val, col_lt t y1⟩) := by
    refine congrArg (G (aA m c) (aB m c)) ?_
    blk_ext [idx t]
  rw [e]
  clear e
  rw [after0_2]
  have h1 : t.val % 7 = 6 := (flush0_2 t).mp hf
  have h0 : ¬ t.val % 7 = 0 := by omega
  have e : (outsAt0 m c t.val t.isLt).1 (ix2 y0 y1) = (outsAt0 m c t.val t.isLt).2 (ix2 y0 y1) := by
    rw [outsAt0_C m c t h0 h1]
    dsimp only
    frame_out

  refine e.trans ?_
  rw [Pipeline.eq_sum_fin_of_reset_step_apply_of_flush (fun n h => (outsAt0 m c n h).2) 7 (fun _ => 0) _
    (fun t h j => by rw [outsAt0_A m c t h (by omega)]; frame_out; rw [step_apply, zero_apply])
    (fun t h j => by
      by_cases h' : t.val % 7 = 6
      · rw [outsAt0_C m c t h h']; frame_out; rw [step_apply]; exact congrArg (fun x : EReal => x + _) (congrFun (Memref.IsWhole.read_unread _ _) j)
      · rw [outsAt0_B m c t h h']; frame_out; rw [step_apply]; exact congrArg (fun x : EReal => x + _) (congrFun (Memref.IsWhole.read_unread _ _) j))
    t h1 _, zero_add]
  unfold G
  refine Fin.sum_mul_add_congr fun s k hl => ?_
  have ht := t.isLt
  have hN : cfg0.N = 28 := N_0
  have e0 : iblk m c 0 ⟨7 * (t.val / 7) + s.val, Pipeline.run_point_lt_of_flush t h1 s⟩ (ix2 y0 k)
      = aA m c (ix2 ⟨t.val / 7 * 1024 + y0.val, row_lt t y0⟩ ⟨s.val * 768 + k.val, hl⟩) := by
    blk_ext [iblk, V, idx t, idx ⟨_, Pipeline.run_point_lt_of_flush t h1 s⟩]
  have e1 : iblk m c 1 ⟨7 * (t.val / 7) + s.val, Pipeline.run_point_lt_of_flush t h1 s⟩ (ix2 k y1)
      = aB m c (ix2 ⟨s.val * 768 + k.val, hl⟩ ⟨0 * 2048 + y1.val, col_lt t y1⟩) := by
    blk_ext [iblk, V, idx t, idx ⟨_, Pipeline.run_point_lt_of_flush t h1 s⟩]
  exact congrArg₂ (fun x y : EReal => x * y) e0 e1

end

/-- Both programs end with the gradient. -/
theorem value : Cert.algebraic_InDxIdeal_InDxRefIdeal := by
  intro m g m' g' _ ha
  refine ⟨fun c => G (aA m c) (aB m c), (θ_run Cert.InDxIdeal.defs _ _).mono (fun r h c => ?_) (Cert.InDxIdeal.Value.run_blocks m g),
    (θ_run Cert.InDxRefIdeal.defs _ _).mono (fun r h c => ?_) (Cert.InDxRefIdeal.Value.run m' g')⟩
  · exact ⟨(h c).1.trans (final m c), (h c).2⟩
  · obtain ⟨a0, a1⟩ := ha c
    have h' := h c
    rw [Cert.InDxRefIdeal.Read.val_main_v5_eq, a0, a1] at h'
    rw [a0, a1]
    exact ⟨h'.1.trans (reference _ _), h'.2⟩

end Cert.InDxClaims
-- ==== Proof.InFwdClaims.lean ====
/-
  The claims about the input projection: the frames of the three programs and the value claim.
-/
module

public import proofs.«01_k».proof.Defs
public import proofs.«01_k».proof.Proof.Gen.InFwd
public import proofs.«01_k».proof.Proof.Gen.InFwd.Frame
public import proofs.«01_k».proof.Proof.Gen.InFwdIdeal.Frame
public import proofs.«01_k».proof.Proof.Gen.InFwdIdeal.Value
public import proofs.«01_k».proof.Proof.Gen.InFwdRefIdeal.Run
public import proofs.«01_k».proof.Proof.Gen.InFwdRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.InFwdClaims

theorem frame_p : Cert.quiescent_InFwd := fun m ρ _ => Cert.InFwd.Gen.frame m ρ
theorem frame_i : Cert.quiescent_InFwdIdeal := fun m ρ _ => Cert.InFwdIdeal.Gen.frame m ρ
theorem frame_r : Cert.quiescent_InFwdRefIdeal := fun m ρ _ =>
  (θ_run Cert.InFwdRefIdeal.defs _ _).mono (fun r h => ⟨fun c => (h c).2,
      Idealize.ShloMosaic.sem_eq_zero_of_no_sems (by decide) r.2⟩) (Cert.InFwdRefIdeal.Value.run m ρ)
theorem preserves : Cert.preserves_InFwd_InFwdIdeal := trivial

section
open Cert.InFwdRefIdeal Cert.InFwdRefIdeal.Read

/-- The product: the sum over the features. -/
def G (A : (⟨S4096x2048, .bf16⟩ : BufTy).Contents (Elt Ideal)) (B : (⟨S5376x2048, .bf16⟩ : BufTy).Contents (Elt Ideal)) :
    (⟨S4096x5376, .f32⟩ : BufTy).Contents (Elt Ideal) :=
  fun y => ((∑ s : Fin 2048, A (ix2 (y 0) s) * B (ix2 (y 1) s) : EReal) : EReal)

theorem reference (A : (⟨S4096x2048, .bf16⟩ : BufTy).Contents (Elt Ideal)) (B : (⟨S5376x2048, .bf16⟩ : BufTy).Contents (Elt Ideal)) :
    val_main_v3 (F := Ideal) A B = G A B := by
  funext y
  idx_vars y
  have e : val_main_v3 (F := Ideal) A B (ix2 y0 y1) = ∑ s : Fin 2048, A (ix2 y0 s) * B (ix2 y1 s) := by
    pointwise [val_main_v3, val_main_v2, val_main_v1, val_main_v0]
  refine e.trans ?_
  rfl

end

section
open Cert.InFwdIdeal Cert.InFwdIdeal.Gen

variable (m : (ℓ : Loc nD τ sig) → Buf (Elt Ideal) ℓ) (c : Dev nD)

abbrev aA := m ((c : Thread nD τ).loc main_arg0)
abbrev aB := m ((c : Thread nD τ).loc main_arg1)

theorem zero_apply (j : S1024x896.Idx) : k0_pay1 (F := Ideal) j = 0 := by pointwise [k0_pay1]
theorem step_apply (x : Vec Ideal S1024x896 .f32) (u : Vec Ideal S1024x2048 .bf16) (v : Vec Ideal S896x2048 .bf16) (j : S1024x896.Idx) :
    k0_pay2 x u v j = x j + ∑ k : Fin 2048, u (ix2 (j 0) k) * v (ix2 (j 1) k) := by
  idx_vars j
  pointwise [k0_pay2]

theorem idx : ∀ t : Fin cfg0.N, win0_0.index t = ![t.val / 6, 0] ∧ win0_1.index t = ![t.val % 6, 0]
    ∧ win0_2.index t = ![t.val / 6, t.val % 6] := (by decide +kernel : ∀ t : Fin grid0.N, _)

theorem row_lt (t : Fin cfg0.N) (r : Fin 1024) : t.val / 6 * 1024 + r.val < 4096 := by
  have := t.isLt; have h : cfg0.N = 24 := N_0; omega
theorem col_lt (t : Fin cfg0.N) (r : Fin 896) : t.val % 6 * 896 + r.val < 5376 := by
  have := t.isLt; have h : cfg0.N = 24 := N_0; omega

theorem final : (dats m 0 c).arrAt 2 cfg0.N = G (aA m c) (aB m c) := by
  refine (dats m 0 c).arrAt_eq_of_covers 2 _ (by decide +kernel) fun t hf y => ?_
  blk_simp
  idx_vars y
  have e : G (aA m c) (aB m c) (((View.whole main_v0).slice (win0_2.rect t)).emb (ix2 y0 y1))
      = G (aA m c) (aB m c) (ix2 ⟨t.val / 6 * 1024 + y0.val, row_lt t y0⟩ ⟨t.val % 6 * 896 + y1.val, col_lt t y1⟩) := by
    refine congrArg (G (aA m c) (aB m c)) ?_
    blk_ext [idx t]
  rw [e]
  clear e
  rw [after0_2]
  unfold Gen.outsAt0
  frame_out
  rw [step_apply, zero_apply, zero_add]
  unfold G
  refine Fin.sum_fin_congr fun s => ?_
  have e0 : iblk m c 0 t (ix2 y0 s) = aA m c (ix2 ⟨t.val / 6 * 1024 + y0.val, row_lt t y0⟩ s) := by
    blk_ext [iblk, V, idx t]
  have e1 : iblk m c 1 t (ix2 y1 s) = aB m c (ix2 ⟨t.val % 6 * 896 + y1.val, col_lt t y1⟩ s) := by
    blk_ext [iblk, V, idx t]
  exact congrArg₂ (fun x y : EReal => x * y) e0 e1

end

/-- Both programs end with the product. -/
theorem value : Cert.algebraic_InFwdIdeal_InFwdRefIdeal := by
  intro m g m' g' _ ha
  refine ⟨fun c => G (aA m c) (aB m c), (θ_run Cert.InFwdIdeal.defs _ _).mono (fun r h c => ?_) (Cert.InFwdIdeal.Value.run_blocks m g),
    (θ_run Cert.InFwdRefIdeal.defs _ _).mono (fun r h c => ?_) (Cert.InFwdRefIdeal.Value.run m' g')⟩
  · exact ⟨(h c).1.trans (final m c), (h c).2⟩
  · obtain ⟨a0, a1⟩ := ha c
    have h' := h c
    rw [Cert.InFwdRefIdeal.Read.val_main_v3_eq, a0, a1] at h'
    rw [a0, a1]
    exact ⟨h'.1.trans (reference _ _), h'.2⟩

end Cert.InFwdClaims
-- ==== Proof.OutFwdClaims.lean ====
/-
  The claims about the output projection with its residual sum: the frames of the three programs and the value claim.
-/
module

public import proofs.«01_k».proof.Defs
public import proofs.«01_k».proof.Proof.Gen.OutFwd
public import proofs.«01_k».proof.Proof.Gen.OutFwd.Frame
public import proofs.«01_k».proof.Proof.Gen.OutFwdIdeal.Frame
public import proofs.«01_k».proof.Proof.Gen.OutFwdIdeal.Value
public import proofs.«01_k».proof.Proof.Gen.OutFwdRefIdeal.Run
public import proofs.«01_k».proof.Proof.Gen.OutFwdRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.OutFwdClaims

theorem frame_p : Cert.quiescent_OutFwd := fun m ρ _ => Cert.OutFwd.Gen.frame m ρ
theorem frame_i : Cert.quiescent_OutFwdIdeal := fun m ρ _ => Cert.OutFwdIdeal.Gen.frame m ρ
theorem frame_r : Cert.quiescent_OutFwdRefIdeal := fun m ρ _ =>
  (θ_run Cert.OutFwdRefIdeal.defs _ _).mono (fun r h => ⟨fun c => (h c).2,
      Idealize.ShloMosaic.sem_eq_zero_of_no_sems (by decide) r.2⟩) (Cert.OutFwdRefIdeal.Value.run m ρ)
theorem preserves : Cert.preserves_OutFwd_OutFwdIdeal := trivial

section
open Cert.OutFwdRefIdeal Cert.OutFwdRefIdeal.Read

/-- The product: the sum over the features, beside the residual. -/
def G (A : (⟨S4096x2048, .bf16⟩ : BufTy).Contents (Elt Ideal)) (B : (⟨S2048x2048, .bf16⟩ : BufTy).Contents (Elt Ideal))
    (C : (⟨S4096x2048, .f32⟩ : BufTy).Contents (Elt Ideal)) :
    (⟨S4096x2048, .f32⟩ : BufTy).Contents (Elt Ideal) :=
  fun y => (C y + (∑ s : Fin 2048, A (ix2 (y 0) s) * B (ix2 s (y 1)) : EReal) : EReal)

theorem reference (A : (⟨S4096x2048, .bf16⟩ : BufTy).Contents (Elt Ideal)) (B : (⟨S2048x2048, .bf16⟩ : BufTy).Contents (Elt Ideal))
    (C : (⟨S4096x2048, .f32⟩ : BufTy).Contents (Elt Ideal)) :
    val_main_v3 (F := Ideal) A B C = G A B C := by
  funext y
  idx_vars y
  have e : val_main_v3 (F := Ideal) A B C (ix2 y0 y1) = C (ix2 y0 y1) + ∑ s : Fin 2048, A (ix2 y0 s) * B (ix2 s y1) := by
    pointwise [val_main_v3, val_main_v2, val_main_v1, val_main_v0]
  refine e.trans ?_
  rfl

end

section
open Cert.OutFwdIdeal Cert.OutFwdIdeal.Gen

variable (m : (ℓ : Loc nD τ sig) → Buf (Elt Ideal) ℓ) (c : Dev nD)

abbrev aA := m ((c : Thread nD τ).loc main_arg0)
abbrev aC := m ((c : Thread nD τ).loc main_arg2)
abbrev aB := m ((c : Thread nD τ).loc main_arg1)

theorem zero_apply (j : S1024x1024.Idx) : k0_pay1 (F := Ideal) j = 0 := by pointwise [k0_pay1]
theorem step_apply (x : Vec Ideal S1024x1024 .f32) (u : Vec Ideal S1024x2048 .bf16) (v : Vec Ideal S2048x1024 .bf16) (j : S1024x1024.Idx) :
    k0_pay2 x u v j = x j + ∑ k : Fin 2048, u (ix2 (j 0) k) * v (ix2 k (j 1)) := by
  idx_vars j
  pointwise [k0_pay2]

theorem last_apply (x r : Vec Ideal S1024x1024 .f32) (j : S1024x1024.Idx) : k0_pay3 (F := Ideal) x r j = r j + x j := by
  refine Eq.trans (b := x j + r j) ?_ (add_comm _ _)
  pointwise [k0_pay3]

theorem idx : ∀ t : Fin cfg0.N, win0_0.index t = ![t.val / 2, 0] ∧ win0_1.index t = ![0, t.val % 2]
    ∧ win0_2.index t = ![t.val / 2, t.val % 2] ∧ win0_3.index t = ![t.val / 2, t.val % 2] := (by decide +kernel : ∀ t : Fin grid0.N, _)

theorem row_lt (t : Fin cfg0.N) (r : Fin 1024) : t.val / 2 * 1024 + r.val < 4096 := by
  have := t.isLt; have h : cfg0.N = 8 := N_0; omega
theorem col_lt (t : Fin cfg0.N) (r : Fin 1024) : t.val % 2 * 1024 + r.val < 2048 := by
  have := t.isLt; have h : cfg0.N = 8 := N_0; omega

theorem final : (dats m 0 c).arrAt 3 cfg0.N = G (aA m c) (aB m c) (aC m c) := by
  refine (dats m 0 c).arrAt_eq_of_covers 3 _ (by decide +kernel) fun t hf y => ?_
  blk_simp
  idx_vars y
  have e : G (aA m c) (aB m c) (aC m c) (((View.whole main_v0).slice (win0_3.rect t)).emb (ix2 y0 y1))
      = G (aA m c) (aB m c) (aC m c) (ix2 ⟨t.val / 2 * 1024 + y0.val, row_lt t y0⟩ ⟨t.val % 2 * 1024 + y1.val, col_lt t y1⟩) := by
    refine congrArg (G (aA m c) (aB m c) (aC m c)) ?_
    blk_ext [idx t]
  rw [e]
  clear e
  have e2 : iblk m c 2 t (ix2 y0 y1) = aC m c (ix2 ⟨t.val / 2 * 1024 + y0.val, row_lt t y0⟩ ⟨t.val % 2 * 1024 + y1.val, col_lt t y1⟩) := by
    blk_ext [iblk, V, idx t]
  rw [after0_3]
  unfold Gen.outsAt0
  frame_out
  rw [last_apply, step_apply, zero_apply, zero_add, e2]
  unfold G
  refine congrArg (fun x : EReal => _ + x) ?_
  refine Fin.sum_fin_congr fun s => ?_
  have e0 : iblk m c 0 t (ix2 y0 s) = aA m c (ix2 ⟨t.val / 2 * 1024 + y0.val, row_lt t y0⟩ s) := by
    blk_ext [iblk, V, idx t]
  have e1 : iblk m c 1 t (ix2 s y1) = aB m c (ix2 s ⟨t.val % 2 * 1024 + y1.val, col_lt t y1⟩) := by
    blk_ext [iblk, V, idx t]
  exact congrArg₂ (fun x y : EReal => x * y) e0 e1

end

/-- Both programs end with the product. -/
theorem value : Cert.algebraic_OutFwdIdeal_OutFwdRefIdeal := by
  intro m g m' g' _ ha
  refine ⟨fun c => G (aA m c) (aB m c) (aC m c), (θ_run Cert.OutFwdIdeal.defs _ _).mono (fun r h c => ?_) (Cert.OutFwdIdeal.Value.run_blocks m g),
    (θ_run Cert.OutFwdRefIdeal.defs _ _).mono (fun r h c => ?_) (Cert.OutFwdRefIdeal.Value.run m' g')⟩
  · exact ⟨(h c).1.trans (final m c), (h c).2⟩
  · obtain ⟨a0, a1, a2⟩ := ha c
    have h' := h c
    rw [Cert.OutFwdRefIdeal.Read.val_main_v3_eq, a0, a1, a2] at h'
    rw [a0, a1, a2]
    exact ⟨h'.1.trans (reference _ _ _), h'.2⟩

end Cert.OutFwdClaims
-- ==== Proof.UpFwdClaims.lean ====
/-
  The claims about the up projection: the frames of the three programs and the value claim.
-/
module

public import proofs.«01_k».proof.Defs
public import proofs.«01_k».proof.Proof.Gen.UpFwd
public import proofs.«01_k».proof.Proof.Gen.UpFwd.Frame
public import proofs.«01_k».proof.Proof.Gen.UpFwdIdeal.Frame
public import proofs.«01_k».proof.Proof.Gen.UpFwdIdeal.Value
public import proofs.«01_k».proof.Proof.Gen.UpFwdRefIdeal.Run
public import proofs.«01_k».proof.Proof.Gen.UpFwdRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.UpFwdClaims

theorem frame_p : Cert.quiescent_UpFwd := fun m ρ _ => Cert.UpFwd.Gen.frame m ρ
theorem frame_i : Cert.quiescent_UpFwdIdeal := fun m ρ _ => Cert.UpFwdIdeal.Gen.frame m ρ
theorem frame_r : Cert.quiescent_UpFwdRefIdeal := fun m ρ _ =>
  (θ_run Cert.UpFwdRefIdeal.defs _ _).mono (fun r h => ⟨fun c => (h c).2,
      Idealize.ShloMosaic.sem_eq_zero_of_no_sems (by decide) r.2⟩) (Cert.UpFwdRefIdeal.Value.run m ρ)
theorem preserves : Cert.preserves_UpFwd_UpFwdIdeal := trivial

section
open Cert.UpFwdRefIdeal Cert.UpFwdRefIdeal.Read

/-- The product: the sum over the features. -/
def G (A : (⟨S4096x2048, .bf16⟩ : BufTy).Contents (Elt Ideal)) (B : (⟨S11264x2048, .bf16⟩ : BufTy).Contents (Elt Ideal)) :
    (⟨S4096x11264, .f32⟩ : BufTy).Contents (Elt Ideal) :=
  fun y => ((∑ s : Fin 2048, A (ix2 (y 0) s) * B (ix2 (y 1) s) : EReal) : EReal)

theorem reference (A : (⟨S4096x2048, .bf16⟩ : BufTy).Contents (Elt Ideal)) (B : (⟨S11264x2048, .bf16⟩ : BufTy).Contents (Elt Ideal)) :
    val_main_v3 (F := Ideal) A B = G A B := by
  funext y
  idx_vars y
  have e : val_main_v3 (F := Ideal) A B (ix2 y0 y1) = ∑ s : Fin 2048, A (ix2 y0 s) * B (ix2 y1 s) := by
    pointwise [val_main_v3, val_main_v2, val_main_v1, val_main_v0]
  refine e.trans ?_
  rfl

end

section
open Cert.UpFwdIdeal Cert.UpFwdIdeal.Gen

variable (m : (ℓ : Loc nD τ sig) → Buf (Elt Ideal) ℓ) (c : Dev nD)

abbrev aA := m ((c : Thread nD τ).loc main_arg0)
abbrev aB := m ((c : Thread nD τ).loc main_arg1)

theorem zero_apply (j : S1024x1024.Idx) : k0_pay1 (F := Ideal) j = 0 := by pointwise [k0_pay1]
theorem step_apply (x : Vec Ideal S1024x1024 .f32) (u : Vec Ideal S1024x2048 .bf16) (v : Vec Ideal S1024x2048 .bf16) (j : S1024x1024.Idx) :
    k0_pay2 x u v j = x j + ∑ k : Fin 2048, u (ix2 (j 0) k) * v (ix2 (j 1) k) := by
  idx_vars j
  pointwise [k0_pay2]

theorem idx : ∀ t : Fin cfg0.N, win0_0.index t = ![t.val / 11, 0] ∧ win0_1.index t = ![t.val % 11, 0]
    ∧ win0_2.index t = ![t.val / 11, t.val % 11] := (by decide +kernel : ∀ t : Fin grid0.N, _)

theorem row_lt (t : Fin cfg0.N) (r : Fin 1024) : t.val / 11 * 1024 + r.val < 4096 := by
  have := t.isLt; have h : cfg0.N = 44 := N_0; omega
theorem col_lt (t : Fin cfg0.N) (r : Fin 1024) : t.val % 11 * 1024 + r.val < 11264 := by
  have := t.isLt; have h : cfg0.N = 44 := N_0; omega

theorem final : (dats m 0 c).arrAt 2 cfg0.N = G (aA m c) (aB m c) := by
  refine (dats m 0 c).arrAt_eq_of_covers 2 _ (by decide +kernel) fun t hf y => ?_
  blk_simp
  idx_vars y
  have e : G (aA m c) (aB m c) (((View.whole main_v0).slice (win0_2.rect t)).emb (ix2 y0 y1))
      = G (aA m c) (aB m c) (ix2 ⟨t.val / 11 * 1024 + y0.val, row_lt t y0⟩ ⟨t.val % 11 * 1024 + y1.val, col_lt t y1⟩) := by
    refine congrArg (G (aA m c) (aB m c)) ?_
    blk_ext [idx t]
  rw [e]
  clear e
  rw [after0_2]
  unfold Gen.outsAt0
  frame_out
  rw [step_apply, zero_apply, zero_add]
  unfold G
  refine Fin.sum_fin_congr fun s => ?_
  have e0 : iblk m c 0 t (ix2 y0 s) = aA m c (ix2 ⟨t.val / 11 * 1024 + y0.val, row_lt t y0⟩ s) := by
    blk_ext [iblk, V, idx t]
  have e1 : iblk m c 1 t (ix2 y1 s) = aB m c (ix2 ⟨t.val % 11 * 1024 + y1.val, col_lt t y1⟩ s) := by
    blk_ext [iblk, V, idx t]
  exact congrArg₂ (fun x y : EReal => x * y) e0 e1

end

/-- Both programs end with the product. -/
theorem value : Cert.algebraic_UpFwdIdeal_UpFwdRefIdeal := by
  intro m g m' g' _ ha
  refine ⟨fun c => G (aA m c) (aB m c), (θ_run Cert.UpFwdIdeal.defs _ _).mono (fun r h c => ?_) (Cert.UpFwdIdeal.Value.run_blocks m g),
    (θ_run Cert.UpFwdRefIdeal.defs _ _).mono (fun r h c => ?_) (Cert.UpFwdRefIdeal.Value.run m' g')⟩
  · exact ⟨(h c).1.trans (final m c), (h c).2⟩
  · obtain ⟨a0, a1⟩ := ha c
    have h' := h c
    rw [Cert.UpFwdRefIdeal.Read.val_main_v3_eq, a0, a1] at h'
    rw [a0, a1]
    exact ⟨h'.1.trans (reference _ _), h'.2⟩

end Cert.UpFwdClaims
-- ==== Proof.DownFwdClaims.lean ====
/-
  The claims about the down projection with its residual sum: the frames of the three programs and the value claim.
-/
module

public import proofs.«01_k».proof.Defs
public import proofs.«01_k».proof.Proof.Gen.DownFwd
public import proofs.«01_k».proof.Proof.Gen.DownFwd.Frame
public import proofs.«01_k».proof.Proof.Gen.DownFwdIdeal.Frame
public import proofs.«01_k».proof.Proof.Gen.DownFwdIdeal.Value
public import proofs.«01_k».proof.Proof.Gen.DownFwdRefIdeal.Run
public import proofs.«01_k».proof.Proof.Gen.DownFwdRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.DownFwdClaims

theorem frame_p : Cert.quiescent_DownFwd := fun m ρ _ => Cert.DownFwd.Gen.frame m ρ
theorem frame_i : Cert.quiescent_DownFwdIdeal := fun m ρ _ => Cert.DownFwdIdeal.Gen.frame m ρ
theorem frame_r : Cert.quiescent_DownFwdRefIdeal := fun m ρ _ =>
  (θ_run Cert.DownFwdRefIdeal.defs _ _).mono (fun r h => ⟨fun c => (h c).2,
      Idealize.ShloMosaic.sem_eq_zero_of_no_sems (by decide) r.2⟩) (Cert.DownFwdRefIdeal.Value.run m ρ)
theorem preserves : Cert.preserves_DownFwd_DownFwdIdeal := trivial

section
open Cert.DownFwdRefIdeal Cert.DownFwdRefIdeal.Read

/-- The product: the sum over the features, beside the residual. -/
def G (A : (⟨S4096x5632, .bf16⟩ : BufTy).Contents (Elt Ideal)) (B : (⟨S5632x2048, .bf16⟩ : BufTy).Contents (Elt Ideal))
    (C : (⟨S4096x2048, .f32⟩ : BufTy).Contents (Elt Ideal)) :
    (⟨S4096x2048, .f32⟩ : BufTy).Contents (Elt Ideal) :=
  fun y => (C y + (∑ s : Fin 5632, A (ix2 (y 0) s) * B (ix2 s (y 1)) : EReal) : EReal)

theorem reference (A : (⟨S4096x5632, .bf16⟩ : BufTy).Contents (Elt Ideal)) (B : (⟨S5632x2048, .bf16⟩ : BufTy).Contents (Elt Ideal))
    (C : (⟨S4096x2048, .f32⟩ : BufTy).Contents (Elt Ideal)) :
    val_main_v3 (F := Ideal) A B C = G A B C := by
  funext y
  idx_vars y
  have e : val_main_v3 (F := Ideal) A B C (ix2 y0 y1) = C (ix2 y0 y1) + ∑ s : Fin 5632, A (ix2 y0 s) * B (ix2 s y1) := by
    pointwise [val_main_v3, val_main_v2, val_main_v1, val_main_v0]
  refine e.trans ?_
  rfl

end

section
open Cert.DownFwdIdeal Cert.DownFwdIdeal.Gen

variable (m : (ℓ : Loc nD τ sig) → Buf (Elt Ideal) ℓ) (c : Dev nD)

abbrev aA := m ((c : Thread nD τ).loc main_arg0)
abbrev aC := m ((c : Thread nD τ).loc main_arg2)
abbrev aB := m ((c : Thread nD τ).loc main_arg1)

theorem zero_apply (j : S1024x1024.Idx) : k0_pay1 (F := Ideal) j = 0 := by pointwise [k0_pay1]
theorem step_apply (x : Vec Ideal S1024x1024 .f32) (u : Vec Ideal S1024x1408 .bf16) (v : Vec Ideal S1408x1024 .bf16) (j : S1024x1024.Idx) :
    k0_pay2 x u v j = x j + ∑ k : Fin 1408, u (ix2 (j 0) k) * v (ix2 k (j 1)) := by
  idx_vars j
  pointwise [k0_pay2]

theorem last_apply (x r : Vec Ideal S1024x1024 .f32) (j : S1024x1024.Idx) : k0_pay3 (F := Ideal) x r j = r j + x j := by
  refine Eq.trans (b := x j + r j) ?_ (add_comm _ _)
  pointwise [k0_pay3]

theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] := (by decide +kernel : ∀ t : Fin grid0.N, _)

theorem row_lt (t : Fin cfg0.N) (r : Fin 1024) : t.val / 8 * 1024 + r.val < 4096 := by
  have := t.isLt; have h : cfg0.N = 32 := N_0; omega
theorem col_lt (t : Fin cfg0.N) (r : Fin 1024) : t.val / 4 % 2 * 1024 + r.val < 2048 := by
  have := t.isLt; have h : cfg0.N = 32 := N_0; omega

theorem final : (dats m 0 c).arrAt 3 cfg0.N = G (aA m c) (aB m c) (aC m c) := by
  refine (dats m 0 c).arrAt_eq_of_covers 3 _ (by decide +kernel) fun t hf y => ?_
  blk_simp
  idx_vars y
  have e : G (aA m c) (aB m c) (aC m c) (((View.whole main_v0).slice (win0_3.rect t)).emb (ix2 y0 y1))
      = G (aA m c) (aB m c) (aC m c) (ix2 ⟨t.val / 8 * 1024 + y0.val, row_lt t y0⟩ ⟨t.val / 4 % 2 * 1024 + y1.val, col_lt t y1⟩) := by
    refine congrArg (G (aA m c) (aB m c) (aC m c)) ?_
    blk_ext [idx t]
  rw [e]
  clear e
  have e2 : iblk m c 2 t (ix2 y0 y1) = aC m c (ix2 ⟨t.val / 8 * 1024 + y0.val, row_lt t y0⟩ ⟨t.val / 4 % 2 * 1024 + y1.val, col_lt t y1⟩) := by
    blk_ext [iblk, V, idx t]
  rw [after0_3]
  have h1 : t.val % 4 = 3 := (flush0_3 t).mp hf
  have h0 : ¬ t.val % 4 = 0 := by omega
  have e : (outsAt0 m c t.val t.isLt).1 (ix2 y0 y1) = @HAdd.hAdd EReal EReal EReal _ (iblk m c 2 t (ix2 y0 y1)) ((outsAt0 m c t.val t.isLt).2 (ix2 y0 y1)) := by
    rw [outsAt0_C m c t h0 h1]
    dsimp only
    frame_out
    rw [last_apply]
  refine e.trans ?_
  rw [e2, Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h' : t.val % 4 = 3
      · rw [outsAt0_C m c t h h']; frame_out; rw [step_apply]; exact congrArg (fun x : EReal => x + _) (congrFun (Memref.IsWhole.read_unread _ _) j)
      · rw [outsAt0_B m c t h h']; frame_out; rw [step_apply]; exact congrArg (fun x : EReal => x + _) (congrFun (Memref.IsWhole.read_unread _ _) j))
    t h1 _, zero_add]
  unfold G
  refine congrArg (fun x : EReal => _ + x) ?_
  refine Fin.sum_mul_add_congr fun s k hl => ?_
  have ht := t.isLt
  have hN : cfg0.N = 32 := N_0
  have e0 : iblk m c 0 ⟨4 * (t.val / 4) + s.val, Pipeline.run_point_lt_of_flush t h1 s⟩ (ix2 y0 k)
      = aA m c (ix2 ⟨t.val / 8 * 1024 + y0.val, row_lt t y0⟩ ⟨s.val * 1408 + k.val, hl⟩) := by
    blk_ext [iblk, V, idx t, idx ⟨_, Pipeline.run_point_lt_of_flush t h1 s⟩]
  have e1 : iblk m c 1 ⟨4 * (t.val / 4) + s.val, Pipeline.run_point_lt_of_flush t h1 s⟩ (ix2 k y1)
      = aB m c (ix2 ⟨s.val * 1408 + k.val, hl⟩ ⟨t.val / 4 % 2 * 1024 + y1.val, col_lt t y1⟩) := by
    blk_ext [iblk, V, idx t, idx ⟨_, Pipeline.run_point_lt_of_flush t h1 s⟩]
  exact congrArg₂ (fun x y : EReal => x * y) e0 e1

end

/-- Both programs end with the product. -/
theorem value : Cert.algebraic_DownFwdIdeal_DownFwdRefIdeal := by
  intro m g m' g' _ ha
  refine ⟨fun c => G (aA m c) (aB m c) (aC m c), (θ_run Cert.DownFwdIdeal.defs _ _).mono (fun r h c => ?_) (Cert.DownFwdIdeal.Value.run_blocks m g),
    (θ_run Cert.DownFwdRefIdeal.defs _ _).mono (fun r h c => ?_) (Cert.DownFwdRefIdeal.Value.run m' g')⟩
  · exact ⟨(h c).1.trans (final m c), (h c).2⟩
  · obtain ⟨a0, a1, a2⟩ := ha c
    have h' := h c
    rw [Cert.DownFwdRefIdeal.Read.val_main_v3_eq, a0, a1, a2] at h'
    rw [a0, a1, a2]
    exact ⟨h'.1.trans (reference _ _ _), h'.2⟩

end Cert.DownFwdClaims
-- ==== Proof.RealMath.lean ====
/-
  Sums and products of extended reals by real constants, and the reciprocal square root.
-/
module

public import Idealize.ShloMosaic.Lib.Pointwise
public import Idealize.ShloMosaic.Lib.IdealHost

@[expose] public section

noncomputable section

open Idealize.ShloMosaic

namespace Cert.RealMath

theorem sum_mul {ι : Type} (s : Finset ι) (f : ι → EReal) {a : EReal} (h0 : 0 ≤ a) (h1 : a ≠ ⊤) : (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 h1, ih]

theorem mul_sum {ι : Type} (s : Finset ι) (f : ι → EReal) {a : EReal} (h0 : 0 ≤ a) (h1 : a ≠ ⊤) : a * (∑ i ∈ s, f i) = ∑ i ∈ s, a * f i := by
  rw [mul_comm, sum_mul s f h0 h1]
  exact Finset.sum_congr rfl fun i _ => mul_comm _ _

theorem c2048 : Ideal.ofBits .f32 0x45000000#32 = ((2048 : ℝ) : EReal) := by
  simp [Ideal.ofBits, Ideal.ieee]
  norm_num
  rw [← EReal.coe_mul]
  norm_num
theorem c4096 : Ideal.ofBits .f32 0x39800000#32 = ((1 / 4096 : ℝ) : EReal) := by
  simp [Ideal.ofBits, Ideal.ieee]
  norm_num
  rw [← EReal.coe_mul]
  norm_num
theorem chalf : Ideal.ofBits .f32 0x3F000000#32 = ((1 / 2 : ℝ) : EReal) := by
  simp [Ideal.ofBits, Ideal.ieee]
  norm_num
  rw [← EReal.coe_mul]
  norm_num
theorem cmhalf : Ideal.ofBits .f32 0xBF000000#32 = ((-(1 / 2) : ℝ) : EReal) := by
  simp [Ideal.ofBits, Ideal.ieee]
  norm_num
  rw [← EReal.coe_mul]
  norm_num
theorem ctwo : Ideal.ofBits .f32 0x40000000#32 = ((2 : ℝ) : EReal) := by
  simp [Ideal.ofBits, Ideal.ieee]
  norm_num
  rw [← EReal.coe_mul]
  norm_num
theorem cr2048 : Ideal.ofBits .f32 0x3A000000#32 = ((1 / 2048 : ℝ) : EReal) := by
  simp [Ideal.ofBits, Ideal.ieee]
  norm_num
  rw [← EReal.coe_mul]
  norm_num
theorem ceps : ∃ e : ℝ, 0 < e ∧ Ideal.ofBits .f32 0x358637BD#32 = (e : EReal) := by
  refine ⟨(8796093 : ℝ) / 8796093022208, by norm_num, ?_⟩
  simp [Ideal.ofBits, Ideal.ieee]
  norm_num
  rw [← EReal.coe_mul]
  norm_num

/-- Division by a real constant other than zero. -/
theorem div_coe (x : EReal) (y : ℝ) (h : y ≠ 0) : Ideal.div x (y : EReal) = x * ((y⁻¹ : ℝ) : EReal) := by
  unfold Ideal.div
  rw [if_neg (by exact_mod_cast h), EReal.coe_inv]

theorem sq_nonneg (x : EReal) : 0 ≤ x * x := by
  induction x using EReal.rec with
  | bot => simp
  | coe r => exact_mod_cast mul_self_nonneg r
  | top => simp

theorem coe_nonneg' {a : ℝ} (h : 0 ≤ a) : (0 : EReal) ≤ (a : EReal) := by exact_mod_cast h

/-- The reciprocal root of a positive number: a real number, not negative; its cube is its quotient by the number. -/
theorem rsqrt_pos {u : EReal} (h : 0 < u) : ∃ r : ℝ, 0 ≤ r ∧ Ideal.rsqrt u = (r : EReal) ∧ Ideal.div (Ideal.rsqrt u) u = ((r * r * r : ℝ) : EReal) := by
  induction u using EReal.rec with
  | bot => simp at h
  | top => exact ⟨0, le_rfl, rfl, by simp [Ideal.div]⟩
  | coe u =>
    have hu : 0 < u := by exact_mod_cast h
    have e : Ideal.rsqrt (u : EReal) = (((Real.sqrt u)⁻¹ : ℝ) : EReal) := by
      rw [Ideal.rsqrt_coe, if_neg (by linarith), if_neg hu.ne']
    refine ⟨(Real.sqrt u)⁻¹, by positivity, e, ?_⟩
    rw [e, div_coe _ u hu.ne', ← EReal.coe_mul]
    congr 1
    have hs : Real.sqrt u * Real.sqrt u = u := Real.mul_self_sqrt hu.le
    have hs0 : Real.sqrt u ≠ 0 := (Real.sqrt_pos.mpr hu).ne'
    have h3 : u⁻¹ = (Real.sqrt u)⁻¹ * (Real.sqrt u)⁻¹ := by rw [← mul_inv, hs]
    rw [h3, mul_assoc]

end Cert.RealMath
-- ==== Proof.NormClaims.lean ====
/-
  The claims about the gradient of the normalisation before the mixer: the frames of the three programs and the value claim.
-/
module

public import proofs.«01_k».proof.Defs
public import proofs.«01_k».proof.Proof.Gen.Norm
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import Idealize.ShloMosaic.Lib.Quiescent
public import Idealize.ShloMosaic.Lib.Pointwise
public import Idealize.ShloMosaic.Lib.Pipeline.ValueKit
public import proofs.«01_k».proof.Proof.RealMath

@[expose] public section

set_option maxRecDepth 16384

noncomputable section

open Idealize.ShloMosaic Idealize.ShloMosaic.TcCoe Idealize.SL.Sem

namespace Cert.NormClaims

theorem frame_p : Cert.quiescent_Norm := fun m ρ _ => Cert.Norm.Gen.frame m ρ
theorem frame_i : Cert.quiescent_NormIdeal := fun m ρ _ => Cert.NormIdeal.Gen.frame m ρ
theorem frame_r : Cert.quiescent_NormRefIdeal := fun m ρ _ =>
  (θ_run Cert.NormRefIdeal.defs _ _).mono (fun r h => ⟨fun c => (h c).2.2.2,
      Idealize.ShloMosaic.sem_eq_zero_of_no_sems (by decide) r.2⟩) (Cert.NormRefIdeal.Value.run m ρ)
theorem preserves : Cert.preserves_Norm_NormIdeal := trivial

abbrev T := (⟨Cert.NormRefIdeal.S4096x2048, .f32⟩ : BufTy).Contents (Elt Ideal)
abbrev R := (⟨Cert.NormRefIdeal.S1x2048, .f32⟩ : BufTy).Contents (Elt Ideal)

/-- The mean of the squares of a row plus a small constant. -/
def ms (x : Fin 2048 → EReal) : EReal := Ideal.div (∑ k : Fin 2048, x k * x k) (Ideal.ofBits .f32 0x45000000#32) + Ideal.ofBits .f32 0x358637BD#32
/-- The entrywise product of two rows. -/
def prod (h g : Fin 2048 → EReal) : Fin 2048 → EReal := fun k => h k * g k
/-- Its reciprocal root. -/
def rr (x : Fin 2048 → EReal) : EReal := Ideal.rsqrt (ms x)

/-- The term of one token in the gradient to the gain. -/
def term (h x : Fin 2048 → EReal) (j : Fin 2048) : EReal := h j * (x j * rr x)

/-- One entry of the gradient as the kernel computes it: `x` and `q` are the row and the row of the scaled upstream gradient. -/
def kdx (x q : Fin 2048 → EReal) (d : EReal) (j : Fin 2048) : EReal :=
  d + rr x * (q j - (x j * rr x) * Ideal.div (∑ k : Fin 2048, q k * (x k * rr x)) (Ideal.ofBits .f32 0x45000000#32))
/-- The derivative through the mean of the squares. -/
def inner (x q : Fin 2048 → EReal) : EReal :=
  Ideal.div ((∑ k : Fin 2048, x k * q k) * (Ideal.ofBits .f32 0xBF000000#32 * Ideal.div (rr x) (ms x))) (Ideal.ofBits .f32 0x45000000#32)
/-- The same entry as the derivative of the plain formula. -/
def rdx (x q : Fin 2048 → EReal) (d : EReal) (j : Fin 2048) : EReal :=
  ((d + q j * rr x) + x j * inner x q) + inner x q * x j

theorem ms_pos (x : Fin 2048 → EReal) : 0 < ms x := by
  obtain ⟨e, he, h⟩ := Cert.RealMath.ceps
  unfold ms
  rw [h, Cert.RealMath.c2048, Cert.RealMath.div_coe _ _ (by norm_num)]
  have h1 : (0 : EReal) ≤ (∑ k : Fin 2048, x k * x k) * (((2048 : ℝ)⁻¹ : ℝ) : EReal) :=
    mul_nonneg (Finset.sum_nonneg fun k _ => Cert.RealMath.sq_nonneg _) (Cert.RealMath.coe_nonneg' (by norm_num))
  exact lt_of_lt_of_le (by exact_mod_cast he : (0 : EReal) < (e : EReal)) (le_add_of_nonneg_left h1)

/-- The law behind the equality, at the sum of the row and a real reciprocal root. -/
theorem law (d q x S : EReal) (r : ℝ) (hr : 0 ≤ r) :
    d + (r : EReal) * (q - (x * (r : EReal)) * ((S * (r : EReal)) * (((2048 : ℝ)⁻¹ : ℝ) : EReal)))
      = ((d + q * (r : EReal)) + x * ((S * ((((-(1 / 2) : ℝ) : EReal)) * ((r * r * r : ℝ) : EReal))) * (((2048 : ℝ)⁻¹ : ℝ) : EReal)))
        + ((S * ((((-(1 / 2) : ℝ) : EReal)) * ((r * r * r : ℝ) : EReal))) * (((2048 : ℝ)⁻¹ : ℝ) : EReal)) * x := by
  have hc : (0 : ℝ) ≤ r * r * r * (1 / 4096) := by positivity
  have hb : (S * ((((-(1 / 2) : ℝ) : EReal)) * ((r * r * r : ℝ) : EReal))) * (((2048 : ℝ)⁻¹ : ℝ) : EReal)
      = (-S) * ((r * r * r * (1 / 4096) : ℝ) : EReal) := by
    have h : (-(1 / 2) : ℝ) * (r * r * r) * 2048⁻¹ = -(r * r * r * (1 / 4096)) := by ring
    rw [mul_assoc, ← EReal.coe_mul, ← EReal.coe_mul, h, EReal.coe_neg, mul_neg, neg_mul]
  have h1 : x * ((-S) * ((r * r * r * (1 / 4096) : ℝ) : EReal)) = (-(x * S)) * ((r * r * r * (1 / 4096) : ℝ) : EReal) := by
    rw [← mul_assoc, mul_neg]
  have h2 : (x * (r : EReal)) * ((S * (r : EReal)) * (((2048 : ℝ)⁻¹ : ℝ) : EReal)) = (x * S) * ((r * r * 2048⁻¹ : ℝ) : EReal) := by
    rw [mul_assoc S, ← EReal.coe_mul, mul_assoc x, mul_left_comm (r : EReal) S, ← EReal.coe_mul, ← mul_assoc, mul_assoc r r]
  rw [hb, mul_comm ((-S) * _) x, h1, h2, sub_eq_add_neg, EReal.left_distrib_of_nonneg_of_ne_top (Cert.RealMath.coe_nonneg' hr) (EReal.coe_ne_top r),
    ← neg_mul, mul_left_comm (r : EReal) (-(x * S)), ← EReal.coe_mul, mul_comm (r : EReal) q, add_assoc (d + _), add_assoc d,
    ← EReal.left_distrib_of_nonneg (Cert.RealMath.coe_nonneg' hc) (Cert.RealMath.coe_nonneg' hc), ← EReal.coe_add]
  congr 4
  ring

theorem kdx_eq (x q : Fin 2048 → EReal) (d : EReal) (j : Fin 2048) : kdx x q d j = rdx x q d j := by
  obtain ⟨r, hr, e1, e2⟩ := Cert.RealMath.rsqrt_pos (ms_pos x)
  have e1 : rr x = (r : EReal) := e1
  have e2 : Ideal.div (rr x) (ms x) = ((r * r * r : ℝ) : EReal) := e2
  have hs : (∑ k : Fin 2048, q k * (x k * (r : EReal))) = (∑ k : Fin 2048, x k * q k) * (r : EReal) := by
    rw [Cert.RealMath.sum_mul _ _ (Cert.RealMath.coe_nonneg' hr) (EReal.coe_ne_top r)]
    refine Finset.sum_congr rfl fun k _ => ?_
    rw [← mul_assoc, mul_comm (q k)]
  unfold kdx rdx inner
  rw [e2, e1, hs, Cert.RealMath.c2048, Cert.RealMath.cmhalf, Cert.RealMath.div_coe _ _ (by norm_num), Cert.RealMath.div_coe _ _ (by norm_num)]
  exact law d (q j) (x j) _ r hr

/-- The gradient to the residual stream. -/
def Gdx (x : T) (g : R) (h d : T) : T := fun i =>
  ((rdx (fun k => x (ix2 (i 0) k)) (prod (fun k => h (ix2 (i 0) k)) (fun k => g (ix2 0 k))) (d i) (i 1) : EReal) : EReal)
/-- The gradient to the gain: the sum over the tokens. -/
def Gdg (x h : T) : R := fun i =>
  ((∑ n : Fin 4096, term (fun k => h (ix2 n k)) (fun k => x (ix2 n k)) (i 1) : EReal) : EReal)

section
open Cert.NormRefIdeal Cert.NormRefIdeal.Read

theorem ref_dx (x : T) (g : R) (h d : T) : val_main_v34 (F := Ideal) x g h d = Gdx x g h d := by
  funext i
  idx_vars i
  have e : val_main_v34 (F := Ideal) x g h d (ix2 i0 i1)
      = ((d (ix2 i0 i1) + (h (ix2 i0 i1) * g (ix2 0 i1) : EReal) * rr (fun k => x (ix2 i0 k)))
          + x (ix2 i0 i1) * (∑ _u : Fin 1, inner (fun k => x (ix2 i0 k)) (prod (fun k => h (ix2 i0 k)) (fun k => g (ix2 0 k)))))
        + (∑ _u : Fin 1, inner (fun k => x (ix2 i0 k)) (prod (fun k => h (ix2 i0 k)) (fun k => g (ix2 0 k)))) * x (ix2 i0 i1) := by
    pointwise [val_main_v34, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst, val_main_cst_0, val_main_cst_1, val_main_cst_2, val_main_cst_3, val_main_cst_4, val_main_cst_5, val_main_cst_6, inner, prod, rr, ms]
  refine e.trans ?_
  rw [Finset.sum_const, Finset.card_univ, Fintype.card_fin, one_nsmul]
  rfl

theorem ref_dg (x h : T) : val_main_v17 (F := Ideal) x h = Gdg x h := by
  funext i
  idx_vars i
  have e : val_main_v17 (F := Ideal) x h (ix2 i0 i1)
      = ∑ n : Fin 4096, (x (ix2 n i1) * rr (fun k => x (ix2 n k)) : EReal) * h (ix2 n i1) := by
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1, val_main_cst_3, rr, ms]
  exact e.trans (Finset.sum_congr rfl fun n _ => mul_comm _ _)

end

section
open Cert.NormIdeal Cert.NormIdeal.Gen

theorem pay5_apply (x h : Vec Ideal S256x2048 .f32) (g : Vec Ideal S1x2048 .f32) (d : Vec Ideal S256x2048 .f32) (r : Fin 256) (j : Fin 2048) :
    k0_pay5 x h g d (ix2 r j) = kdx (fun k => x (ix2 r k)) (prod (fun k => h (ix2 r k)) (fun k => g (ix2 0 k))) (d (ix2 r j)) j := by
  pointwise [k0_pay5, k0_pay4, k0_pay3, kdx, prod, rr, ms]
theorem pay6_apply (x h : Vec Ideal S256x2048 .f32) (g : Vec Ideal S1x2048 .f32) (d : Vec Ideal S256x2048 .f32) (r : Fin 256) (j : Fin 2048) :
    k0_pay6 x h g d (ix2 r j) = kdx (fun k => x (ix2 r k)) (prod (fun k => h (ix2 r k)) (fun k => g (ix2 0 k))) (d (ix2 r j)) j :=
  pay5_apply x h g d r j
theorem pay2_apply (j : S1x2048.Idx) : k0_pay2 (F := Ideal) j = 0 := by pointwise [k0_pay2]
theorem pay1_apply (x h : Vec Ideal S256x2048 .f32) (a : Vec Ideal S1x2048 .f32) (j : S1x2048.Idx) :
    k0_pay1 (k0_pay4 x) h (k0_pay7 a) j = a j + ∑ r : Fin 256, term (fun k => h (ix2 r k)) (fun k => x (ix2 r k)) (j 1) := by
  idx_vars j
  pointwise [k0_pay1, k0_pay7, k0_pay4, k0_pay3, term, rr, ms]

variable (m : (ℓ : Loc nD τ sig) → Buf (Elt Ideal) ℓ) (c : Dev nD)

abbrev aX := m ((c : Thread nD τ).loc main_arg0)
abbrev aG := m ((c : Thread nD τ).loc main_arg1)
abbrev aH := m ((c : Thread nD τ).loc main_arg2)
abbrev aD := m ((c : Thread nD τ).loc main_arg3)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

theorem row_lt (t : Fin cfg0.N) (r : Fin 256) : t.val * 256 + r.val < 4096 := by
  have := t.isLt; have h : cfg0.N = 16 := N_0; omega

theorem rd_x (t : Fin cfg0.N) (r : Fin 256) (k : Fin 2048) : iblk m c 0 t (ix2 r k) = aX m c (ix2 ⟨t.val * 256 + r.val, row_lt t r⟩ k) := by
  blk_ext [iblk, V, idx t]
theorem rd_g (t : Fin cfg0.N) (k : Fin 2048) : iblk m c 1 t (ix2 0 k) = aG m c (ix2 0 k) := by
  blk_ext [iblk, V, idx t]
theorem rd_h (t : Fin cfg0.N) (r : Fin 256) (k : Fin 2048) : iblk m c 2 t (ix2 r k) = aH m c (ix2 ⟨t.val * 256 + r.val, row_lt t r⟩ k) := by
  blk_ext [iblk, V, idx t]
theorem rd_d (t : Fin cfg0.N) (r : Fin 256) (k : Fin 2048) : iblk m c 3 t (ix2 r k) = aD m c (ix2 ⟨t.val * 256 + r.val, row_lt t r⟩ k) := by
  blk_ext [iblk, V, idx t]

/-- An entry of the block's gradient is the array's. -/
theorem blk_dx (t : Fin cfg0.N) (r : Fin 256) (j : Fin 2048) :
    kdx (fun k => iblk m c 0 t (ix2 r k)) (prod (fun k => iblk m c 2 t (ix2 r k)) (fun k => iblk m c 1 t (ix2 0 k))) (iblk m c 3 t (ix2 r j)) j
      = Gdx (aX m c) (aG m c) (aH m c) (aD m c) (ix2 ⟨t.val * 256 + r.val, row_lt t r⟩ j) := by
  have ex : (fun k => iblk m c 0 t (ix2 r k)) = fun k => aX m c (ix2 ⟨t.val * 256 + r.val, row_lt t r⟩ k) := funext fun k => rd_x m c t r k
  have eq : (prod (fun k => iblk m c 2 t (ix2 r k)) (fun k => iblk m c 1 t (ix2 0 k)))
      = prod (fun k => aH m c (ix2 ⟨t.val * 256 + r.val, row_lt t r⟩ k)) (fun k => aG m c (ix2 0 k)) :=
    congrArg₂ prod (funext fun k => rd_h m c t r k) (funext fun k => rd_g m c t k)
  have ed := rd_d m c t r j
  refine (kdx_eq _ _ _ _).trans ?_
  show rdx (fun k => iblk m c 0 t (ix2 r k)) (prod (fun k => iblk m c 2 t (ix2 r k)) (fun k => iblk m c 1 t (ix2 0 k))) (iblk m c 3 t (ix2 r j)) j = _
  rw [ex, eq, ed]
  rfl

theorem final4 : (dats m 0 c).arrAt 4 cfg0.N = Gdx (aX m c) (aG m c) (aH m c) (aD m c) := by
  refine (dats m 0 c).arrAt_eq_of_covers 4 _ (by decide +kernel) fun t hf y => ?_
  blk_simp
  idx_vars y
  have e : Gdx (aX m c) (aG m c) (aH m c) (aD m c) (((View.whole main_v0_0).slice (win0_4.rect t)).emb (ix2 y0 y1))
      = Gdx (aX m c) (aG m c) (aH m c) (aD m c) (ix2 ⟨t.val * 256 + y0.val, row_lt t y0⟩ y1) := by
    refine congrArg (Gdx (aX m c) (aG m c) (aH m c) (aD m c)) ?_
    blk_ext [idx t]
  refine Eq.trans ?_ e.symm
  rw [after0_4]
  have e2 : (outsAt0 m c t.val t.isLt).1 (ix2 y0 y1)
      = kdx (fun k => iblk m c 0 t (ix2 y0 k)) (prod (fun k => iblk m c 2 t (ix2 y0 k)) (fun k => iblk m c 1 t (ix2 0 k))) (iblk m c 3 t (ix2 y0 y1)) y1 := by
    by_cases h0 : t.val % 16 = 0
    · rw [outsAt0_A m c t h0]; dsimp only; frame_out; rw [pay5_apply]
    · rw [outsAt0_B m c t h0]; dsimp only; frame_out; rw [pay5_apply]
  exact e2.trans (blk_dx m c t y0 y1)

theorem final5 : (dats m 0 c).arrAt 5 cfg0.N = Gdx (aX m c) (aG m c) (aH m c) (aD m c) := by
  refine (dats m 0 c).arrAt_eq_of_covers 5 _ (by decide +kernel) fun t hf y => ?_
  blk_simp
  idx_vars y
  have e : Gdx (aX m c) (aG m c) (aH m c) (aD m c) (((View.whole main_v0_1).slice (win0_5.rect t)).emb (ix2 y0 y1))
      = Gdx (aX m c) (aG m c) (aH m c) (aD m c) (ix2 ⟨t.val * 256 + y0.val, row_lt t y0⟩ y1) := by
    refine congrArg (Gdx (aX m c) (aG m c) (aH m c) (aD m c)) ?_
    blk_ext [idx t]
  refine Eq.trans ?_ e.symm
  rw [after0_5]
  have e2 : (outsAt0 m c t.val t.isLt).2.1 (ix2 y0 y1)
      = kdx (fun k => iblk m c 0 t (ix2 y0 k)) (prod (fun k => iblk m c 2 t (ix2 y0 k)) (fun k => iblk m c 1 t (ix2 0 k))) (iblk m c 3 t (ix2 y0 y1)) y1 := by
    by_cases h0 : t.val % 16 = 0
    · rw [outsAt0_A m c t h0]; dsimp only; frame_out; rw [pay6_apply]
    · rw [outsAt0_B m c t h0]; dsimp only; frame_out; rw [pay6_apply]
  exact e2.trans (blk_dx m c t y0 y1)

theorem final6 : (dats m 0 c).arrAt 6 cfg0.N = Gdg (aX m c) (aH m c) := by
  refine (dats m 0 c).arrAt_eq_of_covers 6 _ (by decide +kernel) fun t hf y => ?_
  blk_simp
  idx_vars y
  have e : Gdg (aX m c) (aH m c) (((View.whole main_v0_2).slice (win0_6.rect t)).emb (ix2 y0 y1)) = Gdg (aX m c) (aH m c) (ix2 y0 y1) := by
    refine congrArg (Gdg (aX m c) (aH m c)) ?_
    blk_ext [idx t]
  refine Eq.trans ?_ e.symm
  rw [after0_6]
  have h1 : t.val % 16 = 15 := (flush0_6 t).mp hf
  refine (Pipeline.eq_sum_fin_of_reset_step_apply_of_flush (fun n h => (outsAt0 m c n h).2.2) 16 (fun _ => (0 : EReal)) (fun t j => ∑ r : Fin 256,
      term (fun k => iblk m c 2 t (ix2 r k)) (fun k => iblk m c 0 t (ix2 r k)) (j 1))
    (fun t h j => by rw [outsAt0_A m c t h]; dsimp only; frame_out; rw [pay1_apply, pay2_apply])
    (fun t h j => by
      rw [outsAt0_B m c t h]; dsimp only; frame_out; rw [pay1_apply])
    t h1 _).trans ?_
  rw [zero_add]
  refine Eq.trans (Finset.sum_congr rfl fun s _ => ?_) (Fin.sum_mul_add_congr (S := 16) (n := 256) (F := fun s r => term (fun k => aH m c (ix2 ⟨s.val * 256 + r.val, by have h1 : s.val < 16 := s.isLt; have h2 : r.val < 256 := r.isLt; omega⟩ k)) (fun k => aX m c (ix2 ⟨s.val * 256 + r.val, by have h1 : s.val < 16 := s.isLt; have h2 : r.val < 256 := r.isLt; omega⟩ k)) y1) fun s k hl => rfl)
  refine Finset.sum_congr rfl fun r _ => ?_
  have ht : t.val < cfg0.N := t.isLt
  have hN : cfg0.N = 16 := N_0
  have hq : t.val / 16 = 0 := by omega
  have en : (⟨(16 * (t.val / 16) + s.val) * 256 + r.val, row_lt ⟨16 * (t.val / 16) + s.val, Pipeline.run_point_lt_of_flush t h1 s⟩ r⟩ : Fin 4096)
      = ⟨s.val * 256 + r.val, by have h1 : s.val < 16 := s.isLt; have h2 : r.val < 256 := r.isLt; omega⟩ := Fin.ext (by show (16 * (t.val / 16) + s.val) * 256 + r.val = s.val * 256 + r.val; rw [hq]; omega)
  have ex : (fun k => iblk m c 0 ⟨16 * (t.val / 16) + s.val, Pipeline.run_point_lt_of_flush t h1 s⟩ (ix2 r k))
      = fun k => aX m c (ix2 ⟨s.val * 256 + r.val, by have h1 : s.val < 16 := s.isLt; have h2 : r.val < 256 := r.isLt; omega⟩ k) :=
    funext fun k => (rd_x m c _ r k).trans (congrArg (fun n : Fin 4096 => aX m c (ix2 n k)) en)
  have eh : (fun k => iblk m c 2 ⟨16 * (t.val / 16) + s.val, Pipeline.run_point_lt_of_flush t h1 s⟩ (ix2 r k))
      = fun k => aH m c (ix2 ⟨s.val * 256 + r.val, by have h1 : s.val < 16 := s.isLt; have h2 : r.val < 256 := r.isLt; omega⟩ k) :=
    funext fun k => (rd_h m c _ r k).trans (congrArg (fun n : Fin 4096 => aH m c (ix2 n k)) en)
  exact congrArg₂ (fun h x => term h x y1) eh ex

end

/-- Both programs end with the gradient to the residual stream, twice, and the gradient to the gain. -/
theorem value : Cert.algebraic_NormIdeal_NormRefIdeal := by
  intro m g m' g' _ ha
  refine ⟨fun c => Gdx (aX m c) (aG m c) (aH m c) (aD m c), fun c => Gdx (aX m c) (aG m c) (aH m c) (aD m c), fun c => Gdg (aX m c) (aH m c),
    (θ_run Cert.NormIdeal.defs _ _).mono (fun r h c => ?_) (Cert.NormIdeal.Value.run_blocks m g),
    (θ_run Cert.NormRefIdeal.defs _ _).mono (fun r h c => ?_) (Cert.NormRefIdeal.Value.run m' g')⟩
  · exact ⟨(h c).1.trans (final4 m c), (h c).2.1.trans (final5 m c), (h c).2.2.1.trans (final6 m c), (h c).2.2.2⟩
  · obtain ⟨a0, a1, a2, a3⟩ := ha c
    have h' := h c
    rw [a0, a1, a2, a3] at h'
    rw [a0, a1, a2, a3]
    exact ⟨h'.1.trans ((Cert.NormRefIdeal.Read.val_main_v34_eq (F := Ideal) _ _ _ _).trans (ref_dx _ _ _ _)),
      h'.2.1.trans (((Cert.NormRefIdeal.Read.val_main_v35_eq (F := Ideal) _ _ _ _).trans (funext fun _ => rfl : _ = Cert.NormRefIdeal.Read.val_main_v34 (F := Ideal) _ _ _ _)).trans (ref_dx _ _ _ _)),
      h'.2.2.1.trans ((Cert.NormRefIdeal.Read.val_main_v17_eq (F := Ideal) _ _).trans (ref_dg _ _)), h'.2.2.2⟩

end Cert.NormClaims
-- ==== Proof.LossClaims.lean ====
/-
  The claims about the loss and its gradient: the frames of the three programs and the value claim.
-/
module

public import proofs.«01_k».proof.Defs
public import proofs.«01_k».proof.Proof.Gen.Loss
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import Idealize.ShloMosaic.Lib.Quiescent
public import Idealize.ShloMosaic.Lib.Pointwise
public import Idealize.ShloMosaic.Lib.Pipeline.ValueKit
public import proofs.«01_k».proof.Proof.RealMath

@[expose] public section

set_option maxRecDepth 16384

noncomputable section

open Idealize.ShloMosaic Idealize.ShloMosaic.TcCoe Idealize.SL.Sem

namespace Cert.LossClaims

theorem frame_p : Cert.quiescent_Loss := fun m ρ _ => Cert.Loss.Gen.frame m ρ
theorem frame_i : Cert.quiescent_LossIdeal := fun m ρ _ => Cert.LossIdeal.Gen.frame m ρ
theorem frame_r : Cert.quiescent_LossRefIdeal := fun m ρ _ =>
  (θ_run Cert.LossRefIdeal.defs _ _).mono (fun r h => ⟨fun c => (h c).2.2.2,
      Idealize.ShloMosaic.sem_eq_zero_of_no_sems (by decide) r.2⟩) (Cert.LossRefIdeal.Value.run m ρ)
theorem preserves : Cert.preserves_Loss_LossIdeal := trivial

abbrev T := (⟨Cert.LossRefIdeal.S4096x2048, .f32⟩ : BufTy).Contents (Elt Ideal)

/-- The difference over the number of features. -/
def scaled (a b : EReal) : EReal := (a - b) * Ideal.ofBits .f32 0x3A000000#32
/-- The square of the difference. -/
def sqd (a b : EReal) : EReal := (a - b) * (a - b)
/-- The gradient: the difference over the number of features. -/
def Gdy (y t : T) : T := fun i => (scaled (y i) (t i) : EReal)
/-- The square of the difference. -/
def sq (y t : T) (n : Fin 4096) (k : Fin 2048) : EReal := sqd (y (ix2 n k)) (t (ix2 n k))
/-- The loss: half the sum over the tokens of the mean square. -/
def total (y t : T) : EReal := ∑ n : Fin 4096, (∑ k : Fin 2048, sq y t n k) * Ideal.ofBits .f32 0x39800000#32

section
open Cert.LossRefIdeal Cert.LossRefIdeal.Read

theorem ref_dy (y t : T) : val_main_v14 (F := Ideal) y t = Gdy y t := by
  funext i
  idx_vars i
  have e : val_main_v14 (F := Ideal) y t (ix2 i0 i1)
      = Ideal.div (Ideal.ofBits .f32 0x3F000000#32 * Ideal.ofBits .f32 0x3F800000#32) (Ideal.ofBits .f32 0x45000000#32)
        * (Ideal.ofBits .f32 0x40000000#32 * (y (ix2 i0 i1) - t (ix2 i0 i1) : EReal)) := by
    pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1, val_main_cst_2, val_main_cst_3, val_main_cst_4, val_main_cst_5, val_main_cst_6]
  refine e.trans ?_
  show _ = (y (ix2 i0 i1) - t (ix2 i0 i1) : EReal) * Ideal.ofBits .f32 0x3A000000#32
  rw [Ideal.ofBits_one_f32, mul_one, Cert.RealMath.c2048, Cert.RealMath.div_coe _ _ (by norm_num), Cert.RealMath.chalf, Cert.RealMath.ctwo,
    Cert.RealMath.cr2048, ← mul_assoc, ← EReal.coe_mul, ← EReal.coe_mul, mul_comm]
  norm_num

theorem ref_loss (y t : T) (i : S8x128.Idx) : val_main_v16 (F := Ideal) y t i = total y t := by
  idx_vars i
  have e : val_main_v16 (F := Ideal) y t (ix2 i0 i1)
      = Ideal.ofBits .f32 0x3F000000#32 * ∑ n : Fin 4096, Ideal.div (∑ k : Fin 2048, sq y t n k) (Ideal.ofBits .f32 0x45000000#32) := by
    pointwise [val_main_v16, val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1, val_main_cst_2, val_main_cst_3, val_main_cst_4, val_main_cst_5, val_main_cst_6, sq, sqd]
  refine e.trans ?_
  unfold total
  rw [Cert.RealMath.c2048, Cert.RealMath.chalf, Cert.RealMath.c4096, Cert.RealMath.mul_sum _ _ (Cert.RealMath.coe_nonneg' (by norm_num)) (EReal.coe_ne_top _)]
  refine Finset.sum_congr rfl fun n _ => ?_
  rw [Cert.RealMath.div_coe _ _ (by norm_num), mul_comm, mul_assoc, ← EReal.coe_mul]
  norm_num

end

section
open Cert.LossIdeal Cert.LossIdeal.Gen

theorem pay3_apply (y t : Vec Ideal S256x2048 .f32) (j : S256x2048.Idx) :
    k0_pay3 y t j = scaled (y j) (t j) := by
  pointwise [k0_pay3, k0_pay2, scaled]
theorem pay4_apply (y t : Vec Ideal S256x2048 .f32) (j : S256x2048.Idx) :
    k0_pay4 y t j = scaled (y j) (t j) := by
  pointwise [k0_pay4, k0_pay3, k0_pay2, scaled]
theorem pay1_apply (j : S8x128.Idx) : k0_pay1 (F := Ideal) j = 0 := by pointwise [k0_pay1]
theorem pay5_apply (y t : Vec Ideal S256x2048 .f32) (a : Vec Ideal S8x128 .f32) (j : S8x128.Idx) :
    k0_pay5 y t a j = a j + (∑ k : Fin 2048, ∑ r : Fin 256, sqd (y (ix2 r k)) (t (ix2 r k)))
      * Ideal.ofBits .f32 0x39800000#32 := by
  idx_vars j
  pointwise [k0_pay5, k0_pay2, sqd]

variable (m : (ℓ : Loc nD τ sig) → Buf (Elt Ideal) ℓ) (c : Dev nD)

abbrev aY := m ((c : Thread nD τ).loc main_arg0)
abbrev aT := m ((c : Thread nD τ).loc main_arg1)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] := (by decide +kernel : ∀ t : Fin grid0.N, _)

theorem row_lt (t : Fin cfg0.N) (r : Fin 256) : t.val * 256 + r.val < 4096 := by
  have := t.isLt; have h : cfg0.N = 16 := N_0; omega

theorem rd_y (t : Fin cfg0.N) (r : Fin 256) (k : Fin 2048) : iblk m c 0 t (ix2 r k) = aY m c (ix2 ⟨t.val * 256 + r.val, row_lt t r⟩ k) := by
  blk_ext [iblk, V, idx t]
theorem rd_t (t : Fin cfg0.N) (r : Fin 256) (k : Fin 2048) : iblk m c 1 t (ix2 r k) = aT m c (ix2 ⟨t.val * 256 + r.val, row_lt t r⟩ k) := by
  blk_ext [iblk, V, idx t]

theorem final2 : (dats m 0 c).arrAt 2 cfg0.N = Gdy (aY m c) (aT m c) := by
  refine (dats m 0 c).arrAt_eq_of_covers 2 _ (by decide +kernel) fun t hf y => ?_
  blk_simp
  idx_vars y
  have e : Gdy (aY m c) (aT m c) (((View.whole main_v0_0).slice (win0_2.rect t)).emb (ix2 y0 y1))
      = Gdy (aY m c) (aT m c) (ix2 ⟨t.val * 256 + y0.val, row_lt t y0⟩ y1) := by
    refine congrArg (Gdy (aY m c) (aT m c)) ?_
    blk_ext [idx t]
  refine Eq.trans ?_ e.symm
  rw [after0_2]
  have e2 : (outsAt0 m c t.val t.isLt).1 (ix2 y0 y1)
      = scaled (iblk m c 0 t (ix2 y0 y1)) (iblk m c 1 t (ix2 y0 y1)) := by
    by_cases h0 : t.val % 16 = 0
    · rw [outsAt0_A m c t h0]; dsimp only; frame_out; rw [pay3_apply]
    · rw [outsAt0_B m c t h0]; dsimp only; frame_out; rw [pay3_apply]
  refine e2.trans ?_
  exact congrArg₂ scaled (rd_y m c t y0 y1) (rd_t m c t y0 y1)

theorem final3 : (dats m 0 c).arrAt 3 cfg0.N = Gdy (aY m c) (aT m c) := by
  refine (dats m 0 c).arrAt_eq_of_covers 3 _ (by decide +kernel) fun t hf y => ?_
  blk_simp
  idx_vars y
  have e : Gdy (aY m c) (aT m c) (((View.whole main_v0_1).slice (win0_3.rect t)).emb (ix2 y0 y1))
      = Gdy (aY m c) (aT m c) (ix2 ⟨t.val * 256 + y0.val, row_lt t y0⟩ y1) := by
    refine congrArg (Gdy (aY m c) (aT m c)) ?_
    blk_ext [idx t]
  refine Eq.trans ?_ e.symm
  rw [after0_3]
  have e2 : (outsAt0 m c t.val t.isLt).2.1 (ix2 y0 y1)
      = scaled (iblk m c 0 t (ix2 y0 y1)) (iblk m c 1 t (ix2 y0 y1)) := by
    by_cases h0 : t.val % 16 = 0
    · rw [outsAt0_A m c t h0]; dsimp only; frame_out; rw [pay4_apply]
    · rw [outsAt0_B m c t h0]; dsimp only; frame_out; rw [pay4_apply]
  refine e2.trans ?_
  exact congrArg₂ scaled (rd_y m c t y0 y1) (rd_t m c t y0 y1)

theorem final4 : (dats m 0 c).arrAt 4 cfg0.N = fun _ => total (aY m c) (aT m c) := by
  refine (dats m 0 c).arrAt_eq_of_covers 4 _ (by decide +kernel) fun t hf y => ?_
  blk_simp
  idx_vars y
  rw [after0_4]
  have h1 : t.val % 16 = 15 := (flush0_4 t).mp hf
  refine (Pipeline.eq_sum_fin_of_reset_step_apply_of_flush (fun n h => (outsAt0 m c n h).2.2) 16 (fun _ => (0 : EReal)) (fun t _ => (∑ k : Fin 2048, ∑ r : Fin 256,
      sqd (iblk m c 0 t (ix2 r k)) (iblk m c 1 t (ix2 r k))) * Ideal.ofBits .f32 0x39800000#32)
    (fun t h j => by rw [outsAt0_A m c t h]; dsimp only; frame_out; rw [pay5_apply, pay1_apply])
    (fun t h j => by
      rw [outsAt0_B m c t h]; dsimp only; frame_out; rw [pay5_apply])
    t h1 _).trans ?_
  rw [zero_add]
  unfold total
  refine Eq.trans (Finset.sum_congr rfl fun s _ => ?_) (Fin.sum_mul_add_congr (S := 16) (n := 256)
    (F := fun s r => (∑ k : Fin 2048, sq (aY m c) (aT m c) ⟨s.val * 256 + r.val, by have h1 : s.val < 16 := s.isLt; have h2 : r.val < 256 := r.isLt; omega⟩ k) * Ideal.ofBits .f32 0x39800000#32) fun s k hl => rfl)
  rw [Finset.sum_comm, Cert.RealMath.sum_mul _ _ (by rw [Cert.RealMath.c4096]; exact Cert.RealMath.coe_nonneg' (by norm_num)) (by rw [Cert.RealMath.c4096]; exact EReal.coe_ne_top _)]
  refine Finset.sum_congr rfl fun r _ => congrArg (fun x : EReal => x * Ideal.ofBits .f32 0x39800000#32) (Finset.sum_congr rfl fun k _ => ?_)
  have ht : t.val < cfg0.N := t.isLt
  have hN : cfg0.N = 16 := N_0
  have hq : t.val / 16 = 0 := by omega
  have e0 := rd_y m c ⟨16 * (t.val / 16) + s.val, Pipeline.run_point_lt_of_flush t h1 s⟩ r k
  have e1 := rd_t m c ⟨16 * (t.val / 16) + s.val, Pipeline.run_point_lt_of_flush t h1 s⟩ r k
  refine (congrArg₂ sqd e0 e1).trans ?_
  have en : (⟨(16 * (t.val / 16) + s.val) * 256 + r.val, row_lt ⟨16 * (t.val / 16) + s.val, Pipeline.run_point_lt_of_flush t h1 s⟩ r⟩ : Fin 4096)
      = ⟨s.val * 256 + r.val, by have h1 : s.val < 16 := s.isLt; have h2 : r.val < 256 := r.isLt; omega⟩ := Fin.ext (by show (16 * (t.val / 16) + s.val) * 256 + r.val = s.val * 256 + r.val; rw [hq]; omega)
  exact congrArg (fun n : Fin 4096 => sq (aY m c) (aT m c) n k) en

end

/-- Both programs end with the gradient, twice, and the loss. -/
theorem value : Cert.algebraic_LossIdeal_LossRefIdeal := by
  intro m g m' g' _ ha
  refine ⟨fun c => Gdy (aY m c) (aT m c), fun c => Gdy (aY m c) (aT m c), fun c _ => total (aY m c) (aT m c),
    (θ_run Cert.LossIdeal.defs _ _).mono (fun r h c => ?_) (Cert.LossIdeal.Value.run_blocks m g),
    (θ_run Cert.LossRefIdeal.defs _ _).mono (fun r h c => ?_) (Cert.LossRefIdeal.Value.run m' g')⟩
  · exact ⟨(h c).1.trans (final2 m c), (h c).2.1.trans (final3 m c), (h c).2.2.1.trans (final4 m c), (h c).2.2.2⟩
  · obtain ⟨a0, a1⟩ := ha c
    have h' := h c
    rw [a0, a1] at h'
    rw [a0, a1]
    exact ⟨h'.1.trans ((Cert.LossRefIdeal.Read.val_main_v14_eq (F := Ideal) _ _).trans (ref_dy _ _)),
      h'.2.1.trans (((Cert.LossRefIdeal.Read.val_main_v15_eq (F := Ideal) _ _).trans (funext fun _ => rfl : _ = Cert.LossRefIdeal.Read.val_main_v14 (F := Ideal) _ _)).trans (ref_dy _ _)),
      h'.2.2.1.trans ((Cert.LossRefIdeal.Read.val_main_v16_eq (F := Ideal) _ _).trans (funext fun i => ref_loss _ _ i)), h'.2.2.2⟩

end Cert.LossClaims
-- ==== Proof.SmallClaims.lean ====
/-
  The claims about the update of the small weights: the frames of the three programs and the value claim.
-/
module

public import proofs.«01_k».proof.Defs
public import proofs.«01_k».proof.Proof.Gen.Small
public import proofs.«01_k».proof.Proof.Gen.Small.Frame
public import proofs.«01_k».proof.Proof.Gen.SmallIdeal.Frame
public import proofs.«01_k».proof.Proof.Gen.SmallIdeal.Value
public import proofs.«01_k».proof.Proof.Gen.SmallRefIdeal.Run
public import proofs.«01_k».proof.Proof.Gen.SmallRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SmallClaims

theorem frame_p : Cert.quiescent_Small := fun m ρ _ => Cert.Small.Gen.frame m ρ
theorem frame_i : Cert.quiescent_SmallIdeal := fun m ρ _ => Cert.SmallIdeal.Gen.frame m ρ
theorem frame_r : Cert.quiescent_SmallRefIdeal := fun m ρ _ =>
  (θ_run Cert.SmallRefIdeal.defs _ _).mono (fun r h => ⟨fun c => (h c).2.2.2,
      Idealize.ShloMosaic.sem_eq_zero_of_no_sems (by decide) r.2⟩) (Cert.SmallRefIdeal.Value.run m ρ)
theorem preserves : Cert.preserves_Small_SmallIdeal := trivial

/-- Both programs compute the weight change, and the two moments, by the same formula at every entry. -/
theorem value : Cert.algebraic_SmallIdeal_SmallRefIdeal := by
  intro m g m' g' _ ha
  refine ⟨_, _, _, Cert.SmallIdeal.Value.run m g,
    (θ_run Cert.SmallRefIdeal.defs _ _).mono (fun r h c => ?_) (Cert.SmallRefIdeal.Value.run m' g')⟩
  obtain ⟨a0, a1, a2, a3⟩ := ha c
  have h' := h c
  rw [a0, a1, a2, a3] at h'
  rw [a0, a1, a2, a3]
  exact ⟨h'.1.trans rfl, h'.2.1.trans rfl, h'.2.2.1.trans rfl, h'.2.2.2⟩

end Cert.SmallClaims
-- ==== Proof.AdamMath.lean ====
/-
  The weight update at one entry: the two moments and the change of the weight.
-/
module

public import Idealize.ShloMosaic.Lib.Pointwise

@[expose] public section

noncomputable section

open Idealize.ShloMosaic

namespace Cert.AdamMath

/-- A constant of the formula. -/
abbrev k (b : BitVec 32) : Ideal .f32 := FloatOps.ofBits .f32 b

/-- The new first moment, of the gradient and the old one. -/
def nm (g m : Ideal .f32) : Ideal .f32 := FloatOps.addf (FloatOps.mulf (k 0x3F666666#32) m) (FloatOps.mulf (k 0x3DCCCCCD#32) g)
/-- The new second moment, of the gradient and the old one. -/
def nv (g v : Ideal .f32) : Ideal .f32 :=
  FloatOps.addf (FloatOps.mulf (k 0x3F7FBE77#32) v) (FloatOps.mulf (k 0x3A83126F#32) (FloatOps.mulf g g))
/-- The change of the weight, of the gradient, the old moments and the weight. -/
def dl (g m v w : Ideal .f32) : Ideal .f32 :=
  FloatOps.mulf (k 0xBA83126F#32) (FloatOps.addf (FloatOps.divf (FloatOps.divf (nm g m) (k 0x3F26BD02#32))
    (FloatOps.addf (FloatOps.sqrt (FloatOps.divf (nv g v) (k 0x3C231ACC#32))) (k 0x322BCC77#32))) (FloatOps.mulf (k 0x3C23D70A#32) w))

end Cert.AdamMath
-- ==== Proof.BigInClaims.lean ====
/-
  The claims about the update of one layer of the input projection: the frames of the three programs and the value claim.
-/
module

public import proofs.«01_k».proof.Defs
public import proofs.«01_k».proof.Proof.Gen.BigIn
public import proofs.«01_k».proof.Proof.Gen.BigIn.Frame
public import proofs.«01_k».proof.Proof.Gen.BigInIdeal.Frame
public import proofs.«01_k».proof.Proof.Gen.BigInIdeal.Value
public import proofs.«01_k».proof.Proof.Gen.BigInRefIdeal.Run
public import proofs.«01_k».proof.Proof.Gen.BigInRefIdeal.Read
public import Idealize.ShloMosaic.Lib.Quiescent
public import Idealize.ShloMosaic.Lib.Pointwise
public import Idealize.ShloMosaic.Lib.Pipeline.ValueKit
public import proofs.«01_k».proof.Proof.AdamMath
public import Idealize.ShloMosaic.Lib.Pipeline.Value

@[expose] public section

set_option maxRecDepth 16384

noncomputable section

open Idealize.ShloMosaic Idealize.ShloMosaic.TcCoe Idealize.SL.Sem

namespace Cert.BigInClaims

theorem frame_p : Cert.quiescent_BigIn := fun m ρ _ => Cert.BigIn.Gen.frame m ρ
theorem frame_i : Cert.quiescent_BigInIdeal := fun m ρ _ => Cert.BigInIdeal.Gen.frame m ρ
theorem frame_r : Cert.quiescent_BigInRefIdeal := fun m ρ _ =>
  (θ_run Cert.BigInRefIdeal.defs _ _).mono (fun r h => ⟨fun c => (h c).2.2.2.2,
      Idealize.ShloMosaic.sem_eq_zero_of_no_sems (by decide) r.2⟩) (Cert.BigInRefIdeal.Value.run m ρ)
theorem preserves : Cert.preserves_BigIn_BigInIdeal := trivial

abbrev T4 := (⟨Cert.BigInRefIdeal.S4x2048x1344, .f32⟩ : BufTy).Contents (Elt Ideal)
abbrev TG := (⟨Cert.BigInRefIdeal.S1344x2048, .f32⟩ : BufTy).Contents (Elt Ideal)

/-! ## The results, entry by entry: the first layer new, the other layers as they were -/

def Ggo (g : TG) (b : T4) : T4 := fun i => if (i 0).val < 1 then g (ix2 (i 2) (i 1)) else b i
def Gd (w : T4) (g : TG) (m v b : T4) : T4 := fun i => if (i 0).val < 1 then Cert.AdamMath.dl (g (ix2 (i 2) (i 1))) (m i) (v i) (w i) else b i
def Gm (g : TG) (m b : T4) : T4 := fun i => if (i 0).val < 1 then Cert.AdamMath.nm (g (ix2 (i 2) (i 1))) (m i) else b i
def Gv (g : TG) (v b : T4) : T4 := fun i => if (i 0).val < 1 then Cert.AdamMath.nv (g (ix2 (i 2) (i 1))) (v i) else b i

section
open Cert.BigInRefIdeal Cert.BigInRefIdeal.Gen Cert.BigInRefIdeal.Read

/-- A new layer put before the other layers of a stack. -/
theorem stack (x : (⟨S1x2048x1344, .f32⟩ : BufTy).Contents (Elt Ideal)) (z : (⟨S3x2048x1344, .f32⟩ : BufTy).Contents (Elt Ideal)) (b : T4)
    (f : Fin 2048 → Fin 1344 → Ideal .f32) (hx : ∀ r k, x (ix3 (0 : Fin 1) r k) = f r k)
    (hz : ∀ (l : Fin 3) r k, z (ix3 l r k) = b (ix3 (⟨1 + l.val, by omega⟩ : Fin 4) r k)) (l : Fin 4) (r : Fin 2048) (k : Fin 1344) :
    concatenate S4x2048x1344 0 [⟨S1x2048x1344, x⟩, ⟨S3x2048x1344, z⟩] concatenates_S1x2048x1344_S3x2048x1344_S4x2048x1344_d0 (ix3 l r k)
      = if l.val < 1 then f r k else b (ix3 l r k) := by
  by_cases h : l.val < 1
  · have e : l = 0 := Fin.ext (by show l.val = 0; omega)
    subst e
    rw [if_pos h, concatenate_pair_apply_left (t := S4x2048x1344) (s₁ := S1x2048x1344) (s₂ := S3x2048x1344) 0 _ _ _ (ix3 (0 : Fin 4) r k) rfl (ix3 (0 : Fin 1) r k)
        (fun b => match b with | ⟨0, _⟩ => rfl | ⟨1, _⟩ => rfl | ⟨2, _⟩ => rfl)]
    exact hx r k
  · have hl := l.isLt
    rw [if_neg h, concatenate_pair_apply_right (t := S4x2048x1344) (s₁ := S1x2048x1344) (s₂ := S3x2048x1344) 0 _ _ _ (ix3 l r k) rfl rfl
        (ix3 (⟨l.val - 1, by omega⟩ : Fin 3) r k)
        (fun b => match b with | ⟨0, _⟩ => fun hb => absurd rfl hb | ⟨1, _⟩ => fun _ => rfl | ⟨2, _⟩ => fun _ => rfl)
        (show l.val - 1 + 1 = l.val by omega), hz]
    exact congrArg (fun l' : Fin 4 => b (ix3 l' r k)) (Fin.ext (show 1 + (l.val - 1) = l.val by omega))

theorem later (b : T4) (l : Fin 3) (r : Fin 2048) (k : Fin 1344) :
    val_main_v32 (F := Ideal) b (ix3 l r k) = b (ix3 (⟨1 + l.val, by omega⟩ : Fin 4) r k) :=
  (val_main_v32_apply b (ix3 l r k)).trans (congrArg b (funext fun a => match a with | ⟨0, _⟩ => rfl | ⟨1, _⟩ => rfl | ⟨2, _⟩ => rfl))

theorem ref_go (g : TG) (b : T4) : val_main_v33 (F := Ideal) g b = Ggo g b := by
  funext y
  idx_vars y
  exact stack _ _ b (fun r k => g (ix2 k r)) (fun r k => by pointwise [val_main_v31, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, val_main_cst_3, val_main_cst_4, val_main_cst_5, val_main_cst_6, val_main_cst_7]) (later b) y0 y1 y2
theorem ref_d (w : T4) (g : TG) (m v b : T4) : val_main_v36 (F := Ideal) w g m v b = Gd w g m v b := by
  funext y
  idx_vars y
  refine (stack _ _ b (fun r k => Cert.AdamMath.dl (g (ix2 k r)) (m (ix3 (0 : Fin 4) r k)) (v (ix3 (0 : Fin 4) r k)) (w (ix3 (0 : Fin 4) r k)))
    (fun r k => by pointwise [val_main_v34, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, val_main_cst_3, val_main_cst_4, val_main_cst_5, val_main_cst_6, val_main_cst_7, Cert.AdamMath.dl, Cert.AdamMath.nm, Cert.AdamMath.nv]) (later b) y0 y1 y2).trans ?_
  unfold Gd
  by_cases h : y0.val < 1
  · have e : y0 = 0 := Fin.ext (by show y0.val = 0; omega)
    subst e
    rfl
  · exact (if_neg h).trans (if_neg h).symm
theorem ref_m (g : TG) (m b : T4) : val_main_v39 (F := Ideal) g m b = Gm g m b := by
  funext y
  idx_vars y
  refine (stack _ _ b (fun r k => Cert.AdamMath.nm (g (ix2 k r)) (m (ix3 (0 : Fin 4) r k)))
    (fun r k => by pointwise [val_main_v37, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, val_main_cst_3, val_main_cst_4, val_main_cst_5, val_main_cst_6, val_main_cst_7, Cert.AdamMath.nm]) (later b) y0 y1 y2).trans ?_
  unfold Gm
  by_cases h : y0.val < 1
  · have e : y0 = 0 := Fin.ext (by show y0.val = 0; omega)
    subst e
    rfl
  · exact (if_neg h).trans (if_neg h).symm
theorem ref_v (g : TG) (v b : T4) : val_main_v42 (F := Ideal) g v b = Gv g v b := by
  funext y
  idx_vars y
  refine (stack _ _ b (fun r k => Cert.AdamMath.nv (g (ix2 k r)) (v (ix3 (0 : Fin 4) r k)))
    (fun r k => by pointwise [val_main_v40, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, val_main_cst_3, val_main_cst_4, val_main_cst_5, val_main_cst_6, val_main_cst_7, Cert.AdamMath.nv]) (later b) y0 y1 y2).trans ?_
  unfold Gv
  by_cases h : y0.val < 1
  · have e : y0 = 0 := Fin.ext (by show y0.val = 0; omega)
    subst e
    rfl
  · exact (if_neg h).trans (if_neg h).symm

end

section
open Cert.BigInIdeal Cert.BigInIdeal.Gen

section
variable (g : Vec Ideal S256x1344 .f32) (w m v : Vec Ideal S1x256x1344 .f32) (r : Fin 256) (k : Fin 1344)

theorem go_apply : k0_pay3 (k0_pay4 g) (ix3 (0 : Fin 1) r k) = g (ix2 r k) := by pointwise [k0_pay1, k0_pay2, k0_pay3, k0_pay4, k0_pay5, k0_pay6, k0_pay7]
theorem m_apply : k0_pay1 (k0_pay5 g m) (ix3 (0 : Fin 1) r k) = Cert.AdamMath.nm (g (ix2 r k)) (m (ix3 (0 : Fin 1) r k)) := by
  pointwise [k0_pay1, k0_pay2, k0_pay3, k0_pay4, k0_pay5, k0_pay6, k0_pay7, Cert.AdamMath.nm]
theorem v_apply : k0_pay2 (k0_pay6 g v) (ix3 (0 : Fin 1) r k) = Cert.AdamMath.nv (g (ix2 r k)) (v (ix3 (0 : Fin 1) r k)) := by
  pointwise [k0_pay1, k0_pay2, k0_pay3, k0_pay4, k0_pay5, k0_pay6, k0_pay7, Cert.AdamMath.nv]
theorem d_apply : k0_pay7 g m v w (ix3 (0 : Fin 1) r k)
    = Cert.AdamMath.dl (g (ix2 r k)) (m (ix3 (0 : Fin 1) r k)) (v (ix3 (0 : Fin 1) r k)) (w (ix3 (0 : Fin 1) r k)) := by
  pointwise [k0_pay1, k0_pay2, k0_pay3, k0_pay4, k0_pay5, k0_pay6, k0_pay7, Cert.AdamMath.dl, Cert.AdamMath.nm, Cert.AdamMath.nv]

end

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)

theorem V_b0 : V m c main_v1_0 = a4 m c := by
  show StableHlo.after (List.flatten [hostOps0]) _ (Proc.devRef .tc main_v1_0) = _
  simp only [hostOps0, List.flatten_cons, List.flatten_nil, List.append_nil, List.cons_append, List.nil_append]
  after_results_simp
  rfl
theorem V_b1 : V m c main_v1_1 = a5 m c := by
  show StableHlo.after (List.flatten [hostOps0]) _ (Proc.devRef .tc main_v1_1) = _
  simp only [hostOps0, List.flatten_cons, List.flatten_nil, List.append_nil, List.cons_append, List.nil_append]
  after_results_simp
  rfl
theorem V_b2 : V m c main_v1_2 = a6 m c := by
  show StableHlo.after (List.flatten [hostOps0]) _ (Proc.devRef .tc main_v1_2) = _
  simp only [hostOps0, List.flatten_cons, List.flatten_nil, List.append_nil, List.cons_append, List.nil_append]
  after_results_simp
  rfl
theorem V_b3 : V m c main_v1_3 = a7 m c := by
  show StableHlo.after (List.flatten [hostOps0]) _ (Proc.devRef .tc main_v1_3) = _
  simp only [hostOps0, List.flatten_cons, List.flatten_nil, List.append_nil, List.cons_append, List.nil_append]
  after_results_simp
  rfl
theorem V_g : V m c main_v0 = transpose S2048x1344 [1, 0] (a1 m c) transposes_S1344x2048_S2048x1344_1_0 := by
  show StableHlo.after (List.flatten [hostOps0]) _ (Proc.devRef .tc main_v0) = _
  simp only [hostOps0, List.flatten_cons, List.flatten_nil, List.append_nil, List.cons_append, List.nil_append]
  after_results_simp
  try rfl

theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] := (by decide +kernel : ∀ t : Fin grid0.N, _)

theorem row_lt (t : Fin cfg0.N) (r : Fin 256) : t.val * 256 + r.val < 2048 := by
  have := t.isLt; have h : cfg0.N = 8 := N_0; omega

variable (t : Fin cfg0.N) (r : Fin 256) (k : Fin 1344)

theorem rd_w : iblk m c 0 t (ix3 (0 : Fin 1) r k) = a0 m c (ix3 (0 : Fin 4) ⟨t.val * 256 + r.val, row_lt t r⟩ k) := by
  show V m c main_arg0 _ = _
  rw [V_main_arg0]
  blk_ext [idx t]
theorem rd_m : iblk m c 2 t (ix3 (0 : Fin 1) r k) = a2 m c (ix3 (0 : Fin 4) ⟨t.val * 256 + r.val, row_lt t r⟩ k) := by
  show V m c main_arg2 _ = _
  rw [V_main_arg2]
  blk_ext [idx t]
theorem rd_v : iblk m c 3 t (ix3 (0 : Fin 1) r k) = a3 m c (ix3 (0 : Fin 4) ⟨t.val * 256 + r.val, row_lt t r⟩ k) := by
  show V m c main_arg3 _ = _
  rw [V_main_arg3]
  blk_ext [idx t]
theorem rd_g : iblk m c 1 t (ix2 r k) = a1 m c (ix2 k ⟨t.val * 256 + r.val, row_lt t r⟩) := by
  show V m c main_v0 _ = _
  rw [V_g]
  refine (transpose_apply [1, 0] (a1 m c) transposes_S1344x2048_S2048x1344_1_0 _ (ix2 k ⟨t.val * 256 + r.val, row_lt t r⟩) ?_)
  intro b
  match b with
  | ⟨0, _⟩ => blk_simp [idx t]; rfl
  | ⟨1, _⟩ => blk_simp [idx t]; rfl

theorem final_go : (dats m 0 c).arrAt 4 cfg0.N = Ggo (a1 m c) (a4 m c) := by
  refine (dats m 0 c).arrAt_eq_of_coversWhere_of_agree 4 _ (fun β => β (0 : Fin _) = 0) (by decide +kernel) (fun t hf y => ?_) (fun j hj => ?_)
  · blk_simp
    idx_vars y
    have hy : y0 = 0 := Fin.ext (by show y0.val = 0; omega)
    subst hy
    have e : Ggo (a1 m c) (a4 m c) (((View.whole main_v1_0).slice (win0_4.rect t)).emb (ix3 (0 : Fin 1) y1 y2))
        = Ggo (a1 m c) (a4 m c) (ix3 (0 : Fin 4) ⟨t.val * 256 + y1.val, row_lt t y1⟩ y2) := by
      refine congrArg (Ggo (a1 m c) (a4 m c)) ?_
      blk_ext [idx t]
    rw [e]
    clear e
    rw [after0_4]
    unfold Gen.outsAt0
    frame_out
    rw [go_apply, rd_g]
    unfold Ggo
    rfl
  · show V m c main_v1_0 _ = _
    rw [V_b0]
    unfold Ggo
    refine (if_neg fun h => hj ?_).symm
    blk_simp [Pipeline.Window.cell_apply]
    have h2 : (j 0).val < 1 := h
    omega

theorem final_d : (dats m 0 c).arrAt 5 cfg0.N = Gd (a0 m c) (a1 m c) (a2 m c) (a3 m c) (a5 m c) := by
  refine (dats m 0 c).arrAt_eq_of_coversWhere_of_agree 5 _ (fun β => β (0 : Fin _) = 0) (by decide +kernel) (fun t hf y => ?_) (fun j hj => ?_)
  · blk_simp
    idx_vars y
    have hy : y0 = 0 := Fin.ext (by show y0.val = 0; omega)
    subst hy
    have e : Gd (a0 m c) (a1 m c) (a2 m c) (a3 m c) (a5 m c) (((View.whole main_v1_1).slice (win0_5.rect t)).emb (ix3 (0 : Fin 1) y1 y2))
        = Gd (a0 m c) (a1 m c) (a2 m c) (a3 m c) (a5 m c) (ix3 (0 : Fin 4) ⟨t.val * 256 + y1.val, row_lt t y1⟩ y2) := by
      refine congrArg (Gd (a0 m c) (a1 m c) (a2 m c) (a3 m c) (a5 m c)) ?_
      blk_ext [idx t]
    rw [e]
    clear e
    rw [after0_5]
    unfold Gen.outsAt0
    frame_out
    rw [d_apply, rd_g, rd_m, rd_v, rd_w]
    unfold Gd
    rfl
  · show V m c main_v1_1 _ = _
    rw [V_b1]
    unfold Gd
    refine (if_neg fun h => hj ?_).symm
    blk_simp [Pipeline.Window.cell_apply]
    have h2 : (j 0).val < 1 := h
    omega

theorem final_m : (dats m 0 c).arrAt 6 cfg0.N = Gm (a1 m c) (a2 m c) (a6 m c) := by
  refine (dats m 0 c).arrAt_eq_of_coversWhere_of_agree 6 _ (fun β => β (0 : Fin _) = 0) (by decide +kernel) (fun t hf y => ?_) (fun j hj => ?_)
  · blk_simp
    idx_vars y
    have hy : y0 = 0 := Fin.ext (by show y0.val = 0; omega)
    subst hy
    have e : Gm (a1 m c) (a2 m c) (a6 m c) (((View.whole main_v1_2).slice (win0_6.rect t)).emb (ix3 (0 : Fin 1) y1 y2))
        = Gm (a1 m c) (a2 m c) (a6 m c) (ix3 (0 : Fin 4) ⟨t.val * 256 + y1.val, row_lt t y1⟩ y2) := by
      refine congrArg (Gm (a1 m c) (a2 m c) (a6 m c)) ?_
      blk_ext [idx t]
    rw [e]
    clear e
    rw [after0_6]
    unfold Gen.outsAt0
    frame_out
    rw [m_apply, rd_g, rd_m]
    unfold Gm
    rfl
  · show V m c main_v1_2 _ = _
    rw [V_b2]
    unfold Gm
    refine (if_neg fun h => hj ?_).symm
    blk_simp [Pipeline.Window.cell_apply]
    have h2 : (j 0).val < 1 := h
    omega

theorem final_v : (dats m 0 c).arrAt 7 cfg0.N = Gv (a1 m c) (a3 m c) (a7 m c) := by
  refine (dats m 0 c).arrAt_eq_of_coversWhere_of_agree 7 _ (fun β => β (0 : Fin _) = 0) (by decide +kernel) (fun t hf y => ?_) (fun j hj => ?_)
  · blk_simp
    idx_vars y
    have hy : y0 = 0 := Fin.ext (by show y0.val = 0; omega)
    subst hy
    have e : Gv (a1 m c) (a3 m c) (a7 m c) (((View.whole main_v1_3).slice (win0_7.rect t)).emb (ix3 (0 : Fin 1) y1 y2))
        = Gv (a1 m c) (a3 m c) (a7 m c) (ix3 (0 : Fin 4) ⟨t.val * 256 + y1.val, row_lt t y1⟩ y2) := by
      refine congrArg (Gv (a1 m c) (a3 m c) (a7 m c)) ?_
      blk_ext [idx t]
    rw [e]
    clear e
    rw [after0_7]
    unfold Gen.outsAt0
    frame_out
    rw [v_apply, rd_g, rd_v]
    unfold Gv
    rfl
  · show V m c main_v1_3 _ = _
    rw [V_b3]
    unfold Gv
    refine (if_neg fun h => hj ?_).symm
    blk_simp [Pipeline.Window.cell_apply]
    have h2 : (j 0).val < 1 := h
    omega

end

/-- Both programs end with the same four arrays. -/
theorem value : Cert.algebraic_BigInIdeal_BigInRefIdeal := by
  intro m g m' g' _ ha
  refine ⟨fun c => Ggo (a1 m c) (a4 m c), fun c => Gd (a0 m c) (a1 m c) (a2 m c) (a3 m c) (a5 m c), fun c => Gm (a1 m c) (a2 m c) (a6 m c),
    fun c => Gv (a1 m c) (a3 m c) (a7 m c), (θ_run Cert.BigInIdeal.defs _ _).mono (fun r h c => ?_) (Cert.BigInIdeal.Value.run_blocks m g),
    (θ_run Cert.BigInRefIdeal.defs _ _).mono (fun r h c => ?_) (Cert.BigInRefIdeal.Value.run m' g')⟩
  · exact ⟨(h c).1.trans (final_go m c), (h c).2.1.trans (final_d m c), (h c).2.2.1.trans (final_m m c), (h c).2.2.2.1.trans (final_v m c), (h c).2.2.2.2⟩
  · obtain ⟨e0, e1, e2, e3, e4, e5, e6, e7⟩ := ha c
    have h' := h c
    rw [Cert.BigInRefIdeal.Read.val_main_v33_eq, Cert.BigInRefIdeal.Read.val_main_v36_eq, Cert.BigInRefIdeal.Read.val_main_v39_eq, Cert.BigInRefIdeal.Read.val_main_v42_eq,
      e0, e1, e2, e3, e4, e5, e6, e7] at h'
    rw [e0, e1, e2, e3, e4, e5, e6, e7]
    exact ⟨h'.1.trans (ref_go _ _), h'.2.1.trans (ref_d _ _ _ _ _), h'.2.2.1.trans (ref_m _ _ _), h'.2.2.2.1.trans (ref_v _ _ _), h'.2.2.2.2⟩

end Cert.BigInClaims
-- ==== Proof.BigOutClaims.lean ====
/-
  The claims about the update of one layer of the output projection: the frames of the three programs and the value claim.
-/
module

public import proofs.«01_k».proof.Defs
public import proofs.«01_k».proof.Proof.Gen.BigOut
public import proofs.«01_k».proof.Proof.Gen.BigOut.Frame
public import proofs.«01_k».proof.Proof.Gen.BigOutIdeal.Frame
public import proofs.«01_k».proof.Proof.Gen.BigOutIdeal.Value
public import proofs.«01_k».proof.Proof.Gen.BigOutRefIdeal.Run
public import proofs.«01_k».proof.Proof.Gen.BigOutRefIdeal.Read
public import Idealize.ShloMosaic.Lib.Quiescent
public import Idealize.ShloMosaic.Lib.Pointwise
public import Idealize.ShloMosaic.Lib.Pipeline.ValueKit
public import proofs.«01_k».proof.Proof.AdamMath
public import Idealize.ShloMosaic.Lib.Pipeline.Value

@[expose] public section

set_option maxRecDepth 16384

noncomputable section

open Idealize.ShloMosaic Idealize.ShloMosaic.TcCoe Idealize.SL.Sem

namespace Cert.BigOutClaims

theorem frame_p : Cert.quiescent_BigOut := fun m ρ _ => Cert.BigOut.Gen.frame m ρ
theorem frame_i : Cert.quiescent_BigOutIdeal := fun m ρ _ => Cert.BigOutIdeal.Gen.frame m ρ
theorem frame_r : Cert.quiescent_BigOutRefIdeal := fun m ρ _ =>
  (θ_run Cert.BigOutRefIdeal.defs _ _).mono (fun r h => ⟨fun c => (h c).2.2.2.2,
      Idealize.ShloMosaic.sem_eq_zero_of_no_sems (by decide) r.2⟩) (Cert.BigOutRefIdeal.Value.run m ρ)
theorem preserves : Cert.preserves_BigOut_BigOutIdeal := trivial

abbrev T4 := (⟨Cert.BigOutRefIdeal.S4x512x2048, .f32⟩ : BufTy).Contents (Elt Ideal)
abbrev TG := (⟨Cert.BigOutRefIdeal.S512x2048, .f32⟩ : BufTy).Contents (Elt Ideal)

/-! ## The results, entry by entry: the first layer new, the other layers as they were -/

def Ggo (g : TG) (b : T4) : T4 := fun i => if (i 0).val < 1 then g (ix2 (i 1) (i 2)) else b i
def Gd (w : T4) (g : TG) (m v b : T4) : T4 := fun i => if (i 0).val < 1 then Cert.AdamMath.dl (g (ix2 (i 1) (i 2))) (m i) (v i) (w i) else b i
def Gm (g : TG) (m b : T4) : T4 := fun i => if (i 0).val < 1 then Cert.AdamMath.nm (g (ix2 (i 1) (i 2))) (m i) else b i
def Gv (g : TG) (v b : T4) : T4 := fun i => if (i 0).val < 1 then Cert.AdamMath.nv (g (ix2 (i 1) (i 2))) (v i) else b i

section
open Cert.BigOutRefIdeal Cert.BigOutRefIdeal.Gen Cert.BigOutRefIdeal.Read

/-- A new layer put before the other layers of a stack. -/
theorem stack (x : (⟨S1x512x2048, .f32⟩ : BufTy).Contents (Elt Ideal)) (z : (⟨S3x512x2048, .f32⟩ : BufTy).Contents (Elt Ideal)) (b : T4)
    (f : Fin 512 → Fin 2048 → Ideal .f32) (hx : ∀ r k, x (ix3 (0 : Fin 1) r k) = f r k)
    (hz : ∀ (l : Fin 3) r k, z (ix3 l r k) = b (ix3 (⟨1 + l.val, by omega⟩ : Fin 4) r k)) (l : Fin 4) (r : Fin 512) (k : Fin 2048) :
    concatenate S4x512x2048 0 [⟨S1x512x2048, x⟩, ⟨S3x512x2048, z⟩] concatenates_S1x512x2048_S3x512x2048_S4x512x2048_d0 (ix3 l r k)
      = if l.val < 1 then f r k else b (ix3 l r k) := by
  by_cases h : l.val < 1
  · have e : l = 0 := Fin.ext (by show l.val = 0; omega)
    subst e
    rw [if_pos h, concatenate_pair_apply_left (t := S4x512x2048) (s₁ := S1x512x2048) (s₂ := S3x512x2048) 0 _ _ _ (ix3 (0 : Fin 4) r k) rfl (ix3 (0 : Fin 1) r k)
        (fun b => match b with | ⟨0, _⟩ => rfl | ⟨1, _⟩ => rfl | ⟨2, _⟩ => rfl)]
    exact hx r k
  · have hl := l.isLt
    rw [if_neg h, concatenate_pair_apply_right (t := S4x512x2048) (s₁ := S1x512x2048) (s₂ := S3x512x2048) 0 _ _ _ (ix3 l r k) rfl rfl
        (ix3 (⟨l.val - 1, by omega⟩ : Fin 3) r k)
        (fun b => match b with | ⟨0, _⟩ => fun hb => absurd rfl hb | ⟨1, _⟩ => fun _ => rfl | ⟨2, _⟩ => fun _ => rfl)
        (show l.val - 1 + 1 = l.val by omega), hz]
    exact congrArg (fun l' : Fin 4 => b (ix3 l' r k)) (Fin.ext (show 1 + (l.val - 1) = l.val by omega))

theorem later (b : T4) (l : Fin 3) (r : Fin 512) (k : Fin 2048) :
    val_main_v31 (F := Ideal) b (ix3 l r k) = b (ix3 (⟨1 + l.val, by omega⟩ : Fin 4) r k) :=
  (val_main_v31_apply b (ix3 l r k)).trans (congrArg b (funext fun a => match a with | ⟨0, _⟩ => rfl | ⟨1, _⟩ => rfl | ⟨2, _⟩ => rfl))

theorem ref_go (g : TG) (b : T4) : val_main_v32 (F := Ideal) g b = Ggo g b := by
  funext y
  idx_vars y
  exact stack _ _ b (fun r k => g (ix2 r k)) (fun r k => by pointwise [val_main_v30, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2, val_main_cst_3, val_main_cst_4, val_main_cst_5, val_main_cst_6, val_main_cst_7]) (later b) y0 y1 y2
theorem ref_d (w : T4) (g : TG) (m v b : T4) : val_main_v35 (F := Ideal) w g m v b = Gd w g m v b := by
  funext y
  idx_vars y
  refine (stack _ _ b (fun r k => Cert.AdamMath.dl (g (ix2 r k)) (m (ix3 (0 : Fin 4) r k)) (v (ix3 (0 : Fin 4) r k)) (w (ix3 (0 : Fin 4) r k)))
    (fun r k => by pointwise [val_main_v33, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2, val_main_cst_3, val_main_cst_4, val_main_cst_5, val_main_cst_6, val_main_cst_7, Cert.AdamMath.dl, Cert.AdamMath.nm, Cert.AdamMath.nv]) (later b) y0 y1 y2).trans ?_
  unfold Gd
  by_cases h : y0.val < 1
  · have e : y0 = 0 := Fin.ext (by show y0.val = 0; omega)
    subst e
    rfl
  · exact (if_neg h).trans (if_neg h).symm
theorem ref_m (g : TG) (m b : T4) : val_main_v38 (F := Ideal) g m b = Gm g m b := by
  funext y
  idx_vars y
  refine (stack _ _ b (fun r k => Cert.AdamMath.nm (g (ix2 r k)) (m (ix3 (0 : Fin 4) r k)))
    (fun r k => by pointwise [val_main_v36, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2, val_main_cst_3, val_main_cst_4, val_main_cst_5, val_main_cst_6, val_main_cst_7, Cert.AdamMath.nm]) (later b) y0 y1 y2).trans ?_
  unfold Gm
  by_cases h : y0.val < 1
  · have e : y0 = 0 := Fin.ext (by show y0.val = 0; omega)
    subst e
    rfl
  · exact (if_neg h).trans (if_neg h).symm
theorem ref_v (g : TG) (v b : T4) : val_main_v41 (F := Ideal) g v b = Gv g v b := by
  funext y
  idx_vars y
  refine (stack _ _ b (fun r k => Cert.AdamMath.nv (g (ix2 r k)) (v (ix3 (0 : Fin 4) r k)))
    (fun r k => by pointwise [val_main_v39, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2, val_main_cst_3, val_main_cst_4, val_main_cst_5, val_main_cst_6, val_main_cst_7, Cert.AdamMath.nv]) (later b) y0 y1 y2).trans ?_
  unfold Gv
  by_cases h : y0.val < 1
  · have e : y0 = 0 := Fin.ext (by show y0.val = 0; omega)
    subst e
    rfl
  · exact (if_neg h).trans (if_neg h).symm

end

section
open Cert.BigOutIdeal Cert.BigOutIdeal.Gen

section
variable (g : Vec Ideal S256x2048 .f32) (w m v : Vec Ideal S1x256x2048 .f32) (r : Fin 256) (k : Fin 2048)

theorem go_apply : k0_pay3 g (ix3 (0 : Fin 1) r k) = g (ix2 r k) := by pointwise [k0_pay1, k0_pay2, k0_pay3, k0_pay4, k0_pay5, k0_pay6]
theorem m_apply : k0_pay1 (k0_pay4 g m) (ix3 (0 : Fin 1) r k) = Cert.AdamMath.nm (g (ix2 r k)) (m (ix3 (0 : Fin 1) r k)) := by
  pointwise [k0_pay1, k0_pay2, k0_pay3, k0_pay4, k0_pay5, k0_pay6, Cert.AdamMath.nm]
theorem v_apply : k0_pay2 (k0_pay5 g v) (ix3 (0 : Fin 1) r k) = Cert.AdamMath.nv (g (ix2 r k)) (v (ix3 (0 : Fin 1) r k)) := by
  pointwise [k0_pay1, k0_pay2, k0_pay3, k0_pay4, k0_pay5, k0_pay6, Cert.AdamMath.nv]
theorem d_apply : k0_pay6 g m v w (ix3 (0 : Fin 1) r k)
    = Cert.AdamMath.dl (g (ix2 r k)) (m (ix3 (0 : Fin 1) r k)) (v (ix3 (0 : Fin 1) r k)) (w (ix3 (0 : Fin 1) r k)) := by
  pointwise [k0_pay1, k0_pay2, k0_pay3, k0_pay4, k0_pay5, k0_pay6, Cert.AdamMath.dl, Cert.AdamMath.nm, Cert.AdamMath.nv]

end

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)

theorem V_b0 : V m c main_v0_0 = a4 m c := by
  show StableHlo.after (List.flatten [hostOps0]) _ (Proc.devRef .tc main_v0_0) = _
  simp only [hostOps0, List.flatten_cons, List.flatten_nil, List.append_nil, List.cons_append, List.nil_append]
  after_results_simp
  rfl
theorem V_b1 : V m c main_v0_1 = a5 m c := by
  show StableHlo.after (List.flatten [hostOps0]) _ (Proc.devRef .tc main_v0_1) = _
  simp only [hostOps0, List.flatten_cons, List.flatten_nil, List.append_nil, List.cons_append, List.nil_append]
  after_results_simp
  rfl
theorem V_b2 : V m c main_v0_2 = a6 m c := by
  show StableHlo.after (List.flatten [hostOps0]) _ (Proc.devRef .tc main_v0_2) = _
  simp only [hostOps0, List.flatten_cons, List.flatten_nil, List.append_nil, List.cons_append, List.nil_append]
  after_results_simp
  rfl
theorem V_b3 : V m c main_v0_3 = a7 m c := by
  show StableHlo.after (List.flatten [hostOps0]) _ (Proc.devRef .tc main_v0_3) = _
  simp only [hostOps0, List.flatten_cons, List.flatten_nil, List.append_nil, List.cons_append, List.nil_append]
  after_results_simp
  rfl

theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] := (by decide +kernel : ∀ t : Fin grid0.N, _)

theorem row_lt (t : Fin cfg0.N) (r : Fin 256) : t.val * 256 + r.val < 512 := by
  have := t.isLt; have h : cfg0.N = 2 := N_0; omega

variable (t : Fin cfg0.N) (r : Fin 256) (k : Fin 2048)

theorem rd_w : iblk m c 0 t (ix3 (0 : Fin 1) r k) = a0 m c (ix3 (0 : Fin 4) ⟨t.val * 256 + r.val, row_lt t r⟩ k) := by
  show V m c main_arg0 _ = _
  rw [V_main_arg0]
  blk_ext [idx t]
theorem rd_m : iblk m c 2 t (ix3 (0 : Fin 1) r k) = a2 m c (ix3 (0 : Fin 4) ⟨t.val * 256 + r.val, row_lt t r⟩ k) := by
  show V m c main_arg2 _ = _
  rw [V_main_arg2]
  blk_ext [idx t]
theorem rd_v : iblk m c 3 t (ix3 (0 : Fin 1) r k) = a3 m c (ix3 (0 : Fin 4) ⟨t.val * 256 + r.val, row_lt t r⟩ k) := by
  show V m c main_arg3 _ = _
  rw [V_main_arg3]
  blk_ext [idx t]
theorem rd_g : iblk m c 1 t (ix2 r k) = a1 m c (ix2 ⟨t.val * 256 + r.val, row_lt t r⟩ k) := by
  show V m c main_arg1 _ = _
  rw [V_main_arg1]
  blk_ext [idx t]

theorem final_go : (dats m 0 c).arrAt 4 cfg0.N = Ggo (a1 m c) (a4 m c) := by
  refine (dats m 0 c).arrAt_eq_of_coversWhere_of_agree 4 _ (fun β => β (0 : Fin _) = 0) (by decide +kernel) (fun t hf y => ?_) (fun j hj => ?_)
  · blk_simp
    idx_vars y
    have hy : y0 = 0 := Fin.ext (by show y0.val = 0; omega)
    subst hy
    have e : Ggo (a1 m c) (a4 m c) (((View.whole main_v0_0).slice (win0_4.rect t)).emb (ix3 (0 : Fin 1) y1 y2))
        = Ggo (a1 m c) (a4 m c) (ix3 (0 : Fin 4) ⟨t.val * 256 + y1.val, row_lt t y1⟩ y2) := by
      refine congrArg (Ggo (a1 m c) (a4 m c)) ?_
      blk_ext [idx t]
    rw [e]
    clear e
    rw [after0_4]
    unfold Gen.outsAt0
    frame_out
    rw [go_apply, rd_g]
    unfold Ggo
    rfl
  · show V m c main_v0_0 _ = _
    rw [V_b0]
    unfold Ggo
    refine (if_neg fun h => hj ?_).symm
    blk_simp [Pipeline.Window.cell_apply]
    have h2 : (j 0).val < 1 := h
    omega

theorem final_d : (dats m 0 c).arrAt 5 cfg0.N = Gd (a0 m c) (a1 m c) (a2 m c) (a3 m c) (a5 m c) := by
  refine (dats m 0 c).arrAt_eq_of_coversWhere_of_agree 5 _ (fun β => β (0 : Fin _) = 0) (by decide +kernel) (fun t hf y => ?_) (fun j hj => ?_)
  · blk_simp
    idx_vars y
    have hy : y0 = 0 := Fin.ext (by show y0.val = 0; omega)
    subst hy
    have e : Gd (a0 m c) (a1 m c) (a2 m c) (a3 m c) (a5 m c) (((View.whole main_v0_1).slice (win0_5.rect t)).emb (ix3 (0 : Fin 1) y1 y2))
        = Gd (a0 m c) (a1 m c) (a2 m c) (a3 m c) (a5 m c) (ix3 (0 : Fin 4) ⟨t.val * 256 + y1.val, row_lt t y1⟩ y2) := by
      refine congrArg (Gd (a0 m c) (a1 m c) (a2 m c) (a3 m c) (a5 m c)) ?_
      blk_ext [idx t]
    rw [e]
    clear e
    rw [after0_5]
    unfold Gen.outsAt0
    frame_out
    rw [d_apply, rd_g, rd_m, rd_v, rd_w]
    unfold Gd
    rfl
  · show V m c main_v0_1 _ = _
    rw [V_b1]
    unfold Gd
    refine (if_neg fun h => hj ?_).symm
    blk_simp [Pipeline.Window.cell_apply]
    have h2 : (j 0).val < 1 := h
    omega

theorem final_m : (dats m 0 c).arrAt 6 cfg0.N = Gm (a1 m c) (a2 m c) (a6 m c) := by
  refine (dats m 0 c).arrAt_eq_of_coversWhere_of_agree 6 _ (fun β => β (0 : Fin _) = 0) (by decide +kernel) (fun t hf y => ?_) (fun j hj => ?_)
  · blk_simp
    idx_vars y
    have hy : y0 = 0 := Fin.ext (by show y0.val = 0; omega)
    subst hy
    have e : Gm (a1 m c) (a2 m c) (a6 m c) (((View.whole main_v0_2).slice (win0_6.rect t)).emb (ix3 (0 : Fin 1) y1 y2))
        = Gm (a1 m c) (a2 m c) (a6 m c) (ix3 (0 : Fin 4) ⟨t.val * 256 + y1.val, row_lt t y1⟩ y2) := by
      refine congrArg (Gm (a1 m c) (a2 m c) (a6 m c)) ?_
      blk_ext [idx t]
    rw [e]
    clear e
    rw [after0_6]
    unfold Gen.outsAt0
    frame_out
    rw [m_apply, rd_g, rd_m]
    unfold Gm
    rfl
  · show V m c main_v0_2 _ = _
    rw [V_b2]
    unfold Gm
    refine (if_neg fun h => hj ?_).symm
    blk_simp [Pipeline.Window.cell_apply]
    have h2 : (j 0).val < 1 := h
    omega

theorem final_v : (dats m 0 c).arrAt 7 cfg0.N = Gv (a1 m c) (a3 m c) (a7 m c) := by
  refine (dats m 0 c).arrAt_eq_of_coversWhere_of_agree 7 _ (fun β => β (0 : Fin _) = 0) (by decide +kernel) (fun t hf y => ?_) (fun j hj => ?_)
  · blk_simp
    idx_vars y
    have hy : y0 = 0 := Fin.ext (by show y0.val = 0; omega)
    subst hy
    have e : Gv (a1 m c) (a3 m c) (a7 m c) (((View.whole main_v0_3).slice (win0_7.rect t)).emb (ix3 (0 : Fin 1) y1 y2))
        = Gv (a1 m c) (a3 m c) (a7 m c) (ix3 (0 : Fin 4) ⟨t.val * 256 + y1.val, row_lt t y1⟩ y2) := by
      refine congrArg (Gv (a1 m c) (a3 m c) (a7 m c)) ?_
      blk_ext [idx t]
    rw [e]
    clear e
    rw [after0_7]
    unfold Gen.outsAt0
    frame_out
    rw [v_apply, rd_g, rd_v]
    unfold Gv
    rfl
  · show V m c main_v0_3 _ = _
    rw [V_b3]
    unfold Gv
    refine (if_neg fun h => hj ?_).symm
    blk_simp [Pipeline.Window.cell_apply]
    have h2 : (j 0).val < 1 := h
    omega

end

/-- Both programs end with the same four arrays. -/
theorem value : Cert.algebraic_BigOutIdeal_BigOutRefIdeal := by
  intro m g m' g' _ ha
  refine ⟨fun c => Ggo (a1 m c) (a4 m c), fun c => Gd (a0 m c) (a1 m c) (a2 m c) (a3 m c) (a5 m c), fun c => Gm (a1 m c) (a2 m c) (a6 m c),
    fun c => Gv (a1 m c) (a3 m c) (a7 m c), (θ_run Cert.BigOutIdeal.defs _ _).mono (fun r h c => ?_) (Cert.BigOutIdeal.Value.run_blocks m g),
    (θ_run Cert.BigOutRefIdeal.defs _ _).mono (fun r h c => ?_) (Cert.BigOutRefIdeal.Value.run m' g')⟩
  · exact ⟨(h c).1.trans (final_go m c), (h c).2.1.trans (final_d m c), (h c).2.2.1.trans (final_m m c), (h c).2.2.2.1.trans (final_v m c), (h c).2.2.2.2⟩
  · obtain ⟨e0, e1, e2, e3, e4, e5, e6, e7⟩ := ha c
    have h' := h c
    rw [Cert.BigOutRefIdeal.Read.val_main_v32_eq, Cert.BigOutRefIdeal.Read.val_main_v35_eq, Cert.BigOutRefIdeal.Read.val_main_v38_eq, Cert.BigOutRefIdeal.Read.val_main_v41_eq,
      e0, e1, e2, e3, e4, e5, e6, e7] at h'
    rw [e0, e1, e2, e3, e4, e5, e6, e7]
    exact ⟨h'.1.trans (ref_go _ _), h'.2.1.trans (ref_d _ _ _ _ _), h'.2.2.1.trans (ref_m _ _ _), h'.2.2.2.1.trans (ref_v _ _ _), h'.2.2.2.2⟩

end Cert.BigOutClaims
-- ==== Proof.BigUpClaims.lean ====
/-
  The claims about the update of one layer of the up projection: the frames of the three programs and the value claim.
-/
module

public import proofs.«01_k».proof.Defs
public import proofs.«01_k».proof.Proof.Gen.BigUp
public import proofs.«01_k».proof.Proof.Gen.BigUp.Frame
public import proofs.«01_k».proof.Proof.Gen.BigUpIdeal.Frame
public import proofs.«01_k».proof.Proof.Gen.BigUpIdeal.Value
public import proofs.«01_k».proof.Proof.Gen.BigUpRefIdeal.Run
public import proofs.«01_k».proof.Proof.Gen.BigUpRefIdeal.Read
public import Idealize.ShloMosaic.Lib.Quiescent
public import Idealize.ShloMosaic.Lib.Pointwise
public import Idealize.ShloMosaic.Lib.Pipeline.ValueKit
public import proofs.«01_k».proof.Proof.AdamMath
public import Idealize.ShloMosaic.Lib.Pipeline.Value

@[expose] public section

set_option maxRecDepth 16384

noncomputable section

open Idealize.ShloMosaic Idealize.ShloMosaic.TcCoe Idealize.SL.Sem

namespace Cert.BigUpClaims

theorem frame_p : Cert.quiescent_BigUp := fun m ρ _ => Cert.BigUp.Gen.frame m ρ
theorem frame_i : Cert.quiescent_BigUpIdeal := fun m ρ _ => Cert.BigUpIdeal.Gen.frame m ρ
theorem frame_r : Cert.quiescent_BigUpRefIdeal := fun m ρ _ =>
  (θ_run Cert.BigUpRefIdeal.defs _ _).mono (fun r h => ⟨fun c => (h c).2.2.2.2,
      Idealize.ShloMosaic.sem_eq_zero_of_no_sems (by decide) r.2⟩) (Cert.BigUpRefIdeal.Value.run m ρ)
theorem preserves : Cert.preserves_BigUp_BigUpIdeal := trivial

abbrev T4 := (⟨Cert.BigUpRefIdeal.S4x2048x2816, .f32⟩ : BufTy).Contents (Elt Ideal)
abbrev TG := (⟨Cert.BigUpRefIdeal.S2816x2048, .f32⟩ : BufTy).Contents (Elt Ideal)

/-! ## The results, entry by entry: the first layer new, the other layers as they were -/

def Ggo (g : TG) (b : T4) : T4 := fun i => if (i 0).val < 1 then g (ix2 (i 2) (i 1)) else b i
def Gd (w : T4) (g : TG) (m v b : T4) : T4 := fun i => if (i 0).val < 1 then Cert.AdamMath.dl (g (ix2 (i 2) (i 1))) (m i) (v i) (w i) else b i
def Gm (g : TG) (m b : T4) : T4 := fun i => if (i 0).val < 1 then Cert.AdamMath.nm (g (ix2 (i 2) (i 1))) (m i) else b i
def Gv (g : TG) (v b : T4) : T4 := fun i => if (i 0).val < 1 then Cert.AdamMath.nv (g (ix2 (i 2) (i 1))) (v i) else b i

section
open Cert.BigUpRefIdeal Cert.BigUpRefIdeal.Gen Cert.BigUpRefIdeal.Read

/-- A new layer put before the other layers of a stack. -/
theorem stack (x : (⟨S1x2048x2816, .f32⟩ : BufTy).Contents (Elt Ideal)) (z : (⟨S3x2048x2816, .f32⟩ : BufTy).Contents (Elt Ideal)) (b : T4)
    (f : Fin 2048 → Fin 2816 → Ideal .f32) (hx : ∀ r k, x (ix3 (0 : Fin 1) r k) = f r k)
    (hz : ∀ (l : Fin 3) r k, z (ix3 l r k) = b (ix3 (⟨1 + l.val, by omega⟩ : Fin 4) r k)) (l : Fin 4) (r : Fin 2048) (k : Fin 2816) :
    concatenate S4x2048x2816 0 [⟨S1x2048x2816, x⟩, ⟨S3x2048x2816, z⟩] concatenates_S1x2048x2816_S3x2048x2816_S4x2048x2816_d0 (ix3 l r k)
      = if l.val < 1 then f r k else b (ix3 l r k) := by
  by_cases h : l.val < 1
  · have e : l = 0 := Fin.ext (by show l.val = 0; omega)
    subst e
    rw [if_pos h, concatenate_pair_apply_left (t := S4x2048x2816) (s₁ := S1x2048x2816) (s₂ := S3x2048x2816) 0 _ _ _ (ix3 (0 : Fin 4) r k) rfl (ix3 (0 : Fin 1) r k)
        (fun b => match b with | ⟨0, _⟩ => rfl | ⟨1, _⟩ => rfl | ⟨2, _⟩ => rfl)]
    exact hx r k
  · have hl := l.isLt
    rw [if_neg h, concatenate_pair_apply_right (t := S4x2048x2816) (s₁ := S1x2048x2816) (s₂ := S3x2048x2816) 0 _ _ _ (ix3 l r k) rfl rfl
        (ix3 (⟨l.val - 1, by omega⟩ : Fin 3) r k)
        (fun b => match b with | ⟨0, _⟩ => fun hb => absurd rfl hb | ⟨1, _⟩ => fun _ => rfl | ⟨2, _⟩ => fun _ => rfl)
        (show l.val - 1 + 1 = l.val by omega), hz]
    exact congrArg (fun l' : Fin 4 => b (ix3 l' r k)) (Fin.ext (show 1 + (l.val - 1) = l.val by omega))

theorem later (b : T4) (l : Fin 3) (r : Fin 2048) (k : Fin 2816) :
    val_main_v32 (F := Ideal) b (ix3 l r k) = b (ix3 (⟨1 + l.val, by omega⟩ : Fin 4) r k) :=
  (val_main_v32_apply b (ix3 l r k)).trans (congrArg b (funext fun a => match a with | ⟨0, _⟩ => rfl | ⟨1, _⟩ => rfl | ⟨2, _⟩ => rfl))

theorem ref_go (g : TG) (b : T4) : val_main_v33 (F := Ideal) g b = Ggo g b := by
  funext y
  idx_vars y
  exact stack _ _ b (fun r k => g (ix2 k r)) (fun r k => by pointwise [val_main_v31, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, val_main_cst_3, val_main_cst_4, val_main_cst_5, val_main_cst_6, val_main_cst_7]) (later b) y0 y1 y2
theorem ref_d (w : T4) (g : TG) (m v b : T4) : val_main_v36 (F := Ideal) w g m v b = Gd w g m v b := by
  funext y
  idx_vars y
  refine (stack _ _ b (fun r k => Cert.AdamMath.dl (g (ix2 k r)) (m (ix3 (0 : Fin 4) r k)) (v (ix3 (0 : Fin 4) r k)) (w (ix3 (0 : Fin 4) r k)))
    (fun r k => by pointwise [val_main_v34, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, val_main_cst_3, val_main_cst_4, val_main_cst_5, val_main_cst_6, val_main_cst_7, Cert.AdamMath.dl, Cert.AdamMath.nm, Cert.AdamMath.nv]) (later b) y0 y1 y2).trans ?_
  unfold Gd
  by_cases h : y0.val < 1
  · have e : y0 = 0 := Fin.ext (by show y0.val = 0; omega)
    subst e
    rfl
  · exact (if_neg h).trans (if_neg h).symm
theorem ref_m (g : TG) (m b : T4) : val_main_v39 (F := Ideal) g m b = Gm g m b := by
  funext y
  idx_vars y
  refine (stack _ _ b (fun r k => Cert.AdamMath.nm (g (ix2 k r)) (m (ix3 (0 : Fin 4) r k)))
    (fun r k => by pointwise [val_main_v37, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, val_main_cst_3, val_main_cst_4, val_main_cst_5, val_main_cst_6, val_main_cst_7, Cert.AdamMath.nm]) (later b) y0 y1 y2).trans ?_
  unfold Gm
  by_cases h : y0.val < 1
  · have e : y0 = 0 := Fin.ext (by show y0.val = 0; omega)
    subst e
    rfl
  · exact (if_neg h).trans (if_neg h).symm
theorem ref_v (g : TG) (v b : T4) : val_main_v42 (F := Ideal) g v b = Gv g v b := by
  funext y
  idx_vars y
  refine (stack _ _ b (fun r k => Cert.AdamMath.nv (g (ix2 k r)) (v (ix3 (0 : Fin 4) r k)))
    (fun r k => by pointwise [val_main_v40, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, val_main_cst_3, val_main_cst_4, val_main_cst_5, val_main_cst_6, val_main_cst_7, Cert.AdamMath.nv]) (later b) y0 y1 y2).trans ?_
  unfold Gv
  by_cases h : y0.val < 1
  · have e : y0 = 0 := Fin.ext (by show y0.val = 0; omega)
    subst e
    rfl
  · exact (if_neg h).trans (if_neg h).symm

end

section
open Cert.BigUpIdeal Cert.BigUpIdeal.Gen

section
variable (g : Vec Ideal S128x2816 .f32) (w m v : Vec Ideal S1x128x2816 .f32) (r : Fin 128) (k : Fin 2816)

theorem go_apply : k0_pay3 (k0_pay4 g) (ix3 (0 : Fin 1) r k) = g (ix2 r k) := by pointwise [k0_pay1, k0_pay2, k0_pay3, k0_pay4, k0_pay5, k0_pay6, k0_pay7]
theorem m_apply : k0_pay1 (k0_pay5 g m) (ix3 (0 : Fin 1) r k) = Cert.AdamMath.nm (g (ix2 r k)) (m (ix3 (0 : Fin 1) r k)) := by
  pointwise [k0_pay1, k0_pay2, k0_pay3, k0_pay4, k0_pay5, k0_pay6, k0_pay7, Cert.AdamMath.nm]
theorem v_apply : k0_pay2 (k0_pay6 g v) (ix3 (0 : Fin 1) r k) = Cert.AdamMath.nv (g (ix2 r k)) (v (ix3 (0 : Fin 1) r k)) := by
  pointwise [k0_pay1, k0_pay2, k0_pay3, k0_pay4, k0_pay5, k0_pay6, k0_pay7, Cert.AdamMath.nv]
theorem d_apply : k0_pay7 g m v w (ix3 (0 : Fin 1) r k)
    = Cert.AdamMath.dl (g (ix2 r k)) (m (ix3 (0 : Fin 1) r k)) (v (ix3 (0 : Fin 1) r k)) (w (ix3 (0 : Fin 1) r k)) := by
  pointwise [k0_pay1, k0_pay2, k0_pay3, k0_pay4, k0_pay5, k0_pay6, k0_pay7, Cert.AdamMath.dl, Cert.AdamMath.nm, Cert.AdamMath.nv]

end

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)

theorem V_b0 : V m c main_v1_0 = a4 m c := by
  show StableHlo.after (List.flatten [hostOps0]) _ (Proc.devRef .tc main_v1_0) = _
  simp only [hostOps0, List.flatten_cons, List.flatten_nil, List.append_nil, List.cons_append, List.nil_append]
  after_results_simp
  rfl
theorem V_b1 : V m c main_v1_1 = a5 m c := by
  show StableHlo.after (List.flatten [hostOps0]) _ (Proc.devRef .tc main_v1_1) = _
  simp only [hostOps0, List.flatten_cons, List.flatten_nil, List.append_nil, List.cons_append, List.nil_append]
  after_results_simp
  rfl
theorem V_b2 : V m c main_v1_2 = a6 m c := by
  show StableHlo.after (List.flatten [hostOps0]) _ (Proc.devRef .tc main_v1_2) = _
  simp only [hostOps0, List.flatten_cons, List.flatten_nil, List.append_nil, List.cons_append, List.nil_append]
  after_results_simp
  rfl
theorem V_b3 : V m c main_v1_3 = a7 m c := by
  show StableHlo.after (List.flatten [hostOps0]) _ (Proc.devRef .tc main_v1_3) = _
  simp only [hostOps0, List.flatten_cons, List.flatten_nil, List.append_nil, List.cons_append, List.nil_append]
  after_results_simp
  rfl
theorem V_g : V m c main_v0 = transpose S2048x2816 [1, 0] (a1 m c) transposes_S2816x2048_S2048x2816_1_0 := by
  show StableHlo.after (List.flatten [hostOps0]) _ (Proc.devRef .tc main_v0) = _
  simp only [hostOps0, List.flatten_cons, List.flatten_nil, List.append_nil, List.cons_append, List.nil_append]
  after_results_simp
  try rfl

theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] := (by decide +kernel : ∀ t : Fin grid0.N, _)

theorem row_lt (t : Fin cfg0.N) (r : Fin 128) : t.val * 128 + r.val < 2048 := by
  have := t.isLt; have h : cfg0.N = 16 := N_0; omega

variable (t : Fin cfg0.N) (r : Fin 128) (k : Fin 2816)

theorem rd_w : iblk m c 0 t (ix3 (0 : Fin 1) r k) = a0 m c (ix3 (0 : Fin 4) ⟨t.val * 128 + r.val, row_lt t r⟩ k) := by
  show V m c main_arg0 _ = _
  rw [V_main_arg0]
  blk_ext [idx t]
theorem rd_m : iblk m c 2 t (ix3 (0 : Fin 1) r k) = a2 m c (ix3 (0 : Fin 4) ⟨t.val * 128 + r.val, row_lt t r⟩ k) := by
  show V m c main_arg2 _ = _
  rw [V_main_arg2]
  blk_ext [idx t]
theorem rd_v : iblk m c 3 t (ix3 (0 : Fin 1) r k) = a3 m c (ix3 (0 : Fin 4) ⟨t.val * 128 + r.val, row_lt t r⟩ k) := by
  show V m c main_arg3 _ = _
  rw [V_main_arg3]
  blk_ext [idx t]
theorem rd_g : iblk m c 1 t (ix2 r k) = a1 m c (ix2 k ⟨t.val * 128 + r.val, row_lt t r⟩) := by
  show V m c main_v0 _ = _
  rw [V_g]
  refine (transpose_apply [1, 0] (a1 m c) transposes_S2816x2048_S2048x2816_1_0 _ (ix2 k ⟨t.val * 128 + r.val, row_lt t r⟩) ?_)
  intro b
  match b with
  | ⟨0, _⟩ => blk_simp [idx t]; rfl
  | ⟨1, _⟩ => blk_simp [idx t]; rfl

theorem final_go : (dats m 0 c).arrAt 4 cfg0.N = Ggo (a1 m c) (a4 m c) := by
  refine (dats m 0 c).arrAt_eq_of_coversWhere_of_agree 4 _ (fun β => β (0 : Fin _) = 0) (by decide +kernel) (fun t hf y => ?_) (fun j hj => ?_)
  · blk_simp
    idx_vars y
    have hy : y0 = 0 := Fin.ext (by show y0.val = 0; omega)
    subst hy
    have e : Ggo (a1 m c) (a4 m c) (((View.whole main_v1_0).slice (win0_4.rect t)).emb (ix3 (0 : Fin 1) y1 y2))
        = Ggo (a1 m c) (a4 m c) (ix3 (0 : Fin 4) ⟨t.val * 128 + y1.val, row_lt t y1⟩ y2) := by
      refine congrArg (Ggo (a1 m c) (a4 m c)) ?_
      blk_ext [idx t]
    rw [e]
    clear e
    rw [after0_4]
    unfold Gen.outsAt0
    frame_out
    rw [go_apply, rd_g]
    unfold Ggo
    rfl
  · show V m c main_v1_0 _ = _
    rw [V_b0]
    unfold Ggo
    refine (if_neg fun h => hj ?_).symm
    blk_simp [Pipeline.Window.cell_apply]
    have h2 : (j 0).val < 1 := h
    omega

theorem final_d : (dats m 0 c).arrAt 5 cfg0.N = Gd (a0 m c) (a1 m c) (a2 m c) (a3 m c) (a5 m c) := by
  refine (dats m 0 c).arrAt_eq_of_coversWhere_of_agree 5 _ (fun β => β (0 : Fin _) = 0) (by decide +kernel) (fun t hf y => ?_) (fun j hj => ?_)
  · blk_simp
    idx_vars y
    have hy : y0 = 0 := Fin.ext (by show y0.val = 0; omega)
    subst hy
    have e : Gd (a0 m c) (a1 m c) (a2 m c) (a3 m c) (a5 m c) (((View.whole main_v1_1).slice (win0_5.rect t)).emb (ix3 (0 : Fin 1) y1 y2))
        = Gd (a0 m c) (a1 m c) (a2 m c) (a3 m c) (a5 m c) (ix3 (0 : Fin 4) ⟨t.val * 128 + y1.val, row_lt t y1⟩ y2) := by
      refine congrArg (Gd (a0 m c) (a1 m c) (a2 m c) (a3 m c) (a5 m c)) ?_
      blk_ext [idx t]
    rw [e]
    clear e
    rw [after0_5]
    unfold Gen.outsAt0
    frame_out
    rw [d_apply, rd_g, rd_m, rd_v, rd_w]
    unfold Gd
    rfl
  · show V m c main_v1_1 _ = _
    rw [V_b1]
    unfold Gd
    refine (if_neg fun h => hj ?_).symm
    blk_simp [Pipeline.Window.cell_apply]
    have h2 : (j 0).val < 1 := h
    omega

theorem final_m : (dats m 0 c).arrAt 6 cfg0.N = Gm (a1 m c) (a2 m c) (a6 m c) := by
  refine (dats m 0 c).arrAt_eq_of_coversWhere_of_agree 6 _ (fun β => β (0 : Fin _) = 0) (by decide +kernel) (fun t hf y => ?_) (fun j hj => ?_)
  · blk_simp
    idx_vars y
    have hy : y0 = 0 := Fin.ext (by show y0.val = 0; omega)
    subst hy
    have e : Gm (a1 m c) (a2 m c) (a6 m c) (((View.whole main_v1_2).slice (win0_6.rect t)).emb (ix3 (0 : Fin 1) y1 y2))
        = Gm (a1 m c) (a2 m c) (a6 m c) (ix3 (0 : Fin 4) ⟨t.val * 128 + y1.val, row_lt t y1⟩ y2) := by
      refine congrArg (Gm (a1 m c) (a2 m c) (a6 m c)) ?_
      blk_ext [idx t]
    rw [e]
    clear e
    rw [after0_6]
    unfold Gen.outsAt0
    frame_out
    rw [m_apply, rd_g, rd_m]
    unfold Gm
    rfl
  · show V m c main_v1_2 _ = _
    rw [V_b2]
    unfold Gm
    refine (if_neg fun h => hj ?_).symm
    blk_simp [Pipeline.Window.cell_apply]
    have h2 : (j 0).val < 1 := h
    omega

theorem final_v : (dats m 0 c).arrAt 7 cfg0.N = Gv (a1 m c) (a3 m c) (a7 m c) := by
  refine (dats m 0 c).arrAt_eq_of_coversWhere_of_agree 7 _ (fun β => β (0 : Fin _) = 0) (by decide +kernel) (fun t hf y => ?_) (fun j hj => ?_)
  · blk_simp
    idx_vars y
    have hy : y0 = 0 := Fin.ext (by show y0.val = 0; omega)
    subst hy
    have e : Gv (a1 m c) (a3 m c) (a7 m c) (((View.whole main_v1_3).slice (win0_7.rect t)).emb (ix3 (0 : Fin 1) y1 y2))
        = Gv (a1 m c) (a3 m c) (a7 m c) (ix3 (0 : Fin 4) ⟨t.val * 128 + y1.val, row_lt t y1⟩ y2) := by
      refine congrArg (Gv (a1 m c) (a3 m c) (a7 m c)) ?_
      blk_ext [idx t]
    rw [e]
    clear e
    rw [after0_7]
    unfold Gen.outsAt0
    frame_out
    rw [v_apply, rd_g, rd_v]
    unfold Gv
    rfl
  · show V m c main_v1_3 _ = _
    rw [V_b3]
    unfold Gv
    refine (if_neg fun h => hj ?_).symm
    blk_simp [Pipeline.Window.cell_apply]
    have h2 : (j 0).val < 1 := h
    omega

end

/-- Both programs end with the same four arrays. -/
theorem value : Cert.algebraic_BigUpIdeal_BigUpRefIdeal := by
  intro m g m' g' _ ha
  refine ⟨fun c => Ggo (a1 m c) (a4 m c), fun c => Gd (a0 m c) (a1 m c) (a2 m c) (a3 m c) (a5 m c), fun c => Gm (a1 m c) (a2 m c) (a6 m c),
    fun c => Gv (a1 m c) (a3 m c) (a7 m c), (θ_run Cert.BigUpIdeal.defs _ _).mono (fun r h c => ?_) (Cert.BigUpIdeal.Value.run_blocks m g),
    (θ_run Cert.BigUpRefIdeal.defs _ _).mono (fun r h c => ?_) (Cert.BigUpRefIdeal.Value.run m' g')⟩
  · exact ⟨(h c).1.trans (final_go m c), (h c).2.1.trans (final_d m c), (h c).2.2.1.trans (final_m m c), (h c).2.2.2.1.trans (final_v m c), (h c).2.2.2.2⟩
  · obtain ⟨e0, e1, e2, e3, e4, e5, e6, e7⟩ := ha c
    have h' := h c
    rw [Cert.BigUpRefIdeal.Read.val_main_v33_eq, Cert.BigUpRefIdeal.Read.val_main_v36_eq, Cert.BigUpRefIdeal.Read.val_main_v39_eq, Cert.BigUpRefIdeal.Read.val_main_v42_eq,
      e0, e1, e2, e3, e4, e5, e6, e7] at h'
    rw [e0, e1, e2, e3, e4, e5, e6, e7]
    exact ⟨h'.1.trans (ref_go _ _), h'.2.1.trans (ref_d _ _ _ _ _), h'.2.2.1.trans (ref_m _ _ _), h'.2.2.2.1.trans (ref_v _ _ _), h'.2.2.2.2⟩

end Cert.BigUpClaims
-- ==== Proof.BigDownClaims.lean ====
/-
  The claims about the update of one layer of the down projection: the frames of the three programs and the value claim.
-/
module

public import proofs.«01_k».proof.Defs
public import proofs.«01_k».proof.Proof.Gen.BigDown
public import proofs.«01_k».proof.Proof.Gen.BigDown.Frame
public import proofs.«01_k».proof.Proof.Gen.BigDownIdeal.Frame
public import proofs.«01_k».proof.Proof.Gen.BigDownIdeal.Value
public import proofs.«01_k».proof.Proof.Gen.BigDownRefIdeal.Run
public import proofs.«01_k».proof.Proof.Gen.BigDownRefIdeal.Read
public import Idealize.ShloMosaic.Lib.Quiescent
public import Idealize.ShloMosaic.Lib.Pointwise
public import Idealize.ShloMosaic.Lib.Pipeline.ValueKit
public import proofs.«01_k».proof.Proof.AdamMath
public import Idealize.ShloMosaic.Lib.Pipeline.Value

@[expose] public section

set_option maxRecDepth 16384

noncomputable section

open Idealize.ShloMosaic Idealize.ShloMosaic.TcCoe Idealize.SL.Sem

namespace Cert.BigDownClaims

theorem frame_p : Cert.quiescent_BigDown := fun m ρ _ => Cert.BigDown.Gen.frame m ρ
theorem frame_i : Cert.quiescent_BigDownIdeal := fun m ρ _ => Cert.BigDownIdeal.Gen.frame m ρ
theorem frame_r : Cert.quiescent_BigDownRefIdeal := fun m ρ _ =>
  (θ_run Cert.BigDownRefIdeal.defs _ _).mono (fun r h => ⟨fun c => (h c).2.2.2.2,
      Idealize.ShloMosaic.sem_eq_zero_of_no_sems (by decide) r.2⟩) (Cert.BigDownRefIdeal.Value.run m ρ)
theorem preserves : Cert.preserves_BigDown_BigDownIdeal := trivial

abbrev T4 := (⟨Cert.BigDownRefIdeal.S4x1408x2048, .f32⟩ : BufTy).Contents (Elt Ideal)
abbrev TG := (⟨Cert.BigDownRefIdeal.S1408x2048, .f32⟩ : BufTy).Contents (Elt Ideal)

/-! ## The results, entry by entry: the first layer new, the other layers as they were -/

def Ggo (g : TG) (b : T4) : T4 := fun i => if (i 0).val < 1 then g (ix2 (i 1) (i 2)) else b i
def Gd (w : T4) (g : TG) (m v b : T4) : T4 := fun i => if (i 0).val < 1 then Cert.AdamMath.dl (g (ix2 (i 1) (i 2))) (m i) (v i) (w i) else b i
def Gm (g : TG) (m b : T4) : T4 := fun i => if (i 0).val < 1 then Cert.AdamMath.nm (g (ix2 (i 1) (i 2))) (m i) else b i
def Gv (g : TG) (v b : T4) : T4 := fun i => if (i 0).val < 1 then Cert.AdamMath.nv (g (ix2 (i 1) (i 2))) (v i) else b i

section
open Cert.BigDownRefIdeal Cert.BigDownRefIdeal.Gen Cert.BigDownRefIdeal.Read

/-- A new layer put before the other layers of a stack. -/
theorem stack (x : (⟨S1x1408x2048, .f32⟩ : BufTy).Contents (Elt Ideal)) (z : (⟨S3x1408x2048, .f32⟩ : BufTy).Contents (Elt Ideal)) (b : T4)
    (f : Fin 1408 → Fin 2048 → Ideal .f32) (hx : ∀ r k, x (ix3 (0 : Fin 1) r k) = f r k)
    (hz : ∀ (l : Fin 3) r k, z (ix3 l r k) = b (ix3 (⟨1 + l.val, by omega⟩ : Fin 4) r k)) (l : Fin 4) (r : Fin 1408) (k : Fin 2048) :
    concatenate S4x1408x2048 0 [⟨S1x1408x2048, x⟩, ⟨S3x1408x2048, z⟩] concatenates_S1x1408x2048_S3x1408x2048_S4x1408x2048_d0 (ix3 l r k)
      = if l.val < 1 then f r k else b (ix3 l r k) := by
  by_cases h : l.val < 1
  · have e : l = 0 := Fin.ext (by show l.val = 0; omega)
    subst e
    rw [if_pos h, concatenate_pair_apply_left (t := S4x1408x2048) (s₁ := S1x1408x2048) (s₂ := S3x1408x2048) 0 _ _ _ (ix3 (0 : Fin 4) r k) rfl (ix3 (0 : Fin 1) r k)
        (fun b => match b with | ⟨0, _⟩ => rfl | ⟨1, _⟩ => rfl | ⟨2, _⟩ => rfl)]
    exact hx r k
  · have hl := l.isLt
    rw [if_neg h, concatenate_pair_apply_right (t := S4x1408x2048) (s₁ := S1x1408x2048) (s₂ := S3x1408x2048) 0 _ _ _ (ix3 l r k) rfl rfl
        (ix3 (⟨l.val - 1, by omega⟩ : Fin 3) r k)
        (fun b => match b with | ⟨0, _⟩ => fun hb => absurd rfl hb | ⟨1, _⟩ => fun _ => rfl | ⟨2, _⟩ => fun _ => rfl)
        (show l.val - 1 + 1 = l.val by omega), hz]
    exact congrArg (fun l' : Fin 4 => b (ix3 l' r k)) (Fin.ext (show 1 + (l.val - 1) = l.val by omega))

theorem later (b : T4) (l : Fin 3) (r : Fin 1408) (k : Fin 2048) :
    val_main_v31 (F := Ideal) b (ix3 l r k) = b (ix3 (⟨1 + l.val, by omega⟩ : Fin 4) r k) :=
  (val_main_v31_apply b (ix3 l r k)).trans (congrArg b (funext fun a => match a with | ⟨0, _⟩ => rfl | ⟨1, _⟩ => rfl | ⟨2, _⟩ => rfl))

theorem ref_go (g : TG) (b : T4) : val_main_v32 (F := Ideal) g b = Ggo g b := by
  funext y
  idx_vars y
  exact stack _ _ b (fun r k => g (ix2 r k)) (fun r k => by pointwise [val_main_v30, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2, val_main_cst_3, val_main_cst_4, val_main_cst_5, val_main_cst_6, val_main_cst_7]) (later b) y0 y1 y2
theorem ref_d (w : T4) (g : TG) (m v b : T4) : val_main_v35 (F := Ideal) w g m v b = Gd w g m v b := by
  funext y
  idx_vars y
  refine (stack _ _ b (fun r k => Cert.AdamMath.dl (g (ix2 r k)) (m (ix3 (0 : Fin 4) r k)) (v (ix3 (0 : Fin 4) r k)) (w (ix3 (0 : Fin 4) r k)))
    (fun r k => by pointwise [val_main_v33, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2, val_main_cst_3, val_main_cst_4, val_main_cst_5, val_main_cst_6, val_main_cst_7, Cert.AdamMath.dl, Cert.AdamMath.nm, Cert.AdamMath.nv]) (later b) y0 y1 y2).trans ?_
  unfold Gd
  by_cases h : y0.val < 1
  · have e : y0 = 0 := Fin.ext (by show y0.val = 0; omega)
    subst e
    rfl
  · exact (if_neg h).trans (if_neg h).symm
theorem ref_m (g : TG) (m b : T4) : val_main_v38 (F := Ideal) g m b = Gm g m b := by
  funext y
  idx_vars y
  refine (stack _ _ b (fun r k => Cert.AdamMath.nm (g (ix2 r k)) (m (ix3 (0 : Fin 4) r k)))
    (fun r k => by pointwise [val_main_v36, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2, val_main_cst_3, val_main_cst_4, val_main_cst_5, val_main_cst_6, val_main_cst_7, Cert.AdamMath.nm]) (later b) y0 y1 y2).trans ?_
  unfold Gm
  by_cases h : y0.val < 1
  · have e : y0 = 0 := Fin.ext (by show y0.val = 0; omega)
    subst e
    rfl
  · exact (if_neg h).trans (if_neg h).symm
theorem ref_v (g : TG) (v b : T4) : val_main_v41 (F := Ideal) g v b = Gv g v b := by
  funext y
  idx_vars y
  refine (stack _ _ b (fun r k => Cert.AdamMath.nv (g (ix2 r k)) (v (ix3 (0 : Fin 4) r k)))
    (fun r k => by pointwise [val_main_v39, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2, val_main_cst_3, val_main_cst_4, val_main_cst_5, val_main_cst_6, val_main_cst_7, Cert.AdamMath.nv]) (later b) y0 y1 y2).trans ?_
  unfold Gv
  by_cases h : y0.val < 1
  · have e : y0 = 0 := Fin.ext (by show y0.val = 0; omega)
    subst e
    rfl
  · exact (if_neg h).trans (if_neg h).symm

end

section
open Cert.BigDownIdeal Cert.BigDownIdeal.Gen

section
variable (g : Vec Ideal S176x2048 .f32) (w m v : Vec Ideal S1x176x2048 .f32) (r : Fin 176) (k : Fin 2048)

theorem go_apply : k0_pay3 g (ix3 (0 : Fin 1) r k) = g (ix2 r k) := by pointwise [k0_pay1, k0_pay2, k0_pay3, k0_pay4, k0_pay5, k0_pay6]
theorem m_apply : k0_pay1 (k0_pay4 g m) (ix3 (0 : Fin 1) r k) = Cert.AdamMath.nm (g (ix2 r k)) (m (ix3 (0 : Fin 1) r k)) := by
  pointwise [k0_pay1, k0_pay2, k0_pay3, k0_pay4, k0_pay5, k0_pay6, Cert.AdamMath.nm]
theorem v_apply : k0_pay2 (k0_pay5 g v) (ix3 (0 : Fin 1) r k) = Cert.AdamMath.nv (g (ix2 r k)) (v (ix3 (0 : Fin 1) r k)) := by
  pointwise [k0_pay1, k0_pay2, k0_pay3, k0_pay4, k0_pay5, k0_pay6, Cert.AdamMath.nv]
theorem d_apply : k0_pay6 g m v w (ix3 (0 : Fin 1) r k)
    = Cert.AdamMath.dl (g (ix2 r k)) (m (ix3 (0 : Fin 1) r k)) (v (ix3 (0 : Fin 1) r k)) (w (ix3 (0 : Fin 1) r k)) := by
  pointwise [k0_pay1, k0_pay2, k0_pay3, k0_pay4, k0_pay5, k0_pay6, Cert.AdamMath.dl, Cert.AdamMath.nm, Cert.AdamMath.nv]

end

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)

theorem V_b0 : V m c main_v0_0 = a4 m c := by
  show StableHlo.after (List.flatten [hostOps0]) _ (Proc.devRef .tc main_v0_0) = _
  simp only [hostOps0, List.flatten_cons, List.flatten_nil, List.append_nil, List.cons_append, List.nil_append]
  after_results_simp
  rfl
theorem V_b1 : V m c main_v0_1 = a5 m c := by
  show StableHlo.after (List.flatten [hostOps0]) _ (Proc.devRef .tc main_v0_1) = _
  simp only [hostOps0, List.flatten_cons, List.flatten_nil, List.append_nil, List.cons_append, List.nil_append]
  after_results_simp
  rfl
theorem V_b2 : V m c main_v0_2 = a6 m c := by
  show StableHlo.after (List.flatten [hostOps0]) _ (Proc.devRef .tc main_v0_2) = _
  simp only [hostOps0, List.flatten_cons, List.flatten_nil, List.append_nil, List.cons_append, List.nil_append]
  after_results_simp
  rfl
theorem V_b3 : V m c main_v0_3 = a7 m c := by
  show StableHlo.after (List.flatten [hostOps0]) _ (Proc.devRef .tc main_v0_3) = _
  simp only [hostOps0, List.flatten_cons, List.flatten_nil, List.append_nil, List.cons_append, List.nil_append]
  after_results_simp
  rfl

theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] := (by decide +kernel : ∀ t : Fin grid0.N, _)

theorem row_lt (t : Fin cfg0.N) (r : Fin 176) : t.val * 176 + r.val < 1408 := by
  have := t.isLt; have h : cfg0.N = 8 := N_0; omega

variable (t : Fin cfg0.N) (r : Fin 176) (k : Fin 2048)

theorem rd_w : iblk m c 0 t (ix3 (0 : Fin 1) r k) = a0 m c (ix3 (0 : Fin 4) ⟨t.val * 176 + r.val, row_lt t r⟩ k) := by
  show V m c main_arg0 _ = _
  rw [V_main_arg0]
  blk_ext [idx t]
theorem rd_m : iblk m c 2 t (ix3 (0 : Fin 1) r k) = a2 m c (ix3 (0 : Fin 4) ⟨t.val * 176 + r.val, row_lt t r⟩ k) := by
  show V m c main_arg2 _ = _
  rw [V_main_arg2]
  blk_ext [idx t]
theorem rd_v : iblk m c 3 t (ix3 (0 : Fin 1) r k) = a3 m c (ix3 (0 : Fin 4) ⟨t.val * 176 + r.val, row_lt t r⟩ k) := by
  show V m c main_arg3 _ = _
  rw [V_main_arg3]
  blk_ext [idx t]
theorem rd_g : iblk m c 1 t (ix2 r k) = a1 m c (ix2 ⟨t.val * 176 + r.val, row_lt t r⟩ k) := by
  show V m c main_arg1 _ = _
  rw [V_main_arg1]
  blk_ext [idx t]

theorem final_go : (dats m 0 c).arrAt 4 cfg0.N = Ggo (a1 m c) (a4 m c) := by
  refine (dats m 0 c).arrAt_eq_of_coversWhere_of_agree 4 _ (fun β => β (0 : Fin _) = 0) (by decide +kernel) (fun t hf y => ?_) (fun j hj => ?_)
  · blk_simp
    idx_vars y
    have hy : y0 = 0 := Fin.ext (by show y0.val = 0; omega)
    subst hy
    have e : Ggo (a1 m c) (a4 m c) (((View.whole main_v0_0).slice (win0_4.rect t)).emb (ix3 (0 : Fin 1) y1 y2))
        = Ggo (a1 m c) (a4 m c) (ix3 (0 : Fin 4) ⟨t.val * 176 + y1.val, row_lt t y1⟩ y2) := by
      refine congrArg (Ggo (a1 m c) (a4 m c)) ?_
      blk_ext [idx t]
    rw [e]
    clear e
    rw [after0_4]
    unfold Gen.outsAt0
    frame_out
    rw [go_apply, rd_g]
    unfold Ggo
    rfl
  · show V m c main_v0_0 _ = _
    rw [V_b0]
    unfold Ggo
    refine (if_neg fun h => hj ?_).symm
    blk_simp [Pipeline.Window.cell_apply]
    have h2 : (j 0).val < 1 := h
    omega

theorem final_d : (dats m 0 c).arrAt 5 cfg0.N = Gd (a0 m c) (a1 m c) (a2 m c) (a3 m c) (a5 m c) := by
  refine (dats m 0 c).arrAt_eq_of_coversWhere_of_agree 5 _ (fun β => β (0 : Fin _) = 0) (by decide +kernel) (fun t hf y => ?_) (fun j hj => ?_)
  · blk_simp
    idx_vars y
    have hy : y0 = 0 := Fin.ext (by show y0.val = 0; omega)
    subst hy
    have e : Gd (a0 m c) (a1 m c) (a2 m c) (a3 m c) (a5 m c) (((View.whole main_v0_1).slice (win0_5.rect t)).emb (ix3 (0 : Fin 1) y1 y2))
        = Gd (a0 m c) (a1 m c) (a2 m c) (a3 m c) (a5 m c) (ix3 (0 : Fin 4) ⟨t.val * 176 + y1.val, row_lt t y1⟩ y2) := by
      refine congrArg (Gd (a0 m c) (a1 m c) (a2 m c) (a3 m c) (a5 m c)) ?_
      blk_ext [idx t]
    rw [e]
    clear e
    rw [after0_5]
    unfold Gen.outsAt0
    frame_out
    rw [d_apply, rd_g, rd_m, rd_v, rd_w]
    unfold Gd
    rfl
  · show V m c main_v0_1 _ = _
    rw [V_b1]
    unfold Gd
    refine (if_neg fun h => hj ?_).symm
    blk_simp [Pipeline.Window.cell_apply]
    have h2 : (j 0).val < 1 := h
    omega

theorem final_m : (dats m 0 c).arrAt 6 cfg0.N = Gm (a1 m c) (a2 m c) (a6 m c) := by
  refine (dats m 0 c).arrAt_eq_of_coversWhere_of_agree 6 _ (fun β => β (0 : Fin _) = 0) (by decide +kernel) (fun t hf y => ?_) (fun j hj => ?_)
  · blk_simp
    idx_vars y
    have hy : y0 = 0 := Fin.ext (by show y0.val = 0; omega)
    subst hy
    have e : Gm (a1 m c) (a2 m c) (a6 m c) (((View.whole main_v0_2).slice (win0_6.rect t)).emb (ix3 (0 : Fin 1) y1 y2))
        = Gm (a1 m c) (a2 m c) (a6 m c) (ix3 (0 : Fin 4) ⟨t.val * 176 + y1.val, row_lt t y1⟩ y2) := by
      refine congrArg (Gm (a1 m c) (a2 m c) (a6 m c)) ?_
      blk_ext [idx t]
    rw [e]
    clear e
    rw [after0_6]
    unfold Gen.outsAt0
    frame_out
    rw [m_apply, rd_g, rd_m]
    unfold Gm
    rfl
  · show V m c main_v0_2 _ = _
    rw [V_b2]
    unfold Gm
    refine (if_neg fun h => hj ?_).symm
    blk_simp [Pipeline.Window.cell_apply]
    have h2 : (j 0).val < 1 := h
    omega

theorem final_v : (dats m 0 c).arrAt 7 cfg0.N = Gv (a1 m c) (a3 m c) (a7 m c) := by
  refine (dats m 0 c).arrAt_eq_of_coversWhere_of_agree 7 _ (fun β => β (0 : Fin _) = 0) (by decide +kernel) (fun t hf y => ?_) (fun j hj => ?_)
  · blk_simp
    idx_vars y
    have hy : y0 = 0 := Fin.ext (by show y0.val = 0; omega)
    subst hy
    have e : Gv (a1 m c) (a3 m c) (a7 m c) (((View.whole main_v0_3).slice (win0_7.rect t)).emb (ix3 (0 : Fin 1) y1 y2))
        = Gv (a1 m c) (a3 m c) (a7 m c) (ix3 (0 : Fin 4) ⟨t.val * 176 + y1.val, row_lt t y1⟩ y2) := by
      refine congrArg (Gv (a1 m c) (a3 m c) (a7 m c)) ?_
      blk_ext [idx t]
    rw [e]
    clear e
    rw [after0_7]
    unfold Gen.outsAt0
    frame_out
    rw [v_apply, rd_g, rd_v]
    unfold Gv
    rfl
  · show V m c main_v0_3 _ = _
    rw [V_b3]
    unfold Gv
    refine (if_neg fun h => hj ?_).symm
    blk_simp [Pipeline.Window.cell_apply]
    have h2 : (j 0).val < 1 := h
    omega

end

/-- Both programs end with the same four arrays. -/
theorem value : Cert.algebraic_BigDownIdeal_BigDownRefIdeal := by
  intro m g m' g' _ ha
  refine ⟨fun c => Ggo (a1 m c) (a4 m c), fun c => Gd (a0 m c) (a1 m c) (a2 m c) (a3 m c) (a5 m c), fun c => Gm (a1 m c) (a2 m c) (a6 m c),
    fun c => Gv (a1 m c) (a3 m c) (a7 m c), (θ_run Cert.BigDownIdeal.defs _ _).mono (fun r h c => ?_) (Cert.BigDownIdeal.Value.run_blocks m g),
    (θ_run Cert.BigDownRefIdeal.defs _ _).mono (fun r h c => ?_) (Cert.BigDownRefIdeal.Value.run m' g')⟩
  · exact ⟨(h c).1.trans (final_go m c), (h c).2.1.trans (final_d m c), (h c).2.2.1.trans (final_m m c), (h c).2.2.2.1.trans (final_v m c), (h c).2.2.2.2⟩
  · obtain ⟨e0, e1, e2, e3, e4, e5, e6, e7⟩ := ha c
    have h' := h c
    rw [Cert.BigDownRefIdeal.Read.val_main_v32_eq, Cert.BigDownRefIdeal.Read.val_main_v35_eq, Cert.BigDownRefIdeal.Read.val_main_v38_eq, Cert.BigDownRefIdeal.Read.val_main_v41_eq,
      e0, e1, e2, e3, e4, e5, e6, e7] at h'
    rw [e0, e1, e2, e3, e4, e5, e6, e7]
    exact ⟨h'.1.trans (ref_go _ _), h'.2.1.trans (ref_d _ _ _ _ _), h'.2.2.1.trans (ref_m _ _ _), h'.2.2.2.1.trans (ref_v _ _ _), h'.2.2.2.2⟩

end Cert.BigDownClaims
-- ==== Proof.SumSmallClaims.lean ====
/-
  The claims about the sum over the devices of the packed gradients of the small weights: the frames of the three programs and the value claim.
-/
module

public import proofs.«01_k».proof.Defs
public import proofs.«01_k».proof.Proof.Gen.SumSmall
public import proofs.«01_k».proof.Proof.Gen.SumSmall.Frame
public import proofs.«01_k».proof.Proof.Gen.SumSmallIdeal.Frame
public import proofs.«01_k».proof.Proof.Gen.SumSmallIdeal.Value
public import proofs.«01_k».proof.Proof.Gen.SumSmallRefIdeal.Run
public import proofs.«01_k».proof.Proof.Gen.SumSmallRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SumSmallClaims

theorem frame_p : Cert.quiescent_SumSmall := fun m ρ _ => Cert.SumSmall.Gen.frame m ρ
theorem frame_i : Cert.quiescent_SumSmallIdeal := fun m ρ _ => Cert.SumSmallIdeal.Gen.frame m ρ
theorem frame_r : Cert.quiescent_SumSmallRefIdeal := fun m ρ _ =>
  (θ_run Cert.SumSmallRefIdeal.defs _ _).mono (fun r h => ⟨fun c => (h c).2,
      Idealize.ShloMosaic.sem_eq_zero_of_no_sems (by decide) r.2⟩) (Cert.SumSmallRefIdeal.Value.run m ρ)
theorem preserves : Cert.preserves_SumSmall_SumSmallIdeal := trivial

abbrev T := (⟨Cert.SumSmallRefIdeal.S8x1616x128, .f32⟩ : BufTy).Contents (Elt Ideal)
abbrev R := (⟨Cert.SumSmallRefIdeal.S1616x128, .f32⟩ : BufTy).Contents (Elt Ideal)

/-- The sum over the eight devices. -/
def G (x : T) : R := fun i => ((∑ k : Fin 8, x (ix3 k (i 0) (i 1)) : EReal) : EReal)

section
open Cert.SumSmallRefIdeal Cert.SumSmallRefIdeal.Read

theorem ref_eq (x : T) : val_main_v0 (F := Ideal) x = G x := by
  funext i
  idx_vars i
  have e : val_main_v0 (F := Ideal) x (ix2 i0 i1) = ∑ k : Fin 8, (x (ix3 k i0 i1) : EReal) := by
    pointwise [val_main_v0, val_main_cst]
  exact e

end

section
open Cert.SumSmallIdeal Cert.SumSmallIdeal.Gen

theorem pay_apply (p0 p1 p2 p3 p4 p5 p6 p7 : Vec Ideal S1x1616x128 .f32) (r : Fin 1616) (j : Fin 128) :
    k0_pay1 p0 p1 p2 p3 p4 p5 p6 p7 (ix2 r j)
      = (p0 (ix3 0 r j) + p1 (ix3 0 r j) + p2 (ix3 0 r j) + p3 (ix3 0 r j) + p4 (ix3 0 r j) + p5 (ix3 0 r j) + p6 (ix3 0 r j) + p7 (ix3 0 r j) : EReal) := by
  pointwise [k0_pay1]

theorem blk_apply (x : Vec Ideal S8x1616x128 .f32) (r : Fin 1616) (j : Fin 128) :
    out0_1 x (ix2 r j) = ∑ k : Fin 8, (x (ix3 k r j) : EReal) := by
  unfold out0_1
  frame_out
  rw [pay_apply, Fin.sum_univ_eight]
  have e0 : View.ld x r0_0 (ix3 0 r j) = x (ix3 0 r j) := congrArg x (funext fun a => Fin.ext (by
    match a with
    | ⟨0, _⟩ => rfl
    | ⟨1, _⟩ => show 0 + 1 * r.val = r.val; omega
    | ⟨2, _⟩ => show 0 + 1 * j.val = j.val; omega))
  have e1 : View.ld x r0_1 (ix3 0 r j) = x (ix3 1 r j) := congrArg x (funext fun a => Fin.ext (by
    match a with
    | ⟨0, _⟩ => rfl
    | ⟨1, _⟩ => show 0 + 1 * r.val = r.val; omega
    | ⟨2, _⟩ => show 0 + 1 * j.val = j.val; omega))
  have e2 : View.ld x r0_2 (ix3 0 r j) = x (ix3 2 r j) := congrArg x (funext fun a => Fin.ext (by
    match a with
    | ⟨0, _⟩ => rfl
    | ⟨1, _⟩ => show 0 + 1 * r.val = r.val; omega
    | ⟨2, _⟩ => show 0 + 1 * j.val = j.val; omega))
  have e3 : View.ld x r0_3 (ix3 0 r j) = x (ix3 3 r j) := congrArg x (funext fun a => Fin.ext (by
    match a with
    | ⟨0, _⟩ => rfl
    | ⟨1, _⟩ => show 0 + 1 * r.val = r.val; omega
    | ⟨2, _⟩ => show 0 + 1 * j.val = j.val; omega))
  have e4 : View.ld x r0_4 (ix3 0 r j) = x (ix3 4 r j) := congrArg x (funext fun a => Fin.ext (by
    match a with
    | ⟨0, _⟩ => rfl
    | ⟨1, _⟩ => show 0 + 1 * r.val = r.val; omega
    | ⟨2, _⟩ => show 0 + 1 * j.val = j.val; omega))
  have e5 : View.ld x r0_5 (ix3 0 r j) = x (ix3 5 r j) := congrArg x (funext fun a => Fin.ext (by
    match a with
    | ⟨0, _⟩ => rfl
    | ⟨1, _⟩ => show 0 + 1 * r.val = r.val; omega
    | ⟨2, _⟩ => show 0 + 1 * j.val = j.val; omega))
  have e6 : View.ld x r0_6 (ix3 0 r j) = x (ix3 6 r j) := congrArg x (funext fun a => Fin.ext (by
    match a with
    | ⟨0, _⟩ => rfl
    | ⟨1, _⟩ => show 0 + 1 * r.val = r.val; omega
    | ⟨2, _⟩ => show 0 + 1 * j.val = j.val; omega))
  have e7 : View.ld x r0_7 (ix3 0 r j) = x (ix3 7 r j) := congrArg x (funext fun a => Fin.ext (by
    match a with
    | ⟨0, _⟩ => rfl
    | ⟨1, _⟩ => show 0 + 1 * r.val = r.val; omega
    | ⟨2, _⟩ => show 0 + 1 * j.val = j.val; omega))
  rw [e0, e1, e2, e3, e4, e5, e6, e7]

variable (m : (ℓ : Loc nD τ sig) → Buf (Elt Ideal) ℓ) (c : Dev nD)

abbrev aX := m ((c : Thread nD τ).loc main_arg0)

theorem final1 : Cert.SumSmallIdeal.Value.G1 (F := Ideal) (aX m c) = G (aX m c) := by
  funext i
  idx_vars i
  exact (congrFun (Cert.SumSmallIdeal.Value.out1_eq (F := Ideal) (aX m c)) _).symm.trans (blk_apply (aX m c) i0 i1)

end

/-- Both programs end with the sum over the devices. -/
theorem value : Cert.algebraic_SumSmallIdeal_SumSmallRefIdeal := by
  intro m g m' g' _ ha
  refine ⟨fun c => G (aX m c),
    (θ_run Cert.SumSmallIdeal.defs _ _).mono (fun r h c => ?_) (Cert.SumSmallIdeal.Value.run m g),
    (θ_run Cert.SumSmallRefIdeal.defs _ _).mono (fun r h c => ?_) (Cert.SumSmallRefIdeal.Value.run m' g')⟩
  · exact ⟨(h c).1.trans (final1 m c), (h c).2⟩
  · have a0 := ha c
    have h' := h c
    rw [a0] at h'
    rw [a0]
    exact ⟨h'.1.trans ((Cert.SumSmallRefIdeal.Read.val_main_v0_eq (F := Ideal) _).trans (ref_eq _)), h'.2⟩

end Cert.SumSmallClaims
-- ==== Proof.SumInClaims.lean ====
/-
  The claims about the sum over the devices of the gradient of w_in: the frames of the three programs and the value claim.
-/
module

public import proofs.«01_k».proof.Defs
public import proofs.«01_k».proof.Proof.Gen.SumIn
public import proofs.«01_k».proof.Proof.Gen.SumIn.Frame
public import proofs.«01_k».proof.Proof.Gen.SumInIdeal.Frame
public import proofs.«01_k».proof.Proof.Gen.SumInIdeal.Value
public import proofs.«01_k».proof.Proof.Gen.SumInRefIdeal.Run
public import proofs.«01_k».proof.Proof.Gen.SumInRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SumInClaims

theorem frame_p : Cert.quiescent_SumIn := fun m ρ _ => Cert.SumIn.Gen.frame m ρ
theorem frame_i : Cert.quiescent_SumInIdeal := fun m ρ _ => Cert.SumInIdeal.Gen.frame m ρ
theorem frame_r : Cert.quiescent_SumInRefIdeal := fun m ρ _ =>
  (θ_run Cert.SumInRefIdeal.defs _ _).mono (fun r h => ⟨fun c => (h c).2,
      Idealize.ShloMosaic.sem_eq_zero_of_no_sems (by decide) r.2⟩) (Cert.SumInRefIdeal.Value.run m ρ)
theorem preserves : Cert.preserves_SumIn_SumInIdeal := trivial

abbrev T := (⟨Cert.SumInRefIdeal.S8x672x2048, .bf16⟩ : BufTy).Contents (Elt Ideal)
abbrev R := (⟨Cert.SumInRefIdeal.S672x2048, .f32⟩ : BufTy).Contents (Elt Ideal)

/-- The sum over the eight devices. -/
def G (x : T) : R := fun i => ((∑ k : Fin 8, x (ix3 k (i 0) (i 1)) : EReal) : EReal)

section
open Cert.SumInRefIdeal Cert.SumInRefIdeal.Read

theorem ref_eq (x : T) : val_main_v1 (F := Ideal) x = G x := by
  funext i
  idx_vars i
  have e : val_main_v1 (F := Ideal) x (ix2 i0 i1) = ∑ k : Fin 8, (x (ix3 k i0 i1) : EReal) := by
    pointwise [val_main_v1, val_main_v0, val_main_cst]
  exact e

end

section
open Cert.SumInIdeal Cert.SumInIdeal.Gen

theorem pay_apply (p0 p1 p2 p3 p4 p5 p6 p7 : Vec Ideal S1x224x2048 .bf16) (r : Fin 224) (j : Fin 2048) :
    k0_pay1 p0 p1 p2 p3 p4 p5 p6 p7 (ix2 r j)
      = (p0 (ix3 0 r j) + p1 (ix3 0 r j) + p2 (ix3 0 r j) + p3 (ix3 0 r j) + p4 (ix3 0 r j) + p5 (ix3 0 r j) + p6 (ix3 0 r j) + p7 (ix3 0 r j) : EReal) := by
  pointwise [k0_pay1]

theorem blk_apply (x : Vec Ideal S8x224x2048 .bf16) (r : Fin 224) (j : Fin 2048) :
    out0_1 x (ix2 r j) = ∑ k : Fin 8, (x (ix3 k r j) : EReal) := by
  unfold out0_1
  frame_out
  rw [pay_apply, Fin.sum_univ_eight]
  have e0 : View.ld x r0_0 (ix3 0 r j) = x (ix3 0 r j) := congrArg x (funext fun a => Fin.ext (by
    match a with
    | ⟨0, _⟩ => rfl
    | ⟨1, _⟩ => show 0 + 1 * r.val = r.val; omega
    | ⟨2, _⟩ => show 0 + 1 * j.val = j.val; omega))
  have e1 : View.ld x r0_1 (ix3 0 r j) = x (ix3 1 r j) := congrArg x (funext fun a => Fin.ext (by
    match a with
    | ⟨0, _⟩ => rfl
    | ⟨1, _⟩ => show 0 + 1 * r.val = r.val; omega
    | ⟨2, _⟩ => show 0 + 1 * j.val = j.val; omega))
  have e2 : View.ld x r0_2 (ix3 0 r j) = x (ix3 2 r j) := congrArg x (funext fun a => Fin.ext (by
    match a with
    | ⟨0, _⟩ => rfl
    | ⟨1, _⟩ => show 0 + 1 * r.val = r.val; omega
    | ⟨2, _⟩ => show 0 + 1 * j.val = j.val; omega))
  have e3 : View.ld x r0_3 (ix3 0 r j) = x (ix3 3 r j) := congrArg x (funext fun a => Fin.ext (by
    match a with
    | ⟨0, _⟩ => rfl
    | ⟨1, _⟩ => show 0 + 1 * r.val = r.val; omega
    | ⟨2, _⟩ => show 0 + 1 * j.val = j.val; omega))
  have e4 : View.ld x r0_4 (ix3 0 r j) = x (ix3 4 r j) := congrArg x (funext fun a => Fin.ext (by
    match a with
    | ⟨0, _⟩ => rfl
    | ⟨1, _⟩ => show 0 + 1 * r.val = r.val; omega
    | ⟨2, _⟩ => show 0 + 1 * j.val = j.val; omega))
  have e5 : View.ld x r0_5 (ix3 0 r j) = x (ix3 5 r j) := congrArg x (funext fun a => Fin.ext (by
    match a with
    | ⟨0, _⟩ => rfl
    | ⟨1, _⟩ => show 0 + 1 * r.val = r.val; omega
    | ⟨2, _⟩ => show 0 + 1 * j.val = j.val; omega))
  have e6 : View.ld x r0_6 (ix3 0 r j) = x (ix3 6 r j) := congrArg x (funext fun a => Fin.ext (by
    match a with
    | ⟨0, _⟩ => rfl
    | ⟨1, _⟩ => show 0 + 1 * r.val = r.val; omega
    | ⟨2, _⟩ => show 0 + 1 * j.val = j.val; omega))
  have e7 : View.ld x r0_7 (ix3 0 r j) = x (ix3 7 r j) := congrArg x (funext fun a => Fin.ext (by
    match a with
    | ⟨0, _⟩ => rfl
    | ⟨1, _⟩ => show 0 + 1 * r.val = r.val; omega
    | ⟨2, _⟩ => show 0 + 1 * j.val = j.val; omega))
  rw [e0, e1, e2, e3, e4, e5, e6, e7]

variable (m : (ℓ : Loc nD τ sig) → Buf (Elt Ideal) ℓ) (c : Dev nD)

abbrev aX := m ((c : Thread nD τ).loc main_arg0)

theorem idx : ∀ t : Fin cfg0.N, win0_0.index t = ![0, t.val, 0] ∧ win0_1.index t = ![t.val, 0] :=
  (by decide +kernel : ∀ t : Fin grid0.N, _)

theorem row_lt (t : Fin cfg0.N) (r : Fin 224) : t.val * 224 + r.val < 672 := by
  have := t.isLt; have h : cfg0.N = 3 := N_0; omega

theorem rd (t : Fin cfg0.N) (k : Fin 8) (r : Fin 224) (j : Fin 2048) :
    iblk m c 0 t (ix3 k r j) = aX m c (ix3 k ⟨t.val * 224 + r.val, row_lt t r⟩ j) := by
  blk_ext [iblk, V, idx t]

theorem final1 : (dats m 0 c).arrAt 1 cfg0.N = G (aX m c) := by
  refine (dats m 0 c).arrAt_eq_of_covers 1 _ (by decide +kernel) fun t hf y => ?_
  blk_simp
  idx_vars y
  have e : G (aX m c) (((View.whole main_v0).slice (win0_1.rect t)).emb (ix2 y0 y1))
      = G (aX m c) (ix2 ⟨t.val * 224 + y0.val, row_lt t y0⟩ y1) := by
    refine congrArg (G (aX m c)) ?_
    blk_ext [idx t]
  refine Eq.trans ?_ e.symm
  rw [after0_1]
  refine (blk_apply (iblk m c 0 t) y0 y1).trans ?_
  exact Finset.sum_congr rfl fun k _ => rd m c t k y0 y1

end

/-- Both programs end with the sum over the devices. -/
theorem value : Cert.algebraic_SumInIdeal_SumInRefIdeal := by
  intro m g m' g' _ ha
  refine ⟨fun c => G (aX m c),
    (θ_run Cert.SumInIdeal.defs _ _).mono (fun r h c => ?_) (Cert.SumInIdeal.Value.run_blocks m g),
    (θ_run Cert.SumInRefIdeal.defs _ _).mono (fun r h c => ?_) (Cert.SumInRefIdeal.Value.run m' g')⟩
  · exact ⟨(h c).1.trans (final1 m c), (h c).2⟩
  · have a0 := ha c
    have h' := h c
    rw [a0] at h'
    rw [a0]
    exact ⟨h'.1.trans ((Cert.SumInRefIdeal.Read.val_main_v1_eq (F := Ideal) _).trans (ref_eq _)), h'.2⟩

end Cert.SumInClaims
-- ==== Proof.SumOutClaims.lean ====
/-
  The claims about the sum over the devices of the gradient of w_out: the frames of the three programs and the value claim.
-/
module

public import proofs.«01_k».proof.Defs
public import proofs.«01_k».proof.Proof.Gen.SumOut
public import proofs.«01_k».proof.Proof.Gen.SumOut.Frame
public import proofs.«01_k».proof.Proof.Gen.SumOutIdeal.Frame
public import proofs.«01_k».proof.Proof.Gen.SumOutIdeal.Value
public import proofs.«01_k».proof.Proof.Gen.SumOutRefIdeal.Run
public import proofs.«01_k».proof.Proof.Gen.SumOutRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SumOutClaims

theorem frame_p : Cert.quiescent_SumOut := fun m ρ _ => Cert.SumOut.Gen.frame m ρ
theorem frame_i : Cert.quiescent_SumOutIdeal := fun m ρ _ => Cert.SumOutIdeal.Gen.frame m ρ
theorem frame_r : Cert.quiescent_SumOutRefIdeal := fun m ρ _ =>
  (θ_run Cert.SumOutRefIdeal.defs _ _).mono (fun r h => ⟨fun c => (h c).2,
      Idealize.ShloMosaic.sem_eq_zero_of_no_sems (by decide) r.2⟩) (Cert.SumOutRefIdeal.Value.run m ρ)
theorem preserves : Cert.preserves_SumOut_SumOutIdeal := trivial

abbrev T := (⟨Cert.SumOutRefIdeal.S8x256x2048, .bf16⟩ : BufTy).Contents (Elt Ideal)
abbrev R := (⟨Cert.SumOutRefIdeal.S256x2048, .f32⟩ : BufTy).Contents (Elt Ideal)

/-- The sum over the eight devices. -/
def G (x : T) : R := fun i => ((∑ k : Fin 8, x (ix3 k (i 0) (i 1)) : EReal) : EReal)

section
open Cert.SumOutRefIdeal Cert.SumOutRefIdeal.Read

theorem ref_eq (x : T) : val_main_v1 (F := Ideal) x = G x := by
  funext i
  idx_vars i
  have e : val_main_v1 (F := Ideal) x (ix2 i0 i1) = ∑ k : Fin 8, (x (ix3 k i0 i1) : EReal) := by
    pointwise [val_main_v1, val_main_v0, val_main_cst]
  exact e

end

section
open Cert.SumOutIdeal Cert.SumOutIdeal.Gen

theorem pay_apply (p0 p1 p2 p3 p4 p5 p6 p7 : Vec Ideal S1x256x2048 .bf16) (r : Fin 256) (j : Fin 2048) :
    k0_pay1 p0 p1 p2 p3 p4 p5 p6 p7 (ix2 r j)
      = (p0 (ix3 0 r j) + p1 (ix3 0 r j) + p2 (ix3 0 r j) + p3 (ix3 0 r j) + p4 (ix3 0 r j) + p5 (ix3 0 r j) + p6 (ix3 0 r j) + p7 (ix3 0 r j) : EReal) := by
  pointwise [k0_pay1]

theorem blk_apply (x : Vec Ideal S8x256x2048 .bf16) (r : Fin 256) (j : Fin 2048) :
    out0_1 x (ix2 r j) = ∑ k : Fin 8, (x (ix3 k r j) : EReal) := by
  unfold out0_1
  frame_out
  rw [pay_apply, Fin.sum_univ_eight]
  have e0 : View.ld x r0_0 (ix3 0 r j) = x (ix3 0 r j) := congrArg x (funext fun a => Fin.ext (by
    match a with
    | ⟨0, _⟩ => rfl
    | ⟨1, _⟩ => show 0 + 1 * r.val = r.val; omega
    | ⟨2, _⟩ => show 0 + 1 * j.val = j.val; omega))
  have e1 : View.ld x r0_1 (ix3 0 r j) = x (ix3 1 r j) := congrArg x (funext fun a => Fin.ext (by
    match a with
    | ⟨0, _⟩ => rfl
    | ⟨1, _⟩ => show 0 + 1 * r.val = r.val; omega
    | ⟨2, _⟩ => show 0 + 1 * j.val = j.val; omega))
  have e2 : View.ld x r0_2 (ix3 0 r j) = x (ix3 2 r j) := congrArg x (funext fun a => Fin.ext (by
    match a with
    | ⟨0, _⟩ => rfl
    | ⟨1, _⟩ => show 0 + 1 * r.val = r.val; omega
    | ⟨2, _⟩ => show 0 + 1 * j.val = j.val; omega))
  have e3 : View.ld x r0_3 (ix3 0 r j) = x (ix3 3 r j) := congrArg x (funext fun a => Fin.ext (by
    match a with
    | ⟨0, _⟩ => rfl
    | ⟨1, _⟩ => show 0 + 1 * r.val = r.val; omega
    | ⟨2, _⟩ => show 0 + 1 * j.val = j.val; omega))
  have e4 : View.ld x r0_4 (ix3 0 r j) = x (ix3 4 r j) := congrArg x (funext fun a => Fin.ext (by
    match a with
    | ⟨0, _⟩ => rfl
    | ⟨1, _⟩ => show 0 + 1 * r.val = r.val; omega
    | ⟨2, _⟩ => show 0 + 1 * j.val = j.val; omega))
  have e5 : View.ld x r0_5 (ix3 0 r j) = x (ix3 5 r j) := congrArg x (funext fun a => Fin.ext (by
    match a with
    | ⟨0, _⟩ => rfl
    | ⟨1, _⟩ => show 0 + 1 * r.val = r.val; omega
    | ⟨2, _⟩ => show 0 + 1 * j.val = j.val; omega))
  have e6 : View.ld x r0_6 (ix3 0 r j) = x (ix3 6 r j) := congrArg x (funext fun a => Fin.ext (by
    match a with
    | ⟨0, _⟩ => rfl
    | ⟨1, _⟩ => show 0 + 1 * r.val = r.val; omega
    | ⟨2, _⟩ => show 0 + 1 * j.val = j.val; omega))
  have e7 : View.ld x r0_7 (ix3 0 r j) = x (ix3 7 r j) := congrArg x (funext fun a => Fin.ext (by
    match a with
    | ⟨0, _⟩ => rfl
    | ⟨1, _⟩ => show 0 + 1 * r.val = r.val; omega
    | ⟨2, _⟩ => show 0 + 1 * j.val = j.val; omega))
  rw [e0, e1, e2, e3, e4, e5, e6, e7]

variable (m : (ℓ : Loc nD τ sig) → Buf (Elt Ideal) ℓ) (c : Dev nD)

abbrev aX := m ((c : Thread nD τ).loc main_arg0)

theorem idx : ∀ t : Fin cfg0.N, win0_0.index t = ![0, t.val, 0] ∧ win0_1.index t = ![t.val, 0] :=
  (by decide +kernel : ∀ t : Fin grid0.N, _)

theorem row_lt (t : Fin cfg0.N) (r : Fin 256) : t.val * 256 + r.val < 256 := by
  have := t.isLt; have h : cfg0.N = 1 := N_0; omega

theorem rd (t : Fin cfg0.N) (k : Fin 8) (r : Fin 256) (j : Fin 2048) :
    iblk m c 0 t (ix3 k r j) = aX m c (ix3 k ⟨t.val * 256 + r.val, row_lt t r⟩ j) := by
  blk_ext [iblk, V, idx t]

theorem final1 : (dats m 0 c).arrAt 1 cfg0.N = G (aX m c) := by
  refine (dats m 0 c).arrAt_eq_of_covers 1 _ (by decide +kernel) fun t hf y => ?_
  blk_simp
  idx_vars y
  have e : G (aX m c) (((View.whole main_v0).slice (win0_1.rect t)).emb (ix2 y0 y1))
      = G (aX m c) (ix2 ⟨t.val * 256 + y0.val, row_lt t y0⟩ y1) := by
    refine congrArg (G (aX m c)) ?_
    blk_ext [idx t]
  refine Eq.trans ?_ e.symm
  rw [after0_1]
  refine (blk_apply (iblk m c 0 t) y0 y1).trans ?_
  exact Finset.sum_congr rfl fun k _ => rd m c t k y0 y1

end

/-- Both programs end with the sum over the devices. -/
theorem value : Cert.algebraic_SumOutIdeal_SumOutRefIdeal := by
  intro m g m' g' _ ha
  refine ⟨fun c => G (aX m c),
    (θ_run Cert.SumOutIdeal.defs _ _).mono (fun r h c => ?_) (Cert.SumOutIdeal.Value.run_blocks m g),
    (θ_run Cert.SumOutRefIdeal.defs _ _).mono (fun r h c => ?_) (Cert.SumOutRefIdeal.Value.run m' g')⟩
  · exact ⟨(h c).1.trans (final1 m c), (h c).2⟩
  · have a0 := ha c
    have h' := h c
    rw [a0] at h'
    rw [a0]
    exact ⟨h'.1.trans ((Cert.SumOutRefIdeal.Read.val_main_v1_eq (F := Ideal) _).trans (ref_eq _)), h'.2⟩

end Cert.SumOutClaims
-- ==== Proof.SumUpClaims.lean ====
/-
  The claims about the sum over the devices of the gradient of w_up: the frames of the three programs and the value claim.
-/
module

public import proofs.«01_k».proof.Defs
public import proofs.«01_k».proof.Proof.Gen.SumUp
public import proofs.«01_k».proof.Proof.Gen.SumUp.Frame
public import proofs.«01_k».proof.Proof.Gen.SumUpIdeal.Frame
public import proofs.«01_k».proof.Proof.Gen.SumUpIdeal.Value
public import proofs.«01_k».proof.Proof.Gen.SumUpRefIdeal.Run
public import proofs.«01_k».proof.Proof.Gen.SumUpRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SumUpClaims

theorem frame_p : Cert.quiescent_SumUp := fun m ρ _ => Cert.SumUp.Gen.frame m ρ
theorem frame_i : Cert.quiescent_SumUpIdeal := fun m ρ _ => Cert.SumUpIdeal.Gen.frame m ρ
theorem frame_r : Cert.quiescent_SumUpRefIdeal := fun m ρ _ =>
  (θ_run Cert.SumUpRefIdeal.defs _ _).mono (fun r h => ⟨fun c => (h c).2,
      Idealize.ShloMosaic.sem_eq_zero_of_no_sems (by decide) r.2⟩) (Cert.SumUpRefIdeal.Value.run m ρ)
theorem preserves : Cert.preserves_SumUp_SumUpIdeal := trivial

abbrev T := (⟨Cert.SumUpRefIdeal.S8x1408x2048, .bf16⟩ : BufTy).Contents (Elt Ideal)
abbrev R := (⟨Cert.SumUpRefIdeal.S1408x2048, .f32⟩ : BufTy).Contents (Elt Ideal)

/-- The sum over the eight devices. -/
def G (x : T) : R := fun i => ((∑ k : Fin 8, x (ix3 k (i 0) (i 1)) : EReal) : EReal)

section
open Cert.SumUpRefIdeal Cert.SumUpRefIdeal.Read

theorem ref_eq (x : T) : val_main_v1 (F := Ideal) x = G x := by
  funext i
  idx_vars i
  have e : val_main_v1 (F := Ideal) x (ix2 i0 i1) = ∑ k : Fin 8, (x (ix3 k i0 i1) : EReal) := by
    pointwise [val_main_v1, val_main_v0, val_main_cst]
  exact e

end

section
open Cert.SumUpIdeal Cert.SumUpIdeal.Gen

theorem pay_apply (p0 p1 p2 p3 p4 p5 p6 p7 : Vec Ideal S1x176x2048 .bf16) (r : Fin 176) (j : Fin 2048) :
    k0_pay1 p0 p1 p2 p3 p4 p5 p6 p7 (ix2 r j)
      = (p0 (ix3 0 r j) + p1 (ix3 0 r j) + p2 (ix3 0 r j) + p3 (ix3 0 r j) + p4 (ix3 0 r j) + p5 (ix3 0 r j) + p6 (ix3 0 r j) + p7 (ix3 0 r j) : EReal) := by
  pointwise [k0_pay1]

theorem blk_apply (x : Vec Ideal S8x176x2048 .bf16) (r : Fin 176) (j : Fin 2048) :
    out0_1 x (ix2 r j) = ∑ k : Fin 8, (x (ix3 k r j) : EReal) := by
  unfold out0_1
  frame_out
  rw [pay_apply, Fin.sum_univ_eight]
  have e0 : View.ld x r0_0 (ix3 0 r j) = x (ix3 0 r j) := congrArg x (funext fun a => Fin.ext (by
    match a with
    | ⟨0, _⟩ => rfl
    | ⟨1, _⟩ => show 0 + 1 * r.val = r.val; omega
    | ⟨2, _⟩ => show 0 + 1 * j.val = j.val; omega))
  have e1 : View.ld x r0_1 (ix3 0 r j) = x (ix3 1 r j) := congrArg x (funext fun a => Fin.ext (by
    match a with
    | ⟨0, _⟩ => rfl
    | ⟨1, _⟩ => show 0 + 1 * r.val = r.val; omega
    | ⟨2, _⟩ => show 0 + 1 * j.val = j.val; omega))
  have e2 : View.ld x r0_2 (ix3 0 r j) = x (ix3 2 r j) := congrArg x (funext fun a => Fin.ext (by
    match a with
    | ⟨0, _⟩ => rfl
    | ⟨1, _⟩ => show 0 + 1 * r.val = r.val; omega
    | ⟨2, _⟩ => show 0 + 1 * j.val = j.val; omega))
  have e3 : View.ld x r0_3 (ix3 0 r j) = x (ix3 3 r j) := congrArg x (funext fun a => Fin.ext (by
    match a with
    | ⟨0, _⟩ => rfl
    | ⟨1, _⟩ => show 0 + 1 * r.val = r.val; omega
    | ⟨2, _⟩ => show 0 + 1 * j.val = j.val; omega))
  have e4 : View.ld x r0_4 (ix3 0 r j) = x (ix3 4 r j) := congrArg x (funext fun a => Fin.ext (by
    match a with
    | ⟨0, _⟩ => rfl
    | ⟨1, _⟩ => show 0 + 1 * r.val = r.val; omega
    | ⟨2, _⟩ => show 0 + 1 * j.val = j.val; omega))
  have e5 : View.ld x r0_5 (ix3 0 r j) = x (ix3 5 r j) := congrArg x (funext fun a => Fin.ext (by
    match a with
    | ⟨0, _⟩ => rfl
    | ⟨1, _⟩ => show 0 + 1 * r.val = r.val; omega
    | ⟨2, _⟩ => show 0 + 1 * j.val = j.val; omega))
  have e6 : View.ld x r0_6 (ix3 0 r j) = x (ix3 6 r j) := congrArg x (funext fun a => Fin.ext (by
    match a with
    | ⟨0, _⟩ => rfl
    | ⟨1, _⟩ => show 0 + 1 * r.val = r.val; omega
    | ⟨2, _⟩ => show 0 + 1 * j.val = j.val; omega))
  have e7 : View.ld x r0_7 (ix3 0 r j) = x (ix3 7 r j) := congrArg x (funext fun a => Fin.ext (by
    match a with
    | ⟨0, _⟩ => rfl
    | ⟨1, _⟩ => show 0 + 1 * r.val = r.val; omega
    | ⟨2, _⟩ => show 0 + 1 * j.val = j.val; omega))
  rw [e0, e1, e2, e3, e4, e5, e6, e7]

variable (m : (ℓ : Loc nD τ sig) → Buf (Elt Ideal) ℓ) (c : Dev nD)

abbrev aX := m ((c : Thread nD τ).loc main_arg0)

theorem idx : ∀ t : Fin cfg0.N, win0_0.index t = ![0, t.val, 0] ∧ win0_1.index t = ![t.val, 0] :=
  (by decide +kernel : ∀ t : Fin grid0.N, _)

theorem row_lt (t : Fin cfg0.N) (r : Fin 176) : t.val * 176 + r.val < 1408 := by
  have := t.isLt; have h : cfg0.N = 8 := N_0; omega

theorem rd (t : Fin cfg0.N) (k : Fin 8) (r : Fin 176) (j : Fin 2048) :
    iblk m c 0 t (ix3 k r j) = aX m c (ix3 k ⟨t.val * 176 + r.val, row_lt t r⟩ j) := by
  blk_ext [iblk, V, idx t]

theorem final1 : (dats m 0 c).arrAt 1 cfg0.N = G (aX m c) := by
  refine (dats m 0 c).arrAt_eq_of_covers 1 _ (by decide +kernel) fun t hf y => ?_
  blk_simp
  idx_vars y
  have e : G (aX m c) (((View.whole main_v0).slice (win0_1.rect t)).emb (ix2 y0 y1))
      = G (aX m c) (ix2 ⟨t.val * 176 + y0.val, row_lt t y0⟩ y1) := by
    refine congrArg (G (aX m c)) ?_
    blk_ext [idx t]
  refine Eq.trans ?_ e.symm
  rw [after0_1]
  refine (blk_apply (iblk m c 0 t) y0 y1).trans ?_
  exact Finset.sum_congr rfl fun k _ => rd m c t k y0 y1

end

/-- Both programs end with the sum over the devices. -/
theorem value : Cert.algebraic_SumUpIdeal_SumUpRefIdeal := by
  intro m g m' g' _ ha
  refine ⟨fun c => G (aX m c),
    (θ_run Cert.SumUpIdeal.defs _ _).mono (fun r h c => ?_) (Cert.SumUpIdeal.Value.run_blocks m g),
    (θ_run Cert.SumUpRefIdeal.defs _ _).mono (fun r h c => ?_) (Cert.SumUpRefIdeal.Value.run m' g')⟩
  · exact ⟨(h c).1.trans (final1 m c), (h c).2⟩
  · have a0 := ha c
    have h' := h c
    rw [a0] at h'
    rw [a0]
    exact ⟨h'.1.trans ((Cert.SumUpRefIdeal.Read.val_main_v1_eq (F := Ideal) _).trans (ref_eq _)), h'.2⟩

end Cert.SumUpClaims
-- ==== Proof.SumDownClaims.lean ====
/-
  The claims about the sum over the devices of the gradient of w_down: the frames of the three programs and the value claim.
-/
module

public import proofs.«01_k».proof.Defs
public import proofs.«01_k».proof.Proof.Gen.SumDown
public import proofs.«01_k».proof.Proof.Gen.SumDown.Frame
public import proofs.«01_k».proof.Proof.Gen.SumDownIdeal.Frame
public import proofs.«01_k».proof.Proof.Gen.SumDownIdeal.Value
public import proofs.«01_k».proof.Proof.Gen.SumDownRefIdeal.Run
public import proofs.«01_k».proof.Proof.Gen.SumDownRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SumDownClaims

theorem frame_p : Cert.quiescent_SumDown := fun m ρ _ => Cert.SumDown.Gen.frame m ρ
theorem frame_i : Cert.quiescent_SumDownIdeal := fun m ρ _ => Cert.SumDownIdeal.Gen.frame m ρ
theorem frame_r : Cert.quiescent_SumDownRefIdeal := fun m ρ _ =>
  (θ_run Cert.SumDownRefIdeal.defs _ _).mono (fun r h => ⟨fun c => (h c).2,
      Idealize.ShloMosaic.sem_eq_zero_of_no_sems (by decide) r.2⟩) (Cert.SumDownRefIdeal.Value.run m ρ)
theorem preserves : Cert.preserves_SumDown_SumDownIdeal := trivial

abbrev T := (⟨Cert.SumDownRefIdeal.S8x704x2048, .bf16⟩ : BufTy).Contents (Elt Ideal)
abbrev R := (⟨Cert.SumDownRefIdeal.S704x2048, .f32⟩ : BufTy).Contents (Elt Ideal)

/-- The sum over the eight devices. -/
def G (x : T) : R := fun i => ((∑ k : Fin 8, x (ix3 k (i 0) (i 1)) : EReal) : EReal)

section
open Cert.SumDownRefIdeal Cert.SumDownRefIdeal.Read

theorem ref_eq (x : T) : val_main_v1 (F := Ideal) x = G x := by
  funext i
  idx_vars i
  have e : val_main_v1 (F := Ideal) x (ix2 i0 i1) = ∑ k : Fin 8, (x (ix3 k i0 i1) : EReal) := by
    pointwise [val_main_v1, val_main_v0, val_main_cst]
  exact e

end

section
open Cert.SumDownIdeal Cert.SumDownIdeal.Gen

theorem pay_apply (p0 p1 p2 p3 p4 p5 p6 p7 : Vec Ideal S1x176x2048 .bf16) (r : Fin 176) (j : Fin 2048) :
    k0_pay1 p0 p1 p2 p3 p4 p5 p6 p7 (ix2 r j)
      = (p0 (ix3 0 r j) + p1 (ix3 0 r j) + p2 (ix3 0 r j) + p3 (ix3 0 r j) + p4 (ix3 0 r j) + p5 (ix3 0 r j) + p6 (ix3 0 r j) + p7 (ix3 0 r j) : EReal) := by
  pointwise [k0_pay1]

theorem blk_apply (x : Vec Ideal S8x176x2048 .bf16) (r : Fin 176) (j : Fin 2048) :
    out0_1 x (ix2 r j) = ∑ k : Fin 8, (x (ix3 k r j) : EReal) := by
  unfold out0_1
  frame_out
  rw [pay_apply, Fin.sum_univ_eight]
  have e0 : View.ld x r0_0 (ix3 0 r j) = x (ix3 0 r j) := congrArg x (funext fun a => Fin.ext (by
    match a with
    | ⟨0, _⟩ => rfl
    | ⟨1, _⟩ => show 0 + 1 * r.val = r.val; omega
    | ⟨2, _⟩ => show 0 + 1 * j.val = j.val; omega))
  have e1 : View.ld x r0_1 (ix3 0 r j) = x (ix3 1 r j) := congrArg x (funext fun a => Fin.ext (by
    match a with
    | ⟨0, _⟩ => rfl
    | ⟨1, _⟩ => show 0 + 1 * r.val = r.val; omega
    | ⟨2, _⟩ => show 0 + 1 * j.val = j.val; omega))
  have e2 : View.ld x r0_2 (ix3 0 r j) = x (ix3 2 r j) := congrArg x (funext fun a => Fin.ext (by
    match a with
    | ⟨0, _⟩ => rfl
    | ⟨1, _⟩ => show 0 + 1 * r.val = r.val; omega
    | ⟨2, _⟩ => show 0 + 1 * j.val = j.val; omega))
  have e3 : View.ld x r0_3 (ix3 0 r j) = x (ix3 3 r j) := congrArg x (funext fun a => Fin.ext (by
    match a with
    | ⟨0, _⟩ => rfl
    | ⟨1, _⟩ => show 0 + 1 * r.val = r.val; omega
    | ⟨2, _⟩ => show 0 + 1 * j.val = j.val; omega))
  have e4 : View.ld x r0_4 (ix3 0 r j) = x (ix3 4 r j) := congrArg x (funext fun a => Fin.ext (by
    match a with
    | ⟨0, _⟩ => rfl
    | ⟨1, _⟩ => show 0 + 1 * r.val = r.val; omega
    | ⟨2, _⟩ => show 0 + 1 * j.val = j.val; omega))
  have e5 : View.ld x r0_5 (ix3 0 r j) = x (ix3 5 r j) := congrArg x (funext fun a => Fin.ext (by
    match a with
    | ⟨0, _⟩ => rfl
    | ⟨1, _⟩ => show 0 + 1 * r.val = r.val; omega
    | ⟨2, _⟩ => show 0 + 1 * j.val = j.val; omega))
  have e6 : View.ld x r0_6 (ix3 0 r j) = x (ix3 6 r j) := congrArg x (funext fun a => Fin.ext (by
    match a with
    | ⟨0, _⟩ => rfl
    | ⟨1, _⟩ => show 0 + 1 * r.val = r.val; omega
    | ⟨2, _⟩ => show 0 + 1 * j.val = j.val; omega))
  have e7 : View.ld x r0_7 (ix3 0 r j) = x (ix3 7 r j) := congrArg x (funext fun a => Fin.ext (by
    match a with
    | ⟨0, _⟩ => rfl
    | ⟨1, _⟩ => show 0 + 1 * r.val = r.val; omega
    | ⟨2, _⟩ => show 0 + 1 * j.val = j.val; omega))
  rw [e0, e1, e2, e3, e4, e5, e6, e7]

variable (m : (ℓ : Loc nD τ sig) → Buf (Elt Ideal) ℓ) (c : Dev nD)

abbrev aX := m ((c : Thread nD τ).loc main_arg0)

theorem idx : ∀ t : Fin cfg0.N, win0_0.index t = ![0, t.val, 0] ∧ win0_1.index t = ![t.val, 0] :=
  (by decide +kernel : ∀ t : Fin grid0.N, _)

theorem row_lt (t : Fin cfg0.N) (r : Fin 176) : t.val * 176 + r.val < 704 := by
  have := t.isLt; have h : cfg0.N = 4 := N_0; omega

theorem rd (t : Fin cfg0.N) (k : Fin 8) (r : Fin 176) (j : Fin 2048) :
    iblk m c 0 t (ix3 k r j) = aX m c (ix3 k ⟨t.val * 176 + r.val, row_lt t r⟩ j) := by
  blk_ext [iblk, V, idx t]

theorem final1 : (dats m 0 c).arrAt 1 cfg0.N = G (aX m c) := by
  refine (dats m 0 c).arrAt_eq_of_covers 1 _ (by decide +kernel) fun t hf y => ?_
  blk_simp
  idx_vars y
  have e : G (aX m c) (((View.whole main_v0).slice (win0_1.rect t)).emb (ix2 y0 y1))
      = G (aX m c) (ix2 ⟨t.val * 176 + y0.val, row_lt t y0⟩ y1) := by
    refine congrArg (G (aX m c)) ?_
    blk_ext [idx t]
  refine Eq.trans ?_ e.symm
  rw [after0_1]
  refine (blk_apply (iblk m c 0 t) y0 y1).trans ?_
  exact Finset.sum_congr rfl fun k _ => rd m c t k y0 y1

end

/-- Both programs end with the sum over the devices. -/
theorem value : Cert.algebraic_SumDownIdeal_SumDownRefIdeal := by
  intro m g m' g' _ ha
  refine ⟨fun c => G (aX m c),
    (θ_run Cert.SumDownIdeal.defs _ _).mono (fun r h c => ?_) (Cert.SumDownIdeal.Value.run_blocks m g),
    (θ_run Cert.SumDownRefIdeal.defs _ _).mono (fun r h c => ?_) (Cert.SumDownRefIdeal.Value.run m' g')⟩
  · exact ⟨(h c).1.trans (final1 m c), (h c).2⟩
  · have a0 := ha c
    have h' := h c
    rw [a0] at h'
    rw [a0]
    exact ⟨h'.1.trans ((Cert.SumDownRefIdeal.Read.val_main_v1_eq (F := Ideal) _).trans (ref_eq _)), h'.2⟩

end Cert.SumDownClaims
-- ==== Proof.NormFwdClaims.lean ====
/-
  The claims about the normalisation before the mixer: the frames of the three programs and the value claim.
-/
module

public import proofs.«01_k».proof.Defs
public import proofs.«01_k».proof.Proof.Gen.NormFwd
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.NormFwdClaims

theorem frame_p : Cert.quiescent_NormFwd := fun m ρ _ => Cert.NormFwd.Gen.frame m ρ
theorem frame_i : Cert.quiescent_NormFwdIdeal := fun m ρ _ => Cert.NormFwdIdeal.Gen.frame m ρ
theorem frame_r : Cert.quiescent_NormFwdRefIdeal := fun m ρ _ =>
  (θ_run Cert.NormFwdRefIdeal.defs _ _).mono (fun r h => ⟨fun c => (h c).2,
      Idealize.ShloMosaic.sem_eq_zero_of_no_sems (by decide) r.2⟩) (Cert.NormFwdRefIdeal.Value.run m ρ)
theorem preserves : Cert.preserves_NormFwd_NormFwdIdeal := trivial

abbrev T := (⟨Cert.NormFwdRefIdeal.S4096x2048, .f32⟩ : BufTy).Contents (Elt Ideal)
abbrev R := (⟨Cert.NormFwdRefIdeal.S1x2048, .f32⟩ : BufTy).Contents (Elt Ideal)
abbrev O := (⟨Cert.NormFwdRefIdeal.S4096x2048, .bf16⟩ : BufTy).Contents (Elt Ideal)

/-- One entry of the normalised row: the entry over the root of the mean square, times the gain. -/
def nrm (x : Fin 2048 → EReal) (a g : EReal) : EReal :=
  a * Ideal.rsqrt (Ideal.div (∑ k : Fin 2048, x k * x k) (Ideal.ofBits .f32 0x45000000#32) + Ideal.ofBits .f32 0x358637BD#32) * g

/-- The normalised array. -/
def G (x : T) (g : R) : O := fun i => (nrm (fun k => x (ix2 (i 0) k)) (x i) (g (ix2 0 (i 1))) : EReal)

section
open Cert.NormFwdRefIdeal Cert.NormFwdRefIdeal.Read

theorem ref_eq (x : T) (g : R) : val_main_v12 (F := Ideal) x g = G x g := by
  funext i
  idx_vars i
  have e : val_main_v12 (F := Ideal) x g (ix2 i0 i1) = nrm (fun k => x (ix2 i0 k)) (x (ix2 i0 i1)) (g (ix2 0 i1)) := by
    pointwise [val_main_v0, val_main_v1, val_main_v2, val_main_v3, val_main_v4, val_main_v5, val_main_v6, val_main_v7, val_main_v8, val_main_v9, val_main_v10, val_main_v11, val_main_v12, val_main_cst, val_main_cst_0, val_main_cst_1, nrm]
  exact e

end

section
open Cert.NormFwdIdeal Cert.NormFwdIdeal.Gen

theorem pay_apply (x : Vec Ideal S512x2048 .f32) (g : Vec Ideal S1x2048 .f32) (r : Fin 512) (j : Fin 2048) :
    k0_pay1 x g (ix2 r j) = nrm (fun k => x (ix2 r k)) (x (ix2 r j)) (g (ix2 0 j)) := by
  pointwise [k0_pay1, nrm]

theorem blk_apply (x : Vec Ideal S512x2048 .f32) (g : Vec Ideal S1x2048 .f32) (r : Fin 512) (j : Fin 2048) :
    out0_2 x g (ix2 r j) = nrm (fun k => x (ix2 r k)) (x (ix2 r j)) (g (ix2 0 j)) := by
  unfold out0_2
  frame_out
  rw [pay_apply]

variable (m : (ℓ : Loc nD τ sig) → Buf (Elt Ideal) ℓ) (c : Dev nD)

abbrev aX := m ((c : Thread nD τ).loc main_arg0)
abbrev aG := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (r : Fin 512) : t.val * 512 + r.val < 4096 := by
  have := t.isLt; have h : cfg0.N = 8 := N_0; omega

theorem rd_x (t : Fin cfg0.N) (r : Fin 512) (k : Fin 2048) : iblk m c 0 t (ix2 r k) = aX m c (ix2 ⟨t.val * 512 + r.val, row_lt t r⟩ k) := by
  blk_ext [iblk, V, idx t]
theorem rd_g (t : Fin cfg0.N) (k : Fin 2048) : iblk m c 1 t (ix2 0 k) = aG m c (ix2 0 k) := by
  blk_ext [iblk, V, idx t]

theorem final2 : (dats m 0 c).arrAt 2 cfg0.N = G (aX m c) (aG m c) := by
  refine (dats m 0 c).arrAt_eq_of_covers 2 _ (by decide +kernel) fun t hf y => ?_
  blk_simp
  idx_vars y
  have e : G (aX m c) (aG m c) (((View.whole main_v0).slice (win0_2.rect t)).emb (ix2 y0 y1))
      = G (aX m c) (aG m c) (ix2 ⟨t.val * 512 + y0.val, row_lt t y0⟩ y1) := by
    refine congrArg (G (aX m c) (aG m c)) ?_
    blk_ext [idx t]
  refine Eq.trans ?_ e.symm
  rw [after0_2]
  refine (blk_apply (iblk m c 0 t) (iblk m c 1 t) y0 y1).trans ?_
  have ex : (fun k => iblk m c 0 t (ix2 y0 k)) = fun k => aX m c (ix2 ⟨t.val * 512 + y0.val, row_lt t y0⟩ k) := funext fun k => rd_x m c t y0 k
  have e0 := rd_x m c t y0 y1
  have e1 := rd_g m c t y1
  show nrm (fun k => iblk m c 0 t (ix2 y0 k)) (iblk m c 0 t (ix2 y0 y1)) (iblk m c 1 t (ix2 0 y1)) = _
  rw [ex, e0, e1]
  rfl

end

/-- Both programs end with the normalised array. -/
theorem value : Cert.algebraic_NormFwdIdeal_NormFwdRefIdeal := by
  intro m g m' g' _ ha
  refine ⟨fun c => G (aX m c) (aG m c),
    (θ_run Cert.NormFwdIdeal.defs _ _).mono (fun r h c => ?_) (Cert.NormFwdIdeal.Value.run_blocks m g),
    (θ_run Cert.NormFwdRefIdeal.defs _ _).mono (fun r h c => ?_) (Cert.NormFwdRefIdeal.Value.run m' g')⟩
  · exact ⟨(h c).1.trans (final2 m c), (h c).2⟩
  · obtain ⟨a0, a1⟩ := ha c
    have h' := h c
    rw [a0, a1] at h'
    rw [a0, a1]
    exact ⟨h'.1.trans ((Cert.NormFwdRefIdeal.Read.val_main_v12_eq (F := Ideal) _ _).trans (ref_eq _ _)), h'.2⟩

end Cert.NormFwdClaims
-- ==== Proof.TotalIdealRun.lean ====
/-
  The loss summed over the devices, in exact arithmetic: its run, and what it leaves on every device.
-/
module

public import proofs.«01_k».proof.Defs
public import proofs.«01_k».proof.Proof.Gen.TotalIdeal
public import proofs.«01_k».proof.Proof.Gen.TotalIdeal.Skeleton
public import proofs.«01_k».proof.Proof.Gen.TotalIdeal.Points
public import proofs.«01_k».proof.Proof.Gen.TotalIdeal.Launch
public import proofs.«01_k».proof.Proof.Gen.TotalIdeal.Regions
public import proofs.«01_k».proof.Proof.Gen.TotalIdeal.RegionsRQ
public import Idealize.ShloMosaic.Lib.StableHlo.CollectiveRules
public import Idealize.ShloMosaic.Lib.Pipeline.Regions
public import Idealize.ShloMosaic.Lib.Pipeline.RegionArrays
public import Idealize.ShloMosaic.Lib.Pipeline.CollectiveSegs
public import Idealize.ShloMosaic.Lib.Pipeline.FrameBody
public import Idealize.ShloMosaic.Lib.Pipeline.Kit
public import Idealize.ShloMosaic.Lib.Quiescent
public import Idealize.ShloMosaic.Lib.Tactic
public import Idealize.ShloMosaic.Lib.WordCmp
public import Idealize.ShloMosaic.Lib.Ring

@[expose] public section

set_option maxRecDepth 16384

noncomputable section

namespace Cert.TotalIdealRun

open Cert.TotalIdeal Cert.TotalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg)

variable {F : FTy → Type} [FloatOps F]

/-- The ghost state: the pipelines' rounds beside the cells of the sum over the devices. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

/-- The buffers of a device's TensorCore when the loss kernel starts. -/
abbrev Ve (c : Dev nD) (b : Ref sig .tc) : Buf (Elt F) ((c : Thread nD τ).loc b) := V1 m c (Proc.devRef .tc b)

/-- A window's block at a point, of its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (Ve m c (Pipeline.arrRef spec0 w))

theorem before_of0 {c : Dev nD} (dat : Dat τ (Elt F) ℕ ℕ UU ℕ cfg0 c) (hA : dat.A 0 = Ve m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) ℕ ℕ UU ℕ cfg0 c) (hA : dat.A 1 = Ve m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's condition: the first point clears the running loss. -/
abbrev first (i : grid0.Coords) : Prop := (Scalar.cmpi .ne (Scalar.extui (Scalar.cmpi .eq (BitVec.ofNat 32 (i 0).val) 0#32)) 0#32) = 1#1
theorem first_iff : ∀ t : Fin cfg0.N, first (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val % 16 = 0)

abbrev VO2 : View sig .tc .vmem S256x2048 .f32 := (Memref.whole cc0_stg2_0 : Memref sig .tc .vmem S256x2048 .f32).view
abbrev VO3 : View sig .tc .vmem S256x2048 .bf16 := (Memref.whole cc0_stg3_0 : Memref sig .tc .vmem S256x2048 .bf16).view
abbrev VO4 : View sig .tc .vmem S8x128 .f32 := (Memref.whole cc0_stg4_0 : Memref sig .tc .vmem S8x128 .f32).view
abbrev ms0 (t : Fin cfg0.N) : Memref sig .tc .vmem S256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)

/-! ## The body: at the first point, and at the later ones -/

set_option maxHeartbeats 1600000 in
noncomputable def runA (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : first i) (x0 : Vec F S256x2048 .f32) (x1 : Vec F S256x2048 .f32) :
    Σ' (L3 : List (View.Piece (Elt F) S256x2048 .f32)), Σ' (L4 : List (View.Piece (Elt F) S256x2048 .bf16)), { L5 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0_loss_head i arg1 harg1 arg2 harg2 arg3 harg3 arg4 harg4 arg5 harg5) K } := by
  refine ⟨?_, ?_, ?_, fun E K => ?run⟩
  case run =>
    simp only [cc0_loss_head_eq_skeleton]; unfold cc0_loss_head_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

set_option maxHeartbeats 1600000 in
noncomputable def runB (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : ¬first i) (x0 : Vec F S256x2048 .f32) (x1 : Vec F S256x2048 .f32) (xo4 : Vec F S8x128 .f32) :
    Σ' (L3 : List (View.Piece (Elt F) S256x2048 .f32)), Σ' (L4 : List (View.Piece (Elt F) S256x2048 .bf16)), { L5 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0_loss_head i arg1 harg1 arg2 harg2 arg3 harg3 arg4 harg4 arg5 harg5) K } := by
  refine ⟨?_, ?_, ?_, fun E K => ?run⟩
  case run =>
    simp only [cc0_loss_head_eq_skeleton]; unfold cc0_loss_head_skel
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

theorem coverA2 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : first i) (x0 : Vec F S256x2048 .f32) (x1 : Vec F S256x2048 .f32) (y : S256x2048.Idx) :
    ∃ pc ∈ (runA c i arg1 harg1 arg2 harg2 arg3 harg3 arg4 harg4 arg5 harg5 hc0 x0 x1).1, y ∈ pc.1.set :=
  View.cover_of_tiledL (runA c i arg1 harg1 arg2 harg2 arg3 harg3 arg4 harg4 arg5 harg5 hc0 x0 x1).1 S256x2048.size (by sl_kernel_rfl) y
def outA2 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : first i) (x0 : Vec F S256x2048 .f32) (x1 : Vec F S256x2048 .f32) : Vec F S256x2048 .f32 :=
  VO2.read (Elt F) (VO2.writes (Elt F) VO2.junk (runA c i arg1 harg1 arg2 harg2 arg3 harg3 arg4 harg4 arg5 harg5 hc0 x0 x1).1)

theorem coverA3 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : first i) (x0 : Vec F S256x2048 .f32) (x1 : Vec F S256x2048 .f32) (y : S256x2048.Idx) :
    ∃ pc ∈ (runA c i arg1 harg1 arg2 harg2 arg3 harg3 arg4 harg4 arg5 harg5 hc0 x0 x1).2.1, y ∈ pc.1.set :=
  View.cover_of_tiledL (runA c i arg1 harg1 arg2 harg2 arg3 harg3 arg4 harg4 arg5 harg5 hc0 x0 x1).2.1 S256x2048.size (by sl_kernel_rfl) y
def outA3 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : first i) (x0 : Vec F S256x2048 .f32) (x1 : Vec F S256x2048 .f32) : Vec F S256x2048 .bf16 :=
  VO3.read (Elt F) (VO3.writes (Elt F) VO3.junk (runA c i arg1 harg1 arg2 harg2 arg3 harg3 arg4 harg4 arg5 harg5 hc0 x0 x1).2.1)

theorem coverA4 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : first i) (x0 : Vec F S256x2048 .f32) (x1 : Vec F S256x2048 .f32) (y : S8x128.Idx) :
    ∃ pc ∈ (runA c i arg1 harg1 arg2 harg2 arg3 harg3 arg4 harg4 arg5 harg5 hc0 x0 x1).2.2.1, y ∈ pc.1.set :=
  View.cover_of_tiledL (runA c i arg1 harg1 arg2 harg2 arg3 harg3 arg4 harg4 arg5 harg5 hc0 x0 x1).2.2.1 S8x128.size (by sl_kernel_rfl) y
def outA4 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : first i) (x0 : Vec F S256x2048 .f32) (x1 : Vec F S256x2048 .f32) : Vec F S8x128 .f32 :=
  VO4.read (Elt F) (VO4.writes (Elt F) VO4.junk (runA c i arg1 harg1 arg2 harg2 arg3 harg3 arg4 harg4 arg5 harg5 hc0 x0 x1).2.2.1)

theorem coverB2 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : ¬first i) (x0 : Vec F S256x2048 .f32) (x1 : Vec F S256x2048 .f32) (xo4 : Vec F S8x128 .f32) (y : S256x2048.Idx) :
    ∃ pc ∈ (runB c i arg1 harg1 arg2 harg2 arg3 harg3 arg4 harg4 arg5 harg5 hc0 x0 x1 xo4).1, y ∈ pc.1.set :=
  View.cover_of_tiledL (runB c i arg1 harg1 arg2 harg2 arg3 harg3 arg4 harg4 arg5 harg5 hc0 x0 x1 xo4).1 S256x2048.size (by sl_kernel_rfl) y
def outB2 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : ¬first i) (x0 : Vec F S256x2048 .f32) (x1 : Vec F S256x2048 .f32) (xo4 : Vec F S8x128 .f32) : Vec F S256x2048 .f32 :=
  VO2.read (Elt F) (VO2.writes (Elt F) VO2.junk (runB c i arg1 harg1 arg2 harg2 arg3 harg3 arg4 harg4 arg5 harg5 hc0 x0 x1 xo4).1)

theorem coverB3 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : ¬first i) (x0 : Vec F S256x2048 .f32) (x1 : Vec F S256x2048 .f32) (xo4 : Vec F S8x128 .f32) (y : S256x2048.Idx) :
    ∃ pc ∈ (runB c i arg1 harg1 arg2 harg2 arg3 harg3 arg4 harg4 arg5 harg5 hc0 x0 x1 xo4).2.1, y ∈ pc.1.set :=
  View.cover_of_tiledL (runB c i arg1 harg1 arg2 harg2 arg3 harg3 arg4 harg4 arg5 harg5 hc0 x0 x1 xo4).2.1 S256x2048.size (by sl_kernel_rfl) y
def outB3 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : ¬first i) (x0 : Vec F S256x2048 .f32) (x1 : Vec F S256x2048 .f32) (xo4 : Vec F S8x128 .f32) : Vec F S256x2048 .bf16 :=
  VO3.read (Elt F) (VO3.writes (Elt F) VO3.junk (runB c i arg1 harg1 arg2 harg2 arg3 harg3 arg4 harg4 arg5 harg5 hc0 x0 x1 xo4).2.1)

theorem coverB4 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : ¬first i) (x0 : Vec F S256x2048 .f32) (x1 : Vec F S256x2048 .f32) (xo4 : Vec F S8x128 .f32) (y : S8x128.Idx) :
    ∃ pc ∈ (runB c i arg1 harg1 arg2 harg2 arg3 harg3 arg4 harg4 arg5 harg5 hc0 x0 x1 xo4).2.2.1, y ∈ pc.1.set :=
  View.cover_of_tiledL (runB c i arg1 harg1 arg2 harg2 arg3 harg3 arg4 harg4 arg5 harg5 hc0 x0 x1 xo4).2.2.1 S8x128.size (by sl_kernel_rfl) y
def outB4 (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole) (hc0 : ¬first i) (x0 : Vec F S256x2048 .f32) (x1 : Vec F S256x2048 .f32) (xo4 : Vec F S8x128 .f32) : Vec F S8x128 .f32 :=
  VO4.read (Elt F) (VO4.writes (Elt F) VO4.junk (runB c i arg1 harg1 arg2 harg2 arg3 harg3 arg4 harg4 arg5 harg5 hc0 x0 x1 xo4).2.2.1)

/-- What the three output windows hold after each point. -/
def outsAt (c : Dev nD) : (n : ℕ) → n < cfg0.N → Vec F S256x2048 .f32 × Vec F S256x2048 .bf16 × Vec F S8x128 .f32
  | 0, hn => (outA2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((first_iff ⟨0, hn⟩).mpr (Nat.zero_mod _)) (iblk m c 0 ⟨0, hn⟩) (iblk m c 1 ⟨0, hn⟩), outA3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((first_iff ⟨0, hn⟩).mpr (Nat.zero_mod _)) (iblk m c 0 ⟨0, hn⟩) (iblk m c 1 ⟨0, hn⟩), outA4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((first_iff ⟨0, hn⟩).mpr (Nat.zero_mod _)) (iblk m c 0 ⟨0, hn⟩) (iblk m c 1 ⟨0, hn⟩))
  | n + 1, hn =>
    if h0 : (n + 1) % 16 = 0 then
      (outA2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((first_iff ⟨n + 1, hn⟩).mpr h0) (iblk m c 0 ⟨n + 1, hn⟩) (iblk m c 1 ⟨n + 1, hn⟩), outA3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((first_iff ⟨n + 1, hn⟩).mpr h0) (iblk m c 0 ⟨n + 1, hn⟩) (iblk m c 1 ⟨n + 1, hn⟩), outA4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((first_iff ⟨n + 1, hn⟩).mpr h0) (iblk m c 0 ⟨n + 1, hn⟩) (iblk m c 1 ⟨n + 1, hn⟩))
    else
      (outB2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((first_iff ⟨n + 1, hn⟩).mp h)) (iblk m c 0 ⟨n + 1, hn⟩) (iblk m c 1 ⟨n + 1, hn⟩) (outsAt c n (Nat.lt_of_succ_lt hn)).2.2, outB3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((first_iff ⟨n + 1, hn⟩).mp h)) (iblk m c 0 ⟨n + 1, hn⟩) (iblk m c 1 ⟨n + 1, hn⟩) (outsAt c n (Nat.lt_of_succ_lt hn)).2.2, outB4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((first_iff ⟨n + 1, hn⟩).mp h)) (iblk m c 0 ⟨n + 1, hn⟩) (iblk m c 1 ⟨n + 1, hn⟩) (outsAt c n (Nat.lt_of_succ_lt hn)).2.2)

theorem outsAt_A (c : Dev nD) (t : Fin cfg0.N) (h0 : t.val % 16 = 0) :
    outsAt m c t.val t.isLt = (outA2 c (grid0.coords t) (ms0 t) (hs0 t) (ms1 t) (hs1 t) (ms2 t) (hs2 t) (ms3 t) (hs3 t) (ms4 t) (hs4 t) ((first_iff t).mpr h0) (iblk m c 0 t) (iblk m c 1 t), outA3 c (grid0.coords t) (ms0 t) (hs0 t) (ms1 t) (hs1 t) (ms2 t) (hs2 t) (ms3 t) (hs3 t) (ms4 t) (hs4 t) ((first_iff t).mpr h0) (iblk m c 0 t) (iblk m c 1 t), outA4 c (grid0.coords t) (ms0 t) (hs0 t) (ms1 t) (hs1 t) (ms2 t) (hs2 t) (ms3 t) (hs3 t) (ms4 t) (hs4 t) ((first_iff t).mpr h0) (iblk m c 0 t) (iblk m c 1 t)) := by
  obtain ⟨n, hn⟩ := t
  cases n with
  | zero => exact rfl
  | succ n => exact (dif_pos h0).trans rfl

theorem outsAt_B (c : Dev nD) (t : Fin cfg0.N) (h0 : ¬t.val % 16 = 0) :
    outsAt m c t.val t.isLt = (outB2 c (grid0.coords t) (ms0 t) (hs0 t) (ms1 t) (hs1 t) (ms2 t) (hs2 t) (ms3 t) (hs3 t) (ms4 t) (hs4 t) (fun h => h0 ((first_iff t).mp h)) (iblk m c 0 t) (iblk m c 1 t) (outsAt m c (t.val - 1) (Nat.lt_of_le_of_lt (Nat.sub_le _ _) t.isLt)).2.2, outB3 c (grid0.coords t) (ms0 t) (hs0 t) (ms1 t) (hs1 t) (ms2 t) (hs2 t) (ms3 t) (hs3 t) (ms4 t) (hs4 t) (fun h => h0 ((first_iff t).mp h)) (iblk m c 0 t) (iblk m c 1 t) (outsAt m c (t.val - 1) (Nat.lt_of_le_of_lt (Nat.sub_le _ _) t.isLt)).2.2, outB4 c (grid0.coords t) (ms0 t) (hs0 t) (ms1 t) (hs1 t) (ms2 t) (hs2 t) (ms3 t) (hs3 t) (ms4 t) (hs4 t) (fun h => h0 ((first_iff t).mp h)) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The pipeline's proof data; what is owed meanwhile are the duties of the sum that follows. -/
def dat (c : Dev nD) : Dat τ (Elt F) ℕ ℕ UU ℕ cfg0 c where
  A w := Ve m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
    | ⟨4, _⟩ => (outsAt m c t.val t.isLt).2.2
  Φ _ := iprop(Pipeline.scopedRest spec0 c ∗ ∃ r, prngReg c r)
  q _ := fullShare
  owed _ := Sites.O0 (F := F) c

def dats : (p : Fin 1) → (c : Dev nD) → Dat τ (Elt F) ℕ ℕ UU ℕ (cfgs p) c
  | 0 => dat m

theorem A_eq (c : Dev nD) (w : Fin cfg0.W) : (dat m c).A w = Ve m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = (outsAt m c t.val t.isLt).1 := by dsimp only [dat]
theorem after3 (c : Dev nD) (t : Fin cfg0.N) : (dat m c).after 3 t = (outsAt m c t.val t.isLt).2.1 := by dsimp only [dat]
theorem after4 (c : Dev nD) (t : Fin cfg0.N) : (dat m c).after 4 t = (outsAt m c t.val t.isLt).2.2 := by dsimp only [dat]
theorem before0 (c : Dev nD) (t : Fin cfg0.N) (d) : (dat m c).before 0 t d = iblk m c 0 t := before_of0 m (dat m c) (A_eq m c 0) (after0 m c) t d
theorem before1 (c : Dev nD) (t : Fin cfg0.N) (d) : (dat m c).before 1 t d = iblk m c 1 t := before_of1 m (dat m c) (A_eq m c 1) (after1 m c) t d
theorem before4 (c : Dev nD) (t : Fin cfg0.N) (h0 : ¬t.val % 16 = 0) (d) :
    (dat m c).before 4 t d = (outsAt m c (t.val - 1) (Nat.lt_of_le_of_lt (Nat.sub_le _ _) t.isLt)).2.2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dat]

def bodyPre (c : Dev nD) (t : Fin cfg0.N) : sProp 𝕄 :=
  iprop((dat m c).Φ t.castSucc ∗ (dat m c).owesAt Sites.ιp t.castSucc
    ∗ (∃ d, owns (c : Thread nD τ) (ms0 t) fullShare ((dat m c).before 0 t d)) ∗ (∃ d, owns (c : Thread nD τ) (ms1 t) fullShare ((dat m c).before 1 t d)) ∗ (∃ d, owns (c : Thread nD τ) (ms2 t) fullShare ((dat m c).before 2 t d)) ∗ (∃ d, owns (c : Thread nD τ) (ms3 t) fullShare ((dat m c).before 3 t d)) ∗ (∃ d, owns (c : Thread nD τ) (ms4 t) fullShare ((dat m c).before 4 t d)))
def bodyPost (c : Dev nD) (t : Fin cfg0.N) : sProp 𝕄 :=
  iprop((dat m c).Φ t.succ ∗ (dat m c).owesAt Sites.ιp t.succ
    ∗ owns (c : Thread nD τ) (ms0 t) fullShare ((dat m c).after 0 t) ∗ owns (c : Thread nD τ) (ms1 t) fullShare ((dat m c).after 1 t) ∗ owns (c : Thread nD τ) (ms2 t) fullShare ((dat m c).after 2 t) ∗ owns (c : Thread nD τ) (ms3 t) fullShare ((dat m c).after 3 t) ∗ owns (c : Thread nD τ) (ms4 t) fullShare ((dat m c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dat m c).Φ t.succ = (dat m c).Φ t.castSucc from rfl,
    show (dat m c).owesAt Sites.ιp t.succ = (dat m c).owesAt Sites.ιp t.castSucc from rfl,
    after0, after1, after2, after3, after4]
  have hN : t.val < 16 := lt_of_lt_of_eq t.isLt (show cfg0.N = 16 from N_0)
  by_cases h0 : t.val % 16 = 0
  · rw [outsAt_A m c t h0]
    unfold outA2 outA3 outA4; (try dsimp only)
    iintro ⟨HΦ, Ho, ⟨%d0, H0⟩, ⟨%d1, H1⟩, ⟨%d2, H2⟩, ⟨%d3, H3⟩, ⟨%d4, H4⟩⟩
    iapply ((runA c (grid0.coords t) _ _ _ _ _ _ _ _ _ _ ((first_iff t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA2 c _ _ _ _ _ _ _ _ _ _ _ _ _ _)
    isplitl [H3]
    · unfold owns; iexists _; isplitr
      swap; · iexact H3
      ipureintro; exact View.read_writes_of_cover _ _ _ _ _ (coverA3 c _ _ _ _ _ _ _ _ _ _ _ _ _ _)
    unfold owns; iexists _; isplitr
    swap; · iexact H4
    ipureintro; exact View.read_writes_of_cover _ _ _ _ _ (coverA4 c _ _ _ _ _ _ _ _ _ _ _ _ _ _)
  · rw [outsAt_B m c t h0]
    simp only [before4 m c t h0]
    unfold outB2 outB3 outB4; (try dsimp only)
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (fun h => h0 ((first_iff t).mp h)) (iblk m c 0 t) (iblk m c 1 t) _).2.2.2 Set.univ _)
    isplitl [H0]; · iexact H0
    isplitl [H1]; · iexact H1
    isplitl [H2]; · iexists _; iexact H2
    isplitl [H3]; · iexists _; iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB2 c _ _ _ _ _ _ _ _ _ _ _ _ _ _ _)
    isplitl [H3]
    · unfold owns; iexists _; isplitr
      swap; · iexact H3
      ipureintro; exact View.read_writes_of_cover _ _ _ _ _ (coverB3 c _ _ _ _ _ _ _ _ _ _ _ _ _ _ _)
    unfold owns; iexists _; isplitr
    swap; · iexact H4
    ipureintro; exact View.read_writes_of_cover _ _ _ _ _ (coverB4 c _ _ _ _ _ _ _ _ _ _ _ _ _ _ _)

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dat (F := F) m c) (defs₀ (F := F)) Variants.none Sites.ιp Set.univ := fun t => by
  rw [bigSep_W0, bigSep_W0, defs_row]
  exact triple_restated (sound_body m c t) rfl .rfl fun _ => .rfl

/-! ## What each device holds after the kernel, and after the sum -/

/-- The buffers after the kernel. -/
def VK (c : Dev nD) : Valuation τ sig (Elt F) :=
  Function.update (Function.update (Function.update (V1 m c) (Proc.devRef .tc main_v3_0) ((dat m c).arrAt 2 cfg0.N))
    (Proc.devRef .tc main_v3_1) ((dat m c).arrAt 3 cfg0.N)) (Proc.devRef .tc main_v3_2) ((dat m c).arrAt 4 cfg0.N)
def outsK : Outs (F := F) := fun _ b c => VK m c b
/-- The buffers as the sum finds them. -/
abbrev VS (c : Dev nD) : Valuation τ sig (Elt F) := V3 m (outsK m) c
def outs : Outs (F := F) := fun J b c => if J = 4 then (ar0 (F := F)).after₀ (VS m) c b else VK m c b

theorem V3_eq (c : Dev nD) : V3 m (outs m) c = VS m c := rfl
theorem VK_0 (c : Dev nD) : VK m c (Proc.devRef .tc main_v3_0) = (dat m c).arrAt 2 cfg0.N := by
  unfold VK
  rw [Function.update_of_ne (StableHlo.devRef_ne_of_ne (by decide : main_v3_0 ≠ main_v3_2)), Function.update_of_ne (StableHlo.devRef_ne_of_ne (by decide : main_v3_0 ≠ main_v3_1)), Function.update_self]
theorem VK_1 (c : Dev nD) : VK m c (Proc.devRef .tc main_v3_1) = (dat m c).arrAt 3 cfg0.N := by
  unfold VK
  rw [Function.update_of_ne (StableHlo.devRef_ne_of_ne (by decide : main_v3_1 ≠ main_v3_2)), Function.update_self]
theorem VK_2 (c : Dev nD) : VK m c (Proc.devRef .tc main_v3_2) = (dat m c).arrAt 4 cfg0.N := by
  unfold VK; rw [Function.update_self]
theorem V2_0 (c : Dev nD) : V2 m (outs m) c (Proc.devRef .tc main_v3_0) = (dat m c).arrAt 2 cfg0.N := by
  refine Eq.trans ?_ (VK_0 m c)
  simp only [V2, Function.update_of_ne (StableHlo.devRef_ne_of_ne (by decide : main_v3_0 ≠ main_v3_2)), Function.update_of_ne (StableHlo.devRef_ne_of_ne (by decide : main_v3_0 ≠ main_v3_1)), Function.update_self]
  rfl
theorem V2_1 (c : Dev nD) : V2 m (outs m) c (Proc.devRef .tc main_v3_1) = (dat m c).arrAt 3 cfg0.N := by
  refine Eq.trans ?_ (VK_1 m c)
  simp only [V2, Function.update_of_ne (StableHlo.devRef_ne_of_ne (by decide : main_v3_1 ≠ main_v3_2)), Function.update_self]
  rfl
theorem V2_2 (c : Dev nD) : V2 m (outs m) c (Proc.devRef .tc main_v3_2) = (dat m c).arrAt 4 cfg0.N := by
  refine Eq.trans ?_ (VK_2 m c)
  simp only [V2, Function.update_self]
  rfl

theorem arr_mem (w : Fin cfg0.W) : Proc.devRef (τ := τ) .tc (Pipeline.arrRef spec0 w) ∈ Pipeline.arrRefs (τ := τ) spec0 :=
  Finset.mem_map_of_mem _ (Finset.mem_image_of_mem _ (Finset.mem_univ w))
theorem arr_sub : Pipeline.arrRefs (τ := τ) spec0 ⊆ Pipeline.ucRefs τ sig := Pipeline.arrRefs_sub_ucRefs spec0 (by decide)
theorem rest_eq (c : Dev nD) : ∀ b ∈ Pipeline.ucRefs τ sig \ Pipeline.arrRefs (τ := τ) spec0, V2 m (outs m) c b = V1 m c b := fun b hb => by
  have hn := (Finset.mem_sdiff.mp hb).2
  have h0 : b ≠ Proc.devRef .tc main_v3_0 := by rintro rfl; exact hn (arr_mem 2)
  have h1 : b ≠ Proc.devRef .tc main_v3_1 := by rintro rfl; exact hn (arr_mem 3)
  have h2 : b ≠ Proc.devRef .tc main_v3_2 := by rintro rfl; exact hn (arr_mem 4)
  simp only [V2, Function.update_of_ne h0, Function.update_of_ne h1, Function.update_of_ne h2]

/-! ## The sum over the devices -/

/-- The invariants of the sum's cells, which every device may keep a copy of. -/
def keep (c : Dev nD) : sProp 𝕄 :=
  iprop(∃ κ, (AllReduce.Dat.once (Ix := ℕ) (Name := ℕ) (U := UU) (Lvl := ℕ) (ar0 (F := F)) (VS m)).cellInvs (Sites.E0 (F := F) EC) κ)

/-- What a device carries up to the sum. -/
def before (c : Dev nD) : sProp 𝕄 := iprop(Sites.Es (F := F) EC (VS m) 0 c ∗ keep m c)
/-- What it carries past it. -/
def past (c : Dev nD) : sProp 𝕄 :=
  iprop(Sites.Es (F := F) EC (VS m) 1 c ∗ (Sites.Ghost0 (F := F) EC c ∗ keep m c))
/-- The part of it the end reads the counters from. -/
def final (c : Dev nD) : sProp 𝕄 := iprop(keep m c ∗ Sites.Ghost0 (F := F) EC c)

theorem before_of (c : Dev nD) : Sites.Es (F := F) EC (VS m) 0 c ⊢ before m c := by
  unfold before keep
  rw [Sites.Es_0]
  unfold Sites.rides0 AllReduce.Dat.rides
  iintro ⟨HO, Hp, ⟨%κ, #Hi⟩, Hr⟩
  isplitl [HO Hp Hr]
  · isplitl [HO]; · iexact HO
    isplitl [Hp]; · iexact Hp
    isplitr; · iexists κ; iexact Hi
    iexact Hr
  iexists κ; iexact Hi

theorem launch_before :
    iprop((bigSep Finset.univ fun c : Dev nD => iprop(unscopedSems0 c ∗ owes (c : Thread nD τ) (Sites.O0 (F := F) c) ∅ ∗ Pipeline.launchCred (Sites.O0 (F := F)) c ∗ prngReg c (ρ c) ∗ Sites.G (F := F) EC (VS m) c)) ∗ levAts Sites.L Sites.lv)
      ⊢ (|={Set.univ}=> bigSep Finset.univ (before m) : sProp 𝕄) := by
  iintro H
  imod (Sites.hE0 (F := F) (U := UU) EC (VS m) ρ) $$ H with H
  imodintro
  iapply (show bigSep Finset.univ (Sites.Es (F := F) EC (VS m) 0) ⊢ bigSep Finset.univ (before m) from bigSep_mono fun c _ => before_of m c)
  iexact H

theorem past_final (c : Dev nD) : past m c ⊢ iprop(final m c ∗ ∃ W, owes (c : Thread nD τ) (0 : CellTallies nD τ sig ℕ) W) := by
  unfold past final
  iintro ⟨HE, Hg, Hk⟩
  isplitl [Hg Hk]
  · isplitl [Hk]; · iexact Hk
    iexact Hg
  iapply (Sites.hE_last (F := F) (U := UU) EC (VS m) c)
  iexact HE

theorem final_counters (c : Dev nD) (s' : Phys nD τ sig (Elt F)) :
    iprop(final m c ∗ SI s') ⊢ (|={Set.univ}=> iprop(⌜∀ sm : SemLoc sig, sm.isScoped .tc = false → s'.mem.sem ((c.tc : Thread nD τ), sm) = 0⌝ ∗ SI s') : sProp 𝕄) := by
  unfold final keep
  iintro H
  imod ((AllReduce.Dat.once (Ix := ℕ) (Name := ℕ) (U := UU) (Lvl := ℕ) (ar0 (F := F)) (VS m)).ghostAfter_read (Sites.E0 (F := F) EC) c (k := 0) le_rfl s') $$ H with ⟨%hz, HSI⟩
  imodintro
  isplitr
  · ipureintro
    intro sm hsm
    have hl : ∀ sm : SemLoc sig, sm.isScoped .tc = false → sm = .reg ar0_barrier ∨ sm = .dma ar0_recv ∨ sm = .dma ar0_send := by decide
    rcases hl sm hsm with rfl | rfl | rfl
    exacts [hz.1, hz.2.1, hz.2.2]
  iexact HSI

theorem fold_mem (b : DevRef τ sig) (h : b ∈ (ar0 (F := F)).foldBufs) : b ∈ W4.map (Proc.devRef (τ := τ) .tc) := by
  rcases Finset.mem_insert.mp h with rfl | h
  · exact List.mem_map.mpr ⟨_, (by decide : main_v6 ∈ W4), rfl⟩
  · obtain ⟨j, -, rfl⟩ := Finset.mem_map.mp h
    have hj : ∀ j : Fin 8, (ar0 (F := F)).stage j ∈ W4 := by
      intro j
      fin_cases j
      exacts [(by decide : main_v6_s0 ∈ W4), (by decide : main_v6_s1 ∈ W4), (by decide : main_v6_s2 ∈ W4), (by decide : main_v6_s3 ∈ W4),
        (by decide : main_v6_s4 ∈ W4), (by decide : main_v6_s5 ∈ W4), (by decide : main_v6_s6 ∈ W4), (by decide : main_v6_s7 ∈ W4)]
    exact List.mem_map.mpr ⟨_, hj j, rfl⟩

theorem after_sum (c : Dev nD) (b : DevRef τ sig) : V4 m (outs m) c b = (ar0 (F := F)).after₀ (VS m) c b := by
  show (if b ∈ W4.map (Proc.devRef (τ := τ) .tc) then (ar0 (F := F)).after₀ (VS m) c b else VS m c b) = _
  split
  · rfl
  · next h => exact ((ar0 (F := F)).after₀_of_notMem (VS m) c fun hb => h (fold_mem b hb)).symm

/-- The launch element. -/
def u₀ : UU := (initOf (Pipeline.cells cfgs cellOf_inj) (Pipeline.launchToks cfgs cellOf_inj), Sites.uC (F := F) (U := UU) (VS m))

theorem launch_own : (ownU (u₀ m) : sProp 𝕄) ⊢ |={Set.univ}=> iprop(BI.own ((EP (F := F)) (initOf (Pipeline.cells cfgs cellOf_inj) (Pipeline.launchToks cfgs cellOf_inj))) ∗ bigSep Finset.univ (Sites.G (F := F) EC (VS m))) := by
  unfold u₀
  iintro Hu
  ihave H := (ownU_pair _ _) $$ Hu
  icases H with ⟨HP, HX⟩
  imodintro
  isplitl [HP]; · iexact HP
  rw [Sites.bigSep_G]; iexact HX

/-! ## The kernel as a region of the program -/

theorem cut : Pipeline.LevelCut pcfgs (adm (F := F)) Sites.ιp Sites.L Sites.lv (0 : Fin 1) (Sites.O0 (F := F)) (fun _ => (0 : ℕ)) where
  hι := fun c w b => Sites.mem_L _ _ (by decide)
  hιb := fun c w b => le_refl _
  hD := fun c g i hg => ⟨(Sites.O0_pos hg).1, lt_of_lt_of_le (by decide) (Sites.O0_pos hg).2⟩

/-- What rides past the kernel: the other buffers, the sum's launch state and its invariants. -/
def aside (c : Dev nD) : sProp 𝕄 :=
  iprop(StableHlo.held (c : Thread nD τ) (Pipeline.ucRefs τ sig \ Pipeline.arrRefs (τ := τ) spec0) (V1 m c) ∗ (Sites.rides0 (F := F) EC (VS m) c ∗ keep m c))

def region : RegionSeg (pcfgs (F := F)) adm (dats m) Sites.ιp defs₀ Variants.none Sites.L Sites.lv 0 :=
  Pipeline.RegionSeg.ofHeld (pcfgs (F := F)) adm (dats m) Sites.ιp defs₀ Variants.none Sites.L Sites.lv 0 (Sites.O0 (F := F))
    (fun c => iprop(∃ r, prngReg c r)) (fun c => iprop(∃ r, prngReg c r)) launch0.toP rfl
    (fun c => (body_obligation m c).loose) (fun _ _ => rfl) (fun _ => rfl) (fun c => (dat m c).share_full fun _ => rfl)
    (fun _ => .rfl) (fun _ => .rfl) (fun _ => 0) cut (aside m) (V1 m) (V2 m (outs m)) (fun _ _ => rfl)
    (fun c => fun
      | 0 => ((dat m c).arrAt_in 0 rfl _).trans ((A_eq m c 0).trans (V2_of m (outs m) c (Pipeline.arrRef spec0 0) (by decide)).symm)
      | 1 => ((dat m c).arrAt_in 1 rfl _).trans ((A_eq m c 1).trans (V2_of m (outs m) c (Pipeline.arrRef spec0 1) (by decide)).symm)
      | 2 => (V2_0 m c).symm
      | 3 => (V2_1 m c).symm
      | 4 => (V2_2 m c).symm)

theorem region_pre (c : Dev nD) : iprop(StableHlo.held (c : Thread nD τ) (Pipeline.ucRefs τ sig) (V1 m c) ∗ before m c) ⊢ (region m).pre c := by
  show _ ⊢ iprop(StableHlo.held (c : Thread nD τ) (Pipeline.arrRefs (τ := τ) spec0) (V1 m c) ∗ (∃ r, prngReg c r) ∗ aside m c ∗ ∃ W, owes (c : Thread nD τ) (Sites.O0 (F := F) c) W)
  unfold before aside
  rw [Sites.Es_0, StableHlo.held_sub_split (c : Thread nD τ) arr_sub (V1 m c)]
  iintro ⟨⟨Ha, Hr⟩, ⟨HO, Hp, Hs⟩, Hk⟩
  isplitl [Ha]; · iexact Ha
  isplitl [Hp]; · iexact Hp
  isplitr [HO]; swap; · iexact HO
  isplitl [Hr]; · iexact Hr
  isplitl [Hs]; · iexact Hs
  iexact Hk

theorem region_post (c : Dev nD) : (region m).post c ⊢ iprop(StableHlo.held (c : Thread nD τ) (Pipeline.ucRefs τ sig) (V2 m (outs m) c) ∗ before m c) := by
  show iprop(StableHlo.held (c : Thread nD τ) (Pipeline.arrRefs (τ := τ) spec0) (V2 m (outs m) c) ∗ (∃ r, prngReg c r) ∗ aside m c ∗ ∃ W, owes (c : Thread nD τ) (Sites.O0 (F := F) c) W) ⊢ _
  unfold before aside
  rw [Sites.Es_0, StableHlo.held_sub_split (c : Thread nD τ) arr_sub (V2 m (outs m) c),
    StableHlo.held_congr (c : Thread nD τ) (S := Pipeline.ucRefs τ sig \ Pipeline.arrRefs (τ := τ) spec0) (rest_eq m c)]
  iintro ⟨Ha, Hp, ⟨Hr, Hs, Hk⟩, HO⟩
  isplitl [Ha Hr]
  · isplitl [Ha]; · iexact Ha
    iexact Hr
  isplitr [Hk]; swap; · iexact Hk
  isplitl [HO]; · iexact HO
  isplitl [Hp]; · iexact Hp
  iexact Hs

/-- The sum as a stretch of the program. -/
def sum0 : HostSeg (Ix := ℕ) (Name := ℕ) (U := UU) (Lvl := ℕ) (pcfgs (F := F)) defs₀ Variants.none Sites.L Sites.lv :=
  Sites.seg0 EC Variants.none (VS m) (Sites.Rest0 (VS m) (keep m))

set_option backward.isDefEq.respectTransparency.types false in
/-- Every run ends with the arguments as launched, every buffer at its contents after the sum, and every counter zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1))
      ∧ (∀ c : Dev nD, ∀ b ∈ (Pipeline.ucRefs τ sig), r.2.mem ((c : Thread nD τ).1, b) = V4 m (outs m) c b)
      ∧ r.2.sem = fun _ => 0) :=
  frame_condRQ m (U := UU) EP Sites.ιp Variants.none Sites.L Sites.lv Sites.hL ρ (outs m) (dats m)
    (Sites.O0 (F := F)) (Sites.G (F := F) EC (VS m)) (u₀ m) (launch_own m)
    (fun j => match j with | 0 => before m | 1 => before m | 2 => past m)
    (launch_before m ρ) (final m) (past_final m) (final_counters m)
    (region m) (region_pre m) (region_post m)
    (sum0 m) rfl
    (fun c => Sites.pre0 EC Variants.none (VS m) (keep m) c)
    (fun c => Sites.post0' EC Variants.none (VS m) (keep m) c (V4 m (outs m) c) fun b _ => after_sum m c b)

end Cert.TotalIdealRun

end
-- ==== Proof.TotalRefRun.lean ====
/-
  The reference of the loss summed over the devices: its run, and what it leaves on every device.
-/
module

public import proofs.«01_k».proof.Defs
public import proofs.«01_k».proof.Proof.Gen.TotalRefIdeal
public import proofs.«01_k».proof.Proof.Gen.TotalRefIdeal.Launch
public import proofs.«01_k».proof.Proof.Gen.TotalRefIdeal.Regions
public import proofs.«01_k».proof.Proof.Gen.TotalRefIdeal.RegionsRQ
public import Idealize.ShloMosaic.Lib.StableHlo.CollectiveRules
public import Idealize.ShloMosaic.Lib.Pipeline.Regions
public import Idealize.ShloMosaic.Lib.Pipeline.RegionArrays
public import Idealize.ShloMosaic.Lib.Pipeline.CollectiveSegs
public import Idealize.ShloMosaic.Lib.Pipeline.FrameBody
public import Idealize.ShloMosaic.Lib.Pipeline.Kit
public import Idealize.ShloMosaic.Lib.Quiescent
public import Idealize.ShloMosaic.Lib.Tactic
public import Idealize.ShloMosaic.Lib.WordCmp

@[expose] public section

set_option maxRecDepth 16384

noncomputable section

namespace Cert.TotalRefRun

open Cert.TotalRefIdeal Cert.TotalRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg)

variable {F : FTy → Type} [FloatOps F]

/-- The ghost state: the pipelines' rounds beside the cells of the sum over the devices. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

/-- What the sum leaves on each device. -/
def outs : Outs (F := F) := fun _ b c => (ar0 (F := F)).after₀ (V1 m) c b

/-! ## The sum over the devices -/

/-- The invariants of the sum's cells, which every device may keep a copy of. -/
def keep (c : Dev nD) : sProp 𝕄 :=
  iprop(∃ κ, (AllReduce.Dat.once (Ix := ℕ) (Name := ℕ) (U := UU) (Lvl := ℕ) (ar0 (F := F)) (V1 m)).cellInvs (Sites.E0 (F := F) EC) κ)

/-- What a device carries up to the sum. -/
def before (c : Dev nD) : sProp 𝕄 := iprop(Sites.Es (F := F) EC (V1 m) 0 c ∗ keep m c)
/-- What it carries past it. -/
def past (c : Dev nD) : sProp 𝕄 :=
  iprop(Sites.Es (F := F) EC (V1 m) 1 c ∗ (Sites.Ghost0 (F := F) EC c ∗ keep m c))
/-- The part of it the end reads the counters from. -/
def final (c : Dev nD) : sProp 𝕄 := iprop(keep m c ∗ Sites.Ghost0 (F := F) EC c)

theorem before_of (c : Dev nD) : Sites.Es (F := F) EC (V1 m) 0 c ⊢ before m c := by
  unfold before keep
  rw [Sites.Es_0]
  unfold Sites.rides0 AllReduce.Dat.rides
  iintro ⟨HO, Hp, ⟨%κ, #Hi⟩, Hr⟩
  isplitl [HO Hp Hr]
  · isplitl [HO]; · iexact HO
    isplitl [Hp]; · iexact Hp
    isplitr; · iexists κ; iexact Hi
    iexact Hr
  iexists κ; iexact Hi

theorem launch_before :
    iprop((bigSep Finset.univ fun c : Dev nD => iprop(unscopedSems0 c ∗ owes (c : Thread nD τ) (Sites.O0 (F := F) c) ∅ ∗ Pipeline.launchCred (Sites.O0 (F := F)) c ∗ prngReg c (ρ c) ∗ Sites.G (F := F) EC (V1 m) c)) ∗ levAts Sites.L Sites.lv)
      ⊢ (|={Set.univ}=> bigSep Finset.univ (before m) : sProp 𝕄) := by
  iintro H
  imod (Sites.hE0 (F := F) (U := UU) EC (V1 m) ρ) $$ H with H
  imodintro
  iapply (show bigSep Finset.univ (Sites.Es (F := F) EC (V1 m) 0) ⊢ bigSep Finset.univ (before m) from bigSep_mono fun c _ => before_of m c)
  iexact H

theorem past_final (c : Dev nD) : past m c ⊢ iprop(final m c ∗ ∃ W, owes (c : Thread nD τ) (0 : CellTallies nD τ sig ℕ) W) := by
  unfold past final
  iintro ⟨HE, Hg, Hk⟩
  isplitl [Hg Hk]
  · isplitl [Hk]; · iexact Hk
    iexact Hg
  iapply (Sites.hE_last (F := F) (U := UU) EC (V1 m) c)
  iexact HE

theorem final_counters (c : Dev nD) (s' : Phys nD τ sig (Elt F)) :
    iprop(final m c ∗ SI s') ⊢ (|={Set.univ}=> iprop(⌜∀ sm : SemLoc sig, sm.isScoped .tc = false → s'.mem.sem ((c.tc : Thread nD τ), sm) = 0⌝ ∗ SI s') : sProp 𝕄) := by
  unfold final keep
  iintro H
  imod ((AllReduce.Dat.once (Ix := ℕ) (Name := ℕ) (U := UU) (Lvl := ℕ) (ar0 (F := F)) (V1 m)).ghostAfter_read (Sites.E0 (F := F) EC) c (k := 0) le_rfl s') $$ H with ⟨%hz, HSI⟩
  imodintro
  isplitr
  · ipureintro
    intro sm hsm
    have hl : ∀ sm : SemLoc sig, sm.isScoped .tc = false → sm = .reg ar0_barrier ∨ sm = .dma ar0_recv ∨ sm = .dma ar0_send := by decide
    rcases hl sm hsm with rfl | rfl | rfl
    exacts [hz.1, hz.2.1, hz.2.2]
  iexact HSI

theorem fold_mem (b : DevRef τ sig) (h : b ∈ (ar0 (F := F)).foldBufs) : b ∈ W2.map (Proc.devRef (τ := τ) .tc) := by
  rcases Finset.mem_insert.mp h with rfl | h
  · exact List.mem_map.mpr ⟨_, (by decide : main_v9 ∈ W2), rfl⟩
  · obtain ⟨j, -, rfl⟩ := Finset.mem_map.mp h
    have hj : ∀ j : Fin 8, (ar0 (F := F)).stage j ∈ W2 := by
      intro j
      fin_cases j
      exacts [(by decide : main_v9_s0 ∈ W2), (by decide : main_v9_s1 ∈ W2), (by decide : main_v9_s2 ∈ W2), (by decide : main_v9_s3 ∈ W2),
        (by decide : main_v9_s4 ∈ W2), (by decide : main_v9_s5 ∈ W2), (by decide : main_v9_s6 ∈ W2), (by decide : main_v9_s7 ∈ W2)]
    exact List.mem_map.mpr ⟨_, hj j, rfl⟩

theorem after_sum (c : Dev nD) (b : DevRef τ sig) : V2 m (outs m) c b = (ar0 (F := F)).after₀ (V1 m) c b := by
  show (if b ∈ W2.map (Proc.devRef (τ := τ) .tc) then (ar0 (F := F)).after₀ (V1 m) c b else V1 m c b) = _
  split
  · rfl
  · next h => exact ((ar0 (F := F)).after₀_of_notMem (V1 m) c fun hb => h (fold_mem b hb)).symm

/-- The launch element. -/
def u₀ : UU := (initOf (Pipeline.cells cfgs cellOf_inj) (Pipeline.launchToks cfgs cellOf_inj), Sites.uC (F := F) (U := UU) (V1 m))

theorem launch_own : (ownU (u₀ m) : sProp 𝕄) ⊢ |={Set.univ}=> iprop(BI.own ((EP (F := F)) (initOf (Pipeline.cells cfgs cellOf_inj) (Pipeline.launchToks cfgs cellOf_inj))) ∗ bigSep Finset.univ (Sites.G (F := F) EC (V1 m))) := by
  unfold u₀
  iintro Hu
  ihave H := (ownU_pair _ _) $$ Hu
  icases H with ⟨HP, HX⟩
  imodintro
  isplitl [HP]; · iexact HP
  rw [Sites.bigSep_G]; iexact HX

def dats : (p : Fin 0) → (c : Dev nD) → Dat τ (Elt F) ℕ ℕ UU ℕ (cfgs p) c := fun p => p.elim0

/-- The sum as a stretch of the program. -/
def sum0 : HostSeg (Ix := ℕ) (Name := ℕ) (U := UU) (Lvl := ℕ) (pcfgs (F := F)) defs₀ Variants.none Sites.L Sites.lv :=
  Sites.seg0 EC Variants.none (V1 m) (Sites.Rest0 (V1 m) (keep m))

set_option backward.isDefEq.respectTransparency.types false in
/-- Every run ends with the arguments as launched, every buffer at its contents after the sum, and every counter zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1))
      ∧ (∀ c : Dev nD, ∀ b ∈ (Pipeline.ucRefs τ sig), r.2.mem ((c : Thread nD τ).1, b) = V2 m (outs m) c b)
      ∧ r.2.sem = fun _ => 0) :=
  frame_condRQ m (U := UU) EP Sites.ιp Variants.none Sites.L Sites.lv Sites.hL ρ (outs m) dats
    (Sites.O0 (F := F)) (Sites.G (F := F) EC (V1 m)) (u₀ m) (launch_own m)
    (fun j => match j with | 0 => before m | 1 => past m)
    (launch_before m ρ) (final m) (past_final m) (final_counters m)
    (sum0 m) rfl
    (fun c => Sites.pre0 EC Variants.none (V1 m) (keep m) c)
    (fun c => Sites.post0' EC Variants.none (V1 m) (keep m) c (V2 m (outs m) c) fun b _ => after_sum m c b)

end Cert.TotalRefRun

end
-- ==== Proof.TotalClaims.lean ====
/-
  The claims about the loss summed over the devices: the frames of the three programs and the value claim.
-/
module

public import proofs.«01_k».proof.Defs
public import proofs.«01_k».proof.Proof.TotalRun
public import proofs.«01_k».proof.Proof.TotalIdealRun
public import proofs.«01_k».proof.Proof.TotalRefRun
public import Idealize.ShloMosaic.Lib.Quiescent
public import Idealize.ShloMosaic.Lib.Pointwise
public import Idealize.ShloMosaic.Lib.Claim
public import Idealize.ShloMosaic.Lib.Pipeline.ValueKit
public import proofs.«01_k».proof.Proof.RealMath

@[expose] public section

set_option maxRecDepth 16384

noncomputable section

open Idealize.ShloMosaic Idealize.ShloMosaic.TcCoe Idealize.SL.Sem

namespace Cert.TotalClaims

theorem frame_p : Cert.quiescent_Total := fun m ρ _ =>
  (θ_run Cert.Total.defs _ _).mono (fun _ h => ⟨h.1, h.2.2⟩) (Cert.TotalRun.run m ρ)
theorem frame_i : Cert.quiescent_TotalIdeal := fun m ρ _ =>
  (θ_run Cert.TotalIdeal.defs _ _).mono (fun _ h => ⟨h.1, h.2.2⟩) (Cert.TotalIdealRun.run m ρ)
theorem frame_r : Cert.quiescent_TotalRefIdeal := fun m ρ _ =>
  (θ_run Cert.TotalRefIdeal.defs _ _).mono (fun _ h => ⟨h.1, h.2.2⟩) (Cert.TotalRefRun.run m ρ)
theorem preserves : Cert.preserves_Total_TotalIdeal := trivial

/-- One device's block of the outputs, or of the targets. -/
abbrev T := (⟨Cert.TotalRefIdeal.S1x4096x2048, .f32⟩ : BufTy).Contents (Elt Ideal)
/-- A single number. -/
abbrev One := (⟨Cert.TotalRefIdeal.S_, .f32⟩ : BufTy).Contents (Elt Ideal)

/-- The square of the difference. -/
def sqd (a b : EReal) : EReal := (a - b) * (a - b)
/-- The square of the difference, at a token and a feature. -/
def sq (y t : T) (n : Fin 4096) (k : Fin 2048) : EReal := sqd (y (ix3 0 n k)) (t (ix3 0 n k))
/-- One device's loss: half the sum over the tokens of the mean square. -/
def total (y t : T) : EReal := ∑ n : Fin 4096, (∑ k : Fin 2048, sq y t n k) * Ideal.ofBits .f32 0x39800000#32

section
open Cert.TotalRefIdeal Cert.TotalRefIdeal.Gen

/-- One device's loss as the reference writes it. -/
def refTotal (y t : FVec Ideal S1x4096x2048 .f32) : FVec Ideal S_ .f32 :=
  Host.reduceAdd (F := Ideal) (mulf (F := Ideal) (broadcastInDim S1x4096 ![] bcast_S_S1x4096 (constant (F := Ideal) S_ .f32 0x3F000000#32))
    (Host.divf (F := Ideal) (Host.reduceAdd (F := Ideal) (mulf (F := Ideal) (subf (F := Ideal) y t) (subf (F := Ideal) y t)) (constant (F := Ideal) S_ .f32 0x00000000#32) reducesTo_S1x4096x2048_S1x4096_d2 h_S_)
      (broadcastInDim S1x4096 ![] bcast_S_S1x4096 (constant (F := Ideal) S_ .f32 0x45000000#32))))
    (constant (F := Ideal) S_ .f32 0x00000000#32) reducesTo_S1x4096_S_d0_1 h_S_

theorem refTotal_eq (y t : T) : refTotal y t = fun _ => total y t := by
  funext i
  have e : refTotal y t i = ∑ n : Fin 4096, Ideal.ofBits .f32 0x3F000000#32 * Ideal.div (∑ k : Fin 2048, sq y t n k) (Ideal.ofBits .f32 0x45000000#32) := by
    pointwise [refTotal, sq, sqd]
    exact Fintype.sum_unique _
  refine e.trans ?_
  unfold total
  rw [Cert.RealMath.c2048, Cert.RealMath.chalf, Cert.RealMath.c4096]
  refine Finset.sum_congr rfl fun n _ => ?_
  rw [Cert.RealMath.div_coe _ _ (by norm_num), mul_comm, mul_assoc, ← EReal.coe_mul]
  norm_num

theorem ref_line (W : Valuation τ sig (Elt Ideal)) :
    StableHlo.after (hostOps0 (F := Ideal)) W (Proc.devRef .tc main_v8) = refTotal (W (Proc.devRef .tc main_arg0)) (W (Proc.devRef .tc main_arg1)) := by
  after_results
  first | done | rfl

theorem ref_operand (m : (ℓ : Loc nD τ sig) → Buf (Elt Ideal) ℓ) (c : Dev nD) :
    V1 m c (Proc.devRef .tc main_v8) = fun _ => total (m ((c : Thread nD τ).loc main_arg0)) (m ((c : Thread nD τ).loc main_arg1)) :=
  (ref_line (V0 m c)).trans (refTotal_eq _ _)

end

section
open Cert.TotalIdeal Cert.TotalIdeal.Gen Cert.TotalIdealRun

theorem pay1_apply (j : S8x128.Idx) : k0_pay1 (F := Ideal) j = 0 := by pointwise [k0_pay1]
theorem pay5_apply (y t : Vec Ideal S256x2048 .f32) (a : Vec Ideal S8x128 .f32) (j : S8x128.Idx) :
    k0_pay5 y t a j = a j + (∑ k : Fin 2048, ∑ r : Fin 256, sqd (y (ix2 r k)) (t (ix2 r k)))
      * Ideal.ofBits .f32 0x39800000#32 := by
  idx_vars j
  pointwise [k0_pay5, k0_pay2, sqd]

variable (m : (ℓ : Loc nD τ sig) → Buf (Elt Ideal) ℓ) (c : Dev nD)

abbrev aY := m ((c : Thread nD τ).loc main_arg0)
abbrev aT := m ((c : Thread nD τ).loc main_arg1)

theorem line_y (W : Valuation τ sig (Elt Ideal)) :
    StableHlo.after (hostOps0 (F := Ideal)) W (Proc.devRef .tc main_v1) = shapeCast S4096x2048 (W (Proc.devRef .tc main_arg0)) shapeCasts_S1x4096x2048_S4096x2048 := by
  after_results
  first | done | rfl
theorem line_t (W : Valuation τ sig (Elt Ideal)) :
    StableHlo.after (hostOps0 (F := Ideal)) W (Proc.devRef .tc main_v2) = shapeCast S4096x2048 (W (Proc.devRef .tc main_arg1)) shapeCasts_S1x4096x2048_S4096x2048 := by
  after_results
  first | done | rfl
theorem line_loss (W : Valuation τ sig (Elt Ideal)) (a : EReal) (h : W (Proc.devRef .tc main_v3_2) = fun _ => a) :
    StableHlo.after (hostOps1 (F := Ideal)) W (Proc.devRef .tc main_v5) = fun _ => a := by
  after_results
  rw [h]
  rfl
theorem Ve_y : Ve m c main_v1 = shapeCast S4096x2048 (aY m c) shapeCasts_S1x4096x2048_S4096x2048 := line_y (V0 m c)
theorem Ve_t : Ve m c main_v2 = shapeCast S4096x2048 (aT m c) shapeCasts_S1x4096x2048_S4096x2048 := line_t (V0 m c)
theorem cast_apply (x : T) (n : Fin 4096) (k : Fin 2048) :
    (shapeCast S4096x2048 x shapeCasts_S1x4096x2048_S4096x2048 : Vec Ideal S4096x2048 .f32) (ix2 n k) = x (ix3 0 n k) := by
  pointwise []

theorem idx : ∀ t : Fin cfg0.N, win0_0.index t = ![t.val, 0] ∧ win0_1.index t = ![t.val, 0] ∧ win0_4.index t = ![0, 0] := (by decide +kernel : ∀ t : Fin grid0.N, _)

theorem row_lt (t : Fin cfg0.N) (r : Fin 256) : t.val * 256 + r.val < 4096 := by
  have := t.isLt; have h : cfg0.N = 16 := N_0; omega

theorem rd_y (t : Fin cfg0.N) (r : Fin 256) (k : Fin 2048) : iblk m c 0 t (ix2 r k) = aY m c (ix3 0 ⟨t.val * 256 + r.val, row_lt t r⟩ k) := by
  have e : iblk m c 0 t (ix2 r k) = Ve m c main_v1 (ix2 ⟨t.val * 256 + r.val, row_lt t r⟩ k) := by
    blk_ext [iblk, idx t]
  rw [e, Ve_y]
  exact cast_apply _ _ _
theorem rd_t (t : Fin cfg0.N) (r : Fin 256) (k : Fin 2048) : iblk m c 1 t (ix2 r k) = aT m c (ix3 0 ⟨t.val * 256 + r.val, row_lt t r⟩ k) := by
  have e : iblk m c 1 t (ix2 r k) = Ve m c main_v2 (ix2 ⟨t.val * 256 + r.val, row_lt t r⟩ k) := by
    blk_ext [iblk, idx t]
  rw [e, Ve_t]
  exact cast_apply _ _ _

theorem final4 : (dat m c).arrAt 4 cfg0.N = fun _ => total (aY m c) (aT m c) := by
  refine (dat m c).arrAt_eq_of_covers 4 _ (by decide +kernel) fun t hf y => ?_
  blk_simp
  idx_vars y
  rw [after4]
  have h1 : t.val % 16 = 15 := (flush0_4 t).mp hf
  refine (Pipeline.eq_sum_fin_of_reset_step_apply_of_flush (fun n h => (outsAt m c n h).2.2) 16 (fun _ => (0 : EReal)) (fun t _ => (∑ k : Fin 2048, ∑ r : Fin 256,
      sqd (iblk m c 0 t (ix2 r k)) (iblk m c 1 t (ix2 r k))) * Ideal.ofBits .f32 0x39800000#32)
    (fun t h j => by rw [outsAt_A m c t h]; dsimp only; frame_out; rw [pay5_apply, pay1_apply])
    (fun t h j => by
      rw [outsAt_B m c t h]; dsimp only; frame_out; rw [pay5_apply])
    t h1 _).trans ?_
  rw [zero_add]
  unfold total
  refine Eq.trans (Finset.sum_congr rfl fun s _ => ?_) (Fin.sum_mul_add_congr (S := 16) (n := 256)
    (F := fun s r => (∑ k : Fin 2048, sq (aY m c) (aT m c) ⟨s.val * 256 + r.val, by have h1 : s.val < 16 := s.isLt; have h2 : r.val < 256 := r.isLt; omega⟩ k) * Ideal.ofBits .f32 0x39800000#32) fun s k hl => rfl)
  rw [Finset.sum_comm, Cert.RealMath.sum_mul _ _ (by rw [Cert.RealMath.c4096]; exact Cert.RealMath.coe_nonneg' (by norm_num)) (by rw [Cert.RealMath.c4096]; exact EReal.coe_ne_top _)]
  refine Finset.sum_congr rfl fun r _ => congrArg (fun x : EReal => x * Ideal.ofBits .f32 0x39800000#32) (Finset.sum_congr rfl fun k _ => ?_)
  have ht : t.val < cfg0.N := t.isLt
  have hN : cfg0.N = 16 := N_0
  have hq : t.val / 16 = 0 := by omega
  have e0 := rd_y m c ⟨16 * (t.val / 16) + s.val, Pipeline.run_point_lt_of_flush t h1 s⟩ r k
  have e1 := rd_t m c ⟨16 * (t.val / 16) + s.val, Pipeline.run_point_lt_of_flush t h1 s⟩ r k
  refine (congrArg₂ sqd e0 e1).trans ?_
  have en : (⟨(16 * (t.val / 16) + s.val) * 256 + r.val, row_lt ⟨16 * (t.val / 16) + s.val, Pipeline.run_point_lt_of_flush t h1 s⟩ r⟩ : Fin 4096)
      = ⟨s.val * 256 + r.val, by have h1 : s.val < 16 := s.isLt; have h2 : r.val < 256 := r.isLt; omega⟩ := Fin.ext (by show (16 * (t.val / 16) + s.val) * 256 + r.val = s.val * 256 + r.val; rw [hq]; omega)
  exact congrArg (fun n : Fin 4096 => sq (aY m c) (aT m c) n k) en

theorem ker_loss : V2 m (outsK m) c (Proc.devRef .tc main_v3_2) = fun _ => total (aY m c) (aT m c) := by
  have e : V2 m (outsK m) c (Proc.devRef .tc main_v3_2) = VK m c (Proc.devRef .tc main_v3_2) := by
    simp only [V2, Function.update_self]
    rfl
  exact e.trans ((VK_2 m c).trans (final4 m c))

theorem ker_operand : VS m c (Proc.devRef .tc main_v5) = fun _ => total (aY m c) (aT m c) :=
  line_loss (V2 m (outsK m) c) _ (ker_loss m c)

/-- What every device of the group ends with: the sum of the devices' losses, in the order the exchange adds them. -/
def summed (tot : Dev nD → EReal) (d : Dev nD) : One :=
  (ar0 (F := Ideal)).toResult ((ar0 (F := Ideal)).foldGroup fun j => (fun _ => tot ((ar0 (F := Ideal)).peer d j) : One))

theorem ker_result : (ar0 (F := Ideal)).after₀ (VS m) c (Proc.devRef .tc main_v6) = summed (fun d => total (aY m d) (aT m d)) c := by
  refine ((ar0 (F := Ideal)).after₀_result (VS m) c).trans ?_
  unfold summed
  refine congrArg (fun v => (ar0 (F := Ideal)).toResult ((ar0 (F := Ideal)).foldGroup v)) (funext fun j => ?_)
  exact ker_operand m _

end

section
open Cert.TotalRefIdeal Cert.TotalRefIdeal.Gen

theorem ref_result (m : (ℓ : Loc nD τ sig) → Buf (Elt Ideal) ℓ) (c : Dev nD) :
    (ar0 (F := Ideal)).after₀ (V1 m) c (Proc.devRef .tc main_v9)
      = summed (fun d => total (m ((d : Thread nD τ).loc main_arg0)) (m ((d : Thread nD τ).loc main_arg1))) c := by
  refine ((ar0 (F := Ideal)).after₀_result (V1 m) c).trans ?_
  refine (congrArg (fun v => (ar0 (F := Ideal)).toResult ((ar0 (F := Ideal)).foldGroup v)) (funext fun j => ref_operand m _)).trans ?_
  rfl

end

/-- Both programs leave every device the sum of the devices' losses. -/
theorem value : Cert.algebraic_TotalIdeal_TotalRefIdeal := by
  intro m g m' g' _ ha
  refine ⟨fun c => summed (fun d => total (aY m d) (aT m d)) c,
    (θ_run Cert.TotalIdeal.defs _ _).mono (fun r h c => ?_) (Cert.TotalIdealRun.run m g),
    (θ_run Cert.TotalRefIdeal.defs _ _).mono (fun r h c => ?_) (Cert.TotalRefRun.run m' g')⟩
  · refine ⟨?_, h.1 c⟩
    refine (h.2.1 c (Proc.devRef .tc Cert.TotalIdeal.main_v6) (by decide)).trans ?_
    exact (Cert.TotalIdealRun.after_sum m c _).trans (ker_result m c)
  · refine ⟨?_, h.1 c⟩
    refine (h.2.1 c (Proc.devRef .tc Cert.TotalRefIdeal.main_v9) (by decide)).trans ?_
    refine ((Cert.TotalRefRun.after_sum m' c _).trans (ref_result m' c)).trans ?_
    refine congrArg (fun tot => summed tot c) (funext fun d => ?_)
    exact congrArg₂ total (ha d).1 (ha d).2

end Cert.TotalClaims
-- ==== Proof.lean ====
/-
  The certificate's claims, gathered: calls of the step's backward pass.
-/
module

public import proofs.«01_k».proof.Defs
public import proofs.«01_k».proof.Proof.ConvClaims
public import proofs.«01_k».proof.Proof.StickClaims
public import proofs.«01_k».proof.Proof.DownDwClaims
public import proofs.«01_k».proof.Proof.DownDxClaims
public import proofs.«01_k».proof.Proof.UpDwClaims
public import proofs.«01_k».proof.Proof.UpDxClaims
public import proofs.«01_k».proof.Proof.OutDwClaims
public import proofs.«01_k».proof.Proof.OutDxClaims
public import proofs.«01_k».proof.Proof.InDwClaims
public import proofs.«01_k».proof.Proof.InDxClaims
public import proofs.«01_k».proof.Proof.InFwdClaims
public import proofs.«01_k».proof.Proof.OutFwdClaims
public import proofs.«01_k».proof.Proof.UpFwdClaims
public import proofs.«01_k».proof.Proof.DownFwdClaims
public import proofs.«01_k».proof.Proof.NormClaims
public import proofs.«01_k».proof.Proof.LossClaims
public import proofs.«01_k».proof.Proof.SmallClaims
public import proofs.«01_k».proof.Proof.BigInClaims
public import proofs.«01_k».proof.Proof.BigOutClaims
public import proofs.«01_k».proof.Proof.BigUpClaims
public import proofs.«01_k».proof.Proof.BigDownClaims
public import proofs.«01_k».proof.Proof.SumSmallClaims
public import proofs.«01_k».proof.Proof.SumInClaims
public import proofs.«01_k».proof.Proof.SumOutClaims
public import proofs.«01_k».proof.Proof.SumUpClaims
public import proofs.«01_k».proof.Proof.SumDownClaims
public import proofs.«01_k».proof.Proof.NormFwdClaims
public import proofs.«01_k».proof.Proof.TotalClaims

@[expose] public section

theorem Cert.Proof.claim : Cert.Claim :=
  ⟨Cert.Conv.Gen.facts, Cert.ConvIdeal.Gen.facts, Cert.ConvRefIdeal.Gen.facts, Cert.Stick.Gen.facts, Cert.StickIdeal.Gen.facts,
    Cert.StickRefIdeal.Gen.facts, Cert.DownDw.Gen.facts, Cert.DownDwIdeal.Gen.facts, Cert.DownDwRefIdeal.Gen.facts, Cert.DownDx.Gen.facts,
    Cert.DownDxIdeal.Gen.facts, Cert.DownDxRefIdeal.Gen.facts, Cert.UpDw.Gen.facts, Cert.UpDwIdeal.Gen.facts, Cert.UpDwRefIdeal.Gen.facts,
    Cert.UpDx.Gen.facts, Cert.UpDxIdeal.Gen.facts, Cert.UpDxRefIdeal.Gen.facts, Cert.OutDw.Gen.facts, Cert.OutDwIdeal.Gen.facts,
    Cert.OutDwRefIdeal.Gen.facts, Cert.OutDx.Gen.facts, Cert.OutDxIdeal.Gen.facts, Cert.OutDxRefIdeal.Gen.facts, Cert.InDw.Gen.facts,
    Cert.InDwIdeal.Gen.facts, Cert.InDwRefIdeal.Gen.facts, Cert.InDx.Gen.facts, Cert.InDxIdeal.Gen.facts, Cert.InDxRefIdeal.Gen.facts,
    Cert.InFwd.Gen.facts, Cert.InFwdIdeal.Gen.facts, Cert.InFwdRefIdeal.Gen.facts, Cert.OutFwd.Gen.facts, Cert.OutFwdIdeal.Gen.facts,
    Cert.OutFwdRefIdeal.Gen.facts, Cert.UpFwd.Gen.facts, Cert.UpFwdIdeal.Gen.facts, Cert.UpFwdRefIdeal.Gen.facts, Cert.DownFwd.Gen.facts,
    Cert.DownFwdIdeal.Gen.facts, Cert.DownFwdRefIdeal.Gen.facts, Cert.Norm.Gen.facts, Cert.NormIdeal.Gen.facts, Cert.NormRefIdeal.Gen.facts,
    Cert.Loss.Gen.facts, Cert.LossIdeal.Gen.facts, Cert.LossRefIdeal.Gen.facts, Cert.Small.Gen.facts, Cert.SmallIdeal.Gen.facts,
    Cert.SmallRefIdeal.Gen.facts, Cert.BigIn.Gen.facts, Cert.BigInIdeal.Gen.facts, Cert.BigInRefIdeal.Gen.facts, Cert.BigOut.Gen.facts,
    Cert.BigOutIdeal.Gen.facts, Cert.BigOutRefIdeal.Gen.facts, Cert.BigUp.Gen.facts, Cert.BigUpIdeal.Gen.facts, Cert.BigUpRefIdeal.Gen.facts,
    Cert.BigDown.Gen.facts, Cert.BigDownIdeal.Gen.facts, Cert.BigDownRefIdeal.Gen.facts, Cert.SumSmall.Gen.facts, Cert.SumSmallIdeal.Gen.facts,
    Cert.SumSmallRefIdeal.Gen.facts, Cert.SumIn.Gen.facts, Cert.SumInIdeal.Gen.facts, Cert.SumInRefIdeal.Gen.facts, Cert.SumOut.Gen.facts,
    Cert.SumOutIdeal.Gen.facts, Cert.SumOutRefIdeal.Gen.facts, Cert.SumUp.Gen.facts, Cert.SumUpIdeal.Gen.facts, Cert.SumUpRefIdeal.Gen.facts,
    Cert.SumDown.Gen.facts, Cert.SumDownIdeal.Gen.facts, Cert.SumDownRefIdeal.Gen.facts, Cert.NormFwd.Gen.facts, Cert.NormFwdIdeal.Gen.facts,
    Cert.NormFwdRefIdeal.Gen.facts, Cert.Total.Gen.facts, Cert.TotalIdeal.Gen.facts, Cert.TotalRefIdeal.Gen.facts, Cert.Pre_finite.Gen.facts,
    Cert.Pre_stick_finite.Gen.facts, Cert.ConvClaims.frame_p, Cert.ConvClaims.frame_i, Cert.ConvClaims.frame_i_pre, Cert.ConvClaims.frame_r,
    Cert.ConvClaims.frame_r_pre, Cert.StickClaims.frame_p, Cert.StickClaims.frame_i, Cert.StickClaims.frame_i_pre, Cert.StickClaims.frame_r,
    Cert.StickClaims.frame_r_pre, Cert.DownDwClaims.frame_p, Cert.DownDwClaims.frame_i, Cert.DownDwClaims.frame_r, Cert.DownDxClaims.frame_p,
    Cert.DownDxClaims.frame_i, Cert.DownDxClaims.frame_r, Cert.UpDwClaims.frame_p, Cert.UpDwClaims.frame_i, Cert.UpDwClaims.frame_r,
    Cert.UpDxClaims.frame_p, Cert.UpDxClaims.frame_i, Cert.UpDxClaims.frame_r, Cert.OutDwClaims.frame_p, Cert.OutDwClaims.frame_i,
    Cert.OutDwClaims.frame_r, Cert.OutDxClaims.frame_p, Cert.OutDxClaims.frame_i, Cert.OutDxClaims.frame_r, Cert.InDwClaims.frame_p,
    Cert.InDwClaims.frame_i, Cert.InDwClaims.frame_r, Cert.InDxClaims.frame_p, Cert.InDxClaims.frame_i, Cert.InDxClaims.frame_r,
    Cert.InFwdClaims.frame_p, Cert.InFwdClaims.frame_i, Cert.InFwdClaims.frame_r, Cert.OutFwdClaims.frame_p, Cert.OutFwdClaims.frame_i,
    Cert.OutFwdClaims.frame_r, Cert.UpFwdClaims.frame_p, Cert.UpFwdClaims.frame_i, Cert.UpFwdClaims.frame_r, Cert.DownFwdClaims.frame_p,
    Cert.DownFwdClaims.frame_i, Cert.DownFwdClaims.frame_r, Cert.NormClaims.frame_p, Cert.NormClaims.frame_i, Cert.NormClaims.frame_r,
    Cert.LossClaims.frame_p, Cert.LossClaims.frame_i, Cert.LossClaims.frame_r, Cert.SmallClaims.frame_p, Cert.SmallClaims.frame_i,
    Cert.SmallClaims.frame_r, Cert.BigInClaims.frame_p, Cert.BigInClaims.frame_i, Cert.BigInClaims.frame_r, Cert.BigOutClaims.frame_p,
    Cert.BigOutClaims.frame_i, Cert.BigOutClaims.frame_r, Cert.BigUpClaims.frame_p, Cert.BigUpClaims.frame_i, Cert.BigUpClaims.frame_r,
    Cert.BigDownClaims.frame_p, Cert.BigDownClaims.frame_i, Cert.BigDownClaims.frame_r, Cert.SumSmallClaims.frame_p, Cert.SumSmallClaims.frame_i,
    Cert.SumSmallClaims.frame_r, Cert.SumInClaims.frame_p, Cert.SumInClaims.frame_i, Cert.SumInClaims.frame_r, Cert.SumOutClaims.frame_p,
    Cert.SumOutClaims.frame_i, Cert.SumOutClaims.frame_r, Cert.SumUpClaims.frame_p, Cert.SumUpClaims.frame_i, Cert.SumUpClaims.frame_r,
    Cert.SumDownClaims.frame_p, Cert.SumDownClaims.frame_i, Cert.SumDownClaims.frame_r, Cert.NormFwdClaims.frame_p, Cert.NormFwdClaims.frame_i,
    Cert.NormFwdClaims.frame_r, Cert.TotalClaims.frame_p, Cert.TotalClaims.frame_i, Cert.TotalClaims.frame_r, Cert.ConvClaims.preserves,
    Cert.ConvClaims.value, Cert.StickClaims.preserves, Cert.StickClaims.value, Cert.DownDwClaims.preserves, Cert.DownDwClaims.value,
    Cert.DownDxClaims.preserves, Cert.DownDxClaims.value, Cert.UpDwClaims.preserves, Cert.UpDwClaims.value, Cert.UpDxClaims.preserves,
    Cert.UpDxClaims.value, Cert.OutDwClaims.preserves, Cert.OutDwClaims.value, Cert.OutDxClaims.preserves, Cert.OutDxClaims.value,
    Cert.InDwClaims.preserves, Cert.InDwClaims.value, Cert.InDxClaims.preserves, Cert.InDxClaims.value, Cert.InFwdClaims.preserves,
    Cert.InFwdClaims.value, Cert.OutFwdClaims.preserves, Cert.OutFwdClaims.value, Cert.UpFwdClaims.preserves, Cert.UpFwdClaims.value,
    Cert.DownFwdClaims.preserves, Cert.DownFwdClaims.value, Cert.NormClaims.preserves, Cert.NormClaims.value, Cert.LossClaims.preserves,
    Cert.LossClaims.value, Cert.SmallClaims.preserves, Cert.SmallClaims.value, Cert.BigInClaims.preserves, Cert.BigInClaims.value,
    Cert.BigOutClaims.preserves, Cert.BigOutClaims.value, Cert.BigUpClaims.preserves, Cert.BigUpClaims.value, Cert.BigDownClaims.preserves,
    Cert.BigDownClaims.value, Cert.SumSmallClaims.preserves, Cert.SumSmallClaims.value, Cert.SumInClaims.preserves, Cert.SumInClaims.value,
    Cert.SumOutClaims.preserves, Cert.SumOutClaims.value, Cert.SumUpClaims.preserves, Cert.SumUpClaims.value, Cert.SumDownClaims.preserves,
    Cert.SumDownClaims.value, Cert.NormFwdClaims.preserves, Cert.NormFwdClaims.value, Cert.TotalClaims.preserves, Cert.TotalClaims.value⟩
